-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluS (m : (ℓ : Loc Cert.GluS.nD Cert.GluS.τ Cert.GluS.sig) → Buf (Elt Bits) ℓ) : Prop :=
  True

def Pre_GluSIdeal (m : (ℓ : Loc Cert.GluSIdeal.nD Cert.GluSIdeal.τ Cert.GluSIdeal.sig) → Buf (Elt Ideal) ℓ) : Prop :=
  True

def Pre_GluSRefIdeal (m : (ℓ : Loc Cert.GluSRefIdeal.nD Cert.GluSRefIdeal.τ Cert.GluSRefIdeal.sig) → Buf (Elt Ideal) ℓ) : Prop :=
  True

def Pre_Swi (m : (ℓ : Loc Cert.Swi.nD Cert.Swi.τ Cert.Swi.sig) → Buf (Elt Bits) ℓ) : Prop :=
  True

def Pre_SwiIdeal (m : (ℓ : Loc Cert.SwiIdeal.nD Cert.SwiIdeal.τ Cert.SwiIdeal.sig) → Buf (Elt Ideal) ℓ) : Prop :=
  True

def Pre_SwiRefIdeal (m : (ℓ : Loc Cert.SwiRefIdeal.nD Cert.SwiRefIdeal.τ Cert.SwiRefIdeal.sig) → Buf (Elt Ideal) ℓ) : Prop :=
  True

def Pre_SwiS (m : (ℓ : Loc Cert.SwiS.nD Cert.SwiS.τ Cert.SwiS.sig) → Buf (Elt Bits) ℓ) : Prop :=
  True

def Pre_SwiSIdeal (m : (ℓ : Loc Cert.SwiSIdeal.nD Cert.SwiSIdeal.τ Cert.SwiSIdeal.sig) → Buf (Elt Ideal) ℓ) : Prop :=
  True

def Pre_SwiSRefIdeal (m : (ℓ : Loc Cert.SwiSRefIdeal.nD Cert.SwiSRefIdeal.τ Cert.SwiSRefIdeal.sig) → Buf (Elt Ideal) ℓ) : Prop :=
  True

def Pre_Fo (m : (ℓ : Loc Cert.Fo.nD Cert.Fo.τ Cert.Fo.sig) → Buf (Elt Bits) ℓ) : Prop :=
  True

def Pre_FoIdeal (m : (ℓ : Loc Cert.FoIdeal.nD Cert.FoIdeal.τ Cert.FoIdeal.sig) → Buf (Elt Ideal) ℓ) : Prop :=
  True

def Pre_FoRefIdeal (m : (ℓ : Loc Cert.FoRefIdeal.nD Cert.FoRefIdeal.τ Cert.FoRefIdeal.sig) → Buf (Elt Ideal) ℓ) : Prop :=
  True

def Pre_FoS (m : (ℓ : Loc Cert.FoS.nD Cert.FoS.τ Cert.FoS.sig) → Buf (Elt Bits) ℓ) : Prop :=
  True

def Pre_FoSIdeal (m : (ℓ : Loc Cert.FoSIdeal.nD Cert.FoSIdeal.τ Cert.FoSIdeal.sig) → Buf (Elt Ideal) ℓ) : Prop :=
  True

def Pre_FoSRefIdeal (m : (ℓ : Loc Cert.FoSRefIdeal.nD Cert.FoSRefIdeal.τ Cert.FoSRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_Qg (m : (ℓ : Loc Cert.Qg.nD Cert.Qg.τ Cert.Qg.sig) → Buf (Elt Bits) ℓ) : Prop :=
  True

def Pre_QgIdeal (m : (ℓ : Loc Cert.QgIdeal.nD Cert.QgIdeal.τ Cert.QgIdeal.sig) → Buf (Elt Ideal) ℓ) : Prop :=
  True

def Pre_QgRefIdeal (m : (ℓ : Loc Cert.QgRefIdeal.nD Cert.QgRefIdeal.τ Cert.QgRefIdeal.sig) → Buf (Elt Ideal) ℓ) : Prop :=
  True

def Pre_QgS (m : (ℓ : Loc Cert.QgS.nD Cert.QgS.τ Cert.QgS.sig) → Buf (Elt Bits) ℓ) : Prop :=
  True

def Pre_QgSIdeal (m : (ℓ : Loc Cert.QgSIdeal.nD Cert.QgSIdeal.τ Cert.QgSIdeal.sig) → Buf (Elt Ideal) ℓ) : Prop :=
  True

def Pre_QgSRefIdeal (m : (ℓ : Loc Cert.QgSRefIdeal.nD Cert.QgSRefIdeal.τ Cert.QgSRefIdeal.sig) → Buf (Elt Ideal) ℓ) : Prop :=
  True

def Pre_Cmp [hPre_pages_in_pool : Cert.Pre_pages_in_pool.Facts] (m : (ℓ : Loc Cert.Cmp.nD Cert.Cmp.τ Cert.Cmp.sig) → Buf (Elt Bits) ℓ) : Prop :=
  ∀ c : Dev Cert.Cmp.nD,
    (Cert.Pre_pages_in_pool.fn (F := Bits) (m ((c.tc : Thread Cert.Cmp.nD Cert.Cmp.τ).loc Cert.Cmp.main_arg0)) (m ((c.tc : Thread Cert.Cmp.nD Cert.Cmp.τ).loc Cert.Cmp.main_arg1)) (m ((c.tc : Thread Cert.Cmp.nD Cert.Cmp.τ).loc Cert.Cmp.main_arg2)) (m ((c.tc : Thread Cert.Cmp.nD Cert.Cmp.τ).loc Cert.Cmp.main_arg3)) (m ((c.tc : Thread Cert.Cmp.nD Cert.Cmp.τ).loc Cert.Cmp.main_arg4)) (m ((c.tc : Thread Cert.Cmp.nD Cert.Cmp.τ).loc Cert.Cmp.main_arg5)) (m ((c.tc : Thread Cert.Cmp.nD Cert.Cmp.τ).loc Cert.Cmp.main_arg6))) = (fun _ => 1#1)

def Pre_CmpIdeal [hPre_pages_in_pool : Cert.Pre_pages_in_pool.Facts] (m : (ℓ : Loc Cert.CmpIdeal.nD Cert.CmpIdeal.τ Cert.CmpIdeal.sig) → Buf (Elt Ideal) ℓ) : Prop :=
  ∀ c : Dev Cert.CmpIdeal.nD,
    (Cert.Pre_pages_in_pool.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6))) = (fun _ => 1#1)

def Pre_CmpRefIdeal [hPre_pages_in_pool : Cert.Pre_pages_in_pool.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_pages_in_pool.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6))) = (fun _ => 1#1)

def Pre_WinS [hPre_pages_named : Cert.Pre_pages_named.Facts] (m : (ℓ : Loc Cert.WinS.nD Cert.WinS.τ Cert.WinS.sig) → Buf (Elt Bits) ℓ) : Prop :=
  ∀ c : Dev Cert.WinS.nD,
    (Cert.Pre_pages_named.fn (F := Bits) (m ((c.tc : Thread Cert.WinS.nD Cert.WinS.τ).loc Cert.WinS.main_arg0)) (m ((c.tc : Thread Cert.WinS.nD Cert.WinS.τ).loc Cert.WinS.main_arg1)) (m ((c.tc : Thread Cert.WinS.nD Cert.WinS.τ).loc Cert.WinS.main_arg2)) (m ((c.tc : Thread Cert.WinS.nD Cert.WinS.τ).loc Cert.WinS.main_arg3)) (m ((c.tc : Thread Cert.WinS.nD Cert.WinS.τ).loc Cert.WinS.main_arg4)) (m ((c.tc : Thread Cert.WinS.nD Cert.WinS.τ).loc Cert.WinS.main_arg5)) (m ((c.tc : Thread Cert.WinS.nD Cert.WinS.τ).loc Cert.WinS.main_arg6)) (m ((c.tc : Thread Cert.WinS.nD Cert.WinS.τ).loc Cert.WinS.main_arg7)) (m ((c.tc : Thread Cert.WinS.nD Cert.WinS.τ).loc Cert.WinS.main_arg8)) (m ((c.tc : Thread Cert.WinS.nD Cert.WinS.τ).loc Cert.WinS.main_arg9)) (m ((c.tc : Thread Cert.WinS.nD Cert.WinS.τ).loc Cert.WinS.main_arg10)) (m ((c.tc : Thread Cert.WinS.nD Cert.WinS.τ).loc Cert.WinS.main_arg11)) (m ((c.tc : Thread Cert.WinS.nD Cert.WinS.τ).loc Cert.WinS.main_arg12)) (m ((c.tc : Thread Cert.WinS.nD Cert.WinS.τ).loc Cert.WinS.main_arg13)) (m ((c.tc : Thread Cert.WinS.nD Cert.WinS.τ).loc Cert.WinS.main_arg14)) (m ((c.tc : Thread Cert.WinS.nD Cert.WinS.τ).loc Cert.WinS.main_arg15))) = (fun _ => 1#1)

def Pre_WinSIdeal [hPre_pages_named : Cert.Pre_pages_named.Facts] (m : (ℓ : Loc Cert.WinSIdeal.nD Cert.WinSIdeal.τ Cert.WinSIdeal.sig) → Buf (Elt Ideal) ℓ) : Prop :=
  ∀ c : Dev Cert.WinSIdeal.nD,
    (Cert.Pre_pages_named.fn (F := Ideal) (m ((c.tc : Thread Cert.WinSIdeal.nD Cert.WinSIdeal.τ).loc Cert.WinSIdeal.main_arg0)) (m ((c.tc : Thread Cert.WinSIdeal.nD Cert.WinSIdeal.τ).loc Cert.WinSIdeal.main_arg1)) (m ((c.tc : Thread Cert.WinSIdeal.nD Cert.WinSIdeal.τ).loc Cert.WinSIdeal.main_arg2)) (m ((c.tc : Thread Cert.WinSIdeal.nD Cert.WinSIdeal.τ).loc Cert.WinSIdeal.main_arg3)) (m ((c.tc : Thread Cert.WinSIdeal.nD Cert.WinSIdeal.τ).loc Cert.WinSIdeal.main_arg4)) (m ((c.tc : Thread Cert.WinSIdeal.nD Cert.WinSIdeal.τ).loc Cert.WinSIdeal.main_arg5)) (m ((c.tc : Thread Cert.WinSIdeal.nD Cert.WinSIdeal.τ).loc Cert.WinSIdeal.main_arg6)) (m ((c.tc : Thread Cert.WinSIdeal.nD Cert.WinSIdeal.τ).loc Cert.WinSIdeal.main_arg7)) (m ((c.tc : Thread Cert.WinSIdeal.nD Cert.WinSIdeal.τ).loc Cert.WinSIdeal.main_arg8)) (m ((c.tc : Thread Cert.WinSIdeal.nD Cert.WinSIdeal.τ).loc Cert.WinSIdeal.main_arg9)) (m ((c.tc : Thread Cert.WinSIdeal.nD Cert.WinSIdeal.τ).loc Cert.WinSIdeal.main_arg10)) (m ((c.tc : Thread Cert.WinSIdeal.nD Cert.WinSIdeal.τ).loc Cert.WinSIdeal.main_arg11)) (m ((c.tc : Thread Cert.WinSIdeal.nD Cert.WinSIdeal.τ).loc Cert.WinSIdeal.main_arg12)) (m ((c.tc : Thread Cert.WinSIdeal.nD Cert.WinSIdeal.τ).loc Cert.WinSIdeal.main_arg13)) (m ((c.tc : Thread Cert.WinSIdeal.nD Cert.WinSIdeal.τ).loc Cert.WinSIdeal.main_arg14)) (m ((c.tc : Thread Cert.WinSIdeal.nD Cert.WinSIdeal.τ).loc Cert.WinSIdeal.main_arg15))) = (fun _ => 1#1)

def Pre_WinSRefIdeal [hPre_pages_named : Cert.Pre_pages_named.Facts] (m : (ℓ : Loc Cert.WinSRefIdeal.nD Cert.WinSRefIdeal.τ Cert.WinSRefIdeal.sig) → Buf (Elt Ideal) ℓ) : Prop :=
  ∀ c : Dev Cert.WinSRefIdeal.nD,
    (Cert.Pre_pages_named.fn (F := Ideal) (m ((c.tc : Thread Cert.WinSRefIdeal.nD Cert.WinSRefIdeal.τ).loc Cert.WinSRefIdeal.main_arg0)) (m ((c.tc : Thread Cert.WinSRefIdeal.nD Cert.WinSRefIdeal.τ).loc Cert.WinSRefIdeal.main_arg1)) (m ((c.tc : Thread Cert.WinSRefIdeal.nD Cert.WinSRefIdeal.τ).loc Cert.WinSRefIdeal.main_arg2)) (m ((c.tc : Thread Cert.WinSRefIdeal.nD Cert.WinSRefIdeal.τ).loc Cert.WinSRefIdeal.main_arg3)) (m ((c.tc : Thread Cert.WinSRefIdeal.nD Cert.WinSRefIdeal.τ).loc Cert.WinSRefIdeal.main_arg4)) (m ((c.tc : Thread Cert.WinSRefIdeal.nD Cert.WinSRefIdeal.τ).loc Cert.WinSRefIdeal.main_arg5)) (m ((c.tc : Thread Cert.WinSRefIdeal.nD Cert.WinSRefIdeal.τ).loc Cert.WinSRefIdeal.main_arg6)) (m ((c.tc : Thread Cert.WinSRefIdeal.nD Cert.WinSRefIdeal.τ).loc Cert.WinSRefIdeal.main_arg7)) (m ((c.tc : Thread Cert.WinSRefIdeal.nD Cert.WinSRefIdeal.τ).loc Cert.WinSRefIdeal.main_arg8)) (m ((c.tc : Thread Cert.WinSRefIdeal.nD Cert.WinSRefIdeal.τ).loc Cert.WinSRefIdeal.main_arg9)) (m ((c.tc : Thread Cert.WinSRefIdeal.nD Cert.WinSRefIdeal.τ).loc Cert.WinSRefIdeal.main_arg10)) (m ((c.tc : Thread Cert.WinSRefIdeal.nD Cert.WinSRefIdeal.τ).loc Cert.WinSRefIdeal.main_arg11)) (m ((c.tc : Thread Cert.WinSRefIdeal.nD Cert.WinSRefIdeal.τ).loc Cert.WinSRefIdeal.main_arg12)) (m ((c.tc : Thread Cert.WinSRefIdeal.nD Cert.WinSRefIdeal.τ).loc Cert.WinSRefIdeal.main_arg13)) (m ((c.tc : Thread Cert.WinSRefIdeal.nD Cert.WinSRefIdeal.τ).loc Cert.WinSRefIdeal.main_arg14)) (m ((c.tc : Thread Cert.WinSRefIdeal.nD Cert.WinSRefIdeal.τ).loc Cert.WinSRefIdeal.main_arg15))) = (fun _ => 1#1)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluS [hGluS : Cert.GluS.Facts] : Prop :=
  ∀ (m : (ℓ : Loc Cert.GluS.nD Cert.GluS.τ Cert.GluS.sig) → Buf (Elt Bits) ℓ) (g : Dev Cert.GluS.nD → PrngReg), Pre_GluS m →
    θ_run (Cert.GluS.defs (F := Bits)) (onTc (τ := Cert.GluS.τ) (Cert.GluS.main (F := Bits))) ⟨m, fun _ => 0, g⟩ (fun r => (∀ c : Dev Cert.GluS.nD,
      r.2.mem ((c.tc : Thread Cert.GluS.nD Cert.GluS.τ).loc Cert.GluS.main_arg0) = m ((c.tc : Thread Cert.GluS.nD Cert.GluS.τ).loc Cert.GluS.main_arg0)
      ∧ r.2.mem ((c.tc : Thread Cert.GluS.nD Cert.GluS.τ).loc Cert.GluS.main_arg1) = m ((c.tc : Thread Cert.GluS.nD Cert.GluS.τ).loc Cert.GluS.main_arg1)
      ∧ r.2.mem ((c.tc : Thread Cert.GluS.nD Cert.GluS.τ).loc Cert.GluS.main_arg2) = m ((c.tc : Thread Cert.GluS.nD Cert.GluS.τ).loc Cert.GluS.main_arg2)
      ∧ r.2.mem ((c.tc : Thread Cert.GluS.nD Cert.GluS.τ).loc Cert.GluS.main_arg3) = m ((c.tc : Thread Cert.GluS.nD Cert.GluS.τ).loc Cert.GluS.main_arg3))
      ∧ r.2.sem = fun _ => 0)

def quiescent_GluSIdeal [hGluSIdeal : Cert.GluSIdeal.Facts] : Prop :=
  ∀ (m : (ℓ : Loc Cert.GluSIdeal.nD Cert.GluSIdeal.τ Cert.GluSIdeal.sig) → Buf (Elt Ideal) ℓ) (g : Dev Cert.GluSIdeal.nD → PrngReg), Pre_GluSIdeal m →
    θ_run (Cert.GluSIdeal.defs (F := Ideal)) (onTc (τ := Cert.GluSIdeal.τ) (Cert.GluSIdeal.main (F := Ideal))) ⟨m, fun _ => 0, g⟩ (fun r => (∀ c : Dev Cert.GluSIdeal.nD,
      r.2.mem ((c.tc : Thread Cert.GluSIdeal.nD Cert.GluSIdeal.τ).loc Cert.GluSIdeal.main_arg0) = m ((c.tc : Thread Cert.GluSIdeal.nD Cert.GluSIdeal.τ).loc Cert.GluSIdeal.main_arg0)
      ∧ r.2.mem ((c.tc : Thread Cert.GluSIdeal.nD Cert.GluSIdeal.τ).loc Cert.GluSIdeal.main_arg1) = m ((c.tc : Thread Cert.GluSIdeal.nD Cert.GluSIdeal.τ).loc Cert.GluSIdeal.main_arg1)
      ∧ r.2.mem ((c.tc : Thread Cert.GluSIdeal.nD Cert.GluSIdeal.τ).loc Cert.GluSIdeal.main_arg2) = m ((c.tc : Thread Cert.GluSIdeal.nD Cert.GluSIdeal.τ).loc Cert.GluSIdeal.main_arg2)
      ∧ r.2.mem ((c.tc : Thread Cert.GluSIdeal.nD Cert.GluSIdeal.τ).loc Cert.GluSIdeal.main_arg3) = m ((c.tc : Thread Cert.GluSIdeal.nD Cert.GluSIdeal.τ).loc Cert.GluSIdeal.main_arg3))
      ∧ r.2.sem = fun _ => 0)

def quiescent_GluSRefIdeal [hGluSRefIdeal : Cert.GluSRefIdeal.Facts] : Prop :=
  ∀ (m : (ℓ : Loc Cert.GluSRefIdeal.nD Cert.GluSRefIdeal.τ Cert.GluSRefIdeal.sig) → Buf (Elt Ideal) ℓ) (g : Dev Cert.GluSRefIdeal.nD → PrngReg), Pre_GluSRefIdeal m →
    θ_run (Cert.GluSRefIdeal.defs (F := Ideal)) (onTc (τ := Cert.GluSRefIdeal.τ) (Cert.GluSRefIdeal.main (F := Ideal))) ⟨m, fun _ => 0, g⟩ (fun r => (∀ c : Dev Cert.GluSRefIdeal.nD,
      r.2.mem ((c.tc : Thread Cert.GluSRefIdeal.nD Cert.GluSRefIdeal.τ).loc Cert.GluSRefIdeal.main_arg0) = m ((c.tc : Thread Cert.GluSRefIdeal.nD Cert.GluSRefIdeal.τ).loc Cert.GluSRefIdeal.main_arg0)
      ∧ r.2.mem ((c.tc : Thread Cert.GluSRefIdeal.nD Cert.GluSRefIdeal.τ).loc Cert.GluSRefIdeal.main_arg1) = m ((c.tc : Thread Cert.GluSRefIdeal.nD Cert.GluSRefIdeal.τ).loc Cert.GluSRefIdeal.main_arg1)
      ∧ r.2.mem ((c.tc : Thread Cert.GluSRefIdeal.nD Cert.GluSRefIdeal.τ).loc Cert.GluSRefIdeal.main_arg2) = m ((c.tc : Thread Cert.GluSRefIdeal.nD Cert.GluSRefIdeal.τ).loc Cert.GluSRefIdeal.main_arg2)
      ∧ r.2.mem ((c.tc : Thread Cert.GluSRefIdeal.nD Cert.GluSRefIdeal.τ).loc Cert.GluSRefIdeal.main_arg3) = m ((c.tc : Thread Cert.GluSRefIdeal.nD Cert.GluSRefIdeal.τ).loc Cert.GluSRefIdeal.main_arg3))
      ∧ r.2.sem = fun _ => 0)

def quiescent_Swi [hSwi : Cert.Swi.Facts] : Prop :=
  ∀ (m : (ℓ : Loc Cert.Swi.nD Cert.Swi.τ Cert.Swi.sig) → Buf (Elt Bits) ℓ) (g : Dev Cert.Swi.nD → PrngReg), Pre_Swi m →
    θ_run (Cert.Swi.defs (F := Bits)) (onTc (τ := Cert.Swi.τ) (Cert.Swi.main (F := Bits))) ⟨m, fun _ => 0, g⟩ (fun r => (∀ c : Dev Cert.Swi.nD,
      r.2.mem ((c.tc : Thread Cert.Swi.nD Cert.Swi.τ).loc Cert.Swi.main_arg0) = m ((c.tc : Thread Cert.Swi.nD Cert.Swi.τ).loc Cert.Swi.main_arg0)
      ∧ r.2.mem ((c.tc : Thread Cert.Swi.nD Cert.Swi.τ).loc Cert.Swi.main_arg1) = m ((c.tc : Thread Cert.Swi.nD Cert.Swi.τ).loc Cert.Swi.main_arg1))
      ∧ r.2.sem = fun _ => 0)

def quiescent_SwiIdeal [hSwiIdeal : Cert.SwiIdeal.Facts] : Prop :=
  ∀ (m : (ℓ : Loc Cert.SwiIdeal.nD Cert.SwiIdeal.τ Cert.SwiIdeal.sig) → Buf (Elt Ideal) ℓ) (g : Dev Cert.SwiIdeal.nD → PrngReg), Pre_SwiIdeal m →
    θ_run (Cert.SwiIdeal.defs (F := Ideal)) (onTc (τ := Cert.SwiIdeal.τ) (Cert.SwiIdeal.main (F := Ideal))) ⟨m, fun _ => 0, g⟩ (fun r => (∀ c : Dev Cert.SwiIdeal.nD,
      r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
      ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1))
      ∧ r.2.sem = fun _ => 0)

def quiescent_SwiRefIdeal [hSwiRefIdeal : Cert.SwiRefIdeal.Facts] : Prop :=
  ∀ (m : (ℓ : Loc Cert.SwiRefIdeal.nD Cert.SwiRefIdeal.τ Cert.SwiRefIdeal.sig) → Buf (Elt Ideal) ℓ) (g : Dev Cert.SwiRefIdeal.nD → PrngReg), Pre_SwiRefIdeal m →
    θ_run (Cert.SwiRefIdeal.defs (F := Ideal)) (onTc (τ := Cert.SwiRefIdeal.τ) (Cert.SwiRefIdeal.main (F := Ideal))) ⟨m, fun _ => 0, g⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1))
      ∧ r.2.sem = fun _ => 0)

def quiescent_SwiS [hSwiS : Cert.SwiS.Facts] : Prop :=
  ∀ (m : (ℓ : Loc Cert.SwiS.nD Cert.SwiS.τ Cert.SwiS.sig) → Buf (Elt Bits) ℓ) (g : Dev Cert.SwiS.nD → PrngReg), Pre_SwiS m →
    θ_run (Cert.SwiS.defs (F := Bits)) (onTc (τ := Cert.SwiS.τ) (Cert.SwiS.main (F := Bits))) ⟨m, fun _ => 0, g⟩ (fun r => (∀ c : Dev Cert.SwiS.nD,
      r.2.mem ((c.tc : Thread Cert.SwiS.nD Cert.SwiS.τ).loc Cert.SwiS.main_arg0) = m ((c.tc : Thread Cert.SwiS.nD Cert.SwiS.τ).loc Cert.SwiS.main_arg0)
      ∧ r.2.mem ((c.tc : Thread Cert.SwiS.nD Cert.SwiS.τ).loc Cert.SwiS.main_arg1) = m ((c.tc : Thread Cert.SwiS.nD Cert.SwiS.τ).loc Cert.SwiS.main_arg1))
      ∧ r.2.sem = fun _ => 0)

def quiescent_SwiSIdeal [hSwiSIdeal : Cert.SwiSIdeal.Facts] : Prop :=
  ∀ (m : (ℓ : Loc Cert.SwiSIdeal.nD Cert.SwiSIdeal.τ Cert.SwiSIdeal.sig) → Buf (Elt Ideal) ℓ) (g : Dev Cert.SwiSIdeal.nD → PrngReg), Pre_SwiSIdeal m →
    θ_run (Cert.SwiSIdeal.defs (F := Ideal)) (onTc (τ := Cert.SwiSIdeal.τ) (Cert.SwiSIdeal.main (F := Ideal))) ⟨m, fun _ => 0, g⟩ (fun r => (∀ c : Dev Cert.SwiSIdeal.nD,
      r.2.mem ((c.tc : Thread Cert.SwiSIdeal.nD Cert.SwiSIdeal.τ).loc Cert.SwiSIdeal.main_arg0) = m ((c.tc : Thread Cert.SwiSIdeal.nD Cert.SwiSIdeal.τ).loc Cert.SwiSIdeal.main_arg0)
      ∧ r.2.mem ((c.tc : Thread Cert.SwiSIdeal.nD Cert.SwiSIdeal.τ).loc Cert.SwiSIdeal.main_arg1) = m ((c.tc : Thread Cert.SwiSIdeal.nD Cert.SwiSIdeal.τ).loc Cert.SwiSIdeal.main_arg1))
      ∧ r.2.sem = fun _ => 0)

def quiescent_SwiSRefIdeal [hSwiSRefIdeal : Cert.SwiSRefIdeal.Facts] : Prop :=
  ∀ (m : (ℓ : Loc Cert.SwiSRefIdeal.nD Cert.SwiSRefIdeal.τ Cert.SwiSRefIdeal.sig) → Buf (Elt Ideal) ℓ) (g : Dev Cert.SwiSRefIdeal.nD → PrngReg), Pre_SwiSRefIdeal m →
    θ_run (Cert.SwiSRefIdeal.defs (F := Ideal)) (onTc (τ := Cert.SwiSRefIdeal.τ) (Cert.SwiSRefIdeal.main (F := Ideal))) ⟨m, fun _ => 0, g⟩ (fun r => (∀ c : Dev Cert.SwiSRefIdeal.nD,
      r.2.mem ((c.tc : Thread Cert.SwiSRefIdeal.nD Cert.SwiSRefIdeal.τ).loc Cert.SwiSRefIdeal.main_arg0) = m ((c.tc : Thread Cert.SwiSRefIdeal.nD Cert.SwiSRefIdeal.τ).loc Cert.SwiSRefIdeal.main_arg0)
      ∧ r.2.mem ((c.tc : Thread Cert.SwiSRefIdeal.nD Cert.SwiSRefIdeal.τ).loc Cert.SwiSRefIdeal.main_arg1) = m ((c.tc : Thread Cert.SwiSRefIdeal.nD Cert.SwiSRefIdeal.τ).loc Cert.SwiSRefIdeal.main_arg1))
      ∧ r.2.sem = fun _ => 0)

def quiescent_Fo [hFo : Cert.Fo.Facts] : Prop :=
  ∀ (m : (ℓ : Loc Cert.Fo.nD Cert.Fo.τ Cert.Fo.sig) → Buf (Elt Bits) ℓ) (g : Dev Cert.Fo.nD → PrngReg), Pre_Fo m →
    θ_run (Cert.Fo.defs (F := Bits)) (onTc (τ := Cert.Fo.τ) (Cert.Fo.main (F := Bits))) ⟨m, fun _ => 0, g⟩ (fun r => (∀ c : Dev Cert.Fo.nD,
      r.2.mem ((c.tc : Thread Cert.Fo.nD Cert.Fo.τ).loc Cert.Fo.main_arg0) = m ((c.tc : Thread Cert.Fo.nD Cert.Fo.τ).loc Cert.Fo.main_arg0)
      ∧ r.2.mem ((c.tc : Thread Cert.Fo.nD Cert.Fo.τ).loc Cert.Fo.main_arg1) = m ((c.tc : Thread Cert.Fo.nD Cert.Fo.τ).loc Cert.Fo.main_arg1)
      ∧ r.2.mem ((c.tc : Thread Cert.Fo.nD Cert.Fo.τ).loc Cert.Fo.main_arg2) = m ((c.tc : Thread Cert.Fo.nD Cert.Fo.τ).loc Cert.Fo.main_arg2)
      ∧ r.2.mem ((c.tc : Thread Cert.Fo.nD Cert.Fo.τ).loc Cert.Fo.main_arg3) = m ((c.tc : Thread Cert.Fo.nD Cert.Fo.τ).loc Cert.Fo.main_arg3)
      ∧ r.2.mem ((c.tc : Thread Cert.Fo.nD Cert.Fo.τ).loc Cert.Fo.main_arg4) = m ((c.tc : Thread Cert.Fo.nD Cert.Fo.τ).loc Cert.Fo.main_arg4))
      ∧ r.2.sem = fun _ => 0)

def quiescent_FoIdeal [hFoIdeal : Cert.FoIdeal.Facts] : Prop :=
  ∀ (m : (ℓ : Loc Cert.FoIdeal.nD Cert.FoIdeal.τ Cert.FoIdeal.sig) → Buf (Elt Ideal) ℓ) (g : Dev Cert.FoIdeal.nD → PrngReg), Pre_FoIdeal m →
    θ_run (Cert.FoIdeal.defs (F := Ideal)) (onTc (τ := Cert.FoIdeal.τ) (Cert.FoIdeal.main (F := Ideal))) ⟨m, fun _ => 0, g⟩ (fun r => (∀ c : Dev Cert.FoIdeal.nD,
      r.2.mem ((c.tc : Thread Cert.FoIdeal.nD Cert.FoIdeal.τ).loc Cert.FoIdeal.main_arg0) = m ((c.tc : Thread Cert.FoIdeal.nD Cert.FoIdeal.τ).loc Cert.FoIdeal.main_arg0)
      ∧ r.2.mem ((c.tc : Thread Cert.FoIdeal.nD Cert.FoIdeal.τ).loc Cert.FoIdeal.main_arg1) = m ((c.tc : Thread Cert.FoIdeal.nD Cert.FoIdeal.τ).loc Cert.FoIdeal.main_arg1)
      ∧ r.2.mem ((c.tc : Thread Cert.FoIdeal.nD Cert.FoIdeal.τ).loc Cert.FoIdeal.main_arg2) = m ((c.tc : Thread Cert.FoIdeal.nD Cert.FoIdeal.τ).loc Cert.FoIdeal.main_arg2)
      ∧ r.2.mem ((c.tc : Thread Cert.FoIdeal.nD Cert.FoIdeal.τ).loc Cert.FoIdeal.main_arg3) = m ((c.tc : Thread Cert.FoIdeal.nD Cert.FoIdeal.τ).loc Cert.FoIdeal.main_arg3)
      ∧ r.2.mem ((c.tc : Thread Cert.FoIdeal.nD Cert.FoIdeal.τ).loc Cert.FoIdeal.main_arg4) = m ((c.tc : Thread Cert.FoIdeal.nD Cert.FoIdeal.τ).loc Cert.FoIdeal.main_arg4))
      ∧ r.2.sem = fun _ => 0)

def quiescent_FoRefIdeal [hFoRefIdeal : Cert.FoRefIdeal.Facts] : Prop :=
  ∀ (m : (ℓ : Loc Cert.FoRefIdeal.nD Cert.FoRefIdeal.τ Cert.FoRefIdeal.sig) → Buf (Elt Ideal) ℓ) (g : Dev Cert.FoRefIdeal.nD → PrngReg), Pre_FoRefIdeal m →
    θ_run (Cert.FoRefIdeal.defs (F := Ideal)) (onTc (τ := Cert.FoRefIdeal.τ) (Cert.FoRefIdeal.main (F := Ideal))) ⟨m, fun _ => 0, g⟩ (fun r => (∀ c : Dev Cert.FoRefIdeal.nD,
      r.2.mem ((c.tc : Thread Cert.FoRefIdeal.nD Cert.FoRefIdeal.τ).loc Cert.FoRefIdeal.main_arg0) = m ((c.tc : Thread Cert.FoRefIdeal.nD Cert.FoRefIdeal.τ).loc Cert.FoRefIdeal.main_arg0)
      ∧ r.2.mem ((c.tc : Thread Cert.FoRefIdeal.nD Cert.FoRefIdeal.τ).loc Cert.FoRefIdeal.main_arg1) = m ((c.tc : Thread Cert.FoRefIdeal.nD Cert.FoRefIdeal.τ).loc Cert.FoRefIdeal.main_arg1)
      ∧ r.2.mem ((c.tc : Thread Cert.FoRefIdeal.nD Cert.FoRefIdeal.τ).loc Cert.FoRefIdeal.main_arg2) = m ((c.tc : Thread Cert.FoRefIdeal.nD Cert.FoRefIdeal.τ).loc Cert.FoRefIdeal.main_arg2)
      ∧ r.2.mem ((c.tc : Thread Cert.FoRefIdeal.nD Cert.FoRefIdeal.τ).loc Cert.FoRefIdeal.main_arg3) = m ((c.tc : Thread Cert.FoRefIdeal.nD Cert.FoRefIdeal.τ).loc Cert.FoRefIdeal.main_arg3)
      ∧ r.2.mem ((c.tc : Thread Cert.FoRefIdeal.nD Cert.FoRefIdeal.τ).loc Cert.FoRefIdeal.main_arg4) = m ((c.tc : Thread Cert.FoRefIdeal.nD Cert.FoRefIdeal.τ).loc Cert.FoRefIdeal.main_arg4))
      ∧ r.2.sem = fun _ => 0)

def quiescent_FoS [hFoS : Cert.FoS.Facts] : Prop :=
  ∀ (m : (ℓ : Loc Cert.FoS.nD Cert.FoS.τ Cert.FoS.sig) → Buf (Elt Bits) ℓ) (g : Dev Cert.FoS.nD → PrngReg), Pre_FoS m →
    θ_run (Cert.FoS.defs (F := Bits)) (onTc (τ := Cert.FoS.τ) (Cert.FoS.main (F := Bits))) ⟨m, fun _ => 0, g⟩ (fun r => (∀ c : Dev Cert.FoS.nD,
      r.2.mem ((c.tc : Thread Cert.FoS.nD Cert.FoS.τ).loc Cert.FoS.main_arg0) = m ((c.tc : Thread Cert.FoS.nD Cert.FoS.τ).loc Cert.FoS.main_arg0)
      ∧ r.2.mem ((c.tc : Thread Cert.FoS.nD Cert.FoS.τ).loc Cert.FoS.main_arg1) = m ((c.tc : Thread Cert.FoS.nD Cert.FoS.τ).loc Cert.FoS.main_arg1)
      ∧ r.2.mem ((c.tc : Thread Cert.FoS.nD Cert.FoS.τ).loc Cert.FoS.main_arg2) = m ((c.tc : Thread Cert.FoS.nD Cert.FoS.τ).loc Cert.FoS.main_arg2)
      ∧ r.2.mem ((c.tc : Thread Cert.FoS.nD Cert.FoS.τ).loc Cert.FoS.main_arg3) = m ((c.tc : Thread Cert.FoS.nD Cert.FoS.τ).loc Cert.FoS.main_arg3)
      ∧ r.2.mem ((c.tc : Thread Cert.FoS.nD Cert.FoS.τ).loc Cert.FoS.main_arg4) = m ((c.tc : Thread Cert.FoS.nD Cert.FoS.τ).loc Cert.FoS.main_arg4))
      ∧ r.2.sem = fun _ => 0)

def quiescent_FoSIdeal [hFoSIdeal : Cert.FoSIdeal.Facts] : Prop :=
  ∀ (m : (ℓ : Loc Cert.FoSIdeal.nD Cert.FoSIdeal.τ Cert.FoSIdeal.sig) → Buf (Elt Ideal) ℓ) (g : Dev Cert.FoSIdeal.nD → PrngReg), Pre_FoSIdeal m →
    θ_run (Cert.FoSIdeal.defs (F := Ideal)) (onTc (τ := Cert.FoSIdeal.τ) (Cert.FoSIdeal.main (F := Ideal))) ⟨m, fun _ => 0, g⟩ (fun r => (∀ c : Dev Cert.FoSIdeal.nD,
      r.2.mem ((c.tc : Thread Cert.FoSIdeal.nD Cert.FoSIdeal.τ).loc Cert.FoSIdeal.main_arg0) = m ((c.tc : Thread Cert.FoSIdeal.nD Cert.FoSIdeal.τ).loc Cert.FoSIdeal.main_arg0)
      ∧ r.2.mem ((c.tc : Thread Cert.FoSIdeal.nD Cert.FoSIdeal.τ).loc Cert.FoSIdeal.main_arg1) = m ((c.tc : Thread Cert.FoSIdeal.nD Cert.FoSIdeal.τ).loc Cert.FoSIdeal.main_arg1)
      ∧ r.2.mem ((c.tc : Thread Cert.FoSIdeal.nD Cert.FoSIdeal.τ).loc Cert.FoSIdeal.main_arg2) = m ((c.tc : Thread Cert.FoSIdeal.nD Cert.FoSIdeal.τ).loc Cert.FoSIdeal.main_arg2)
      ∧ r.2.mem ((c.tc : Thread Cert.FoSIdeal.nD Cert.FoSIdeal.τ).loc Cert.FoSIdeal.main_arg3) = m ((c.tc : Thread Cert.FoSIdeal.nD Cert.FoSIdeal.τ).loc Cert.FoSIdeal.main_arg3)
      ∧ r.2.mem ((c.tc : Thread Cert.FoSIdeal.nD Cert.FoSIdeal.τ).loc Cert.FoSIdeal.main_arg4) = m ((c.tc : Thread Cert.FoSIdeal.nD Cert.FoSIdeal.τ).loc Cert.FoSIdeal.main_arg4))
      ∧ r.2.sem = fun _ => 0)

def quiescent_FoSRefIdeal [hFoSRefIdeal : Cert.FoSRefIdeal.Facts] : Prop :=
  ∀ (m : (ℓ : Loc Cert.FoSRefIdeal.nD Cert.FoSRefIdeal.τ Cert.FoSRefIdeal.sig) → Buf (Elt Ideal) ℓ) (g : Dev Cert.FoSRefIdeal.nD → PrngReg), Pre_FoSRefIdeal m →
    θ_run (Cert.FoSRefIdeal.defs (F := Ideal)) (onTc (τ := Cert.FoSRefIdeal.τ) (Cert.FoSRefIdeal.main (F := Ideal))) ⟨m, fun _ => 0, g⟩ (fun r => (∀ c : Dev Cert.FoSRefIdeal.nD,
      r.2.mem ((c.tc : Thread Cert.FoSRefIdeal.nD Cert.FoSRefIdeal.τ).loc Cert.FoSRefIdeal.main_arg0) = m ((c.tc : Thread Cert.FoSRefIdeal.nD Cert.FoSRefIdeal.τ).loc Cert.FoSRefIdeal.main_arg0)
      ∧ r.2.mem ((c.tc : Thread Cert.FoSRefIdeal.nD Cert.FoSRefIdeal.τ).loc Cert.FoSRefIdeal.main_arg1) = m ((c.tc : Thread Cert.FoSRefIdeal.nD Cert.FoSRefIdeal.τ).loc Cert.FoSRefIdeal.main_arg1)
      ∧ r.2.mem ((c.tc : Thread Cert.FoSRefIdeal.nD Cert.FoSRefIdeal.τ).loc Cert.FoSRefIdeal.main_arg2) = m ((c.tc : Thread Cert.FoSRefIdeal.nD Cert.FoSRefIdeal.τ).loc Cert.FoSRefIdeal.main_arg2)
      ∧ r.2.mem ((c.tc : Thread Cert.FoSRefIdeal.nD Cert.FoSRefIdeal.τ).loc Cert.FoSRefIdeal.main_arg3) = m ((c.tc : Thread Cert.FoSRefIdeal.nD Cert.FoSRefIdeal.τ).loc Cert.FoSRefIdeal.main_arg3)
      ∧ r.2.mem ((c.tc : Thread Cert.FoSRefIdeal.nD Cert.FoSRefIdeal.τ).loc Cert.FoSRefIdeal.main_arg4) = m ((c.tc : Thread Cert.FoSRefIdeal.nD Cert.FoSRefIdeal.τ).loc Cert.FoSRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1))
      ∧ r.2.sem = fun _ => 0)

def quiescent_Qg [hQg : Cert.Qg.Facts] : Prop :=
  ∀ (m : (ℓ : Loc Cert.Qg.nD Cert.Qg.τ Cert.Qg.sig) → Buf (Elt Bits) ℓ) (g : Dev Cert.Qg.nD → PrngReg), Pre_Qg m →
    θ_run (Cert.Qg.defs (F := Bits)) (onTc (τ := Cert.Qg.τ) (Cert.Qg.main (F := Bits))) ⟨m, fun _ => 0, g⟩ (fun r => (∀ c : Dev Cert.Qg.nD,
      r.2.mem ((c.tc : Thread Cert.Qg.nD Cert.Qg.τ).loc Cert.Qg.main_arg0) = m ((c.tc : Thread Cert.Qg.nD Cert.Qg.τ).loc Cert.Qg.main_arg0)
      ∧ r.2.mem ((c.tc : Thread Cert.Qg.nD Cert.Qg.τ).loc Cert.Qg.main_arg1) = m ((c.tc : Thread Cert.Qg.nD Cert.Qg.τ).loc Cert.Qg.main_arg1))
      ∧ r.2.sem = fun _ => 0)

def quiescent_QgIdeal [hQgIdeal : Cert.QgIdeal.Facts] : Prop :=
  ∀ (m : (ℓ : Loc Cert.QgIdeal.nD Cert.QgIdeal.τ Cert.QgIdeal.sig) → Buf (Elt Ideal) ℓ) (g : Dev Cert.QgIdeal.nD → PrngReg), Pre_QgIdeal m →
    θ_run (Cert.QgIdeal.defs (F := Ideal)) (onTc (τ := Cert.QgIdeal.τ) (Cert.QgIdeal.main (F := Ideal))) ⟨m, fun _ => 0, g⟩ (fun r => (∀ c : Dev Cert.QgIdeal.nD,
      r.2.mem ((c.tc : Thread Cert.QgIdeal.nD Cert.QgIdeal.τ).loc Cert.QgIdeal.main_arg0) = m ((c.tc : Thread Cert.QgIdeal.nD Cert.QgIdeal.τ).loc Cert.QgIdeal.main_arg0)
      ∧ r.2.mem ((c.tc : Thread Cert.QgIdeal.nD Cert.QgIdeal.τ).loc Cert.QgIdeal.main_arg1) = m ((c.tc : Thread Cert.QgIdeal.nD Cert.QgIdeal.τ).loc Cert.QgIdeal.main_arg1))
      ∧ r.2.sem = fun _ => 0)

def quiescent_QgRefIdeal [hQgRefIdeal : Cert.QgRefIdeal.Facts] : Prop :=
  ∀ (m : (ℓ : Loc Cert.QgRefIdeal.nD Cert.QgRefIdeal.τ Cert.QgRefIdeal.sig) → Buf (Elt Ideal) ℓ) (g : Dev Cert.QgRefIdeal.nD → PrngReg), Pre_QgRefIdeal m →
    θ_run (Cert.QgRefIdeal.defs (F := Ideal)) (onTc (τ := Cert.QgRefIdeal.τ) (Cert.QgRefIdeal.main (F := Ideal))) ⟨m, fun _ => 0, g⟩ (fun r => (∀ c : Dev Cert.QgRefIdeal.nD,
      r.2.mem ((c.tc : Thread Cert.QgRefIdeal.nD Cert.QgRefIdeal.τ).loc Cert.QgRefIdeal.main_arg0) = m ((c.tc : Thread Cert.QgRefIdeal.nD Cert.QgRefIdeal.τ).loc Cert.QgRefIdeal.main_arg0)
      ∧ r.2.mem ((c.tc : Thread Cert.QgRefIdeal.nD Cert.QgRefIdeal.τ).loc Cert.QgRefIdeal.main_arg1) = m ((c.tc : Thread Cert.QgRefIdeal.nD Cert.QgRefIdeal.τ).loc Cert.QgRefIdeal.main_arg1))
      ∧ r.2.sem = fun _ => 0)

def quiescent_QgS [hQgS : Cert.QgS.Facts] : Prop :=
  ∀ (m : (ℓ : Loc Cert.QgS.nD Cert.QgS.τ Cert.QgS.sig) → Buf (Elt Bits) ℓ) (g : Dev Cert.QgS.nD → PrngReg), Pre_QgS m →
    θ_run (Cert.QgS.defs (F := Bits)) (onTc (τ := Cert.QgS.τ) (Cert.QgS.main (F := Bits))) ⟨m, fun _ => 0, g⟩ (fun r => (∀ c : Dev Cert.QgS.nD,
      r.2.mem ((c.tc : Thread Cert.QgS.nD Cert.QgS.τ).loc Cert.QgS.main_arg0) = m ((c.tc : Thread Cert.QgS.nD Cert.QgS.τ).loc Cert.QgS.main_arg0)
      ∧ r.2.mem ((c.tc : Thread Cert.QgS.nD Cert.QgS.τ).loc Cert.QgS.main_arg1) = m ((c.tc : Thread Cert.QgS.nD Cert.QgS.τ).loc Cert.QgS.main_arg1))
      ∧ r.2.sem = fun _ => 0)

def quiescent_QgSIdeal [hQgSIdeal : Cert.QgSIdeal.Facts] : Prop :=
  ∀ (m : (ℓ : Loc Cert.QgSIdeal.nD Cert.QgSIdeal.τ Cert.QgSIdeal.sig) → Buf (Elt Ideal) ℓ) (g : Dev Cert.QgSIdeal.nD → PrngReg), Pre_QgSIdeal m →
    θ_run (Cert.QgSIdeal.defs (F := Ideal)) (onTc (τ := Cert.QgSIdeal.τ) (Cert.QgSIdeal.main (F := Ideal))) ⟨m, fun _ => 0, g⟩ (fun r => (∀ c : Dev Cert.QgSIdeal.nD,
      r.2.mem ((c.tc : Thread Cert.QgSIdeal.nD Cert.QgSIdeal.τ).loc Cert.QgSIdeal.main_arg0) = m ((c.tc : Thread Cert.QgSIdeal.nD Cert.QgSIdeal.τ).loc Cert.QgSIdeal.main_arg0)
      ∧ r.2.mem ((c.tc : Thread Cert.QgSIdeal.nD Cert.QgSIdeal.τ).loc Cert.QgSIdeal.main_arg1) = m ((c.tc : Thread Cert.QgSIdeal.nD Cert.QgSIdeal.τ).loc Cert.QgSIdeal.main_arg1))
      ∧ r.2.sem = fun _ => 0)

def quiescent_QgSRefIdeal [hQgSRefIdeal : Cert.QgSRefIdeal.Facts] : Prop :=
  ∀ (m : (ℓ : Loc Cert.QgSRefIdeal.nD Cert.QgSRefIdeal.τ Cert.QgSRefIdeal.sig) → Buf (Elt Ideal) ℓ) (g : Dev Cert.QgSRefIdeal.nD → PrngReg), Pre_QgSRefIdeal m →
    θ_run (Cert.QgSRefIdeal.defs (F := Ideal)) (onTc (τ := Cert.QgSRefIdeal.τ) (Cert.QgSRefIdeal.main (F := Ideal))) ⟨m, fun _ => 0, g⟩ (fun r => (∀ c : Dev Cert.QgSRefIdeal.nD,
      r.2.mem ((c.tc : Thread Cert.QgSRefIdeal.nD Cert.QgSRefIdeal.τ).loc Cert.QgSRefIdeal.main_arg0) = m ((c.tc : Thread Cert.QgSRefIdeal.nD Cert.QgSRefIdeal.τ).loc Cert.QgSRefIdeal.main_arg0)
      ∧ r.2.mem ((c.tc : Thread Cert.QgSRefIdeal.nD Cert.QgSRefIdeal.τ).loc Cert.QgSRefIdeal.main_arg1) = m ((c.tc : Thread Cert.QgSRefIdeal.nD Cert.QgSRefIdeal.τ).loc Cert.QgSRefIdeal.main_arg1))
      ∧ r.2.sem = fun _ => 0)

def quiescent_Cmp [hCmp : Cert.Cmp.Facts] [hPre_pages_in_pool : Cert.Pre_pages_in_pool.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6))
      ∧ r.2.sem = fun _ => 0)

def quiescent_CmpIdeal [hCmpIdeal : Cert.CmpIdeal.Facts] [hPre_pages_in_pool : Cert.Pre_pages_in_pool.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpRefIdeal [hCmpRefIdeal : Cert.CmpRefIdeal.Facts] [hPre_pages_in_pool : Cert.Pre_pages_in_pool.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def quiescent_WinS [hWinS : Cert.WinS.Facts] [hPre_pages_named : Cert.Pre_pages_named.Facts] : Prop :=
  ∀ (m : (ℓ : Loc Cert.WinS.nD Cert.WinS.τ Cert.WinS.sig) → Buf (Elt Bits) ℓ) (g : Dev Cert.WinS.nD → PrngReg), Pre_WinS m →
    θ_run (Cert.WinS.defs (F := Bits)) (onTc (τ := Cert.WinS.τ) (Cert.WinS.main (F := Bits))) ⟨m, fun _ => 0, g⟩ (fun r => (∀ c : Dev Cert.WinS.nD,
      r.2.mem ((c.tc : Thread Cert.WinS.nD Cert.WinS.τ).loc Cert.WinS.main_arg0) = m ((c.tc : Thread Cert.WinS.nD Cert.WinS.τ).loc Cert.WinS.main_arg0)
      ∧ r.2.mem ((c.tc : Thread Cert.WinS.nD Cert.WinS.τ).loc Cert.WinS.main_arg1) = m ((c.tc : Thread Cert.WinS.nD Cert.WinS.τ).loc Cert.WinS.main_arg1)
      ∧ r.2.mem ((c.tc : Thread Cert.WinS.nD Cert.WinS.τ).loc Cert.WinS.main_arg2) = m ((c.tc : Thread Cert.WinS.nD Cert.WinS.τ).loc Cert.WinS.main_arg2)
      ∧ r.2.mem ((c.tc : Thread Cert.WinS.nD Cert.WinS.τ).loc Cert.WinS.main_arg3) = m ((c.tc : Thread Cert.WinS.nD Cert.WinS.τ).loc Cert.WinS.main_arg3)
      ∧ r.2.mem ((c.tc : Thread Cert.WinS.nD Cert.WinS.τ).loc Cert.WinS.main_arg4) = m ((c.tc : Thread Cert.WinS.nD Cert.WinS.τ).loc Cert.WinS.main_arg4)
      ∧ r.2.mem ((c.tc : Thread Cert.WinS.nD Cert.WinS.τ).loc Cert.WinS.main_arg5) = m ((c.tc : Thread Cert.WinS.nD Cert.WinS.τ).loc Cert.WinS.main_arg5)
      ∧ r.2.mem ((c.tc : Thread Cert.WinS.nD Cert.WinS.τ).loc Cert.WinS.main_arg6) = m ((c.tc : Thread Cert.WinS.nD Cert.WinS.τ).loc Cert.WinS.main_arg6)
      ∧ r.2.mem ((c.tc : Thread Cert.WinS.nD Cert.WinS.τ).loc Cert.WinS.main_arg7) = m ((c.tc : Thread Cert.WinS.nD Cert.WinS.τ).loc Cert.WinS.main_arg7)
      ∧ r.2.mem ((c.tc : Thread Cert.WinS.nD Cert.WinS.τ).loc Cert.WinS.main_arg8) = m ((c.tc : Thread Cert.WinS.nD Cert.WinS.τ).loc Cert.WinS.main_arg8)
      ∧ r.2.mem ((c.tc : Thread Cert.WinS.nD Cert.WinS.τ).loc Cert.WinS.main_arg9) = m ((c.tc : Thread Cert.WinS.nD Cert.WinS.τ).loc Cert.WinS.main_arg9)
      ∧ r.2.mem ((c.tc : Thread Cert.WinS.nD Cert.WinS.τ).loc Cert.WinS.main_arg10) = m ((c.tc : Thread Cert.WinS.nD Cert.WinS.τ).loc Cert.WinS.main_arg10)
      ∧ r.2.mem ((c.tc : Thread Cert.WinS.nD Cert.WinS.τ).loc Cert.WinS.main_arg11) = m ((c.tc : Thread Cert.WinS.nD Cert.WinS.τ).loc Cert.WinS.main_arg11)
      ∧ r.2.mem ((c.tc : Thread Cert.WinS.nD Cert.WinS.τ).loc Cert.WinS.main_arg12) = m ((c.tc : Thread Cert.WinS.nD Cert.WinS.τ).loc Cert.WinS.main_arg12)
      ∧ r.2.mem ((c.tc : Thread Cert.WinS.nD Cert.WinS.τ).loc Cert.WinS.main_arg13) = m ((c.tc : Thread Cert.WinS.nD Cert.WinS.τ).loc Cert.WinS.main_arg13)
      ∧ r.2.mem ((c.tc : Thread Cert.WinS.nD Cert.WinS.τ).loc Cert.WinS.main_arg14) = m ((c.tc : Thread Cert.WinS.nD Cert.WinS.τ).loc Cert.WinS.main_arg14)
      ∧ r.2.mem ((c.tc : Thread Cert.WinS.nD Cert.WinS.τ).loc Cert.WinS.main_arg15) = m ((c.tc : Thread Cert.WinS.nD Cert.WinS.τ).loc Cert.WinS.main_arg15))
      ∧ r.2.sem = fun _ => 0)

def quiescent_WinSIdeal [hWinSIdeal : Cert.WinSIdeal.Facts] [hPre_pages_named : Cert.Pre_pages_named.Facts] : Prop :=
  ∀ (m : (ℓ : Loc Cert.WinSIdeal.nD Cert.WinSIdeal.τ Cert.WinSIdeal.sig) → Buf (Elt Ideal) ℓ) (g : Dev Cert.WinSIdeal.nD → PrngReg), Pre_WinSIdeal m →
    θ_run (Cert.WinSIdeal.defs (F := Ideal)) (onTc (τ := Cert.WinSIdeal.τ) (Cert.WinSIdeal.main (F := Ideal))) ⟨m, fun _ => 0, g⟩ (fun r => (∀ c : Dev Cert.WinSIdeal.nD,
      r.2.mem ((c.tc : Thread Cert.WinSIdeal.nD Cert.WinSIdeal.τ).loc Cert.WinSIdeal.main_arg0) = m ((c.tc : Thread Cert.WinSIdeal.nD Cert.WinSIdeal.τ).loc Cert.WinSIdeal.main_arg0)
      ∧ r.2.mem ((c.tc : Thread Cert.WinSIdeal.nD Cert.WinSIdeal.τ).loc Cert.WinSIdeal.main_arg1) = m ((c.tc : Thread Cert.WinSIdeal.nD Cert.WinSIdeal.τ).loc Cert.WinSIdeal.main_arg1)
      ∧ r.2.mem ((c.tc : Thread Cert.WinSIdeal.nD Cert.WinSIdeal.τ).loc Cert.WinSIdeal.main_arg2) = m ((c.tc : Thread Cert.WinSIdeal.nD Cert.WinSIdeal.τ).loc Cert.WinSIdeal.main_arg2)
      ∧ r.2.mem ((c.tc : Thread Cert.WinSIdeal.nD Cert.WinSIdeal.τ).loc Cert.WinSIdeal.main_arg3) = m ((c.tc : Thread Cert.WinSIdeal.nD Cert.WinSIdeal.τ).loc Cert.WinSIdeal.main_arg3)
      ∧ r.2.mem ((c.tc : Thread Cert.WinSIdeal.nD Cert.WinSIdeal.τ).loc Cert.WinSIdeal.main_arg4) = m ((c.tc : Thread Cert.WinSIdeal.nD Cert.WinSIdeal.τ).loc Cert.WinSIdeal.main_arg4)
      ∧ r.2.mem ((c.tc : Thread Cert.WinSIdeal.nD Cert.WinSIdeal.τ).loc Cert.WinSIdeal.main_arg5) = m ((c.tc : Thread Cert.WinSIdeal.nD Cert.WinSIdeal.τ).loc Cert.WinSIdeal.main_arg5)
      ∧ r.2.mem ((c.tc : Thread Cert.WinSIdeal.nD Cert.WinSIdeal.τ).loc Cert.WinSIdeal.main_arg6) = m ((c.tc : Thread Cert.WinSIdeal.nD Cert.WinSIdeal.τ).loc Cert.WinSIdeal.main_arg6)
      ∧ r.2.mem ((c.tc : Thread Cert.WinSIdeal.nD Cert.WinSIdeal.τ).loc Cert.WinSIdeal.main_arg7) = m ((c.tc : Thread Cert.WinSIdeal.nD Cert.WinSIdeal.τ).loc Cert.WinSIdeal.main_arg7)
      ∧ r.2.mem ((c.tc : Thread Cert.WinSIdeal.nD Cert.WinSIdeal.τ).loc Cert.WinSIdeal.main_arg8) = m ((c.tc : Thread Cert.WinSIdeal.nD Cert.WinSIdeal.τ).loc Cert.WinSIdeal.main_arg8)
      ∧ r.2.mem ((c.tc : Thread Cert.WinSIdeal.nD Cert.WinSIdeal.τ).loc Cert.WinSIdeal.main_arg9) = m ((c.tc : Thread Cert.WinSIdeal.nD Cert.WinSIdeal.τ).loc Cert.WinSIdeal.main_arg9)
      ∧ r.2.mem ((c.tc : Thread Cert.WinSIdeal.nD Cert.WinSIdeal.τ).loc Cert.WinSIdeal.main_arg10) = m ((c.tc : Thread Cert.WinSIdeal.nD Cert.WinSIdeal.τ).loc Cert.WinSIdeal.main_arg10)
      ∧ r.2.mem ((c.tc : Thread Cert.WinSIdeal.nD Cert.WinSIdeal.τ).loc Cert.WinSIdeal.main_arg11) = m ((c.tc : Thread Cert.WinSIdeal.nD Cert.WinSIdeal.τ).loc Cert.WinSIdeal.main_arg11)
      ∧ r.2.mem ((c.tc : Thread Cert.WinSIdeal.nD Cert.WinSIdeal.τ).loc Cert.WinSIdeal.main_arg12) = m ((c.tc : Thread Cert.WinSIdeal.nD Cert.WinSIdeal.τ).loc Cert.WinSIdeal.main_arg12)
      ∧ r.2.mem ((c.tc : Thread Cert.WinSIdeal.nD Cert.WinSIdeal.τ).loc Cert.WinSIdeal.main_arg13) = m ((c.tc : Thread Cert.WinSIdeal.nD Cert.WinSIdeal.τ).loc Cert.WinSIdeal.main_arg13)
      ∧ r.2.mem ((c.tc : Thread Cert.WinSIdeal.nD Cert.WinSIdeal.τ).loc Cert.WinSIdeal.main_arg14) = m ((c.tc : Thread Cert.WinSIdeal.nD Cert.WinSIdeal.τ).loc Cert.WinSIdeal.main_arg14)
      ∧ r.2.mem ((c.tc : Thread Cert.WinSIdeal.nD Cert.WinSIdeal.τ).loc Cert.WinSIdeal.main_arg15) = m ((c.tc : Thread Cert.WinSIdeal.nD Cert.WinSIdeal.τ).loc Cert.WinSIdeal.main_arg15))
      ∧ r.2.sem = fun _ => 0)

def quiescent_WinSRefIdeal [hWinSRefIdeal : Cert.WinSRefIdeal.Facts] [hPre_pages_named : Cert.Pre_pages_named.Facts] : Prop :=
  ∀ (m : (ℓ : Loc Cert.WinSRefIdeal.nD Cert.WinSRefIdeal.τ Cert.WinSRefIdeal.sig) → Buf (Elt Ideal) ℓ) (g : Dev Cert.WinSRefIdeal.nD → PrngReg), Pre_WinSRefIdeal m →
    θ_run (Cert.WinSRefIdeal.defs (F := Ideal)) (onTc (τ := Cert.WinSRefIdeal.τ) (Cert.WinSRefIdeal.main (F := Ideal))) ⟨m, fun _ => 0, g⟩ (fun r => (∀ c : Dev Cert.WinSRefIdeal.nD,
      r.2.mem ((c.tc : Thread Cert.WinSRefIdeal.nD Cert.WinSRefIdeal.τ).loc Cert.WinSRefIdeal.main_arg0) = m ((c.tc : Thread Cert.WinSRefIdeal.nD Cert.WinSRefIdeal.τ).loc Cert.WinSRefIdeal.main_arg0)
      ∧ r.2.mem ((c.tc : Thread Cert.WinSRefIdeal.nD Cert.WinSRefIdeal.τ).loc Cert.WinSRefIdeal.main_arg1) = m ((c.tc : Thread Cert.WinSRefIdeal.nD Cert.WinSRefIdeal.τ).loc Cert.WinSRefIdeal.main_arg1)
      ∧ r.2.mem ((c.tc : Thread Cert.WinSRefIdeal.nD Cert.WinSRefIdeal.τ).loc Cert.WinSRefIdeal.main_arg2) = m ((c.tc : Thread Cert.WinSRefIdeal.nD Cert.WinSRefIdeal.τ).loc Cert.WinSRefIdeal.main_arg2)
      ∧ r.2.mem ((c.tc : Thread Cert.WinSRefIdeal.nD Cert.WinSRefIdeal.τ).loc Cert.WinSRefIdeal.main_arg3) = m ((c.tc : Thread Cert.WinSRefIdeal.nD Cert.WinSRefIdeal.τ).loc Cert.WinSRefIdeal.main_arg3)
      ∧ r.2.mem ((c.tc : Thread Cert.WinSRefIdeal.nD Cert.WinSRefIdeal.τ).loc Cert.WinSRefIdeal.main_arg4) = m ((c.tc : Thread Cert.WinSRefIdeal.nD Cert.WinSRefIdeal.τ).loc Cert.WinSRefIdeal.main_arg4)
      ∧ r.2.mem ((c.tc : Thread Cert.WinSRefIdeal.nD Cert.WinSRefIdeal.τ).loc Cert.WinSRefIdeal.main_arg5) = m ((c.tc : Thread Cert.WinSRefIdeal.nD Cert.WinSRefIdeal.τ).loc Cert.WinSRefIdeal.main_arg5)
      ∧ r.2.mem ((c.tc : Thread Cert.WinSRefIdeal.nD Cert.WinSRefIdeal.τ).loc Cert.WinSRefIdeal.main_arg6) = m ((c.tc : Thread Cert.WinSRefIdeal.nD Cert.WinSRefIdeal.τ).loc Cert.WinSRefIdeal.main_arg6)
      ∧ r.2.mem ((c.tc : Thread Cert.WinSRefIdeal.nD Cert.WinSRefIdeal.τ).loc Cert.WinSRefIdeal.main_arg7) = m ((c.tc : Thread Cert.WinSRefIdeal.nD Cert.WinSRefIdeal.τ).loc Cert.WinSRefIdeal.main_arg7)
      ∧ r.2.mem ((c.tc : Thread Cert.WinSRefIdeal.nD Cert.WinSRefIdeal.τ).loc Cert.WinSRefIdeal.main_arg8) = m ((c.tc : Thread Cert.WinSRefIdeal.nD Cert.WinSRefIdeal.τ).loc Cert.WinSRefIdeal.main_arg8)
      ∧ r.2.mem ((c.tc : Thread Cert.WinSRefIdeal.nD Cert.WinSRefIdeal.τ).loc Cert.WinSRefIdeal.main_arg9) = m ((c.tc : Thread Cert.WinSRefIdeal.nD Cert.WinSRefIdeal.τ).loc Cert.WinSRefIdeal.main_arg9)
      ∧ r.2.mem ((c.tc : Thread Cert.WinSRefIdeal.nD Cert.WinSRefIdeal.τ).loc Cert.WinSRefIdeal.main_arg10) = m ((c.tc : Thread Cert.WinSRefIdeal.nD Cert.WinSRefIdeal.τ).loc Cert.WinSRefIdeal.main_arg10)
      ∧ r.2.mem ((c.tc : Thread Cert.WinSRefIdeal.nD Cert.WinSRefIdeal.τ).loc Cert.WinSRefIdeal.main_arg11) = m ((c.tc : Thread Cert.WinSRefIdeal.nD Cert.WinSRefIdeal.τ).loc Cert.WinSRefIdeal.main_arg11)
      ∧ r.2.mem ((c.tc : Thread Cert.WinSRefIdeal.nD Cert.WinSRefIdeal.τ).loc Cert.WinSRefIdeal.main_arg12) = m ((c.tc : Thread Cert.WinSRefIdeal.nD Cert.WinSRefIdeal.τ).loc Cert.WinSRefIdeal.main_arg12)
      ∧ r.2.mem ((c.tc : Thread Cert.WinSRefIdeal.nD Cert.WinSRefIdeal.τ).loc Cert.WinSRefIdeal.main_arg13) = m ((c.tc : Thread Cert.WinSRefIdeal.nD Cert.WinSRefIdeal.τ).loc Cert.WinSRefIdeal.main_arg13)
      ∧ r.2.mem ((c.tc : Thread Cert.WinSRefIdeal.nD Cert.WinSRefIdeal.τ).loc Cert.WinSRefIdeal.main_arg14) = m ((c.tc : Thread Cert.WinSRefIdeal.nD Cert.WinSRefIdeal.τ).loc Cert.WinSRefIdeal.main_arg14)
      ∧ r.2.mem ((c.tc : Thread Cert.WinSRefIdeal.nD Cert.WinSRefIdeal.τ).loc Cert.WinSRefIdeal.main_arg15) = m ((c.tc : Thread Cert.WinSRefIdeal.nD Cert.WinSRefIdeal.τ).loc Cert.WinSRefIdeal.main_arg15))
      ∧ r.2.sem = fun _ => 0)

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v6)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v15) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_GluS_GluSIdeal : Prop :=
  True

def algebraic_GluSIdeal_GluSRefIdeal [hGluSIdeal : Cert.GluSIdeal.Facts] [hGluSRefIdeal : Cert.GluSRefIdeal.Facts] : Prop :=
  ∀ (m : (ℓ : Loc Cert.GluSIdeal.nD Cert.GluSIdeal.τ Cert.GluSIdeal.sig) → Buf (Elt Ideal) ℓ) (g : Dev Cert.GluSIdeal.nD → PrngReg)
    (m' : (ℓ : Loc Cert.GluSRefIdeal.nD Cert.GluSRefIdeal.τ Cert.GluSRefIdeal.sig) → Buf (Elt Ideal) ℓ) (g' : Dev Cert.GluSRefIdeal.nD → PrngReg), Pre_GluSIdeal m →
    (∀ c : Dev Cert.GluSIdeal.nD,
      m' ((c.tc : Thread Cert.GluSRefIdeal.nD Cert.GluSRefIdeal.τ).loc Cert.GluSRefIdeal.main_arg0) = m ((c.tc : Thread Cert.GluSIdeal.nD Cert.GluSIdeal.τ).loc Cert.GluSIdeal.main_arg0)
      ∧ m' ((c.tc : Thread Cert.GluSRefIdeal.nD Cert.GluSRefIdeal.τ).loc Cert.GluSRefIdeal.main_arg1) = m ((c.tc : Thread Cert.GluSIdeal.nD Cert.GluSIdeal.τ).loc Cert.GluSIdeal.main_arg1)
      ∧ m' ((c.tc : Thread Cert.GluSRefIdeal.nD Cert.GluSRefIdeal.τ).loc Cert.GluSRefIdeal.main_arg2) = m ((c.tc : Thread Cert.GluSIdeal.nD Cert.GluSIdeal.τ).loc Cert.GluSIdeal.main_arg2)
      ∧ m' ((c.tc : Thread Cert.GluSRefIdeal.nD Cert.GluSRefIdeal.τ).loc Cert.GluSRefIdeal.main_arg3) = m ((c.tc : Thread Cert.GluSIdeal.nD Cert.GluSIdeal.τ).loc Cert.GluSIdeal.main_arg3)) →
    ∃ (v0 : (c : Dev Cert.GluSIdeal.nD) → Buf (Elt Ideal) ((c.tc : Thread Cert.GluSIdeal.nD Cert.GluSIdeal.τ).loc Cert.GluSIdeal.main_v6)) (v1 : (c : Dev Cert.GluSIdeal.nD) → Buf (Elt Ideal) ((c.tc : Thread Cert.GluSIdeal.nD Cert.GluSIdeal.τ).loc Cert.GluSIdeal.main_v11)),
      θ_run (Cert.GluSIdeal.defs (F := Ideal)) (onTc (τ := Cert.GluSIdeal.τ) (Cert.GluSIdeal.main (F := Ideal))) ⟨m, fun _ => 0, g⟩ (fun r => ∀ c : Dev Cert.GluSIdeal.nD,
          r.2.mem ((c.tc : Thread Cert.GluSIdeal.nD Cert.GluSIdeal.τ).loc Cert.GluSIdeal.main_v6) = v0 c
          ∧ r.2.mem ((c.tc : Thread Cert.GluSIdeal.nD Cert.GluSIdeal.τ).loc Cert.GluSIdeal.main_v11) = v1 c
          ∧ r.2.mem ((c.tc : Thread Cert.GluSIdeal.nD Cert.GluSIdeal.τ).loc Cert.GluSIdeal.main_arg0) = m ((c.tc : Thread Cert.GluSIdeal.nD Cert.GluSIdeal.τ).loc Cert.GluSIdeal.main_arg0)
          ∧ r.2.mem ((c.tc : Thread Cert.GluSIdeal.nD Cert.GluSIdeal.τ).loc Cert.GluSIdeal.main_arg1) = m ((c.tc : Thread Cert.GluSIdeal.nD Cert.GluSIdeal.τ).loc Cert.GluSIdeal.main_arg1)
          ∧ r.2.mem ((c.tc : Thread Cert.GluSIdeal.nD Cert.GluSIdeal.τ).loc Cert.GluSIdeal.main_arg2) = m ((c.tc : Thread Cert.GluSIdeal.nD Cert.GluSIdeal.τ).loc Cert.GluSIdeal.main_arg2)
          ∧ r.2.mem ((c.tc : Thread Cert.GluSIdeal.nD Cert.GluSIdeal.τ).loc Cert.GluSIdeal.main_arg3) = m ((c.tc : Thread Cert.GluSIdeal.nD Cert.GluSIdeal.τ).loc Cert.GluSIdeal.main_arg3))
      ∧ θ_run (Cert.GluSRefIdeal.defs (F := Ideal)) (onTc (τ := Cert.GluSRefIdeal.τ) (Cert.GluSRefIdeal.main (F := Ideal))) ⟨m', fun _ => 0, g'⟩ (fun r => ∀ c : Dev Cert.GluSRefIdeal.nD,
          r.2.mem ((c.tc : Thread Cert.GluSRefIdeal.nD Cert.GluSRefIdeal.τ).loc Cert.GluSRefIdeal.main_v15) = v0 c
          ∧ r.2.mem ((c.tc : Thread Cert.GluSRefIdeal.nD Cert.GluSRefIdeal.τ).loc Cert.GluSRefIdeal.main_v20) = v1 c
          ∧ r.2.mem ((c.tc : Thread Cert.GluSRefIdeal.nD Cert.GluSRefIdeal.τ).loc Cert.GluSRefIdeal.main_arg0) = m' ((c.tc : Thread Cert.GluSRefIdeal.nD Cert.GluSRefIdeal.τ).loc Cert.GluSRefIdeal.main_arg0)
          ∧ r.2.mem ((c.tc : Thread Cert.GluSRefIdeal.nD Cert.GluSRefIdeal.τ).loc Cert.GluSRefIdeal.main_arg1) = m' ((c.tc : Thread Cert.GluSRefIdeal.nD Cert.GluSRefIdeal.τ).loc Cert.GluSRefIdeal.main_arg1)
          ∧ r.2.mem ((c.tc : Thread Cert.GluSRefIdeal.nD Cert.GluSRefIdeal.τ).loc Cert.GluSRefIdeal.main_arg2) = m' ((c.tc : Thread Cert.GluSRefIdeal.nD Cert.GluSRefIdeal.τ).loc Cert.GluSRefIdeal.main_arg2)
          ∧ r.2.mem ((c.tc : Thread Cert.GluSRefIdeal.nD Cert.GluSRefIdeal.τ).loc Cert.GluSRefIdeal.main_arg3) = m' ((c.tc : Thread Cert.GluSRefIdeal.nD Cert.GluSRefIdeal.τ).loc Cert.GluSRefIdeal.main_arg3))

def preserves_Swi_SwiIdeal : Prop :=
  True

def algebraic_SwiIdeal_SwiRefIdeal [hSwiIdeal : Cert.SwiIdeal.Facts] [hSwiRefIdeal : Cert.SwiRefIdeal.Facts] : Prop :=
  ∀ (m : (ℓ : Loc Cert.SwiIdeal.nD Cert.SwiIdeal.τ Cert.SwiIdeal.sig) → Buf (Elt Ideal) ℓ) (g : Dev Cert.SwiIdeal.nD → PrngReg)
    (m' : (ℓ : Loc Cert.SwiRefIdeal.nD Cert.SwiRefIdeal.τ Cert.SwiRefIdeal.sig) → Buf (Elt Ideal) ℓ) (g' : Dev Cert.SwiRefIdeal.nD → PrngReg), Pre_SwiIdeal m →
    (∀ c : Dev Cert.SwiIdeal.nD,
      m' ((c.tc : Thread Cert.SwiRefIdeal.nD Cert.SwiRefIdeal.τ).loc Cert.SwiRefIdeal.main_arg0) = m ((c.tc : Thread Cert.SwiIdeal.nD Cert.SwiIdeal.τ).loc Cert.SwiIdeal.main_arg0)
      ∧ m' ((c.tc : Thread Cert.SwiRefIdeal.nD Cert.SwiRefIdeal.τ).loc Cert.SwiRefIdeal.main_arg1) = m ((c.tc : Thread Cert.SwiIdeal.nD Cert.SwiIdeal.τ).loc Cert.SwiIdeal.main_arg1)) →
    ∃ (v0 : (c : Dev Cert.SwiIdeal.nD) → Buf (Elt Ideal) ((c.tc : Thread Cert.SwiIdeal.nD Cert.SwiIdeal.τ).loc Cert.SwiIdeal.main_v2)),
      θ_run (Cert.SwiIdeal.defs (F := Ideal)) (onTc (τ := Cert.SwiIdeal.τ) (Cert.SwiIdeal.main (F := Ideal))) ⟨m, fun _ => 0, g⟩ (fun r => ∀ c : Dev Cert.SwiIdeal.nD,
          r.2.mem ((c.tc : Thread Cert.SwiIdeal.nD Cert.SwiIdeal.τ).loc Cert.SwiIdeal.main_v2) = v0 c
          ∧ r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
          ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1))
      ∧ θ_run (Cert.SwiRefIdeal.defs (F := Ideal)) (onTc (τ := Cert.SwiRefIdeal.τ) (Cert.SwiRefIdeal.main (F := Ideal))) ⟨m', fun _ => 0, g'⟩ (fun r => ∀ c : Dev Cert.SwiRefIdeal.nD,
          r.2.mem ((c.tc : Thread Cert.SwiRefIdeal.nD Cert.SwiRefIdeal.τ).loc Cert.SwiRefIdeal.main_v6) = v0 c
          ∧ r.2.mem ((c.tc : Thread Cert.SwiRefIdeal.nD Cert.SwiRefIdeal.τ).loc Cert.SwiRefIdeal.main_arg0) = m' ((c.tc : Thread Cert.SwiRefIdeal.nD Cert.SwiRefIdeal.τ).loc Cert.SwiRefIdeal.main_arg0)
          ∧ r.2.mem ((c.tc : Thread Cert.SwiRefIdeal.nD Cert.SwiRefIdeal.τ).loc Cert.SwiRefIdeal.main_arg1) = m' ((c.tc : Thread Cert.SwiRefIdeal.nD Cert.SwiRefIdeal.τ).loc Cert.SwiRefIdeal.main_arg1))

def preserves_SwiS_SwiSIdeal : Prop :=
  True

def algebraic_SwiSIdeal_SwiSRefIdeal [hSwiSIdeal : Cert.SwiSIdeal.Facts] [hSwiSRefIdeal : Cert.SwiSRefIdeal.Facts] : Prop :=
  ∀ (m : (ℓ : Loc Cert.SwiSIdeal.nD Cert.SwiSIdeal.τ Cert.SwiSIdeal.sig) → Buf (Elt Ideal) ℓ) (g : Dev Cert.SwiSIdeal.nD → PrngReg)
    (m' : (ℓ : Loc Cert.SwiSRefIdeal.nD Cert.SwiSRefIdeal.τ Cert.SwiSRefIdeal.sig) → Buf (Elt Ideal) ℓ) (g' : Dev Cert.SwiSRefIdeal.nD → PrngReg), Pre_SwiSIdeal m →
    (∀ c : Dev Cert.SwiSIdeal.nD,
      m' ((c.tc : Thread Cert.SwiSRefIdeal.nD Cert.SwiSRefIdeal.τ).loc Cert.SwiSRefIdeal.main_arg0) = m ((c.tc : Thread Cert.SwiSIdeal.nD Cert.SwiSIdeal.τ).loc Cert.SwiSIdeal.main_arg0)
      ∧ m' ((c.tc : Thread Cert.SwiSRefIdeal.nD Cert.SwiSRefIdeal.τ).loc Cert.SwiSRefIdeal.main_arg1) = m ((c.tc : Thread Cert.SwiSIdeal.nD Cert.SwiSIdeal.τ).loc Cert.SwiSIdeal.main_arg1)) →
    ∃ (v0 : (c : Dev Cert.SwiSIdeal.nD) → Buf (Elt Ideal) ((c.tc : Thread Cert.SwiSIdeal.nD Cert.SwiSIdeal.τ).loc Cert.SwiSIdeal.main_v2)),
      θ_run (Cert.SwiSIdeal.defs (F := Ideal)) (onTc (τ := Cert.SwiSIdeal.τ) (Cert.SwiSIdeal.main (F := Ideal))) ⟨m, fun _ => 0, g⟩ (fun r => ∀ c : Dev Cert.SwiSIdeal.nD,
          r.2.mem ((c.tc : Thread Cert.SwiSIdeal.nD Cert.SwiSIdeal.τ).loc Cert.SwiSIdeal.main_v2) = v0 c
          ∧ r.2.mem ((c.tc : Thread Cert.SwiSIdeal.nD Cert.SwiSIdeal.τ).loc Cert.SwiSIdeal.main_arg0) = m ((c.tc : Thread Cert.SwiSIdeal.nD Cert.SwiSIdeal.τ).loc Cert.SwiSIdeal.main_arg0)
          ∧ r.2.mem ((c.tc : Thread Cert.SwiSIdeal.nD Cert.SwiSIdeal.τ).loc Cert.SwiSIdeal.main_arg1) = m ((c.tc : Thread Cert.SwiSIdeal.nD Cert.SwiSIdeal.τ).loc Cert.SwiSIdeal.main_arg1))
      ∧ θ_run (Cert.SwiSRefIdeal.defs (F := Ideal)) (onTc (τ := Cert.SwiSRefIdeal.τ) (Cert.SwiSRefIdeal.main (F := Ideal))) ⟨m', fun _ => 0, g'⟩ (fun r => ∀ c : Dev Cert.SwiSRefIdeal.nD,
          r.2.mem ((c.tc : Thread Cert.SwiSRefIdeal.nD Cert.SwiSRefIdeal.τ).loc Cert.SwiSRefIdeal.main_v6) = v0 c
          ∧ r.2.mem ((c.tc : Thread Cert.SwiSRefIdeal.nD Cert.SwiSRefIdeal.τ).loc Cert.SwiSRefIdeal.main_arg0) = m' ((c.tc : Thread Cert.SwiSRefIdeal.nD Cert.SwiSRefIdeal.τ).loc Cert.SwiSRefIdeal.main_arg0)
          ∧ r.2.mem ((c.tc : Thread Cert.SwiSRefIdeal.nD Cert.SwiSRefIdeal.τ).loc Cert.SwiSRefIdeal.main_arg1) = m' ((c.tc : Thread Cert.SwiSRefIdeal.nD Cert.SwiSRefIdeal.τ).loc Cert.SwiSRefIdeal.main_arg1))

def preserves_Fo_FoIdeal : Prop :=
  True

def algebraic_FoIdeal_FoRefIdeal [hFoIdeal : Cert.FoIdeal.Facts] [hFoRefIdeal : Cert.FoRefIdeal.Facts] : Prop :=
  ∀ (m : (ℓ : Loc Cert.FoIdeal.nD Cert.FoIdeal.τ Cert.FoIdeal.sig) → Buf (Elt Ideal) ℓ) (g : Dev Cert.FoIdeal.nD → PrngReg)
    (m' : (ℓ : Loc Cert.FoRefIdeal.nD Cert.FoRefIdeal.τ Cert.FoRefIdeal.sig) → Buf (Elt Ideal) ℓ) (g' : Dev Cert.FoRefIdeal.nD → PrngReg), Pre_FoIdeal m →
    (∀ c : Dev Cert.FoIdeal.nD,
      m' ((c.tc : Thread Cert.FoRefIdeal.nD Cert.FoRefIdeal.τ).loc Cert.FoRefIdeal.main_arg0) = m ((c.tc : Thread Cert.FoIdeal.nD Cert.FoIdeal.τ).loc Cert.FoIdeal.main_arg0)
      ∧ m' ((c.tc : Thread Cert.FoRefIdeal.nD Cert.FoRefIdeal.τ).loc Cert.FoRefIdeal.main_arg1) = m ((c.tc : Thread Cert.FoIdeal.nD Cert.FoIdeal.τ).loc Cert.FoIdeal.main_arg1)
      ∧ m' ((c.tc : Thread Cert.FoRefIdeal.nD Cert.FoRefIdeal.τ).loc Cert.FoRefIdeal.main_arg2) = m ((c.tc : Thread Cert.FoIdeal.nD Cert.FoIdeal.τ).loc Cert.FoIdeal.main_arg2)
      ∧ m' ((c.tc : Thread Cert.FoRefIdeal.nD Cert.FoRefIdeal.τ).loc Cert.FoRefIdeal.main_arg3) = m ((c.tc : Thread Cert.FoIdeal.nD Cert.FoIdeal.τ).loc Cert.FoIdeal.main_arg3)
      ∧ m' ((c.tc : Thread Cert.FoRefIdeal.nD Cert.FoRefIdeal.τ).loc Cert.FoRefIdeal.main_arg4) = m ((c.tc : Thread Cert.FoIdeal.nD Cert.FoIdeal.τ).loc Cert.FoIdeal.main_arg4)) →
    ∃ (v0 : (c : Dev Cert.FoIdeal.nD) → Buf (Elt Ideal) ((c.tc : Thread Cert.FoIdeal.nD Cert.FoIdeal.τ).loc Cert.FoIdeal.main_v4_0)) (v1 : (c : Dev Cert.FoIdeal.nD) → Buf (Elt Ideal) ((c.tc : Thread Cert.FoIdeal.nD Cert.FoIdeal.τ).loc Cert.FoIdeal.main_v4_1)),
      θ_run (Cert.FoIdeal.defs (F := Ideal)) (onTc (τ := Cert.FoIdeal.τ) (Cert.FoIdeal.main (F := Ideal))) ⟨m, fun _ => 0, g⟩ (fun r => ∀ c : Dev Cert.FoIdeal.nD,
          r.2.mem ((c.tc : Thread Cert.FoIdeal.nD Cert.FoIdeal.τ).loc Cert.FoIdeal.main_v4_0) = v0 c
          ∧ r.2.mem ((c.tc : Thread Cert.FoIdeal.nD Cert.FoIdeal.τ).loc Cert.FoIdeal.main_v4_1) = v1 c
          ∧ r.2.mem ((c.tc : Thread Cert.FoIdeal.nD Cert.FoIdeal.τ).loc Cert.FoIdeal.main_arg0) = m ((c.tc : Thread Cert.FoIdeal.nD Cert.FoIdeal.τ).loc Cert.FoIdeal.main_arg0)
          ∧ r.2.mem ((c.tc : Thread Cert.FoIdeal.nD Cert.FoIdeal.τ).loc Cert.FoIdeal.main_arg1) = m ((c.tc : Thread Cert.FoIdeal.nD Cert.FoIdeal.τ).loc Cert.FoIdeal.main_arg1)
          ∧ r.2.mem ((c.tc : Thread Cert.FoIdeal.nD Cert.FoIdeal.τ).loc Cert.FoIdeal.main_arg2) = m ((c.tc : Thread Cert.FoIdeal.nD Cert.FoIdeal.τ).loc Cert.FoIdeal.main_arg2)
          ∧ r.2.mem ((c.tc : Thread Cert.FoIdeal.nD Cert.FoIdeal.τ).loc Cert.FoIdeal.main_arg3) = m ((c.tc : Thread Cert.FoIdeal.nD Cert.FoIdeal.τ).loc Cert.FoIdeal.main_arg3)
          ∧ r.2.mem ((c.tc : Thread Cert.FoIdeal.nD Cert.FoIdeal.τ).loc Cert.FoIdeal.main_arg4) = m ((c.tc : Thread Cert.FoIdeal.nD Cert.FoIdeal.τ).loc Cert.FoIdeal.main_arg4))
      ∧ θ_run (Cert.FoRefIdeal.defs (F := Ideal)) (onTc (τ := Cert.FoRefIdeal.τ) (Cert.FoRefIdeal.main (F := Ideal))) ⟨m', fun _ => 0, g'⟩ (fun r => ∀ c : Dev Cert.FoRefIdeal.nD,
          r.2.mem ((c.tc : Thread Cert.FoRefIdeal.nD Cert.FoRefIdeal.τ).loc Cert.FoRefIdeal.main_v28) = v0 c
          ∧ r.2.mem ((c.tc : Thread Cert.FoRefIdeal.nD Cert.FoRefIdeal.τ).loc Cert.FoRefIdeal.main_v29) = v1 c
          ∧ r.2.mem ((c.tc : Thread Cert.FoRefIdeal.nD Cert.FoRefIdeal.τ).loc Cert.FoRefIdeal.main_arg0) = m' ((c.tc : Thread Cert.FoRefIdeal.nD Cert.FoRefIdeal.τ).loc Cert.FoRefIdeal.main_arg0)
          ∧ r.2.mem ((c.tc : Thread Cert.FoRefIdeal.nD Cert.FoRefIdeal.τ).loc Cert.FoRefIdeal.main_arg1) = m' ((c.tc : Thread Cert.FoRefIdeal.nD Cert.FoRefIdeal.τ).loc Cert.FoRefIdeal.main_arg1)
          ∧ r.2.mem ((c.tc : Thread Cert.FoRefIdeal.nD Cert.FoRefIdeal.τ).loc Cert.FoRefIdeal.main_arg2) = m' ((c.tc : Thread Cert.FoRefIdeal.nD Cert.FoRefIdeal.τ).loc Cert.FoRefIdeal.main_arg2)
          ∧ r.2.mem ((c.tc : Thread Cert.FoRefIdeal.nD Cert.FoRefIdeal.τ).loc Cert.FoRefIdeal.main_arg3) = m' ((c.tc : Thread Cert.FoRefIdeal.nD Cert.FoRefIdeal.τ).loc Cert.FoRefIdeal.main_arg3)
          ∧ r.2.mem ((c.tc : Thread Cert.FoRefIdeal.nD Cert.FoRefIdeal.τ).loc Cert.FoRefIdeal.main_arg4) = m' ((c.tc : Thread Cert.FoRefIdeal.nD Cert.FoRefIdeal.τ).loc Cert.FoRefIdeal.main_arg4))

def preserves_FoS_FoSIdeal : Prop :=
  True

def algebraic_FoSIdeal_FoSRefIdeal [hFoSIdeal : Cert.FoSIdeal.Facts] [hFoSRefIdeal : Cert.FoSRefIdeal.Facts] : Prop :=
  ∀ (m : (ℓ : Loc Cert.FoSIdeal.nD Cert.FoSIdeal.τ Cert.FoSIdeal.sig) → Buf (Elt Ideal) ℓ) (g : Dev Cert.FoSIdeal.nD → PrngReg)
    (m' : (ℓ : Loc Cert.FoSRefIdeal.nD Cert.FoSRefIdeal.τ Cert.FoSRefIdeal.sig) → Buf (Elt Ideal) ℓ) (g' : Dev Cert.FoSRefIdeal.nD → PrngReg), Pre_FoSIdeal m →
    (∀ c : Dev Cert.FoSIdeal.nD,
      m' ((c.tc : Thread Cert.FoSRefIdeal.nD Cert.FoSRefIdeal.τ).loc Cert.FoSRefIdeal.main_arg0) = m ((c.tc : Thread Cert.FoSIdeal.nD Cert.FoSIdeal.τ).loc Cert.FoSIdeal.main_arg0)
      ∧ m' ((c.tc : Thread Cert.FoSRefIdeal.nD Cert.FoSRefIdeal.τ).loc Cert.FoSRefIdeal.main_arg1) = m ((c.tc : Thread Cert.FoSIdeal.nD Cert.FoSIdeal.τ).loc Cert.FoSIdeal.main_arg1)
      ∧ m' ((c.tc : Thread Cert.FoSRefIdeal.nD Cert.FoSRefIdeal.τ).loc Cert.FoSRefIdeal.main_arg2) = m ((c.tc : Thread Cert.FoSIdeal.nD Cert.FoSIdeal.τ).loc Cert.FoSIdeal.main_arg2)
      ∧ m' ((c.tc : Thread Cert.FoSRefIdeal.nD Cert.FoSRefIdeal.τ).loc Cert.FoSRefIdeal.main_arg3) = m ((c.tc : Thread Cert.FoSIdeal.nD Cert.FoSIdeal.τ).loc Cert.FoSIdeal.main_arg3)
      ∧ m' ((c.tc : Thread Cert.FoSRefIdeal.nD Cert.FoSRefIdeal.τ).loc Cert.FoSRefIdeal.main_arg4) = m ((c.tc : Thread Cert.FoSIdeal.nD Cert.FoSIdeal.τ).loc Cert.FoSIdeal.main_arg4)) →
    ∃ (v0 : (c : Dev Cert.FoSIdeal.nD) → Buf (Elt Ideal) ((c.tc : Thread Cert.FoSIdeal.nD Cert.FoSIdeal.τ).loc Cert.FoSIdeal.main_v4_0)) (v1 : (c : Dev Cert.FoSIdeal.nD) → Buf (Elt Ideal) ((c.tc : Thread Cert.FoSIdeal.nD Cert.FoSIdeal.τ).loc Cert.FoSIdeal.main_v4_1)),
      θ_run (Cert.FoSIdeal.defs (F := Ideal)) (onTc (τ := Cert.FoSIdeal.τ) (Cert.FoSIdeal.main (F := Ideal))) ⟨m, fun _ => 0, g⟩ (fun r => ∀ c : Dev Cert.FoSIdeal.nD,
          r.2.mem ((c.tc : Thread Cert.FoSIdeal.nD Cert.FoSIdeal.τ).loc Cert.FoSIdeal.main_v4_0) = v0 c
          ∧ r.2.mem ((c.tc : Thread Cert.FoSIdeal.nD Cert.FoSIdeal.τ).loc Cert.FoSIdeal.main_v4_1) = v1 c
          ∧ r.2.mem ((c.tc : Thread Cert.FoSIdeal.nD Cert.FoSIdeal.τ).loc Cert.FoSIdeal.main_arg0) = m ((c.tc : Thread Cert.FoSIdeal.nD Cert.FoSIdeal.τ).loc Cert.FoSIdeal.main_arg0)
          ∧ r.2.mem ((c.tc : Thread Cert.FoSIdeal.nD Cert.FoSIdeal.τ).loc Cert.FoSIdeal.main_arg1) = m ((c.tc : Thread Cert.FoSIdeal.nD Cert.FoSIdeal.τ).loc Cert.FoSIdeal.main_arg1)
          ∧ r.2.mem ((c.tc : Thread Cert.FoSIdeal.nD Cert.FoSIdeal.τ).loc Cert.FoSIdeal.main_arg2) = m ((c.tc : Thread Cert.FoSIdeal.nD Cert.FoSIdeal.τ).loc Cert.FoSIdeal.main_arg2)
          ∧ r.2.mem ((c.tc : Thread Cert.FoSIdeal.nD Cert.FoSIdeal.τ).loc Cert.FoSIdeal.main_arg3) = m ((c.tc : Thread Cert.FoSIdeal.nD Cert.FoSIdeal.τ).loc Cert.FoSIdeal.main_arg3)
          ∧ r.2.mem ((c.tc : Thread Cert.FoSIdeal.nD Cert.FoSIdeal.τ).loc Cert.FoSIdeal.main_arg4) = m ((c.tc : Thread Cert.FoSIdeal.nD Cert.FoSIdeal.τ).loc Cert.FoSIdeal.main_arg4))
      ∧ θ_run (Cert.FoSRefIdeal.defs (F := Ideal)) (onTc (τ := Cert.FoSRefIdeal.τ) (Cert.FoSRefIdeal.main (F := Ideal))) ⟨m', fun _ => 0, g'⟩ (fun r => ∀ c : Dev Cert.FoSRefIdeal.nD,
          r.2.mem ((c.tc : Thread Cert.FoSRefIdeal.nD Cert.FoSRefIdeal.τ).loc Cert.FoSRefIdeal.main_v28) = v0 c
          ∧ r.2.mem ((c.tc : Thread Cert.FoSRefIdeal.nD Cert.FoSRefIdeal.τ).loc Cert.FoSRefIdeal.main_v29) = v1 c
          ∧ r.2.mem ((c.tc : Thread Cert.FoSRefIdeal.nD Cert.FoSRefIdeal.τ).loc Cert.FoSRefIdeal.main_arg0) = m' ((c.tc : Thread Cert.FoSRefIdeal.nD Cert.FoSRefIdeal.τ).loc Cert.FoSRefIdeal.main_arg0)
          ∧ r.2.mem ((c.tc : Thread Cert.FoSRefIdeal.nD Cert.FoSRefIdeal.τ).loc Cert.FoSRefIdeal.main_arg1) = m' ((c.tc : Thread Cert.FoSRefIdeal.nD Cert.FoSRefIdeal.τ).loc Cert.FoSRefIdeal.main_arg1)
          ∧ r.2.mem ((c.tc : Thread Cert.FoSRefIdeal.nD Cert.FoSRefIdeal.τ).loc Cert.FoSRefIdeal.main_arg2) = m' ((c.tc : Thread Cert.FoSRefIdeal.nD Cert.FoSRefIdeal.τ).loc Cert.FoSRefIdeal.main_arg2)
          ∧ r.2.mem ((c.tc : Thread Cert.FoSRefIdeal.nD Cert.FoSRefIdeal.τ).loc Cert.FoSRefIdeal.main_arg3) = m' ((c.tc : Thread Cert.FoSRefIdeal.nD Cert.FoSRefIdeal.τ).loc Cert.FoSRefIdeal.main_arg3)
          ∧ r.2.mem ((c.tc : Thread Cert.FoSRefIdeal.nD Cert.FoSRefIdeal.τ).loc Cert.FoSRefIdeal.main_arg4) = m' ((c.tc : Thread Cert.FoSRefIdeal.nD Cert.FoSRefIdeal.τ).loc Cert.FoSRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v31) = v0 c
          ∧ r.2.mem ((c.tc : Thread Cert.MixRefIdeal.nD Cert.MixRefIdeal.τ).loc Cert.MixRefIdeal.main_v32) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)) →
    ∃ (v0 : (c : Dev Cert.MixSIdeal.nD) → Buf (Elt Ideal) ((c.tc : Thread Cert.MixSIdeal.nD Cert.MixSIdeal.τ).loc Cert.MixSIdeal.main_v4_0)) (v1 : (c : Dev Cert.MixSIdeal.nD) → Buf (Elt Ideal) ((c.tc : Thread Cert.MixSIdeal.nD Cert.MixSIdeal.τ).loc Cert.MixSIdeal.main_v4_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v4_0) = v0 c
          ∧ r.2.mem ((c.tc : Thread Cert.MixSIdeal.nD Cert.MixSIdeal.τ).loc Cert.MixSIdeal.main_v4_1) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v31) = v0 c
          ∧ r.2.mem ((c.tc : Thread Cert.MixSRefIdeal.nD Cert.MixSRefIdeal.τ).loc Cert.MixSRefIdeal.main_v32) = v1 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v1_0)) (v1 : (c : Dev Cert.KvIdeal.nD) → Buf (Elt Ideal) ((c.tc : Thread Cert.KvIdeal.nD Cert.KvIdeal.τ).loc Cert.KvIdeal.main_v1_1)) (v2 : (c : Dev Cert.KvIdeal.nD) → Buf (Elt Ideal) ((c.tc : Thread Cert.KvIdeal.nD Cert.KvIdeal.τ).loc Cert.KvIdeal.main_v1_2)) (v3 : (c : Dev Cert.KvIdeal.nD) → Buf (Elt Ideal) ((c.tc : Thread Cert.KvIdeal.nD Cert.KvIdeal.τ).loc Cert.KvIdeal.main_v1_3)) (v4 : (c : Dev Cert.KvIdeal.nD) → Buf (Elt Ideal) ((c.tc : Thread Cert.KvIdeal.nD Cert.KvIdeal.τ).loc Cert.KvIdeal.main_v1_4)) (v5 : (c : Dev Cert.KvIdeal.nD) → Buf (Elt Ideal) ((c.tc : Thread Cert.KvIdeal.nD Cert.KvIdeal.τ).loc Cert.KvIdeal.main_v1_5)) (v6 : (c : Dev Cert.KvIdeal.nD) → Buf (Elt Ideal) ((c.tc : Thread Cert.KvIdeal.nD Cert.KvIdeal.τ).loc Cert.KvIdeal.main_v1_6)) (v7 : (c : Dev Cert.KvIdeal.nD) → Buf (Elt Ideal) ((c.tc : Thread Cert.KvIdeal.nD Cert.KvIdeal.τ).loc Cert.KvIdeal.main_v1_7)) (v8 : (c : Dev Cert.KvIdeal.nD) → Buf (Elt Ideal) ((c.tc : Thread Cert.KvIdeal.nD Cert.KvIdeal.τ).loc Cert.KvIdeal.main_v1_8)) (v9 : (c : Dev Cert.KvIdeal.nD) → Buf (Elt Ideal) ((c.tc : Thread Cert.KvIdeal.nD Cert.KvIdeal.τ).loc Cert.KvIdeal.main_v1_9)) (v10 : (c : Dev Cert.KvIdeal.nD) → Buf (Elt Ideal) ((c.tc : Thread Cert.KvIdeal.nD Cert.KvIdeal.τ).loc Cert.KvIdeal.main_v1_10)) (v11 : (c : Dev Cert.KvIdeal.nD) → Buf (Elt Ideal) ((c.tc : Thread Cert.KvIdeal.nD Cert.KvIdeal.τ).loc Cert.KvIdeal.main_v1_11)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1_0) = v0 c
          ∧ r.2.mem ((c.tc : Thread Cert.KvIdeal.nD Cert.KvIdeal.τ).loc Cert.KvIdeal.main_v1_1) = v1 c
          ∧ r.2.mem ((c.tc : Thread Cert.KvIdeal.nD Cert.KvIdeal.τ).loc Cert.KvIdeal.main_v1_2) = v2 c
          ∧ r.2.mem ((c.tc : Thread Cert.KvIdeal.nD Cert.KvIdeal.τ).loc Cert.KvIdeal.main_v1_3) = v3 c
          ∧ r.2.mem ((c.tc : Thread Cert.KvIdeal.nD Cert.KvIdeal.τ).loc Cert.KvIdeal.main_v1_4) = v4 c
          ∧ r.2.mem ((c.tc : Thread Cert.KvIdeal.nD Cert.KvIdeal.τ).loc Cert.KvIdeal.main_v1_5) = v5 c
          ∧ r.2.mem ((c.tc : Thread Cert.KvIdeal.nD Cert.KvIdeal.τ).loc Cert.KvIdeal.main_v1_6) = v6 c
          ∧ r.2.mem ((c.tc : Thread Cert.KvIdeal.nD Cert.KvIdeal.τ).loc Cert.KvIdeal.main_v1_7) = v7 c
          ∧ r.2.mem ((c.tc : Thread Cert.KvIdeal.nD Cert.KvIdeal.τ).loc Cert.KvIdeal.main_v1_8) = v8 c
          ∧ r.2.mem ((c.tc : Thread Cert.KvIdeal.nD Cert.KvIdeal.τ).loc Cert.KvIdeal.main_v1_9) = v9 c
          ∧ r.2.mem ((c.tc : Thread Cert.KvIdeal.nD Cert.KvIdeal.τ).loc Cert.KvIdeal.main_v1_10) = v10 c
          ∧ r.2.mem ((c.tc : Thread Cert.KvIdeal.nD Cert.KvIdeal.τ).loc Cert.KvIdeal.main_v1_11) = v11 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_v3) = v1 c
          ∧ r.2.mem ((c.tc : Thread Cert.KvRefIdeal.nD Cert.KvRefIdeal.τ).loc Cert.KvRefIdeal.main_v4) = v2 c
          ∧ r.2.mem ((c.tc : Thread Cert.KvRefIdeal.nD Cert.KvRefIdeal.τ).loc Cert.KvRefIdeal.main_v5) = v3 c
          ∧ r.2.mem ((c.tc : Thread Cert.KvRefIdeal.nD Cert.KvRefIdeal.τ).loc Cert.KvRefIdeal.main_v6) = v4 c
          ∧ r.2.mem ((c.tc : Thread Cert.KvRefIdeal.nD Cert.KvRefIdeal.τ).loc Cert.KvRefIdeal.main_v7) = v5 c
          ∧ r.2.mem ((c.tc : Thread Cert.KvRefIdeal.nD Cert.KvRefIdeal.τ).loc Cert.KvRefIdeal.main_v8) = v6 c
          ∧ r.2.mem ((c.tc : Thread Cert.KvRefIdeal.nD Cert.KvRefIdeal.τ).loc Cert.KvRefIdeal.main_v9) = v7 c
          ∧ r.2.mem ((c.tc : Thread Cert.KvRefIdeal.nD Cert.KvRefIdeal.τ).loc Cert.KvRefIdeal.main_v10) = v8 c
          ∧ r.2.mem ((c.tc : Thread Cert.KvRefIdeal.nD Cert.KvRefIdeal.τ).loc Cert.KvRefIdeal.main_v11) = v9 c
          ∧ r.2.mem ((c.tc : Thread Cert.KvRefIdeal.nD Cert.KvRefIdeal.τ).loc Cert.KvRefIdeal.main_v12) = v10 c
          ∧ r.2.mem ((c.tc : Thread Cert.KvRefIdeal.nD Cert.KvRefIdeal.τ).loc Cert.KvRefIdeal.main_v13) = v11 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)) →
    ∃ (v0 : (c : Dev Cert.KvSIdeal.nD) → Buf (Elt Ideal) ((c.tc : Thread Cert.KvSIdeal.nD Cert.KvSIdeal.τ).loc Cert.KvSIdeal.main_v1_0)) (v1 : (c : Dev Cert.KvSIdeal.nD) → Buf (Elt Ideal) ((c.tc : Thread Cert.KvSIdeal.nD Cert.KvSIdeal.τ).loc Cert.KvSIdeal.main_v1_1)) (v2 : (c : Dev Cert.KvSIdeal.nD) → Buf (Elt Ideal) ((c.tc : Thread Cert.KvSIdeal.nD Cert.KvSIdeal.τ).loc Cert.KvSIdeal.main_v1_2)) (v3 : (c : Dev Cert.KvSIdeal.nD) → Buf (Elt Ideal) ((c.tc : Thread Cert.KvSIdeal.nD Cert.KvSIdeal.τ).loc Cert.KvSIdeal.main_v1_3)) (v4 : (c : Dev Cert.KvSIdeal.nD) → Buf (Elt Ideal) ((c.tc : Thread Cert.KvSIdeal.nD Cert.KvSIdeal.τ).loc Cert.KvSIdeal.main_v1_4)) (v5 : (c : Dev Cert.KvSIdeal.nD) → Buf (Elt Ideal) ((c.tc : Thread Cert.KvSIdeal.nD Cert.KvSIdeal.τ).loc Cert.KvSIdeal.main_v1_5)) (v6 : (c : Dev Cert.KvSIdeal.nD) → Buf (Elt Ideal) ((c.tc : Thread Cert.KvSIdeal.nD Cert.KvSIdeal.τ).loc Cert.KvSIdeal.main_v1_6)) (v7 : (c : Dev Cert.KvSIdeal.nD) → Buf (Elt Ideal) ((c.tc : Thread Cert.KvSIdeal.nD Cert.KvSIdeal.τ).loc Cert.KvSIdeal.main_v1_7)) (v8 : (c : Dev Cert.KvSIdeal.nD) → Buf (Elt Ideal) ((c.tc : Thread Cert.KvSIdeal.nD Cert.KvSIdeal.τ).loc Cert.KvSIdeal.main_v1_8)) (v9 : (c : Dev Cert.KvSIdeal.nD) → Buf (Elt Ideal) ((c.tc : Thread Cert.KvSIdeal.nD Cert.KvSIdeal.τ).loc Cert.KvSIdeal.main_v1_9)) (v10 : (c : Dev Cert.KvSIdeal.nD) → Buf (Elt Ideal) ((c.tc : Thread Cert.KvSIdeal.nD Cert.KvSIdeal.τ).loc Cert.KvSIdeal.main_v1_10)) (v11 : (c : Dev Cert.KvSIdeal.nD) → Buf (Elt Ideal) ((c.tc : Thread Cert.KvSIdeal.nD Cert.KvSIdeal.τ).loc Cert.KvSIdeal.main_v1_11)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v1_0) = v0 c
          ∧ r.2.mem ((c.tc : Thread Cert.KvSIdeal.nD Cert.KvSIdeal.τ).loc Cert.KvSIdeal.main_v1_1) = v1 c
          ∧ r.2.mem ((c.tc : Thread Cert.KvSIdeal.nD Cert.KvSIdeal.τ).loc Cert.KvSIdeal.main_v1_2) = v2 c
          ∧ r.2.mem ((c.tc : Thread Cert.KvSIdeal.nD Cert.KvSIdeal.τ).loc Cert.KvSIdeal.main_v1_3) = v3 c
          ∧ r.2.mem ((c.tc : Thread Cert.KvSIdeal.nD Cert.KvSIdeal.τ).loc Cert.KvSIdeal.main_v1_4) = v4 c
          ∧ r.2.mem ((c.tc : Thread Cert.KvSIdeal.nD Cert.KvSIdeal.τ).loc Cert.KvSIdeal.main_v1_5) = v5 c
          ∧ r.2.mem ((c.tc : Thread Cert.KvSIdeal.nD Cert.KvSIdeal.τ).loc Cert.KvSIdeal.main_v1_6) = v6 c
          ∧ r.2.mem ((c.tc : Thread Cert.KvSIdeal.nD Cert.KvSIdeal.τ).loc Cert.KvSIdeal.main_v1_7) = v7 c
          ∧ r.2.mem ((c.tc : Thread Cert.KvSIdeal.nD Cert.KvSIdeal.τ).loc Cert.KvSIdeal.main_v1_8) = v8 c
          ∧ r.2.mem ((c.tc : Thread Cert.KvSIdeal.nD Cert.KvSIdeal.τ).loc Cert.KvSIdeal.main_v1_9) = v9 c
          ∧ r.2.mem ((c.tc : Thread Cert.KvSIdeal.nD Cert.KvSIdeal.τ).loc Cert.KvSIdeal.main_v1_10) = v10 c
          ∧ r.2.mem ((c.tc : Thread Cert.KvSIdeal.nD Cert.KvSIdeal.τ).loc Cert.KvSIdeal.main_v1_11) = v11 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v2) = v0 c
          ∧ r.2.mem ((c.tc : Thread Cert.KvSRefIdeal.nD Cert.KvSRefIdeal.τ).loc Cert.KvSRefIdeal.main_v3) = v1 c
          ∧ r.2.mem ((c.tc : Thread Cert.KvSRefIdeal.nD Cert.KvSRefIdeal.τ).loc Cert.KvSRefIdeal.main_v4) = v2 c
          ∧ r.2.mem ((c.tc : Thread Cert.KvSRefIdeal.nD Cert.KvSRefIdeal.τ).loc Cert.KvSRefIdeal.main_v5) = v3 c
          ∧ r.2.mem ((c.tc : Thread Cert.KvSRefIdeal.nD Cert.KvSRefIdeal.τ).loc Cert.KvSRefIdeal.main_v6) = v4 c
          ∧ r.2.mem ((c.tc : Thread Cert.KvSRefIdeal.nD Cert.KvSRefIdeal.τ).loc Cert.KvSRefIdeal.main_v7) = v5 c
          ∧ r.2.mem ((c.tc : Thread Cert.KvSRefIdeal.nD Cert.KvSRefIdeal.τ).loc Cert.KvSRefIdeal.main_v8) = v6 c
          ∧ r.2.mem ((c.tc : Thread Cert.KvSRefIdeal.nD Cert.KvSRefIdeal.τ).loc Cert.KvSRefIdeal.main_v9) = v7 c
          ∧ r.2.mem ((c.tc : Thread Cert.KvSRefIdeal.nD Cert.KvSRefIdeal.τ).loc Cert.KvSRefIdeal.main_v10) = v8 c
          ∧ r.2.mem ((c.tc : Thread Cert.KvSRefIdeal.nD Cert.KvSRefIdeal.τ).loc Cert.KvSRefIdeal.main_v11) = v9 c
          ∧ r.2.mem ((c.tc : Thread Cert.KvSRefIdeal.nD Cert.KvSRefIdeal.τ).loc Cert.KvSRefIdeal.main_v12) = v10 c
          ∧ r.2.mem ((c.tc : Thread Cert.KvSRefIdeal.nD Cert.KvSRefIdeal.τ).loc Cert.KvSRefIdeal.main_v13) = v11 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1))

def preserves_Qg_QgIdeal : Prop :=
  True

def algebraic_QgIdeal_QgRefIdeal [hQgIdeal : Cert.QgIdeal.Facts] [hQgRefIdeal : Cert.QgRefIdeal.Facts] : Prop :=
  ∀ (m : (ℓ : Loc Cert.QgIdeal.nD Cert.QgIdeal.τ Cert.QgIdeal.sig) → Buf (Elt Ideal) ℓ) (g : Dev Cert.QgIdeal.nD → PrngReg)
    (m' : (ℓ : Loc Cert.QgRefIdeal.nD Cert.QgRefIdeal.τ Cert.QgRefIdeal.sig) → Buf (Elt Ideal) ℓ) (g' : Dev Cert.QgRefIdeal.nD → PrngReg), Pre_QgIdeal m →
    (∀ c : Dev Cert.QgIdeal.nD,
      m' ((c.tc : Thread Cert.QgRefIdeal.nD Cert.QgRefIdeal.τ).loc Cert.QgRefIdeal.main_arg0) = m ((c.tc : Thread Cert.QgIdeal.nD Cert.QgIdeal.τ).loc Cert.QgIdeal.main_arg0)
      ∧ m' ((c.tc : Thread Cert.QgRefIdeal.nD Cert.QgRefIdeal.τ).loc Cert.QgRefIdeal.main_arg1) = m ((c.tc : Thread Cert.QgIdeal.nD Cert.QgIdeal.τ).loc Cert.QgIdeal.main_arg1)) →
    ∃ (v0 : (c : Dev Cert.QgIdeal.nD) → Buf (Elt Ideal) ((c.tc : Thread Cert.QgIdeal.nD Cert.QgIdeal.τ).loc Cert.QgIdeal.main_v3_0)) (v1 : (c : Dev Cert.QgIdeal.nD) → Buf (Elt Ideal) ((c.tc : Thread Cert.QgIdeal.nD Cert.QgIdeal.τ).loc Cert.QgIdeal.main_v3_1)),
      θ_run (Cert.QgIdeal.defs (F := Ideal)) (onTc (τ := Cert.QgIdeal.τ) (Cert.QgIdeal.main (F := Ideal))) ⟨m, fun _ => 0, g⟩ (fun r => ∀ c : Dev Cert.QgIdeal.nD,
          r.2.mem ((c.tc : Thread Cert.QgIdeal.nD Cert.QgIdeal.τ).loc Cert.QgIdeal.main_v3_0) = v0 c
          ∧ r.2.mem ((c.tc : Thread Cert.QgIdeal.nD Cert.QgIdeal.τ).loc Cert.QgIdeal.main_v3_1) = v1 c
          ∧ r.2.mem ((c.tc : Thread Cert.QgIdeal.nD Cert.QgIdeal.τ).loc Cert.QgIdeal.main_arg0) = m ((c.tc : Thread Cert.QgIdeal.nD Cert.QgIdeal.τ).loc Cert.QgIdeal.main_arg0)
          ∧ r.2.mem ((c.tc : Thread Cert.QgIdeal.nD Cert.QgIdeal.τ).loc Cert.QgIdeal.main_arg1) = m ((c.tc : Thread Cert.QgIdeal.nD Cert.QgIdeal.τ).loc Cert.QgIdeal.main_arg1))
      ∧ θ_run (Cert.QgRefIdeal.defs (F := Ideal)) (onTc (τ := Cert.QgRefIdeal.τ) (Cert.QgRefIdeal.main (F := Ideal))) ⟨m', fun _ => 0, g'⟩ (fun r => ∀ c : Dev Cert.QgRefIdeal.nD,
          r.2.mem ((c.tc : Thread Cert.QgRefIdeal.nD Cert.QgRefIdeal.τ).loc Cert.QgRefIdeal.main_v6) = v0 c
          ∧ r.2.mem ((c.tc : Thread Cert.QgRefIdeal.nD Cert.QgRefIdeal.τ).loc Cert.QgRefIdeal.main_v8) = v1 c
          ∧ r.2.mem ((c.tc : Thread Cert.QgRefIdeal.nD Cert.QgRefIdeal.τ).loc Cert.QgRefIdeal.main_arg0) = m' ((c.tc : Thread Cert.QgRefIdeal.nD Cert.QgRefIdeal.τ).loc Cert.QgRefIdeal.main_arg0)
          ∧ r.2.mem ((c.tc : Thread Cert.QgRefIdeal.nD Cert.QgRefIdeal.τ).loc Cert.QgRefIdeal.main_arg1) = m' ((c.tc : Thread Cert.QgRefIdeal.nD Cert.QgRefIdeal.τ).loc Cert.QgRefIdeal.main_arg1))

def preserves_QgS_QgSIdeal : Prop :=
  True

def algebraic_QgSIdeal_QgSRefIdeal [hQgSIdeal : Cert.QgSIdeal.Facts] [hQgSRefIdeal : Cert.QgSRefIdeal.Facts] : Prop :=
  ∀ (m : (ℓ : Loc Cert.QgSIdeal.nD Cert.QgSIdeal.τ Cert.QgSIdeal.sig) → Buf (Elt Ideal) ℓ) (g : Dev Cert.QgSIdeal.nD → PrngReg)
    (m' : (ℓ : Loc Cert.QgSRefIdeal.nD Cert.QgSRefIdeal.τ Cert.QgSRefIdeal.sig) → Buf (Elt Ideal) ℓ) (g' : Dev Cert.QgSRefIdeal.nD → PrngReg), Pre_QgSIdeal m →
    (∀ c : Dev Cert.QgSIdeal.nD,
      m' ((c.tc : Thread Cert.QgSRefIdeal.nD Cert.QgSRefIdeal.τ).loc Cert.QgSRefIdeal.main_arg0) = m ((c.tc : Thread Cert.QgSIdeal.nD Cert.QgSIdeal.τ).loc Cert.QgSIdeal.main_arg0)
      ∧ m' ((c.tc : Thread Cert.QgSRefIdeal.nD Cert.QgSRefIdeal.τ).loc Cert.QgSRefIdeal.main_arg1) = m ((c.tc : Thread Cert.QgSIdeal.nD Cert.QgSIdeal.τ).loc Cert.QgSIdeal.main_arg1)) →
    ∃ (v0 : (c : Dev Cert.QgSIdeal.nD) → Buf (Elt Ideal) ((c.tc : Thread Cert.QgSIdeal.nD Cert.QgSIdeal.τ).loc Cert.QgSIdeal.main_v3_0)) (v1 : (c : Dev Cert.QgSIdeal.nD) → Buf (Elt Ideal) ((c.tc : Thread Cert.QgSIdeal.nD Cert.QgSIdeal.τ).loc Cert.QgSIdeal.main_v3_1)),
      θ_run (Cert.QgSIdeal.defs (F := Ideal)) (onTc (τ := Cert.QgSIdeal.τ) (Cert.QgSIdeal.main (F := Ideal))) ⟨m, fun _ => 0, g⟩ (fun r => ∀ c : Dev Cert.QgSIdeal.nD,
          r.2.mem ((c.tc : Thread Cert.QgSIdeal.nD Cert.QgSIdeal.τ).loc Cert.QgSIdeal.main_v3_0) = v0 c
          ∧ r.2.mem ((c.tc : Thread Cert.QgSIdeal.nD Cert.QgSIdeal.τ).loc Cert.QgSIdeal.main_v3_1) = v1 c
          ∧ r.2.mem ((c.tc : Thread Cert.QgSIdeal.nD Cert.QgSIdeal.τ).loc Cert.QgSIdeal.main_arg0) = m ((c.tc : Thread Cert.QgSIdeal.nD Cert.QgSIdeal.τ).loc Cert.QgSIdeal.main_arg0)
          ∧ r.2.mem ((c.tc : Thread Cert.QgSIdeal.nD Cert.QgSIdeal.τ).loc Cert.QgSIdeal.main_arg1) = m ((c.tc : Thread Cert.QgSIdeal.nD Cert.QgSIdeal.τ).loc Cert.QgSIdeal.main_arg1))
      ∧ θ_run (Cert.QgSRefIdeal.defs (F := Ideal)) (onTc (τ := Cert.QgSRefIdeal.τ) (Cert.QgSRefIdeal.main (F := Ideal))) ⟨m', fun _ => 0, g'⟩ (fun r => ∀ c : Dev Cert.QgSRefIdeal.nD,
          r.2.mem ((c.tc : Thread Cert.QgSRefIdeal.nD Cert.QgSRefIdeal.τ).loc Cert.QgSRefIdeal.main_v6) = v0 c
          ∧ r.2.mem ((c.tc : Thread Cert.QgSRefIdeal.nD Cert.QgSRefIdeal.τ).loc Cert.QgSRefIdeal.main_v8) = v1 c
          ∧ r.2.mem ((c.tc : Thread Cert.QgSRefIdeal.nD Cert.QgSRefIdeal.τ).loc Cert.QgSRefIdeal.main_arg0) = m' ((c.tc : Thread Cert.QgSRefIdeal.nD Cert.QgSRefIdeal.τ).loc Cert.QgSRefIdeal.main_arg0)
          ∧ r.2.mem ((c.tc : Thread Cert.QgSRefIdeal.nD Cert.QgSRefIdeal.τ).loc Cert.QgSRefIdeal.main_arg1) = m' ((c.tc : Thread Cert.QgSRefIdeal.nD Cert.QgSRefIdeal.τ).loc Cert.QgSRefIdeal.main_arg1))

def preserves_Cmp_CmpIdeal : Prop :=
  True

def algebraic_CmpIdeal_CmpRefIdeal [hCmpIdeal : Cert.CmpIdeal.Facts] [hCmpRefIdeal : Cert.CmpRefIdeal.Facts] [hPre_pages_in_pool : Cert.Pre_pages_in_pool.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)) →
    ∃ (v0 : (c : Dev Cert.CmpIdeal.nD) → Buf (Elt Ideal) ((c.tc : Thread Cert.CmpIdeal.nD Cert.CmpIdeal.τ).loc Cert.CmpIdeal.main_v9)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v9) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v46) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6))

def preserves_WinS_WinSIdeal : Prop :=
  True

def algebraic_WinSIdeal_WinSRefIdeal [hWinSIdeal : Cert.WinSIdeal.Facts] [hWinSRefIdeal : Cert.WinSRefIdeal.Facts] [hPre_pages_named : Cert.Pre_pages_named.Facts] : Prop :=
  ∀ (m : (ℓ : Loc Cert.WinSIdeal.nD Cert.WinSIdeal.τ Cert.WinSIdeal.sig) → Buf (Elt Ideal) ℓ) (g : Dev Cert.WinSIdeal.nD → PrngReg)
    (m' : (ℓ : Loc Cert.WinSRefIdeal.nD Cert.WinSRefIdeal.τ Cert.WinSRefIdeal.sig) → Buf (Elt Ideal) ℓ) (g' : Dev Cert.WinSRefIdeal.nD → PrngReg), Pre_WinSIdeal m →
    (∀ c : Dev Cert.WinSIdeal.nD,
      m' ((c.tc : Thread Cert.WinSRefIdeal.nD Cert.WinSRefIdeal.τ).loc Cert.WinSRefIdeal.main_arg0) = m ((c.tc : Thread Cert.WinSIdeal.nD Cert.WinSIdeal.τ).loc Cert.WinSIdeal.main_arg0)
      ∧ m' ((c.tc : Thread Cert.WinSRefIdeal.nD Cert.WinSRefIdeal.τ).loc Cert.WinSRefIdeal.main_arg1) = m ((c.tc : Thread Cert.WinSIdeal.nD Cert.WinSIdeal.τ).loc Cert.WinSIdeal.main_arg1)
      ∧ m' ((c.tc : Thread Cert.WinSRefIdeal.nD Cert.WinSRefIdeal.τ).loc Cert.WinSRefIdeal.main_arg2) = m ((c.tc : Thread Cert.WinSIdeal.nD Cert.WinSIdeal.τ).loc Cert.WinSIdeal.main_arg2)
      ∧ m' ((c.tc : Thread Cert.WinSRefIdeal.nD Cert.WinSRefIdeal.τ).loc Cert.WinSRefIdeal.main_arg3) = m ((c.tc : Thread Cert.WinSIdeal.nD Cert.WinSIdeal.τ).loc Cert.WinSIdeal.main_arg3)
      ∧ m' ((c.tc : Thread Cert.WinSRefIdeal.nD Cert.WinSRefIdeal.τ).loc Cert.WinSRefIdeal.main_arg4) = m ((c.tc : Thread Cert.WinSIdeal.nD Cert.WinSIdeal.τ).loc Cert.WinSIdeal.main_arg4)
      ∧ m' ((c.tc : Thread Cert.WinSRefIdeal.nD Cert.WinSRefIdeal.τ).loc Cert.WinSRefIdeal.main_arg5) = m ((c.tc : Thread Cert.WinSIdeal.nD Cert.WinSIdeal.τ).loc Cert.WinSIdeal.main_arg5)
      ∧ m' ((c.tc : Thread Cert.WinSRefIdeal.nD Cert.WinSRefIdeal.τ).loc Cert.WinSRefIdeal.main_arg6) = m ((c.tc : Thread Cert.WinSIdeal.nD Cert.WinSIdeal.τ).loc Cert.WinSIdeal.main_arg6)
      ∧ m' ((c.tc : Thread Cert.WinSRefIdeal.nD Cert.WinSRefIdeal.τ).loc Cert.WinSRefIdeal.main_arg7) = m ((c.tc : Thread Cert.WinSIdeal.nD Cert.WinSIdeal.τ).loc Cert.WinSIdeal.main_arg7)
      ∧ m' ((c.tc : Thread Cert.WinSRefIdeal.nD Cert.WinSRefIdeal.τ).loc Cert.WinSRefIdeal.main_arg8) = m ((c.tc : Thread Cert.WinSIdeal.nD Cert.WinSIdeal.τ).loc Cert.WinSIdeal.main_arg8)
      ∧ m' ((c.tc : Thread Cert.WinSRefIdeal.nD Cert.WinSRefIdeal.τ).loc Cert.WinSRefIdeal.main_arg9) = m ((c.tc : Thread Cert.WinSIdeal.nD Cert.WinSIdeal.τ).loc Cert.WinSIdeal.main_arg9)
      ∧ m' ((c.tc : Thread Cert.WinSRefIdeal.nD Cert.WinSRefIdeal.τ).loc Cert.WinSRefIdeal.main_arg10) = m ((c.tc : Thread Cert.WinSIdeal.nD Cert.WinSIdeal.τ).loc Cert.WinSIdeal.main_arg10)
      ∧ m' ((c.tc : Thread Cert.WinSRefIdeal.nD Cert.WinSRefIdeal.τ).loc Cert.WinSRefIdeal.main_arg11) = m ((c.tc : Thread Cert.WinSIdeal.nD Cert.WinSIdeal.τ).loc Cert.WinSIdeal.main_arg11)
      ∧ m' ((c.tc : Thread Cert.WinSRefIdeal.nD Cert.WinSRefIdeal.τ).loc Cert.WinSRefIdeal.main_arg12) = m ((c.tc : Thread Cert.WinSIdeal.nD Cert.WinSIdeal.τ).loc Cert.WinSIdeal.main_arg12)
      ∧ m' ((c.tc : Thread Cert.WinSRefIdeal.nD Cert.WinSRefIdeal.τ).loc Cert.WinSRefIdeal.main_arg13) = m ((c.tc : Thread Cert.WinSIdeal.nD Cert.WinSIdeal.τ).loc Cert.WinSIdeal.main_arg13)
      ∧ m' ((c.tc : Thread Cert.WinSRefIdeal.nD Cert.WinSRefIdeal.τ).loc Cert.WinSRefIdeal.main_arg14) = m ((c.tc : Thread Cert.WinSIdeal.nD Cert.WinSIdeal.τ).loc Cert.WinSIdeal.main_arg14)
      ∧ m' ((c.tc : Thread Cert.WinSRefIdeal.nD Cert.WinSRefIdeal.τ).loc Cert.WinSRefIdeal.main_arg15) = m ((c.tc : Thread Cert.WinSIdeal.nD Cert.WinSIdeal.τ).loc Cert.WinSIdeal.main_arg15)) →
    ∃ (v0 : (c : Dev Cert.WinSIdeal.nD) → Buf (Elt Ideal) ((c.tc : Thread Cert.WinSIdeal.nD Cert.WinSIdeal.τ).loc Cert.WinSIdeal.main_v54_1)) (v1 : (c : Dev Cert.WinSIdeal.nD) → Buf (Elt Ideal) ((c.tc : Thread Cert.WinSIdeal.nD Cert.WinSIdeal.τ).loc Cert.WinSIdeal.main_v54_2)),
      θ_run (Cert.WinSIdeal.defs (F := Ideal)) (onTc (τ := Cert.WinSIdeal.τ) (Cert.WinSIdeal.main (F := Ideal))) ⟨m, fun _ => 0, g⟩ (fun r => ∀ c : Dev Cert.WinSIdeal.nD,
          r.2.mem ((c.tc : Thread Cert.WinSIdeal.nD Cert.WinSIdeal.τ).loc Cert.WinSIdeal.main_v54_1) = v0 c
          ∧ r.2.mem ((c.tc : Thread Cert.WinSIdeal.nD Cert.WinSIdeal.τ).loc Cert.WinSIdeal.main_v54_2) = v1 c
          ∧ r.2.mem ((c.tc : Thread Cert.WinSIdeal.nD Cert.WinSIdeal.τ).loc Cert.WinSIdeal.main_arg0) = m ((c.tc : Thread Cert.WinSIdeal.nD Cert.WinSIdeal.τ).loc Cert.WinSIdeal.main_arg0)
          ∧ r.2.mem ((c.tc : Thread Cert.WinSIdeal.nD Cert.WinSIdeal.τ).loc Cert.WinSIdeal.main_arg1) = m ((c.tc : Thread Cert.WinSIdeal.nD Cert.WinSIdeal.τ).loc Cert.WinSIdeal.main_arg1)
          ∧ r.2.mem ((c.tc : Thread Cert.WinSIdeal.nD Cert.WinSIdeal.τ).loc Cert.WinSIdeal.main_arg2) = m ((c.tc : Thread Cert.WinSIdeal.nD Cert.WinSIdeal.τ).loc Cert.WinSIdeal.main_arg2)
          ∧ r.2.mem ((c.tc : Thread Cert.WinSIdeal.nD Cert.WinSIdeal.τ).loc Cert.WinSIdeal.main_arg3) = m ((c.tc : Thread Cert.WinSIdeal.nD Cert.WinSIdeal.τ).loc Cert.WinSIdeal.main_arg3)
          ∧ r.2.mem ((c.tc : Thread Cert.WinSIdeal.nD Cert.WinSIdeal.τ).loc Cert.WinSIdeal.main_arg4) = m ((c.tc : Thread Cert.WinSIdeal.nD Cert.WinSIdeal.τ).loc Cert.WinSIdeal.main_arg4)
          ∧ r.2.mem ((c.tc : Thread Cert.WinSIdeal.nD Cert.WinSIdeal.τ).loc Cert.WinSIdeal.main_arg5) = m ((c.tc : Thread Cert.WinSIdeal.nD Cert.WinSIdeal.τ).loc Cert.WinSIdeal.main_arg5)
          ∧ r.2.mem ((c.tc : Thread Cert.WinSIdeal.nD Cert.WinSIdeal.τ).loc Cert.WinSIdeal.main_arg6) = m ((c.tc : Thread Cert.WinSIdeal.nD Cert.WinSIdeal.τ).loc Cert.WinSIdeal.main_arg6)
          ∧ r.2.mem ((c.tc : Thread Cert.WinSIdeal.nD Cert.WinSIdeal.τ).loc Cert.WinSIdeal.main_arg7) = m ((c.tc : Thread Cert.WinSIdeal.nD Cert.WinSIdeal.τ).loc Cert.WinSIdeal.main_arg7)
          ∧ r.2.mem ((c.tc : Thread Cert.WinSIdeal.nD Cert.WinSIdeal.τ).loc Cert.WinSIdeal.main_arg8) = m ((c.tc : Thread Cert.WinSIdeal.nD Cert.WinSIdeal.τ).loc Cert.WinSIdeal.main_arg8)
          ∧ r.2.mem ((c.tc : Thread Cert.WinSIdeal.nD Cert.WinSIdeal.τ).loc Cert.WinSIdeal.main_arg9) = m ((c.tc : Thread Cert.WinSIdeal.nD Cert.WinSIdeal.τ).loc Cert.WinSIdeal.main_arg9)
          ∧ r.2.mem ((c.tc : Thread Cert.WinSIdeal.nD Cert.WinSIdeal.τ).loc Cert.WinSIdeal.main_arg10) = m ((c.tc : Thread Cert.WinSIdeal.nD Cert.WinSIdeal.τ).loc Cert.WinSIdeal.main_arg10)
          ∧ r.2.mem ((c.tc : Thread Cert.WinSIdeal.nD Cert.WinSIdeal.τ).loc Cert.WinSIdeal.main_arg11) = m ((c.tc : Thread Cert.WinSIdeal.nD Cert.WinSIdeal.τ).loc Cert.WinSIdeal.main_arg11)
          ∧ r.2.mem ((c.tc : Thread Cert.WinSIdeal.nD Cert.WinSIdeal.τ).loc Cert.WinSIdeal.main_arg12) = m ((c.tc : Thread Cert.WinSIdeal.nD Cert.WinSIdeal.τ).loc Cert.WinSIdeal.main_arg12)
          ∧ r.2.mem ((c.tc : Thread Cert.WinSIdeal.nD Cert.WinSIdeal.τ).loc Cert.WinSIdeal.main_arg13) = m ((c.tc : Thread Cert.WinSIdeal.nD Cert.WinSIdeal.τ).loc Cert.WinSIdeal.main_arg13)
          ∧ r.2.mem ((c.tc : Thread Cert.WinSIdeal.nD Cert.WinSIdeal.τ).loc Cert.WinSIdeal.main_arg14) = m ((c.tc : Thread Cert.WinSIdeal.nD Cert.WinSIdeal.τ).loc Cert.WinSIdeal.main_arg14)
          ∧ r.2.mem ((c.tc : Thread Cert.WinSIdeal.nD Cert.WinSIdeal.τ).loc Cert.WinSIdeal.main_arg15) = m ((c.tc : Thread Cert.WinSIdeal.nD Cert.WinSIdeal.τ).loc Cert.WinSIdeal.main_arg15))
      ∧ θ_run (Cert.WinSRefIdeal.defs (F := Ideal)) (onTc (τ := Cert.WinSRefIdeal.τ) (Cert.WinSRefIdeal.main (F := Ideal))) ⟨m', fun _ => 0, g'⟩ (fun r => ∀ c : Dev Cert.WinSRefIdeal.nD,
          r.2.mem ((c.tc : Thread Cert.WinSRefIdeal.nD Cert.WinSRefIdeal.τ).loc Cert.WinSRefIdeal.main_v4) = v0 c
          ∧ r.2.mem ((c.tc : Thread Cert.WinSRefIdeal.nD Cert.WinSRefIdeal.τ).loc Cert.WinSRefIdeal.main_v5) = v1 c
          ∧ r.2.mem ((c.tc : Thread Cert.WinSRefIdeal.nD Cert.WinSRefIdeal.τ).loc Cert.WinSRefIdeal.main_arg0) = m' ((c.tc : Thread Cert.WinSRefIdeal.nD Cert.WinSRefIdeal.τ).loc Cert.WinSRefIdeal.main_arg0)
          ∧ r.2.mem ((c.tc : Thread Cert.WinSRefIdeal.nD Cert.WinSRefIdeal.τ).loc Cert.WinSRefIdeal.main_arg1) = m' ((c.tc : Thread Cert.WinSRefIdeal.nD Cert.WinSRefIdeal.τ).loc Cert.WinSRefIdeal.main_arg1)
          ∧ r.2.mem ((c.tc : Thread Cert.WinSRefIdeal.nD Cert.WinSRefIdeal.τ).loc Cert.WinSRefIdeal.main_arg2) = m' ((c.tc : Thread Cert.WinSRefIdeal.nD Cert.WinSRefIdeal.τ).loc Cert.WinSRefIdeal.main_arg2)
          ∧ r.2.mem ((c.tc : Thread Cert.WinSRefIdeal.nD Cert.WinSRefIdeal.τ).loc Cert.WinSRefIdeal.main_arg3) = m' ((c.tc : Thread Cert.WinSRefIdeal.nD Cert.WinSRefIdeal.τ).loc Cert.WinSRefIdeal.main_arg3)
          ∧ r.2.mem ((c.tc : Thread Cert.WinSRefIdeal.nD Cert.WinSRefIdeal.τ).loc Cert.WinSRefIdeal.main_arg4) = m' ((c.tc : Thread Cert.WinSRefIdeal.nD Cert.WinSRefIdeal.τ).loc Cert.WinSRefIdeal.main_arg4)
          ∧ r.2.mem ((c.tc : Thread Cert.WinSRefIdeal.nD Cert.WinSRefIdeal.τ).loc Cert.WinSRefIdeal.main_arg5) = m' ((c.tc : Thread Cert.WinSRefIdeal.nD Cert.WinSRefIdeal.τ).loc Cert.WinSRefIdeal.main_arg5)
          ∧ r.2.mem ((c.tc : Thread Cert.WinSRefIdeal.nD Cert.WinSRefIdeal.τ).loc Cert.WinSRefIdeal.main_arg6) = m' ((c.tc : Thread Cert.WinSRefIdeal.nD Cert.WinSRefIdeal.τ).loc Cert.WinSRefIdeal.main_arg6)
          ∧ r.2.mem ((c.tc : Thread Cert.WinSRefIdeal.nD Cert.WinSRefIdeal.τ).loc Cert.WinSRefIdeal.main_arg7) = m' ((c.tc : Thread Cert.WinSRefIdeal.nD Cert.WinSRefIdeal.τ).loc Cert.WinSRefIdeal.main_arg7)
          ∧ r.2.mem ((c.tc : Thread Cert.WinSRefIdeal.nD Cert.WinSRefIdeal.τ).loc Cert.WinSRefIdeal.main_arg8) = m' ((c.tc : Thread Cert.WinSRefIdeal.nD Cert.WinSRefIdeal.τ).loc Cert.WinSRefIdeal.main_arg8)
          ∧ r.2.mem ((c.tc : Thread Cert.WinSRefIdeal.nD Cert.WinSRefIdeal.τ).loc Cert.WinSRefIdeal.main_arg9) = m' ((c.tc : Thread Cert.WinSRefIdeal.nD Cert.WinSRefIdeal.τ).loc Cert.WinSRefIdeal.main_arg9)
          ∧ r.2.mem ((c.tc : Thread Cert.WinSRefIdeal.nD Cert.WinSRefIdeal.τ).loc Cert.WinSRefIdeal.main_arg10) = m' ((c.tc : Thread Cert.WinSRefIdeal.nD Cert.WinSRefIdeal.τ).loc Cert.WinSRefIdeal.main_arg10)
          ∧ r.2.mem ((c.tc : Thread Cert.WinSRefIdeal.nD Cert.WinSRefIdeal.τ).loc Cert.WinSRefIdeal.main_arg11) = m' ((c.tc : Thread Cert.WinSRefIdeal.nD Cert.WinSRefIdeal.τ).loc Cert.WinSRefIdeal.main_arg11)
          ∧ r.2.mem ((c.tc : Thread Cert.WinSRefIdeal.nD Cert.WinSRefIdeal.τ).loc Cert.WinSRefIdeal.main_arg12) = m' ((c.tc : Thread Cert.WinSRefIdeal.nD Cert.WinSRefIdeal.τ).loc Cert.WinSRefIdeal.main_arg12)
          ∧ r.2.mem ((c.tc : Thread Cert.WinSRefIdeal.nD Cert.WinSRefIdeal.τ).loc Cert.WinSRefIdeal.main_arg13) = m' ((c.tc : Thread Cert.WinSRefIdeal.nD Cert.WinSRefIdeal.τ).loc Cert.WinSRefIdeal.main_arg13)
          ∧ r.2.mem ((c.tc : Thread Cert.WinSRefIdeal.nD Cert.WinSRefIdeal.τ).loc Cert.WinSRefIdeal.main_arg14) = m' ((c.tc : Thread Cert.WinSRefIdeal.nD Cert.WinSRefIdeal.τ).loc Cert.WinSRefIdeal.main_arg14)
          ∧ r.2.mem ((c.tc : Thread Cert.WinSRefIdeal.nD Cert.WinSRefIdeal.τ).loc Cert.WinSRefIdeal.main_arg15) = m' ((c.tc : Thread Cert.WinSRefIdeal.nD Cert.WinSRefIdeal.τ).loc Cert.WinSRefIdeal.main_arg15))

def Claim : Prop :=
  ∃ (hGlu : Cert.Glu.Facts) (hGluIdeal : Cert.GluIdeal.Facts) (hGluRefIdeal : Cert.GluRefIdeal.Facts) (hGluS : Cert.GluS.Facts) (hGluSIdeal : Cert.GluSIdeal.Facts) (hGluSRefIdeal : Cert.GluSRefIdeal.Facts) (hSwi : Cert.Swi.Facts) (hSwiIdeal : Cert.SwiIdeal.Facts) (hSwiRefIdeal : Cert.SwiRefIdeal.Facts) (hSwiS : Cert.SwiS.Facts) (hSwiSIdeal : Cert.SwiSIdeal.Facts) (hSwiSRefIdeal : Cert.SwiSRefIdeal.Facts) (hFo : Cert.Fo.Facts) (hFoIdeal : Cert.FoIdeal.Facts) (hFoRefIdeal : Cert.FoRefIdeal.Facts) (hFoS : Cert.FoS.Facts) (hFoSIdeal : Cert.FoSIdeal.Facts) (hFoSRefIdeal : Cert.FoSRefIdeal.Facts) (hMix : Cert.Mix.Facts) (hMixIdeal : Cert.MixIdeal.Facts) (hMixRefIdeal : Cert.MixRefIdeal.Facts) (hMixS : Cert.MixS.Facts) (hMixSIdeal : Cert.MixSIdeal.Facts) (hMixSRefIdeal : Cert.MixSRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hQg : Cert.Qg.Facts) (hQgIdeal : Cert.QgIdeal.Facts) (hQgRefIdeal : Cert.QgRefIdeal.Facts) (hQgS : Cert.QgS.Facts) (hQgSIdeal : Cert.QgSIdeal.Facts) (hQgSRefIdeal : Cert.QgSRefIdeal.Facts) (hCmp : Cert.Cmp.Facts) (hCmpIdeal : Cert.CmpIdeal.Facts) (hCmpRefIdeal : Cert.CmpRefIdeal.Facts) (hWinS : Cert.WinS.Facts) (hWinSIdeal : Cert.WinSIdeal.Facts) (hWinSRefIdeal : Cert.WinSRefIdeal.Facts) (hPre_pages_in_pool : Cert.Pre_pages_in_pool.Facts) (hPre_pages_named : Cert.Pre_pages_named.Facts),
    quiescent_Glu (hGlu := hGlu)
    ∧ quiescent_GluIdeal (hGluIdeal := hGluIdeal)
    ∧ quiescent_GluRefIdeal (hGluRefIdeal := hGluRefIdeal)
    ∧ quiescent_GluS (hGluS := hGluS)
    ∧ quiescent_GluSIdeal (hGluSIdeal := hGluSIdeal)
    ∧ quiescent_GluSRefIdeal (hGluSRefIdeal := hGluSRefIdeal)
    ∧ quiescent_Swi (hSwi := hSwi)
    ∧ quiescent_SwiIdeal (hSwiIdeal := hSwiIdeal)
    ∧ quiescent_SwiRefIdeal (hSwiRefIdeal := hSwiRefIdeal)
    ∧ quiescent_SwiS (hSwiS := hSwiS)
    ∧ quiescent_SwiSIdeal (hSwiSIdeal := hSwiSIdeal)
    ∧ quiescent_SwiSRefIdeal (hSwiSRefIdeal := hSwiSRefIdeal)
    ∧ quiescent_Fo (hFo := hFo)
    ∧ quiescent_FoIdeal (hFoIdeal := hFoIdeal)
    ∧ quiescent_FoRefIdeal (hFoRefIdeal := hFoRefIdeal)
    ∧ quiescent_FoS (hFoS := hFoS)
    ∧ quiescent_FoSIdeal (hFoSIdeal := hFoSIdeal)
    ∧ quiescent_FoSRefIdeal (hFoSRefIdeal := hFoSRefIdeal)
    ∧ quiescent_Mix (hMix := hMix)
    ∧ quiescent_MixIdeal (hMixIdeal := hMixIdeal)
    ∧ quiescent_MixRefIdeal (hMixRefIdeal := hMixRefIdeal)
    ∧ quiescent_MixS (hMixS := hMixS)
    ∧ quiescent_MixSIdeal (hMixSIdeal := hMixSIdeal)
    ∧ quiescent_MixSRefIdeal (hMixSRefIdeal := hMixSRefIdeal)
    ∧ quiescent_Kv (hKv := hKv)
    ∧ quiescent_KvIdeal (hKvIdeal := hKvIdeal)
    ∧ quiescent_KvRefIdeal (hKvRefIdeal := hKvRefIdeal)
    ∧ quiescent_KvS (hKvS := hKvS)
    ∧ quiescent_KvSIdeal (hKvSIdeal := hKvSIdeal)
    ∧ quiescent_KvSRefIdeal (hKvSRefIdeal := hKvSRefIdeal)
    ∧ quiescent_Qg (hQg := hQg)
    ∧ quiescent_QgIdeal (hQgIdeal := hQgIdeal)
    ∧ quiescent_QgRefIdeal (hQgRefIdeal := hQgRefIdeal)
    ∧ quiescent_QgS (hQgS := hQgS)
    ∧ quiescent_QgSIdeal (hQgSIdeal := hQgSIdeal)
    ∧ quiescent_QgSRefIdeal (hQgSRefIdeal := hQgSRefIdeal)
    ∧ quiescent_Cmp (hCmp := hCmp) (hPre_pages_in_pool := hPre_pages_in_pool)
    ∧ quiescent_CmpIdeal (hCmpIdeal := hCmpIdeal) (hPre_pages_in_pool := hPre_pages_in_pool)
    ∧ quiescent_CmpRefIdeal (hCmpRefIdeal := hCmpRefIdeal) (hPre_pages_in_pool := hPre_pages_in_pool)
    ∧ quiescent_WinS (hWinS := hWinS) (hPre_pages_named := hPre_pages_named)
    ∧ quiescent_WinSIdeal (hWinSIdeal := hWinSIdeal) (hPre_pages_named := hPre_pages_named)
    ∧ quiescent_WinSRefIdeal (hWinSRefIdeal := hWinSRefIdeal) (hPre_pages_named := hPre_pages_named)
    ∧ preserves_Glu_GluIdeal
    ∧ algebraic_GluIdeal_GluRefIdeal (hGluIdeal := hGluIdeal) (hGluRefIdeal := hGluRefIdeal)
    ∧ preserves_GluS_GluSIdeal
    ∧ algebraic_GluSIdeal_GluSRefIdeal (hGluSIdeal := hGluSIdeal) (hGluSRefIdeal := hGluSRefIdeal)
    ∧ preserves_Swi_SwiIdeal
    ∧ algebraic_SwiIdeal_SwiRefIdeal (hSwiIdeal := hSwiIdeal) (hSwiRefIdeal := hSwiRefIdeal)
    ∧ preserves_SwiS_SwiSIdeal
    ∧ algebraic_SwiSIdeal_SwiSRefIdeal (hSwiSIdeal := hSwiSIdeal) (hSwiSRefIdeal := hSwiSRefIdeal)
    ∧ preserves_Fo_FoIdeal
    ∧ algebraic_FoIdeal_FoRefIdeal (hFoIdeal := hFoIdeal) (hFoRefIdeal := hFoRefIdeal)
    ∧ preserves_FoS_FoSIdeal
    ∧ algebraic_FoSIdeal_FoSRefIdeal (hFoSIdeal := hFoSIdeal) (hFoSRefIdeal := hFoSRefIdeal)
    ∧ preserves_Mix_MixIdeal
    ∧ algebraic_MixIdeal_MixRefIdeal (hMixIdeal := hMixIdeal) (hMixRefIdeal := hMixRefIdeal)
    ∧ preserves_MixS_MixSIdeal
    ∧ algebraic_MixSIdeal_MixSRefIdeal (hMixSIdeal := hMixSIdeal) (hMixSRefIdeal := hMixSRefIdeal)
    ∧ preserves_Kv_KvIdeal
    ∧ algebraic_KvIdeal_KvRefIdeal (hKvIdeal := hKvIdeal) (hKvRefIdeal := hKvRefIdeal)
    ∧ preserves_KvS_KvSIdeal
    ∧ algebraic_KvSIdeal_KvSRefIdeal (hKvSIdeal := hKvSIdeal) (hKvSRefIdeal := hKvSRefIdeal)
    ∧ preserves_Qg_QgIdeal
    ∧ algebraic_QgIdeal_QgRefIdeal (hQgIdeal := hQgIdeal) (hQgRefIdeal := hQgRefIdeal)
    ∧ preserves_QgS_QgSIdeal
    ∧ algebraic_QgSIdeal_QgSRefIdeal (hQgSIdeal := hQgSIdeal) (hQgSRefIdeal := hQgSRefIdeal)
    ∧ preserves_Cmp_CmpIdeal
    ∧ algebraic_CmpIdeal_CmpRefIdeal (hCmpIdeal := hCmpIdeal) (hCmpRefIdeal := hCmpRefIdeal) (hPre_pages_in_pool := hPre_pages_in_pool)
    ∧ preserves_WinS_WinSIdeal
    ∧ algebraic_WinSIdeal_WinSRefIdeal (hWinSIdeal := hWinSIdeal) (hWinSRefIdeal := hWinSRefIdeal) (hPre_pages_named := hPre_pages_named)
-- ==== Pre_pages_in_pool.lean ====
abbrev S2560x128x4x128 : Shape := ⟨4, ![2560, 128, 4, 128]⟩
abbrev S128x16 : Shape := ⟨2, ![128, 16]⟩
abbrev S1x128 : Shape := ⟨2, ![1, 128]⟩
abbrev S4096x128 : Shape := ⟨2, ![4096, 128]⟩
abbrev S128 : Shape := ⟨1, ![128]⟩
abbrev S128x128 : Shape := ⟨2, ![128, 128]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S2560x128x4x128 .f32) (main_arg1 : IVec S128x16 32) (main_arg2 : FVec F S1x128 .f32) (main_arg3 : FVec F S4096x128 .f32) (main_arg4 : FVec F S128 .f32) (main_arg5 : FVec F S128x128 .f32) (main_arg6 : FVec F S128 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg1 main_v0
  let main_c_0 : IVec S_ 32 := constantI S_ 32 2560#32
  let main_v2 : IVec S128x16 32 := broadcastInDim S128x16 ![] bcast_S_S128x16 main_c_0
  let main_v3 : IVec S128x16 1 := cmpi .slt main_arg1 main_v2
  let main_v4 : IVec S128x16 1 := andi main_v1 main_v3
  main_v4
-- ==== Pre_pages_named.lean ====
abbrev S128x16 : Shape := ⟨2, ![128, 16]⟩
abbrev S2560x128x4x128 : Shape := ⟨4, ![2560, 128, 4, 128]⟩
abbrev S1024x2048 : Shape := ⟨2, ![1024, 2048]⟩
abbrev S128x128x3 : Shape := ⟨3, ![128, 128, 3]⟩
abbrev S128x128x512 : Shape := ⟨3, ![128, 128, 512]⟩
abbrev S128x8x4x128 : Shape := ⟨4, ![128, 8, 4, 128]⟩
abbrev S128x512x4x128 : Shape := ⟨4, ![128, 512, 4, 128]⟩
abbrev S128x128 : Shape := ⟨2, ![128, 128]⟩
abbrev S128x2176 : Shape := ⟨2, ![128, 2176]⟩
abbrev S128x640 : Shape := ⟨2, ![128, 640]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S2560x128x4x128 .f32) (main_arg2 : FVec F S2560x128x4x128 .f32) (main_arg3 : FVec F S1024x2048 .bf16) (main_arg4 : FVec F S128x128x3 .f32) (main_arg5 : FVec F S128x128x512 .bf16) (main_arg6 : FVec F S128x128x512 .bf16) (main_arg7 : FVec F S128x8x4x128 .f32) (main_arg8 : FVec F S128x8x4x128 .f32) (main_arg9 : FVec F S128x8x4x128 .f32) (main_arg10 : FVec F S128x8x4x128 .f32) (main_arg11 : FVec F S128x512x4x128 .f32) (main_arg12 : FVec F S128x512x4x128 .f32) (main_arg13 : FVec F S128x128 .f32) (main_arg14 : FVec F S128x2176 .f32) (main_arg15 : FVec F S128x640 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Glu.lean ====
abbrev S2x4096x2048 : Shape := ⟨3, ![2, 4096, 2048]⟩
abbrev S1x2048x4096 : Shape := ⟨3, ![1, 2048, 4096]⟩
abbrev S1x4096 : Shape := ⟨2, ![1, 4096]⟩
abbrev S8192x2048 : Shape := ⟨2, ![8192, 2048]⟩
abbrev S2048x4096 : Shape := ⟨2, ![2048, 4096]⟩
abbrev S4096 : Shape := ⟨1, ![4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048x4096, .f32⟩
  | .hbm, ⟨2, _⟩ => ⟨S1x4096, .f32⟩
  | .hbm, ⟨3, _⟩ => ⟨S8192x2048, .f32⟩
  | .hbm, ⟨4, _⟩ => ⟨S8192x2048, .bf16⟩
  | .hbm, ⟨5, _⟩ => ⟨S2048x4096, .f32⟩
  | .hbm, ⟨6, _⟩ => ⟨S2048x4096, .bf16⟩
  | .hbm, ⟨7, _⟩ => ⟨S4096, .f32⟩
  | .hbm, ⟨8, _⟩ => ⟨S1x4096, .f32⟩
  | .hbm, ⟨9, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S2x4096x2048 : Shape := ⟨3, ![2, 4096, 2048]⟩
abbrev S1x2048x4096 : Shape := ⟨3, ![1, 2048, 4096]⟩
abbrev S1x4096 : Shape := ⟨2, ![1, 4096]⟩
abbrev S2048x4096 : Shape := ⟨2, ![2048, 4096]⟩
abbrev S2x4096x4096 : Shape := ⟨3, ![2, 4096, 4096]⟩
abbrev S4096 : Shape := ⟨1, ![4096]⟩
abbrev S1x1x4096 : Shape := ⟨3, ![1, 1, 4096]⟩
abbrev S_ : Shape := ⟨0, ![]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x4096, .f32⟩
  | .hbm, ⟨2, _⟩ => ⟨S1x4096, .f32⟩
  | .hbm, ⟨3, _⟩ => ⟨S2048x4096, .f32⟩
  | .hbm, ⟨4, _⟩ => ⟨S2x4096x4096, .f32⟩
  | .hbm, ⟨5, _⟩ => ⟨S4096, .f32⟩
  | .hbm, ⟨6, _⟩ => ⟨S1x1x4096, .f32⟩
  | .hbm, ⟨7, _⟩ => ⟨S2x4096x4096, .f32⟩
  | .hbm, ⟨8, _⟩ => ⟨S2x4096x4096, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S_, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== GluS.lean ====
abbrev S128x8x2048 : Shape := ⟨3, ![128, 8, 2048]⟩
abbrev S1x2048x4096 : Shape := ⟨3, ![1, 2048, 4096]⟩
abbrev S1x4096 : Shape := ⟨2, ![1, 4096]⟩
abbrev S1x128x30x2048 : Shape := ⟨4, ![1, 128, 30, 2048]⟩
abbrev S1024x2048 : Shape := ⟨2, ![1024, 2048]⟩
abbrev S2048x4096 : Shape := ⟨2, ![2048, 4096]⟩
abbrev S4096 : Shape := ⟨1, ![4096]⟩
abbrev S2048x512 : Shape := ⟨2, ![2048, 512]⟩
abbrev S1x512 : Shape := ⟨2, ![1, 512]⟩
abbrev S1024x512 : Shape := ⟨2, ![1024, 512]⟩
abbrev S128x30x2048 : Shape := ⟨3, ![128, 30, 2048]⟩
abbrev S128x38x2048 : Shape := ⟨3, ![128, 38, 2048]⟩

abbrev nBuf : Space → Nat
  | .hbm => 16
  | .vmem => 11
  | .smem => 0
  | _ => 0

abbrev bufTy : (tb : Table) → Fin (tcTables nBuf tb) → BufTy
  | .hbm, ⟨0, _⟩ => ⟨S128x8x2048, .f32⟩
  | .hbm, ⟨1, _⟩ => ⟨S1x2048x4096, .f32⟩
  | .hbm, ⟨2, _⟩ => ⟨S1x4096, .f32⟩
  | .hbm, ⟨3, _⟩ => ⟨S1x128x30x2048, .f32⟩
  | .hbm, ⟨4, _⟩ => ⟨S1024x2048, .f32⟩
  | .hbm, ⟨5, _⟩ => ⟨S1024x2048, .bf16⟩
  | .hbm, ⟨6, _⟩ => ⟨S2048x4096, .f32⟩
  | .hbm, ⟨7, _⟩ => ⟨S2048x4096, .bf16⟩
  | .hbm, ⟨8, _⟩ => ⟨S4096, .f32⟩
  | .hbm, ⟨9, _⟩ => ⟨S1x4096, .f32⟩
  | .hbm, ⟨10, _⟩ => ⟨S1024x2048, .f32⟩
  | .hbm, ⟨11, _⟩ => ⟨S128x30x2048, .f32⟩
  | .hbm, ⟨12, _⟩ => ⟨S128x8x2048, .f32⟩
  | .hbm, ⟨13, _⟩ => ⟨S128x38x2048, .f32⟩
  | .hbm, ⟨14, _⟩ => ⟨S128x30x2048, .f32⟩
  | .hbm, ⟨15, _⟩ => ⟨S1x128x30x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluSRefIdeal.lean ====
abbrev S128x8x2048 : Shape := ⟨3, ![128, 8, 2048]⟩
abbrev S1x2048x4096 : Shape := ⟨3, ![1, 2048, 4096]⟩
abbrev S1x4096 : Shape := ⟨2, ![1, 4096]⟩
abbrev S1x128x30x2048 : Shape := ⟨4, ![1, 128, 30, 2048]⟩
abbrev S2048x4096 : Shape := ⟨2, ![2048, 4096]⟩
abbrev S128x8x4096 : Shape := ⟨3, ![128, 8, 4096]⟩
abbrev S4096 : Shape := ⟨1, ![4096]⟩
abbrev S1x1x4096 : Shape := ⟨3, ![1, 1, 4096]⟩
abbrev S_ : Shape := ⟨0, ![]⟩
abbrev S1024x2048 : Shape := ⟨2, ![1024, 2048]⟩
abbrev S128x30x2048 : Shape := ⟨3, ![128, 30, 2048]⟩
abbrev S128x38x2048 : Shape := ⟨3, ![128, 38, 2048]⟩

abbrev nBuf : Space → Nat
  | .hbm => 27
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x4096, .f32⟩
  | .hbm, ⟨2, _⟩ => ⟨S1x4096, .f32⟩
  | .hbm, ⟨3, _⟩ => ⟨S1x128x30x2048, .f32⟩
  | .hbm, ⟨4, _⟩ => ⟨S2048x4096, .f32⟩
  | .hbm, ⟨5, _⟩ => ⟨S128x8x4096, .f32⟩
  | .hbm, ⟨6, _⟩ => ⟨S4096, .f32⟩
  | .hbm, ⟨7, _⟩ => ⟨S1x1x4096, .f32⟩
  | .hbm, ⟨8, _⟩ => ⟨S128x8x4096, .f32⟩
  | .hbm, ⟨9, _⟩ => ⟨S128x8x4096, .f32⟩
  | .hbm, ⟨10, _⟩ => ⟨S128x8x2048, .f32⟩
  | .hbm, ⟨11, _⟩ => ⟨S128x8x2048, .f32⟩
  | .hbm, ⟨12, _⟩ => ⟨S128x8x2048, .f32⟩
  | .hbm, ⟨13, _⟩ => ⟨S128x8x2048, .f32⟩
  | .hbm, ⟨14, _⟩ => ⟨S_, .f32⟩
  | .hbm, ⟨15, _⟩ => ⟨S128x8x2048, .f32⟩
  | .hbm, ⟨16, _⟩ => ⟨S128x8x2048, .f32⟩
  | .hbm, ⟨17, _⟩ => ⟨S_, .f32⟩
  | .hbm, ⟨18, _⟩ => ⟨S128x8x2048, .f32⟩
  | .hbm, ⟨19, _⟩ => ⟨S128x8x2048, .f32⟩
  | .hbm, ⟨20, _⟩ => ⟨S128x8x2048, .f32⟩
  | .hbm, ⟨21, _⟩ => ⟨S1024x2048, .f32⟩
  | .hbm, ⟨22, _⟩ => ⟨S128x30x2048, .f32⟩
  | .hbm, ⟨23, _⟩ => ⟨S128x8x2048, .f32⟩
  | .hbm, ⟨24, _⟩ => ⟨S128x38x2048, .f32⟩
  | .hbm, ⟨25, _⟩ => ⟨S128x30x2048, .f32⟩
  | .hbm, ⟨26, _⟩ => ⟨S1x128x30x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Swi.lean ====
abbrev S8192x2048 : Shape := ⟨2, ![8192, 2048]⟩
abbrev S2048x11264 : Shape := ⟨2, ![2048, 11264]⟩
abbrev S_ : Shape := ⟨0, ![]⟩
abbrev S1x11264 : Shape := ⟨2, ![1, 11264]⟩
abbrev S8192x5632 : Shape := ⟨2, ![8192, 5632]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S2048x11264, .bf16⟩
  | .hbm, ⟨3, _⟩ => ⟨S_, .f32⟩
  | .hbm, ⟨4, _⟩ => ⟨S1x11264, .f32⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwiIdeal.lean ====
abbrev S8192x2048 : Shape := ⟨2, ![8192, 2048]⟩
abbrev S2048x11264 : Shape := ⟨2, ![2048, 11264]⟩
abbrev S_ : Shape := ⟨0, ![]⟩
abbrev S1x11264 : Shape := ⟨2, ![1, 11264]⟩
abbrev S8192x5632 : Shape := ⟨2, ![8192, 5632]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S2048x11264, .bf16⟩
  | .hbm, ⟨3, _⟩ => ⟨S_, .f32⟩
  | .hbm, ⟨4, _⟩ => ⟨S1x11264, .f32⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwiRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SwiS.lean ====
abbrev S1024x2048 : Shape := ⟨2, ![1024, 2048]⟩
abbrev S2048x11264 : Shape := ⟨2, ![2048, 11264]⟩
abbrev S_ : Shape := ⟨0, ![]⟩
abbrev S1x11264 : Shape := ⟨2, ![1, 11264]⟩
abbrev S1024x5632 : Shape := ⟨2, ![1024, 5632]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S1024x2048, .bf16⟩
  | .hbm, ⟨1, _⟩ => ⟨S2048x11264, .f32⟩
  | .hbm, ⟨2, _⟩ => ⟨S2048x11264, .bf16⟩
  | .hbm, ⟨3, _⟩ => ⟨S_, .f32⟩
  | .hbm, ⟨4, _⟩ => ⟨S1x11264, .f32⟩
  | .hbm, ⟨5, _⟩ => ⟨S1024x5632, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwiSRefIdeal.lean ====
abbrev S1024x2048 : Shape := ⟨2, ![1024, 2048]⟩
abbrev S2048x11264 : Shape := ⟨2, ![2048, 11264]⟩
abbrev S1024x11264 : Shape := ⟨2, ![1024, 11264]⟩
abbrev S1024x5632 : Shape := ⟨2, ![1024, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x11264, .f32⟩
  | .hbm, ⟨2, _⟩ => ⟨S1024x2048, .f32⟩
  | .hbm, ⟨3, _⟩ => ⟨S1024x11264, .f32⟩
  | .hbm, ⟨4, _⟩ => ⟨S1024x5632, .f32⟩
  | .hbm, ⟨5, _⟩ => ⟨S1024x5632, .f32⟩
  | .hbm, ⟨6, _⟩ => ⟨S1024x5632, .f32⟩
  | .hbm, ⟨7, _⟩ => ⟨S1024x5632, .f32⟩
  | .hbm, ⟨8, _⟩ => ⟨S_, .f32⟩
  | .hbm, ⟨9, _⟩ => ⟨S1024x5632, .f32⟩
  | .hbm, ⟨10, _⟩ => ⟨S1024x5632, .f32⟩
  | .hbm, ⟨11, _⟩ => ⟨S_, .f32⟩
  | .hbm, ⟨12, _⟩ => ⟨S1024x5632, .f32⟩
  | .hbm, ⟨13, _⟩ => ⟨S1024x5632, .f32⟩
  | .hbm, ⟨14, _⟩ => ⟨S1024x5632, .f32⟩
  | .hbm, ⟨15, _⟩ => ⟨S1024x5632, .f32⟩
  | .hbm, ⟨16, _⟩ => ⟨S1024x5632, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Fo.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FoIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FoRefIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== FoS.lean ====
abbrev S1024x5632 : Shape := ⟨2, ![1024, 5632]⟩
abbrev S5632x2048 : Shape := ⟨2, ![5632, 2048]⟩
abbrev S1024x2048 : Shape := ⟨2, ![1024, 2048]⟩
abbrev S2048 : Shape := ⟨1, ![2048]⟩
abbrev S_ : Shape := ⟨0, ![]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S1024x5632, .bf16⟩
  | .hbm, ⟨1, _⟩ => ⟨S5632x2048, .f32⟩
  | .hbm, ⟨2, _⟩ => ⟨S1024x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1024x2048, .f32⟩
  | .hbm, ⟨11, _⟩ => ⟨S1024x2048, .bf16⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FoSRefIdeal.lean ====
abbrev S1024x5632 : Shape := ⟨2, ![1024, 5632]⟩
abbrev S5632x2048 : Shape := ⟨2, ![5632, 2048]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S5632x2048, .f32⟩
  | .hbm, ⟨2, _⟩ => ⟨S1024x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S1024x2048, .f32⟩
  | .hbm, ⟨7, _⟩ => ⟨S1024x2048, .f32⟩
  | .hbm, ⟨8, _⟩ => ⟨S1024x5632, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x2048, .f32⟩
  | .hbm, ⟨33, _⟩ => ⟨S1024x2048, .f32⟩
  | .hbm, ⟨34, _⟩ => ⟨S1x2048, .f32⟩
  | .hbm, ⟨35, _⟩ => ⟨S1024x2048, .f32⟩
  | .hbm, ⟨36, _⟩ => ⟨S1024x2048, .f32⟩
  | .hbm, ⟨37, _⟩ => ⟨S1x2048, .f32⟩
  | .hbm, ⟨38, _⟩ => ⟨S1024x2048, .f32⟩
  | .hbm, ⟨39, _⟩ => ⟨S1024x2048, .f32⟩
  | .hbm, ⟨40, _⟩ => ⟨S1024x2048, .bf16⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Mix.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== MixS.lean ====
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .f32⟩
  | .hbm, ⟨2, _⟩ => ⟨S2048, .f32⟩
  | .hbm, ⟨3, _⟩ => ⟨S1024x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1024x2048, .f32⟩
  | .hbm, ⟨11, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixSRefIdeal.lean ====
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S1024 : Shape := ⟨1, ![1024]⟩
abbrev S1024x1 : Shape := ⟨2, ![1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .f32⟩
  | .hbm, ⟨2, _⟩ => ⟨S2048, .f32⟩
  | .hbm, ⟨3, _⟩ => ⟨S1024x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S_, .f32⟩
  | .hbm, ⟨28, _⟩ => ⟨S1024x1, .f32⟩
  | .hbm, ⟨29, _⟩ => ⟨S1024x1, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S1024x1, .f32⟩
  | .hbm, ⟨36, _⟩ => ⟨S1024x2048, .f32⟩
  | .hbm, ⟨37, _⟩ => ⟨S1024x2048, .f32⟩
  | .hbm, ⟨38, _⟩ => ⟨S1x2048, .f32⟩
  | .hbm, ⟨39, _⟩ => ⟨S1024x2048, .f32⟩
  | .hbm, ⟨40, _⟩ => ⟨S1024x2048, .f32⟩
  | .hbm, ⟨41, _⟩ => ⟨S1x2048, .f32⟩
  | .hbm, ⟨42, _⟩ => ⟨S1024x2048, .f32⟩
  | .hbm, ⟨43, _⟩ => ⟨S1024x2048, .f32⟩
  | .hbm, ⟨44, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kv.lean ====
abbrev S8192x2048 : Shape := ⟨2, ![8192, 2048]⟩
abbrev S2048x3072 : Shape := ⟨2, ![2048, 3072]⟩
abbrev S8192x512 : Shape := ⟨2, ![8192, 512]⟩
abbrev S256x2048 : Shape := ⟨2, ![256, 2048]⟩
abbrev S256x512 : Shape := ⟨2, ![256, 512]⟩
abbrev S2048x512 : Shape := ⟨2, ![2048, 512]⟩

abbrev nBuf : Space → Nat
  | .hbm => 15
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S2048x3072, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .bf16⟩
  | .local _ .vmem, ⟨0, _⟩ => ⟨S256x2048, .bf16⟩
  | .local _ .vmem, ⟨1, _⟩ => ⟨S256x2048, .bf16⟩
  | .local _ .vmem, ⟨2, _⟩ => ⟨S2048x3072, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev main_v1_8 : Ref sig .tc := ⟨.hbm, 11, rfl⟩
abbrev main_v1_9 : Ref sig .tc := ⟨.hbm, 12, rfl⟩
abbrev main_v1_10 : Ref sig .tc := ⟨.hbm, 13, rfl⟩
abbrev main_v1_11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KvIdeal.lean ====
abbrev S8192x2048 : Shape := ⟨2, ![8192, 2048]⟩
abbrev S2048x3072 : Shape := ⟨2, ![2048, 3072]⟩
abbrev S8192x512 : Shape := ⟨2, ![8192, 512]⟩
abbrev S256x2048 : Shape := ⟨2, ![256, 2048]⟩
abbrev S256x512 : Shape := ⟨2, ![256, 512]⟩
abbrev S2048x512 : Shape := ⟨2, ![2048, 512]⟩

abbrev nBuf : Space → Nat
  | .hbm => 15
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S2048x3072, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .bf16⟩
  | .local _ .vmem, ⟨0, _⟩ => ⟨S256x2048, .bf16⟩
  | .local _ .vmem, ⟨1, _⟩ => ⟨S256x2048, .bf16⟩
  | .local _ .vmem, ⟨2, _⟩ => ⟨S2048x3072, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev main_v1_8 : Ref sig .tc := ⟨.hbm, 11, rfl⟩
abbrev main_v1_9 : Ref sig .tc := ⟨.hbm, 12, rfl⟩
abbrev main_v1_10 : Ref sig .tc := ⟨.hbm, 13, rfl⟩
abbrev main_v1_11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KvRefIdeal.lean ====
abbrev S8192x2048 : Shape := ⟨2, ![8192, 2048]⟩
abbrev S2048x3072 : Shape := ⟨2, ![2048, 3072]⟩
abbrev S8192x3072 : Shape := ⟨2, ![8192, 3072]⟩
abbrev S8192x512 : Shape := ⟨2, ![8192, 512]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S8192x2048, .f32⟩
  | .hbm, ⟨3, _⟩ => ⟨S8192x3072, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== KvS.lean ====
abbrev S1024x2048 : Shape := ⟨2, ![1024, 2048]⟩
abbrev S2048x3072 : Shape := ⟨2, ![2048, 3072]⟩
abbrev S1024x512 : Shape := ⟨2, ![1024, 512]⟩
abbrev S256x2048 : Shape := ⟨2, ![256, 2048]⟩
abbrev S256x512 : Shape := ⟨2, ![256, 512]⟩
abbrev S2048x512 : Shape := ⟨2, ![2048, 512]⟩

abbrev nBuf : Space → Nat
  | .hbm => 15
  | .vmem => 27
  | .smem => 0
  | _ => 0

abbrev bufTy : (tb : Table) → Fin (tcTables nBuf tb) → BufTy
  | .hbm, ⟨0, _⟩ => ⟨S1024x2048, .bf16⟩
  | .hbm, ⟨1, _⟩ => ⟨S2048x3072, .f32⟩
  | .hbm, ⟨2, _⟩ => ⟨S2048x3072, .bf16⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1024x512, .bf16⟩
  | .local _ .vmem, ⟨0, _⟩ => ⟨S256x2048, .bf16⟩
  | .local _ .vmem, ⟨1, _⟩ => ⟨S256x2048, .bf16⟩
  | .local _ .vmem, ⟨2, _⟩ => ⟨S2048x3072, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev main_v1_8 : Ref sig .tc := ⟨.hbm, 11, rfl⟩
abbrev main_v1_9 : Ref sig .tc := ⟨.hbm, 12, rfl⟩
abbrev main_v1_10 : Ref sig .tc := ⟨.hbm, 13, rfl⟩
abbrev main_v1_11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KvSRefIdeal.lean ====
abbrev S1024x2048 : Shape := ⟨2, ![1024, 2048]⟩
abbrev S2048x3072 : Shape := ⟨2, ![2048, 3072]⟩
abbrev S1024x3072 : Shape := ⟨2, ![1024, 3072]⟩
abbrev S1024x512 : Shape := ⟨2, ![1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x3072, .f32⟩
  | .hbm, ⟨2, _⟩ => ⟨S1024x2048, .f32⟩
  | .hbm, ⟨3, _⟩ => ⟨S1024x3072, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S1024x512, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Qg.lean ====
abbrev S8192x2048 : Shape := ⟨2, ![8192, 2048]⟩
abbrev S1x2048x2096 : Shape := ⟨3, ![1, 2048, 2096]⟩
abbrev S2048x2096 : Shape := ⟨2, ![2048, 2096]⟩
abbrev S_ : Shape := ⟨0, ![]⟩
abbrev S2048x2176 : Shape := ⟨2, ![2048, 2176]⟩
abbrev S8192x128 : Shape := ⟨2, ![8192, 128]⟩
abbrev S512x2048 : Shape := ⟨2, ![512, 2048]⟩
abbrev S512x128 : Shape := ⟨2, ![512, 128]⟩
abbrev S2048x512 : Shape := ⟨2, ![2048, 512]⟩
abbrev S512x512 : Shape := ⟨2, ![512, 512]⟩
abbrev S2048x128 : Shape := ⟨2, ![2048, 128]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2096, .f32⟩
  | .hbm, ⟨2, _⟩ => ⟨S2048x2096, .f32⟩
  | .hbm, ⟨3, _⟩ => ⟨S_, .i32⟩
  | .hbm, ⟨4, _⟩ => ⟨S_, .f32⟩
  | .hbm, ⟨5, _⟩ => ⟨S2048x2176, .f32⟩
  | .hbm, ⟨6, _⟩ => ⟨S2048x2176, .bf16⟩
  | .hbm, ⟨7, _⟩ => ⟨S8192x2048, .bf16⟩
  | .hbm, ⟨8, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x2048, .bf16⟩
  | .local _ .vmem, ⟨4, _⟩ => ⟨S512x2048, .bf16⟩
  | .local _ .vmem, ⟨5, _⟩ => ⟨S512x128, .f32⟩
  | .local _ .vmem, ⟨6, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QgIdeal.lean ====
abbrev S8192x2048 : Shape := ⟨2, ![8192, 2048]⟩
abbrev S1x2048x2096 : Shape := ⟨3, ![1, 2048, 2096]⟩
abbrev S2048x2096 : Shape := ⟨2, ![2048, 2096]⟩
abbrev S_ : Shape := ⟨0, ![]⟩
abbrev S2048x2176 : Shape := ⟨2, ![2048, 2176]⟩
abbrev S8192x128 : Shape := ⟨2, ![8192, 128]⟩
abbrev S512x2048 : Shape := ⟨2, ![512, 2048]⟩
abbrev S512x128 : Shape := ⟨2, ![512, 128]⟩
abbrev S2048x512 : Shape := ⟨2, ![2048, 512]⟩
abbrev S512x512 : Shape := ⟨2, ![512, 512]⟩
abbrev S2048x128 : Shape := ⟨2, ![2048, 128]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2096, .f32⟩
  | .hbm, ⟨2, _⟩ => ⟨S2048x2096, .f32⟩
  | .hbm, ⟨3, _⟩ => ⟨S_, .i32⟩
  | .hbm, ⟨4, _⟩ => ⟨S_, .f32⟩
  | .hbm, ⟨5, _⟩ => ⟨S2048x2176, .f32⟩
  | .hbm, ⟨6, _⟩ => ⟨S2048x2176, .bf16⟩
  | .hbm, ⟨7, _⟩ => ⟨S8192x2048, .bf16⟩
  | .hbm, ⟨8, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x2048, .bf16⟩
  | .local _ .vmem, ⟨4, _⟩ => ⟨S512x2048, .bf16⟩
  | .local _ .vmem, ⟨5, _⟩ => ⟨S512x128, .f32⟩
  | .local _ .vmem, ⟨6, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QgRefIdeal.lean ====
abbrev S8192x2048 : Shape := ⟨2, ![8192, 2048]⟩
abbrev S1x2048x2096 : Shape := ⟨3, ![1, 2048, 2096]⟩
abbrev S2048x2096 : Shape := ⟨2, ![2048, 2096]⟩
abbrev S8192x2096 : Shape := ⟨2, ![8192, 2096]⟩
abbrev S_ : Shape := ⟨0, ![]⟩
abbrev S8192x48 : Shape := ⟨2, ![8192, 48]⟩
abbrev S8192x128 : Shape := ⟨2, ![8192, 128]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2096, .f32⟩
  | .hbm, ⟨2, _⟩ => ⟨S8192x2048, .f32⟩
  | .hbm, ⟨3, _⟩ => ⟨S2048x2096, .f32⟩
  | .hbm, ⟨4, _⟩ => ⟨S8192x2096, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S8192x48, .f32⟩
  | .hbm, ⟨11, _⟩ => ⟨S_, .i32⟩
  | .hbm, ⟨12, _⟩ => ⟨S_, .f32⟩
  | .hbm, ⟨13, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== QgS.lean ====
abbrev S1024x2048 : Shape := ⟨2, ![1024, 2048]⟩
abbrev S1x2048x2096 : Shape := ⟨3, ![1, 2048, 2096]⟩
abbrev S2048x2096 : Shape := ⟨2, ![2048, 2096]⟩
abbrev S_ : Shape := ⟨0, ![]⟩
abbrev S2048x2176 : Shape := ⟨2, ![2048, 2176]⟩
abbrev S1024x128 : Shape := ⟨2, ![1024, 128]⟩
abbrev S512x2048 : Shape := ⟨2, ![512, 2048]⟩
abbrev S512x128 : Shape := ⟨2, ![512, 128]⟩
abbrev S2048x512 : Shape := ⟨2, ![2048, 512]⟩
abbrev S512x512 : Shape := ⟨2, ![512, 512]⟩
abbrev S2048x128 : Shape := ⟨2, ![2048, 128]⟩

abbrev nBuf : Space → Nat
  | .hbm => 9
  | .vmem => 7
  | .smem => 0
  | _ => 0

abbrev bufTy : (tb : Table) → Fin (tcTables nBuf tb) → BufTy
  | .hbm, ⟨0, _⟩ => ⟨S1024x2048, .bf16⟩
  | .hbm, ⟨1, _⟩ => ⟨S1x2048x2096, .f32⟩
  | .hbm, ⟨2, _⟩ => ⟨S2048x2096, .f32⟩
  | .hbm, ⟨3, _⟩ => ⟨S_, .i32⟩
  | .hbm, ⟨4, _⟩ => ⟨S_, .f32⟩
  | .hbm, ⟨5, _⟩ => ⟨S2048x2176, .f32⟩
  | .hbm, ⟨6, _⟩ => ⟨S2048x2176, .bf16⟩
  | .hbm, ⟨7, _⟩ => ⟨S1024x2048, .bf16⟩
  | .hbm, ⟨8, _⟩ => ⟨S1024x128, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x2048, .bf16⟩
  | .local _ .vmem, ⟨4, _⟩ => ⟨S512x2048, .bf16⟩
  | .local _ .vmem, ⟨5, _⟩ => ⟨S512x128, .f32⟩
  | .local _ .vmem, ⟨6, _⟩ => ⟨S512x128, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QgSRefIdeal.lean ====
abbrev S1024x2048 : Shape := ⟨2, ![1024, 2048]⟩
abbrev S1x2048x2096 : Shape := ⟨3, ![1, 2048, 2096]⟩
abbrev S2048x2096 : Shape := ⟨2, ![2048, 2096]⟩
abbrev S1024x2096 : Shape := ⟨2, ![1024, 2096]⟩
abbrev S_ : Shape := ⟨0, ![]⟩
abbrev S1024x48 : Shape := ⟨2, ![1024, 48]⟩
abbrev S1024x128 : Shape := ⟨2, ![1024, 128]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x2096, .f32⟩
  | .hbm, ⟨2, _⟩ => ⟨S1024x2048, .f32⟩
  | .hbm, ⟨3, _⟩ => ⟨S2048x2096, .f32⟩
  | .hbm, ⟨4, _⟩ => ⟨S1024x2096, .f32⟩
  | .hbm, ⟨5, _⟩ => ⟨S1024x2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S1024x2048, .bf16⟩
  | .hbm, ⟨10, _⟩ => ⟨S1024x48, .f32⟩
  | .hbm, ⟨11, _⟩ => ⟨S_, .i32⟩
  | .hbm, ⟨12, _⟩ => ⟨S_, .f32⟩
  | .hbm, ⟨13, _⟩ => ⟨S1024x128, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Cmp.lean ====
abbrev S2560x128x4x128 : Shape := ⟨4, ![2560, 128, 4, 128]⟩
abbrev S128x16 : Shape := ⟨2, ![128, 16]⟩
abbrev S1x128 : Shape := ⟨2, ![1, 128]⟩
abbrev S4096x128 : Shape := ⟨2, ![4096, 128]⟩
abbrev S128 : Shape := ⟨1, ![128]⟩
abbrev S128x128 : Shape := ⟨2, ![128, 128]⟩
abbrev S2048x128 : Shape := ⟨2, ![2048, 128]⟩
abbrev S2048x256 : Shape := ⟨2, ![2048, 256]⟩
abbrev S2560x8x8192 : Shape := ⟨3, ![2560, 8, 8192]⟩
abbrev S128x128x512 : Shape := ⟨3, ![128, 128, 512]⟩
abbrev S1x8x8192 : Shape := ⟨3, ![1, 8, 8192]⟩
abbrev S1x1 : Shape := ⟨2, ![1, 1]⟩
abbrev S1x128x512 : Shape := ⟨3, ![1, 128, 512]⟩
abbrev S8x8192 : Shape := ⟨2, ![8, 8192]⟩
abbrev S128x8192 : Shape := ⟨2, ![128, 8192]⟩
abbrev S128x2048 : Shape := ⟨2, ![128, 2048]⟩
abbrev S512x2048 : Shape := ⟨2, ![512, 2048]⟩
abbrev S512x256 : Shape := ⟨2, ![512, 256]⟩
abbrev S512x128 : Shape := ⟨2, ![512, 128]⟩
abbrev S1x128x128 : Shape := ⟨3, ![1, 128, 128]⟩

abbrev nBuf : Space → Nat
  | .hbm => 16
  | .vmem => 38
  | .smem => 1
  | _ => 0

abbrev bufTy : (tb : Table) → Fin (tcTables nBuf tb) → BufTy
  | .hbm, ⟨0, _⟩ => ⟨S2560x128x4x128, .f32⟩
  | .hbm, ⟨1, _⟩ => ⟨S1x128, .f32⟩
  | .hbm, ⟨2, _⟩ => ⟨S4096x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4096x128, .bf16⟩
  | .hbm, ⟨7, _⟩ => ⟨S2048x128, .bf16⟩
  | .hbm, ⟨8, _⟩ => ⟨S2048x128, .bf16⟩
  | .hbm, ⟨9, _⟩ => ⟨S2048x256, .bf16⟩
  | .hbm, ⟨10, _⟩ => ⟨S128x128, .bf16⟩
  | .hbm, ⟨11, _⟩ => ⟨S2560x8x8192, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S128x128x512, .bf16⟩
  | .local _ .vmem, ⟨0, _⟩ => ⟨S1x8x8192, .f32⟩
  | .local _ .vmem, ⟨1, _⟩ => ⟨S1x8x8192, .f32⟩
  | .local _ .vmem, ⟨2, _⟩ => ⟨S1x8x8192, .f32⟩
  | .local _ .vmem, ⟨3, _⟩ => ⟨S1x8x8192, .f32⟩
  | .local _ .vmem, ⟨4, _⟩ => ⟨S1x8x8192, .f32⟩
  | .local _ .vmem, ⟨5, _⟩ => ⟨S1x8x8192, .f32⟩
  | .local _ .vmem, ⟨6, _⟩ => ⟨S1x8x8192, .f32⟩
  | .local _ .vmem, ⟨7, _⟩ => ⟨S1x8x8192, .f32⟩
  | .local _ .vmem, ⟨8, _⟩ => ⟨S1x8x8192, .f32⟩
  | .local _ .vmem, ⟨9, _⟩ => ⟨S1x8x8192, .f32⟩
  | .local _ .vmem, ⟨10, _⟩ => ⟨S1x8x8192, .f32⟩
  | .local _ .vmem, ⟨11, _⟩ => ⟨S1x8x8192, .f32⟩
  | .local _ .vmem, ⟨12, _⟩ => ⟨S1x8x8192, .f32⟩
  | .local _ .vmem, ⟨13, _⟩ => ⟨S1x8x8192, .f32⟩
  | .local _ .vmem, ⟨14, _⟩ => ⟨S1x8x8192, .f32⟩
  | .local _ .vmem, ⟨15, _⟩ => ⟨S1x8x8192, .f32⟩
  | .local _ .vmem, ⟨16, _⟩ => ⟨S1x8x8192, .f32⟩
  | .local _ .vmem, ⟨17, _⟩ => ⟨S1x8x8192, .f32⟩
  | .local _ .vmem, ⟨18, _⟩ => ⟨S1x8x8192, .f32⟩
  | .local _ .vmem, ⟨19, _⟩ => ⟨S1x8x8192, .f32⟩
  | .local _ .vmem, ⟨20, _⟩ => ⟨S1x8x8192, .f32⟩
  | .local _ .vmem, ⟨21, _⟩ => ⟨S1x8x8192, .f32⟩
  | .local _ .vmem, ⟨22, _⟩ => ⟨S1x8x8192, .f32⟩
  | .local _ .vmem, ⟨23, _⟩ => ⟨S1x8x8192, .f32⟩
  | .local _ .vmem, ⟨24, _⟩ => ⟨S1x8x8192, .f32⟩
  | .local _ .vmem, ⟨25, _⟩ => ⟨S1x8x8192, .f32⟩
  | .local _ .vmem, ⟨26, _⟩ => ⟨S1x8x8192, .f32⟩
  | .local _ .vmem, ⟨27, _⟩ => ⟨S1x8x8192, .f32⟩
  | .local _ .vmem, ⟨28, _⟩ => ⟨S1x8x8192, .f32⟩
  | .local _ .vmem, ⟨29, _⟩ => ⟨S1x8x8192, .f32⟩
  | .local _ .vmem, ⟨30, _⟩ => ⟨S1x8x8192, .f32⟩
  | .local _ .vmem, ⟨31, _⟩ => ⟨S1x8x8192, .f32⟩
  | .local _ .vmem, ⟨32, _⟩ => ⟨S2048x256, .bf16⟩
  | .local _ .vmem, ⟨33, _⟩ => ⟨S1x128, .f32⟩
  | .local _ .vmem, ⟨34, _⟩ => ⟨S128x128, .bf16⟩
  | .local _ .vmem, ⟨35, _⟩ => ⟨S1x128, .f32⟩
  | .local _ .vmem, ⟨36, _⟩ => ⟨S1x128x512, .bf16⟩
  | .local _ .vmem, ⟨37, _⟩ => ⟨S1x128x512, .bf16⟩
  | .local _ .smem, ⟨0, _⟩ => ⟨S128x16, .i32⟩
  | _, _ => ⟨S2560x128x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_1 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x8192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2048x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x128x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== CmpRefIdeal.lean ====
abbrev S2560x128x4x128 : Shape := ⟨4, ![2560, 128, 4, 128]⟩
abbrev S128x16 : Shape := ⟨2, ![128, 16]⟩
abbrev S1x128 : Shape := ⟨2, ![1, 128]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S128x16x1 : Shape := ⟨3, ![128, 16, 1]⟩
abbrev S128x16x128x4x128 : Shape := ⟨5, ![128, 16, 128, 4, 128]⟩
abbrev S128x2048x4x128 : Shape := ⟨4, ![128, 2048, 4, 128]⟩
abbrev S128x128x16x4x128 : Shape := ⟨5, ![128, 128, 16, 4, 128]⟩
abbrev S128x128x4x16x128 : Shape := ⟨5, ![128, 128, 4, 16, 128]⟩
abbrev S128x128x4x2048 : Shape := ⟨4, ![128, 128, 4, 2048]⟩
abbrev S2x2048x128 : Shape := ⟨3, ![2, 2048, 128]⟩
abbrev S128x127x4x2048 : Shape := ⟨4, ![128, 127, 4, 2048]⟩
abbrev S128x1x4x2048 : Shape := ⟨4, ![128, 1, 4, 2048]⟩
abbrev S128x1x3x2048 : Shape := ⟨4, ![128, 1, 3, 2048]⟩
abbrev S128x1x1x2048 : Shape := ⟨4, ![128, 1, 1, 2048]⟩
abbrev S1x2048x128 : Shape := ⟨3, ![1, 2048, 128]⟩
abbrev S2048x128 : Shape := ⟨2, ![2048, 128]⟩
abbrev S128x128x4x128 : Shape := ⟨4, ![128, 128, 4, 128]⟩
abbrev S1x1x1x128 : Shape := ⟨4, ![1, 1, 1, 128]⟩
abbrev S128x128x512 : Shape := ⟨3, ![128, 128, 512]⟩

abbrev nBuf : Space → Nat
  | .hbm => 62
  | .vmem => 0
  | .smem => 0
  | _ => 0

abbrev bufTy : (tb : Table) → Fin (tcTables nBuf tb) → BufTy
  | .hbm, ⟨0, _⟩ => ⟨S2560x128x4x128, .f32⟩
  | .hbm, ⟨1, _⟩ => ⟨S128x16, .i32⟩
  | .hbm, ⟨2, _⟩ => ⟨S1x128, .f32⟩
  | .hbm, ⟨3, _⟩ => ⟨S4096x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S128x16, .i32⟩
  | .hbm, ⟨9, _⟩ => ⟨S128x16, .i1⟩
  | .hbm, ⟨10, _⟩ => ⟨S_, .i32⟩
  | .hbm, ⟨11, _⟩ => ⟨S128x16, .i32⟩
  | .hbm, ⟨12, _⟩ => ⟨S128x16, .i32⟩
  | .hbm, ⟨13, _⟩ => ⟨S128x16, .i32⟩
  | .hbm, ⟨14, _⟩ => ⟨S128x16x1, .i32⟩
  | .hbm, ⟨15, _⟩ => ⟨S128x16x128x4x128, .f32⟩
  | .hbm, ⟨16, _⟩ => ⟨S128x2048x4x128, .f32⟩
  | .hbm, ⟨17, _⟩ => ⟨S128x128x16x4x128, .f32⟩
  | .hbm, ⟨18, _⟩ => ⟨S128x128x4x16x128, .f32⟩
  | .hbm, ⟨19, _⟩ => ⟨S128x128x4x2048, .f32⟩
  | .hbm, ⟨20, _⟩ => ⟨S2x2048x128, .f32⟩
  | .hbm, ⟨21, _⟩ => ⟨S128x127x4x2048, .f32⟩
  | .hbm, ⟨22, _⟩ => ⟨S128x1x4x2048, .f32⟩
  | .hbm, ⟨23, _⟩ => ⟨S128x1x3x2048, .f32⟩
  | .hbm, ⟨24, _⟩ => ⟨S128x1x1x2048, .f32⟩
  | .hbm, ⟨25, _⟩ => ⟨S128x1x4x2048, .f32⟩
  | .hbm, ⟨26, _⟩ => ⟨S128x128x4x2048, .f32⟩
  | .hbm, ⟨27, _⟩ => ⟨S1x2048x128, .f32⟩
  | .hbm, ⟨28, _⟩ => ⟨S2048x128, .f32⟩
  | .hbm, ⟨29, _⟩ => ⟨S128x128x4x128, .f32⟩
  | .hbm, ⟨30, _⟩ => ⟨S1x2048x128, .f32⟩
  | .hbm, ⟨31, _⟩ => ⟨S2048x128, .f32⟩
  | .hbm, ⟨32, _⟩ => ⟨S128x128x4x128, .f32⟩
  | .hbm, ⟨33, _⟩ => ⟨S128x128x4x128, .f32⟩
  | .hbm, ⟨34, _⟩ => ⟨S1x128, .f32⟩
  | .hbm, ⟨35, _⟩ => ⟨S1x128, .f32⟩
  | .hbm, ⟨36, _⟩ => ⟨S1x1x1x128, .f32⟩
  | .hbm, ⟨37, _⟩ => ⟨S128x128x4x128, .f32⟩
  | .hbm, ⟨38, _⟩ => ⟨S128x128x4x128, .f32⟩
  | .hbm, ⟨39, _⟩ => ⟨S128x128x4x128, .f32⟩
  | .hbm, ⟨40, _⟩ => ⟨S128x128x4x128, .f32⟩
  | .hbm, ⟨41, _⟩ => ⟨S_, .f32⟩
  | .hbm, ⟨42, _⟩ => ⟨S128x128x4x128, .f32⟩
  | .hbm, ⟨43, _⟩ => ⟨S128x128x4x128, .f32⟩
  | .hbm, ⟨44, _⟩ => ⟨S128x128x4x128, .f32⟩
  | .hbm, ⟨45, _⟩ => ⟨S_, .f32⟩
  | .hbm, ⟨46, _⟩ => ⟨S128x128x4x128, .f32⟩
  | .hbm, ⟨47, _⟩ => ⟨S128x128x4x128, .f32⟩
  | .hbm, ⟨48, _⟩ => ⟨S128x128x4x128, .f32⟩
  | .hbm, ⟨49, _⟩ => ⟨S_, .f32⟩
  | .hbm, ⟨50, _⟩ => ⟨S128x128x4x128, .f32⟩
  | .hbm, ⟨51, _⟩ => ⟨S128x128x4x128, .f32⟩
  | .hbm, ⟨52, _⟩ => ⟨S_, .f32⟩
  | .hbm, ⟨53, _⟩ => ⟨S128x128x4x128, .f32⟩
  | .hbm, ⟨54, _⟩ => ⟨S128x128x4x128, .f32⟩
  | .hbm, ⟨55, _⟩ => ⟨S128x128x4x128, .f32⟩
  | .hbm, ⟨56, _⟩ => ⟨S128x128x4x128, .f32⟩
  | .hbm, ⟨57, _⟩ => ⟨S1x1x1x128, .f32⟩
  | .hbm, ⟨58, _⟩ => ⟨S128x128x4x128, .f32⟩
  | .hbm, ⟨59, _⟩ => ⟨S128x128x4x128, .f32⟩
  | .hbm, ⟨60, _⟩ => ⟨S128x128x512, .f32⟩
  | .hbm, ⟨61, _⟩ => ⟨S128x128x512, .bf16⟩
  | _, _ => ⟨S2560x128x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== WinS.lean ====
abbrev S128x16 : Shape := ⟨2, ![128, 16]⟩
abbrev S2560x128x4x128 : Shape := ⟨4, ![2560, 128, 4, 128]⟩
abbrev S1024x2048 : Shape := ⟨2, ![1024, 2048]⟩
abbrev S128x128x3 : Shape := ⟨3, ![128, 128, 3]⟩
abbrev S128x128x512 : Shape := ⟨3, ![128, 128, 512]⟩
abbrev S128x8x4x128 : Shape := ⟨4, ![128, 8, 4, 128]⟩
abbrev S128x512x4x128 : Shape := ⟨4, ![128, 512, 4, 128]⟩
abbrev S128x128 : Shape := ⟨2, ![128, 128]⟩
abbrev S128x2176 : Shape := ⟨2, ![128, 2176]⟩
abbrev S128x640 : Shape := ⟨2, ![128, 640]⟩
abbrev S128 : Shape := ⟨1, ![128]⟩
abbrev S1x128 : Shape := ⟨2, ![1, 128]⟩
abbrev S_ : Shape := ⟨0, ![]⟩
abbrev S128x1 : Shape := ⟨2, ![128, 1]⟩
abbrev S2176 : Shape := ⟨1, ![2176]⟩
abbrev S1x2176 : Shape := ⟨2, ![1, 2176]⟩
abbrev S2560x128x512 : Shape := ⟨3, ![2560, 128, 512]⟩
abbrev S128x8x2048 : Shape := ⟨3, ![128, 8, 2048]⟩
abbrev S128x8x512 : Shape := ⟨3, ![128, 8, 512]⟩
abbrev S128x512x512 : Shape := ⟨3, ![128, 512, 512]⟩
abbrev S1x128x512 : Shape := ⟨3, ![1, 128, 512]⟩
abbrev S1x1 : Shape := ⟨2, ![1, 1]⟩
abbrev S1x8x2048 : Shape := ⟨3, ![1, 8, 2048]⟩
abbrev S1x128x3 : Shape := ⟨3, ![1, 128, 3]⟩
abbrev S1x8x512 : Shape := ⟨3, ![1, 8, 512]⟩
abbrev S1x512x512 : Shape := ⟨3, ![1, 512, 512]⟩
abbrev S2176x512 : Shape := ⟨2, ![2176, 512]⟩
abbrev S640x512 : Shape := ⟨2, ![640, 512]⟩
abbrev S128x512 : Shape := ⟨2, ![128, 512]⟩
abbrev S8x512 : Shape := ⟨2, ![8, 512]⟩
abbrev S120x512 : Shape := ⟨2, ![120, 512]⟩
abbrev S512x512 : Shape := ⟨2, ![512, 512]⟩
abbrev S504x512 : Shape := ⟨2, ![504, 512]⟩
abbrev S1x504x512 : Shape := ⟨3, ![1, 504, 512]⟩
abbrev S8x2048 : Shape := ⟨2, ![8, 2048]⟩
abbrev S8x128 : Shape := ⟨2, ![8, 128]⟩
abbrev S40x128 : Shape := ⟨2, ![40, 128]⟩
abbrev S88x128 : Shape := ⟨2, ![88, 128]⟩
abbrev S128x3 : Shape := ⟨2, ![128, 3]⟩

abbrev nBuf : Space → Nat
  | .hbm => 102
  | .vmem => 99
  | .smem => 1
  | _ => 0

abbrev bufTy : (tb : Table) → Fin (tcTables nBuf tb) → BufTy
  | .hbm, ⟨0, _⟩ => ⟨S2560x128x4x128, .f32⟩
  | .hbm, ⟨1, _⟩ => ⟨S2560x128x4x128, .f32⟩
  | .hbm, ⟨2, _⟩ => ⟨S1024x2048, .bf16⟩
  | .hbm, ⟨3, _⟩ => ⟨S128x128x3, .f32⟩
  | .hbm, ⟨4, _⟩ => ⟨S128x128x512, .bf16⟩
  | .hbm, ⟨5, _⟩ => ⟨S128x128x512, .bf16⟩
  | .hbm, ⟨6, _⟩ => ⟨S128x8x4x128, .f32⟩
  | .hbm, ⟨7, _⟩ => ⟨S128x8x4x128, .f32⟩
  | .hbm, ⟨8, _⟩ => ⟨S128x8x4x128, .f32⟩
  | .hbm, ⟨9, _⟩ => ⟨S128x8x4x128, .f32⟩
  | .hbm, ⟨10, _⟩ => ⟨S128x512x4x128, .f32⟩
  | .hbm, ⟨11, _⟩ => ⟨S128x512x4x128, .f32⟩
  | .hbm, ⟨12, _⟩ => ⟨S128x128, .f32⟩
  | .hbm, ⟨13, _⟩ => ⟨S128x2176, .f32⟩
  | .hbm, ⟨14, _⟩ => ⟨S128x640, .f32⟩
  | .hbm, ⟨15, _⟩ => ⟨S128, .i32⟩
  | .hbm, ⟨16, _⟩ => ⟨S1x128, .i32⟩
  | .hbm, ⟨17, _⟩ => ⟨S_, .i32⟩
  | .hbm, ⟨18, _⟩ => ⟨S1x128, .i32⟩
  | .hbm, ⟨19, _⟩ => ⟨S1x128, .i32⟩
  | .hbm, ⟨20, _⟩ => ⟨S128, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S_, .i32⟩
  | .hbm, ⟨26, _⟩ => ⟨S1x128, .i32⟩
  | .hbm, ⟨27, _⟩ => ⟨S1x128, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S_, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128, .i32⟩
  | .hbm, ⟨43, _⟩ => ⟨S1x128, .i32⟩
  | .hbm, ⟨44, _⟩ => ⟨S_, .i32⟩
  | .hbm, ⟨45, _⟩ => ⟨S1x128, .i32⟩
  | .hbm, ⟨46, _⟩ => ⟨S1x128, .i1⟩
  | .hbm, ⟨47, _⟩ => ⟨S128, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i1⟩
  | .hbm, ⟨52, _⟩ => ⟨S128x128, .i1⟩
  | .hbm, ⟨53, _⟩ => ⟨S128x128, .i1⟩
  | .hbm, ⟨54, _⟩ => ⟨S128x128, .i1⟩
  | .hbm, ⟨55, _⟩ => ⟨S128x128, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S_, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S128x128, .bf16⟩
  | .hbm, ⟨64, _⟩ => ⟨S128, .i32⟩
  | .hbm, ⟨65, _⟩ => ⟨S128x1, .i32⟩
  | .hbm, ⟨66, _⟩ => ⟨S2176, .i32⟩
  | .hbm, ⟨67, _⟩ => ⟨S1x2176, .i32⟩
  | .hbm, ⟨68, _⟩ => ⟨S_, .i32⟩
  | .hbm, ⟨69, _⟩ => ⟨S_, .i32⟩
  | .hbm, ⟨70, _⟩ => ⟨S1x2176, .i32⟩
  | .hbm, ⟨71, _⟩ => ⟨S1x2176, .i32⟩
  | .hbm, ⟨72, _⟩ => ⟨S1x2176, .i32⟩
  | .hbm, ⟨73, _⟩ => ⟨S_, .i32⟩
  | .hbm, ⟨74, _⟩ => ⟨S1x2176, .i32⟩
  | .hbm, ⟨75, _⟩ => ⟨S1x2176, .i1⟩
  | .hbm, ⟨76, _⟩ => ⟨S1x2176, .i32⟩
  | .hbm, ⟨77, _⟩ => ⟨S1x2176, .i32⟩
  | .hbm, ⟨78, _⟩ => ⟨S_, .i32⟩
  | .hbm, ⟨79, _⟩ => ⟨S1x2176, .i32⟩
  | .hbm, ⟨80, _⟩ => ⟨S1x2176, .i1⟩
  | .hbm, ⟨81, _⟩ => ⟨S1x2176, .i1⟩
  | .hbm, ⟨82, _⟩ => ⟨S_, .i32⟩
  | .hbm, ⟨83, _⟩ => ⟨S1x2176, .i32⟩
  | .hbm, ⟨84, _⟩ => ⟨S1x2176, .i32⟩
  | .hbm, ⟨85, _⟩ => ⟨S1x2176, .i32⟩
  | .hbm, ⟨86, _⟩ => ⟨S128x2176, .i32⟩
  | .hbm, ⟨87, _⟩ => ⟨S128x2176, .i32⟩
  | .hbm, ⟨88, _⟩ => ⟨S128x2176, .i1⟩
  | .hbm, ⟨89, _⟩ => ⟨S128x2176, .bf16⟩
  | .hbm, ⟨90, _⟩ => ⟨S2560x128x512, .f32⟩
  | .hbm, ⟨91, _⟩ => ⟨S2560x128x512, .f32⟩
  | .hbm, ⟨92, _⟩ => ⟨S128x8x2048, .bf16⟩
  | .hbm, ⟨93, _⟩ => ⟨S128x8x512, .f32⟩
  | .hbm, ⟨94, _⟩ => ⟨S128x8x512, .f32⟩
  | .hbm, ⟨95, _⟩ => ⟨S128x8x512, .f32⟩
  | .hbm, ⟨96, _⟩ => ⟨S128x8x512, .f32⟩
  | .hbm, ⟨97, _⟩ => ⟨S128x512x512, .f32⟩
  | .hbm, ⟨98, _⟩ => ⟨S128x512x512, .f32⟩
  | .hbm, ⟨99, _⟩ => ⟨S128x8x2048, .bf16⟩
  | .hbm, ⟨100, _⟩ => ⟨S128x512x512, .f32⟩
  | .hbm, ⟨101, _⟩ => ⟨S128x512x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S1x128x512, .f32⟩
  | .local _ .vmem, ⟨35, _⟩ => ⟨S1x128x512, .f32⟩
  | .local _ .vmem, ⟨36, _⟩ => ⟨S1x128x512, .f32⟩
  | .local _ .vmem, ⟨37, _⟩ => ⟨S1x128x512, .f32⟩
  | .local _ .vmem, ⟨38, _⟩ => ⟨S1x128x512, .f32⟩
  | .local _ .vmem, ⟨39, _⟩ => ⟨S1x128x512, .f32⟩
  | .local _ .vmem, ⟨40, _⟩ => ⟨S1x128x512, .f32⟩
  | .local _ .vmem, ⟨41, _⟩ => ⟨S1x128x512, .f32⟩
  | .local _ .vmem, ⟨42, _⟩ => ⟨S1x128x512, .f32⟩
  | .local _ .vmem, ⟨43, _⟩ => ⟨S1x128x512, .f32⟩
  | .local _ .vmem, ⟨44, _⟩ => ⟨S1x128x512, .f32⟩
  | .local _ .vmem, ⟨45, _⟩ => ⟨S1x128x512, .f32⟩
  | .local _ .vmem, ⟨46, _⟩ => ⟨S1x128x512, .f32⟩
  | .local _ .vmem, ⟨47, _⟩ => ⟨S1x128x512, .f32⟩
  | .local _ .vmem, ⟨48, _⟩ => ⟨S1x128x512, .f32⟩
  | .local _ .vmem, ⟨49, _⟩ => ⟨S1x128x512, .f32⟩
  | .local _ .vmem, ⟨50, _⟩ => ⟨S1x128x512, .f32⟩
  | .local _ .vmem, ⟨51, _⟩ => ⟨S1x128x512, .f32⟩
  | .local _ .vmem, ⟨52, _⟩ => ⟨S1x128x512, .f32⟩
  | .local _ .vmem, ⟨53, _⟩ => ⟨S1x128x512, .f32⟩
  | .local _ .vmem, ⟨54, _⟩ => ⟨S1x128x512, .f32⟩
  | .local _ .vmem, ⟨55, _⟩ => ⟨S1x128x512, .f32⟩
  | .local _ .vmem, ⟨56, _⟩ => ⟨S1x128x512, .f32⟩
  | .local _ .vmem, ⟨57, _⟩ => ⟨S1x128x512, .f32⟩
  | .local _ .vmem, ⟨58, _⟩ => ⟨S1x128x512, .f32⟩
  | .local _ .vmem, ⟨59, _⟩ => ⟨S1x128x512, .f32⟩
  | .local _ .vmem, ⟨60, _⟩ => ⟨S1x128x512, .f32⟩
  | .local _ .vmem, ⟨61, _⟩ => ⟨S1x128x512, .f32⟩
  | .local _ .vmem, ⟨62, _⟩ => ⟨S1x128x512, .f32⟩
  | .local _ .vmem, ⟨63, _⟩ => ⟨S1x128x512, .f32⟩
  | .local _ .vmem, ⟨64, _⟩ => ⟨S1x8x2048, .bf16⟩
  | .local _ .vmem, ⟨65, _⟩ => ⟨S1x8x2048, .bf16⟩
  | .local _ .vmem, ⟨66, _⟩ => ⟨S1x128x3, .f32⟩
  | .local _ .vmem, ⟨67, _⟩ => ⟨S1x128x3, .f32⟩
  | .local _ .vmem, ⟨68, _⟩ => ⟨S1x128x512, .bf16⟩
  | .local _ .vmem, ⟨69, _⟩ => ⟨S1x128x512, .bf16⟩
  | .local _ .vmem, ⟨70, _⟩ => ⟨S1x128x512, .bf16⟩
  | .local _ .vmem, ⟨71, _⟩ => ⟨S1x128x512, .bf16⟩
  | .local _ .vmem, ⟨72, _⟩ => ⟨S1x8x512, .f32⟩
  | .local _ .vmem, ⟨73, _⟩ => ⟨S1x8x512, .f32⟩
  | .local _ .vmem, ⟨74, _⟩ => ⟨S1x8x512, .f32⟩
  | .local _ .vmem, ⟨75, _⟩ => ⟨S1x8x512, .f32⟩
  | .local _ .vmem, ⟨76, _⟩ => ⟨S1x8x512, .f32⟩
  | .local _ .vmem, ⟨77, _⟩ => ⟨S1x8x512, .f32⟩
  | .local _ .vmem, ⟨78, _⟩ => ⟨S1x8x512, .f32⟩
  | .local _ .vmem, ⟨79, _⟩ => ⟨S1x8x512, .f32⟩
  | .local _ .vmem, ⟨80, _⟩ => ⟨S1x512x512, .f32⟩
  | .local _ .vmem, ⟨81, _⟩ => ⟨S1x512x512, .f32⟩
  | .local _ .vmem, ⟨82, _⟩ => ⟨S1x512x512, .f32⟩
  | .local _ .vmem, ⟨83, _⟩ => ⟨S1x512x512, .f32⟩
  | .local _ .vmem, ⟨84, _⟩ => ⟨S128x128, .f32⟩
  | .local _ .vmem, ⟨85, _⟩ => ⟨S128x2176, .f32⟩
  | .local _ .vmem, ⟨86, _⟩ => ⟨S128x640, .f32⟩
  | .local _ .vmem, ⟨87, _⟩ => ⟨S128x128, .bf16⟩
  | .local _ .vmem, ⟨88, _⟩ => ⟨S128x2176, .bf16⟩
  | .local _ .vmem, ⟨89, _⟩ => ⟨S1x8x2048, .bf16⟩
  | .local _ .vmem, ⟨90, _⟩ => ⟨S1x8x2048, .bf16⟩
  | .local _ .vmem, ⟨91, _⟩ => ⟨S1x512x512, .f32⟩
  | .local _ .vmem, ⟨92, _⟩ => ⟨S1x512x512, .f32⟩
  | .local _ .vmem, ⟨93, _⟩ => ⟨S1x512x512, .f32⟩
  | .local _ .vmem, ⟨94, _⟩ => ⟨S1x512x512, .f32⟩
  | .local _ .vmem, ⟨95, _⟩ => ⟨S2176x512, .bf16⟩
  | .local _ .vmem, ⟨96, _⟩ => ⟨S2176x512, .bf16⟩
  | .local _ .vmem, ⟨97, _⟩ => ⟨S640x512, .bf16⟩
  | .local _ .vmem, ⟨98, _⟩ => ⟨S640x512, .bf16⟩
  | .local _ .smem, ⟨0, _⟩ => ⟨S128x16, .i32⟩
  | _, _ => ⟨S2560x128x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_call0_v0 : Ref sig .tc := ⟨.hbm, 39, rfl⟩
abbrev main_call0_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54_0 : Ref sig .tc := ⟨.hbm, 99, rfl⟩
abbrev main_v54_1 : Ref sig .tc := ⟨.hbm, 100, rfl⟩
abbrev main_v54_2 : Ref sig .tc := ⟨.hbm, 101, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg43_0 : Ref sig .tc := ⟨.vmem, 85, rfl⟩
abbrev cc0_stg44_0 : Ref sig .tc := ⟨.vmem, 86, rfl⟩
abbrev cc0_stg45_0 : Ref sig .tc := ⟨.vmem, 87, rfl⟩
abbrev cc0_stg46_0 : Ref sig .tc := ⟨.vmem, 88, rfl⟩
abbrev cc0_stg47_0 : Ref sig .tc := ⟨.vmem, 89, rfl⟩
abbrev cc0_stg47_1 : Ref sig .tc := ⟨.vmem, 90, rfl⟩
abbrev cc0_stg48_0 : Ref sig .tc := ⟨.vmem, 91, rfl⟩
abbrev cc0_stg48_1 : Ref sig .tc := ⟨.vmem, 92, rfl⟩
abbrev cc0_stg49_0 : Ref sig .tc := ⟨.vmem, 93, rfl⟩
abbrev cc0_stg49_1 : Ref sig .tc := ⟨.vmem, 94, rfl⟩
abbrev cc0_scratch0 : Ref sig .tc := ⟨.vmem, 95, rfl⟩
abbrev cc0_scratch1 : Ref sig .tc := ⟨.vmem, 96, rfl⟩
abbrev cc0_scratch2 : Ref sig .tc := ⟨.vmem, 97, rfl⟩
abbrev cc0_scratch3 : Ref sig .tc := ⟨.vmem, 98, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem43_0 : DmaSem sig := 85
abbrev cc0_sem44_0 : DmaSem sig := 86
abbrev cc0_sem45_0 : DmaSem sig := 87
abbrev cc0_sem46_0 : DmaSem sig := 88
abbrev cc0_sem47_0 : DmaSem sig := 89
abbrev cc0_sem47_1 : DmaSem sig := 90
abbrev cc0_sem48_0 : DmaSem sig := 91
abbrev cc0_sem48_1 : DmaSem sig := 92
abbrev cc0_sem49_0 : DmaSem sig := 93
abbrev cc0_sem49_1 : DmaSem sig := 94

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_1 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_17 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_18 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_19 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_20 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_21 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_22 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_23 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_24 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_25 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_26 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_27 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_28 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_29 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_30 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_31 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_36 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_38 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_39 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_40 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_41 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_48 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_49 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x128x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x128x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x128x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x128x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x128x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x128x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x128x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x128x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x128x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x128x512 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x8x2048 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x128x3 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x128x512 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x128x512 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x8x512 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x8x512 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x8x512 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x8x512 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x512x512 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x512x512 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 1 → Memref sig .tc .vmem S128x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S128x2176 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S128x640 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S128x128 .bf16 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S128x2176 .bf16 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 2 → Memref sig .tc .vmem S1x8x2048 .bf16 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x512x512 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x512x512 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]
-- ==== WinSRefIdeal.lean ====
abbrev S128x16 : Shape := ⟨2, ![128, 16]⟩
abbrev S2560x128x4x128 : Shape := ⟨4, ![2560, 128, 4, 128]⟩
abbrev S1024x2048 : Shape := ⟨2, ![1024, 2048]⟩
abbrev S128x128x3 : Shape := ⟨3, ![128, 128, 3]⟩
abbrev S128x128x512 : Shape := ⟨3, ![128, 128, 512]⟩
abbrev S128x8x4x128 : Shape := ⟨4, ![128, 8, 4, 128]⟩
abbrev S128x512x4x128 : Shape := ⟨4, ![128, 512, 4, 128]⟩
abbrev S128x128 : Shape := ⟨2, ![128, 128]⟩
abbrev S128x2176 : Shape := ⟨2, ![128, 2176]⟩
abbrev S128x640 : Shape := ⟨2, ![128, 640]⟩
abbrev S128x520x4x128 : Shape := ⟨4, ![128, 520, 4, 128]⟩
abbrev S128x512x512 : Shape := ⟨3, ![128, 512, 512]⟩

abbrev nBuf : Space → Nat
  | .hbm => 22
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S2560x128x4x128, .f32⟩
  | .hbm, ⟨2, _⟩ => ⟨S2560x128x4x128, .f32⟩
  | .hbm, ⟨3, _⟩ => ⟨S1024x2048, .bf16⟩
  | .hbm, ⟨4, _⟩ => ⟨S128x128x3, .f32⟩
  | .hbm, ⟨5, _⟩ => ⟨S128x128x512, .bf16⟩
  | .hbm, ⟨6, _⟩ => ⟨S128x128x512, .bf16⟩
  | .hbm, ⟨7, _⟩ => ⟨S128x8x4x128, .f32⟩
  | .hbm, ⟨8, _⟩ => ⟨S128x8x4x128, .f32⟩
  | .hbm, ⟨9, _⟩ => ⟨S128x8x4x128, .f32⟩
  | .hbm, ⟨10, _⟩ => ⟨S128x8x4x128, .f32⟩
  | .hbm, ⟨11, _⟩ => ⟨S128x512x4x128, .f32⟩
  | .hbm, ⟨12, _⟩ => ⟨S128x512x4x128, .f32⟩
  | .hbm, ⟨13, _⟩ => ⟨S128x128, .f32⟩
  | .hbm, ⟨14, _⟩ => ⟨S128x2176, .f32⟩
  | .hbm, ⟨15, _⟩ => ⟨S128x640, .f32⟩
  | .hbm, ⟨16, _⟩ => ⟨S128x520x4x128, .f32⟩
  | .hbm, ⟨17, _⟩ => ⟨S128x512x4x128, .f32⟩
  | .hbm, ⟨18, _⟩ => ⟨S128x520x4x128, .f32⟩
  | .hbm, ⟨19, _⟩ => ⟨S128x512x4x128, .f32⟩
  | .hbm, ⟨20, _⟩ => ⟨S128x512x512, .f32⟩
  | .hbm, ⟨21, _⟩ => ⟨S128x512x512, .f32⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩

abbrev nD : Nat := 1
abbrev τ : Topo := Topo.v7x

variable {F : FTy → Type} [FloatOps F]
-- ==== Proof.Common.lean ====
/-
  What several of the kernels share: zero offsets, a row's layer norm, and a sum taken in equal pieces.
-/
module

public import Idealize.ShloMosaic.PureOps.Ideal
public import Idealize.ShloMosaic.Lib.Pointwise
public import Idealize.ShloMosaic.Lib.Pipeline.Value

@[expose] public section

noncomputable section

namespace Cert.Proof.Common

open Idealize.ShloMosaic
open scoped BigOperators

/-- The offsets of a load or store of a whole block. -/
theorem hz : (![0, 0] : Fin 2 → Nat) = fun _ => 0 := funext fun a => by fin_cases a <;> rfl

/-- The mean of a row of 2048. -/
def mean (v : Fin 2048 → EReal) : EReal := Ideal.div (∑ k, v k) (Ideal.ofBits .f32 0x45000000#32)

/-- Entry `j` of a row's layer norm, scaled by `g` and shifted by `b`. -/
def ln (v : Fin 2048 → EReal) (g b : EReal) (j : Fin 2048) : EReal :=
  (v j - mean v) * Ideal.rsqrt (mean (fun k => (v k - mean v) * (v k - mean v)) + Ideal.ofBits .f32 0x3727C5AC#32) * g + b

/-- A function on `Fin n` continued by zero. -/
def ext {n : Nat} (f : Fin n → EReal) (k : Nat) : EReal := if h : k < n then f ⟨k, h⟩ else 0

/-- Its sum over `range n` is the sum over `Fin n`. -/
theorem sum_ext {n : Nat} (f : Fin n → EReal) : ∑ k ∈ Finset.range n, ext f k = ∑ k : Fin n, f k := by
  rw [Finset.sum_range]
  exact Finset.sum_congr rfl fun k _ => by simp [ext]

/-- The sum of the first `s * p` terms and piece `s` of `p` terms make the sum of the first `(s + 1) * p`. -/
theorem sum_piece {n : Nat} (f : Fin n → EReal) (s p : Nat) (h : (s + 1) * p ≤ n) :
    ∑ k ∈ Finset.range (s * p), ext f k
      + ∑ k : Fin p, f ⟨s * p + k.val, by have := k.isLt; rw [Nat.add_mul] at h; omega⟩
      = ∑ k ∈ Finset.range ((s + 1) * p), ext f k := by
  rw [Nat.add_mul, Nat.one_mul, Finset.sum_range_add]
  congr 1
  rw [Finset.sum_range]
  refine Finset.sum_congr rfl fun k _ => ?_
  have hk := k.isLt
  rw [Nat.add_mul] at h
  rw [ext, dif_pos (by omega)]

end Cert.Proof.Common
-- ==== Proof.Glu.lean ====
/-
  The gated projection `a · sigmoid(gate)`: what each grid point writes, as a function of the argument arrays.
-/
module

public import proofs.«01_k».proof.Proof.Common
public import proofs.«01_k».proof.Proof.Gen.GluIdeal.Value
public import proofs.«01_k».proof.Proof.Gen.GluRefIdeal.Run
public import proofs.«01_k».proof.Proof.Gen.GluRefIdeal.Read
public import Idealize.ShloMosaic.Lib.Tactic

@[expose] public section

noncomputable section

namespace Cert.Proof.Glu

open Idealize.ShloMosaic Idealize.ShloMosaic.TcCoe Idealize.SL.Sem
open Idealize.ShloMosaic.Pipeline (Dat)
open Cert.GluIdeal Cert.GluIdeal.Gen Cert.Proof.Common
open scoped BigOperators

variable (m : (ℓ : Loc nD τ sig) → Buf (Elt Ideal) ℓ)

/-- The three arguments, and the three operands as the region finds them. -/
def ax (c : Dev nD) : FVec Ideal S2x4096x2048 .f32 := m ((c : Thread nD τ).loc main_arg0)
def aw (c : Dev nD) : FVec Ideal S1x2048x4096 .f32 := m ((c : Thread nD τ).loc main_arg1)
def ab (c : Dev nD) : FVec Ideal S1x4096 .f32 := m ((c : Thread nD τ).loc main_arg2)
def vx (c : Dev nD) : FVec Ideal S8192x2048 .bf16 := V m c main_v1
def vw (c : Dev nD) : FVec Ideal S2048x4096 .bf16 := V m c main_v3
def vb (c : Dev nD) : FVec Ideal S1x4096 .f32 := V m c main_v5

theorem vx_eq (c : Dev nD) : vx m c = truncf .bf16 (shapeCast S8192x2048 (ax m c) shapeCasts_S2x4096x2048_S8192x2048) bitsLt_bf16_f32 := by
  unfold vx V ax
  after_results <;> rfl
theorem vw_eq (c : Dev nD) : vw m c = truncf .bf16 (shapeCast S2048x4096 (aw m c) shapeCasts_S1x2048x4096_S2048x4096) bitsLt_bf16_f32 := by
  unfold vw V aw
  after_results <;> rfl
theorem vb_eq (c : Dev nD) : vb m c = shapeCast S1x4096 (shapeCast S4096 (ab m c) shapeCasts_S1x4096_S4096) shapeCasts_S4096_S1x4096 := by
  unfold vb V ab
  after_results <;> rfl

theorem vx_apply (c : Dev nD) (r : Fin 8192) (k : Fin 2048) : vx m c (ix2 r k) = ax m c (ix3 ⟨r.val / 4096, by omega⟩ ⟨r.val % 4096, by omega⟩ k) := by
  rw [vx_eq]
  pointwise
theorem vw_apply (c : Dev nD) (k : Fin 2048) (j : Fin 4096) : vw m c (ix2 k j) = aw m c (ix3 0 k j) := by
  rw [vw_eq]
  pointwise
theorem vb_apply (c : Dev nD) (j : Fin 4096) : vb m c (ix2 0 j) = ab m c (ix2 0 j) := by
  rw [vb_eq]
  pointwise

/-- The block indices of the six windows at each of the 32 points. -/
theorem idx_facts : ∀ t : Fin grid0.N,
    win0_0.index t 0 = t.val / 4 ∧ win0_0.index t 1 = 0
    ∧ win0_1.index t 0 = 0 ∧ win0_1.index t 1 = t.val % 4
    ∧ win0_2.index t 0 = 0 ∧ win0_2.index t 1 = t.val % 4 + 4
    ∧ win0_3.index t 0 = 0 ∧ win0_3.index t 1 = t.val % 4
    ∧ win0_4.index t 0 = 0 ∧ win0_4.index t 1 = t.val % 4 + 4
    ∧ win0_5.index t 0 = t.val / 4 ∧ win0_5.index t 1 = t.val % 4 := by decide +kernel

theorem blk_x (c : Dev nD) (t : Fin cfg0.N) (a : Fin 1024) (k : Fin 2048) :
    (iblk m c 0 t : FVec Ideal S1024x2048 .bf16) (ix2 a k)
      = vx m c (ix2 ⟨t.val / 4 * 1024 + a.val, by have : t.val < 32 := t.isLt; omega⟩ k) := by
  unfold iblk
  rw [View.read_apply]
  show vx m c _ = _
  congr 1
  have := idx_facts t
  apply Shape.idx_ext₂
  · show win0_0.index t 0 * 1024 + 1 * a.val = t.val / 4 * 1024 + a.val
    omega
  · show win0_0.index t 1 * 2048 + 1 * k.val = k.val
    omega

theorem blk_w (c : Dev nD) (t : Fin cfg0.N) (k : Fin 2048) (b : Fin 512) :
    (iblk m c 1 t : FVec Ideal S2048x512 .bf16) (ix2 k b)
      = vw m c (ix2 k ⟨t.val % 4 * 512 + b.val, by omega⟩) := by
  unfold iblk
  rw [View.read_apply]
  show vw m c _ = _
  congr 1
  have := idx_facts t
  apply Shape.idx_ext₂
  · show win0_1.index t 0 * 2048 + 1 * k.val = k.val
    omega
  · show win0_1.index t 1 * 512 + 1 * b.val = t.val % 4 * 512 + b.val
    omega

theorem blk_w' (c : Dev nD) (t : Fin cfg0.N) (k : Fin 2048) (b : Fin 512) :
    (iblk m c 2 t : FVec Ideal S2048x512 .bf16) (ix2 k b)
      = vw m c (ix2 k ⟨2048 + (t.val % 4 * 512 + b.val), by omega⟩) := by
  unfold iblk
  rw [View.read_apply]
  show vw m c _ = _
  congr 1
  have := idx_facts t
  apply Shape.idx_ext₂
  · show win0_2.index t 0 * 2048 + 1 * k.val = k.val
    omega
  · show win0_2.index t 1 * 512 + 1 * b.val = 2048 + (t.val % 4 * 512 + b.val)
    omega

theorem blk_b (c : Dev nD) (t : Fin cfg0.N) (b : Fin 512) :
    (iblk m c 3 t : FVec Ideal S1x512 .f32) (ix2 0 b)
      = vb m c (ix2 0 ⟨t.val % 4 * 512 + b.val, by omega⟩) := by
  unfold iblk
  rw [View.read_apply]
  show vb m c _ = _
  congr 1
  have := idx_facts t
  apply Shape.idx_ext₂
  · show win0_3.index t 0 * 1 + 1 * 0 = 0
    omega
  · show win0_3.index t 1 * 512 + 1 * b.val = t.val % 4 * 512 + b.val
    omega

theorem blk_b' (c : Dev nD) (t : Fin cfg0.N) (b : Fin 512) :
    (iblk m c 4 t : FVec Ideal S1x512 .f32) (ix2 0 b)
      = vb m c (ix2 0 ⟨2048 + (t.val % 4 * 512 + b.val), by omega⟩) := by
  unfold iblk
  rw [View.read_apply]
  show vb m c _ = _
  congr 1
  have := idx_facts t
  apply Shape.idx_ext₂
  · show win0_4.index t 0 * 1 + 1 * 0 = 0
    omega
  · show win0_4.index t 1 * 512 + 1 * b.val = 2048 + (t.val % 4 * 512 + b.val)
    omega

/-- What the body stores, at an index of its block. -/
theorem pay_apply (v0 : Vec Ideal S1024x2048 .bf16) (v2 : Vec Ideal S2048x512 .bf16) (v5 : Vec Ideal S1x512 .f32) (v9 : Vec Ideal S2048x512 .bf16)
   (v12 : Vec Ideal S1x512 .f32) (a : Fin 1024) (b : Fin 512) : k0_pay1 (F := Ideal) v0 v2 v5 v9 v12 (ix2 a b)
    = ((∑ k : Fin 2048, (v0 (ix2 a k) : EReal) * v2 (ix2 k b)) + v5 (ix2 0 b))
      * Ideal.logistic ((∑ k : Fin 2048, (v0 (ix2 a k) : EReal) * v9 (ix2 k b)) + v12 (ix2 0 b)) := by
  unfold k0_pay1
  pointwise [dot_S1024x2048_S2048x512_S1024x512_1_0_0_1_n_n]

/-- Column `j` of the projection `x w + b` at token `r`. -/
def proj (x : FVec Ideal S2x4096x2048 .f32) (w : FVec Ideal S1x2048x4096 .f32) (b : FVec Ideal S1x4096 .f32) (r : Fin 8192) (j : Fin 4096) : EReal :=
  (∑ k : Fin 2048, (x (ix3 ⟨r.val / 4096, by omega⟩ ⟨r.val % 4096, by omega⟩ k) : EReal) * w (ix3 0 k j)) + b (ix2 0 j)

open Cert.GluRefIdeal.Read in
/-- The reference at token `r`, column `j`. -/
theorem ref_apply (x : FVec Ideal S2x4096x2048 .f32) (w : FVec Ideal S1x2048x4096 .f32) (b : FVec Ideal S1x4096 .f32) (r : Fin 8192) (j : Fin 2048) :
    val_main_v15 (F := Ideal) x w b (ix2 r j)
      = proj x w b r ⟨j.val, by omega⟩ * Ideal.logistic (proj x w b r ⟨2048 + j.val, by omega⟩) := by
  unfold proj Ideal.logistic
  rw [← val_main_v15_eq]
  pointwise [Cert.GluRefIdeal.dot_S2x4096x2048_S2048x4096_S2x4096x4096_2_0_01_1_n_n]

/-- The whole array the kernel is shown to leave: the reference's. -/
abbrev G (c : Dev nD) : FVec Ideal S8192x2048 .f32 := Cert.GluRefIdeal.Read.val_main_v15 (F := Ideal) (ax m c) (aw m c) (ab m c)

/-- Point `t` writes back block `t` of it. -/
theorem flushed_eq (c : Dev nD) (t : Fin cfg0.N) :
    (dats m 0 c).flushed 5 t = ((cfg0.win 5).blk t).view.read (Elt Ideal) (G m c) := by
  rw [Cert.GluIdeal.Value.flushed5]
  unfold out0_5
  rw [View.canon_unit_zero hz]
  simp only [View.ld_unit_zero (S := S1024x2048) hz, View.ld_unit_zero (S := S2048x512) hz, View.ld_unit_zero (S := S1x512) hz]
  funext j
  rw [View.read_apply]
  show k0_pay1 (F := Ideal) (iblk m c 0 t) (iblk m c 1 t) (iblk m c 3 t) (iblk m c 2 t) (iblk m c 4 t) j = _
  obtain ⟨a, b, rfl⟩ : ∃ (a : Fin 1024) (b : Fin 512), j = ix2 a b := ⟨j 0, j 1, eq_ix2 j⟩
  rw [pay_apply]
  have ht : t.val < 32 := t.isLt
  have e : ((cfg0.win 5).blk t).view.emb (ix2 a b)
      = (ix2 ⟨t.val / 4 * 1024 + a.val, by omega⟩ ⟨t.val % 4 * 512 + b.val, by omega⟩ : S8192x2048.Idx) := by
    have := idx_facts t
    apply Shape.idx_ext₂
    · show win0_5.index t 0 * 1024 + 1 * a.val = t.val / 4 * 1024 + a.val
      omega
    · show win0_5.index t 1 * 512 + 1 * b.val = t.val % 4 * 512 + b.val
      omega
  rw [e]
  refine Eq.trans ?_ (ref_apply (ax m c) (aw m c) (ab m c) _ _).symm
  simp only [blk_x, blk_w, blk_w', blk_b, blk_b', vx_apply, vw_apply, vb_apply, proj]

/-- Every index of the result is in some point's block. -/
theorem cover (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have ht : (i 0 : Nat) / 1024 * 4 + (i 1 : Nat) / 512 < cfg0.N := by show _ < 32; omega
  refine ⟨⟨_, ht⟩, flush0_5 _, ?_⟩
  have := idx_facts ⟨_, ht⟩
  dsimp only at this
  show i ∈ ((View.whole main_v6).slice (win0_5.rect ⟨_, ht⟩)).set
  rw [View.set_slice_whole, Rect.mem_set_unit]
  intro a
  match a with
  | ⟨0, _⟩ =>
    show win0_5.index ⟨_, ht⟩ 0 * 1024 ≤ (i 0 : Nat) ∧ (i 0 : Nat) < win0_5.index ⟨_, ht⟩ 0 * 1024 + 1024
    omega
  | ⟨1, _⟩ =>
    show win0_5.index ⟨_, ht⟩ 1 * 512 ≤ (i 1 : Nat) ∧ (i 1 : Nat) < win0_5.index ⟨_, ht⟩ 1 * 512 + 512
    omega

/-- So the result array ends holding the reference's array. -/
theorem final (c : Dev nD) : (dats m 0 c).arrAt 5 cfg0.N = G m c :=
  (dats m 0 c).arrAt_eq_of_cover 5 (G m c) (fun t _ => flushed_eq m c t) cover

end Cert.Proof.Glu
-- ==== Proof.GluS.lean ====
/-
  The gated projection `a · sigmoid(gate)`: what each grid point writes, as a function of the argument arrays.
-/
module

public import proofs.«01_k».proof.Proof.Common
public import proofs.«01_k».proof.Proof.Gen.GluSIdeal.Frame
public import Idealize.ShloMosaic.Lib.Pipeline.Value
public import proofs.«01_k».proof.Proof.Gen.GluSRefIdeal.Run
public import proofs.«01_k».proof.Proof.Gen.GluSRefIdeal.Read
public import Idealize.ShloMosaic.Lib.Tactic

@[expose] public section

noncomputable section

namespace Cert.Proof.GluS

open Idealize.ShloMosaic Idealize.ShloMosaic.TcCoe Idealize.SL.Sem
open Idealize.ShloMosaic.Pipeline (Dat)
open Cert.GluSIdeal Cert.GluSIdeal.Gen Cert.Proof.Common
open scoped BigOperators

variable (m : (ℓ : Loc nD τ sig) → Buf (Elt Ideal) ℓ)

/-- The three arguments, and the three operands as the region finds them. -/
def ax (c : Dev nD) : FVec Ideal S128x8x2048 .f32 := m ((c : Thread nD τ).loc main_arg0)
def aw (c : Dev nD) : FVec Ideal S1x2048x4096 .f32 := m ((c : Thread nD τ).loc main_arg1)
def ab (c : Dev nD) : FVec Ideal S1x4096 .f32 := m ((c : Thread nD τ).loc main_arg2)
def vx (c : Dev nD) : FVec Ideal S1024x2048 .bf16 := V m c main_v1
def vw (c : Dev nD) : FVec Ideal S2048x4096 .bf16 := V m c main_v3
def vb (c : Dev nD) : FVec Ideal S1x4096 .f32 := V m c main_v5

theorem vx_eq (c : Dev nD) : vx m c = truncf .bf16 (shapeCast S1024x2048 (ax m c) shapeCasts_S128x8x2048_S1024x2048) bitsLt_bf16_f32 := by
  unfold vx V V0 ax
  rw [show List.flatten [(hostOps0 : List (HloOp τ sig (Elt Ideal)))] = hostOps0 from List.append_nil _]
  after_results <;> rfl
theorem vw_eq (c : Dev nD) : vw m c = truncf .bf16 (shapeCast S2048x4096 (aw m c) shapeCasts_S1x2048x4096_S2048x4096) bitsLt_bf16_f32 := by
  unfold vw V V0 aw
  rw [show List.flatten [(hostOps0 : List (HloOp τ sig (Elt Ideal)))] = hostOps0 from List.append_nil _]
  after_results <;> rfl
theorem vb_eq (c : Dev nD) : vb m c = shapeCast S1x4096 (shapeCast S4096 (ab m c) shapeCasts_S1x4096_S4096) shapeCasts_S4096_S1x4096 := by
  unfold vb V V0 ab
  rw [show List.flatten [(hostOps0 : List (HloOp τ sig (Elt Ideal)))] = hostOps0 from List.append_nil _]
  after_results <;> rfl

theorem vx_apply (c : Dev nD) (r : Fin 1024) (k : Fin 2048) : vx m c (ix2 r k) = ax m c (ix3 ⟨r.val / 8, by omega⟩ ⟨r.val % 8, by omega⟩ k) := by
  rw [vx_eq]
  pointwise
theorem vw_apply (c : Dev nD) (k : Fin 2048) (j : Fin 4096) : vw m c (ix2 k j) = aw m c (ix3 0 k j) := by
  rw [vw_eq]
  pointwise
theorem vb_apply (c : Dev nD) (j : Fin 4096) : vb m c (ix2 0 j) = ab m c (ix2 0 j) := by
  rw [vb_eq]
  pointwise

/-- The block indices of the six windows at each of the 4 points. -/
theorem idx_facts : ∀ t : Fin grid0.N,
    win0_0.index t 0 = t.val / 4 ∧ win0_0.index t 1 = 0
    ∧ win0_1.index t 0 = 0 ∧ win0_1.index t 1 = t.val % 4
    ∧ win0_2.index t 0 = 0 ∧ win0_2.index t 1 = t.val % 4 + 4
    ∧ win0_3.index t 0 = 0 ∧ win0_3.index t 1 = t.val % 4
    ∧ win0_4.index t 0 = 0 ∧ win0_4.index t 1 = t.val % 4 + 4
    ∧ win0_5.index t 0 = t.val / 4 ∧ win0_5.index t 1 = t.val % 4 := by decide +kernel

theorem blk_x (c : Dev nD) (t : Fin cfg0.N) (a : Fin 1024) (k : Fin 2048) :
    (iblk m c 0 t : FVec Ideal S1024x2048 .bf16) (ix2 a k)
      = vx m c (ix2 ⟨t.val / 4 * 1024 + a.val, by have : t.val < 4 := t.isLt; omega⟩ k) := by
  unfold iblk
  rw [View.read_apply]
  show vx m c _ = _
  congr 1
  have := idx_facts t
  apply Shape.idx_ext₂
  · show win0_0.index t 0 * 1024 + 1 * a.val = t.val / 4 * 1024 + a.val
    omega
  · show win0_0.index t 1 * 2048 + 1 * k.val = k.val
    omega

theorem blk_w (c : Dev nD) (t : Fin cfg0.N) (k : Fin 2048) (b : Fin 512) :
    (iblk m c 1 t : FVec Ideal S2048x512 .bf16) (ix2 k b)
      = vw m c (ix2 k ⟨t.val % 4 * 512 + b.val, by omega⟩) := by
  unfold iblk
  rw [View.read_apply]
  show vw m c _ = _
  congr 1
  have := idx_facts t
  apply Shape.idx_ext₂
  · show win0_1.index t 0 * 2048 + 1 * k.val = k.val
    omega
  · show win0_1.index t 1 * 512 + 1 * b.val = t.val % 4 * 512 + b.val
    omega

theorem blk_w' (c : Dev nD) (t : Fin cfg0.N) (k : Fin 2048) (b : Fin 512) :
    (iblk m c 2 t : FVec Ideal S2048x512 .bf16) (ix2 k b)
      = vw m c (ix2 k ⟨2048 + (t.val % 4 * 512 + b.val), by omega⟩) := by
  unfold iblk
  rw [View.read_apply]
  show vw m c _ = _
  congr 1
  have := idx_facts t
  apply Shape.idx_ext₂
  · show win0_2.index t 0 * 2048 + 1 * k.val = k.val
    omega
  · show win0_2.index t 1 * 512 + 1 * b.val = 2048 + (t.val % 4 * 512 + b.val)
    omega

theorem blk_b (c : Dev nD) (t : Fin cfg0.N) (b : Fin 512) :
    (iblk m c 3 t : FVec Ideal S1x512 .f32) (ix2 0 b)
      = vb m c (ix2 0 ⟨t.val % 4 * 512 + b.val, by omega⟩) := by
  unfold iblk
  rw [View.read_apply]
  show vb m c _ = _
  congr 1
  have := idx_facts t
  apply Shape.idx_ext₂
  · show win0_3.index t 0 * 1 + 1 * 0 = 0
    omega
  · show win0_3.index t 1 * 512 + 1 * b.val = t.val % 4 * 512 + b.val
    omega

theorem blk_b' (c : Dev nD) (t : Fin cfg0.N) (b : Fin 512) :
    (iblk m c 4 t : FVec Ideal S1x512 .f32) (ix2 0 b)
      = vb m c (ix2 0 ⟨2048 + (t.val % 4 * 512 + b.val), by omega⟩) := by
  unfold iblk
  rw [View.read_apply]
  show vb m c _ = _
  congr 1
  have := idx_facts t
  apply Shape.idx_ext₂
  · show win0_4.index t 0 * 1 + 1 * 0 = 0
    omega
  · show win0_4.index t 1 * 512 + 1 * b.val = 2048 + (t.val % 4 * 512 + b.val)
    omega

/-- What the body stores, at an index of its block. -/
theorem pay_apply (v0 : Vec Ideal S1024x2048 .bf16) (v2 : Vec Ideal S2048x512 .bf16) (v5 : Vec Ideal S1x512 .f32) (v9 : Vec Ideal S2048x512 .bf16)
   (v12 : Vec Ideal S1x512 .f32) (a : Fin 1024) (b : Fin 512) : k0_pay1 (F := Ideal) v0 v2 v5 v9 v12 (ix2 a b)
    = ((∑ k : Fin 2048, (v0 (ix2 a k) : EReal) * v2 (ix2 k b)) + v5 (ix2 0 b))
      * Ideal.logistic ((∑ k : Fin 2048, (v0 (ix2 a k) : EReal) * v9 (ix2 k b)) + v12 (ix2 0 b)) := by
  unfold k0_pay1
  pointwise [dot_S1024x2048_S2048x512_S1024x512_1_0_0_1_n_n]

/-- Column `j` of the projection `x w + b` at token `r`. -/
def proj (x : FVec Ideal S128x8x2048 .f32) (w : FVec Ideal S1x2048x4096 .f32) (b : FVec Ideal S1x4096 .f32) (r : Fin 1024) (j : Fin 4096) : EReal :=
  (∑ k : Fin 2048, (x (ix3 ⟨r.val / 8, by omega⟩ ⟨r.val % 8, by omega⟩ k) : EReal) * w (ix3 0 k j)) + b (ix2 0 j)

open Cert.GluSRefIdeal.Read in
/-- The reference at token `r`, column `j`. -/
theorem ref_apply (x : FVec Ideal S128x8x2048 .f32) (w : FVec Ideal S1x2048x4096 .f32) (b : FVec Ideal S1x4096 .f32) (r : Fin 1024) (j : Fin 2048) :
    val_main_v15 (F := Ideal) x w b (ix2 r j)
      = proj x w b r ⟨j.val, by omega⟩ * Ideal.logistic (proj x w b r ⟨2048 + j.val, by omega⟩) := by
  unfold proj Ideal.logistic
  rw [← val_main_v15_eq]
  pointwise [Cert.GluSRefIdeal.dot_S128x8x2048_S2048x4096_S128x8x4096_2_0_01_1_n_n]

/-- The whole array the kernel is shown to leave: the reference's. -/
abbrev G (c : Dev nD) : FVec Ideal S1024x2048 .f32 := Cert.GluSRefIdeal.Read.val_main_v15 (F := Ideal) (ax m c) (aw m c) (ab m c)

/-- Point `t` writes back block `t` of it. -/
theorem flushed_eq (c : Dev nD) (t : Fin cfg0.N) :
    (dats m 0 c).flushed 5 t = ((cfg0.win 5).blk t).view.read (Elt Ideal) (G m c) := by
  have e1 : (dats m 0 c).flushed 5 t = (cfg0.win 5).cut (grid0.coords t) (out0_5 (iblk m c 0 t) (iblk m c 1 t) (iblk m c 2 t) (iblk m c 3 t) (iblk m c 4 t)) := by
    show (cfg0.win 5).cut (grid0.coords t) ((dats m 0 c).after 5 t) = _
    rw [after0_5]
  rw [e1]
  unfold out0_5
  rw [View.canon_unit_zero hz]
  simp only [View.ld_unit_zero (S := S1024x2048) hz, View.ld_unit_zero (S := S2048x512) hz, View.ld_unit_zero (S := S1x512) hz]
  funext j
  rw [View.read_apply]
  show k0_pay1 (F := Ideal) (iblk m c 0 t) (iblk m c 1 t) (iblk m c 3 t) (iblk m c 2 t) (iblk m c 4 t) j = _
  obtain ⟨a, b, rfl⟩ : ∃ (a : Fin 1024) (b : Fin 512), j = ix2 a b := ⟨j 0, j 1, eq_ix2 j⟩
  rw [pay_apply]
  have ht : t.val < 4 := t.isLt
  have e : ((cfg0.win 5).blk t).view.emb (ix2 a b)
      = (ix2 ⟨t.val / 4 * 1024 + a.val, by omega⟩ ⟨t.val % 4 * 512 + b.val, by omega⟩ : S1024x2048.Idx) := by
    have := idx_facts t
    apply Shape.idx_ext₂
    · show win0_5.index t 0 * 1024 + 1 * a.val = t.val / 4 * 1024 + a.val
      omega
    · show win0_5.index t 1 * 512 + 1 * b.val = t.val % 4 * 512 + b.val
      omega
  rw [e]
  refine Eq.trans ?_ (ref_apply (ax m c) (aw m c) (ab m c) _ _).symm
  simp only [blk_x, blk_w, blk_w', blk_b, blk_b', vx_apply, vw_apply, vb_apply, proj]

/-- Every index of the result is in some point's block. -/
theorem cover (i : S1024x2048.Idx) : ∃ t : Fin cfg0.N, (cfg0.win 5).flush t = true ∧ i ∈ ((cfg0.win 5).blk t).view.set := by
  have h0 : (i 0 : Nat) < 1024 := (i 0).isLt
  have h1 : (i 1 : Nat) < 2048 := (i 1).isLt
  have ht : (i 0 : Nat) / 1024 * 4 + (i 1 : Nat) / 512 < cfg0.N := by show _ < 4; omega
  refine ⟨⟨_, ht⟩, flush0_5 _, ?_⟩
  have := idx_facts ⟨_, ht⟩
  dsimp only at this
  show i ∈ ((View.whole main_v6).slice (win0_5.rect ⟨_, ht⟩)).set
  rw [View.set_slice_whole, Rect.mem_set_unit]
  intro a
  match a with
  | ⟨0, _⟩ =>
    show win0_5.index ⟨_, ht⟩ 0 * 1024 ≤ (i 0 : Nat) ∧ (i 0 : Nat) < win0_5.index ⟨_, ht⟩ 0 * 1024 + 1024
    omega
  | ⟨1, _⟩ =>
    show win0_5.index ⟨_, ht⟩ 1 * 512 ≤ (i 1 : Nat) ∧ (i 1 : Nat) < win0_5.index ⟨_, ht⟩ 1 * 512 + 512
    omega

/-- So the result array ends holding the reference's array. -/
theorem final (c : Dev nD) : (dats m 0 c).arrAt 5 cfg0.N = G m c :=
  (dats m 0 c).arrAt_eq_of_cover 5 (G m c) (fun t _ => flushed_eq m c t) cover

/-- The convolution state that is handed on: the last rows of the old state followed by the gated projection. -/
def stc (c : Dev nD) : FVec Ideal S1x128x30x2048 .f32 := m ((c : Thread nD τ).loc main_arg3)
abbrev G' (c : Dev nD) : FVec Ideal S1x128x30x2048 .f32 := Cert.GluSRefIdeal.Read.val_main_v20 (F := Ideal) (ax m c) (aw m c) (ab m c) (stc m c)

/-- The lines after the call make it from the call's result. -/
theorem tail (c : Dev nD) : Pipeline.afterTail₀ cfgs (dats m) 0 (V0 m) [hostOps1] c main_v11 = G' m c := by
  have hu : Pipeline.withArrays spec0 c (V0 m c) (fun w => (dats m 0 c).arrAt w cfg0.N) (Proc.devRef .tc main_v6) = G m c :=
    ((dats m 0 c).withArrays_arrAt sharedIn0 (V0 m c) (A_eq m c) 5).trans (final m c)
  have hs : Pipeline.withArrays spec0 c (V0 m c) (fun w => (dats m 0 c).arrAt w cfg0.N) (Proc.devRef .tc main_arg3) = stc m c :=
    (Pipeline.withArrays_of_ne _ c (V0 m c) _ main_arg3 (by exact (by decide : ∀ w, Pipeline.arrRef spec0 w ≠ main_arg3))).trans (V_main_arg3 m c)
  show StableHlo.after [hostOps1].flatten (Pipeline.withArrays spec0 c (V0 m c) fun w => (dats m 0 c).arrAt w cfg0.N) (Proc.devRef .tc main_v11) = _
  generalize Pipeline.withArrays spec0 c (V0 m c) (fun w => (dats m 0 c).arrAt w cfg0.N) = W at hu hs ⊢
  have h : StableHlo.after [hostOps1].flatten W (Proc.devRef .tc main_v11)
      = broadcastInDim S1x128x30x2048 ![1, 2, 3] bcast_S128x30x2048_S1x128x30x2048_1_2_3 (extractStridedSlice S128x30x2048 ![0, 8, 0]
        (concatenate S128x38x2048 1 [⟨S128x30x2048, shapeCast S128x30x2048 (W (Proc.devRef .tc main_arg3) : FVec Ideal S1x128x30x2048 .f32) shapeCasts_S1x128x30x2048_S128x30x2048⟩,
          ⟨S128x8x2048, shapeCast S128x8x2048 (W (Proc.devRef .tc main_v6) : FVec Ideal S1024x2048 .f32) shapeCasts_S1024x2048_S128x8x2048⟩]
          concatenates_S128x30x2048_S128x8x2048_S128x38x2048_d1) slices_S128x38x2048_S128x30x2048_0_8_0) := by
    rw [show List.flatten [(hostOps1 : List (HloOp τ sig (Elt Ideal)))] = hostOps1 from List.append_nil _]
    after_results <;> rfl
  rw [h, hu, hs]
  rfl

/-- The run: both results are the reference's, the arguments are unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v6) = G m c
      ∧ r.2.mem ((c.tc : Thread nD τ).loc main_v11) = G' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final m c),
      ((h c).2 main_v11 (Pipeline.mem_restRefs_of main_v11 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Proof.GluS
-- ==== Proof.Swi.lean ====
/-
  The gated up projection `silu(a) · gate`: what each grid point writes, as a function of the argument arrays.
-/
module

public import proofs.«01_k».proof.Proof.Common
public import proofs.«01_k».proof.Proof.Gen.SwiIdeal.Value
public import proofs.«01_k».proof.Proof.Gen.SwiRefIdeal.Run
public import proofs.«01_k».proof.Proof.Gen.SwiRefIdeal.Read
public import Idealize.ShloMosaic.Lib.Tactic

@[expose] public section

noncomputable section

namespace Cert.Proof.Swi

open Idealize.ShloMosaic Idealize.ShloMosaic.TcCoe Idealize.SL.Sem
open Idealize.ShloMosaic.Pipeline (Dat)
open Cert.SwiIdeal Cert.SwiIdeal.Gen Cert.Proof.Common
open scoped BigOperators

variable (m : (ℓ : Loc nD τ sig) → Buf (Elt Ideal) ℓ)

/-- The two arguments, and the operands as the region finds them. -/
def ax (c : Dev nD) : FVec Ideal S8192x2048 .bf16 := m ((c : Thread nD τ).loc main_arg0)
def aw (c : Dev nD) : FVec Ideal S2048x11264 .f32 := m ((c : Thread nD τ).loc main_arg1)
def vw (c : Dev nD) : FVec Ideal S2048x11264 .bf16 := V m c main_v0
def vb (c : Dev nD) : FVec Ideal S1x11264 .f32 := V m c main_v1

theorem vw_eq (c : Dev nD) : vw m c = truncf .bf16 (aw m c) bitsLt_bf16_f32 := by
  unfold vw V aw
  after_results <;> rfl
theorem vb_eq (c : Dev nD) : vb m c = broadcastInDim S1x11264 ![] bcast_S_S1x11264 (constant S_ .f32 0x00000000#32) := by
  unfold vb V
  after_results <;> rfl

theorem vw_apply (c : Dev nD) (k : Fin 2048) (j : Fin 11264) : vw m c (ix2 k j) = aw m c (ix2 k j) := by
  rw [vw_eq]
  pointwise
theorem vb_apply (c : Dev nD) (j : Fin 11264) : vb m c (ix2 0 j) = (0 : EReal) := by
  rw [vb_eq]
  pointwise

/-- The block indices of the six windows at each of the 88 points. -/
theorem idx_facts : ∀ t : Fin grid0.N,
    win0_0.index t 0 = t.val / 11 ∧ win0_0.index t 1 = 0
    ∧ win0_1.index t 0 = 0 ∧ win0_1.index t 1 = t.val % 11
    ∧ win0_2.index t 0 = 0 ∧ win0_2.index t 1 = t.val % 11 + 11
    ∧ win0_3.index t 0 = 0 ∧ win0_3.index t 1 = t.val % 11
    ∧ win0_4.index t 0 = 0 ∧ win0_4.index t 1 = t.val % 11 + 11
    ∧ win0_5.index t 0 = t.val / 11 ∧ win0_5.index t 1 = t.val % 11 := by decide +kernel

theorem blk_x (c : Dev nD) (t : Fin cfg0.N) (a : Fin 1024) (k : Fin 2048) :
    (iblk m c 0 t : FVec Ideal S1024x2048 .bf16) (ix2 a k)
      = ax m c (ix2 ⟨t.val / 11 * 1024 + a.val, by have : t.val < 88 := t.isLt; omega⟩ k) := by
  unfold iblk
  rw [View.read_apply]
  show ax m c _ = _
  congr 1
  have := idx_facts t
  apply Shape.idx_ext₂
  · show win0_0.index t 0 * 1024 + 1 * a.val = t.val / 11 * 1024 + a.val
    omega
  · show win0_0.index t 1 * 2048 + 1 * k.val = k.val
    omega

theorem blk_w (c : Dev nD) (t : Fin cfg0.N) (k : Fin 2048) (b : Fin 512) :
    (iblk m c 1 t : FVec Ideal S2048x512 .bf16) (ix2 k b)
      = vw m c (ix2 k ⟨t.val % 11 * 512 + b.val, by omega⟩) := by
  unfold iblk
  rw [View.read_apply]
  show vw m c _ = _
  congr 1
  have := idx_facts t
  apply Shape.idx_ext₂
  · show win0_1.index t 0 * 2048 + 1 * k.val = k.val
    omega
  · show win0_1.index t 1 * 512 + 1 * b.val = t.val % 11 * 512 + b.val
    omega

theorem blk_w' (c : Dev nD) (t : Fin cfg0.N) (k : Fin 2048) (b : Fin 512) :
    (iblk m c 2 t : FVec Ideal S2048x512 .bf16) (ix2 k b)
      = vw m c (ix2 k ⟨5632 + (t.val % 11 * 512 + b.val), by omega⟩) := by
  unfold iblk
  rw [View.read_apply]
  show vw m c _ = _
  congr 1
  have := idx_facts t
  apply Shape.idx_ext₂
  · show win0_2.index t 0 * 2048 + 1 * k.val = k.val
    omega
  · show win0_2.index t 1 * 512 + 1 * b.val = 5632 + (t.val % 11 * 512 + b.val)
    omega

theorem blk_b (c : Dev nD) (t : Fin cfg0.N) (b : Fin 512) :
    (iblk m c 3 t : FVec Ideal S1x512 .f32) (ix2 0 b)
      = vb m c (ix2 0 ⟨t.val % 11 * 512 + b.val, by omega⟩) := by
  unfold iblk
  rw [View.read_apply]
  show vb m c _ = _
  congr 1
  have := idx_facts t
  apply Shape.idx_ext₂
  · show win0_3.index t 0 * 1 + 1 * 0 = 0
    omega
  · show win0_3.index t 1 * 512 + 1 * b.val = t.val % 11 * 512 + b.val
    omega

theorem blk_b' (c : Dev nD) (t : Fin cfg0.N) (b : Fin 512) :
    (iblk m c 4 t : FVec Ideal S1x512 .f32) (ix2 0 b)
      = vb m c (ix2 0 ⟨5632 + (t.val % 11 * 512 + b.val), by omega⟩) := by
  unfold iblk
  rw [View.read_apply]
  show vb m c _ = _
  congr 1
  have := idx_facts t
  apply Shape.idx_ext₂
  · show win0_4.index t 0 * 1 + 1 * 0 = 0
    omega
  · show win0_4.index t 1 * 512 + 1 * b.val = 5632 + (t.val % 11 * 512 + b.val)
    omega

/-- What the body stores, at an index of its block. -/
theorem pay_apply (v0 : Vec Ideal S1024x2048 .bf16) (v1 : Vec Ideal S2048x512 .bf16) (v4 : Vec Ideal S1x512 .f32) (v8 : Vec Ideal S2048x512 .bf16)
   (v11 : Vec Ideal S1x512 .f32) (a : Fin 1024) (b : Fin 512) : k0_pay1 (F := Ideal) v0 v1 v4 v8 v11 (ix2 a b)
    = (((∑ k : Fin 2048, (v0 (ix2 a k) : EReal) * v1 (ix2 k b)) + v4 (ix2 0 b))
      * Ideal.logistic ((∑ k : Fin 2048, (v0 (ix2 a k) : EReal) * v1 (ix2 k b)) + v4 (ix2 0 b)))
      * ((∑ k : Fin 2048, (v0 (ix2 a k) : EReal) * v8 (ix2 k b)) + v11 (ix2 0 b)) := by
  unfold k0_pay1
  pointwise [dot_S1024x2048_S2048x512_S1024x512_1_0_0_1_n_n]

/-- Column `j` of the projection `x w` at token `r`. -/
def proj (x : FVec Ideal S8192x2048 .bf16) (w : FVec Ideal S2048x11264 .f32) (r : Fin 8192) (j : Fin 11264) : EReal :=
  ∑ k : Fin 2048, (x (ix2 r k) : EReal) * w (ix2 k j)

open Cert.SwiRefIdeal.Read in
/-- The reference at token `r`, column `j`. -/
theorem ref_apply (x : FVec Ideal S8192x2048 .bf16) (w : FVec Ideal S2048x11264 .f32) (r : Fin 8192) (j : Fin 5632) :
    val_main_v6 (F := Ideal) x w (ix2 r j)
      = proj x w r ⟨j.val, by omega⟩ * Ideal.logistic (proj x w r ⟨j.val, by omega⟩) * proj x w r ⟨5632 + j.val, by omega⟩ := by
  unfold proj
  rw [← val_main_v6_eq]
  pointwise [Cert.SwiRefIdeal.dot_S8192x2048_S2048x11264_S8192x11264_1_0_0_1_n_n, Ideal.logistic]

/-- The whole array the kernel is shown to leave: the reference's. -/
abbrev G (c : Dev nD) : FVec Ideal S8192x5632 .bf16 := Cert.SwiRefIdeal.Read.val_main_v6 (F := Ideal) (ax m c) (aw m c)

/-- Point `t` writes back block `t` of it. -/
theorem flushed_eq (c : Dev nD) (t : Fin cfg0.N) :
    (dats m 0 c).flushed 5 t = ((cfg0.win 5).blk t).view.read (Elt Ideal) (G m c) := by
  rw [Cert.SwiIdeal.Value.flushed5]
  unfold out0_5
  rw [View.canon_unit_zero hz]
  simp only [View.ld_unit_zero (S := S1024x2048) hz, View.ld_unit_zero (S := S2048x512) hz, View.ld_unit_zero (S := S1x512) hz]
  funext j
  rw [View.read_apply]
  show k0_pay1 (F := Ideal) (iblk m c 0 t) (iblk m c 1 t) (iblk m c 3 t) (iblk m c 2 t) (iblk m c 4 t) j = _
  obtain ⟨a, b, rfl⟩ : ∃ (a : Fin 1024) (b : Fin 512), j = ix2 a b := ⟨j 0, j 1, eq_ix2 j⟩
  rw [pay_apply]
  have ht : t.val < 88 := t.isLt
  have e : ((cfg0.win 5).blk t).view.emb (ix2 a b)
      = (ix2 ⟨t.val / 11 * 1024 + a.val, by omega⟩ ⟨t.val % 11 * 512 + b.val, by omega⟩ : S8192x5632.Idx) := by
    have := idx_facts t
    apply Shape.idx_ext₂
    · show win0_5.index t 0 * 1024 + 1 * a.val = t.val / 11 * 1024 + a.val
      omega
    · show win0_5.index t 1 * 512 + 1 * b.val = t.val % 11 * 512 + b.val
      omega
  rw [e]
  refine Eq.trans ?_ (ref_apply (ax m c) (aw m c) _ _).symm
  simp only [blk_x, blk_w, blk_w', blk_b, blk_b', vw_apply, vb_apply, add_zero, proj]

/-- Every index of the result is in some point's block. -/
theorem cover (i : S8192x5632.Idx) : ∃ t : Fin cfg0.N, (cfg0.win 5).flush t = true ∧ i ∈ ((cfg0.win 5).blk t).view.set := by
  have h0 : (i 0 : Nat) < 8192 := (i 0).isLt
  have h1 : (i 1 : Nat) < 5632 := (i 1).isLt
  have ht : (i 0 : Nat) / 1024 * 11 + (i 1 : Nat) / 512 < cfg0.N := by show _ < 88; omega
  refine ⟨⟨_, ht⟩, flush0_5 _, ?_⟩
  have := idx_facts ⟨_, ht⟩
  dsimp only at this
  show i ∈ ((View.whole main_v2).slice (win0_5.rect ⟨_, ht⟩)).set
  rw [View.set_slice_whole, Rect.mem_set_unit]
  intro a
  match a with
  | ⟨0, _⟩ =>
    show win0_5.index ⟨_, ht⟩ 0 * 1024 ≤ (i 0 : Nat) ∧ (i 0 : Nat) < win0_5.index ⟨_, ht⟩ 0 * 1024 + 1024
    omega
  | ⟨1, _⟩ =>
    show win0_5.index ⟨_, ht⟩ 1 * 512 ≤ (i 1 : Nat) ∧ (i 1 : Nat) < win0_5.index ⟨_, ht⟩ 1 * 512 + 512
    omega

/-- So the result array ends holding the reference's array. -/
theorem final (c : Dev nD) : (dats m 0 c).arrAt 5 cfg0.N = G m c :=
  (dats m 0 c).arrAt_eq_of_cover 5 (G m c) (fun t _ => flushed_eq m c t) cover

end Cert.Proof.Swi
-- ==== Proof.SwiS.lean ====
/-
  The gated up projection `silu(a) · gate`: what each grid point writes, as a function of the argument arrays.
-/
module

public import proofs.«01_k».proof.Proof.Common
public import proofs.«01_k».proof.Proof.Gen.SwiSIdeal.Value
public import proofs.«01_k».proof.Proof.Gen.SwiSRefIdeal.Run
public import proofs.«01_k».proof.Proof.Gen.SwiSRefIdeal.Read
public import Idealize.ShloMosaic.Lib.Tactic

@[expose] public section

noncomputable section

namespace Cert.Proof.SwiS

open Idealize.ShloMosaic Idealize.ShloMosaic.TcCoe Idealize.SL.Sem
open Idealize.ShloMosaic.Pipeline (Dat)
open Cert.SwiSIdeal Cert.SwiSIdeal.Gen Cert.Proof.Common
open scoped BigOperators

variable (m : (ℓ : Loc nD τ sig) → Buf (Elt Ideal) ℓ)

/-- The two arguments, and the operands as the region finds them. -/
def ax (c : Dev nD) : FVec Ideal S1024x2048 .bf16 := m ((c : Thread nD τ).loc main_arg0)
def aw (c : Dev nD) : FVec Ideal S2048x11264 .f32 := m ((c : Thread nD τ).loc main_arg1)
def vw (c : Dev nD) : FVec Ideal S2048x11264 .bf16 := V m c main_v0
def vb (c : Dev nD) : FVec Ideal S1x11264 .f32 := V m c main_v1

theorem vw_eq (c : Dev nD) : vw m c = truncf .bf16 (aw m c) bitsLt_bf16_f32 := by
  unfold vw V aw
  after_results <;> rfl
theorem vb_eq (c : Dev nD) : vb m c = broadcastInDim S1x11264 ![] bcast_S_S1x11264 (constant S_ .f32 0x00000000#32) := by
  unfold vb V
  after_results <;> rfl

theorem vw_apply (c : Dev nD) (k : Fin 2048) (j : Fin 11264) : vw m c (ix2 k j) = aw m c (ix2 k j) := by
  rw [vw_eq]
  pointwise
theorem vb_apply (c : Dev nD) (j : Fin 11264) : vb m c (ix2 0 j) = (0 : EReal) := by
  rw [vb_eq]
  pointwise

/-- The block indices of the six windows at each of the 11 points. -/
theorem idx_facts : ∀ t : Fin grid0.N,
    win0_0.index t 0 = t.val / 11 ∧ win0_0.index t 1 = 0
    ∧ win0_1.index t 0 = 0 ∧ win0_1.index t 1 = t.val % 11
    ∧ win0_2.index t 0 = 0 ∧ win0_2.index t 1 = t.val % 11 + 11
    ∧ win0_3.index t 0 = 0 ∧ win0_3.index t 1 = t.val % 11
    ∧ win0_4.index t 0 = 0 ∧ win0_4.index t 1 = t.val % 11 + 11
    ∧ win0_5.index t 0 = t.val / 11 ∧ win0_5.index t 1 = t.val % 11 := by decide +kernel

theorem blk_x (c : Dev nD) (t : Fin cfg0.N) (a : Fin 1024) (k : Fin 2048) :
    (iblk m c 0 t : FVec Ideal S1024x2048 .bf16) (ix2 a k)
      = ax m c (ix2 ⟨t.val / 11 * 1024 + a.val, by have : t.val < 11 := t.isLt; omega⟩ k) := by
  unfold iblk
  rw [View.read_apply]
  show ax m c _ = _
  congr 1
  have := idx_facts t
  apply Shape.idx_ext₂
  · show win0_0.index t 0 * 1024 + 1 * a.val = t.val / 11 * 1024 + a.val
    omega
  · show win0_0.index t 1 * 2048 + 1 * k.val = k.val
    omega

theorem blk_w (c : Dev nD) (t : Fin cfg0.N) (k : Fin 2048) (b : Fin 512) :
    (iblk m c 1 t : FVec Ideal S2048x512 .bf16) (ix2 k b)
      = vw m c (ix2 k ⟨t.val % 11 * 512 + b.val, by omega⟩) := by
  unfold iblk
  rw [View.read_apply]
  show vw m c _ = _
  congr 1
  have := idx_facts t
  apply Shape.idx_ext₂
  · show win0_1.index t 0 * 2048 + 1 * k.val = k.val
    omega
  · show win0_1.index t 1 * 512 + 1 * b.val = t.val % 11 * 512 + b.val
    omega

theorem blk_w' (c : Dev nD) (t : Fin cfg0.N) (k : Fin 2048) (b : Fin 512) :
    (iblk m c 2 t : FVec Ideal S2048x512 .bf16) (ix2 k b)
      = vw m c (ix2 k ⟨5632 + (t.val % 11 * 512 + b.val), by omega⟩) := by
  unfold iblk
  rw [View.read_apply]
  show vw m c _ = _
  congr 1
  have := idx_facts t
  apply Shape.idx_ext₂
  · show win0_2.index t 0 * 2048 + 1 * k.val = k.val
    omega
  · show win0_2.index t 1 * 512 + 1 * b.val = 5632 + (t.val % 11 * 512 + b.val)
    omega

theorem blk_b (c : Dev nD) (t : Fin cfg0.N) (b : Fin 512) :
    (iblk m c 3 t : FVec Ideal S1x512 .f32) (ix2 0 b)
      = vb m c (ix2 0 ⟨t.val % 11 * 512 + b.val, by omega⟩) := by
  unfold iblk
  rw [View.read_apply]
  show vb m c _ = _
  congr 1
  have := idx_facts t
  apply Shape.idx_ext₂
  · show win0_3.index t 0 * 1 + 1 * 0 = 0
    omega
  · show win0_3.index t 1 * 512 + 1 * b.val = t.val % 11 * 512 + b.val
    omega

theorem blk_b' (c : Dev nD) (t : Fin cfg0.N) (b : Fin 512) :
    (iblk m c 4 t : FVec Ideal S1x512 .f32) (ix2 0 b)
      = vb m c (ix2 0 ⟨5632 + (t.val % 11 * 512 + b.val), by omega⟩) := by
  unfold iblk
  rw [View.read_apply]
  show vb m c _ = _
  congr 1
  have := idx_facts t
  apply Shape.idx_ext₂
  · show win0_4.index t 0 * 1 + 1 * 0 = 0
    omega
  · show win0_4.index t 1 * 512 + 1 * b.val = 5632 + (t.val % 11 * 512 + b.val)
    omega

/-- What the body stores, at an index of its block. -/
theorem pay_apply (v0 : Vec Ideal S1024x2048 .bf16) (v1 : Vec Ideal S2048x512 .bf16) (v4 : Vec Ideal S1x512 .f32) (v8 : Vec Ideal S2048x512 .bf16)
   (v11 : Vec Ideal S1x512 .f32) (a : Fin 1024) (b : Fin 512) : k0_pay1 (F := Ideal) v0 v1 v4 v8 v11 (ix2 a b)
    = (((∑ k : Fin 2048, (v0 (ix2 a k) : EReal) * v1 (ix2 k b)) + v4 (ix2 0 b))
      * Ideal.logistic ((∑ k : Fin 2048, (v0 (ix2 a k) : EReal) * v1 (ix2 k b)) + v4 (ix2 0 b)))
      * ((∑ k : Fin 2048, (v0 (ix2 a k) : EReal) * v8 (ix2 k b)) + v11 (ix2 0 b)) := by
  unfold k0_pay1
  pointwise [dot_S1024x2048_S2048x512_S1024x512_1_0_0_1_n_n]

/-- Column `j` of the projection `x w` at token `r`. -/
def proj (x : FVec Ideal S1024x2048 .bf16) (w : FVec Ideal S2048x11264 .f32) (r : Fin 1024) (j : Fin 11264) : EReal :=
  ∑ k : Fin 2048, (x (ix2 r k) : EReal) * w (ix2 k j)

open Cert.SwiSRefIdeal.Read in
/-- The reference at token `r`, column `j`. -/
theorem ref_apply (x : FVec Ideal S1024x2048 .bf16) (w : FVec Ideal S2048x11264 .f32) (r : Fin 1024) (j : Fin 5632) :
    val_main_v6 (F := Ideal) x w (ix2 r j)
      = proj x w r ⟨j.val, by omega⟩ * Ideal.logistic (proj x w r ⟨j.val, by omega⟩) * proj x w r ⟨5632 + j.val, by omega⟩ := by
  unfold proj
  rw [← val_main_v6_eq]
  pointwise [Cert.SwiSRefIdeal.dot_S1024x2048_S2048x11264_S1024x11264_1_0_0_1_n_n, Ideal.logistic]

/-- The whole array the kernel is shown to leave: the reference's. -/
abbrev G (c : Dev nD) : FVec Ideal S1024x5632 .bf16 := Cert.SwiSRefIdeal.Read.val_main_v6 (F := Ideal) (ax m c) (aw m c)

/-- Point `t` writes back block `t` of it. -/
theorem flushed_eq (c : Dev nD) (t : Fin cfg0.N) :
    (dats m 0 c).flushed 5 t = ((cfg0.win 5).blk t).view.read (Elt Ideal) (G m c) := by
  rw [Cert.SwiSIdeal.Value.flushed5]
  unfold out0_5
  rw [View.canon_unit_zero hz]
  simp only [View.ld_unit_zero (S := S1024x2048) hz, View.ld_unit_zero (S := S2048x512) hz, View.ld_unit_zero (S := S1x512) hz]
  funext j
  rw [View.read_apply]
  show k0_pay1 (F := Ideal) (iblk m c 0 t) (iblk m c 1 t) (iblk m c 3 t) (iblk m c 2 t) (iblk m c 4 t) j = _
  obtain ⟨a, b, rfl⟩ : ∃ (a : Fin 1024) (b : Fin 512), j = ix2 a b := ⟨j 0, j 1, eq_ix2 j⟩
  rw [pay_apply]
  have ht : t.val < 11 := t.isLt
  have e : ((cfg0.win 5).blk t).view.emb (ix2 a b)
      = (ix2 ⟨t.val / 11 * 1024 + a.val, by omega⟩ ⟨t.val % 11 * 512 + b.val, by omega⟩ : S1024x5632.Idx) := by
    have := idx_facts t
    apply Shape.idx_ext₂
    · show win0_5.index t 0 * 1024 + 1 * a.val = t.val / 11 * 1024 + a.val
      omega
    · show win0_5.index t 1 * 512 + 1 * b.val = t.val % 11 * 512 + b.val
      omega
  rw [e]
  refine Eq.trans ?_ (ref_apply (ax m c) (aw m c) _ _).symm
  simp only [blk_x, blk_w, blk_w', blk_b, blk_b', vw_apply, vb_apply, add_zero, proj]

/-- Every index of the result is in some point's block. -/
theorem cover (i : S1024x5632.Idx) : ∃ t : Fin cfg0.N, (cfg0.win 5).flush t = true ∧ i ∈ ((cfg0.win 5).blk t).view.set := by
  have h0 : (i 0 : Nat) < 1024 := (i 0).isLt
  have h1 : (i 1 : Nat) < 5632 := (i 1).isLt
  have ht : (i 0 : Nat) / 1024 * 11 + (i 1 : Nat) / 512 < cfg0.N := by show _ < 11; omega
  refine ⟨⟨_, ht⟩, flush0_5 _, ?_⟩
  have := idx_facts ⟨_, ht⟩
  dsimp only at this
  show i ∈ ((View.whole main_v2).slice (win0_5.rect ⟨_, ht⟩)).set
  rw [View.set_slice_whole, Rect.mem_set_unit]
  intro a
  match a with
  | ⟨0, _⟩ =>
    show win0_5.index ⟨_, ht⟩ 0 * 1024 ≤ (i 0 : Nat) ∧ (i 0 : Nat) < win0_5.index ⟨_, ht⟩ 0 * 1024 + 1024
    omega
  | ⟨1, _⟩ =>
    show win0_5.index ⟨_, ht⟩ 1 * 512 ≤ (i 1 : Nat) ∧ (i 1 : Nat) < win0_5.index ⟨_, ht⟩ 1 * 512 + 512
    omega

/-- So the result array ends holding the reference's array. -/
theorem final (c : Dev nD) : (dats m 0 c).arrAt 5 cfg0.N = G m c :=
  (dats m 0 c).arrAt_eq_of_cover 5 (G m c) (fun t _ => flushed_eq m c t) cover

end Cert.Proof.SwiS
-- ==== Proof.Fo.lean ====
/-
  The down projection `h w` of the feed-forward layer, accumulated over four pieces of the contracted axis, with the
  residual and the layer norm behind it: what each grid point leaves, as a function of the argument arrays.
-/
module

public import proofs.«01_k».proof.Proof.Common
public import proofs.«01_k».proof.Proof.Gen.FoIdeal.Value
public import proofs.«01_k».proof.Proof.Gen.FoRefIdeal.Run
public import proofs.«01_k».proof.Proof.Gen.FoRefIdeal.Read
public import Idealize.ShloMosaic.Lib.Tactic

@[expose] public section

noncomputable section

namespace Cert.Proof.Fo

open Idealize.ShloMosaic Idealize.ShloMosaic.TcCoe Idealize.SL.Sem
open Idealize.ShloMosaic.Pipeline (Dat)
open Cert.FoIdeal Cert.FoIdeal.Gen Cert.Proof.Common
open scoped BigOperators

variable (m : (ℓ : Loc nD τ sig) → Buf (Elt Ideal) ℓ)

/-! ### The arguments and the operands as the region finds them -/

def ah (c : Dev nD) : FVec Ideal S8192x5632 .bf16 := m ((c : Thread nD τ).loc main_arg0)
def aw (c : Dev nD) : FVec Ideal S5632x2048 .f32 := m ((c : Thread nD τ).loc main_arg1)
def ax (c : Dev nD) : FVec Ideal S8192x2048 .f32 := m ((c : Thread nD τ).loc main_arg2)
def ag (c : Dev nD) : FVec Ideal S2048 .f32 := m ((c : Thread nD τ).loc main_arg3)
def ab (c : Dev nD) : FVec Ideal S2048 .f32 := m ((c : Thread nD τ).loc main_arg4)

def vw (c : Dev nD) : FVec Ideal S5632x2048 .bf16 := V m c main_v0
def vc (c : Dev nD) : FVec Ideal S1x2048 .f32 := V m c main_v1
def vg (c : Dev nD) : FVec Ideal S1x2048 .f32 := V m c main_v2
def vb (c : Dev nD) : FVec Ideal S1x2048 .f32 := V m c main_v3

theorem vw_eq (c : Dev nD) : vw m c = truncf .bf16 (aw m c) bitsLt_bf16_f32 := by
  unfold vw V aw
  after_results <;> rfl
theorem vw_apply (c : Dev nD) (k : Fin 5632) (j : Fin 2048) : vw m c (ix2 k j) = aw m c (ix2 k j) := by
  rw [vw_eq]
  pointwise
theorem vc_eq (c : Dev nD) : vc m c = broadcastInDim S1x2048 ![] bcast_S_S1x2048 (constant S_ .f32 0x00000000#32) := by
  unfold vc V
  after_results <;> rfl
theorem vc_apply (c : Dev nD) (j : Fin 2048) : vc m c (ix2 0 j) = (0 : EReal) := by
  rw [vc_eq]
  pointwise
theorem vg_eq (c : Dev nD) : vg m c = shapeCast S1x2048 (ag m c) shapeCasts_S2048_S1x2048 := by
  unfold vg V ag
  after_results <;> rfl
theorem vg_apply (c : Dev nD) (j : Fin 2048) : vg m c (ix2 0 j) = ag m c (ix1 j) := by
  rw [vg_eq]
  pointwise
theorem vb_eq (c : Dev nD) : vb m c = shapeCast S1x2048 (ab m c) shapeCasts_S2048_S1x2048 := by
  unfold vb V ab
  after_results <;> rfl
theorem vb_apply (c : Dev nD) (j : Fin 2048) : vb m c (ix2 0 j) = ab m c (ix1 j) := by
  rw [vb_eq]
  pointwise

/-! ### The blocks of the windows -/

/-- The block indices of the eight windows at each grid point. -/
theorem idx_facts : ∀ t : Fin grid0.N,
    win0_0.index t 0 = t.val / 4 ∧ win0_0.index t 1 = t.val % 4
    ∧ win0_1.index t 0 = t.val % 4 ∧ win0_1.index t 1 = 0
    ∧ win0_2.index t 0 = 0 ∧ win0_2.index t 1 = 0
    ∧ win0_3.index t 0 = t.val / 4 ∧ win0_3.index t 1 = 0
    ∧ win0_4.index t 0 = 0 ∧ win0_4.index t 1 = 0
    ∧ win0_5.index t 0 = 0 ∧ win0_5.index t 1 = 0
    ∧ win0_6.index t 0 = t.val / 4 ∧ win0_6.index t 1 = 0
    ∧ win0_7.index t 0 = t.val / 4 ∧ win0_7.index t 1 = 0 := by decide +kernel

/-- Row `a` of the block of rows of point `t`, in the whole array. -/
def row (t : Fin cfg0.N) (a : Fin 512) : Fin 8192 := ⟨t.val / 4 * 512 + a.val, by have : t.val < 64 := t.isLt; omega⟩

theorem blk_h (c : Dev nD) (t : Fin cfg0.N) (a : Fin 512) (k : Fin 1408) :
    (iblk m c 0 t : FVec Ideal S512x1408 .bf16) (ix2 a k) = ah m c (ix2 (row t a) ⟨t.val % 4 * 1408 + k.val, by omega⟩) := by
  unfold iblk
  rw [View.read_apply]
  show ah m c _ = _
  congr 1
  have := idx_facts t
  apply Shape.idx_ext₂
  · show win0_0.index t 0 * 512 + 1 * a.val = t.val / 4 * 512 + a.val
    omega
  · show win0_0.index t 1 * 1408 + 1 * k.val = t.val % 4 * 1408 + k.val
    omega

theorem blk_w (c : Dev nD) (t : Fin cfg0.N) (k : Fin 1408) (b : Fin 2048) :
    (iblk m c 1 t : FVec Ideal S1408x2048 .bf16) (ix2 k b) = vw m c (ix2 ⟨t.val % 4 * 1408 + k.val, by omega⟩ b) := by
  unfold iblk
  rw [View.read_apply]
  show vw m c _ = _
  congr 1
  have := idx_facts t
  apply Shape.idx_ext₂
  · show win0_1.index t 0 * 1408 + 1 * k.val = t.val % 4 * 1408 + k.val
    omega
  · show win0_1.index t 1 * 2048 + 1 * b.val = b.val
    omega

theorem blk_c (c : Dev nD) (t : Fin cfg0.N) (b : Fin 2048) :
    (iblk m c 2 t : FVec Ideal S1x2048 .f32) (ix2 0 b) = vc m c (ix2 0 b) := by
  unfold iblk
  rw [View.read_apply]
  show vc m c _ = _
  congr 1
  have := idx_facts t
  apply Shape.idx_ext₂
  · show win0_2.index t 0 * 1 + 1 * 0 = 0
    omega
  · show win0_2.index t 1 * 2048 + 1 * b.val = b.val
    omega

theorem blk_x (c : Dev nD) (t : Fin cfg0.N) (a : Fin 512) (b : Fin 2048) :
    (iblk m c 3 t : FVec Ideal S512x2048 .f32) (ix2 a b) = ax m c (ix2 (row t a) b) := by
  unfold iblk
  rw [View.read_apply]
  show ax m c _ = _
  congr 1
  have := idx_facts t
  apply Shape.idx_ext₂
  · show win0_3.index t 0 * 512 + 1 * a.val = t.val / 4 * 512 + a.val
    omega
  · show win0_3.index t 1 * 2048 + 1 * b.val = b.val
    omega

theorem blk_g (c : Dev nD) (t : Fin cfg0.N) (b : Fin 2048) :
    (iblk m c 4 t : FVec Ideal S1x2048 .f32) (ix2 0 b) = vg m c (ix2 0 b) := by
  unfold iblk
  rw [View.read_apply]
  show vg m c _ = _
  congr 1
  have := idx_facts t
  apply Shape.idx_ext₂
  · show win0_4.index t 0 * 1 + 1 * 0 = 0
    omega
  · show win0_4.index t 1 * 2048 + 1 * b.val = b.val
    omega

theorem blk_b (c : Dev nD) (t : Fin cfg0.N) (b : Fin 2048) :
    (iblk m c 5 t : FVec Ideal S1x2048 .f32) (ix2 0 b) = vb m c (ix2 0 b) := by
  unfold iblk
  rw [View.read_apply]
  show vb m c _ = _
  congr 1
  have := idx_facts t
  apply Shape.idx_ext₂
  · show win0_5.index t 0 * 1 + 1 * 0 = 0
    omega
  · show win0_5.index t 1 * 2048 + 1 * b.val = b.val
    omega

/-! ### The accumulator -/

/-- The products of row `r` of `h` with column `b` of `w`. -/
def term (c : Dev nD) (r : Fin 8192) (b : Fin 2048) (k : Fin 5632) : EReal := (ah m c (ix2 r k) : EReal) * aw m c (ix2 k b)

/-- The accumulator's store at an index: what it held plus the piece's product. -/
theorem acc_apply (v3 : Vec Ideal S512x2048 .f32) (v4 : Vec Ideal S512x1408 .bf16) (v5 : Vec Ideal S1408x2048 .bf16) (a : Fin 512) (b : Fin 2048) :
    k0_pay2 (F := Ideal) v3 v4 v5 (ix2 a b) = (v3 (ix2 a b) : EReal) + ∑ k : Fin 1408, (v4 (ix2 a k) : EReal) * v5 (ix2 k b) := by
  unfold k0_pay2
  pointwise [dot_S512x1408_S1408x2048_S512x2048_1_0_0_1_n_n]

theorem reset_apply (a : Fin 512) (b : Fin 2048) : k0_pay1 (F := Ideal) (ix2 a b) = (0 : EReal) := by
  unfold k0_pay1
  pointwise

theorem scr_A (c : Dev nD) (t : Fin cfg0.N) (h0 : t.val % 4 = 0) (h1 : ¬t.val % 4 = 3) :
    (outsAt0 m c t.val t.isLt).2.2 = k0_pay2 (F := Ideal) (k0_pay1 (F := Ideal)) (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S512x2048) hz]
  simp only [View.readAt_eq_ld, (hs0_0 t).read_unread, (hs0_1 t).read_unread, View.ld_unit_zero (S := S512x1408) hz, View.ld_unit_zero (S := S1408x2048) hz,
    View.readCov_unit_zero (S := S512x2048) _ hz]

theorem scr_B (c : Dev nD) (t : Fin cfg0.N) (h0 : ¬t.val % 4 = 0) (h1 : ¬t.val % 4 = 3) :
    (outsAt0 m c t.val t.isLt).2.2 = k0_pay2 (F := Ideal) (outsAt0 m c (t.val - 1) (Nat.lt_of_le_of_lt (Nat.sub_le _ _) t.isLt)).2.2 (iblk m c 0 t) (iblk m c 1 t) := by
  rw [outsAt0_B m c t h0 h1]
  dsimp only
  generalize (outsAt0 m c (t.val - 1) _).2.2 = xs
  unfold sout0_B_0
  rw [View.read_writes_eq_canon _ _ _ (fun _ => scover0_B_0 ..)]
  unfold kernelRun0_B
  dsimp only
  sl_unfold_words
  rw [View.canon_unit_zero (S := S512x2048) hz]
  simp only [View.readAt_eq_ld, (hs0_0 t).read_unread, (hs0_1 t).read_unread, (Memref.isWhole_whole _).read_unread, View.ld_unit_zero (S := S512x1408) hz, View.ld_unit_zero (S := S1408x2048) hz,
    View.ld_unit_zero (S := S512x2048) hz]

theorem scr_C (c : Dev nD) (t : Fin cfg0.N) (h0 : ¬t.val % 4 = 0) (h1 : t.val % 4 = 3) :
    (outsAt0 m c t.val t.isLt).2.2 = k0_pay2 (F := Ideal) (outsAt0 m c (t.val - 1) (Nat.lt_of_le_of_lt (Nat.sub_le _ _) t.isLt)).2.2 (iblk m c 0 t) (iblk m c 1 t) := by
  rw [outsAt0_C m c t h0 h1]
  dsimp only
  generalize (outsAt0 m c (t.val - 1) _).2.2 = xs
  unfold sout0_C_0
  rw [View.read_writes_eq_canon _ _ _ (fun _ => scover0_C_0 ..)]
  unfold kernelRun0_C
  dsimp only
  sl_unfold_words
  rw [View.canon_unit_zero (S := S512x2048) hz]
  simp only [View.readAt_eq_ld, (hs0_0 t).read_unread, (hs0_1 t).read_unread, (Memref.isWhole_whole _).read_unread, View.ld_unit_zero (S := S512x1408) hz, View.ld_unit_zero (S := S1408x2048) hz,
    View.ld_unit_zero (S := S512x2048) hz]

/-- After point `t` the accumulator holds the products of the pieces met so far. -/
theorem scr_apply (c : Dev nD) : ∀ (n : ℕ) (hn : n < cfg0.N) (a : Fin 512) (b : Fin 2048),
    (outsAt0 m c n hn).2.2 (ix2 a b) = ∑ k ∈ Finset.range ((n % 4 + 1) * 1408), ext (term m c (row ⟨n, hn⟩ a) b) k := by
  intro n
  induction n with
  | zero =>
    intro hn a b
    rw [scr_A m c ⟨0, hn⟩ rfl (by show ¬ 0 % 4 = 3; decide), acc_apply, reset_apply, zero_add]
    simp only [blk_h, blk_w, vw_apply]
    have := sum_piece (term m c (row ⟨0, hn⟩ a) b) 0 1408 (by decide)
    simp only [Nat.zero_mul, Finset.range_zero, Finset.sum_empty, _root_.zero_add] at this
    rw [← this]
    refine Finset.sum_congr rfl fun k _ => ?_
    unfold term
    simp
  | succ n ih =>
    intro hn a b
    have hN : n + 1 < 64 := hn
    by_cases h0 : (n + 1) % 4 = 0
    · rw [scr_A m c ⟨n + 1, hn⟩ h0 (by dsimp only; omega), acc_apply, reset_apply, zero_add, h0]
      simp only [blk_h, blk_w, vw_apply]
      have := sum_piece (term m c (row ⟨n + 1, hn⟩ a) b) 0 1408 (by decide)
      simp only [Nat.zero_mul, Finset.range_zero, Finset.sum_empty, _root_.zero_add] at this
      rw [← this]
      refine Finset.sum_congr rfl fun k _ => ?_
      unfold term
      simp [h0]
    · have e : (n + 1) % 4 = n % 4 + 1 := by omega
      have er : row ⟨n + 1, hn⟩ a = row ⟨n, by omega⟩ a := by unfold row; apply Fin.ext; show (n + 1) / 4 * 512 + a.val = n / 4 * 512 + a.val; omega
      have key : (outsAt0 m c (n + 1) hn).2.2 = k0_pay2 (F := Ideal) (outsAt0 m c n (by omega)).2.2 (iblk m c 0 ⟨n + 1, hn⟩) (iblk m c 1 ⟨n + 1, hn⟩) := by
        by_cases h1 : (n + 1) % 4 = 3
        · exact scr_C m c ⟨n + 1, hn⟩ h0 h1
        · exact scr_B m c ⟨n + 1, hn⟩ h0 h1
      rw [key, acc_apply, ih, e, er]
      simp only [blk_h, blk_w, vw_apply]
      have := sum_piece (term m c (row ⟨n, by omega⟩ a) b) (n % 4 + 1) 1408 (by omega)
      rw [← this]
      congr 1
      refine Finset.sum_congr rfl fun k _ => ?_
      unfold term
      simp only [e, er]

/-! ### What is written back -/

/-- The last point's store, at an index: the layer norm of the residual plus the product. -/
theorem out_apply (v15 v18 : Vec Ideal S512x2048 .f32) (v19 v24 v26 : Vec Ideal S1x2048 .f32) (a : Fin 512) (b : Fin 2048) :
    k0_pay3 (F := Ideal) v15 v18 v19 v24 v26 (ix2 a b)
      = ln (fun k => Ideal.ofBits .f32 0x3FB504F3#32 * v15 (ix2 a k) + (v18 (ix2 a k) + v19 (ix2 0 k))) (v24 (ix2 0 b)) (v26 (ix2 0 b)) b := by
  unfold k0_pay3 ln mean
  pointwise

theorem out7_apply (v15 v18 : Vec Ideal S512x2048 .f32) (v19 v24 v26 : Vec Ideal S1x2048 .f32) (a : Fin 512) (b : Fin 2048) :
    k0_pay4 (F := Ideal) v15 v18 v19 v24 v26 (ix2 a b) = k0_pay3 (F := Ideal) v15 v18 v19 v24 v26 (ix2 a b) := by
  unfold k0_pay4
  pointwise

theorem out_C6 (c : Dev nD) (t : Fin cfg0.N) (h0 : ¬t.val % 4 = 0) (h1 : t.val % 4 = 3) :
    (outsAt0 m c t.val t.isLt).1 = k0_pay3 (F := Ideal) (iblk m c 3 t) (outsAt0 m c t.val t.isLt).2.2 (iblk m c 2 t) (iblk m c 4 t) (iblk m c 5 t) := by
  rw [scr_C m c t h0 h1, outsAt0_C m c t h0 h1]
  dsimp only
  generalize (outsAt0 m c (t.val - 1) _).2.2 = xs
  unfold out0_C_6
  rw [View.read_writes_eq_canon _ _ _ (fun _ => cover0_C_6 ..)]
  unfold kernelRun0_C
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1408) hz, View.ld_unit_zero (S := S1408x2048) hz,
    View.ld_unit_zero (S := S512x2048) hz, View.ld_unit_zero (S := S1x2048) hz, View.readCov_unit_zero (S := S512x2048) _ hz]

theorem out_C7 (c : Dev nD) (t : Fin cfg0.N) (h0 : ¬t.val % 4 = 0) (h1 : t.val % 4 = 3) :
    (outsAt0 m c t.val t.isLt).2.1 = k0_pay4 (F := Ideal) (iblk m c 3 t) (outsAt0 m c t.val t.isLt).2.2 (iblk m c 2 t) (iblk m c 4 t) (iblk m c 5 t) := by
  rw [scr_C m c t h0 h1, outsAt0_C m c t h0 h1]
  dsimp only
  generalize (outsAt0 m c (t.val - 1) _).2.2 = xs
  unfold out0_C_7
  rw [View.read_writes_eq_canon _ _ _ (fun _ => cover0_C_7 ..)]
  unfold kernelRun0_C
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1408) hz, View.ld_unit_zero (S := S1408x2048) hz,
    View.ld_unit_zero (S := S512x2048) hz, View.ld_unit_zero (S := S1x2048) hz, View.readCov_unit_zero (S := S512x2048) _ hz]

/-- The reference's first result, at an index. -/
theorem ref_apply (h : FVec Ideal S8192x5632 .bf16) (w : FVec Ideal S5632x2048 .f32) (x : FVec Ideal S8192x2048 .f32) (g b : FVec Ideal S2048 .f32) (r : Fin 8192) (j : Fin 2048) :
    Cert.FoRefIdeal.Read.val_main_v28 (F := Ideal) h w x g b (ix2 r j)
      = ln (fun k => Ideal.ofBits .f32 0x3FB504F3#32 * x (ix2 r k) + ((∑ l : Fin 5632, (h (ix2 r l) : EReal) * w (ix2 l k)) )) (g (ix1 j)) (b (ix1 j)) j := by
  unfold ln mean
  rw [← Cert.FoRefIdeal.Read.val_main_v28_eq]
  pointwise [Cert.FoRefIdeal.dot_S8192x5632_S5632x2048_S8192x2048_1_0_0_1_n_n]

theorem ref1_apply (h : FVec Ideal S8192x5632 .bf16) (w : FVec Ideal S5632x2048 .f32) (x : FVec Ideal S8192x2048 .f32) (g b : FVec Ideal S2048 .f32) (r : Fin 8192) (j : Fin 2048) :
    Cert.FoRefIdeal.Read.val_main_v29 (F := Ideal) h w x g b (ix2 r j) = Cert.FoRefIdeal.Read.val_main_v28 (F := Ideal) h w x g b (ix2 r j) := rfl

/-- The arrays the kernel is shown to leave: the reference's. -/
abbrev G (c : Dev nD) : FVec Ideal S8192x2048 .f32 := Cert.FoRefIdeal.Read.val_main_v28 (F := Ideal) (ah m c) (aw m c) (ax m c) (ag m c) (ab m c)
abbrev G' (c : Dev nD) : FVec Ideal S8192x2048 .bf16 := Cert.FoRefIdeal.Read.val_main_v29 (F := Ideal) (ah m c) (aw m c) (ax m c) (ag m c) (ab m c)

theorem value (c : Dev nD) (t : Fin cfg0.N) (h1 : t.val % 4 = 3) (a : Fin 512) (b : Fin 2048) :
    k0_pay3 (F := Ideal) (iblk m c 3 t) (outsAt0 m c t.val t.isLt).2.2 (iblk m c 2 t) (iblk m c 4 t) (iblk m c 5 t) (ix2 a b)
      = G m c (ix2 (row t a) b) := by
  refine Eq.trans ?_ (ref_apply (ah m c) (aw m c) (ax m c) (ag m c) (ab m c) _ _).symm
  rw [out_apply]
  have e : ∀ k, (outsAt0 m c t.val t.isLt).2.2 (ix2 a k) = ∑ l : Fin 5632, (ah m c (ix2 (row t a) l) : EReal) * aw m c (ix2 l k) := by
    intro k
    rw [scr_apply, h1]
    exact sum_ext (term m c (row t a) k)
  simp only [e, blk_x, blk_c, blk_g, blk_b, vc_apply, vg_apply, vb_apply, add_zero]

theorem emb6 (t : Fin cfg0.N) (a : Fin 512) (b : Fin 2048) :
    ((cfg0.win 6).blk t).view.emb (ix2 a b) = (ix2 (row t a) b : S8192x2048.Idx) := by
  have := idx_facts t
  apply Shape.idx_ext₂
  · show win0_6.index t 0 * 512 + 1 * a.val = t.val / 4 * 512 + a.val
    omega
  · show win0_6.index t 1 * 2048 + 1 * b.val = b.val
    omega
theorem emb7 (t : Fin cfg0.N) (a : Fin 512) (b : Fin 2048) :
    ((cfg0.win 7).blk t).view.emb (ix2 a b) = (ix2 (row t a) b : S8192x2048.Idx) := by
  have := idx_facts t
  apply Shape.idx_ext₂
  · show win0_7.index t 0 * 512 + 1 * a.val = t.val / 4 * 512 + a.val
    omega
  · show win0_7.index t 1 * 2048 + 1 * b.val = b.val
    omega

theorem flushed6_eq (c : Dev nD) (t : Fin cfg0.N) (hf : (cfg0.win 6).flush t = true) :
    (dats m 0 c).flushed 6 t = ((cfg0.win 6).blk t).view.read (Elt Ideal) (G m c) := by
  have h1 := (flush0_6 t).mp hf
  rw [Cert.FoIdeal.Value.flushed6, out_C6 m c t (by omega) h1]
  funext j
  rw [View.read_apply]
  obtain ⟨a, b, rfl⟩ : ∃ (a : Fin 512) (b : Fin 2048), j = ix2 a b := ⟨j 0, j 1, eq_ix2 j⟩
  rw [emb6]
  exact value m c t h1 a b

theorem flushed7_eq (c : Dev nD) (t : Fin cfg0.N) (hf : (cfg0.win 7).flush t = true) :
    (dats m 0 c).flushed 7 t = ((cfg0.win 7).blk t).view.read (Elt Ideal) (G' m c) := by
  have h1 := (flush0_7 t).mp hf
  rw [Cert.FoIdeal.Value.flushed7, out_C7 m c t (by omega) h1]
  funext j
  rw [View.read_apply]
  obtain ⟨a, b, rfl⟩ : ∃ (a : Fin 512) (b : Fin 2048), j = ix2 a b := ⟨j 0, j 1, eq_ix2 j⟩
  rw [emb7]
  exact (out7_apply ..).trans (value m c t h1 a b)

theorem cover6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have ht : (i 0 : Nat) / 512 * 4 + 3 < cfg0.N := by show _ < 64; omega
  refine ⟨⟨_, ht⟩, (flush0_6 _).mpr (by dsimp only; omega), ?_⟩
  have := idx_facts ⟨_, ht⟩
  dsimp only at this
  show i ∈ ((View.whole main_v4_0).slice (win0_6.rect ⟨_, ht⟩)).set
  rw [View.set_slice_whole, Rect.mem_set_unit]
  intro a
  match a with
  | ⟨0, _⟩ =>
    show win0_6.index ⟨_, ht⟩ 0 * 512 ≤ (i 0 : Nat) ∧ (i 0 : Nat) < win0_6.index ⟨_, ht⟩ 0 * 512 + 512
    omega
  | ⟨1, _⟩ =>
    show win0_6.index ⟨_, ht⟩ 1 * 2048 ≤ (i 1 : Nat) ∧ (i 1 : Nat) < win0_6.index ⟨_, ht⟩ 1 * 2048 + 2048
    omega

theorem cover7 (i : S8192x2048.Idx) : ∃ t : Fin cfg0.N, (cfg0.win 7).flush t = true ∧ i ∈ ((cfg0.win 7).blk t).view.set := by
  have h0 : (i 0 : Nat) < 8192 := (i 0).isLt
  have h1 : (i 1 : Nat) < 2048 := (i 1).isLt
  have ht : (i 0 : Nat) / 512 * 4 + 3 < cfg0.N := by show _ < 64; omega
  refine ⟨⟨_, ht⟩, (flush0_7 _).mpr (by dsimp only; omega), ?_⟩
  have := idx_facts ⟨_, ht⟩
  dsimp only at this
  show i ∈ ((View.whole main_v4_1).slice (win0_7.rect ⟨_, ht⟩)).set
  rw [View.set_slice_whole, Rect.mem_set_unit]
  intro a
  match a with
  | ⟨0, _⟩ =>
    show win0_7.index ⟨_, ht⟩ 0 * 512 ≤ (i 0 : Nat) ∧ (i 0 : Nat) < win0_7.index ⟨_, ht⟩ 0 * 512 + 512
    omega
  | ⟨1, _⟩ =>
    show win0_7.index ⟨_, ht⟩ 1 * 2048 ≤ (i 1 : Nat) ∧ (i 1 : Nat) < win0_7.index ⟨_, ht⟩ 1 * 2048 + 2048
    omega

/-- So both result arrays end holding the reference's arrays. -/
theorem final6 (c : Dev nD) : (dats m 0 c).arrAt 6 cfg0.N = G m c :=
  (dats m 0 c).arrAt_eq_of_cover 6 (G m c) (fun t hf => flushed6_eq m c t hf) cover6
theorem final7 (c : Dev nD) : (dats m 0 c).arrAt 7 cfg0.N = G' m c :=
  (dats m 0 c).arrAt_eq_of_cover 7 (G' m c) (fun t hf => flushed7_eq m c t hf) cover7

end Cert.Proof.Fo
-- ==== Proof.FoS.lean ====
/-
  The down projection `h w` of the feed-forward layer, accumulated over four pieces of the contracted axis, with the
  residual and the layer norm behind it: what each grid point leaves, as a function of the argument arrays.
-/
module

public import proofs.«01_k».proof.Proof.Common
public import proofs.«01_k».proof.Proof.Gen.FoSIdeal.Value
public import proofs.«01_k».proof.Proof.Gen.FoSRefIdeal.Run
public import proofs.«01_k».proof.Proof.Gen.FoSRefIdeal.Read
public import Idealize.ShloMosaic.Lib.Tactic

@[expose] public section

noncomputable section

namespace Cert.Proof.FoS

open Idealize.ShloMosaic Idealize.ShloMosaic.TcCoe Idealize.SL.Sem
open Idealize.ShloMosaic.Pipeline (Dat)
open Cert.FoSIdeal Cert.FoSIdeal.Gen Cert.Proof.Common
open scoped BigOperators

variable (m : (ℓ : Loc nD τ sig) → Buf (Elt Ideal) ℓ)

/-! ### The arguments and the operands as the region finds them -/

def ah (c : Dev nD) : FVec Ideal S1024x5632 .bf16 := m ((c : Thread nD τ).loc main_arg0)
def aw (c : Dev nD) : FVec Ideal S5632x2048 .f32 := m ((c : Thread nD τ).loc main_arg1)
def ax (c : Dev nD) : FVec Ideal S1024x2048 .f32 := m ((c : Thread nD τ).loc main_arg2)
def ag (c : Dev nD) : FVec Ideal S2048 .f32 := m ((c : Thread nD τ).loc main_arg3)
def ab (c : Dev nD) : FVec Ideal S2048 .f32 := m ((c : Thread nD τ).loc main_arg4)

def vw (c : Dev nD) : FVec Ideal S5632x2048 .bf16 := V m c main_v0
def vc (c : Dev nD) : FVec Ideal S1x2048 .f32 := V m c main_v1
def vg (c : Dev nD) : FVec Ideal S1x2048 .f32 := V m c main_v2
def vb (c : Dev nD) : FVec Ideal S1x2048 .f32 := V m c main_v3

theorem vw_eq (c : Dev nD) : vw m c = truncf .bf16 (aw m c) bitsLt_bf16_f32 := by
  unfold vw V aw
  after_results <;> rfl
theorem vw_apply (c : Dev nD) (k : Fin 5632) (j : Fin 2048) : vw m c (ix2 k j) = aw m c (ix2 k j) := by
  rw [vw_eq]
  pointwise
theorem vc_eq (c : Dev nD) : vc m c = broadcastInDim S1x2048 ![] bcast_S_S1x2048 (constant S_ .f32 0x00000000#32) := by
  unfold vc V
  after_results <;> rfl
theorem vc_apply (c : Dev nD) (j : Fin 2048) : vc m c (ix2 0 j) = (0 : EReal) := by
  rw [vc_eq]
  pointwise
theorem vg_eq (c : Dev nD) : vg m c = shapeCast S1x2048 (ag m c) shapeCasts_S2048_S1x2048 := by
  unfold vg V ag
  after_results <;> rfl
theorem vg_apply (c : Dev nD) (j : Fin 2048) : vg m c (ix2 0 j) = ag m c (ix1 j) := by
  rw [vg_eq]
  pointwise
theorem vb_eq (c : Dev nD) : vb m c = shapeCast S1x2048 (ab m c) shapeCasts_S2048_S1x2048 := by
  unfold vb V ab
  after_results <;> rfl
theorem vb_apply (c : Dev nD) (j : Fin 2048) : vb m c (ix2 0 j) = ab m c (ix1 j) := by
  rw [vb_eq]
  pointwise

/-! ### The blocks of the windows -/

/-- The block indices of the eight windows at each grid point. -/
theorem idx_facts : ∀ t : Fin grid0.N,
    win0_0.index t 0 = t.val / 4 ∧ win0_0.index t 1 = t.val % 4
    ∧ win0_1.index t 0 = t.val % 4 ∧ win0_1.index t 1 = 0
    ∧ win0_2.index t 0 = 0 ∧ win0_2.index t 1 = 0
    ∧ win0_3.index t 0 = t.val / 4 ∧ win0_3.index t 1 = 0
    ∧ win0_4.index t 0 = 0 ∧ win0_4.index t 1 = 0
    ∧ win0_5.index t 0 = 0 ∧ win0_5.index t 1 = 0
    ∧ win0_6.index t 0 = t.val / 4 ∧ win0_6.index t 1 = 0
    ∧ win0_7.index t 0 = t.val / 4 ∧ win0_7.index t 1 = 0 := by decide +kernel

/-- Row `a` of the block of rows of point `t`, in the whole array. -/
def row (t : Fin cfg0.N) (a : Fin 512) : Fin 1024 := ⟨t.val / 4 * 512 + a.val, by have : t.val < 8 := t.isLt; omega⟩

theorem blk_h (c : Dev nD) (t : Fin cfg0.N) (a : Fin 512) (k : Fin 1408) :
    (iblk m c 0 t : FVec Ideal S512x1408 .bf16) (ix2 a k) = ah m c (ix2 (row t a) ⟨t.val % 4 * 1408 + k.val, by omega⟩) := by
  unfold iblk
  rw [View.read_apply]
  show ah m c _ = _
  congr 1
  have := idx_facts t
  apply Shape.idx_ext₂
  · show win0_0.index t 0 * 512 + 1 * a.val = t.val / 4 * 512 + a.val
    omega
  · show win0_0.index t 1 * 1408 + 1 * k.val = t.val % 4 * 1408 + k.val
    omega

theorem blk_w (c : Dev nD) (t : Fin cfg0.N) (k : Fin 1408) (b : Fin 2048) :
    (iblk m c 1 t : FVec Ideal S1408x2048 .bf16) (ix2 k b) = vw m c (ix2 ⟨t.val % 4 * 1408 + k.val, by omega⟩ b) := by
  unfold iblk
  rw [View.read_apply]
  show vw m c _ = _
  congr 1
  have := idx_facts t
  apply Shape.idx_ext₂
  · show win0_1.index t 0 * 1408 + 1 * k.val = t.val % 4 * 1408 + k.val
    omega
  · show win0_1.index t 1 * 2048 + 1 * b.val = b.val
    omega

theorem blk_c (c : Dev nD) (t : Fin cfg0.N) (b : Fin 2048) :
    (iblk m c 2 t : FVec Ideal S1x2048 .f32) (ix2 0 b) = vc m c (ix2 0 b) := by
  unfold iblk
  rw [View.read_apply]
  show vc m c _ = _
  congr 1
  have := idx_facts t
  apply Shape.idx_ext₂
  · show win0_2.index t 0 * 1 + 1 * 0 = 0
    omega
  · show win0_2.index t 1 * 2048 + 1 * b.val = b.val
    omega

theorem blk_x (c : Dev nD) (t : Fin cfg0.N) (a : Fin 512) (b : Fin 2048) :
    (iblk m c 3 t : FVec Ideal S512x2048 .f32) (ix2 a b) = ax m c (ix2 (row t a) b) := by
  unfold iblk
  rw [View.read_apply]
  show ax m c _ = _
  congr 1
  have := idx_facts t
  apply Shape.idx_ext₂
  · show win0_3.index t 0 * 512 + 1 * a.val = t.val / 4 * 512 + a.val
    omega
  · show win0_3.index t 1 * 2048 + 1 * b.val = b.val
    omega

theorem blk_g (c : Dev nD) (t : Fin cfg0.N) (b : Fin 2048) :
    (iblk m c 4 t : FVec Ideal S1x2048 .f32) (ix2 0 b) = vg m c (ix2 0 b) := by
  unfold iblk
  rw [View.read_apply]
  show vg m c _ = _
  congr 1
  have := idx_facts t
  apply Shape.idx_ext₂
  · show win0_4.index t 0 * 1 + 1 * 0 = 0
    omega
  · show win0_4.index t 1 * 2048 + 1 * b.val = b.val
    omega

theorem blk_b (c : Dev nD) (t : Fin cfg0.N) (b : Fin 2048) :
    (iblk m c 5 t : FVec Ideal S1x2048 .f32) (ix2 0 b) = vb m c (ix2 0 b) := by
  unfold iblk
  rw [View.read_apply]
  show vb m c _ = _
  congr 1
  have := idx_facts t
  apply Shape.idx_ext₂
  · show win0_5.index t 0 * 1 + 1 * 0 = 0
    omega
  · show win0_5.index t 1 * 2048 + 1 * b.val = b.val
    omega

/-! ### The accumulator -/

/-- The products of row `r` of `h` with column `b` of `w`. -/
def term (c : Dev nD) (r : Fin 1024) (b : Fin 2048) (k : Fin 5632) : EReal := (ah m c (ix2 r k) : EReal) * aw m c (ix2 k b)

/-- The accumulator's store at an index: what it held plus the piece's product. -/
theorem acc_apply (v3 : Vec Ideal S512x2048 .f32) (v4 : Vec Ideal S512x1408 .bf16) (v5 : Vec Ideal S1408x2048 .bf16) (a : Fin 512) (b : Fin 2048) :
    k0_pay2 (F := Ideal) v3 v4 v5 (ix2 a b) = (v3 (ix2 a b) : EReal) + ∑ k : Fin 1408, (v4 (ix2 a k) : EReal) * v5 (ix2 k b) := by
  unfold k0_pay2
  pointwise [dot_S512x1408_S1408x2048_S512x2048_1_0_0_1_n_n]

theorem reset_apply (a : Fin 512) (b : Fin 2048) : k0_pay1 (F := Ideal) (ix2 a b) = (0 : EReal) := by
  unfold k0_pay1
  pointwise

theorem scr_A (c : Dev nD) (t : Fin cfg0.N) (h0 : t.val % 4 = 0) (h1 : ¬t.val % 4 = 3) :
    (outsAt0 m c t.val t.isLt).2.2 = k0_pay2 (F := Ideal) (k0_pay1 (F := Ideal)) (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S512x2048) hz]
  simp only [View.readAt_eq_ld, (hs0_0 t).read_unread, (hs0_1 t).read_unread, View.ld_unit_zero (S := S512x1408) hz, View.ld_unit_zero (S := S1408x2048) hz,
    View.readCov_unit_zero (S := S512x2048) _ hz]

theorem scr_B (c : Dev nD) (t : Fin cfg0.N) (h0 : ¬t.val % 4 = 0) (h1 : ¬t.val % 4 = 3) :
    (outsAt0 m c t.val t.isLt).2.2 = k0_pay2 (F := Ideal) (outsAt0 m c (t.val - 1) (Nat.lt_of_le_of_lt (Nat.sub_le _ _) t.isLt)).2.2 (iblk m c 0 t) (iblk m c 1 t) := by
  rw [outsAt0_B m c t h0 h1]
  dsimp only
  generalize (outsAt0 m c (t.val - 1) _).2.2 = xs
  unfold sout0_B_0
  rw [View.read_writes_eq_canon _ _ _ (fun _ => scover0_B_0 ..)]
  unfold kernelRun0_B
  dsimp only
  sl_unfold_words
  rw [View.canon_unit_zero (S := S512x2048) hz]
  simp only [View.readAt_eq_ld, (hs0_0 t).read_unread, (hs0_1 t).read_unread, (Memref.isWhole_whole _).read_unread, View.ld_unit_zero (S := S512x1408) hz, View.ld_unit_zero (S := S1408x2048) hz,
    View.ld_unit_zero (S := S512x2048) hz]

theorem scr_C (c : Dev nD) (t : Fin cfg0.N) (h0 : ¬t.val % 4 = 0) (h1 : t.val % 4 = 3) :
    (outsAt0 m c t.val t.isLt).2.2 = k0_pay2 (F := Ideal) (outsAt0 m c (t.val - 1) (Nat.lt_of_le_of_lt (Nat.sub_le _ _) t.isLt)).2.2 (iblk m c 0 t) (iblk m c 1 t) := by
  rw [outsAt0_C m c t h0 h1]
  dsimp only
  generalize (outsAt0 m c (t.val - 1) _).2.2 = xs
  unfold sout0_C_0
  rw [View.read_writes_eq_canon _ _ _ (fun _ => scover0_C_0 ..)]
  unfold kernelRun0_C
  dsimp only
  sl_unfold_words
  rw [View.canon_unit_zero (S := S512x2048) hz]
  simp only [View.readAt_eq_ld, (hs0_0 t).read_unread, (hs0_1 t).read_unread, (Memref.isWhole_whole _).read_unread, View.ld_unit_zero (S := S512x1408) hz, View.ld_unit_zero (S := S1408x2048) hz,
    View.ld_unit_zero (S := S512x2048) hz]

/-- After point `t` the accumulator holds the products of the pieces met so far. -/
theorem scr_apply (c : Dev nD) : ∀ (n : ℕ) (hn : n < cfg0.N) (a : Fin 512) (b : Fin 2048),
    (outsAt0 m c n hn).2.2 (ix2 a b) = ∑ k ∈ Finset.range ((n % 4 + 1) * 1408), ext (term m c (row ⟨n, hn⟩ a) b) k := by
  intro n
  induction n with
  | zero =>
    intro hn a b
    rw [scr_A m c ⟨0, hn⟩ rfl (by show ¬ 0 % 4 = 3; decide), acc_apply, reset_apply, zero_add]
    simp only [blk_h, blk_w, vw_apply]
    have := sum_piece (term m c (row ⟨0, hn⟩ a) b) 0 1408 (by decide)
    simp only [Nat.zero_mul, Finset.range_zero, Finset.sum_empty, _root_.zero_add] at this
    rw [← this]
    refine Finset.sum_congr rfl fun k _ => ?_
    unfold term
    simp
  | succ n ih =>
    intro hn a b
    have hN : n + 1 < 8 := hn
    by_cases h0 : (n + 1) % 4 = 0
    · rw [scr_A m c ⟨n + 1, hn⟩ h0 (by dsimp only; omega), acc_apply, reset_apply, zero_add, h0]
      simp only [blk_h, blk_w, vw_apply]
      have := sum_piece (term m c (row ⟨n + 1, hn⟩ a) b) 0 1408 (by decide)
      simp only [Nat.zero_mul, Finset.range_zero, Finset.sum_empty, _root_.zero_add] at this
      rw [← this]
      refine Finset.sum_congr rfl fun k _ => ?_
      unfold term
      simp [h0]
    · have e : (n + 1) % 4 = n % 4 + 1 := by omega
      have er : row ⟨n + 1, hn⟩ a = row ⟨n, by omega⟩ a := by unfold row; apply Fin.ext; show (n + 1) / 4 * 512 + a.val = n / 4 * 512 + a.val; omega
      have key : (outsAt0 m c (n + 1) hn).2.2 = k0_pay2 (F := Ideal) (outsAt0 m c n (by omega)).2.2 (iblk m c 0 ⟨n + 1, hn⟩) (iblk m c 1 ⟨n + 1, hn⟩) := by
        by_cases h1 : (n + 1) % 4 = 3
        · exact scr_C m c ⟨n + 1, hn⟩ h0 h1
        · exact scr_B m c ⟨n + 1, hn⟩ h0 h1
      rw [key, acc_apply, ih, e, er]
      simp only [blk_h, blk_w, vw_apply]
      have := sum_piece (term m c (row ⟨n, by omega⟩ a) b) (n % 4 + 1) 1408 (by omega)
      rw [← this]
      congr 1
      refine Finset.sum_congr rfl fun k _ => ?_
      unfold term
      simp only [e, er]

/-! ### What is written back -/

/-- The last point's store, at an index: the layer norm of the residual plus the product. -/
theorem out_apply (v15 v18 : Vec Ideal S512x2048 .f32) (v19 v24 v26 : Vec Ideal S1x2048 .f32) (a : Fin 512) (b : Fin 2048) :
    k0_pay3 (F := Ideal) v15 v18 v19 v24 v26 (ix2 a b)
      = ln (fun k => Ideal.ofBits .f32 0x3FB504F3#32 * v15 (ix2 a k) + (v18 (ix2 a k) + v19 (ix2 0 k))) (v24 (ix2 0 b)) (v26 (ix2 0 b)) b := by
  unfold k0_pay3 ln mean
  pointwise

theorem out7_apply (v15 v18 : Vec Ideal S512x2048 .f32) (v19 v24 v26 : Vec Ideal S1x2048 .f32) (a : Fin 512) (b : Fin 2048) :
    k0_pay4 (F := Ideal) v15 v18 v19 v24 v26 (ix2 a b) = k0_pay3 (F := Ideal) v15 v18 v19 v24 v26 (ix2 a b) := by
  unfold k0_pay4
  pointwise

theorem out_C6 (c : Dev nD) (t : Fin cfg0.N) (h0 : ¬t.val % 4 = 0) (h1 : t.val % 4 = 3) :
    (outsAt0 m c t.val t.isLt).1 = k0_pay3 (F := Ideal) (iblk m c 3 t) (outsAt0 m c t.val t.isLt).2.2 (iblk m c 2 t) (iblk m c 4 t) (iblk m c 5 t) := by
  rw [scr_C m c t h0 h1, outsAt0_C m c t h0 h1]
  dsimp only
  generalize (outsAt0 m c (t.val - 1) _).2.2 = xs
  unfold out0_C_6
  rw [View.read_writes_eq_canon _ _ _ (fun _ => cover0_C_6 ..)]
  unfold kernelRun0_C
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1408) hz, View.ld_unit_zero (S := S1408x2048) hz,
    View.ld_unit_zero (S := S512x2048) hz, View.ld_unit_zero (S := S1x2048) hz, View.readCov_unit_zero (S := S512x2048) _ hz]

theorem out_C7 (c : Dev nD) (t : Fin cfg0.N) (h0 : ¬t.val % 4 = 0) (h1 : t.val % 4 = 3) :
    (outsAt0 m c t.val t.isLt).2.1 = k0_pay4 (F := Ideal) (iblk m c 3 t) (outsAt0 m c t.val t.isLt).2.2 (iblk m c 2 t) (iblk m c 4 t) (iblk m c 5 t) := by
  rw [scr_C m c t h0 h1, outsAt0_C m c t h0 h1]
  dsimp only
  generalize (outsAt0 m c (t.val - 1) _).2.2 = xs
  unfold out0_C_7
  rw [View.read_writes_eq_canon _ _ _ (fun _ => cover0_C_7 ..)]
  unfold kernelRun0_C
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1408) hz, View.ld_unit_zero (S := S1408x2048) hz,
    View.ld_unit_zero (S := S512x2048) hz, View.ld_unit_zero (S := S1x2048) hz, View.readCov_unit_zero (S := S512x2048) _ hz]

/-- The reference's first result, at an index. -/
theorem ref_apply (h : FVec Ideal S1024x5632 .bf16) (w : FVec Ideal S5632x2048 .f32) (x : FVec Ideal S1024x2048 .f32) (g b : FVec Ideal S2048 .f32) (r : Fin 1024) (j : Fin 2048) :
    Cert.FoSRefIdeal.Read.val_main_v28 (F := Ideal) h w x g b (ix2 r j)
      = ln (fun k => Ideal.ofBits .f32 0x3FB504F3#32 * x (ix2 r k) + ((∑ l : Fin 5632, (h (ix2 r l) : EReal) * w (ix2 l k)) )) (g (ix1 j)) (b (ix1 j)) j := by
  unfold ln mean
  rw [← Cert.FoSRefIdeal.Read.val_main_v28_eq]
  pointwise [Cert.FoSRefIdeal.dot_S1024x5632_S5632x2048_S1024x2048_1_0_0_1_n_n]

theorem ref1_apply (h : FVec Ideal S1024x5632 .bf16) (w : FVec Ideal S5632x2048 .f32) (x : FVec Ideal S1024x2048 .f32) (g b : FVec Ideal S2048 .f32) (r : Fin 1024) (j : Fin 2048) :
    Cert.FoSRefIdeal.Read.val_main_v29 (F := Ideal) h w x g b (ix2 r j) = Cert.FoSRefIdeal.Read.val_main_v28 (F := Ideal) h w x g b (ix2 r j) := rfl

/-- The arrays the kernel is shown to leave: the reference's. -/
abbrev G (c : Dev nD) : FVec Ideal S1024x2048 .f32 := Cert.FoSRefIdeal.Read.val_main_v28 (F := Ideal) (ah m c) (aw m c) (ax m c) (ag m c) (ab m c)
abbrev G' (c : Dev nD) : FVec Ideal S1024x2048 .bf16 := Cert.FoSRefIdeal.Read.val_main_v29 (F := Ideal) (ah m c) (aw m c) (ax m c) (ag m c) (ab m c)

theorem value (c : Dev nD) (t : Fin cfg0.N) (h1 : t.val % 4 = 3) (a : Fin 512) (b : Fin 2048) :
    k0_pay3 (F := Ideal) (iblk m c 3 t) (outsAt0 m c t.val t.isLt).2.2 (iblk m c 2 t) (iblk m c 4 t) (iblk m c 5 t) (ix2 a b)
      = G m c (ix2 (row t a) b) := by
  refine Eq.trans ?_ (ref_apply (ah m c) (aw m c) (ax m c) (ag m c) (ab m c) _ _).symm
  rw [out_apply]
  have e : ∀ k, (outsAt0 m c t.val t.isLt).2.2 (ix2 a k) = ∑ l : Fin 5632, (ah m c (ix2 (row t a) l) : EReal) * aw m c (ix2 l k) := by
    intro k
    rw [scr_apply, h1]
    exact sum_ext (term m c (row t a) k)
  simp only [e, blk_x, blk_c, blk_g, blk_b, vc_apply, vg_apply, vb_apply, add_zero]

theorem emb6 (t : Fin cfg0.N) (a : Fin 512) (b : Fin 2048) :
    ((cfg0.win 6).blk t).view.emb (ix2 a b) = (ix2 (row t a) b : S1024x2048.Idx) := by
  have := idx_facts t
  apply Shape.idx_ext₂
  · show win0_6.index t 0 * 512 + 1 * a.val = t.val / 4 * 512 + a.val
    omega
  · show win0_6.index t 1 * 2048 + 1 * b.val = b.val
    omega
theorem emb7 (t : Fin cfg0.N) (a : Fin 512) (b : Fin 2048) :
    ((cfg0.win 7).blk t).view.emb (ix2 a b) = (ix2 (row t a) b : S1024x2048.Idx) := by
  have := idx_facts t
  apply Shape.idx_ext₂
  · show win0_7.index t 0 * 512 + 1 * a.val = t.val / 4 * 512 + a.val
    omega
  · show win0_7.index t 1 * 2048 + 1 * b.val = b.val
    omega

theorem flushed6_eq (c : Dev nD) (t : Fin cfg0.N) (hf : (cfg0.win 6).flush t = true) :
    (dats m 0 c).flushed 6 t = ((cfg0.win 6).blk t).view.read (Elt Ideal) (G m c) := by
  have h1 := (flush0_6 t).mp hf
  rw [Cert.FoSIdeal.Value.flushed6, out_C6 m c t (by omega) h1]
  funext j
  rw [View.read_apply]
  obtain ⟨a, b, rfl⟩ : ∃ (a : Fin 512) (b : Fin 2048), j = ix2 a b := ⟨j 0, j 1, eq_ix2 j⟩
  rw [emb6]
  exact value m c t h1 a b

theorem flushed7_eq (c : Dev nD) (t : Fin cfg0.N) (hf : (cfg0.win 7).flush t = true) :
    (dats m 0 c).flushed 7 t = ((cfg0.win 7).blk t).view.read (Elt Ideal) (G' m c) := by
  have h1 := (flush0_7 t).mp hf
  rw [Cert.FoSIdeal.Value.flushed7, out_C7 m c t (by omega) h1]
  funext j
  rw [View.read_apply]
  obtain ⟨a, b, rfl⟩ : ∃ (a : Fin 512) (b : Fin 2048), j = ix2 a b := ⟨j 0, j 1, eq_ix2 j⟩
  rw [emb7]
  exact (out7_apply ..).trans (value m c t h1 a b)

theorem cover6 (i : S1024x2048.Idx) : ∃ t : Fin cfg0.N, (cfg0.win 6).flush t = true ∧ i ∈ ((cfg0.win 6).blk t).view.set := by
  have h0 : (i 0 : Nat) < 1024 := (i 0).isLt
  have h1 : (i 1 : Nat) < 2048 := (i 1).isLt
  have ht : (i 0 : Nat) / 512 * 4 + 3 < cfg0.N := by show _ < 8; omega
  refine ⟨⟨_, ht⟩, (flush0_6 _).mpr (by dsimp only; omega), ?_⟩
  have := idx_facts ⟨_, ht⟩
  dsimp only at this
  show i ∈ ((View.whole main_v4_0).slice (win0_6.rect ⟨_, ht⟩)).set
  rw [View.set_slice_whole, Rect.mem_set_unit]
  intro a
  match a with
  | ⟨0, _⟩ =>
    show win0_6.index ⟨_, ht⟩ 0 * 512 ≤ (i 0 : Nat) ∧ (i 0 : Nat) < win0_6.index ⟨_, ht⟩ 0 * 512 + 512
    omega
  | ⟨1, _⟩ =>
    show win0_6.index ⟨_, ht⟩ 1 * 2048 ≤ (i 1 : Nat) ∧ (i 1 : Nat) < win0_6.index ⟨_, ht⟩ 1 * 2048 + 2048
    omega

theorem cover7 (i : S1024x2048.Idx) : ∃ t : Fin cfg0.N, (cfg0.win 7).flush t = true ∧ i ∈ ((cfg0.win 7).blk t).view.set := by
  have h0 : (i 0 : Nat) < 1024 := (i 0).isLt
  have h1 : (i 1 : Nat) < 2048 := (i 1).isLt
  have ht : (i 0 : Nat) / 512 * 4 + 3 < cfg0.N := by show _ < 8; omega
  refine ⟨⟨_, ht⟩, (flush0_7 _).mpr (by dsimp only; omega), ?_⟩
  have := idx_facts ⟨_, ht⟩
  dsimp only at this
  show i ∈ ((View.whole main_v4_1).slice (win0_7.rect ⟨_, ht⟩)).set
  rw [View.set_slice_whole, Rect.mem_set_unit]
  intro a
  match a with
  | ⟨0, _⟩ =>
    show win0_7.index ⟨_, ht⟩ 0 * 512 ≤ (i 0 : Nat) ∧ (i 0 : Nat) < win0_7.index ⟨_, ht⟩ 0 * 512 + 512
    omega
  | ⟨1, _⟩ =>
    show win0_7.index ⟨_, ht⟩ 1 * 2048 ≤ (i 1 : Nat) ∧ (i 1 : Nat) < win0_7.index ⟨_, ht⟩ 1 * 2048 + 2048
    omega

/-- So both result arrays end holding the reference's arrays. -/
theorem final6 (c : Dev nD) : (dats m 0 c).arrAt 6 cfg0.N = G m c :=
  (dats m 0 c).arrAt_eq_of_cover 6 (G m c) (fun t hf => flushed6_eq m c t hf) cover6
theorem final7 (c : Dev nD) : (dats m 0 c).arrAt 7 cfg0.N = G' m c :=
  (dats m 0 c).arrAt_eq_of_cover 7 (G' m c) (fun t hf => flushed7_eq m c t hf) cover7

end Cert.Proof.FoS
-- ==== Proof.Mix.lean ====
/-
  A projection `h w + bias`, accumulated over two pieces of the contracted axis, with the
  residual and the layer norm behind it: what each grid point leaves, as a function of the argument arrays.
-/
module

public import proofs.«01_k».proof.Proof.Common
public import proofs.«01_k».proof.Proof.Gen.MixIdeal.Value
public import proofs.«01_k».proof.Proof.Gen.MixRefIdeal.Run
public import proofs.«01_k».proof.Proof.Gen.MixRefIdeal.Read
public import Idealize.ShloMosaic.Lib.Tactic

@[expose] public section

noncomputable section

namespace Cert.Proof.Mix

open Idealize.ShloMosaic Idealize.ShloMosaic.TcCoe Idealize.SL.Sem
open Idealize.ShloMosaic.Pipeline (Dat)
open Cert.MixIdeal Cert.MixIdeal.Gen Cert.Proof.Common
open scoped BigOperators

variable (m : (ℓ : Loc nD τ sig) → Buf (Elt Ideal) ℓ)

/-! ### The arguments and the operands as the region finds them -/

def ah (c : Dev nD) : FVec Ideal S8192x2048 .bf16 := m ((c : Thread nD τ).loc main_arg0)
def aw (c : Dev nD) : FVec Ideal S2048x2048 .f32 := m ((c : Thread nD τ).loc main_arg1)
def ax (c : Dev nD) : FVec Ideal S8192x2048 .f32 := m ((c : Thread nD τ).loc main_arg3)
def ag (c : Dev nD) : FVec Ideal S2048 .f32 := m ((c : Thread nD τ).loc main_arg4)
def ab (c : Dev nD) : FVec Ideal S2048 .f32 := m ((c : Thread nD τ).loc main_arg5)
def ac (c : Dev nD) : FVec Ideal S2048 .f32 := m ((c : Thread nD τ).loc main_arg2)
def vw (c : Dev nD) : FVec Ideal S2048x2048 .bf16 := V m c main_v0
def vc (c : Dev nD) : FVec Ideal S1x2048 .f32 := V m c main_v1
def vg (c : Dev nD) : FVec Ideal S1x2048 .f32 := V m c main_v2
def vb (c : Dev nD) : FVec Ideal S1x2048 .f32 := V m c main_v3

theorem vw_eq (c : Dev nD) : vw m c = truncf .bf16 (aw m c) bitsLt_bf16_f32 := by
  unfold vw V aw
  after_results <;> rfl
theorem vw_apply (c : Dev nD) (k : Fin 2048) (j : Fin 2048) : vw m c (ix2 k j) = aw m c (ix2 k j) := by
  rw [vw_eq]
  pointwise
theorem vc_eq (c : Dev nD) : vc m c = shapeCast S1x2048 (ac m c) shapeCasts_S2048_S1x2048 := by
  unfold vc V ac
  after_results <;> rfl
theorem vc_apply (c : Dev nD) (j : Fin 2048) : vc m c (ix2 0 j) = ac m c (ix1 j) := by
  rw [vc_eq]
  pointwise
theorem vg_eq (c : Dev nD) : vg m c = shapeCast S1x2048 (ag m c) shapeCasts_S2048_S1x2048 := by
  unfold vg V ag
  after_results <;> rfl
theorem vg_apply (c : Dev nD) (j : Fin 2048) : vg m c (ix2 0 j) = ag m c (ix1 j) := by
  rw [vg_eq]
  pointwise
theorem vb_eq (c : Dev nD) : vb m c = shapeCast S1x2048 (ab m c) shapeCasts_S2048_S1x2048 := by
  unfold vb V ab
  after_results <;> rfl
theorem vb_apply (c : Dev nD) (j : Fin 2048) : vb m c (ix2 0 j) = ab m c (ix1 j) := by
  rw [vb_eq]
  pointwise

/-! ### The blocks of the windows -/

/-- The block indices of the eight windows at each grid point. -/
theorem idx_facts : ∀ t : Fin grid0.N,
    win0_0.index t 0 = t.val / 2 ∧ win0_0.index t 1 = t.val % 2
    ∧ win0_1.index t 0 = t.val % 2 ∧ win0_1.index t 1 = 0
    ∧ win0_2.index t 0 = 0 ∧ win0_2.index t 1 = 0
    ∧ win0_3.index t 0 = t.val / 2 ∧ win0_3.index t 1 = 0
    ∧ win0_4.index t 0 = 0 ∧ win0_4.index t 1 = 0
    ∧ win0_5.index t 0 = 0 ∧ win0_5.index t 1 = 0
    ∧ win0_6.index t 0 = t.val / 2 ∧ win0_6.index t 1 = 0
    ∧ win0_7.index t 0 = t.val / 2 ∧ win0_7.index t 1 = 0 := by decide +kernel

/-- Row `a` of the block of rows of point `t`, in the whole array. -/
def row (t : Fin cfg0.N) (a : Fin 512) : Fin 8192 := ⟨t.val / 2 * 512 + a.val, by have : t.val < 32 := t.isLt; omega⟩

theorem blk_h (c : Dev nD) (t : Fin cfg0.N) (a : Fin 512) (k : Fin 1024) :
    (iblk m c 0 t : FVec Ideal S512x1024 .bf16) (ix2 a k) = ah m c (ix2 (row t a) ⟨t.val % 2 * 1024 + k.val, by omega⟩) := by
  unfold iblk
  rw [View.read_apply]
  show ah m c _ = _
  congr 1
  have := idx_facts t
  apply Shape.idx_ext₂
  · show win0_0.index t 0 * 512 + 1 * a.val = t.val / 2 * 512 + a.val
    omega
  · show win0_0.index t 1 * 1024 + 1 * k.val = t.val % 2 * 1024 + k.val
    omega

theorem blk_w (c : Dev nD) (t : Fin cfg0.N) (k : Fin 1024) (b : Fin 2048) :
    (iblk m c 1 t : FVec Ideal S1024x2048 .bf16) (ix2 k b) = vw m c (ix2 ⟨t.val % 2 * 1024 + k.val, by omega⟩ b) := by
  unfold iblk
  rw [View.read_apply]
  show vw m c _ = _
  congr 1
  have := idx_facts t
  apply Shape.idx_ext₂
  · show win0_1.index t 0 * 1024 + 1 * k.val = t.val % 2 * 1024 + k.val
    omega
  · show win0_1.index t 1 * 2048 + 1 * b.val = b.val
    omega

theorem blk_c (c : Dev nD) (t : Fin cfg0.N) (b : Fin 2048) :
    (iblk m c 2 t : FVec Ideal S1x2048 .f32) (ix2 0 b) = vc m c (ix2 0 b) := by
  unfold iblk
  rw [View.read_apply]
  show vc m c _ = _
  congr 1
  have := idx_facts t
  apply Shape.idx_ext₂
  · show win0_2.index t 0 * 1 + 1 * 0 = 0
    omega
  · show win0_2.index t 1 * 2048 + 1 * b.val = b.val
    omega

theorem blk_x (c : Dev nD) (t : Fin cfg0.N) (a : Fin 512) (b : Fin 2048) :
    (iblk m c 3 t : FVec Ideal S512x2048 .f32) (ix2 a b) = ax m c (ix2 (row t a) b) := by
  unfold iblk
  rw [View.read_apply]
  show ax m c _ = _
  congr 1
  have := idx_facts t
  apply Shape.idx_ext₂
  · show win0_3.index t 0 * 512 + 1 * a.val = t.val / 2 * 512 + a.val
    omega
  · show win0_3.index t 1 * 2048 + 1 * b.val = b.val
    omega

theorem blk_g (c : Dev nD) (t : Fin cfg0.N) (b : Fin 2048) :
    (iblk m c 4 t : FVec Ideal S1x2048 .f32) (ix2 0 b) = vg m c (ix2 0 b) := by
  unfold iblk
  rw [View.read_apply]
  show vg m c _ = _
  congr 1
  have := idx_facts t
  apply Shape.idx_ext₂
  · show win0_4.index t 0 * 1 + 1 * 0 = 0
    omega
  · show win0_4.index t 1 * 2048 + 1 * b.val = b.val
    omega

theorem blk_b (c : Dev nD) (t : Fin cfg0.N) (b : Fin 2048) :
    (iblk m c 5 t : FVec Ideal S1x2048 .f32) (ix2 0 b) = vb m c (ix2 0 b) := by
  unfold iblk
  rw [View.read_apply]
  show vb m c _ = _
  congr 1
  have := idx_facts t
  apply Shape.idx_ext₂
  · show win0_5.index t 0 * 1 + 1 * 0 = 0
    omega
  · show win0_5.index t 1 * 2048 + 1 * b.val = b.val
    omega

/-! ### The accumulator -/

/-- The products of row `r` of `h` with column `b` of `w`. -/
def term (c : Dev nD) (r : Fin 8192) (b : Fin 2048) (k : Fin 2048) : EReal := (ah m c (ix2 r k) : EReal) * aw m c (ix2 k b)

/-- The accumulator's store at an index: what it held plus the piece's product. -/
theorem acc_apply (v3 : Vec Ideal S512x2048 .f32) (v4 : Vec Ideal S512x1024 .bf16) (v5 : Vec Ideal S1024x2048 .bf16) (a : Fin 512) (b : Fin 2048) :
    k0_pay2 (F := Ideal) v3 v4 v5 (ix2 a b) = (v3 (ix2 a b) : EReal) + ∑ k : Fin 1024, (v4 (ix2 a k) : EReal) * v5 (ix2 k b) := by
  unfold k0_pay2
  pointwise [dot_S512x1024_S1024x2048_S512x2048_1_0_0_1_n_n]

theorem reset_apply (a : Fin 512) (b : Fin 2048) : k0_pay1 (F := Ideal) (ix2 a b) = (0 : EReal) := by
  unfold k0_pay1
  pointwise

theorem scr_A (c : Dev nD) (t : Fin cfg0.N) (h0 : t.val % 2 = 0) (h1 : ¬t.val % 2 = 1) :
    (outsAt0 m c t.val t.isLt).2.2 = k0_pay2 (F := Ideal) (k0_pay1 (F := Ideal)) (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S512x2048) hz]
  simp only [View.readAt_eq_ld, (hs0_0 t).read_unread, (hs0_1 t).read_unread, View.ld_unit_zero (S := S512x1024) hz, View.ld_unit_zero (S := S1024x2048) hz,
    View.readCov_unit_zero (S := S512x2048) _ hz]

theorem scr_C (c : Dev nD) (t : Fin cfg0.N) (h0 : ¬t.val % 2 = 0) (h1 : t.val % 2 = 1) :
    (outsAt0 m c t.val t.isLt).2.2 = k0_pay2 (F := Ideal) (outsAt0 m c (t.val - 1) (Nat.lt_of_le_of_lt (Nat.sub_le _ _) t.isLt)).2.2 (iblk m c 0 t) (iblk m c 1 t) := by
  rw [outsAt0_B m c t h0 h1]
  dsimp only
  generalize (outsAt0 m c (t.val - 1) _).2.2 = xs
  unfold sout0_B_0
  rw [View.read_writes_eq_canon _ _ _ (fun _ => scover0_B_0 ..)]
  unfold kernelRun0_B
  dsimp only
  sl_unfold_words
  rw [View.canon_unit_zero (S := S512x2048) hz]
  simp only [View.readAt_eq_ld, (hs0_0 t).read_unread, (hs0_1 t).read_unread, (Memref.isWhole_whole _).read_unread, View.ld_unit_zero (S := S512x1024) hz, View.ld_unit_zero (S := S1024x2048) hz,
    View.ld_unit_zero (S := S512x2048) hz]

/-- After point `t` the accumulator holds the products of the pieces met so far. -/
theorem scr_apply (c : Dev nD) : ∀ (n : ℕ) (hn : n < cfg0.N) (a : Fin 512) (b : Fin 2048),
    (outsAt0 m c n hn).2.2 (ix2 a b) = ∑ k ∈ Finset.range ((n % 2 + 1) * 1024), ext (term m c (row ⟨n, hn⟩ a) b) k := by
  intro n
  induction n with
  | zero =>
    intro hn a b
    rw [scr_A m c ⟨0, hn⟩ rfl (by show ¬ 0 % 2 = 1; decide), acc_apply, reset_apply, zero_add]
    simp only [blk_h, blk_w, vw_apply]
    have := sum_piece (term m c (row ⟨0, hn⟩ a) b) 0 1024 (by decide)
    simp only [Nat.zero_mul, Finset.range_zero, Finset.sum_empty, _root_.zero_add] at this
    rw [← this]
    refine Finset.sum_congr rfl fun k _ => ?_
    unfold term
    simp
  | succ n ih =>
    intro hn a b
    have hN : n + 1 < 32 := hn
    by_cases h0 : (n + 1) % 2 = 0
    · rw [scr_A m c ⟨n + 1, hn⟩ h0 (by dsimp only; omega), acc_apply, reset_apply, zero_add, h0]
      simp only [blk_h, blk_w, vw_apply]
      have := sum_piece (term m c (row ⟨n + 1, hn⟩ a) b) 0 1024 (by decide)
      simp only [Nat.zero_mul, Finset.range_zero, Finset.sum_empty, _root_.zero_add] at this
      rw [← this]
      refine Finset.sum_congr rfl fun k _ => ?_
      unfold term
      simp [h0]
    · have e : (n + 1) % 2 = n % 2 + 1 := by omega
      have er : row ⟨n + 1, hn⟩ a = row ⟨n, by omega⟩ a := by unfold row; apply Fin.ext; show (n + 1) / 2 * 512 + a.val = n / 2 * 512 + a.val; omega
      have key : (outsAt0 m c (n + 1) hn).2.2 = k0_pay2 (F := Ideal) (outsAt0 m c n (by omega)).2.2 (iblk m c 0 ⟨n + 1, hn⟩) (iblk m c 1 ⟨n + 1, hn⟩) := by
        exact scr_C m c ⟨n + 1, hn⟩ h0 (by dsimp only; omega)
      rw [key, acc_apply, ih, e, er]
      simp only [blk_h, blk_w, vw_apply]
      have := sum_piece (term m c (row ⟨n, by omega⟩ a) b) (n % 2 + 1) 1024 (by omega)
      rw [← this]
      congr 1
      refine Finset.sum_congr rfl fun k _ => ?_
      unfold term
      simp only [e, er]

/-! ### What is written back -/

/-- The last point's store, at an index: the layer norm of the residual plus the product. -/
theorem out_apply (v15 v18 : Vec Ideal S512x2048 .f32) (v19 v24 v26 : Vec Ideal S1x2048 .f32) (a : Fin 512) (b : Fin 2048) :
    k0_pay3 (F := Ideal) v15 v18 v19 v24 v26 (ix2 a b)
      = ln (fun k => Ideal.ofBits .f32 0x3FB504F3#32 * v15 (ix2 a k) + (v18 (ix2 a k) + v19 (ix2 0 k))) (v24 (ix2 0 b)) (v26 (ix2 0 b)) b := by
  unfold k0_pay3 ln mean
  pointwise

theorem out7_apply (v15 v18 : Vec Ideal S512x2048 .f32) (v19 v24 v26 : Vec Ideal S1x2048 .f32) (a : Fin 512) (b : Fin 2048) :
    k0_pay4 (F := Ideal) v15 v18 v19 v24 v26 (ix2 a b) = k0_pay3 (F := Ideal) v15 v18 v19 v24 v26 (ix2 a b) := by
  unfold k0_pay4
  pointwise

theorem out_C6 (c : Dev nD) (t : Fin cfg0.N) (h0 : ¬t.val % 2 = 0) (h1 : t.val % 2 = 1) :
    (outsAt0 m c t.val t.isLt).1 = k0_pay3 (F := Ideal) (iblk m c 3 t) (outsAt0 m c t.val t.isLt).2.2 (iblk m c 2 t) (iblk m c 4 t) (iblk m c 5 t) := by
  rw [scr_C m c t h0 h1, outsAt0_B m c t h0 h1]
  dsimp only
  generalize (outsAt0 m c (t.val - 1) _).2.2 = xs
  unfold out0_B_6
  rw [View.read_writes_eq_canon _ _ _ (fun _ => cover0_B_6 ..)]
  unfold kernelRun0_B
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1024) hz, View.ld_unit_zero (S := S1024x2048) hz,
    View.ld_unit_zero (S := S512x2048) hz, View.ld_unit_zero (S := S1x2048) hz, View.readCov_unit_zero (S := S512x2048) _ hz]

theorem out_C7 (c : Dev nD) (t : Fin cfg0.N) (h0 : ¬t.val % 2 = 0) (h1 : t.val % 2 = 1) :
    (outsAt0 m c t.val t.isLt).2.1 = k0_pay4 (F := Ideal) (iblk m c 3 t) (outsAt0 m c t.val t.isLt).2.2 (iblk m c 2 t) (iblk m c 4 t) (iblk m c 5 t) := by
  rw [scr_C m c t h0 h1, outsAt0_B m c t h0 h1]
  dsimp only
  generalize (outsAt0 m c (t.val - 1) _).2.2 = xs
  unfold out0_B_7
  rw [View.read_writes_eq_canon _ _ _ (fun _ => cover0_B_7 ..)]
  unfold kernelRun0_B
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1024) hz, View.ld_unit_zero (S := S1024x2048) hz,
    View.ld_unit_zero (S := S512x2048) hz, View.ld_unit_zero (S := S1x2048) hz, View.readCov_unit_zero (S := S512x2048) _ hz]

/-- The reference's first result, at an index. -/
theorem ref_apply (h : FVec Ideal S8192x2048 .bf16) (w : FVec Ideal S2048x2048 .f32) (y : FVec Ideal S2048 .f32) (x : FVec Ideal S8192x2048 .f32) (g b : FVec Ideal S2048 .f32) (r : Fin 8192) (j : Fin 2048) :
    Cert.MixRefIdeal.Read.val_main_v31 (F := Ideal) h w y x g b (ix2 r j)
      = ln (fun k => Ideal.ofBits .f32 0x3FB504F3#32 * x (ix2 r k) + ((∑ l : Fin 2048, (h (ix2 r l) : EReal) * w (ix2 l k)) + y (ix1 k))) (g (ix1 j)) (b (ix1 j)) j := by
  unfold ln mean
  unfold Cert.MixRefIdeal.Read.val_main_v31 Cert.MixRefIdeal.Read.val_main_v30 Cert.MixRefIdeal.Read.val_main_v29 Cert.MixRefIdeal.Read.val_main_v28 Cert.MixRefIdeal.Read.val_main_v27 Cert.MixRefIdeal.Read.val_main_v26 Cert.MixRefIdeal.Read.val_main_v25 Cert.MixRefIdeal.Read.val_main_v24 Cert.MixRefIdeal.Read.val_main_v23 Cert.MixRefIdeal.Read.val_main_v22 Cert.MixRefIdeal.Read.val_main_v21 Cert.MixRefIdeal.Read.val_main_v20 Cert.MixRefIdeal.Read.val_main_v19 Cert.MixRefIdeal.Read.val_main_v18 Cert.MixRefIdeal.Read.val_main_v17 Cert.MixRefIdeal.Read.val_main_v16 Cert.MixRefIdeal.Read.val_main_v15 Cert.MixRefIdeal.Read.val_main_v14 Cert.MixRefIdeal.Read.val_main_v13 Cert.MixRefIdeal.Read.val_main_v12 Cert.MixRefIdeal.Read.val_main_v11 Cert.MixRefIdeal.Read.val_main_v10 Cert.MixRefIdeal.Read.val_main_v9 Cert.MixRefIdeal.Read.val_main_v8 Cert.MixRefIdeal.Read.val_main_v7 Cert.MixRefIdeal.Read.val_main_v6 Cert.MixRefIdeal.Read.val_main_v5 Cert.MixRefIdeal.Read.val_main_v4 Cert.MixRefIdeal.Read.val_main_v3 Cert.MixRefIdeal.Read.val_main_v2 Cert.MixRefIdeal.Read.val_main_v1 Cert.MixRefIdeal.Read.val_main_v0
  unfold Cert.MixRefIdeal.Read.val_main_cst Cert.MixRefIdeal.Read.val_main_cst_0 Cert.MixRefIdeal.Read.val_main_cst_1 Cert.MixRefIdeal.Read.val_main_cst_2 Cert.MixRefIdeal.Read.val_main_cst_3 Cert.MixRefIdeal.Read.val_main_cst_4
  pointwise [Cert.MixRefIdeal.dot_S8192x2048_S2048x2048_S8192x2048_1_0_0_1_n_n]

theorem ref1_apply (h : FVec Ideal S8192x2048 .bf16) (w : FVec Ideal S2048x2048 .f32) (y : FVec Ideal S2048 .f32) (x : FVec Ideal S8192x2048 .f32) (g b : FVec Ideal S2048 .f32) (r : Fin 8192) (j : Fin 2048) :
    Cert.MixRefIdeal.Read.val_main_v32 (F := Ideal) h w y x g b (ix2 r j) = Cert.MixRefIdeal.Read.val_main_v31 (F := Ideal) h w y x g b (ix2 r j) := rfl

/-- The arrays the kernel is shown to leave: the reference's. -/
abbrev G (c : Dev nD) : FVec Ideal S8192x2048 .f32 := Cert.MixRefIdeal.Read.val_main_v31 (F := Ideal) (ah m c) (aw m c) (ac m c) (ax m c) (ag m c) (ab m c)
abbrev G' (c : Dev nD) : FVec Ideal S8192x2048 .bf16 := Cert.MixRefIdeal.Read.val_main_v32 (F := Ideal) (ah m c) (aw m c) (ac m c) (ax m c) (ag m c) (ab m c)

theorem value (c : Dev nD) (t : Fin cfg0.N) (h1 : t.val % 2 = 1) (a : Fin 512) (b : Fin 2048) :
    k0_pay3 (F := Ideal) (iblk m c 3 t) (outsAt0 m c t.val t.isLt).2.2 (iblk m c 2 t) (iblk m c 4 t) (iblk m c 5 t) (ix2 a b)
      = G m c (ix2 (row t a) b) := by
  refine Eq.trans ?_ (ref_apply (ah m c) (aw m c) (ac m c) (ax m c) (ag m c) (ab m c) _ _).symm
  rw [out_apply]
  have e : ∀ k, (outsAt0 m c t.val t.isLt).2.2 (ix2 a k) = ∑ l : Fin 2048, (ah m c (ix2 (row t a) l) : EReal) * aw m c (ix2 l k) := by
    intro k
    rw [scr_apply, h1]
    exact sum_ext (term m c (row t a) k)
  simp only [e, blk_x, blk_c, blk_g, blk_b, vc_apply, vg_apply, vb_apply, add_zero]

theorem emb6 (t : Fin cfg0.N) (a : Fin 512) (b : Fin 2048) :
    ((cfg0.win 6).blk t).view.emb (ix2 a b) = (ix2 (row t a) b : S8192x2048.Idx) := by
  have := idx_facts t
  apply Shape.idx_ext₂
  · show win0_6.index t 0 * 512 + 1 * a.val = t.val / 2 * 512 + a.val
    omega
  · show win0_6.index t 1 * 2048 + 1 * b.val = b.val
    omega
theorem emb7 (t : Fin cfg0.N) (a : Fin 512) (b : Fin 2048) :
    ((cfg0.win 7).blk t).view.emb (ix2 a b) = (ix2 (row t a) b : S8192x2048.Idx) := by
  have := idx_facts t
  apply Shape.idx_ext₂
  · show win0_7.index t 0 * 512 + 1 * a.val = t.val / 2 * 512 + a.val
    omega
  · show win0_7.index t 1 * 2048 + 1 * b.val = b.val
    omega

theorem flushed6_eq (c : Dev nD) (t : Fin cfg0.N) (hf : (cfg0.win 6).flush t = true) :
    (dats m 0 c).flushed 6 t = ((cfg0.win 6).blk t).view.read (Elt Ideal) (G m c) := by
  have h1 := (flush0_6 t).mp hf
  rw [Cert.MixIdeal.Value.flushed6, out_C6 m c t (by omega) h1]
  funext j
  rw [View.read_apply]
  obtain ⟨a, b, rfl⟩ : ∃ (a : Fin 512) (b : Fin 2048), j = ix2 a b := ⟨j 0, j 1, eq_ix2 j⟩
  rw [emb6]
  exact value m c t h1 a b

theorem flushed7_eq (c : Dev nD) (t : Fin cfg0.N) (hf : (cfg0.win 7).flush t = true) :
    (dats m 0 c).flushed 7 t = ((cfg0.win 7).blk t).view.read (Elt Ideal) (G' m c) := by
  have h1 := (flush0_7 t).mp hf
  rw [Cert.MixIdeal.Value.flushed7, out_C7 m c t (by omega) h1]
  funext j
  rw [View.read_apply]
  obtain ⟨a, b, rfl⟩ : ∃ (a : Fin 512) (b : Fin 2048), j = ix2 a b := ⟨j 0, j 1, eq_ix2 j⟩
  rw [emb7]
  exact (out7_apply ..).trans (value m c t h1 a b)

theorem cover6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have ht : (i 0 : Nat) / 512 * 2 + 1 < cfg0.N := by show _ < 32; omega
  refine ⟨⟨_, ht⟩, (flush0_6 _).mpr (by dsimp only; omega), ?_⟩
  have := idx_facts ⟨_, ht⟩
  dsimp only at this
  show i ∈ ((View.whole main_v4_0).slice (win0_6.rect ⟨_, ht⟩)).set
  rw [View.set_slice_whole, Rect.mem_set_unit]
  intro a
  match a with
  | ⟨0, _⟩ =>
    show win0_6.index ⟨_, ht⟩ 0 * 512 ≤ (i 0 : Nat) ∧ (i 0 : Nat) < win0_6.index ⟨_, ht⟩ 0 * 512 + 512
    omega
  | ⟨1, _⟩ =>
    show win0_6.index ⟨_, ht⟩ 1 * 2048 ≤ (i 1 : Nat) ∧ (i 1 : Nat) < win0_6.index ⟨_, ht⟩ 1 * 2048 + 2048
    omega

theorem cover7 (i : S8192x2048.Idx) : ∃ t : Fin cfg0.N, (cfg0.win 7).flush t = true ∧ i ∈ ((cfg0.win 7).blk t).view.set := by
  have h0 : (i 0 : Nat) < 8192 := (i 0).isLt
  have h1 : (i 1 : Nat) < 2048 := (i 1).isLt
  have ht : (i 0 : Nat) / 512 * 2 + 1 < cfg0.N := by show _ < 32; omega
  refine ⟨⟨_, ht⟩, (flush0_7 _).mpr (by dsimp only; omega), ?_⟩
  have := idx_facts ⟨_, ht⟩
  dsimp only at this
  show i ∈ ((View.whole main_v4_1).slice (win0_7.rect ⟨_, ht⟩)).set
  rw [View.set_slice_whole, Rect.mem_set_unit]
  intro a
  match a with
  | ⟨0, _⟩ =>
    show win0_7.index ⟨_, ht⟩ 0 * 512 ≤ (i 0 : Nat) ∧ (i 0 : Nat) < win0_7.index ⟨_, ht⟩ 0 * 512 + 512
    omega
  | ⟨1, _⟩ =>
    show win0_7.index ⟨_, ht⟩ 1 * 2048 ≤ (i 1 : Nat) ∧ (i 1 : Nat) < win0_7.index ⟨_, ht⟩ 1 * 2048 + 2048
    omega

/-- So both result arrays end holding the reference's arrays. -/
theorem final6 (c : Dev nD) : (dats m 0 c).arrAt 6 cfg0.N = G m c :=
  (dats m 0 c).arrAt_eq_of_cover 6 (G m c) (fun t hf => flushed6_eq m c t hf) cover6
theorem final7 (c : Dev nD) : (dats m 0 c).arrAt 7 cfg0.N = G' m c :=
  (dats m 0 c).arrAt_eq_of_cover 7 (G' m c) (fun t hf => flushed7_eq m c t hf) cover7

end Cert.Proof.Mix
-- ==== Proof.MixS.lean ====
/-
  A projection `h w + bias`, accumulated over two pieces of the contracted axis, with the
  residual and the layer norm behind it: what each grid point leaves, as a function of the argument arrays.
-/
module

public import proofs.«01_k».proof.Proof.Common
public import proofs.«01_k».proof.Proof.Gen.MixSIdeal.Value
public import proofs.«01_k».proof.Proof.Gen.MixSRefIdeal.Run
public import proofs.«01_k».proof.Proof.Gen.MixSRefIdeal.Read
public import Idealize.ShloMosaic.Lib.Tactic

@[expose] public section

noncomputable section

namespace Cert.Proof.MixS

open Idealize.ShloMosaic Idealize.ShloMosaic.TcCoe Idealize.SL.Sem
open Idealize.ShloMosaic.Pipeline (Dat)
open Cert.MixSIdeal Cert.MixSIdeal.Gen Cert.Proof.Common
open scoped BigOperators

variable (m : (ℓ : Loc nD τ sig) → Buf (Elt Ideal) ℓ)

/-! ### The arguments and the operands as the region finds them -/

def ah (c : Dev nD) : FVec Ideal S1024x2048 .bf16 := m ((c : Thread nD τ).loc main_arg0)
def aw (c : Dev nD) : FVec Ideal S2048x2048 .f32 := m ((c : Thread nD τ).loc main_arg1)
def ax (c : Dev nD) : FVec Ideal S1024x2048 .f32 := m ((c : Thread nD τ).loc main_arg3)
def ag (c : Dev nD) : FVec Ideal S2048 .f32 := m ((c : Thread nD τ).loc main_arg4)
def ab (c : Dev nD) : FVec Ideal S2048 .f32 := m ((c : Thread nD τ).loc main_arg5)
def ac (c : Dev nD) : FVec Ideal S2048 .f32 := m ((c : Thread nD τ).loc main_arg2)
def vw (c : Dev nD) : FVec Ideal S2048x2048 .bf16 := V m c main_v0
def vc (c : Dev nD) : FVec Ideal S1x2048 .f32 := V m c main_v1
def vg (c : Dev nD) : FVec Ideal S1x2048 .f32 := V m c main_v2
def vb (c : Dev nD) : FVec Ideal S1x2048 .f32 := V m c main_v3

theorem vw_eq (c : Dev nD) : vw m c = truncf .bf16 (aw m c) bitsLt_bf16_f32 := by
  unfold vw V aw
  after_results <;> rfl
theorem vw_apply (c : Dev nD) (k : Fin 2048) (j : Fin 2048) : vw m c (ix2 k j) = aw m c (ix2 k j) := by
  rw [vw_eq]
  pointwise
theorem vc_eq (c : Dev nD) : vc m c = shapeCast S1x2048 (ac m c) shapeCasts_S2048_S1x2048 := by
  unfold vc V ac
  after_results <;> rfl
theorem vc_apply (c : Dev nD) (j : Fin 2048) : vc m c (ix2 0 j) = ac m c (ix1 j) := by
  rw [vc_eq]
  pointwise
theorem vg_eq (c : Dev nD) : vg m c = shapeCast S1x2048 (ag m c) shapeCasts_S2048_S1x2048 := by
  unfold vg V ag
  after_results <;> rfl
theorem vg_apply (c : Dev nD) (j : Fin 2048) : vg m c (ix2 0 j) = ag m c (ix1 j) := by
  rw [vg_eq]
  pointwise
theorem vb_eq (c : Dev nD) : vb m c = shapeCast S1x2048 (ab m c) shapeCasts_S2048_S1x2048 := by
  unfold vb V ab
  after_results <;> rfl
theorem vb_apply (c : Dev nD) (j : Fin 2048) : vb m c (ix2 0 j) = ab m c (ix1 j) := by
  rw [vb_eq]
  pointwise

/-! ### The blocks of the windows -/

/-- The block indices of the eight windows at each grid point. -/
theorem idx_facts : ∀ t : Fin grid0.N,
    win0_0.index t 0 = t.val / 2 ∧ win0_0.index t 1 = t.val % 2
    ∧ win0_1.index t 0 = t.val % 2 ∧ win0_1.index t 1 = 0
    ∧ win0_2.index t 0 = 0 ∧ win0_2.index t 1 = 0
    ∧ win0_3.index t 0 = t.val / 2 ∧ win0_3.index t 1 = 0
    ∧ win0_4.index t 0 = 0 ∧ win0_4.index t 1 = 0
    ∧ win0_5.index t 0 = 0 ∧ win0_5.index t 1 = 0
    ∧ win0_6.index t 0 = t.val / 2 ∧ win0_6.index t 1 = 0
    ∧ win0_7.index t 0 = t.val / 2 ∧ win0_7.index t 1 = 0 := by decide +kernel

/-- Row `a` of the block of rows of point `t`, in the whole array. -/
def row (t : Fin cfg0.N) (a : Fin 512) : Fin 1024 := ⟨t.val / 2 * 512 + a.val, by have : t.val < 4 := t.isLt; omega⟩

theorem blk_h (c : Dev nD) (t : Fin cfg0.N) (a : Fin 512) (k : Fin 1024) :
    (iblk m c 0 t : FVec Ideal S512x1024 .bf16) (ix2 a k) = ah m c (ix2 (row t a) ⟨t.val % 2 * 1024 + k.val, by omega⟩) := by
  unfold iblk
  rw [View.read_apply]
  show ah m c _ = _
  congr 1
  have := idx_facts t
  apply Shape.idx_ext₂
  · show win0_0.index t 0 * 512 + 1 * a.val = t.val / 2 * 512 + a.val
    omega
  · show win0_0.index t 1 * 1024 + 1 * k.val = t.val % 2 * 1024 + k.val
    omega

theorem blk_w (c : Dev nD) (t : Fin cfg0.N) (k : Fin 1024) (b : Fin 2048) :
    (iblk m c 1 t : FVec Ideal S1024x2048 .bf16) (ix2 k b) = vw m c (ix2 ⟨t.val % 2 * 1024 + k.val, by omega⟩ b) := by
  unfold iblk
  rw [View.read_apply]
  show vw m c _ = _
  congr 1
  have := idx_facts t
  apply Shape.idx_ext₂
  · show win0_1.index t 0 * 1024 + 1 * k.val = t.val % 2 * 1024 + k.val
    omega
  · show win0_1.index t 1 * 2048 + 1 * b.val = b.val
    omega

theorem blk_c (c : Dev nD) (t : Fin cfg0.N) (b : Fin 2048) :
    (iblk m c 2 t : FVec Ideal S1x2048 .f32) (ix2 0 b) = vc m c (ix2 0 b) := by
  unfold iblk
  rw [View.read_apply]
  show vc m c _ = _
  congr 1
  have := idx_facts t
  apply Shape.idx_ext₂
  · show win0_2.index t 0 * 1 + 1 * 0 = 0
    omega
  · show win0_2.index t 1 * 2048 + 1 * b.val = b.val
    omega

theorem blk_x (c : Dev nD) (t : Fin cfg0.N) (a : Fin 512) (b : Fin 2048) :
    (iblk m c 3 t : FVec Ideal S512x2048 .f32) (ix2 a b) = ax m c (ix2 (row t a) b) := by
  unfold iblk
  rw [View.read_apply]
  show ax m c _ = _
  congr 1
  have := idx_facts t
  apply Shape.idx_ext₂
  · show win0_3.index t 0 * 512 + 1 * a.val = t.val / 2 * 512 + a.val
    omega
  · show win0_3.index t 1 * 2048 + 1 * b.val = b.val
    omega

theorem blk_g (c : Dev nD) (t : Fin cfg0.N) (b : Fin 2048) :
    (iblk m c 4 t : FVec Ideal S1x2048 .f32) (ix2 0 b) = vg m c (ix2 0 b) := by
  unfold iblk
  rw [View.read_apply]
  show vg m c _ = _
  congr 1
  have := idx_facts t
  apply Shape.idx_ext₂
  · show win0_4.index t 0 * 1 + 1 * 0 = 0
    omega
  · show win0_4.index t 1 * 2048 + 1 * b.val = b.val
    omega

theorem blk_b (c : Dev nD) (t : Fin cfg0.N) (b : Fin 2048) :
    (iblk m c 5 t : FVec Ideal S1x2048 .f32) (ix2 0 b) = vb m c (ix2 0 b) := by
  unfold iblk
  rw [View.read_apply]
  show vb m c _ = _
  congr 1
  have := idx_facts t
  apply Shape.idx_ext₂
  · show win0_5.index t 0 * 1 + 1 * 0 = 0
    omega
  · show win0_5.index t 1 * 2048 + 1 * b.val = b.val
    omega

/-! ### The accumulator -/

/-- The products of row `r` of `h` with column `b` of `w`. -/
def term (c : Dev nD) (r : Fin 1024) (b : Fin 2048) (k : Fin 2048) : EReal := (ah m c (ix2 r k) : EReal) * aw m c (ix2 k b)

/-- The accumulator's store at an index: what it held plus the piece's product. -/
theorem acc_apply (v3 : Vec Ideal S512x2048 .f32) (v4 : Vec Ideal S512x1024 .bf16) (v5 : Vec Ideal S1024x2048 .bf16) (a : Fin 512) (b : Fin 2048) :
    k0_pay2 (F := Ideal) v3 v4 v5 (ix2 a b) = (v3 (ix2 a b) : EReal) + ∑ k : Fin 1024, (v4 (ix2 a k) : EReal) * v5 (ix2 k b) := by
  unfold k0_pay2
  pointwise [dot_S512x1024_S1024x2048_S512x2048_1_0_0_1_n_n]

theorem reset_apply (a : Fin 512) (b : Fin 2048) : k0_pay1 (F := Ideal) (ix2 a b) = (0 : EReal) := by
  unfold k0_pay1
  pointwise

theorem scr_A (c : Dev nD) (t : Fin cfg0.N) (h0 : t.val % 2 = 0) (h1 : ¬t.val % 2 = 1) :
    (outsAt0 m c t.val t.isLt).2.2 = k0_pay2 (F := Ideal) (k0_pay1 (F := Ideal)) (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S512x2048) hz]
  simp only [View.readAt_eq_ld, (hs0_0 t).read_unread, (hs0_1 t).read_unread, View.ld_unit_zero (S := S512x1024) hz, View.ld_unit_zero (S := S1024x2048) hz,
    View.readCov_unit_zero (S := S512x2048) _ hz]

theorem scr_C (c : Dev nD) (t : Fin cfg0.N) (h0 : ¬t.val % 2 = 0) (h1 : t.val % 2 = 1) :
    (outsAt0 m c t.val t.isLt).2.2 = k0_pay2 (F := Ideal) (outsAt0 m c (t.val - 1) (Nat.lt_of_le_of_lt (Nat.sub_le _ _) t.isLt)).2.2 (iblk m c 0 t) (iblk m c 1 t) := by
  rw [outsAt0_B m c t h0 h1]
  dsimp only
  generalize (outsAt0 m c (t.val - 1) _).2.2 = xs
  unfold sout0_B_0
  rw [View.read_writes_eq_canon _ _ _ (fun _ => scover0_B_0 ..)]
  unfold kernelRun0_B
  dsimp only
  sl_unfold_words
  rw [View.canon_unit_zero (S := S512x2048) hz]
  simp only [View.readAt_eq_ld, (hs0_0 t).read_unread, (hs0_1 t).read_unread, (Memref.isWhole_whole _).read_unread, View.ld_unit_zero (S := S512x1024) hz, View.ld_unit_zero (S := S1024x2048) hz,
    View.ld_unit_zero (S := S512x2048) hz]

/-- After point `t` the accumulator holds the products of the pieces met so far. -/
theorem scr_apply (c : Dev nD) : ∀ (n : ℕ) (hn : n < cfg0.N) (a : Fin 512) (b : Fin 2048),
    (outsAt0 m c n hn).2.2 (ix2 a b) = ∑ k ∈ Finset.range ((n % 2 + 1) * 1024), ext (term m c (row ⟨n, hn⟩ a) b) k := by
  intro n
  induction n with
  | zero =>
    intro hn a b
    rw [scr_A m c ⟨0, hn⟩ rfl (by show ¬ 0 % 2 = 1; decide), acc_apply, reset_apply, zero_add]
    simp only [blk_h, blk_w, vw_apply]
    have := sum_piece (term m c (row ⟨0, hn⟩ a) b) 0 1024 (by decide)
    simp only [Nat.zero_mul, Finset.range_zero, Finset.sum_empty, _root_.zero_add] at this
    rw [← this]
    refine Finset.sum_congr rfl fun k _ => ?_
    unfold term
    simp
  | succ n ih =>
    intro hn a b
    have hN : n + 1 < 4 := hn
    by_cases h0 : (n + 1) % 2 = 0
    · rw [scr_A m c ⟨n + 1, hn⟩ h0 (by dsimp only; omega), acc_apply, reset_apply, zero_add, h0]
      simp only [blk_h, blk_w, vw_apply]
      have := sum_piece (term m c (row ⟨n + 1, hn⟩ a) b) 0 1024 (by decide)
      simp only [Nat.zero_mul, Finset.range_zero, Finset.sum_empty, _root_.zero_add] at this
      rw [← this]
      refine Finset.sum_congr rfl fun k _ => ?_
      unfold term
      simp [h0]
    · have e : (n + 1) % 2 = n % 2 + 1 := by omega
      have er : row ⟨n + 1, hn⟩ a = row ⟨n, by omega⟩ a := by unfold row; apply Fin.ext; show (n + 1) / 2 * 512 + a.val = n / 2 * 512 + a.val; omega
      have key : (outsAt0 m c (n + 1) hn).2.2 = k0_pay2 (F := Ideal) (outsAt0 m c n (by omega)).2.2 (iblk m c 0 ⟨n + 1, hn⟩) (iblk m c 1 ⟨n + 1, hn⟩) := by
        exact scr_C m c ⟨n + 1, hn⟩ h0 (by dsimp only; omega)
      rw [key, acc_apply, ih, e, er]
      simp only [blk_h, blk_w, vw_apply]
      have := sum_piece (term m c (row ⟨n, by omega⟩ a) b) (n % 2 + 1) 1024 (by omega)
      rw [← this]
      congr 1
      refine Finset.sum_congr rfl fun k _ => ?_
      unfold term
      simp only [e, er]

/-! ### What is written back -/

/-- The last point's store, at an index: the layer norm of the residual plus the product. -/
theorem out_apply (v15 v18 : Vec Ideal S512x2048 .f32) (v19 v24 v26 : Vec Ideal S1x2048 .f32) (a : Fin 512) (b : Fin 2048) :
    k0_pay3 (F := Ideal) v15 v18 v19 v24 v26 (ix2 a b)
      = ln (fun k => Ideal.ofBits .f32 0x3FB504F3#32 * v15 (ix2 a k) + (v18 (ix2 a k) + v19 (ix2 0 k))) (v24 (ix2 0 b)) (v26 (ix2 0 b)) b := by
  unfold k0_pay3 ln mean
  pointwise

theorem out7_apply (v15 v18 : Vec Ideal S512x2048 .f32) (v19 v24 v26 : Vec Ideal S1x2048 .f32) (a : Fin 512) (b : Fin 2048) :
    k0_pay4 (F := Ideal) v15 v18 v19 v24 v26 (ix2 a b) = k0_pay3 (F := Ideal) v15 v18 v19 v24 v26 (ix2 a b) := by
  unfold k0_pay4
  pointwise

theorem out_C6 (c : Dev nD) (t : Fin cfg0.N) (h0 : ¬t.val % 2 = 0) (h1 : t.val % 2 = 1) :
    (outsAt0 m c t.val t.isLt).1 = k0_pay3 (F := Ideal) (iblk m c 3 t) (outsAt0 m c t.val t.isLt).2.2 (iblk m c 2 t) (iblk m c 4 t) (iblk m c 5 t) := by
  rw [scr_C m c t h0 h1, outsAt0_B m c t h0 h1]
  dsimp only
  generalize (outsAt0 m c (t.val - 1) _).2.2 = xs
  unfold out0_B_6
  rw [View.read_writes_eq_canon _ _ _ (fun _ => cover0_B_6 ..)]
  unfold kernelRun0_B
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1024) hz, View.ld_unit_zero (S := S1024x2048) hz,
    View.ld_unit_zero (S := S512x2048) hz, View.ld_unit_zero (S := S1x2048) hz, View.readCov_unit_zero (S := S512x2048) _ hz]

theorem out_C7 (c : Dev nD) (t : Fin cfg0.N) (h0 : ¬t.val % 2 = 0) (h1 : t.val % 2 = 1) :
    (outsAt0 m c t.val t.isLt).2.1 = k0_pay4 (F := Ideal) (iblk m c 3 t) (outsAt0 m c t.val t.isLt).2.2 (iblk m c 2 t) (iblk m c 4 t) (iblk m c 5 t) := by
  rw [scr_C m c t h0 h1, outsAt0_B m c t h0 h1]
  dsimp only
  generalize (outsAt0 m c (t.val - 1) _).2.2 = xs
  unfold out0_B_7
  rw [View.read_writes_eq_canon _ _ _ (fun _ => cover0_B_7 ..)]
  unfold kernelRun0_B
  dsimp only
  sl_unfold_words
  rw [View.canon_unit_zero (S := S512x2048) hz]
  simp only [View.readAt_eq_ld, (hs0_0 t).read_unread, (hs0_1 t).read_unread, (hs0_2 t).read_unread, (hs0_3 t).read_unread, (hs0_4 t).read_unread, (hs0_5 t).read_unread, (Memref.isWhole_whole _).read_unread,
    View.ld_unit_zero (S := S512x1024) hz, View.ld_unit_zero (S := S1024x2048) hz,
    View.ld_unit_zero (S := S512x2048) hz, View.ld_unit_zero (S := S1x2048) hz, View.readCov_unit_zero (S := S512x2048) _ hz]

/-- The reference's first result, at an index. -/
theorem ref_apply (h : FVec Ideal S1024x2048 .bf16) (w : FVec Ideal S2048x2048 .f32) (y : FVec Ideal S2048 .f32) (x : FVec Ideal S1024x2048 .f32) (g b : FVec Ideal S2048 .f32) (r : Fin 1024) (j : Fin 2048) :
    Cert.MixSRefIdeal.Read.val_main_v31 (F := Ideal) h w y x g b (ix2 r j)
      = ln (fun k => Ideal.ofBits .f32 0x3FB504F3#32 * x (ix2 r k) + ((∑ l : Fin 2048, (h (ix2 r l) : EReal) * w (ix2 l k)) + y (ix1 k))) (g (ix1 j)) (b (ix1 j)) j := by
  unfold ln mean
  unfold Cert.MixSRefIdeal.Read.val_main_v31 Cert.MixSRefIdeal.Read.val_main_v30 Cert.MixSRefIdeal.Read.val_main_v29 Cert.MixSRefIdeal.Read.val_main_v28 Cert.MixSRefIdeal.Read.val_main_v27 Cert.MixSRefIdeal.Read.val_main_v26 Cert.MixSRefIdeal.Read.val_main_v25 Cert.MixSRefIdeal.Read.val_main_v24 Cert.MixSRefIdeal.Read.val_main_v23 Cert.MixSRefIdeal.Read.val_main_v22 Cert.MixSRefIdeal.Read.val_main_v21 Cert.MixSRefIdeal.Read.val_main_v20 Cert.MixSRefIdeal.Read.val_main_v19 Cert.MixSRefIdeal.Read.val_main_v18 Cert.MixSRefIdeal.Read.val_main_v17 Cert.MixSRefIdeal.Read.val_main_v16 Cert.MixSRefIdeal.Read.val_main_v15 Cert.MixSRefIdeal.Read.val_main_v14 Cert.MixSRefIdeal.Read.val_main_v13 Cert.MixSRefIdeal.Read.val_main_v12 Cert.MixSRefIdeal.Read.val_main_v11 Cert.MixSRefIdeal.Read.val_main_v10 Cert.MixSRefIdeal.Read.val_main_v9 Cert.MixSRefIdeal.Read.val_main_v8 Cert.MixSRefIdeal.Read.val_main_v7 Cert.MixSRefIdeal.Read.val_main_v6 Cert.MixSRefIdeal.Read.val_main_v5 Cert.MixSRefIdeal.Read.val_main_v4 Cert.MixSRefIdeal.Read.val_main_v3 Cert.MixSRefIdeal.Read.val_main_v2 Cert.MixSRefIdeal.Read.val_main_v1 Cert.MixSRefIdeal.Read.val_main_v0
  unfold Cert.MixSRefIdeal.Read.val_main_cst Cert.MixSRefIdeal.Read.val_main_cst_0 Cert.MixSRefIdeal.Read.val_main_cst_1 Cert.MixSRefIdeal.Read.val_main_cst_2 Cert.MixSRefIdeal.Read.val_main_cst_3 Cert.MixSRefIdeal.Read.val_main_cst_4
  pointwise [Cert.MixSRefIdeal.dot_S1024x2048_S2048x2048_S1024x2048_1_0_0_1_n_n]

theorem ref1_apply (h : FVec Ideal S1024x2048 .bf16) (w : FVec Ideal S2048x2048 .f32) (y : FVec Ideal S2048 .f32) (x : FVec Ideal S1024x2048 .f32) (g b : FVec Ideal S2048 .f32) (r : Fin 1024) (j : Fin 2048) :
    Cert.MixSRefIdeal.Read.val_main_v32 (F := Ideal) h w y x g b (ix2 r j) = Cert.MixSRefIdeal.Read.val_main_v31 (F := Ideal) h w y x g b (ix2 r j) := rfl

/-- The arrays the kernel is shown to leave: the reference's. -/
abbrev G (c : Dev nD) : FVec Ideal S1024x2048 .f32 := Cert.MixSRefIdeal.Read.val_main_v31 (F := Ideal) (ah m c) (aw m c) (ac m c) (ax m c) (ag m c) (ab m c)
abbrev G' (c : Dev nD) : FVec Ideal S1024x2048 .bf16 := Cert.MixSRefIdeal.Read.val_main_v32 (F := Ideal) (ah m c) (aw m c) (ac m c) (ax m c) (ag m c) (ab m c)

theorem value (c : Dev nD) (t : Fin cfg0.N) (h1 : t.val % 2 = 1) (a : Fin 512) (b : Fin 2048) :
    k0_pay3 (F := Ideal) (iblk m c 3 t) (outsAt0 m c t.val t.isLt).2.2 (iblk m c 2 t) (iblk m c 4 t) (iblk m c 5 t) (ix2 a b)
      = G m c (ix2 (row t a) b) := by
  refine Eq.trans ?_ (ref_apply (ah m c) (aw m c) (ac m c) (ax m c) (ag m c) (ab m c) _ _).symm
  rw [out_apply]
  have e : ∀ k, (outsAt0 m c t.val t.isLt).2.2 (ix2 a k) = ∑ l : Fin 2048, (ah m c (ix2 (row t a) l) : EReal) * aw m c (ix2 l k) := by
    intro k
    rw [scr_apply, h1]
    exact sum_ext (term m c (row t a) k)
  simp only [e, blk_x, blk_c, blk_g, blk_b, vc_apply, vg_apply, vb_apply, add_zero]

theorem emb6 (t : Fin cfg0.N) (a : Fin 512) (b : Fin 2048) :
    ((cfg0.win 6).blk t).view.emb (ix2 a b) = (ix2 (row t a) b : S1024x2048.Idx) := by
  have := idx_facts t
  apply Shape.idx_ext₂
  · show win0_6.index t 0 * 512 + 1 * a.val = t.val / 2 * 512 + a.val
    omega
  · show win0_6.index t 1 * 2048 + 1 * b.val = b.val
    omega
theorem emb7 (t : Fin cfg0.N) (a : Fin 512) (b : Fin 2048) :
    ((cfg0.win 7).blk t).view.emb (ix2 a b) = (ix2 (row t a) b : S1024x2048.Idx) := by
  have := idx_facts t
  apply Shape.idx_ext₂
  · show win0_7.index t 0 * 512 + 1 * a.val = t.val / 2 * 512 + a.val
    omega
  · show win0_7.index t 1 * 2048 + 1 * b.val = b.val
    omega

theorem flushed6_eq (c : Dev nD) (t : Fin cfg0.N) (hf : (cfg0.win 6).flush t = true) :
    (dats m 0 c).flushed 6 t = ((cfg0.win 6).blk t).view.read (Elt Ideal) (G m c) := by
  have h1 := (flush0_6 t).mp hf
  rw [Cert.MixSIdeal.Value.flushed6, out_C6 m c t (by omega) h1]
  funext j
  rw [View.read_apply]
  obtain ⟨a, b, rfl⟩ : ∃ (a : Fin 512) (b : Fin 2048), j = ix2 a b := ⟨j 0, j 1, eq_ix2 j⟩
  rw [emb6]
  exact value m c t h1 a b

theorem flushed7_eq (c : Dev nD) (t : Fin cfg0.N) (hf : (cfg0.win 7).flush t = true) :
    (dats m 0 c).flushed 7 t = ((cfg0.win 7).blk t).view.read (Elt Ideal) (G' m c) := by
  have h1 := (flush0_7 t).mp hf
  rw [Cert.MixSIdeal.Value.flushed7, out_C7 m c t (by omega) h1]
  funext j
  rw [View.read_apply]
  obtain ⟨a, b, rfl⟩ : ∃ (a : Fin 512) (b : Fin 2048), j = ix2 a b := ⟨j 0, j 1, eq_ix2 j⟩
  rw [emb7]
  exact (out7_apply ..).trans (value m c t h1 a b)

theorem cover6 (i : S1024x2048.Idx) : ∃ t : Fin cfg0.N, (cfg0.win 6).flush t = true ∧ i ∈ ((cfg0.win 6).blk t).view.set := by
  have h0 : (i 0 : Nat) < 1024 := (i 0).isLt
  have h1 : (i 1 : Nat) < 2048 := (i 1).isLt
  have ht : (i 0 : Nat) / 512 * 2 + 1 < cfg0.N := by show _ < 4; omega
  refine ⟨⟨_, ht⟩, (flush0_6 _).mpr (by dsimp only; omega), ?_⟩
  have := idx_facts ⟨_, ht⟩
  dsimp only at this
  show i ∈ ((View.whole main_v4_0).slice (win0_6.rect ⟨_, ht⟩)).set
  rw [View.set_slice_whole, Rect.mem_set_unit]
  intro a
  match a with
  | ⟨0, _⟩ =>
    show win0_6.index ⟨_, ht⟩ 0 * 512 ≤ (i 0 : Nat) ∧ (i 0 : Nat) < win0_6.index ⟨_, ht⟩ 0 * 512 + 512
    omega
  | ⟨1, _⟩ =>
    show win0_6.index ⟨_, ht⟩ 1 * 2048 ≤ (i 1 : Nat) ∧ (i 1 : Nat) < win0_6.index ⟨_, ht⟩ 1 * 2048 + 2048
    omega

theorem cover7 (i : S1024x2048.Idx) : ∃ t : Fin cfg0.N, (cfg0.win 7).flush t = true ∧ i ∈ ((cfg0.win 7).blk t).view.set := by
  have h0 : (i 0 : Nat) < 1024 := (i 0).isLt
  have h1 : (i 1 : Nat) < 2048 := (i 1).isLt
  have ht : (i 0 : Nat) / 512 * 2 + 1 < cfg0.N := by show _ < 4; omega
  refine ⟨⟨_, ht⟩, (flush0_7 _).mpr (by dsimp only; omega), ?_⟩
  have := idx_facts ⟨_, ht⟩
  dsimp only at this
  show i ∈ ((View.whole main_v4_1).slice (win0_7.rect ⟨_, ht⟩)).set
  rw [View.set_slice_whole, Rect.mem_set_unit]
  intro a
  match a with
  | ⟨0, _⟩ =>
    show win0_7.index ⟨_, ht⟩ 0 * 512 ≤ (i 0 : Nat) ∧ (i 0 : Nat) < win0_7.index ⟨_, ht⟩ 0 * 512 + 512
    omega
  | ⟨1, _⟩ =>
    show win0_7.index ⟨_, ht⟩ 1 * 2048 ≤ (i 1 : Nat) ∧ (i 1 : Nat) < win0_7.index ⟨_, ht⟩ 1 * 2048 + 2048
    omega

/-- So both result arrays end holding the reference's arrays. -/
theorem final6 (c : Dev nD) : (dats m 0 c).arrAt 6 cfg0.N = G m c :=
  (dats m 0 c).arrAt_eq_of_cover 6 (G m c) (fun t hf => flushed6_eq m c t hf) cover6
theorem final7 (c : Dev nD) : (dats m 0 c).arrAt 7 cfg0.N = G' m c :=
  (dats m 0 c).arrAt_eq_of_cover 7 (G' m c) (fun t hf => flushed7_eq m c t hf) cover7

end Cert.Proof.MixS
-- ==== Proof.Kv.lean ====
/-
  The six key and value projections, in both precisions: what each grid point writes, as a function of the argument arrays.
-/
module

public import proofs.«01_k».proof.Proof.Common
public import proofs.«01_k».proof.Proof.Gen.KvIdeal.Value
public import proofs.«01_k».proof.Proof.Gen.KvRefIdeal.Run
public import proofs.«01_k».proof.Proof.Gen.KvRefIdeal.Read
public import Idealize.ShloMosaic.Lib.Tactic
public import Idealize.ShloMosaic.Lib.Pipeline.ValueKit.Tiles

@[expose] public section

noncomputable section

namespace Cert.Proof.Kv

open Idealize.ShloMosaic Idealize.ShloMosaic.TcCoe Idealize.SL.Sem
open Idealize.ShloMosaic.Pipeline (Dat)
open Cert.KvIdeal Cert.KvIdeal.Gen Cert.Proof.Common
open scoped BigOperators

variable (m : (ℓ : Loc nD τ sig) → Buf (Elt Ideal) ℓ)

/-- The two arguments, and the weights as the region finds them. -/
def ax (c : Dev nD) : FVec Ideal S8192x2048 .bf16 := m ((c : Thread nD τ).loc main_arg0)
def aw (c : Dev nD) : FVec Ideal S2048x3072 .f32 := m ((c : Thread nD τ).loc main_arg1)
def vw (c : Dev nD) : FVec Ideal S2048x3072 .bf16 := V m c main_v0

theorem vw_eq (c : Dev nD) : vw m c = truncf .bf16 (aw m c) bitsLt_bf16_f32 := by
  unfold vw V aw
  after_results <;> rfl
theorem vw_apply (c : Dev nD) (k : Fin 2048) (j : Fin 3072) : vw m c (ix2 k j) = aw m c (ix2 k j) := by
  rw [vw_eq]
  pointwise

/-- The block indices of the windows at each grid point: rows by the point, everything else whole. -/
theorem idx_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0
    ∧ win0_3.index t 0 = t.val ∧ win0_3.index t 1 = 0
    ∧ win0_4.index t 0 = t.val ∧ win0_4.index t 1 = 0
    ∧ win0_5.index t 0 = t.val ∧ win0_5.index t 1 = 0
    ∧ win0_6.index t 0 = t.val ∧ win0_6.index t 1 = 0
    ∧ win0_7.index t 0 = t.val ∧ win0_7.index t 1 = 0
    ∧ win0_8.index t 0 = t.val ∧ win0_8.index t 1 = 0
    ∧ win0_9.index t 0 = t.val ∧ win0_9.index t 1 = 0
    ∧ win0_10.index t 0 = t.val ∧ win0_10.index t 1 = 0
    ∧ win0_11.index t 0 = t.val ∧ win0_11.index t 1 = 0
    ∧ win0_12.index t 0 = t.val ∧ win0_12.index t 1 = 0
    ∧ win0_13.index t 0 = t.val ∧ win0_13.index t 1 = 0 := by decide +kernel

/-- Row `a` of the block of rows of point `t`, in the whole array. -/
def row (t : Fin cfg0.N) (a : Fin 256) : Fin 8192 := ⟨t.val * 256 + a.val, by have : t.val < 32 := t.isLt; omega⟩

theorem blk_x (c : Dev nD) (t : Fin cfg0.N) (a : Fin 256) (k : Fin 2048) :
    (iblk m c 0 t : FVec Ideal S256x2048 .bf16) (ix2 a k) = ax m c (ix2 (row t a) k) := by
  unfold iblk
  rw [View.read_apply]
  show ax m c _ = _
  congr 1
  have := idx_facts t
  apply Shape.idx_ext₂
  · show win0_0.index t 0 * 256 + 1 * a.val = t.val * 256 + a.val
    omega
  · show win0_0.index t 1 * 2048 + 1 * k.val = k.val
    omega

theorem blk_w (c : Dev nD) (t : Fin cfg0.N) (k : Fin 2048) (b : Fin 3072) :
    (iblk m c 1 t : FVec Ideal S2048x3072 .bf16) (ix2 k b) = vw m c (ix2 k b) := by
  unfold iblk
  rw [View.read_apply]
  show vw m c _ = _
  congr 1
  have := idx_facts t
  apply Shape.idx_ext₂
  · show win0_1.index t 0 * 2048 + 1 * k.val = k.val
    omega
  · show win0_1.index t 1 * 3072 + 1 * b.val = b.val
    omega

/-- Column `j` of the projection `x w` at token `r`. -/
def proj (x : FVec Ideal S8192x2048 .bf16) (w : FVec Ideal S2048x3072 .f32) (r : Fin 8192) (j : Fin 3072) : EReal :=
  ∑ k : Fin 2048, (x (ix2 r k) : EReal) * w (ix2 k j)

/-! ### Result 0: columns 0 to 511 -/

theorem pay2 (x : Vec Ideal S256x2048 .bf16) (w : Vec Ideal S2048x3072 .bf16) (a : Fin 256) (b : Fin 512) :
    k0_pay5 (F := Ideal) x (View.ld w r0_1) (ix2 a b) = ∑ k : Fin 2048, (x (ix2 a k) : EReal) * w (ix2 k ⟨0 + b.val, by omega⟩) := by
  unfold k0_pay5
  pointwise [dot_S256x2048_S2048x512_S256x512_1_0_0_1_n_n]

theorem ref2 (x : FVec Ideal S8192x2048 .bf16) (w : FVec Ideal S2048x3072 .f32) (r : Fin 8192) (j : Fin 512) :
    Cert.KvRefIdeal.Read.val_main_v2 (F := Ideal) x w (ix2 r j) = proj x w r ⟨0 + j.val, by omega⟩ := by
  unfold proj
  rw [← Cert.KvRefIdeal.Read.val_main_v2_eq]
  pointwise [Cert.KvRefIdeal.dot_S8192x2048_S2048x3072_S8192x3072_1_0_0_1_n_n]

abbrev G2 (c : Dev nD) : FVec Ideal S8192x512 .f32 := Cert.KvRefIdeal.Read.val_main_v2 (F := Ideal) (ax m c) (aw m c)

theorem flushed_eq2 (c : Dev nD) (t : Fin cfg0.N) :
    (dats m 0 c).flushed 2 t = ((cfg0.win 2).blk t).view.read (Elt Ideal) (G2 m c) := by
  rw [Cert.KvIdeal.Value.flushed2]
  unfold out0_2
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay2 _ _ a b).trans ?_
  have e : ((cfg0.win 2).blk t).view.emb (ix2 a b) = (ix2 (row t a) b : S8192x512.Idx) := by
    have := idx_facts t
    apply Shape.idx_ext₂
    · show win0_2.index t 0 * 256 + 1 * a.val = t.val * 256 + a.val
      omega
    · show win0_2.index t 1 * 512 + 1 * b.val = b.val
      omega
  rw [e]
  refine Eq.trans ?_ (ref2 (ax m c) (aw m c) _ _).symm
  simp only [blk_x, blk_w, vw_apply, proj]

theorem cover2 (i : S8192x512.Idx) : ∃ t : Fin cfg0.N, (cfg0.win 2).flush t = true ∧ i ∈ ((cfg0.win 2).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_2 _, ?_⟩
  have := idx_facts ⟨_, ht⟩
  dsimp only at this
  show i ∈ ((View.whole main_v1_0).slice (win0_2.rect ⟨_, ht⟩)).set
  rw [View.set_slice_whole, Rect.mem_set_unit]
  intro a
  match a with
  | ⟨0, _⟩ =>
    show win0_2.index ⟨_, ht⟩ 0 * 256 ≤ (i 0 : Nat) ∧ (i 0 : Nat) < win0_2.index ⟨_, ht⟩ 0 * 256 + 256
    omega
  | ⟨1, _⟩ =>
    show win0_2.index ⟨_, ht⟩ 1 * 512 ≤ (i 1 : Nat) ∧ (i 1 : Nat) < win0_2.index ⟨_, ht⟩ 1 * 512 + 512
    omega

theorem final2 (c : Dev nD) : (dats m 0 c).arrAt 2 cfg0.N = G2 m c :=
  (dats m 0 c).arrAt_eq_of_cover 2 (G2 m c) (fun t _ => flushed_eq2 m c t) cover2

/-! ### Result 6: columns 0 to 511, rounded -/

theorem pay8 (x : Vec Ideal S256x2048 .bf16) (w : Vec Ideal S2048x3072 .bf16) (a : Fin 256) (b : Fin 512) :
    k0_pay6 (F := Ideal) x (View.ld w r0_1) (ix2 a b) = ∑ k : Fin 2048, (x (ix2 a k) : EReal) * w (ix2 k ⟨0 + b.val, by omega⟩) := by
  unfold k0_pay6 k0_pay5
  pointwise [dot_S256x2048_S2048x512_S256x512_1_0_0_1_n_n]

theorem ref8 (x : FVec Ideal S8192x2048 .bf16) (w : FVec Ideal S2048x3072 .f32) (r : Fin 8192) (j : Fin 512) :
    Cert.KvRefIdeal.Read.val_main_v8 (F := Ideal) x w (ix2 r j) = proj x w r ⟨0 + j.val, by omega⟩ := by
  unfold proj
  rw [← Cert.KvRefIdeal.Read.val_main_v8_eq]
  pointwise [Cert.KvRefIdeal.dot_S8192x2048_S2048x3072_S8192x3072_1_0_0_1_n_n]

abbrev G8 (c : Dev nD) : FVec Ideal S8192x512 .bf16 := Cert.KvRefIdeal.Read.val_main_v8 (F := Ideal) (ax m c) (aw m c)

theorem flushed_eq8 (c : Dev nD) (t : Fin cfg0.N) :
    (dats m 0 c).flushed 8 t = ((cfg0.win 8).blk t).view.read (Elt Ideal) (G8 m c) := by
  rw [Cert.KvIdeal.Value.flushed8]
  unfold out0_8
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay8 _ _ a b).trans ?_
  have e : ((cfg0.win 8).blk t).view.emb (ix2 a b) = (ix2 (row t a) b : S8192x512.Idx) := by
    have := idx_facts t
    apply Shape.idx_ext₂
    · show win0_8.index t 0 * 256 + 1 * a.val = t.val * 256 + a.val
      omega
    · show win0_8.index t 1 * 512 + 1 * b.val = b.val
      omega
  rw [e]
  refine Eq.trans ?_ (ref8 (ax m c) (aw m c) _ _).symm
  simp only [blk_x, blk_w, vw_apply, proj]

theorem cover8 (i : S8192x512.Idx) : ∃ t : Fin cfg0.N, (cfg0.win 8).flush t = true ∧ i ∈ ((cfg0.win 8).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_8 _, ?_⟩
  have := idx_facts ⟨_, ht⟩
  dsimp only at this
  show i ∈ ((View.whole main_v1_6).slice (win0_8.rect ⟨_, ht⟩)).set
  rw [View.set_slice_whole, Rect.mem_set_unit]
  intro a
  match a with
  | ⟨0, _⟩ =>
    show win0_8.index ⟨_, ht⟩ 0 * 256 ≤ (i 0 : Nat) ∧ (i 0 : Nat) < win0_8.index ⟨_, ht⟩ 0 * 256 + 256
    omega
  | ⟨1, _⟩ =>
    show win0_8.index ⟨_, ht⟩ 1 * 512 ≤ (i 1 : Nat) ∧ (i 1 : Nat) < win0_8.index ⟨_, ht⟩ 1 * 512 + 512
    omega

theorem final8 (c : Dev nD) : (dats m 0 c).arrAt 8 cfg0.N = G8 m c :=
  (dats m 0 c).arrAt_eq_of_cover 8 (G8 m c) (fun t _ => flushed_eq8 m c t) cover8

/-! ### Result 1: columns 512 to 1023 -/

theorem pay3 (x : Vec Ideal S256x2048 .bf16) (w : Vec Ideal S2048x3072 .bf16) (a : Fin 256) (b : Fin 512) :
    k0_pay7 (F := Ideal) x (View.ld w r0_3) (ix2 a b) = ∑ k : Fin 2048, (x (ix2 a k) : EReal) * w (ix2 k ⟨512 + b.val, by omega⟩) := by
  unfold k0_pay7
  pointwise [dot_S256x2048_S2048x512_S256x512_1_0_0_1_n_n]

theorem ref3 (x : FVec Ideal S8192x2048 .bf16) (w : FVec Ideal S2048x3072 .f32) (r : Fin 8192) (j : Fin 512) :
    Cert.KvRefIdeal.Read.val_main_v3 (F := Ideal) x w (ix2 r j) = proj x w r ⟨512 + j.val, by omega⟩ := by
  unfold proj
  rw [← Cert.KvRefIdeal.Read.val_main_v3_eq]
  pointwise [Cert.KvRefIdeal.dot_S8192x2048_S2048x3072_S8192x3072_1_0_0_1_n_n]

abbrev G3 (c : Dev nD) : FVec Ideal S8192x512 .f32 := Cert.KvRefIdeal.Read.val_main_v3 (F := Ideal) (ax m c) (aw m c)

theorem flushed_eq3 (c : Dev nD) (t : Fin cfg0.N) :
    (dats m 0 c).flushed 3 t = ((cfg0.win 3).blk t).view.read (Elt Ideal) (G3 m c) := by
  rw [Cert.KvIdeal.Value.flushed3]
  unfold out0_3
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay3 _ _ a b).trans ?_
  have e : ((cfg0.win 3).blk t).view.emb (ix2 a b) = (ix2 (row t a) b : S8192x512.Idx) := by
    have := idx_facts t
    apply Shape.idx_ext₂
    · show win0_3.index t 0 * 256 + 1 * a.val = t.val * 256 + a.val
      omega
    · show win0_3.index t 1 * 512 + 1 * b.val = b.val
      omega
  rw [e]
  refine Eq.trans ?_ (ref3 (ax m c) (aw m c) _ _).symm
  simp only [blk_x, blk_w, vw_apply, proj]

theorem cover3 (i : S8192x512.Idx) : ∃ t : Fin cfg0.N, (cfg0.win 3).flush t = true ∧ i ∈ ((cfg0.win 3).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_3 _, ?_⟩
  have := idx_facts ⟨_, ht⟩
  dsimp only at this
  show i ∈ ((View.whole main_v1_1).slice (win0_3.rect ⟨_, ht⟩)).set
  rw [View.set_slice_whole, Rect.mem_set_unit]
  intro a
  match a with
  | ⟨0, _⟩ =>
    show win0_3.index ⟨_, ht⟩ 0 * 256 ≤ (i 0 : Nat) ∧ (i 0 : Nat) < win0_3.index ⟨_, ht⟩ 0 * 256 + 256
    omega
  | ⟨1, _⟩ =>
    show win0_3.index ⟨_, ht⟩ 1 * 512 ≤ (i 1 : Nat) ∧ (i 1 : Nat) < win0_3.index ⟨_, ht⟩ 1 * 512 + 512
    omega

theorem final3 (c : Dev nD) : (dats m 0 c).arrAt 3 cfg0.N = G3 m c :=
  (dats m 0 c).arrAt_eq_of_cover 3 (G3 m c) (fun t _ => flushed_eq3 m c t) cover3

/-! ### Result 7: columns 512 to 1023, rounded -/

theorem pay9 (x : Vec Ideal S256x2048 .bf16) (w : Vec Ideal S2048x3072 .bf16) (a : Fin 256) (b : Fin 512) :
    k0_pay8 (F := Ideal) x (View.ld w r0_3) (ix2 a b) = ∑ k : Fin 2048, (x (ix2 a k) : EReal) * w (ix2 k ⟨512 + b.val, by omega⟩) := by
  unfold k0_pay8 k0_pay7
  pointwise [dot_S256x2048_S2048x512_S256x512_1_0_0_1_n_n]

theorem ref9 (x : FVec Ideal S8192x2048 .bf16) (w : FVec Ideal S2048x3072 .f32) (r : Fin 8192) (j : Fin 512) :
    Cert.KvRefIdeal.Read.val_main_v9 (F := Ideal) x w (ix2 r j) = proj x w r ⟨512 + j.val, by omega⟩ := by
  unfold proj
  rw [← Cert.KvRefIdeal.Read.val_main_v9_eq]
  pointwise [Cert.KvRefIdeal.dot_S8192x2048_S2048x3072_S8192x3072_1_0_0_1_n_n]

abbrev G9 (c : Dev nD) : FVec Ideal S8192x512 .bf16 := Cert.KvRefIdeal.Read.val_main_v9 (F := Ideal) (ax m c) (aw m c)

theorem flushed_eq9 (c : Dev nD) (t : Fin cfg0.N) :
    (dats m 0 c).flushed 9 t = ((cfg0.win 9).blk t).view.read (Elt Ideal) (G9 m c) := by
  rw [Cert.KvIdeal.Value.flushed9]
  unfold out0_9
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay9 _ _ a b).trans ?_
  have e : ((cfg0.win 9).blk t).view.emb (ix2 a b) = (ix2 (row t a) b : S8192x512.Idx) := by
    have := idx_facts t
    apply Shape.idx_ext₂
    · show win0_9.index t 0 * 256 + 1 * a.val = t.val * 256 + a.val
      omega
    · show win0_9.index t 1 * 512 + 1 * b.val = b.val
      omega
  rw [e]
  refine Eq.trans ?_ (ref9 (ax m c) (aw m c) _ _).symm
  simp only [blk_x, blk_w, vw_apply, proj]

theorem cover9 (i : S8192x512.Idx) : ∃ t : Fin cfg0.N, (cfg0.win 9).flush t = true ∧ i ∈ ((cfg0.win 9).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_9 _, ?_⟩
  have := idx_facts ⟨_, ht⟩
  dsimp only at this
  show i ∈ ((View.whole main_v1_7).slice (win0_9.rect ⟨_, ht⟩)).set
  rw [View.set_slice_whole, Rect.mem_set_unit]
  intro a
  match a with
  | ⟨0, _⟩ =>
    show win0_9.index ⟨_, ht⟩ 0 * 256 ≤ (i 0 : Nat) ∧ (i 0 : Nat) < win0_9.index ⟨_, ht⟩ 0 * 256 + 256
    omega
  | ⟨1, _⟩ =>
    show win0_9.index ⟨_, ht⟩ 1 * 512 ≤ (i 1 : Nat) ∧ (i 1 : Nat) < win0_9.index ⟨_, ht⟩ 1 * 512 + 512
    omega

theorem final9 (c : Dev nD) : (dats m 0 c).arrAt 9 cfg0.N = G9 m c :=
  (dats m 0 c).arrAt_eq_of_cover 9 (G9 m c) (fun t _ => flushed_eq9 m c t) cover9

/-! ### Result 2: columns 1024 to 1535 -/

theorem pay4 (x : Vec Ideal S256x2048 .bf16) (w : Vec Ideal S2048x3072 .bf16) (a : Fin 256) (b : Fin 512) :
    k0_pay9 (F := Ideal) x (View.ld w r0_4) (ix2 a b) = ∑ k : Fin 2048, (x (ix2 a k) : EReal) * w (ix2 k ⟨1024 + b.val, by omega⟩) := by
  unfold k0_pay9
  pointwise [dot_S256x2048_S2048x512_S256x512_1_0_0_1_n_n]

theorem ref4 (x : FVec Ideal S8192x2048 .bf16) (w : FVec Ideal S2048x3072 .f32) (r : Fin 8192) (j : Fin 512) :
    Cert.KvRefIdeal.Read.val_main_v4 (F := Ideal) x w (ix2 r j) = proj x w r ⟨1024 + j.val, by omega⟩ := by
  unfold proj
  rw [← Cert.KvRefIdeal.Read.val_main_v4_eq]
  pointwise [Cert.KvRefIdeal.dot_S8192x2048_S2048x3072_S8192x3072_1_0_0_1_n_n]

abbrev G4 (c : Dev nD) : FVec Ideal S8192x512 .f32 := Cert.KvRefIdeal.Read.val_main_v4 (F := Ideal) (ax m c) (aw m c)

theorem flushed_eq4 (c : Dev nD) (t : Fin cfg0.N) :
    (dats m 0 c).flushed 4 t = ((cfg0.win 4).blk t).view.read (Elt Ideal) (G4 m c) := by
  rw [Cert.KvIdeal.Value.flushed4]
  unfold out0_4
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay4 _ _ a b).trans ?_
  have e : ((cfg0.win 4).blk t).view.emb (ix2 a b) = (ix2 (row t a) b : S8192x512.Idx) := by
    have := idx_facts t
    apply Shape.idx_ext₂
    · show win0_4.index t 0 * 256 + 1 * a.val = t.val * 256 + a.val
      omega
    · show win0_4.index t 1 * 512 + 1 * b.val = b.val
      omega
  rw [e]
  refine Eq.trans ?_ (ref4 (ax m c) (aw m c) _ _).symm
  simp only [blk_x, blk_w, vw_apply, proj]

theorem cover4 (i : S8192x512.Idx) : ∃ t : Fin cfg0.N, (cfg0.win 4).flush t = true ∧ i ∈ ((cfg0.win 4).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_4 _, ?_⟩
  have := idx_facts ⟨_, ht⟩
  dsimp only at this
  show i ∈ ((View.whole main_v1_2).slice (win0_4.rect ⟨_, ht⟩)).set
  rw [View.set_slice_whole, Rect.mem_set_unit]
  intro a
  match a with
  | ⟨0, _⟩ =>
    show win0_4.index ⟨_, ht⟩ 0 * 256 ≤ (i 0 : Nat) ∧ (i 0 : Nat) < win0_4.index ⟨_, ht⟩ 0 * 256 + 256
    omega
  | ⟨1, _⟩ =>
    show win0_4.index ⟨_, ht⟩ 1 * 512 ≤ (i 1 : Nat) ∧ (i 1 : Nat) < win0_4.index ⟨_, ht⟩ 1 * 512 + 512
    omega

theorem final4 (c : Dev nD) : (dats m 0 c).arrAt 4 cfg0.N = G4 m c :=
  (dats m 0 c).arrAt_eq_of_cover 4 (G4 m c) (fun t _ => flushed_eq4 m c t) cover4

/-! ### Result 8: columns 1024 to 1535, rounded -/

theorem pay10 (x : Vec Ideal S256x2048 .bf16) (w : Vec Ideal S2048x3072 .bf16) (a : Fin 256) (b : Fin 512) :
    k0_pay10 (F := Ideal) x (View.ld w r0_4) (ix2 a b) = ∑ k : Fin 2048, (x (ix2 a k) : EReal) * w (ix2 k ⟨1024 + b.val, by omega⟩) := by
  unfold k0_pay10 k0_pay9
  pointwise [dot_S256x2048_S2048x512_S256x512_1_0_0_1_n_n]

theorem ref10 (x : FVec Ideal S8192x2048 .bf16) (w : FVec Ideal S2048x3072 .f32) (r : Fin 8192) (j : Fin 512) :
    Cert.KvRefIdeal.Read.val_main_v10 (F := Ideal) x w (ix2 r j) = proj x w r ⟨1024 + j.val, by omega⟩ := by
  unfold proj
  rw [← Cert.KvRefIdeal.Read.val_main_v10_eq]
  pointwise [Cert.KvRefIdeal.dot_S8192x2048_S2048x3072_S8192x3072_1_0_0_1_n_n]

abbrev G10 (c : Dev nD) : FVec Ideal S8192x512 .bf16 := Cert.KvRefIdeal.Read.val_main_v10 (F := Ideal) (ax m c) (aw m c)

theorem flushed_eq10 (c : Dev nD) (t : Fin cfg0.N) :
    (dats m 0 c).flushed 10 t = ((cfg0.win 10).blk t).view.read (Elt Ideal) (G10 m c) := by
  rw [Cert.KvIdeal.Value.flushed10]
  unfold out0_10
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay10 _ _ a b).trans ?_
  have e : ((cfg0.win 10).blk t).view.emb (ix2 a b) = (ix2 (row t a) b : S8192x512.Idx) := by
    have := idx_facts t
    apply Shape.idx_ext₂
    · show win0_10.index t 0 * 256 + 1 * a.val = t.val * 256 + a.val
      omega
    · show win0_10.index t 1 * 512 + 1 * b.val = b.val
      omega
  rw [e]
  refine Eq.trans ?_ (ref10 (ax m c) (aw m c) _ _).symm
  simp only [blk_x, blk_w, vw_apply, proj]

theorem cover10 (i : S8192x512.Idx) : ∃ t : Fin cfg0.N, (cfg0.win 10).flush t = true ∧ i ∈ ((cfg0.win 10).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_10 _, ?_⟩
  have := idx_facts ⟨_, ht⟩
  dsimp only at this
  show i ∈ ((View.whole main_v1_8).slice (win0_10.rect ⟨_, ht⟩)).set
  rw [View.set_slice_whole, Rect.mem_set_unit]
  intro a
  match a with
  | ⟨0, _⟩ =>
    show win0_10.index ⟨_, ht⟩ 0 * 256 ≤ (i 0 : Nat) ∧ (i 0 : Nat) < win0_10.index ⟨_, ht⟩ 0 * 256 + 256
    omega
  | ⟨1, _⟩ =>
    show win0_10.index ⟨_, ht⟩ 1 * 512 ≤ (i 1 : Nat) ∧ (i 1 : Nat) < win0_10.index ⟨_, ht⟩ 1 * 512 + 512
    omega

theorem final10 (c : Dev nD) : (dats m 0 c).arrAt 10 cfg0.N = G10 m c :=
  (dats m 0 c).arrAt_eq_of_cover 10 (G10 m c) (fun t _ => flushed_eq10 m c t) cover10

/-! ### Result 3: columns 1536 to 2047 -/

theorem pay5 (x : Vec Ideal S256x2048 .bf16) (w : Vec Ideal S2048x3072 .bf16) (a : Fin 256) (b : Fin 512) :
    k0_pay11 (F := Ideal) x (View.ld w r0_5) (ix2 a b) = ∑ k : Fin 2048, (x (ix2 a k) : EReal) * w (ix2 k ⟨1536 + b.val, by omega⟩) := by
  unfold k0_pay11
  pointwise [dot_S256x2048_S2048x512_S256x512_1_0_0_1_n_n]

theorem ref5 (x : FVec Ideal S8192x2048 .bf16) (w : FVec Ideal S2048x3072 .f32) (r : Fin 8192) (j : Fin 512) :
    Cert.KvRefIdeal.Read.val_main_v5 (F := Ideal) x w (ix2 r j) = proj x w r ⟨1536 + j.val, by omega⟩ := by
  unfold proj
  rw [← Cert.KvRefIdeal.Read.val_main_v5_eq]
  pointwise [Cert.KvRefIdeal.dot_S8192x2048_S2048x3072_S8192x3072_1_0_0_1_n_n]

abbrev G5 (c : Dev nD) : FVec Ideal S8192x512 .f32 := Cert.KvRefIdeal.Read.val_main_v5 (F := Ideal) (ax m c) (aw m c)

theorem flushed_eq5 (c : Dev nD) (t : Fin cfg0.N) :
    (dats m 0 c).flushed 5 t = ((cfg0.win 5).blk t).view.read (Elt Ideal) (G5 m c) := by
  rw [Cert.KvIdeal.Value.flushed5]
  unfold out0_5
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay5 _ _ a b).trans ?_
  have e : ((cfg0.win 5).blk t).view.emb (ix2 a b) = (ix2 (row t a) b : S8192x512.Idx) := by
    have := idx_facts t
    apply Shape.idx_ext₂
    · show win0_5.index t 0 * 256 + 1 * a.val = t.val * 256 + a.val
      omega
    · show win0_5.index t 1 * 512 + 1 * b.val = b.val
      omega
  rw [e]
  refine Eq.trans ?_ (ref5 (ax m c) (aw m c) _ _).symm
  simp only [blk_x, blk_w, vw_apply, proj]

theorem cover5 (i : S8192x512.Idx) : ∃ t : Fin cfg0.N, (cfg0.win 5).flush t = true ∧ i ∈ ((cfg0.win 5).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_5 _, ?_⟩
  have := idx_facts ⟨_, ht⟩
  dsimp only at this
  show i ∈ ((View.whole main_v1_3).slice (win0_5.rect ⟨_, ht⟩)).set
  rw [View.set_slice_whole, Rect.mem_set_unit]
  intro a
  match a with
  | ⟨0, _⟩ =>
    show win0_5.index ⟨_, ht⟩ 0 * 256 ≤ (i 0 : Nat) ∧ (i 0 : Nat) < win0_5.index ⟨_, ht⟩ 0 * 256 + 256
    omega
  | ⟨1, _⟩ =>
    show win0_5.index ⟨_, ht⟩ 1 * 512 ≤ (i 1 : Nat) ∧ (i 1 : Nat) < win0_5.index ⟨_, ht⟩ 1 * 512 + 512
    omega

theorem final5 (c : Dev nD) : (dats m 0 c).arrAt 5 cfg0.N = G5 m c :=
  (dats m 0 c).arrAt_eq_of_cover 5 (G5 m c) (fun t _ => flushed_eq5 m c t) cover5

/-! ### Result 9: columns 1536 to 2047, rounded -/

theorem pay11 (x : Vec Ideal S256x2048 .bf16) (w : Vec Ideal S2048x3072 .bf16) (a : Fin 256) (b : Fin 512) :
    k0_pay12 (F := Ideal) x (View.ld w r0_5) (ix2 a b) = ∑ k : Fin 2048, (x (ix2 a k) : EReal) * w (ix2 k ⟨1536 + b.val, by omega⟩) := by
  unfold k0_pay12 k0_pay11
  pointwise [dot_S256x2048_S2048x512_S256x512_1_0_0_1_n_n]

theorem ref11 (x : FVec Ideal S8192x2048 .bf16) (w : FVec Ideal S2048x3072 .f32) (r : Fin 8192) (j : Fin 512) :
    Cert.KvRefIdeal.Read.val_main_v11 (F := Ideal) x w (ix2 r j) = proj x w r ⟨1536 + j.val, by omega⟩ := by
  unfold proj
  rw [← Cert.KvRefIdeal.Read.val_main_v11_eq]
  pointwise [Cert.KvRefIdeal.dot_S8192x2048_S2048x3072_S8192x3072_1_0_0_1_n_n]

abbrev G11 (c : Dev nD) : FVec Ideal S8192x512 .bf16 := Cert.KvRefIdeal.Read.val_main_v11 (F := Ideal) (ax m c) (aw m c)

theorem flushed_eq11 (c : Dev nD) (t : Fin cfg0.N) :
    (dats m 0 c).flushed 11 t = ((cfg0.win 11).blk t).view.read (Elt Ideal) (G11 m c) := by
  rw [Cert.KvIdeal.Value.flushed11]
  unfold out0_11
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay11 _ _ a b).trans ?_
  have e : ((cfg0.win 11).blk t).view.emb (ix2 a b) = (ix2 (row t a) b : S8192x512.Idx) := by
    have := idx_facts t
    apply Shape.idx_ext₂
    · show win0_11.index t 0 * 256 + 1 * a.val = t.val * 256 + a.val
      omega
    · show win0_11.index t 1 * 512 + 1 * b.val = b.val
      omega
  rw [e]
  refine Eq.trans ?_ (ref11 (ax m c) (aw m c) _ _).symm
  simp only [blk_x, blk_w, vw_apply, proj]

theorem cover11 (i : S8192x512.Idx) : ∃ t : Fin cfg0.N, (cfg0.win 11).flush t = true ∧ i ∈ ((cfg0.win 11).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_11 _, ?_⟩
  have := idx_facts ⟨_, ht⟩
  dsimp only at this
  show i ∈ ((View.whole main_v1_9).slice (win0_11.rect ⟨_, ht⟩)).set
  rw [View.set_slice_whole, Rect.mem_set_unit]
  intro a
  match a with
  | ⟨0, _⟩ =>
    show win0_11.index ⟨_, ht⟩ 0 * 256 ≤ (i 0 : Nat) ∧ (i 0 : Nat) < win0_11.index ⟨_, ht⟩ 0 * 256 + 256
    omega
  | ⟨1, _⟩ =>
    show win0_11.index ⟨_, ht⟩ 1 * 512 ≤ (i 1 : Nat) ∧ (i 1 : Nat) < win0_11.index ⟨_, ht⟩ 1 * 512 + 512
    omega

theorem final11 (c : Dev nD) : (dats m 0 c).arrAt 11 cfg0.N = G11 m c :=
  (dats m 0 c).arrAt_eq_of_cover 11 (G11 m c) (fun t _ => flushed_eq11 m c t) cover11

/-! ### Result 4: columns 2048 to 2559 -/

theorem pay6 (x : Vec Ideal S256x2048 .bf16) (w : Vec Ideal S2048x3072 .bf16) (a : Fin 256) (b : Fin 512) :
    k0_pay1 (F := Ideal) x (View.ld w r0_6) (ix2 a b) = ∑ k : Fin 2048, (x (ix2 a k) : EReal) * w (ix2 k ⟨2048 + b.val, by omega⟩) := by
  unfold k0_pay1
  pointwise [dot_S256x2048_S2048x512_S256x512_1_0_0_1_n_n]

theorem ref6 (x : FVec Ideal S8192x2048 .bf16) (w : FVec Ideal S2048x3072 .f32) (r : Fin 8192) (j : Fin 512) :
    Cert.KvRefIdeal.Read.val_main_v6 (F := Ideal) x w (ix2 r j) = proj x w r ⟨2048 + j.val, by omega⟩ := by
  unfold proj
  rw [← Cert.KvRefIdeal.Read.val_main_v6_eq]
  pointwise [Cert.KvRefIdeal.dot_S8192x2048_S2048x3072_S8192x3072_1_0_0_1_n_n]

abbrev G6 (c : Dev nD) : FVec Ideal S8192x512 .f32 := Cert.KvRefIdeal.Read.val_main_v6 (F := Ideal) (ax m c) (aw m c)

theorem flushed_eq6 (c : Dev nD) (t : Fin cfg0.N) :
    (dats m 0 c).flushed 6 t = ((cfg0.win 6).blk t).view.read (Elt Ideal) (G6 m c) := by
  rw [Cert.KvIdeal.Value.flushed6]
  unfold out0_6
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay6 _ _ a b).trans ?_
  have e : ((cfg0.win 6).blk t).view.emb (ix2 a b) = (ix2 (row t a) b : S8192x512.Idx) := by
    have := idx_facts t
    apply Shape.idx_ext₂
    · show win0_6.index t 0 * 256 + 1 * a.val = t.val * 256 + a.val
      omega
    · show win0_6.index t 1 * 512 + 1 * b.val = b.val
      omega
  rw [e]
  refine Eq.trans ?_ (ref6 (ax m c) (aw m c) _ _).symm
  simp only [blk_x, blk_w, vw_apply, proj]

theorem cover6 (i : S8192x512.Idx) : ∃ t : Fin cfg0.N, (cfg0.win 6).flush t = true ∧ i ∈ ((cfg0.win 6).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_6 _, ?_⟩
  have := idx_facts ⟨_, ht⟩
  dsimp only at this
  show i ∈ ((View.whole main_v1_4).slice (win0_6.rect ⟨_, ht⟩)).set
  rw [View.set_slice_whole, Rect.mem_set_unit]
  intro a
  match a with
  | ⟨0, _⟩ =>
    show win0_6.index ⟨_, ht⟩ 0 * 256 ≤ (i 0 : Nat) ∧ (i 0 : Nat) < win0_6.index ⟨_, ht⟩ 0 * 256 + 256
    omega
  | ⟨1, _⟩ =>
    show win0_6.index ⟨_, ht⟩ 1 * 512 ≤ (i 1 : Nat) ∧ (i 1 : Nat) < win0_6.index ⟨_, ht⟩ 1 * 512 + 512
    omega

theorem final6 (c : Dev nD) : (dats m 0 c).arrAt 6 cfg0.N = G6 m c :=
  (dats m 0 c).arrAt_eq_of_cover 6 (G6 m c) (fun t _ => flushed_eq6 m c t) cover6

/-! ### Result 10: columns 2048 to 2559, rounded -/

theorem pay12 (x : Vec Ideal S256x2048 .bf16) (w : Vec Ideal S2048x3072 .bf16) (a : Fin 256) (b : Fin 512) :
    k0_pay2 (F := Ideal) x (View.ld w r0_6) (ix2 a b) = ∑ k : Fin 2048, (x (ix2 a k) : EReal) * w (ix2 k ⟨2048 + b.val, by omega⟩) := by
  unfold k0_pay2 k0_pay1
  pointwise [dot_S256x2048_S2048x512_S256x512_1_0_0_1_n_n]

theorem ref12 (x : FVec Ideal S8192x2048 .bf16) (w : FVec Ideal S2048x3072 .f32) (r : Fin 8192) (j : Fin 512) :
    Cert.KvRefIdeal.Read.val_main_v12 (F := Ideal) x w (ix2 r j) = proj x w r ⟨2048 + j.val, by omega⟩ := by
  unfold proj
  rw [← Cert.KvRefIdeal.Read.val_main_v12_eq]
  pointwise [Cert.KvRefIdeal.dot_S8192x2048_S2048x3072_S8192x3072_1_0_0_1_n_n]

abbrev G12 (c : Dev nD) : FVec Ideal S8192x512 .bf16 := Cert.KvRefIdeal.Read.val_main_v12 (F := Ideal) (ax m c) (aw m c)

theorem flushed_eq12 (c : Dev nD) (t : Fin cfg0.N) :
    (dats m 0 c).flushed 12 t = ((cfg0.win 12).blk t).view.read (Elt Ideal) (G12 m c) := by
  rw [Cert.KvIdeal.Value.flushed12]
  unfold out0_12
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay12 _ _ a b).trans ?_
  have e : ((cfg0.win 12).blk t).view.emb (ix2 a b) = (ix2 (row t a) b : S8192x512.Idx) := by
    have := idx_facts t
    apply Shape.idx_ext₂
    · show win0_12.index t 0 * 256 + 1 * a.val = t.val * 256 + a.val
      omega
    · show win0_12.index t 1 * 512 + 1 * b.val = b.val
      omega
  rw [e]
  refine Eq.trans ?_ (ref12 (ax m c) (aw m c) _ _).symm
  simp only [blk_x, blk_w, vw_apply, proj]

theorem cover12 (i : S8192x512.Idx) : ∃ t : Fin cfg0.N, (cfg0.win 12).flush t = true ∧ i ∈ ((cfg0.win 12).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_12 _, ?_⟩
  have := idx_facts ⟨_, ht⟩
  dsimp only at this
  show i ∈ ((View.whole main_v1_10).slice (win0_12.rect ⟨_, ht⟩)).set
  rw [View.set_slice_whole, Rect.mem_set_unit]
  intro a
  match a with
  | ⟨0, _⟩ =>
    show win0_12.index ⟨_, ht⟩ 0 * 256 ≤ (i 0 : Nat) ∧ (i 0 : Nat) < win0_12.index ⟨_, ht⟩ 0 * 256 + 256
    omega
  | ⟨1, _⟩ =>
    show win0_12.index ⟨_, ht⟩ 1 * 512 ≤ (i 1 : Nat) ∧ (i 1 : Nat) < win0_12.index ⟨_, ht⟩ 1 * 512 + 512
    omega

theorem final12 (c : Dev nD) : (dats m 0 c).arrAt 12 cfg0.N = G12 m c :=
  (dats m 0 c).arrAt_eq_of_cover 12 (G12 m c) (fun t _ => flushed_eq12 m c t) cover12

/-! ### Result 5: columns 2560 to 3071 -/

theorem pay7 (x : Vec Ideal S256x2048 .bf16) (w : Vec Ideal S2048x3072 .bf16) (a : Fin 256) (b : Fin 512) :
    k0_pay3 (F := Ideal) x (View.ld w r0_7) (ix2 a b) = ∑ k : Fin 2048, (x (ix2 a k) : EReal) * w (ix2 k ⟨2560 + b.val, by omega⟩) := by
  unfold k0_pay3
  pointwise [dot_S256x2048_S2048x512_S256x512_1_0_0_1_n_n]

theorem ref7 (x : FVec Ideal S8192x2048 .bf16) (w : FVec Ideal S2048x3072 .f32) (r : Fin 8192) (j : Fin 512) :
    Cert.KvRefIdeal.Read.val_main_v7 (F := Ideal) x w (ix2 r j) = proj x w r ⟨2560 + j.val, by omega⟩ := by
  unfold proj
  rw [← Cert.KvRefIdeal.Read.val_main_v7_eq]
  pointwise [Cert.KvRefIdeal.dot_S8192x2048_S2048x3072_S8192x3072_1_0_0_1_n_n]

abbrev G7 (c : Dev nD) : FVec Ideal S8192x512 .f32 := Cert.KvRefIdeal.Read.val_main_v7 (F := Ideal) (ax m c) (aw m c)

theorem flushed_eq7 (c : Dev nD) (t : Fin cfg0.N) :
    (dats m 0 c).flushed 7 t = ((cfg0.win 7).blk t).view.read (Elt Ideal) (G7 m c) := by
  rw [Cert.KvIdeal.Value.flushed7]
  unfold out0_7
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay7 _ _ a b).trans ?_
  have e : ((cfg0.win 7).blk t).view.emb (ix2 a b) = (ix2 (row t a) b : S8192x512.Idx) := by
    have := idx_facts t
    apply Shape.idx_ext₂
    · show win0_7.index t 0 * 256 + 1 * a.val = t.val * 256 + a.val
      omega
    · show win0_7.index t 1 * 512 + 1 * b.val = b.val
      omega
  rw [e]
  refine Eq.trans ?_ (ref7 (ax m c) (aw m c) _ _).symm
  simp only [blk_x, blk_w, vw_apply, proj]

theorem cover7 (i : S8192x512.Idx) : ∃ t : Fin cfg0.N, (cfg0.win 7).flush t = true ∧ i ∈ ((cfg0.win 7).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_7 _, ?_⟩
  have := idx_facts ⟨_, ht⟩
  dsimp only at this
  show i ∈ ((View.whole main_v1_5).slice (win0_7.rect ⟨_, ht⟩)).set
  rw [View.set_slice_whole, Rect.mem_set_unit]
  intro a
  match a with
  | ⟨0, _⟩ =>
    show win0_7.index ⟨_, ht⟩ 0 * 256 ≤ (i 0 : Nat) ∧ (i 0 : Nat) < win0_7.index ⟨_, ht⟩ 0 * 256 + 256
    omega
  | ⟨1, _⟩ =>
    show win0_7.index ⟨_, ht⟩ 1 * 512 ≤ (i 1 : Nat) ∧ (i 1 : Nat) < win0_7.index ⟨_, ht⟩ 1 * 512 + 512
    omega

theorem final7 (c : Dev nD) : (dats m 0 c).arrAt 7 cfg0.N = G7 m c :=
  (dats m 0 c).arrAt_eq_of_cover 7 (G7 m c) (fun t _ => flushed_eq7 m c t) cover7

/-! ### Result 11: columns 2560 to 3071, rounded -/

theorem pay13 (x : Vec Ideal S256x2048 .bf16) (w : Vec Ideal S2048x3072 .bf16) (a : Fin 256) (b : Fin 512) :
    k0_pay4 (F := Ideal) x (View.ld w r0_7) (ix2 a b) = ∑ k : Fin 2048, (x (ix2 a k) : EReal) * w (ix2 k ⟨2560 + b.val, by omega⟩) := by
  unfold k0_pay4 k0_pay3
  pointwise [dot_S256x2048_S2048x512_S256x512_1_0_0_1_n_n]

theorem ref13 (x : FVec Ideal S8192x2048 .bf16) (w : FVec Ideal S2048x3072 .f32) (r : Fin 8192) (j : Fin 512) :
    Cert.KvRefIdeal.Read.val_main_v13 (F := Ideal) x w (ix2 r j) = proj x w r ⟨2560 + j.val, by omega⟩ := by
  unfold proj
  rw [← Cert.KvRefIdeal.Read.val_main_v13_eq]
  pointwise [Cert.KvRefIdeal.dot_S8192x2048_S2048x3072_S8192x3072_1_0_0_1_n_n]

abbrev G13 (c : Dev nD) : FVec Ideal S8192x512 .bf16 := Cert.KvRefIdeal.Read.val_main_v13 (F := Ideal) (ax m c) (aw m c)

theorem flushed_eq13 (c : Dev nD) (t : Fin cfg0.N) :
    (dats m 0 c).flushed 13 t = ((cfg0.win 13).blk t).view.read (Elt Ideal) (G13 m c) := by
  rw [Cert.KvIdeal.Value.flushed13]
  unfold out0_13
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay13 _ _ a b).trans ?_
  have e : ((cfg0.win 13).blk t).view.emb (ix2 a b) = (ix2 (row t a) b : S8192x512.Idx) := by
    have := idx_facts t
    apply Shape.idx_ext₂
    · show win0_13.index t 0 * 256 + 1 * a.val = t.val * 256 + a.val
      omega
    · show win0_13.index t 1 * 512 + 1 * b.val = b.val
      omega
  rw [e]
  refine Eq.trans ?_ (ref13 (ax m c) (aw m c) _ _).symm
  simp only [blk_x, blk_w, vw_apply, proj]

theorem cover13 (i : S8192x512.Idx) : ∃ t : Fin cfg0.N, (cfg0.win 13).flush t = true ∧ i ∈ ((cfg0.win 13).blk t).view.set := by
  have h0 : (i 0 : Nat) < 8192 := (i 0).isLt
  have h1 : (i 1 : Nat) < 512 := (i 1).isLt
  have ht : (i 0 : Nat) / 256 < cfg0.N := by show _ < 32; omega
  refine ⟨⟨_, ht⟩, flush0_13 _, ?_⟩
  have := idx_facts ⟨_, ht⟩
  dsimp only at this
  show i ∈ ((View.whole main_v1_11).slice (win0_13.rect ⟨_, ht⟩)).set
  rw [View.set_slice_whole, Rect.mem_set_unit]
  intro a
  match a with
  | ⟨0, _⟩ =>
    show win0_13.index ⟨_, ht⟩ 0 * 256 ≤ (i 0 : Nat) ∧ (i 0 : Nat) < win0_13.index ⟨_, ht⟩ 0 * 256 + 256
    omega
  | ⟨1, _⟩ =>
    show win0_13.index ⟨_, ht⟩ 1 * 512 ≤ (i 1 : Nat) ∧ (i 1 : Nat) < win0_13.index ⟨_, ht⟩ 1 * 512 + 512
    omega

theorem final13 (c : Dev nD) : (dats m 0 c).arrAt 13 cfg0.N = G13 m c :=
  (dats m 0 c).arrAt_eq_of_cover 13 (G13 m c) (fun t _ => flushed_eq13 m c t) cover13

end Cert.Proof.Kv
-- ==== Proof.KvS.lean ====
/-
  The six key and value projections, in both precisions: what each grid point writes, as a function of the argument arrays.
-/
module

public import proofs.«01_k».proof.Proof.Common
public import proofs.«01_k».proof.Proof.Gen.KvSIdeal.Value
public import proofs.«01_k».proof.Proof.Gen.KvSRefIdeal.Run
public import proofs.«01_k».proof.Proof.Gen.KvSRefIdeal.Read
public import Idealize.ShloMosaic.Lib.Tactic
public import Idealize.ShloMosaic.Lib.Pipeline.ValueKit.Tiles

@[expose] public section

noncomputable section

namespace Cert.Proof.KvS

open Idealize.ShloMosaic Idealize.ShloMosaic.TcCoe Idealize.SL.Sem
open Idealize.ShloMosaic.Pipeline (Dat)
open Cert.KvSIdeal Cert.KvSIdeal.Gen Cert.Proof.Common
open scoped BigOperators

variable (m : (ℓ : Loc nD τ sig) → Buf (Elt Ideal) ℓ)

/-- The two arguments, and the weights as the region finds them. -/
def ax (c : Dev nD) : FVec Ideal S1024x2048 .bf16 := m ((c : Thread nD τ).loc main_arg0)
def aw (c : Dev nD) : FVec Ideal S2048x3072 .f32 := m ((c : Thread nD τ).loc main_arg1)
def vw (c : Dev nD) : FVec Ideal S2048x3072 .bf16 := V m c main_v0

theorem vw_eq (c : Dev nD) : vw m c = truncf .bf16 (aw m c) bitsLt_bf16_f32 := by
  unfold vw V aw
  after_results <;> rfl
theorem vw_apply (c : Dev nD) (k : Fin 2048) (j : Fin 3072) : vw m c (ix2 k j) = aw m c (ix2 k j) := by
  rw [vw_eq]
  pointwise

/-- The block indices of the windows at each grid point: rows by the point, everything else whole. -/
theorem idx_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0
    ∧ win0_3.index t 0 = t.val ∧ win0_3.index t 1 = 0
    ∧ win0_4.index t 0 = t.val ∧ win0_4.index t 1 = 0
    ∧ win0_5.index t 0 = t.val ∧ win0_5.index t 1 = 0
    ∧ win0_6.index t 0 = t.val ∧ win0_6.index t 1 = 0
    ∧ win0_7.index t 0 = t.val ∧ win0_7.index t 1 = 0
    ∧ win0_8.index t 0 = t.val ∧ win0_8.index t 1 = 0
    ∧ win0_9.index t 0 = t.val ∧ win0_9.index t 1 = 0
    ∧ win0_10.index t 0 = t.val ∧ win0_10.index t 1 = 0
    ∧ win0_11.index t 0 = t.val ∧ win0_11.index t 1 = 0
    ∧ win0_12.index t 0 = t.val ∧ win0_12.index t 1 = 0
    ∧ win0_13.index t 0 = t.val ∧ win0_13.index t 1 = 0 := by decide +kernel

/-- Row `a` of the block of rows of point `t`, in the whole array. -/
def row (t : Fin cfg0.N) (a : Fin 256) : Fin 1024 := ⟨t.val * 256 + a.val, by have : t.val < 4 := t.isLt; omega⟩

theorem blk_x (c : Dev nD) (t : Fin cfg0.N) (a : Fin 256) (k : Fin 2048) :
    (iblk m c 0 t : FVec Ideal S256x2048 .bf16) (ix2 a k) = ax m c (ix2 (row t a) k) := by
  unfold iblk
  rw [View.read_apply]
  show ax m c _ = _
  congr 1
  have := idx_facts t
  apply Shape.idx_ext₂
  · show win0_0.index t 0 * 256 + 1 * a.val = t.val * 256 + a.val
    omega
  · show win0_0.index t 1 * 2048 + 1 * k.val = k.val
    omega

theorem blk_w (c : Dev nD) (t : Fin cfg0.N) (k : Fin 2048) (b : Fin 3072) :
    (iblk m c 1 t : FVec Ideal S2048x3072 .bf16) (ix2 k b) = vw m c (ix2 k b) := by
  unfold iblk
  rw [View.read_apply]
  show vw m c _ = _
  congr 1
  have := idx_facts t
  apply Shape.idx_ext₂
  · show win0_1.index t 0 * 2048 + 1 * k.val = k.val
    omega
  · show win0_1.index t 1 * 3072 + 1 * b.val = b.val
    omega

/-- Column `j` of the projection `x w` at token `r`. -/
def proj (x : FVec Ideal S1024x2048 .bf16) (w : FVec Ideal S2048x3072 .f32) (r : Fin 1024) (j : Fin 3072) : EReal :=
  ∑ k : Fin 2048, (x (ix2 r k) : EReal) * w (ix2 k j)

/-! ### Result 0: columns 0 to 511 -/

theorem pay2 (x : Vec Ideal S256x2048 .bf16) (w : Vec Ideal S2048x3072 .bf16) (a : Fin 256) (b : Fin 512) :
    k0_pay5 (F := Ideal) x (View.ld w r0_1) (ix2 a b) = ∑ k : Fin 2048, (x (ix2 a k) : EReal) * w (ix2 k ⟨0 + b.val, by omega⟩) := by
  unfold k0_pay5
  pointwise [dot_S256x2048_S2048x512_S256x512_1_0_0_1_n_n]

theorem ref2 (x : FVec Ideal S1024x2048 .bf16) (w : FVec Ideal S2048x3072 .f32) (r : Fin 1024) (j : Fin 512) :
    Cert.KvSRefIdeal.Read.val_main_v2 (F := Ideal) x w (ix2 r j) = proj x w r ⟨0 + j.val, by omega⟩ := by
  unfold proj
  rw [← Cert.KvSRefIdeal.Read.val_main_v2_eq]
  pointwise [Cert.KvSRefIdeal.dot_S1024x2048_S2048x3072_S1024x3072_1_0_0_1_n_n]

abbrev G2 (c : Dev nD) : FVec Ideal S1024x512 .f32 := Cert.KvSRefIdeal.Read.val_main_v2 (F := Ideal) (ax m c) (aw m c)

theorem flushed_eq2 (c : Dev nD) (t : Fin cfg0.N) :
    (dats m 0 c).flushed 2 t = ((cfg0.win 2).blk t).view.read (Elt Ideal) (G2 m c) := by
  rw [Cert.KvSIdeal.Value.flushed2]
  unfold out0_2
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay2 _ _ a b).trans ?_
  have e : ((cfg0.win 2).blk t).view.emb (ix2 a b) = (ix2 (row t a) b : S1024x512.Idx) := by
    have := idx_facts t
    apply Shape.idx_ext₂
    · show win0_2.index t 0 * 256 + 1 * a.val = t.val * 256 + a.val
      omega
    · show win0_2.index t 1 * 512 + 1 * b.val = b.val
      omega
  rw [e]
  refine Eq.trans ?_ (ref2 (ax m c) (aw m c) _ _).symm
  simp only [blk_x, blk_w, vw_apply, proj]

theorem cover2 (i : S1024x512.Idx) : ∃ t : Fin cfg0.N, (cfg0.win 2).flush t = true ∧ i ∈ ((cfg0.win 2).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_2 _, ?_⟩
  have := idx_facts ⟨_, ht⟩
  dsimp only at this
  show i ∈ ((View.whole main_v1_0).slice (win0_2.rect ⟨_, ht⟩)).set
  rw [View.set_slice_whole, Rect.mem_set_unit]
  intro a
  match a with
  | ⟨0, _⟩ =>
    show win0_2.index ⟨_, ht⟩ 0 * 256 ≤ (i 0 : Nat) ∧ (i 0 : Nat) < win0_2.index ⟨_, ht⟩ 0 * 256 + 256
    omega
  | ⟨1, _⟩ =>
    show win0_2.index ⟨_, ht⟩ 1 * 512 ≤ (i 1 : Nat) ∧ (i 1 : Nat) < win0_2.index ⟨_, ht⟩ 1 * 512 + 512
    omega

theorem final2 (c : Dev nD) : (dats m 0 c).arrAt 2 cfg0.N = G2 m c :=
  (dats m 0 c).arrAt_eq_of_cover 2 (G2 m c) (fun t _ => flushed_eq2 m c t) cover2

/-! ### Result 6: columns 0 to 511, rounded -/

theorem pay8 (x : Vec Ideal S256x2048 .bf16) (w : Vec Ideal S2048x3072 .bf16) (a : Fin 256) (b : Fin 512) :
    k0_pay6 (F := Ideal) x (View.ld w r0_1) (ix2 a b) = ∑ k : Fin 2048, (x (ix2 a k) : EReal) * w (ix2 k ⟨0 + b.val, by omega⟩) := by
  unfold k0_pay6 k0_pay5
  pointwise [dot_S256x2048_S2048x512_S256x512_1_0_0_1_n_n]

theorem ref8 (x : FVec Ideal S1024x2048 .bf16) (w : FVec Ideal S2048x3072 .f32) (r : Fin 1024) (j : Fin 512) :
    Cert.KvSRefIdeal.Read.val_main_v8 (F := Ideal) x w (ix2 r j) = proj x w r ⟨0 + j.val, by omega⟩ := by
  unfold proj
  rw [← Cert.KvSRefIdeal.Read.val_main_v8_eq]
  pointwise [Cert.KvSRefIdeal.dot_S1024x2048_S2048x3072_S1024x3072_1_0_0_1_n_n]

abbrev G8 (c : Dev nD) : FVec Ideal S1024x512 .bf16 := Cert.KvSRefIdeal.Read.val_main_v8 (F := Ideal) (ax m c) (aw m c)

theorem flushed_eq8 (c : Dev nD) (t : Fin cfg0.N) :
    (dats m 0 c).flushed 8 t = ((cfg0.win 8).blk t).view.read (Elt Ideal) (G8 m c) := by
  rw [Cert.KvSIdeal.Value.flushed8]
  unfold out0_8
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay8 _ _ a b).trans ?_
  have e : ((cfg0.win 8).blk t).view.emb (ix2 a b) = (ix2 (row t a) b : S1024x512.Idx) := by
    have := idx_facts t
    apply Shape.idx_ext₂
    · show win0_8.index t 0 * 256 + 1 * a.val = t.val * 256 + a.val
      omega
    · show win0_8.index t 1 * 512 + 1 * b.val = b.val
      omega
  rw [e]
  refine Eq.trans ?_ (ref8 (ax m c) (aw m c) _ _).symm
  simp only [blk_x, blk_w, vw_apply, proj]

theorem cover8 (i : S1024x512.Idx) : ∃ t : Fin cfg0.N, (cfg0.win 8).flush t = true ∧ i ∈ ((cfg0.win 8).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_8 _, ?_⟩
  have := idx_facts ⟨_, ht⟩
  dsimp only at this
  show i ∈ ((View.whole main_v1_6).slice (win0_8.rect ⟨_, ht⟩)).set
  rw [View.set_slice_whole, Rect.mem_set_unit]
  intro a
  match a with
  | ⟨0, _⟩ =>
    show win0_8.index ⟨_, ht⟩ 0 * 256 ≤ (i 0 : Nat) ∧ (i 0 : Nat) < win0_8.index ⟨_, ht⟩ 0 * 256 + 256
    omega
  | ⟨1, _⟩ =>
    show win0_8.index ⟨_, ht⟩ 1 * 512 ≤ (i 1 : Nat) ∧ (i 1 : Nat) < win0_8.index ⟨_, ht⟩ 1 * 512 + 512
    omega

theorem final8 (c : Dev nD) : (dats m 0 c).arrAt 8 cfg0.N = G8 m c :=
  (dats m 0 c).arrAt_eq_of_cover 8 (G8 m c) (fun t _ => flushed_eq8 m c t) cover8

/-! ### Result 1: columns 512 to 1023 -/

theorem pay3 (x : Vec Ideal S256x2048 .bf16) (w : Vec Ideal S2048x3072 .bf16) (a : Fin 256) (b : Fin 512) :
    k0_pay7 (F := Ideal) x (View.ld w r0_3) (ix2 a b) = ∑ k : Fin 2048, (x (ix2 a k) : EReal) * w (ix2 k ⟨512 + b.val, by omega⟩) := by
  unfold k0_pay7
  pointwise [dot_S256x2048_S2048x512_S256x512_1_0_0_1_n_n]

theorem ref3 (x : FVec Ideal S1024x2048 .bf16) (w : FVec Ideal S2048x3072 .f32) (r : Fin 1024) (j : Fin 512) :
    Cert.KvSRefIdeal.Read.val_main_v3 (F := Ideal) x w (ix2 r j) = proj x w r ⟨512 + j.val, by omega⟩ := by
  unfold proj
  rw [← Cert.KvSRefIdeal.Read.val_main_v3_eq]
  pointwise [Cert.KvSRefIdeal.dot_S1024x2048_S2048x3072_S1024x3072_1_0_0_1_n_n]

abbrev G3 (c : Dev nD) : FVec Ideal S1024x512 .f32 := Cert.KvSRefIdeal.Read.val_main_v3 (F := Ideal) (ax m c) (aw m c)

theorem flushed_eq3 (c : Dev nD) (t : Fin cfg0.N) :
    (dats m 0 c).flushed 3 t = ((cfg0.win 3).blk t).view.read (Elt Ideal) (G3 m c) := by
  rw [Cert.KvSIdeal.Value.flushed3]
  unfold out0_3
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay3 _ _ a b).trans ?_
  have e : ((cfg0.win 3).blk t).view.emb (ix2 a b) = (ix2 (row t a) b : S1024x512.Idx) := by
    have := idx_facts t
    apply Shape.idx_ext₂
    · show win0_3.index t 0 * 256 + 1 * a.val = t.val * 256 + a.val
      omega
    · show win0_3.index t 1 * 512 + 1 * b.val = b.val
      omega
  rw [e]
  refine Eq.trans ?_ (ref3 (ax m c) (aw m c) _ _).symm
  simp only [blk_x, blk_w, vw_apply, proj]

theorem cover3 (i : S1024x512.Idx) : ∃ t : Fin cfg0.N, (cfg0.win 3).flush t = true ∧ i ∈ ((cfg0.win 3).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_3 _, ?_⟩
  have := idx_facts ⟨_, ht⟩
  dsimp only at this
  show i ∈ ((View.whole main_v1_1).slice (win0_3.rect ⟨_, ht⟩)).set
  rw [View.set_slice_whole, Rect.mem_set_unit]
  intro a
  match a with
  | ⟨0, _⟩ =>
    show win0_3.index ⟨_, ht⟩ 0 * 256 ≤ (i 0 : Nat) ∧ (i 0 : Nat) < win0_3.index ⟨_, ht⟩ 0 * 256 + 256
    omega
  | ⟨1, _⟩ =>
    show win0_3.index ⟨_, ht⟩ 1 * 512 ≤ (i 1 : Nat) ∧ (i 1 : Nat) < win0_3.index ⟨_, ht⟩ 1 * 512 + 512
    omega

theorem final3 (c : Dev nD) : (dats m 0 c).arrAt 3 cfg0.N = G3 m c :=
  (dats m 0 c).arrAt_eq_of_cover 3 (G3 m c) (fun t _ => flushed_eq3 m c t) cover3

/-! ### Result 7: columns 512 to 1023, rounded -/

theorem pay9 (x : Vec Ideal S256x2048 .bf16) (w : Vec Ideal S2048x3072 .bf16) (a : Fin 256) (b : Fin 512) :
    k0_pay8 (F := Ideal) x (View.ld w r0_3) (ix2 a b) = ∑ k : Fin 2048, (x (ix2 a k) : EReal) * w (ix2 k ⟨512 + b.val, by omega⟩) := by
  unfold k0_pay8 k0_pay7
  pointwise [dot_S256x2048_S2048x512_S256x512_1_0_0_1_n_n]

theorem ref9 (x : FVec Ideal S1024x2048 .bf16) (w : FVec Ideal S2048x3072 .f32) (r : Fin 1024) (j : Fin 512) :
    Cert.KvSRefIdeal.Read.val_main_v9 (F := Ideal) x w (ix2 r j) = proj x w r ⟨512 + j.val, by omega⟩ := by
  unfold proj
  rw [← Cert.KvSRefIdeal.Read.val_main_v9_eq]
  pointwise [Cert.KvSRefIdeal.dot_S1024x2048_S2048x3072_S1024x3072_1_0_0_1_n_n]

abbrev G9 (c : Dev nD) : FVec Ideal S1024x512 .bf16 := Cert.KvSRefIdeal.Read.val_main_v9 (F := Ideal) (ax m c) (aw m c)

theorem flushed_eq9 (c : Dev nD) (t : Fin cfg0.N) :
    (dats m 0 c).flushed 9 t = ((cfg0.win 9).blk t).view.read (Elt Ideal) (G9 m c) := by
  rw [Cert.KvSIdeal.Value.flushed9]
  unfold out0_9
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay9 _ _ a b).trans ?_
  have e : ((cfg0.win 9).blk t).view.emb (ix2 a b) = (ix2 (row t a) b : S1024x512.Idx) := by
    have := idx_facts t
    apply Shape.idx_ext₂
    · show win0_9.index t 0 * 256 + 1 * a.val = t.val * 256 + a.val
      omega
    · show win0_9.index t 1 * 512 + 1 * b.val = b.val
      omega
  rw [e]
  refine Eq.trans ?_ (ref9 (ax m c) (aw m c) _ _).symm
  simp only [blk_x, blk_w, vw_apply, proj]

theorem cover9 (i : S1024x512.Idx) : ∃ t : Fin cfg0.N, (cfg0.win 9).flush t = true ∧ i ∈ ((cfg0.win 9).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_9 _, ?_⟩
  have := idx_facts ⟨_, ht⟩
  dsimp only at this
  show i ∈ ((View.whole main_v1_7).slice (win0_9.rect ⟨_, ht⟩)).set
  rw [View.set_slice_whole, Rect.mem_set_unit]
  intro a
  match a with
  | ⟨0, _⟩ =>
    show win0_9.index ⟨_, ht⟩ 0 * 256 ≤ (i 0 : Nat) ∧ (i 0 : Nat) < win0_9.index ⟨_, ht⟩ 0 * 256 + 256
    omega
  | ⟨1, _⟩ =>
    show win0_9.index ⟨_, ht⟩ 1 * 512 ≤ (i 1 : Nat) ∧ (i 1 : Nat) < win0_9.index ⟨_, ht⟩ 1 * 512 + 512
    omega

theorem final9 (c : Dev nD) : (dats m 0 c).arrAt 9 cfg0.N = G9 m c :=
  (dats m 0 c).arrAt_eq_of_cover 9 (G9 m c) (fun t _ => flushed_eq9 m c t) cover9

/-! ### Result 2: columns 1024 to 1535 -/

theorem pay4 (x : Vec Ideal S256x2048 .bf16) (w : Vec Ideal S2048x3072 .bf16) (a : Fin 256) (b : Fin 512) :
    k0_pay9 (F := Ideal) x (View.ld w r0_4) (ix2 a b) = ∑ k : Fin 2048, (x (ix2 a k) : EReal) * w (ix2 k ⟨1024 + b.val, by omega⟩) := by
  unfold k0_pay9
  pointwise [dot_S256x2048_S2048x512_S256x512_1_0_0_1_n_n]

theorem ref4 (x : FVec Ideal S1024x2048 .bf16) (w : FVec Ideal S2048x3072 .f32) (r : Fin 1024) (j : Fin 512) :
    Cert.KvSRefIdeal.Read.val_main_v4 (F := Ideal) x w (ix2 r j) = proj x w r ⟨1024 + j.val, by omega⟩ := by
  unfold proj
  rw [← Cert.KvSRefIdeal.Read.val_main_v4_eq]
  pointwise [Cert.KvSRefIdeal.dot_S1024x2048_S2048x3072_S1024x3072_1_0_0_1_n_n]

abbrev G4 (c : Dev nD) : FVec Ideal S1024x512 .f32 := Cert.KvSRefIdeal.Read.val_main_v4 (F := Ideal) (ax m c) (aw m c)

theorem flushed_eq4 (c : Dev nD) (t : Fin cfg0.N) :
    (dats m 0 c).flushed 4 t = ((cfg0.win 4).blk t).view.read (Elt Ideal) (G4 m c) := by
  rw [Cert.KvSIdeal.Value.flushed4]
  unfold out0_4
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay4 _ _ a b).trans ?_
  have e : ((cfg0.win 4).blk t).view.emb (ix2 a b) = (ix2 (row t a) b : S1024x512.Idx) := by
    have := idx_facts t
    apply Shape.idx_ext₂
    · show win0_4.index t 0 * 256 + 1 * a.val = t.val * 256 + a.val
      omega
    · show win0_4.index t 1 * 512 + 1 * b.val = b.val
      omega
  rw [e]
  refine Eq.trans ?_ (ref4 (ax m c) (aw m c) _ _).symm
  simp only [blk_x, blk_w, vw_apply, proj]

theorem cover4 (i : S1024x512.Idx) : ∃ t : Fin cfg0.N, (cfg0.win 4).flush t = true ∧ i ∈ ((cfg0.win 4).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_4 _, ?_⟩
  have := idx_facts ⟨_, ht⟩
  dsimp only at this
  show i ∈ ((View.whole main_v1_2).slice (win0_4.rect ⟨_, ht⟩)).set
  rw [View.set_slice_whole, Rect.mem_set_unit]
  intro a
  match a with
  | ⟨0, _⟩ =>
    show win0_4.index ⟨_, ht⟩ 0 * 256 ≤ (i 0 : Nat) ∧ (i 0 : Nat) < win0_4.index ⟨_, ht⟩ 0 * 256 + 256
    omega
  | ⟨1, _⟩ =>
    show win0_4.index ⟨_, ht⟩ 1 * 512 ≤ (i 1 : Nat) ∧ (i 1 : Nat) < win0_4.index ⟨_, ht⟩ 1 * 512 + 512
    omega

theorem final4 (c : Dev nD) : (dats m 0 c).arrAt 4 cfg0.N = G4 m c :=
  (dats m 0 c).arrAt_eq_of_cover 4 (G4 m c) (fun t _ => flushed_eq4 m c t) cover4

/-! ### Result 8: columns 1024 to 1535, rounded -/

theorem pay10 (x : Vec Ideal S256x2048 .bf16) (w : Vec Ideal S2048x3072 .bf16) (a : Fin 256) (b : Fin 512) :
    k0_pay10 (F := Ideal) x (View.ld w r0_4) (ix2 a b) = ∑ k : Fin 2048, (x (ix2 a k) : EReal) * w (ix2 k ⟨1024 + b.val, by omega⟩) := by
  unfold k0_pay10 k0_pay9
  pointwise [dot_S256x2048_S2048x512_S256x512_1_0_0_1_n_n]

theorem ref10 (x : FVec Ideal S1024x2048 .bf16) (w : FVec Ideal S2048x3072 .f32) (r : Fin 1024) (j : Fin 512) :
    Cert.KvSRefIdeal.Read.val_main_v10 (F := Ideal) x w (ix2 r j) = proj x w r ⟨1024 + j.val, by omega⟩ := by
  unfold proj
  rw [← Cert.KvSRefIdeal.Read.val_main_v10_eq]
  pointwise [Cert.KvSRefIdeal.dot_S1024x2048_S2048x3072_S1024x3072_1_0_0_1_n_n]

abbrev G10 (c : Dev nD) : FVec Ideal S1024x512 .bf16 := Cert.KvSRefIdeal.Read.val_main_v10 (F := Ideal) (ax m c) (aw m c)

theorem flushed_eq10 (c : Dev nD) (t : Fin cfg0.N) :
    (dats m 0 c).flushed 10 t = ((cfg0.win 10).blk t).view.read (Elt Ideal) (G10 m c) := by
  rw [Cert.KvSIdeal.Value.flushed10]
  unfold out0_10
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay10 _ _ a b).trans ?_
  have e : ((cfg0.win 10).blk t).view.emb (ix2 a b) = (ix2 (row t a) b : S1024x512.Idx) := by
    have := idx_facts t
    apply Shape.idx_ext₂
    · show win0_10.index t 0 * 256 + 1 * a.val = t.val * 256 + a.val
      omega
    · show win0_10.index t 1 * 512 + 1 * b.val = b.val
      omega
  rw [e]
  refine Eq.trans ?_ (ref10 (ax m c) (aw m c) _ _).symm
  simp only [blk_x, blk_w, vw_apply, proj]

theorem cover10 (i : S1024x512.Idx) : ∃ t : Fin cfg0.N, (cfg0.win 10).flush t = true ∧ i ∈ ((cfg0.win 10).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_10 _, ?_⟩
  have := idx_facts ⟨_, ht⟩
  dsimp only at this
  show i ∈ ((View.whole main_v1_8).slice (win0_10.rect ⟨_, ht⟩)).set
  rw [View.set_slice_whole, Rect.mem_set_unit]
  intro a
  match a with
  | ⟨0, _⟩ =>
    show win0_10.index ⟨_, ht⟩ 0 * 256 ≤ (i 0 : Nat) ∧ (i 0 : Nat) < win0_10.index ⟨_, ht⟩ 0 * 256 + 256
    omega
  | ⟨1, _⟩ =>
    show win0_10.index ⟨_, ht⟩ 1 * 512 ≤ (i 1 : Nat) ∧ (i 1 : Nat) < win0_10.index ⟨_, ht⟩ 1 * 512 + 512
    omega

theorem final10 (c : Dev nD) : (dats m 0 c).arrAt 10 cfg0.N = G10 m c :=
  (dats m 0 c).arrAt_eq_of_cover 10 (G10 m c) (fun t _ => flushed_eq10 m c t) cover10

/-! ### Result 3: columns 1536 to 2047 -/

theorem pay5 (x : Vec Ideal S256x2048 .bf16) (w : Vec Ideal S2048x3072 .bf16) (a : Fin 256) (b : Fin 512) :
    k0_pay11 (F := Ideal) x (View.ld w r0_5) (ix2 a b) = ∑ k : Fin 2048, (x (ix2 a k) : EReal) * w (ix2 k ⟨1536 + b.val, by omega⟩) := by
  unfold k0_pay11
  pointwise [dot_S256x2048_S2048x512_S256x512_1_0_0_1_n_n]

theorem ref5 (x : FVec Ideal S1024x2048 .bf16) (w : FVec Ideal S2048x3072 .f32) (r : Fin 1024) (j : Fin 512) :
    Cert.KvSRefIdeal.Read.val_main_v5 (F := Ideal) x w (ix2 r j) = proj x w r ⟨1536 + j.val, by omega⟩ := by
  unfold proj
  rw [← Cert.KvSRefIdeal.Read.val_main_v5_eq]
  pointwise [Cert.KvSRefIdeal.dot_S1024x2048_S2048x3072_S1024x3072_1_0_0_1_n_n]

abbrev G5 (c : Dev nD) : FVec Ideal S1024x512 .f32 := Cert.KvSRefIdeal.Read.val_main_v5 (F := Ideal) (ax m c) (aw m c)

theorem flushed_eq5 (c : Dev nD) (t : Fin cfg0.N) :
    (dats m 0 c).flushed 5 t = ((cfg0.win 5).blk t).view.read (Elt Ideal) (G5 m c) := by
  rw [Cert.KvSIdeal.Value.flushed5]
  unfold out0_5
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay5 _ _ a b).trans ?_
  have e : ((cfg0.win 5).blk t).view.emb (ix2 a b) = (ix2 (row t a) b : S1024x512.Idx) := by
    have := idx_facts t
    apply Shape.idx_ext₂
    · show win0_5.index t 0 * 256 + 1 * a.val = t.val * 256 + a.val
      omega
    · show win0_5.index t 1 * 512 + 1 * b.val = b.val
      omega
  rw [e]
  refine Eq.trans ?_ (ref5 (ax m c) (aw m c) _ _).symm
  simp only [blk_x, blk_w, vw_apply, proj]

theorem cover5 (i : S1024x512.Idx) : ∃ t : Fin cfg0.N, (cfg0.win 5).flush t = true ∧ i ∈ ((cfg0.win 5).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_5 _, ?_⟩
  have := idx_facts ⟨_, ht⟩
  dsimp only at this
  show i ∈ ((View.whole main_v1_3).slice (win0_5.rect ⟨_, ht⟩)).set
  rw [View.set_slice_whole, Rect.mem_set_unit]
  intro a
  match a with
  | ⟨0, _⟩ =>
    show win0_5.index ⟨_, ht⟩ 0 * 256 ≤ (i 0 : Nat) ∧ (i 0 : Nat) < win0_5.index ⟨_, ht⟩ 0 * 256 + 256
    omega
  | ⟨1, _⟩ =>
    show win0_5.index ⟨_, ht⟩ 1 * 512 ≤ (i 1 : Nat) ∧ (i 1 : Nat) < win0_5.index ⟨_, ht⟩ 1 * 512 + 512
    omega

theorem final5 (c : Dev nD) : (dats m 0 c).arrAt 5 cfg0.N = G5 m c :=
  (dats m 0 c).arrAt_eq_of_cover 5 (G5 m c) (fun t _ => flushed_eq5 m c t) cover5

/-! ### Result 9: columns 1536 to 2047, rounded -/

theorem pay11 (x : Vec Ideal S256x2048 .bf16) (w : Vec Ideal S2048x3072 .bf16) (a : Fin 256) (b : Fin 512) :
    k0_pay12 (F := Ideal) x (View.ld w r0_5) (ix2 a b) = ∑ k : Fin 2048, (x (ix2 a k) : EReal) * w (ix2 k ⟨1536 + b.val, by omega⟩) := by
  unfold k0_pay12 k0_pay11
  pointwise [dot_S256x2048_S2048x512_S256x512_1_0_0_1_n_n]

theorem ref11 (x : FVec Ideal S1024x2048 .bf16) (w : FVec Ideal S2048x3072 .f32) (r : Fin 1024) (j : Fin 512) :
    Cert.KvSRefIdeal.Read.val_main_v11 (F := Ideal) x w (ix2 r j) = proj x w r ⟨1536 + j.val, by omega⟩ := by
  unfold proj
  rw [← Cert.KvSRefIdeal.Read.val_main_v11_eq]
  pointwise [Cert.KvSRefIdeal.dot_S1024x2048_S2048x3072_S1024x3072_1_0_0_1_n_n]

abbrev G11 (c : Dev nD) : FVec Ideal S1024x512 .bf16 := Cert.KvSRefIdeal.Read.val_main_v11 (F := Ideal) (ax m c) (aw m c)

theorem flushed_eq11 (c : Dev nD) (t : Fin cfg0.N) :
    (dats m 0 c).flushed 11 t = ((cfg0.win 11).blk t).view.read (Elt Ideal) (G11 m c) := by
  rw [Cert.KvSIdeal.Value.flushed11]
  unfold out0_11
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay11 _ _ a b).trans ?_
  have e : ((cfg0.win 11).blk t).view.emb (ix2 a b) = (ix2 (row t a) b : S1024x512.Idx) := by
    have := idx_facts t
    apply Shape.idx_ext₂
    · show win0_11.index t 0 * 256 + 1 * a.val = t.val * 256 + a.val
      omega
    · show win0_11.index t 1 * 512 + 1 * b.val = b.val
      omega
  rw [e]
  refine Eq.trans ?_ (ref11 (ax m c) (aw m c) _ _).symm
  simp only [blk_x, blk_w, vw_apply, proj]

theorem cover11 (i : S1024x512.Idx) : ∃ t : Fin cfg0.N, (cfg0.win 11).flush t = true ∧ i ∈ ((cfg0.win 11).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_11 _, ?_⟩
  have := idx_facts ⟨_, ht⟩
  dsimp only at this
  show i ∈ ((View.whole main_v1_9).slice (win0_11.rect ⟨_, ht⟩)).set
  rw [View.set_slice_whole, Rect.mem_set_unit]
  intro a
  match a with
  | ⟨0, _⟩ =>
    show win0_11.index ⟨_, ht⟩ 0 * 256 ≤ (i 0 : Nat) ∧ (i 0 : Nat) < win0_11.index ⟨_, ht⟩ 0 * 256 + 256
    omega
  | ⟨1, _⟩ =>
    show win0_11.index ⟨_, ht⟩ 1 * 512 ≤ (i 1 : Nat) ∧ (i 1 : Nat) < win0_11.index ⟨_, ht⟩ 1 * 512 + 512
    omega

theorem final11 (c : Dev nD) : (dats m 0 c).arrAt 11 cfg0.N = G11 m c :=
  (dats m 0 c).arrAt_eq_of_cover 11 (G11 m c) (fun t _ => flushed_eq11 m c t) cover11

/-! ### Result 4: columns 2048 to 2559 -/

theorem pay6 (x : Vec Ideal S256x2048 .bf16) (w : Vec Ideal S2048x3072 .bf16) (a : Fin 256) (b : Fin 512) :
    k0_pay1 (F := Ideal) x (View.ld w r0_6) (ix2 a b) = ∑ k : Fin 2048, (x (ix2 a k) : EReal) * w (ix2 k ⟨2048 + b.val, by omega⟩) := by
  unfold k0_pay1
  pointwise [dot_S256x2048_S2048x512_S256x512_1_0_0_1_n_n]

theorem ref6 (x : FVec Ideal S1024x2048 .bf16) (w : FVec Ideal S2048x3072 .f32) (r : Fin 1024) (j : Fin 512) :
    Cert.KvSRefIdeal.Read.val_main_v6 (F := Ideal) x w (ix2 r j) = proj x w r ⟨2048 + j.val, by omega⟩ := by
  unfold proj
  rw [← Cert.KvSRefIdeal.Read.val_main_v6_eq]
  pointwise [Cert.KvSRefIdeal.dot_S1024x2048_S2048x3072_S1024x3072_1_0_0_1_n_n]

abbrev G6 (c : Dev nD) : FVec Ideal S1024x512 .f32 := Cert.KvSRefIdeal.Read.val_main_v6 (F := Ideal) (ax m c) (aw m c)

theorem flushed_eq6 (c : Dev nD) (t : Fin cfg0.N) :
    (dats m 0 c).flushed 6 t = ((cfg0.win 6).blk t).view.read (Elt Ideal) (G6 m c) := by
  rw [Cert.KvSIdeal.Value.flushed6]
  unfold out0_6
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay6 _ _ a b).trans ?_
  have e : ((cfg0.win 6).blk t).view.emb (ix2 a b) = (ix2 (row t a) b : S1024x512.Idx) := by
    have := idx_facts t
    apply Shape.idx_ext₂
    · show win0_6.index t 0 * 256 + 1 * a.val = t.val * 256 + a.val
      omega
    · show win0_6.index t 1 * 512 + 1 * b.val = b.val
      omega
  rw [e]
  refine Eq.trans ?_ (ref6 (ax m c) (aw m c) _ _).symm
  simp only [blk_x, blk_w, vw_apply, proj]

theorem cover6 (i : S1024x512.Idx) : ∃ t : Fin cfg0.N, (cfg0.win 6).flush t = true ∧ i ∈ ((cfg0.win 6).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_6 _, ?_⟩
  have := idx_facts ⟨_, ht⟩
  dsimp only at this
  show i ∈ ((View.whole main_v1_4).slice (win0_6.rect ⟨_, ht⟩)).set
  rw [View.set_slice_whole, Rect.mem_set_unit]
  intro a
  match a with
  | ⟨0, _⟩ =>
    show win0_6.index ⟨_, ht⟩ 0 * 256 ≤ (i 0 : Nat) ∧ (i 0 : Nat) < win0_6.index ⟨_, ht⟩ 0 * 256 + 256
    omega
  | ⟨1, _⟩ =>
    show win0_6.index ⟨_, ht⟩ 1 * 512 ≤ (i 1 : Nat) ∧ (i 1 : Nat) < win0_6.index ⟨_, ht⟩ 1 * 512 + 512
    omega

theorem final6 (c : Dev nD) : (dats m 0 c).arrAt 6 cfg0.N = G6 m c :=
  (dats m 0 c).arrAt_eq_of_cover 6 (G6 m c) (fun t _ => flushed_eq6 m c t) cover6

/-! ### Result 10: columns 2048 to 2559, rounded -/

theorem pay12 (x : Vec Ideal S256x2048 .bf16) (w : Vec Ideal S2048x3072 .bf16) (a : Fin 256) (b : Fin 512) :
    k0_pay2 (F := Ideal) x (View.ld w r0_6) (ix2 a b) = ∑ k : Fin 2048, (x (ix2 a k) : EReal) * w (ix2 k ⟨2048 + b.val, by omega⟩) := by
  unfold k0_pay2 k0_pay1
  pointwise [dot_S256x2048_S2048x512_S256x512_1_0_0_1_n_n]

theorem ref12 (x : FVec Ideal S1024x2048 .bf16) (w : FVec Ideal S2048x3072 .f32) (r : Fin 1024) (j : Fin 512) :
    Cert.KvSRefIdeal.Read.val_main_v12 (F := Ideal) x w (ix2 r j) = proj x w r ⟨2048 + j.val, by omega⟩ := by
  unfold proj
  rw [← Cert.KvSRefIdeal.Read.val_main_v12_eq]
  pointwise [Cert.KvSRefIdeal.dot_S1024x2048_S2048x3072_S1024x3072_1_0_0_1_n_n]

abbrev G12 (c : Dev nD) : FVec Ideal S1024x512 .bf16 := Cert.KvSRefIdeal.Read.val_main_v12 (F := Ideal) (ax m c) (aw m c)

theorem flushed_eq12 (c : Dev nD) (t : Fin cfg0.N) :
    (dats m 0 c).flushed 12 t = ((cfg0.win 12).blk t).view.read (Elt Ideal) (G12 m c) := by
  rw [Cert.KvSIdeal.Value.flushed12]
  unfold out0_12
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay12 _ _ a b).trans ?_
  have e : ((cfg0.win 12).blk t).view.emb (ix2 a b) = (ix2 (row t a) b : S1024x512.Idx) := by
    have := idx_facts t
    apply Shape.idx_ext₂
    · show win0_12.index t 0 * 256 + 1 * a.val = t.val * 256 + a.val
      omega
    · show win0_12.index t 1 * 512 + 1 * b.val = b.val
      omega
  rw [e]
  refine Eq.trans ?_ (ref12 (ax m c) (aw m c) _ _).symm
  simp only [blk_x, blk_w, vw_apply, proj]

theorem cover12 (i : S1024x512.Idx) : ∃ t : Fin cfg0.N, (cfg0.win 12).flush t = true ∧ i ∈ ((cfg0.win 12).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_12 _, ?_⟩
  have := idx_facts ⟨_, ht⟩
  dsimp only at this
  show i ∈ ((View.whole main_v1_10).slice (win0_12.rect ⟨_, ht⟩)).set
  rw [View.set_slice_whole, Rect.mem_set_unit]
  intro a
  match a with
  | ⟨0, _⟩ =>
    show win0_12.index ⟨_, ht⟩ 0 * 256 ≤ (i 0 : Nat) ∧ (i 0 : Nat) < win0_12.index ⟨_, ht⟩ 0 * 256 + 256
    omega
  | ⟨1, _⟩ =>
    show win0_12.index ⟨_, ht⟩ 1 * 512 ≤ (i 1 : Nat) ∧ (i 1 : Nat) < win0_12.index ⟨_, ht⟩ 1 * 512 + 512
    omega

theorem final12 (c : Dev nD) : (dats m 0 c).arrAt 12 cfg0.N = G12 m c :=
  (dats m 0 c).arrAt_eq_of_cover 12 (G12 m c) (fun t _ => flushed_eq12 m c t) cover12

/-! ### Result 5: columns 2560 to 3071 -/

theorem pay7 (x : Vec Ideal S256x2048 .bf16) (w : Vec Ideal S2048x3072 .bf16) (a : Fin 256) (b : Fin 512) :
    k0_pay3 (F := Ideal) x (View.ld w r0_7) (ix2 a b) = ∑ k : Fin 2048, (x (ix2 a k) : EReal) * w (ix2 k ⟨2560 + b.val, by omega⟩) := by
  unfold k0_pay3
  pointwise [dot_S256x2048_S2048x512_S256x512_1_0_0_1_n_n]

theorem ref7 (x : FVec Ideal S1024x2048 .bf16) (w : FVec Ideal S2048x3072 .f32) (r : Fin 1024) (j : Fin 512) :
    Cert.KvSRefIdeal.Read.val_main_v7 (F := Ideal) x w (ix2 r j) = proj x w r ⟨2560 + j.val, by omega⟩ := by
  unfold proj
  rw [← Cert.KvSRefIdeal.Read.val_main_v7_eq]
  pointwise [Cert.KvSRefIdeal.dot_S1024x2048_S2048x3072_S1024x3072_1_0_0_1_n_n]

abbrev G7 (c : Dev nD) : FVec Ideal S1024x512 .f32 := Cert.KvSRefIdeal.Read.val_main_v7 (F := Ideal) (ax m c) (aw m c)

theorem flushed_eq7 (c : Dev nD) (t : Fin cfg0.N) :
    (dats m 0 c).flushed 7 t = ((cfg0.win 7).blk t).view.read (Elt Ideal) (G7 m c) := by
  rw [Cert.KvSIdeal.Value.flushed7]
  unfold out0_7
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay7 _ _ a b).trans ?_
  have e : ((cfg0.win 7).blk t).view.emb (ix2 a b) = (ix2 (row t a) b : S1024x512.Idx) := by
    have := idx_facts t
    apply Shape.idx_ext₂
    · show win0_7.index t 0 * 256 + 1 * a.val = t.val * 256 + a.val
      omega
    · show win0_7.index t 1 * 512 + 1 * b.val = b.val
      omega
  rw [e]
  refine Eq.trans ?_ (ref7 (ax m c) (aw m c) _ _).symm
  simp only [blk_x, blk_w, vw_apply, proj]

theorem cover7 (i : S1024x512.Idx) : ∃ t : Fin cfg0.N, (cfg0.win 7).flush t = true ∧ i ∈ ((cfg0.win 7).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_7 _, ?_⟩
  have := idx_facts ⟨_, ht⟩
  dsimp only at this
  show i ∈ ((View.whole main_v1_5).slice (win0_7.rect ⟨_, ht⟩)).set
  rw [View.set_slice_whole, Rect.mem_set_unit]
  intro a
  match a with
  | ⟨0, _⟩ =>
    show win0_7.index ⟨_, ht⟩ 0 * 256 ≤ (i 0 : Nat) ∧ (i 0 : Nat) < win0_7.index ⟨_, ht⟩ 0 * 256 + 256
    omega
  | ⟨1, _⟩ =>
    show win0_7.index ⟨_, ht⟩ 1 * 512 ≤ (i 1 : Nat) ∧ (i 1 : Nat) < win0_7.index ⟨_, ht⟩ 1 * 512 + 512
    omega

theorem final7 (c : Dev nD) : (dats m 0 c).arrAt 7 cfg0.N = G7 m c :=
  (dats m 0 c).arrAt_eq_of_cover 7 (G7 m c) (fun t _ => flushed_eq7 m c t) cover7

/-! ### Result 11: columns 2560 to 3071, rounded -/

theorem pay13 (x : Vec Ideal S256x2048 .bf16) (w : Vec Ideal S2048x3072 .bf16) (a : Fin 256) (b : Fin 512) :
    k0_pay4 (F := Ideal) x (View.ld w r0_7) (ix2 a b) = ∑ k : Fin 2048, (x (ix2 a k) : EReal) * w (ix2 k ⟨2560 + b.val, by omega⟩) := by
  unfold k0_pay4 k0_pay3
  pointwise [dot_S256x2048_S2048x512_S256x512_1_0_0_1_n_n]

theorem ref13 (x : FVec Ideal S1024x2048 .bf16) (w : FVec Ideal S2048x3072 .f32) (r : Fin 1024) (j : Fin 512) :
    Cert.KvSRefIdeal.Read.val_main_v13 (F := Ideal) x w (ix2 r j) = proj x w r ⟨2560 + j.val, by omega⟩ := by
  unfold proj
  rw [← Cert.KvSRefIdeal.Read.val_main_v13_eq]
  pointwise [Cert.KvSRefIdeal.dot_S1024x2048_S2048x3072_S1024x3072_1_0_0_1_n_n]

abbrev G13 (c : Dev nD) : FVec Ideal S1024x512 .bf16 := Cert.KvSRefIdeal.Read.val_main_v13 (F := Ideal) (ax m c) (aw m c)

theorem flushed_eq13 (c : Dev nD) (t : Fin cfg0.N) :
    (dats m 0 c).flushed 13 t = ((cfg0.win 13).blk t).view.read (Elt Ideal) (G13 m c) := by
  rw [Cert.KvSIdeal.Value.flushed13]
  unfold out0_13
  rw [View.canon_unit_zero hz]
  simp only [View.ld_unit_zero (S := S256x2048) hz]
  funext j
  rw [View.read_apply]
  obtain ⟨a, b, rfl⟩ : ∃ (a : Fin 256) (b : Fin 512), j = ix2 a b := ⟨j 0, j 1, eq_ix2 j⟩
  refine (pay13 _ _ a b).trans ?_
  have e : ((cfg0.win 13).blk t).view.emb (ix2 a b) = (ix2 (row t a) b : S1024x512.Idx) := by
    have := idx_facts t
    apply Shape.idx_ext₂
    · show win0_13.index t 0 * 256 + 1 * a.val = t.val * 256 + a.val
      omega
    · show win0_13.index t 1 * 512 + 1 * b.val = b.val
      omega
  rw [e]
  refine Eq.trans ?_ (ref13 (ax m c) (aw m c) _ _).symm
  simp only [blk_x, blk_w, vw_apply, proj]

theorem cover13 (i : S1024x512.Idx) : ∃ t : Fin cfg0.N, (cfg0.win 13).flush t = true ∧ i ∈ ((cfg0.win 13).blk t).view.set := by
  have h0 : (i 0 : Nat) < 1024 := (i 0).isLt
  have h1 : (i 1 : Nat) < 512 := (i 1).isLt
  have ht : (i 0 : Nat) / 256 < cfg0.N := by show _ < 4; omega
  refine ⟨⟨_, ht⟩, flush0_13 _, ?_⟩
  have := idx_facts ⟨_, ht⟩
  dsimp only at this
  show i ∈ ((View.whole main_v1_11).slice (win0_13.rect ⟨_, ht⟩)).set
  rw [View.set_slice_whole, Rect.mem_set_unit]
  intro a
  match a with
  | ⟨0, _⟩ =>
    show win0_13.index ⟨_, ht⟩ 0 * 256 ≤ (i 0 : Nat) ∧ (i 0 : Nat) < win0_13.index ⟨_, ht⟩ 0 * 256 + 256
    omega
  | ⟨1, _⟩ =>
    show win0_13.index ⟨_, ht⟩ 1 * 512 ≤ (i 1 : Nat) ∧ (i 1 : Nat) < win0_13.index ⟨_, ht⟩ 1 * 512 + 512
    omega

theorem final13 (c : Dev nD) : (dats m 0 c).arrAt 13 cfg0.N = G13 m c :=
  (dats m 0 c).arrAt_eq_of_cover 13 (G13 m c) (fun t _ => flushed_eq13 m c t) cover13

end Cert.Proof.KvS
-- ==== Proof.Qg.lean ====
/-
  The scaled queries and the padded gates: what each grid point writes, as a function of the argument arrays.
-/
module

public import proofs.«01_k».proof.Proof.Common
public import proofs.«01_k».proof.Proof.Gen.QgIdeal.Value
public import proofs.«01_k».proof.Proof.Gen.QgRefIdeal.Run
public import proofs.«01_k».proof.Proof.Gen.QgRefIdeal.Read
public import Idealize.ShloMosaic.Lib.Tactic
public import Idealize.ShloMosaic.Lib.Pipeline.ValueKit.Tiles

@[expose] public section

noncomputable section

namespace Cert.Proof.Qg

open Idealize.ShloMosaic Idealize.ShloMosaic.TcCoe Idealize.SL.Sem
open Idealize.ShloMosaic.Pipeline (Dat)
open Cert.QgIdeal Cert.QgIdeal.Gen Cert.Proof.Common
open scoped BigOperators

variable (m : (ℓ : Loc nD τ sig) → Buf (Elt Ideal) ℓ)

/-- The two arguments, and the padded weights as the region finds them. -/
def ax (c : Dev nD) : FVec Ideal S8192x2048 .bf16 := m ((c : Thread nD τ).loc main_arg0)
def aw (c : Dev nD) : FVec Ideal S1x2048x2096 .f32 := m ((c : Thread nD τ).loc main_arg1)
def vw (c : Dev nD) : FVec Ideal S2048x2176 .bf16 := V m c main_v2

theorem vw_eq (c : Dev nD) : vw m c = truncf .bf16 (pad S2048x2176 ![0, 0] ![0, 80] ![0, 0] (shapeCast S2048x2096 (aw m c) shapeCasts_S1x2048x2096_S2048x2096)
    (sitofp .f32 (constantI S_ 32 0#32)) pads_S2048x2096_S2048x2176_000_0800 h_S_) bitsLt_bf16_f32 := by
  unfold vw V aw
  simp only [List.flatten_cons, List.flatten_nil, List.append_nil, List.cons_append, List.nil_append, hostOps0, hostOps0_1, hostOps0_2]
  after_results <;> rfl
theorem zero_int : (FloatOps.sitofp FTy.f32 (0#32 : BitVec 32) : Ideal .f32) = (0 : EReal) := by
  show (((0#32 : BitVec 32).toInt : ℝ) : EReal) = 0
  simp

/-- Column `j` of the padded weights: the weights' where they have one, else zero. -/
def wcol (w : FVec Ideal S1x2048x2096 .f32) (k : Fin 2048) (j : Nat) : EReal := if h : j < 2096 then w (ix3 0 k ⟨j, h⟩) else 0
theorem vw_apply (c : Dev nD) (k : Fin 2048) (j : Fin 2176) : vw m c (ix2 k j) = wcol (aw m c) k j := by
  rw [vw_eq]
  unfold wcol
  pointwise
  simp [zero_int]

/-- The block indices of the windows at each grid point. -/
theorem idx_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 := by decide +kernel

/-- Row `a` of the block of rows of point `t`, in the whole array. -/
def row (t : Fin cfg0.N) (a : Fin 512) : Fin 8192 := ⟨t.val * 512 + a.val, by have : t.val < 16 := t.isLt; omega⟩

theorem blk_x (c : Dev nD) (t : Fin cfg0.N) (a : Fin 512) (k : Fin 2048) :
    (iblk m c 0 t : FVec Ideal S512x2048 .bf16) (ix2 a k) = ax m c (ix2 (row t a) k) := by
  unfold iblk
  rw [View.read_apply]
  show ax m c _ = _
  congr 1
  have := idx_facts t
  apply Shape.idx_ext₂
  · show win0_0.index t 0 * 512 + 1 * a.val = t.val * 512 + a.val
    omega
  · show win0_0.index t 1 * 2048 + 1 * k.val = k.val
    omega

theorem blk_w (c : Dev nD) (t : Fin cfg0.N) (k : Fin 2048) (b : Fin 2176) :
    (iblk m c 1 t : FVec Ideal S2048x2176 .bf16) (ix2 k b) = vw m c (ix2 k b) := by
  unfold iblk
  rw [View.read_apply]
  show vw m c _ = _
  congr 1
  have := idx_facts t
  apply Shape.idx_ext₂
  · show win0_1.index t 0 * 2048 + 1 * k.val = k.val
    omega
  · show win0_1.index t 1 * 2176 + 1 * b.val = b.val
    omega

/-! ### The scaled queries -/

theorem pay0 (x : Vec Ideal S512x2048 .bf16) (w : Vec Ideal S2048x2176 .bf16) (a b : Fin 512) :
    k0_pay2 (F := Ideal) x (View.ld w r0_1) (ix2 a b)
      = (∑ k : Fin 2048, (x (ix2 a k) : EReal) * w (ix2 k ⟨0 + b.val, by omega⟩)) * Ideal.ofBits .f32 0x3DB504F3#32 := by
  unfold k0_pay2
  pointwise [dot_S512x2048_S2048x512_S512x512_1_0_0_1_n_n]
theorem pay1 (x : Vec Ideal S512x2048 .bf16) (w : Vec Ideal S2048x2176 .bf16) (a b : Fin 512) :
    k0_pay3 (F := Ideal) x (View.ld w r0_3) (ix2 a b)
      = (∑ k : Fin 2048, (x (ix2 a k) : EReal) * w (ix2 k ⟨512 + b.val, by omega⟩)) * Ideal.ofBits .f32 0x3DB504F3#32 := by
  unfold k0_pay3
  pointwise [dot_S512x2048_S2048x512_S512x512_1_0_0_1_n_n]
theorem pay2 (x : Vec Ideal S512x2048 .bf16) (w : Vec Ideal S2048x2176 .bf16) (a b : Fin 512) :
    k0_pay4 (F := Ideal) x (View.ld w r0_5) (ix2 a b)
      = (∑ k : Fin 2048, (x (ix2 a k) : EReal) * w (ix2 k ⟨1024 + b.val, by omega⟩)) * Ideal.ofBits .f32 0x3DB504F3#32 := by
  unfold k0_pay4
  pointwise [dot_S512x2048_S2048x512_S512x512_1_0_0_1_n_n]
theorem pay3 (x : Vec Ideal S512x2048 .bf16) (w : Vec Ideal S2048x2176 .bf16) (a b : Fin 512) :
    k0_pay5 (F := Ideal) x (View.ld w r0_7) (ix2 a b)
      = (∑ k : Fin 2048, (x (ix2 a k) : EReal) * w (ix2 k ⟨1536 + b.val, by omega⟩)) * Ideal.ofBits .f32 0x3DB504F3#32 := by
  unfold k0_pay5
  pointwise [dot_S512x2048_S2048x512_S512x512_1_0_0_1_n_n]

/-- The block the body leaves, at an index: each group of 512 columns is one store. -/
theorem out2_apply (x : Vec Ideal S512x2048 .bf16) (w : Vec Ideal S2048x2176 .bf16) (a : Fin 512) (b : Fin 2048) :
    out0_2 (F := Ideal) x w (ix2 a b)
      = (∑ k : Fin 2048, (x (ix2 a k) : EReal) * w (ix2 k ⟨b.val, by omega⟩)) * Ideal.ofBits .f32 0x3DB504F3#32 := by
  unfold out0_2
  simp only [View.ld_unit_zero (S := S512x2048) hz]
  refine View.canon_eq_of_allAt _ _ _ (cover0_2 (F := Ideal) _ _ _ _ _) ?_
  have key : ∀ (off : Nat) (f : (⟨2, ![512, 512]⟩ : Shape).Idx → Ideal .bf16) (ho : off + 512 ≤ 2048)
      (_ : ∀ a b : Fin 512, f (ix2 a b) = (∑ k : Fin 2048, (x (ix2 a k) : EReal) * w (ix2 k ⟨off + b.val, by omega⟩)) * Ideal.ofBits .f32 0x3DB504F3#32),
      View.TileAt (S := S512x2048) (Val := Elt Ideal) (e := .bf16) (ix2 a b) ![0, off] ![512, 512] f
        ((∑ k : Fin 2048, (x (ix2 a k) : EReal) * w (ix2 k ⟨b.val, by omega⟩)) * Ideal.ofBits .f32 0x3DB504F3#32) := by
    intro off f ho hf i hi
    obtain ⟨p, q, rfl⟩ : ∃ (p q : Fin 512), i = ix2 p q := ⟨i 0, i 1, eq_ix2 i⟩
    have h0 : a.val = 0 + p.val := hi 0
    have h1 : b.val = off + q.val := hi 1
    obtain rfl : a = p := Fin.ext (by omega)
    rw [hf]
    simp only [h1]
  exact View.allAt_cons_unit _ _ _ _ _ (key 1536 _ (by decide) (pay3 x w)) <| View.allAt_cons_unit _ _ _ _ _ (key 1024 _ (by decide) (pay2 x w)) <|
    View.allAt_cons_unit _ _ _ _ _ (key 512 _ (by decide) (pay1 x w)) <|
    View.allAt_cons_unit _ _ _ _ _ (key 0 _ (by decide) (pay0 x w)) <| View.allAt_nil _ _

theorem ref2 (x : FVec Ideal S8192x2048 .bf16) (w : FVec Ideal S1x2048x2096 .f32) (r : Fin 8192) (j : Fin 2048) :
    Cert.QgRefIdeal.Read.val_main_v6 (F := Ideal) x w (ix2 r j)
      = (∑ k : Fin 2048, (x (ix2 r k) : EReal) * wcol w k j) * Ideal.ofBits .f32 0x3DB504F3#32 := by
  have e : ∀ k, wcol w k j = w (ix3 0 k ⟨j.val, by omega⟩) := fun k => by unfold wcol; rw [dif_pos (by omega)]
  simp only [e]
  rw [← Cert.QgRefIdeal.Read.val_main_v6_eq]
  pointwise [Cert.QgRefIdeal.dot_S8192x2048_S2048x2096_S8192x2096_1_0_0_1_n_n]

abbrev G2 (c : Dev nD) : FVec Ideal S8192x2048 .bf16 := Cert.QgRefIdeal.Read.val_main_v6 (F := Ideal) (ax m c) (aw m c)

theorem flushed_eq2 (c : Dev nD) (t : Fin cfg0.N) :
    (dats m 0 c).flushed 2 t = ((cfg0.win 2).blk t).view.read (Elt Ideal) (G2 m c) := by
  rw [Cert.QgIdeal.Value.flushed2]
  funext j
  rw [View.read_apply]
  obtain ⟨a, b, rfl⟩ : ∃ (a : Fin 512) (b : Fin 2048), j = ix2 a b := ⟨j 0, j 1, eq_ix2 j⟩
  have e : ((cfg0.win 2).blk t).view.emb (ix2 a b) = (ix2 (row t a) b : S8192x2048.Idx) := by
    have := idx_facts t
    apply Shape.idx_ext₂
    · show win0_2.index t 0 * 512 + 1 * a.val = t.val * 512 + a.val
      omega
    · show win0_2.index t 1 * 2048 + 1 * b.val = b.val
      omega
  rw [e]
  refine (out2_apply _ _ a b).trans (Eq.trans ?_ (ref2 (ax m c) (aw m c) _ _).symm)
  simp only [blk_x, blk_w, vw_apply]

theorem cover2 (i : S8192x2048.Idx) : ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have ht : (i 0 : Nat) / 512 < cfg0.N := by show _ < 16; omega
  refine ⟨⟨_, ht⟩, flush0_2 _, ?_⟩
  have := idx_facts ⟨_, ht⟩
  dsimp only at this
  show i ∈ ((View.whole main_v3_0).slice (win0_2.rect ⟨_, ht⟩)).set
  rw [View.set_slice_whole, Rect.mem_set_unit]
  intro a
  match a with
  | ⟨0, _⟩ =>
    show win0_2.index ⟨_, ht⟩ 0 * 512 ≤ (i 0 : Nat) ∧ (i 0 : Nat) < win0_2.index ⟨_, ht⟩ 0 * 512 + 512
    omega
  | ⟨1, _⟩ =>
    show win0_2.index ⟨_, ht⟩ 1 * 2048 ≤ (i 1 : Nat) ∧ (i 1 : Nat) < win0_2.index ⟨_, ht⟩ 1 * 2048 + 2048
    omega

theorem final2 (c : Dev nD) : (dats m 0 c).arrAt 2 cfg0.N = G2 m c :=
  (dats m 0 c).arrAt_eq_of_cover 2 (G2 m c) (fun t _ => flushed_eq2 m c t) cover2

/-! ### The gates, padded with zero columns -/

theorem pay4 (x : Vec Ideal S512x2048 .bf16) (w : Vec Ideal S2048x2176 .bf16) (a : Fin 512) (b : Fin 128) :
    k0_pay1 (F := Ideal) x (View.ld w r0_9) (ix2 a b) = ∑ k : Fin 2048, (x (ix2 a k) : EReal) * w (ix2 k ⟨2048 + b.val, by omega⟩) := by
  unfold k0_pay1
  pointwise [dot_S512x2048_S2048x128_S512x128_1_0_0_1_n_n]

theorem ref3 (x : FVec Ideal S8192x2048 .bf16) (w : FVec Ideal S1x2048x2096 .f32) (r : Fin 8192) (j : Fin 128) :
    Cert.QgRefIdeal.Read.val_main_v8 (F := Ideal) x w (ix2 r j) = ∑ k : Fin 2048, (x (ix2 r k) : EReal) * wcol w k (2048 + j.val) := by
  by_cases h : 2048 + j.val < 2096
  · have e : ∀ k, wcol w k (2048 + j.val) = w (ix3 0 k ⟨2048 + j.val, h⟩) := fun k => by unfold wcol; rw [dif_pos h]
    simp only [e]
    rw [← Cert.QgRefIdeal.Read.val_main_v8_eq]
    pointwise [Cert.QgRefIdeal.dot_S8192x2048_S2048x2096_S8192x2096_1_0_0_1_n_n]
    rw [dif_pos (by omega)]
  · have e : ∀ k, wcol w k (2048 + j.val) = 0 := fun k => by unfold wcol; rw [dif_neg h]
    simp only [e, mul_zero, Finset.sum_const_zero]
    rw [← Cert.QgRefIdeal.Read.val_main_v8_eq]
    pointwise [Cert.QgRefIdeal.dot_S8192x2048_S2048x2096_S8192x2096_1_0_0_1_n_n]
    rw [dif_neg (by omega), zero_int]

abbrev G3 (c : Dev nD) : FVec Ideal S8192x128 .f32 := Cert.QgRefIdeal.Read.val_main_v8 (F := Ideal) (ax m c) (aw m c)

theorem flushed_eq3 (c : Dev nD) (t : Fin cfg0.N) :
    (dats m 0 c).flushed 3 t = ((cfg0.win 3).blk t).view.read (Elt Ideal) (G3 m c) := by
  rw [Cert.QgIdeal.Value.flushed3]
  unfold out0_3
  rw [View.canon_unit_zero hz]
  simp only [View.ld_unit_zero (S := S512x2048) hz]
  funext j
  rw [View.read_apply]
  obtain ⟨a, b, rfl⟩ : ∃ (a : Fin 512) (b : Fin 128), j = ix2 a b := ⟨j 0, j 1, eq_ix2 j⟩
  refine (pay4 _ _ a b).trans ?_
  have e : ((cfg0.win 3).blk t).view.emb (ix2 a b) = (ix2 (row t a) b : S8192x128.Idx) := by
    have := idx_facts t
    apply Shape.idx_ext₂
    · show win0_3.index t 0 * 512 + 1 * a.val = t.val * 512 + a.val
      omega
    · show win0_3.index t 1 * 128 + 1 * b.val = b.val
      omega
  rw [e]
  refine Eq.trans ?_ (ref3 (ax m c) (aw m c) _ _).symm
  simp only [blk_x, blk_w, vw_apply]

theorem cover3 (i : S8192x128.Idx) : ∃ t : Fin cfg0.N, (cfg0.win 3).flush t = true ∧ i ∈ ((cfg0.win 3).blk t).view.set := by
  have h0 : (i 0 : Nat) < 8192 := (i 0).isLt
  have h1 : (i 1 : Nat) < 128 := (i 1).isLt
  have ht : (i 0 : Nat) / 512 < cfg0.N := by show _ < 16; omega
  refine ⟨⟨_, ht⟩, flush0_3 _, ?_⟩
  have := idx_facts ⟨_, ht⟩
  dsimp only at this
  show i ∈ ((View.whole main_v3_1).slice (win0_3.rect ⟨_, ht⟩)).set
  rw [View.set_slice_whole, Rect.mem_set_unit]
  intro a
  match a with
  | ⟨0, _⟩ =>
    show win0_3.index ⟨_, ht⟩ 0 * 512 ≤ (i 0 : Nat) ∧ (i 0 : Nat) < win0_3.index ⟨_, ht⟩ 0 * 512 + 512
    omega
  | ⟨1, _⟩ =>
    show win0_3.index ⟨_, ht⟩ 1 * 128 ≤ (i 1 : Nat) ∧ (i 1 : Nat) < win0_3.index ⟨_, ht⟩ 1 * 128 + 128
    omega

theorem final3 (c : Dev nD) : (dats m 0 c).arrAt 3 cfg0.N = G3 m c :=
  (dats m 0 c).arrAt_eq_of_cover 3 (G3 m c) (fun t _ => flushed_eq3 m c t) cover3

end Cert.Proof.Qg
-- ==== Proof.QgS.lean ====
/-
  The scaled queries and the padded gates: what each grid point writes, as a function of the argument arrays.
-/
module

public import proofs.«01_k».proof.Proof.Common
public import proofs.«01_k».proof.Proof.Gen.QgSIdeal.Value
public import proofs.«01_k».proof.Proof.Gen.QgSRefIdeal.Run
public import proofs.«01_k».proof.Proof.Gen.QgSRefIdeal.Read
public import Idealize.ShloMosaic.Lib.Tactic
public import Idealize.ShloMosaic.Lib.Pipeline.ValueKit.Tiles

@[expose] public section

noncomputable section

namespace Cert.Proof.QgS

open Idealize.ShloMosaic Idealize.ShloMosaic.TcCoe Idealize.SL.Sem
open Idealize.ShloMosaic.Pipeline (Dat)
open Cert.QgSIdeal Cert.QgSIdeal.Gen Cert.Proof.Common
open scoped BigOperators

variable (m : (ℓ : Loc nD τ sig) → Buf (Elt Ideal) ℓ)

/-- The two arguments, and the padded weights as the region finds them. -/
def ax (c : Dev nD) : FVec Ideal S1024x2048 .bf16 := m ((c : Thread nD τ).loc main_arg0)
def aw (c : Dev nD) : FVec Ideal S1x2048x2096 .f32 := m ((c : Thread nD τ).loc main_arg1)
def vw (c : Dev nD) : FVec Ideal S2048x2176 .bf16 := V m c main_v2

theorem vw_eq (c : Dev nD) : vw m c = truncf .bf16 (pad S2048x2176 ![0, 0] ![0, 80] ![0, 0] (shapeCast S2048x2096 (aw m c) shapeCasts_S1x2048x2096_S2048x2096)
    (sitofp .f32 (constantI S_ 32 0#32)) pads_S2048x2096_S2048x2176_000_0800 h_S_) bitsLt_bf16_f32 := by
  unfold vw V aw
  simp only [List.flatten_cons, List.flatten_nil, List.append_nil, List.cons_append, List.nil_append, hostOps0, hostOps0_1, hostOps0_2]
  after_results <;> rfl
theorem zero_int : (FloatOps.sitofp FTy.f32 (0#32 : BitVec 32) : Ideal .f32) = (0 : EReal) := by
  show (((0#32 : BitVec 32).toInt : ℝ) : EReal) = 0
  simp

/-- Column `j` of the padded weights: the weights' where they have one, else zero. -/
def wcol (w : FVec Ideal S1x2048x2096 .f32) (k : Fin 2048) (j : Nat) : EReal := if h : j < 2096 then w (ix3 0 k ⟨j, h⟩) else 0
theorem vw_apply (c : Dev nD) (k : Fin 2048) (j : Fin 2176) : vw m c (ix2 k j) = wcol (aw m c) k j := by
  rw [vw_eq]
  unfold wcol
  pointwise
  simp [zero_int]

/-- The block indices of the windows at each grid point. -/
theorem idx_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 := by decide +kernel

/-- Row `a` of the block of rows of point `t`, in the whole array. -/
def row (t : Fin cfg0.N) (a : Fin 512) : Fin 1024 := ⟨t.val * 512 + a.val, by have : t.val < 2 := t.isLt; omega⟩

theorem blk_x (c : Dev nD) (t : Fin cfg0.N) (a : Fin 512) (k : Fin 2048) :
    (iblk m c 0 t : FVec Ideal S512x2048 .bf16) (ix2 a k) = ax m c (ix2 (row t a) k) := by
  unfold iblk
  rw [View.read_apply]
  show ax m c _ = _
  congr 1
  have := idx_facts t
  apply Shape.idx_ext₂
  · show win0_0.index t 0 * 512 + 1 * a.val = t.val * 512 + a.val
    omega
  · show win0_0.index t 1 * 2048 + 1 * k.val = k.val
    omega

theorem blk_w (c : Dev nD) (t : Fin cfg0.N) (k : Fin 2048) (b : Fin 2176) :
    (iblk m c 1 t : FVec Ideal S2048x2176 .bf16) (ix2 k b) = vw m c (ix2 k b) := by
  unfold iblk
  rw [View.read_apply]
  show vw m c _ = _
  congr 1
  have := idx_facts t
  apply Shape.idx_ext₂
  · show win0_1.index t 0 * 2048 + 1 * k.val = k.val
    omega
  · show win0_1.index t 1 * 2176 + 1 * b.val = b.val
    omega

/-! ### The scaled queries -/

theorem pay0 (x : Vec Ideal S512x2048 .bf16) (w : Vec Ideal S2048x2176 .bf16) (a b : Fin 512) :
    k0_pay2 (F := Ideal) x (View.ld w r0_1) (ix2 a b)
      = (∑ k : Fin 2048, (x (ix2 a k) : EReal) * w (ix2 k ⟨0 + b.val, by omega⟩)) * Ideal.ofBits .f32 0x3DB504F3#32 := by
  unfold k0_pay2
  pointwise [dot_S512x2048_S2048x512_S512x512_1_0_0_1_n_n]
theorem pay1 (x : Vec Ideal S512x2048 .bf16) (w : Vec Ideal S2048x2176 .bf16) (a b : Fin 512) :
    k0_pay3 (F := Ideal) x (View.ld w r0_3) (ix2 a b)
      = (∑ k : Fin 2048, (x (ix2 a k) : EReal) * w (ix2 k ⟨512 + b.val, by omega⟩)) * Ideal.ofBits .f32 0x3DB504F3#32 := by
  unfold k0_pay3
  pointwise [dot_S512x2048_S2048x512_S512x512_1_0_0_1_n_n]
theorem pay2 (x : Vec Ideal S512x2048 .bf16) (w : Vec Ideal S2048x2176 .bf16) (a b : Fin 512) :
    k0_pay4 (F := Ideal) x (View.ld w r0_5) (ix2 a b)
      = (∑ k : Fin 2048, (x (ix2 a k) : EReal) * w (ix2 k ⟨1024 + b.val, by omega⟩)) * Ideal.ofBits .f32 0x3DB504F3#32 := by
  unfold k0_pay4
  pointwise [dot_S512x2048_S2048x512_S512x512_1_0_0_1_n_n]
theorem pay3 (x : Vec Ideal S512x2048 .bf16) (w : Vec Ideal S2048x2176 .bf16) (a b : Fin 512) :
    k0_pay5 (F := Ideal) x (View.ld w r0_7) (ix2 a b)
      = (∑ k : Fin 2048, (x (ix2 a k) : EReal) * w (ix2 k ⟨1536 + b.val, by omega⟩)) * Ideal.ofBits .f32 0x3DB504F3#32 := by
  unfold k0_pay5
  pointwise [dot_S512x2048_S2048x512_S512x512_1_0_0_1_n_n]

/-- The block the body leaves, at an index: each group of 512 columns is one store. -/
theorem out2_apply (x : Vec Ideal S512x2048 .bf16) (w : Vec Ideal S2048x2176 .bf16) (a : Fin 512) (b : Fin 2048) :
    out0_2 (F := Ideal) x w (ix2 a b)
      = (∑ k : Fin 2048, (x (ix2 a k) : EReal) * w (ix2 k ⟨b.val, by omega⟩)) * Ideal.ofBits .f32 0x3DB504F3#32 := by
  unfold out0_2
  simp only [View.ld_unit_zero (S := S512x2048) hz]
  refine View.canon_eq_of_allAt _ _ _ (cover0_2 (F := Ideal) _ _ _ _ _) ?_
  have key : ∀ (off : Nat) (f : (⟨2, ![512, 512]⟩ : Shape).Idx → Ideal .bf16) (ho : off + 512 ≤ 2048)
      (_ : ∀ a b : Fin 512, f (ix2 a b) = (∑ k : Fin 2048, (x (ix2 a k) : EReal) * w (ix2 k ⟨off + b.val, by omega⟩)) * Ideal.ofBits .f32 0x3DB504F3#32),
      View.TileAt (S := S512x2048) (Val := Elt Ideal) (e := .bf16) (ix2 a b) ![0, off] ![512, 512] f
        ((∑ k : Fin 2048, (x (ix2 a k) : EReal) * w (ix2 k ⟨b.val, by omega⟩)) * Ideal.ofBits .f32 0x3DB504F3#32) := by
    intro off f ho hf i hi
    obtain ⟨p, q, rfl⟩ : ∃ (p q : Fin 512), i = ix2 p q := ⟨i 0, i 1, eq_ix2 i⟩
    have h0 : a.val = 0 + p.val := hi 0
    have h1 : b.val = off + q.val := hi 1
    obtain rfl : a = p := Fin.ext (by omega)
    rw [hf]
    simp only [h1]
  exact View.allAt_cons_unit _ _ _ _ _ (key 1536 _ (by decide) (pay3 x w)) <| View.allAt_cons_unit _ _ _ _ _ (key 1024 _ (by decide) (pay2 x w)) <|
    View.allAt_cons_unit _ _ _ _ _ (key 512 _ (by decide) (pay1 x w)) <|
    View.allAt_cons_unit _ _ _ _ _ (key 0 _ (by decide) (pay0 x w)) <| View.allAt_nil _ _

theorem ref2 (x : FVec Ideal S1024x2048 .bf16) (w : FVec Ideal S1x2048x2096 .f32) (r : Fin 1024) (j : Fin 2048) :
    Cert.QgSRefIdeal.Read.val_main_v6 (F := Ideal) x w (ix2 r j)
      = (∑ k : Fin 2048, (x (ix2 r k) : EReal) * wcol w k j) * Ideal.ofBits .f32 0x3DB504F3#32 := by
  have e : ∀ k, wcol w k j = w (ix3 0 k ⟨j.val, by omega⟩) := fun k => by unfold wcol; rw [dif_pos (by omega)]
  simp only [e]
  rw [← Cert.QgSRefIdeal.Read.val_main_v6_eq]
  pointwise [Cert.QgSRefIdeal.dot_S1024x2048_S2048x2096_S1024x2096_1_0_0_1_n_n]

abbrev G2 (c : Dev nD) : FVec Ideal S1024x2048 .bf16 := Cert.QgSRefIdeal.Read.val_main_v6 (F := Ideal) (ax m c) (aw m c)

theorem flushed_eq2 (c : Dev nD) (t : Fin cfg0.N) :
    (dats m 0 c).flushed 2 t = ((cfg0.win 2).blk t).view.read (Elt Ideal) (G2 m c) := by
  rw [Cert.QgSIdeal.Value.flushed2]
  funext j
  rw [View.read_apply]
  obtain ⟨a, b, rfl⟩ : ∃ (a : Fin 512) (b : Fin 2048), j = ix2 a b := ⟨j 0, j 1, eq_ix2 j⟩
  have e : ((cfg0.win 2).blk t).view.emb (ix2 a b) = (ix2 (row t a) b : S1024x2048.Idx) := by
    have := idx_facts t
    apply Shape.idx_ext₂
    · show win0_2.index t 0 * 512 + 1 * a.val = t.val * 512 + a.val
      omega
    · show win0_2.index t 1 * 2048 + 1 * b.val = b.val
      omega
  rw [e]
  refine (out2_apply _ _ a b).trans (Eq.trans ?_ (ref2 (ax m c) (aw m c) _ _).symm)
  simp only [blk_x, blk_w, vw_apply]

theorem cover2 (i : S1024x2048.Idx) : ∃ t : Fin cfg0.N, (cfg0.win 2).flush t = true ∧ i ∈ ((cfg0.win 2).blk t).view.set := by
  have h0 : (i 0 : Nat) < 1024 := (i 0).isLt
  have h1 : (i 1 : Nat) < 2048 := (i 1).isLt
  have ht : (i 0 : Nat) / 512 < cfg0.N := by show _ < 2; omega
  refine ⟨⟨_, ht⟩, flush0_2 _, ?_⟩
  have := idx_facts ⟨_, ht⟩
  dsimp only at this
  show i ∈ ((View.whole main_v3_0).slice (win0_2.rect ⟨_, ht⟩)).set
  rw [View.set_slice_whole, Rect.mem_set_unit]
  intro a
  match a with
  | ⟨0, _⟩ =>
    show win0_2.index ⟨_, ht⟩ 0 * 512 ≤ (i 0 : Nat) ∧ (i 0 : Nat) < win0_2.index ⟨_, ht⟩ 0 * 512 + 512
    omega
  | ⟨1, _⟩ =>
    show win0_2.index ⟨_, ht⟩ 1 * 2048 ≤ (i 1 : Nat) ∧ (i 1 : Nat) < win0_2.index ⟨_, ht⟩ 1 * 2048 + 2048
    omega

theorem final2 (c : Dev nD) : (dats m 0 c).arrAt 2 cfg0.N = G2 m c :=
  (dats m 0 c).arrAt_eq_of_cover 2 (G2 m c) (fun t _ => flushed_eq2 m c t) cover2

/-! ### The gates, padded with zero columns -/

theorem pay4 (x : Vec Ideal S512x2048 .bf16) (w : Vec Ideal S2048x2176 .bf16) (a : Fin 512) (b : Fin 128) :
    k0_pay1 (F := Ideal) x (View.ld w r0_9) (ix2 a b) = ∑ k : Fin 2048, (x (ix2 a k) : EReal) * w (ix2 k ⟨2048 + b.val, by omega⟩) := by
  unfold k0_pay1
  pointwise [dot_S512x2048_S2048x128_S512x128_1_0_0_1_n_n]

theorem ref3 (x : FVec Ideal S1024x2048 .bf16) (w : FVec Ideal S1x2048x2096 .f32) (r : Fin 1024) (j : Fin 128) :
    Cert.QgSRefIdeal.Read.val_main_v8 (F := Ideal) x w (ix2 r j) = ∑ k : Fin 2048, (x (ix2 r k) : EReal) * wcol w k (2048 + j.val) := by
  by_cases h : 2048 + j.val < 2096
  · have e : ∀ k, wcol w k (2048 + j.val) = w (ix3 0 k ⟨2048 + j.val, h⟩) := fun k => by unfold wcol; rw [dif_pos h]
    simp only [e]
    rw [← Cert.QgSRefIdeal.Read.val_main_v8_eq]
    pointwise [Cert.QgSRefIdeal.dot_S1024x2048_S2048x2096_S1024x2096_1_0_0_1_n_n]
    rw [dif_pos (by omega)]
  · have e : ∀ k, wcol w k (2048 + j.val) = 0 := fun k => by unfold wcol; rw [dif_neg h]
    simp only [e, mul_zero, Finset.sum_const_zero]
    rw [← Cert.QgSRefIdeal.Read.val_main_v8_eq]
    pointwise [Cert.QgSRefIdeal.dot_S1024x2048_S2048x2096_S1024x2096_1_0_0_1_n_n]
    rw [dif_neg (by omega), zero_int]

abbrev G3 (c : Dev nD) : FVec Ideal S1024x128 .f32 := Cert.QgSRefIdeal.Read.val_main_v8 (F := Ideal) (ax m c) (aw m c)

theorem flushed_eq3 (c : Dev nD) (t : Fin cfg0.N) :
    (dats m 0 c).flushed 3 t = ((cfg0.win 3).blk t).view.read (Elt Ideal) (G3 m c) := by
  rw [Cert.QgSIdeal.Value.flushed3]
  unfold out0_3
  rw [View.canon_unit_zero hz]
  simp only [View.ld_unit_zero (S := S512x2048) hz]
  funext j
  rw [View.read_apply]
  obtain ⟨a, b, rfl⟩ : ∃ (a : Fin 512) (b : Fin 128), j = ix2 a b := ⟨j 0, j 1, eq_ix2 j⟩
  refine (pay4 _ _ a b).trans ?_
  have e : ((cfg0.win 3).blk t).view.emb (ix2 a b) = (ix2 (row t a) b : S1024x128.Idx) := by
    have := idx_facts t
    apply Shape.idx_ext₂
    · show win0_3.index t 0 * 512 + 1 * a.val = t.val * 512 + a.val
      omega
    · show win0_3.index t 1 * 128 + 1 * b.val = b.val
      omega
  rw [e]
  refine Eq.trans ?_ (ref3 (ax m c) (aw m c) _ _).symm
  simp only [blk_x, blk_w, vw_apply]

theorem cover3 (i : S1024x128.Idx) : ∃ t : Fin cfg0.N, (cfg0.win 3).flush t = true ∧ i ∈ ((cfg0.win 3).blk t).view.set := by
  have h0 : (i 0 : Nat) < 1024 := (i 0).isLt
  have h1 : (i 1 : Nat) < 128 := (i 1).isLt
  have ht : (i 0 : Nat) / 512 < cfg0.N := by show _ < 2; omega
  refine ⟨⟨_, ht⟩, flush0_3 _, ?_⟩
  have := idx_facts ⟨_, ht⟩
  dsimp only at this
  show i ∈ ((View.whole main_v3_1).slice (win0_3.rect ⟨_, ht⟩)).set
  rw [View.set_slice_whole, Rect.mem_set_unit]
  intro a
  match a with
  | ⟨0, _⟩ =>
    show win0_3.index ⟨_, ht⟩ 0 * 512 ≤ (i 0 : Nat) ∧ (i 0 : Nat) < win0_3.index ⟨_, ht⟩ 0 * 512 + 512
    omega
  | ⟨1, _⟩ =>
    show win0_3.index ⟨_, ht⟩ 1 * 128 ≤ (i 1 : Nat) ∧ (i 1 : Nat) < win0_3.index ⟨_, ht⟩ 1 * 128 + 128
    omega

theorem final3 (c : Dev nD) : (dats m 0 c).arrAt 3 cfg0.N = G3 m c :=
  (dats m 0 c).arrAt_eq_of_cover 3 (G3 m c) (fun t _ => flushed_eq3 m c t) cover3

end Cert.Proof.QgS
-- ==== Proof.Claims.lean ====
/-
  The claims, one program at a time: the reference runs and leaves its arguments alone, and the kernel's results are the reference's.
-/
module

public import proofs.«01_k».proof.Defs
public import proofs.«01_k».proof.Proof.Glu
public import proofs.«01_k».proof.Proof.GluS
public import proofs.«01_k».proof.Proof.Swi
public import proofs.«01_k».proof.Proof.SwiS
public import proofs.«01_k».proof.Proof.Fo
public import proofs.«01_k».proof.Proof.FoS
public import proofs.«01_k».proof.Proof.Mix
public import proofs.«01_k».proof.Proof.MixS
public import proofs.«01_k».proof.Proof.Kv
public import proofs.«01_k».proof.Proof.KvS
public import proofs.«01_k».proof.Proof.Qg
public import proofs.«01_k».proof.Proof.QgS
public import Idealize.ShloMosaic.Lib.Quiescent

@[expose] public section

noncomputable section

namespace Cert.Proof

open Idealize.ShloMosaic Idealize.ShloMosaic.TcCoe Idealize.SL.Sem

/-! ### `Glu` -/

theorem frame_GluRef (m : (ℓ : Loc Cert.GluRefIdeal.nD Cert.GluRefIdeal.τ Cert.GluRefIdeal.sig) → Buf (Elt Ideal) ℓ) (ρ : Dev Cert.GluRefIdeal.nD → PrngReg) :
    θ_run (Cert.GluRefIdeal.defs (F := Ideal)) (onTc (τ := Cert.GluRefIdeal.τ) (Cert.GluRefIdeal.main (F := Ideal))) ⟨m, fun _ => 0, ρ⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0) :=
  (θ_run _ _ _).mono (fun r h => ⟨fun c => (h c).2, sem_eq_zero_of_no_sems (by decide) r.2⟩) (Cert.GluRefIdeal.Value.run m ρ)

theorem algebraic_Glu : Cert.algebraic_GluIdeal_GluRefIdeal (hGluIdeal := Cert.GluIdeal.Gen.facts) (hGluRefIdeal := Cert.GluRefIdeal.Gen.facts) := by
  intro m ρ m' ρ' _ hag
  refine ⟨fun c => Glu.G m c, (θ_run _ _ _).mono (fun _ h c => ?_) (Cert.GluIdeal.Value.run_blocks m ρ), (θ_run _ _ _).mono (fun _ h c => ?_) (Cert.GluRefIdeal.Value.run (F := Ideal) m' ρ')⟩
  · exact ⟨((h c).1).trans (Glu.final m c), (h c).2⟩
  · obtain ⟨a0, a1, a2⟩ := hag c
    refine ⟨((h c).1).trans ?_, (h c).2⟩
    · refine (Cert.GluRefIdeal.Read.val_main_v15_eq (F := Ideal) _ _ _).trans ?_
      rw [a0, a1, a2]
      rfl

/-! ### `GluS` -/

theorem frame_GluSRef (m : (ℓ : Loc Cert.GluSRefIdeal.nD Cert.GluSRefIdeal.τ Cert.GluSRefIdeal.sig) → Buf (Elt Ideal) ℓ) (ρ : Dev Cert.GluSRefIdeal.nD → PrngReg) :
    θ_run (Cert.GluSRefIdeal.defs (F := Ideal)) (onTc (τ := Cert.GluSRefIdeal.τ) (Cert.GluSRefIdeal.main (F := Ideal))) ⟨m, fun _ => 0, ρ⟩ (fun r => (∀ c : Dev Cert.GluSRefIdeal.nD,
      r.2.mem ((c.tc : Thread Cert.GluSRefIdeal.nD Cert.GluSRefIdeal.τ).loc Cert.GluSRefIdeal.main_arg0) = m ((c.tc : Thread Cert.GluSRefIdeal.nD Cert.GluSRefIdeal.τ).loc Cert.GluSRefIdeal.main_arg0)
      ∧ r.2.mem ((c.tc : Thread Cert.GluSRefIdeal.nD Cert.GluSRefIdeal.τ).loc Cert.GluSRefIdeal.main_arg1) = m ((c.tc : Thread Cert.GluSRefIdeal.nD Cert.GluSRefIdeal.τ).loc Cert.GluSRefIdeal.main_arg1)
      ∧ r.2.mem ((c.tc : Thread Cert.GluSRefIdeal.nD Cert.GluSRefIdeal.τ).loc Cert.GluSRefIdeal.main_arg2) = m ((c.tc : Thread Cert.GluSRefIdeal.nD Cert.GluSRefIdeal.τ).loc Cert.GluSRefIdeal.main_arg2)
      ∧ r.2.mem ((c.tc : Thread Cert.GluSRefIdeal.nD Cert.GluSRefIdeal.τ).loc Cert.GluSRefIdeal.main_arg3) = m ((c.tc : Thread Cert.GluSRefIdeal.nD Cert.GluSRefIdeal.τ).loc Cert.GluSRefIdeal.main_arg3))
      ∧ r.2.sem = fun _ => 0) :=
  (θ_run _ _ _).mono (fun r h => ⟨fun c => (h c).2.2, sem_eq_zero_of_no_sems (by decide) r.2⟩) (Cert.GluSRefIdeal.Value.run m ρ)

theorem algebraic_GluS : Cert.algebraic_GluSIdeal_GluSRefIdeal (hGluSIdeal := Cert.GluSIdeal.Gen.facts) (hGluSRefIdeal := Cert.GluSRefIdeal.Gen.facts) := by
  intro m ρ m' ρ' _ hag
  refine ⟨fun c => GluS.G m c, fun c => GluS.G' m c, GluS.run m ρ, (θ_run _ _ _).mono (fun _ h c => ?_) (Cert.GluSRefIdeal.Value.run (F := Ideal) m' ρ')⟩
  obtain ⟨a0, a1, a2, a3⟩ := hag c
  refine ⟨((h c).1).trans ?_, ((h c).2.1).trans ?_, (h c).2.2⟩
  · refine (Cert.GluSRefIdeal.Read.val_main_v15_eq (F := Ideal) _ _ _).trans ?_
    rw [a0, a1, a2]
    rfl
  · refine (Cert.GluSRefIdeal.Read.val_main_v20_eq (F := Ideal) _ _ _ _).trans ?_
    rw [a0, a1, a2, a3]
    rfl

/-! ### `Swi` -/

theorem frame_SwiRef (m : (ℓ : Loc Cert.SwiRefIdeal.nD Cert.SwiRefIdeal.τ Cert.SwiRefIdeal.sig) → Buf (Elt Ideal) ℓ) (ρ : Dev Cert.SwiRefIdeal.nD → PrngReg) :
    θ_run (Cert.SwiRefIdeal.defs (F := Ideal)) (onTc (τ := Cert.SwiRefIdeal.τ) (Cert.SwiRefIdeal.main (F := Ideal))) ⟨m, fun _ => 0, ρ⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1))
      ∧ r.2.sem = fun _ => 0) :=
  (θ_run _ _ _).mono (fun r h => ⟨fun c => (h c).2, sem_eq_zero_of_no_sems (by decide) r.2⟩) (Cert.SwiRefIdeal.Value.run m ρ)

theorem algebraic_Swi : Cert.algebraic_SwiIdeal_SwiRefIdeal (hSwiIdeal := Cert.SwiIdeal.Gen.facts) (hSwiRefIdeal := Cert.SwiRefIdeal.Gen.facts) := by
  intro m ρ m' ρ' _ hag
  refine ⟨fun c => Swi.G m c, (θ_run _ _ _).mono (fun _ h c => ?_) (Cert.SwiIdeal.Value.run_blocks m ρ), (θ_run _ _ _).mono (fun _ h c => ?_) (Cert.SwiRefIdeal.Value.run (F := Ideal) m' ρ')⟩
  · exact ⟨((h c).1).trans (Swi.final m c), (h c).2⟩
  · obtain ⟨a0, a1⟩ := hag c
    refine ⟨((h c).1).trans ?_, (h c).2⟩
    · refine (Cert.SwiRefIdeal.Read.val_main_v6_eq (F := Ideal) _ _).trans ?_
      rw [a0, a1]
      rfl

/-! ### `SwiS` -/

theorem frame_SwiSRef (m : (ℓ : Loc Cert.SwiSRefIdeal.nD Cert.SwiSRefIdeal.τ Cert.SwiSRefIdeal.sig) → Buf (Elt Ideal) ℓ) (ρ : Dev Cert.SwiSRefIdeal.nD → PrngReg) :
    θ_run (Cert.SwiSRefIdeal.defs (F := Ideal)) (onTc (τ := Cert.SwiSRefIdeal.τ) (Cert.SwiSRefIdeal.main (F := Ideal))) ⟨m, fun _ => 0, ρ⟩ (fun r => (∀ c : Dev Cert.SwiSRefIdeal.nD,
      r.2.mem ((c.tc : Thread Cert.SwiSRefIdeal.nD Cert.SwiSRefIdeal.τ).loc Cert.SwiSRefIdeal.main_arg0) = m ((c.tc : Thread Cert.SwiSRefIdeal.nD Cert.SwiSRefIdeal.τ).loc Cert.SwiSRefIdeal.main_arg0)
      ∧ r.2.mem ((c.tc : Thread Cert.SwiSRefIdeal.nD Cert.SwiSRefIdeal.τ).loc Cert.SwiSRefIdeal.main_arg1) = m ((c.tc : Thread Cert.SwiSRefIdeal.nD Cert.SwiSRefIdeal.τ).loc Cert.SwiSRefIdeal.main_arg1))
      ∧ r.2.sem = fun _ => 0) :=
  (θ_run _ _ _).mono (fun r h => ⟨fun c => (h c).2, sem_eq_zero_of_no_sems (by decide) r.2⟩) (Cert.SwiSRefIdeal.Value.run m ρ)

theorem algebraic_SwiS : Cert.algebraic_SwiSIdeal_SwiSRefIdeal (hSwiSIdeal := Cert.SwiSIdeal.Gen.facts) (hSwiSRefIdeal := Cert.SwiSRefIdeal.Gen.facts) := by
  intro m ρ m' ρ' _ hag
  refine ⟨fun c => SwiS.G m c, (θ_run _ _ _).mono (fun _ h c => ?_) (Cert.SwiSIdeal.Value.run_blocks m ρ), (θ_run _ _ _).mono (fun _ h c => ?_) (Cert.SwiSRefIdeal.Value.run (F := Ideal) m' ρ')⟩
  · exact ⟨((h c).1).trans (SwiS.final m c), (h c).2⟩
  · obtain ⟨a0, a1⟩ := hag c
    refine ⟨((h c).1).trans ?_, (h c).2⟩
    · refine (Cert.SwiSRefIdeal.Read.val_main_v6_eq (F := Ideal) _ _).trans ?_
      rw [a0, a1]
      rfl

/-! ### `Fo` -/

theorem frame_FoRef (m : (ℓ : Loc Cert.FoRefIdeal.nD Cert.FoRefIdeal.τ Cert.FoRefIdeal.sig) → Buf (Elt Ideal) ℓ) (ρ : Dev Cert.FoRefIdeal.nD → PrngReg) :
    θ_run (Cert.FoRefIdeal.defs (F := Ideal)) (onTc (τ := Cert.FoRefIdeal.τ) (Cert.FoRefIdeal.main (F := Ideal))) ⟨m, fun _ => 0, ρ⟩ (fun r => (∀ c : Dev Cert.FoRefIdeal.nD,
      r.2.mem ((c.tc : Thread Cert.FoRefIdeal.nD Cert.FoRefIdeal.τ).loc Cert.FoRefIdeal.main_arg0) = m ((c.tc : Thread Cert.FoRefIdeal.nD Cert.FoRefIdeal.τ).loc Cert.FoRefIdeal.main_arg0)
      ∧ r.2.mem ((c.tc : Thread Cert.FoRefIdeal.nD Cert.FoRefIdeal.τ).loc Cert.FoRefIdeal.main_arg1) = m ((c.tc : Thread Cert.FoRefIdeal.nD Cert.FoRefIdeal.τ).loc Cert.FoRefIdeal.main_arg1)
      ∧ r.2.mem ((c.tc : Thread Cert.FoRefIdeal.nD Cert.FoRefIdeal.τ).loc Cert.FoRefIdeal.main_arg2) = m ((c.tc : Thread Cert.FoRefIdeal.nD Cert.FoRefIdeal.τ).loc Cert.FoRefIdeal.main_arg2)
      ∧ r.2.mem ((c.tc : Thread Cert.FoRefIdeal.nD Cert.FoRefIdeal.τ).loc Cert.FoRefIdeal.main_arg3) = m ((c.tc : Thread Cert.FoRefIdeal.nD Cert.FoRefIdeal.τ).loc Cert.FoRefIdeal.main_arg3)
      ∧ r.2.mem ((c.tc : Thread Cert.FoRefIdeal.nD Cert.FoRefIdeal.τ).loc Cert.FoRefIdeal.main_arg4) = m ((c.tc : Thread Cert.FoRefIdeal.nD Cert.FoRefIdeal.τ).loc Cert.FoRefIdeal.main_arg4))
      ∧ r.2.sem = fun _ => 0) :=
  (θ_run _ _ _).mono (fun r h => ⟨fun c => (h c).2.2, sem_eq_zero_of_no_sems (by decide) r.2⟩) (Cert.FoRefIdeal.Value.run m ρ)

theorem algebraic_Fo : Cert.algebraic_FoIdeal_FoRefIdeal (hFoIdeal := Cert.FoIdeal.Gen.facts) (hFoRefIdeal := Cert.FoRefIdeal.Gen.facts) := by
  intro m ρ m' ρ' _ hag
  refine ⟨fun c => Fo.G m c, fun c => Fo.G' m c, (θ_run _ _ _).mono (fun _ h c => ?_) (Cert.FoIdeal.Value.run_blocks m ρ), (θ_run _ _ _).mono (fun _ h c => ?_) (Cert.FoRefIdeal.Value.run (F := Ideal) m' ρ')⟩
  · exact ⟨((h c).1).trans (Fo.final6 m c), ((h c).2.1).trans (Fo.final7 m c), (h c).2.2⟩
  · obtain ⟨a0, a1, a2, a3, a4⟩ := hag c
    refine ⟨((h c).1).trans ?_, ((h c).2.1).trans ?_, (h c).2.2⟩
    · refine (Cert.FoRefIdeal.Read.val_main_v28_eq (F := Ideal) _ _ _ _ _).trans ?_
      rw [a0, a1, a2, a3, a4]
      rfl
    · refine (Cert.FoRefIdeal.Read.val_main_v29_eq (F := Ideal) _ _ _ _ _).trans ?_
      rw [a0, a1, a2, a3, a4]
      rfl

/-! ### `FoS` -/

theorem frame_FoSRef (m : (ℓ : Loc Cert.FoSRefIdeal.nD Cert.FoSRefIdeal.τ Cert.FoSRefIdeal.sig) → Buf (Elt Ideal) ℓ) (ρ : Dev Cert.FoSRefIdeal.nD → PrngReg) :
    θ_run (Cert.FoSRefIdeal.defs (F := Ideal)) (onTc (τ := Cert.FoSRefIdeal.τ) (Cert.FoSRefIdeal.main (F := Ideal))) ⟨m, fun _ => 0, ρ⟩ (fun r => (∀ c : Dev Cert.FoSRefIdeal.nD,
      r.2.mem ((c.tc : Thread Cert.FoSRefIdeal.nD Cert.FoSRefIdeal.τ).loc Cert.FoSRefIdeal.main_arg0) = m ((c.tc : Thread Cert.FoSRefIdeal.nD Cert.FoSRefIdeal.τ).loc Cert.FoSRefIdeal.main_arg0)
      ∧ r.2.mem ((c.tc : Thread Cert.FoSRefIdeal.nD Cert.FoSRefIdeal.τ).loc Cert.FoSRefIdeal.main_arg1) = m ((c.tc : Thread Cert.FoSRefIdeal.nD Cert.FoSRefIdeal.τ).loc Cert.FoSRefIdeal.main_arg1)
      ∧ r.2.mem ((c.tc : Thread Cert.FoSRefIdeal.nD Cert.FoSRefIdeal.τ).loc Cert.FoSRefIdeal.main_arg2) = m ((c.tc : Thread Cert.FoSRefIdeal.nD Cert.FoSRefIdeal.τ).loc Cert.FoSRefIdeal.main_arg2)
      ∧ r.2.mem ((c.tc : Thread Cert.FoSRefIdeal.nD Cert.FoSRefIdeal.τ).loc Cert.FoSRefIdeal.main_arg3) = m ((c.tc : Thread Cert.FoSRefIdeal.nD Cert.FoSRefIdeal.τ).loc Cert.FoSRefIdeal.main_arg3)
      ∧ r.2.mem ((c.tc : Thread Cert.FoSRefIdeal.nD Cert.FoSRefIdeal.τ).loc Cert.FoSRefIdeal.main_arg4) = m ((c.tc : Thread Cert.FoSRefIdeal.nD Cert.FoSRefIdeal.τ).loc Cert.FoSRefIdeal.main_arg4))
      ∧ r.2.sem = fun _ => 0) :=
  (θ_run _ _ _).mono (fun r h => ⟨fun c => (h c).2.2, sem_eq_zero_of_no_sems (by decide) r.2⟩) (Cert.FoSRefIdeal.Value.run m ρ)

theorem algebraic_FoS : Cert.algebraic_FoSIdeal_FoSRefIdeal (hFoSIdeal := Cert.FoSIdeal.Gen.facts) (hFoSRefIdeal := Cert.FoSRefIdeal.Gen.facts) := by
  intro m ρ m' ρ' _ hag
  refine ⟨fun c => FoS.G m c, fun c => FoS.G' m c, (θ_run _ _ _).mono (fun _ h c => ?_) (Cert.FoSIdeal.Value.run_blocks m ρ), (θ_run _ _ _).mono (fun _ h c => ?_) (Cert.FoSRefIdeal.Value.run (F := Ideal) m' ρ')⟩
  · exact ⟨((h c).1).trans (FoS.final6 m c), ((h c).2.1).trans (FoS.final7 m c), (h c).2.2⟩
  · obtain ⟨a0, a1, a2, a3, a4⟩ := hag c
    refine ⟨((h c).1).trans ?_, ((h c).2.1).trans ?_, (h c).2.2⟩
    · refine (Cert.FoSRefIdeal.Read.val_main_v28_eq (F := Ideal) _ _ _ _ _).trans ?_
      rw [a0, a1, a2, a3, a4]
      rfl
    · refine (Cert.FoSRefIdeal.Read.val_main_v29_eq (F := Ideal) _ _ _ _ _).trans ?_
      rw [a0, a1, a2, a3, a4]
      rfl

/-! ### `Mix` -/

theorem frame_MixRef (m : (ℓ : Loc Cert.MixRefIdeal.nD Cert.MixRefIdeal.τ Cert.MixRefIdeal.sig) → Buf (Elt Ideal) ℓ) (ρ : Dev Cert.MixRefIdeal.nD → PrngReg) :
    θ_run (Cert.MixRefIdeal.defs (F := Ideal)) (onTc (τ := Cert.MixRefIdeal.τ) (Cert.MixRefIdeal.main (F := Ideal))) ⟨m, fun _ => 0, ρ⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0) :=
  (θ_run _ _ _).mono (fun r h => ⟨fun c => (h c).2.2, sem_eq_zero_of_no_sems (by decide) r.2⟩) (Cert.MixRefIdeal.Value.run m ρ)

theorem algebraic_Mix : Cert.algebraic_MixIdeal_MixRefIdeal (hMixIdeal := Cert.MixIdeal.Gen.facts) (hMixRefIdeal := Cert.MixRefIdeal.Gen.facts) := by
  intro m ρ m' ρ' _ hag
  refine ⟨fun c => Mix.G m c, fun c => Mix.G' m c, (θ_run _ _ _).mono (fun _ h c => ?_) (Cert.MixIdeal.Value.run_blocks m ρ), (θ_run _ _ _).mono (fun _ h c => ?_) (Cert.MixRefIdeal.Value.run (F := Ideal) m' ρ')⟩
  · exact ⟨((h c).1).trans (Mix.final6 m c), ((h c).2.1).trans (Mix.final7 m c), (h c).2.2⟩
  · obtain ⟨a0, a1, a2, a3, a4, a5⟩ := hag c
    refine ⟨((h c).1).trans ?_, ((h c).2.1).trans ?_, (h c).2.2⟩
    · refine (Cert.MixRefIdeal.Read.val_main_v31_eq m' c).trans ?_
      rw [a0, a1, a2, a3, a4, a5]
      rfl
    · refine (Cert.MixRefIdeal.Read.val_main_v32_eq m' c).trans ?_
      rw [a0, a1, a2, a3, a4, a5]
      rfl

/-! ### `MixS` -/

theorem frame_MixSRef (m : (ℓ : Loc Cert.MixSRefIdeal.nD Cert.MixSRefIdeal.τ Cert.MixSRefIdeal.sig) → Buf (Elt Ideal) ℓ) (ρ : Dev Cert.MixSRefIdeal.nD → PrngReg) :
    θ_run (Cert.MixSRefIdeal.defs (F := Ideal)) (onTc (τ := Cert.MixSRefIdeal.τ) (Cert.MixSRefIdeal.main (F := Ideal))) ⟨m, fun _ => 0, ρ⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5))
      ∧ r.2.sem = fun _ => 0) :=
  (θ_run _ _ _).mono (fun r h => ⟨fun c => (h c).2.2, sem_eq_zero_of_no_sems (by decide) r.2⟩) (Cert.MixSRefIdeal.Value.run m ρ)

theorem algebraic_MixS : Cert.algebraic_MixSIdeal_MixSRefIdeal (hMixSIdeal := Cert.MixSIdeal.Gen.facts) (hMixSRefIdeal := Cert.MixSRefIdeal.Gen.facts) := by
  intro m ρ m' ρ' _ hag
  refine ⟨fun c => MixS.G m c, fun c => MixS.G' m c, (θ_run _ _ _).mono (fun _ h c => ?_) (Cert.MixSIdeal.Value.run_blocks m ρ), (θ_run _ _ _).mono (fun _ h c => ?_) (Cert.MixSRefIdeal.Value.run (F := Ideal) m' ρ')⟩
  · exact ⟨((h c).1).trans (MixS.final6 m c), ((h c).2.1).trans (MixS.final7 m c), (h c).2.2⟩
  · obtain ⟨a0, a1, a2, a3, a4, a5⟩ := hag c
    refine ⟨((h c).1).trans ?_, ((h c).2.1).trans ?_, (h c).2.2⟩
    · refine (Cert.MixSRefIdeal.Read.val_main_v31_eq m' c).trans ?_
      rw [a0, a1, a2, a3, a4, a5]
      rfl
    · refine (Cert.MixSRefIdeal.Read.val_main_v32_eq m' c).trans ?_
      rw [a0, a1, a2, a3, a4, a5]
      rfl

/-! ### `Kv` -/

theorem frame_KvRef (m : (ℓ : Loc Cert.KvRefIdeal.nD Cert.KvRefIdeal.τ Cert.KvRefIdeal.sig) → Buf (Elt Ideal) ℓ) (ρ : Dev Cert.KvRefIdeal.nD → PrngReg) :
    θ_run (Cert.KvRefIdeal.defs (F := Ideal)) (onTc (τ := Cert.KvRefIdeal.τ) (Cert.KvRefIdeal.main (F := Ideal))) ⟨m, fun _ => 0, ρ⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0) :=
  (θ_run _ _ _).mono (fun r h => ⟨fun c => (h c).2.2.2.2.2.2.2.2.2.2.2.2, sem_eq_zero_of_no_sems (by decide) r.2⟩) (Cert.KvRefIdeal.Value.run m ρ)

theorem algebraic_Kv : Cert.algebraic_KvIdeal_KvRefIdeal (hKvIdeal := Cert.KvIdeal.Gen.facts) (hKvRefIdeal := Cert.KvRefIdeal.Gen.facts) := by
  intro m ρ m' ρ' _ hag
  refine ⟨fun c => Kv.G2 m c, fun c => Kv.G3 m c, fun c => Kv.G4 m c, fun c => Kv.G5 m c, fun c => Kv.G6 m c, fun c => Kv.G7 m c, fun c => Kv.G8 m c, fun c => Kv.G9 m c, fun c => Kv.G10 m c, fun c => Kv.G11 m c, fun c => Kv.G12 m c, fun c => Kv.G13 m c, (θ_run _ _ _).mono (fun _ h c => ?_) (Cert.KvIdeal.Value.run_blocks m ρ), (θ_run _ _ _).mono (fun _ h c => ?_) (Cert.KvRefIdeal.Value.run (F := Ideal) m' ρ')⟩
  · exact ⟨((h c).1).trans (Kv.final2 m c), ((h c).2.1).trans (Kv.final3 m c), ((h c).2.2.1).trans (Kv.final4 m c), ((h c).2.2.2.1).trans (Kv.final5 m c), ((h c).2.2.2.2.1).trans (Kv.final6 m c), ((h c).2.2.2.2.2.1).trans (Kv.final7 m c), ((h c).2.2.2.2.2.2.1).trans (Kv.final8 m c), ((h c).2.2.2.2.2.2.2.1).trans (Kv.final9 m c), ((h c).2.2.2.2.2.2.2.2.1).trans (Kv.final10 m c), ((h c).2.2.2.2.2.2.2.2.2.1).trans (Kv.final11 m c), ((h c).2.2.2.2.2.2.2.2.2.2.1).trans (Kv.final12 m c), ((h c).2.2.2.2.2.2.2.2.2.2.2.1).trans (Kv.final13 m c), (h c).2.2.2.2.2.2.2.2.2.2.2.2⟩
  · obtain ⟨a0, a1⟩ := hag c
    refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, ((h c).2.2.2.2.2.2.2.2.2.1).trans ?_, ((h c).2.2.2.2.2.2.2.2.2.2.1).trans ?_, ((h c).2.2.2.2.2.2.2.2.2.2.2.1).trans ?_, (h c).2.2.2.2.2.2.2.2.2.2.2.2⟩
    · refine (Cert.KvRefIdeal.Read.val_main_v2_eq (F := Ideal) _ _).trans ?_
      rw [a0, a1]
      rfl
    · refine (Cert.KvRefIdeal.Read.val_main_v3_eq (F := Ideal) _ _).trans ?_
      rw [a0, a1]
      rfl
    · refine (Cert.KvRefIdeal.Read.val_main_v4_eq (F := Ideal) _ _).trans ?_
      rw [a0, a1]
      rfl
    · refine (Cert.KvRefIdeal.Read.val_main_v5_eq (F := Ideal) _ _).trans ?_
      rw [a0, a1]
      rfl
    · refine (Cert.KvRefIdeal.Read.val_main_v6_eq (F := Ideal) _ _).trans ?_
      rw [a0, a1]
      rfl
    · refine (Cert.KvRefIdeal.Read.val_main_v7_eq (F := Ideal) _ _).trans ?_
      rw [a0, a1]
      rfl
    · refine (Cert.KvRefIdeal.Read.val_main_v8_eq (F := Ideal) _ _).trans ?_
      rw [a0, a1]
      rfl
    · refine (Cert.KvRefIdeal.Read.val_main_v9_eq (F := Ideal) _ _).trans ?_
      rw [a0, a1]
      rfl
    · refine (Cert.KvRefIdeal.Read.val_main_v10_eq (F := Ideal) _ _).trans ?_
      rw [a0, a1]
      rfl
    · refine (Cert.KvRefIdeal.Read.val_main_v11_eq (F := Ideal) _ _).trans ?_
      rw [a0, a1]
      rfl
    · refine (Cert.KvRefIdeal.Read.val_main_v12_eq (F := Ideal) _ _).trans ?_
      rw [a0, a1]
      rfl
    · refine (Cert.KvRefIdeal.Read.val_main_v13_eq (F := Ideal) _ _).trans ?_
      rw [a0, a1]
      rfl

/-! ### `KvS` -/

theorem frame_KvSRef (m : (ℓ : Loc Cert.KvSRefIdeal.nD Cert.KvSRefIdeal.τ Cert.KvSRefIdeal.sig) → Buf (Elt Ideal) ℓ) (ρ : Dev Cert.KvSRefIdeal.nD → PrngReg) :
    θ_run (Cert.KvSRefIdeal.defs (F := Ideal)) (onTc (τ := Cert.KvSRefIdeal.τ) (Cert.KvSRefIdeal.main (F := Ideal))) ⟨m, fun _ => 0, ρ⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1))
      ∧ r.2.sem = fun _ => 0) :=
  (θ_run _ _ _).mono (fun r h => ⟨fun c => (h c).2.2.2.2.2.2.2.2.2.2.2.2, sem_eq_zero_of_no_sems (by decide) r.2⟩) (Cert.KvSRefIdeal.Value.run m ρ)

theorem algebraic_KvS : Cert.algebraic_KvSIdeal_KvSRefIdeal (hKvSIdeal := Cert.KvSIdeal.Gen.facts) (hKvSRefIdeal := Cert.KvSRefIdeal.Gen.facts) := by
  intro m ρ m' ρ' _ hag
  refine ⟨fun c => KvS.G2 m c, fun c => KvS.G3 m c, fun c => KvS.G4 m c, fun c => KvS.G5 m c, fun c => KvS.G6 m c, fun c => KvS.G7 m c, fun c => KvS.G8 m c, fun c => KvS.G9 m c, fun c => KvS.G10 m c, fun c => KvS.G11 m c, fun c => KvS.G12 m c, fun c => KvS.G13 m c, (θ_run _ _ _).mono (fun _ h c => ?_) (Cert.KvSIdeal.Value.run_blocks m ρ), (θ_run _ _ _).mono (fun _ h c => ?_) (Cert.KvSRefIdeal.Value.run (F := Ideal) m' ρ')⟩
  · exact ⟨((h c).1).trans (KvS.final2 m c), ((h c).2.1).trans (KvS.final3 m c), ((h c).2.2.1).trans (KvS.final4 m c), ((h c).2.2.2.1).trans (KvS.final5 m c), ((h c).2.2.2.2.1).trans (KvS.final6 m c), ((h c).2.2.2.2.2.1).trans (KvS.final7 m c), ((h c).2.2.2.2.2.2.1).trans (KvS.final8 m c), ((h c).2.2.2.2.2.2.2.1).trans (KvS.final9 m c), ((h c).2.2.2.2.2.2.2.2.1).trans (KvS.final10 m c), ((h c).2.2.2.2.2.2.2.2.2.1).trans (KvS.final11 m c), ((h c).2.2.2.2.2.2.2.2.2.2.1).trans (KvS.final12 m c), ((h c).2.2.2.2.2.2.2.2.2.2.2.1).trans (KvS.final13 m c), (h c).2.2.2.2.2.2.2.2.2.2.2.2⟩
  · obtain ⟨a0, a1⟩ := hag c
    refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, ((h c).2.2.2.2.2.2.2.2.2.1).trans ?_, ((h c).2.2.2.2.2.2.2.2.2.2.1).trans ?_, ((h c).2.2.2.2.2.2.2.2.2.2.2.1).trans ?_, (h c).2.2.2.2.2.2.2.2.2.2.2.2⟩
    · refine (Cert.KvSRefIdeal.Read.val_main_v2_eq (F := Ideal) _ _).trans ?_
      rw [a0, a1]
      rfl
    · refine (Cert.KvSRefIdeal.Read.val_main_v3_eq (F := Ideal) _ _).trans ?_
      rw [a0, a1]
      rfl
    · refine (Cert.KvSRefIdeal.Read.val_main_v4_eq (F := Ideal) _ _).trans ?_
      rw [a0, a1]
      rfl
    · refine (Cert.KvSRefIdeal.Read.val_main_v5_eq (F := Ideal) _ _).trans ?_
      rw [a0, a1]
      rfl
    · refine (Cert.KvSRefIdeal.Read.val_main_v6_eq (F := Ideal) _ _).trans ?_
      rw [a0, a1]
      rfl
    · refine (Cert.KvSRefIdeal.Read.val_main_v7_eq (F := Ideal) _ _).trans ?_
      rw [a0, a1]
      rfl
    · refine (Cert.KvSRefIdeal.Read.val_main_v8_eq (F := Ideal) _ _).trans ?_
      rw [a0, a1]
      rfl
    · refine (Cert.KvSRefIdeal.Read.val_main_v9_eq (F := Ideal) _ _).trans ?_
      rw [a0, a1]
      rfl
    · refine (Cert.KvSRefIdeal.Read.val_main_v10_eq (F := Ideal) _ _).trans ?_
      rw [a0, a1]
      rfl
    · refine (Cert.KvSRefIdeal.Read.val_main_v11_eq (F := Ideal) _ _).trans ?_
      rw [a0, a1]
      rfl
    · refine (Cert.KvSRefIdeal.Read.val_main_v12_eq (F := Ideal) _ _).trans ?_
      rw [a0, a1]
      rfl
    · refine (Cert.KvSRefIdeal.Read.val_main_v13_eq (F := Ideal) _ _).trans ?_
      rw [a0, a1]
      rfl

/-! ### `Qg` -/

theorem frame_QgRef (m : (ℓ : Loc Cert.QgRefIdeal.nD Cert.QgRefIdeal.τ Cert.QgRefIdeal.sig) → Buf (Elt Ideal) ℓ) (ρ : Dev Cert.QgRefIdeal.nD → PrngReg) :
    θ_run (Cert.QgRefIdeal.defs (F := Ideal)) (onTc (τ := Cert.QgRefIdeal.τ) (Cert.QgRefIdeal.main (F := Ideal))) ⟨m, fun _ => 0, ρ⟩ (fun r => (∀ c : Dev Cert.QgRefIdeal.nD,
      r.2.mem ((c.tc : Thread Cert.QgRefIdeal.nD Cert.QgRefIdeal.τ).loc Cert.QgRefIdeal.main_arg0) = m ((c.tc : Thread Cert.QgRefIdeal.nD Cert.QgRefIdeal.τ).loc Cert.QgRefIdeal.main_arg0)
      ∧ r.2.mem ((c.tc : Thread Cert.QgRefIdeal.nD Cert.QgRefIdeal.τ).loc Cert.QgRefIdeal.main_arg1) = m ((c.tc : Thread Cert.QgRefIdeal.nD Cert.QgRefIdeal.τ).loc Cert.QgRefIdeal.main_arg1))
      ∧ r.2.sem = fun _ => 0) :=
  (θ_run _ _ _).mono (fun r h => ⟨fun c => (h c).2.2, sem_eq_zero_of_no_sems (by decide) r.2⟩) (Cert.QgRefIdeal.Value.run m ρ)

theorem algebraic_Qg : Cert.algebraic_QgIdeal_QgRefIdeal (hQgIdeal := Cert.QgIdeal.Gen.facts) (hQgRefIdeal := Cert.QgRefIdeal.Gen.facts) := by
  intro m ρ m' ρ' _ hag
  refine ⟨fun c => Qg.G2 m c, fun c => Qg.G3 m c, (θ_run _ _ _).mono (fun _ h c => ?_) (Cert.QgIdeal.Value.run_blocks m ρ), (θ_run _ _ _).mono (fun _ h c => ?_) (Cert.QgRefIdeal.Value.run (F := Ideal) m' ρ')⟩
  · exact ⟨((h c).1).trans (Qg.final2 m c), ((h c).2.1).trans (Qg.final3 m c), (h c).2.2⟩
  · obtain ⟨a0, a1⟩ := hag c
    refine ⟨((h c).1).trans ?_, ((h c).2.1).trans ?_, (h c).2.2⟩
    · refine (Cert.QgRefIdeal.Read.val_main_v6_eq (F := Ideal) _ _).trans ?_
      rw [a0, a1]
      rfl
    · refine (Cert.QgRefIdeal.Read.val_main_v8_eq (F := Ideal) _ _).trans ?_
      rw [a0, a1]
      rfl

/-! ### `QgS` -/

theorem frame_QgSRef (m : (ℓ : Loc Cert.QgSRefIdeal.nD Cert.QgSRefIdeal.τ Cert.QgSRefIdeal.sig) → Buf (Elt Ideal) ℓ) (ρ : Dev Cert.QgSRefIdeal.nD → PrngReg) :
    θ_run (Cert.QgSRefIdeal.defs (F := Ideal)) (onTc (τ := Cert.QgSRefIdeal.τ) (Cert.QgSRefIdeal.main (F := Ideal))) ⟨m, fun _ => 0, ρ⟩ (fun r => (∀ c : Dev Cert.QgSRefIdeal.nD,
      r.2.mem ((c.tc : Thread Cert.QgSRefIdeal.nD Cert.QgSRefIdeal.τ).loc Cert.QgSRefIdeal.main_arg0) = m ((c.tc : Thread Cert.QgSRefIdeal.nD Cert.QgSRefIdeal.τ).loc Cert.QgSRefIdeal.main_arg0)
      ∧ r.2.mem ((c.tc : Thread Cert.QgSRefIdeal.nD Cert.QgSRefIdeal.τ).loc Cert.QgSRefIdeal.main_arg1) = m ((c.tc : Thread Cert.QgSRefIdeal.nD Cert.QgSRefIdeal.τ).loc Cert.QgSRefIdeal.main_arg1))
      ∧ r.2.sem = fun _ => 0) :=
  (θ_run _ _ _).mono (fun r h => ⟨fun c => (h c).2.2, sem_eq_zero_of_no_sems (by decide) r.2⟩) (Cert.QgSRefIdeal.Value.run m ρ)

theorem algebraic_QgS : Cert.algebraic_QgSIdeal_QgSRefIdeal (hQgSIdeal := Cert.QgSIdeal.Gen.facts) (hQgSRefIdeal := Cert.QgSRefIdeal.Gen.facts) := by
  intro m ρ m' ρ' _ hag
  refine ⟨fun c => QgS.G2 m c, fun c => QgS.G3 m c, (θ_run _ _ _).mono (fun _ h c => ?_) (Cert.QgSIdeal.Value.run_blocks m ρ), (θ_run _ _ _).mono (fun _ h c => ?_) (Cert.QgSRefIdeal.Value.run (F := Ideal) m' ρ')⟩
  · exact ⟨((h c).1).trans (QgS.final2 m c), ((h c).2.1).trans (QgS.final3 m c), (h c).2.2⟩
  · obtain ⟨a0, a1⟩ := hag c
    refine ⟨((h c).1).trans ?_, ((h c).2.1).trans ?_, (h c).2.2⟩
    · refine (Cert.QgSRefIdeal.Read.val_main_v6_eq (F := Ideal) _ _).trans ?_
      rw [a0, a1]
      rfl
    · refine (Cert.QgSRefIdeal.Read.val_main_v8_eq (F := Ideal) _ _).trans ?_
      rw [a0, a1]
      rfl

end Cert.Proof
-- ==== Proof.CmpK.lean ====
/-
  The body of the compression call, read at an index: sixteen pages of eight chunk rows, split into four head groups, two products with the
  halves of the first weights, the sum with the row that follows, the gelu and the second product.
-/
module

public import proofs.«01_k».proof.Proof.Gen.CmpIdeal.Skeleton
public import Idealize.ShloMosaic.Lib.Tactic
public import Idealize.ShloMosaic.Lib.Pointwise
public import Idealize.ShloMosaic.Lib.Pipeline.Value
public import Idealize.ShloMosaic.Lib.KernelVsHost

@[expose] public section

noncomputable section

namespace Cert.Proof.CmpK

open Idealize.ShloMosaic Idealize.ShloMosaic.TcCoe Idealize.SL.Sem
open Cert.CmpIdeal Cert.CmpIdeal.Gen
open scoped BigOperators

variable (xs : Fin 16 → Vec Ideal S1x8x8192 .f32)

/-- The chunk rows of the sixteen pages, one under the other. -/
def rows : FVec Ideal S128x8192 .f32 :=
  k0_pay17 (F := Ideal) (k0_pay6 (xs 0)) (k0_pay7 (xs 1)) (k0_pay8 (xs 2)) (k0_pay9 (xs 3)) (k0_pay10 (xs 4)) (k0_pay11 (xs 5)) (k0_pay12 (xs 6))
    (k0_pay13 (xs 7)) (k0_pay14 (xs 8)) (k0_pay15 (xs 9)) (k0_pay16 (xs 10)) (xs 11) (xs 12) (xs 13) (xs 14) (xs 15)

theorem rows_eq : rows xs = concatenate S128x8192 0
    (List.ofFn fun n : Fin 16 => (⟨S8x8192, shapeCast S8x8192 (xs n) shapeCasts_S1x8x8192_S8x8192⟩ : (s : Shape) × (s.Idx → Ideal .f32)))
    concatenates_S8x8192_S8x8192_S8x8192_S8x8192_S8x8192_S8x8192_S8x8192_S8x8192_S8x8192_S8x8192_S8x8192_S8x8192_S8x8192_S8x8192_S8x8192_S8x8192_S128x8192_d0 := rfl

theorem page_row (x : Vec Ideal S1x8x8192 .f32) (r : Fin 8) (c : Fin 8192) :
    shapeCast S8x8192 x shapeCasts_S1x8x8192_S8x8192 (ix2 r c) = x (ix3 0 r c) := by
  pointwise

theorem rows_apply (r : Fin 128) (c : Fin 8192) :
    rows xs (ix2 r c) = xs ⟨r.val / 8, by omega⟩ (ix3 0 ⟨r.val % 8, by omega⟩ c) := by
  rw [rows_eq]
  refine (concatenate_ofFn_apply (t := S128x8192) (s₁ := S8x8192) 0 (fun n : Fin 16 => shapeCast S8x8192 (xs n) shapeCasts_S1x8x8192_S8x8192) _ rfl 8 rfl
    (ix2 r c) ⟨r.val / 8, by omega⟩ rfl (ix2 ⟨r.val % 8, by omega⟩ c) rfl ?_).trans (page_row _ _ _)
  intro b hb
  match b with
  | ⟨0, _⟩ => exact absurd rfl hb
  | ⟨1, _⟩ => rfl

theorem cut (g : Fin 4) (n : Fin 16) : Shape.Slices S128x8192 ![0, n.val * 512 + g.val * 128] S128x128 := by
  revert g n; decide +kernel

/-- The columns of one head group. -/
def grp (X : FVec Ideal S128x8192 .f32) (g : Fin 4) : FVec Ideal S128x2048 .f32 :=
  concatenate S128x2048 1
    (List.ofFn fun n : Fin 16 => (⟨S128x128, extractStridedSlice S128x128 ![0, n.val * 512 + g.val * 128] X (cut g n)⟩ : (s : Shape) × (s.Idx → Ideal .f32)))
    concatenates_S128x128_S128x128_S128x128_S128x128_S128x128_S128x128_S128x128_S128x128_S128x128_S128x128_S128x128_S128x128_S128x128_S128x128_S128x128_S128x128_S128x2048_d1

/-- Column `f` of group `g` in a chunk row. -/
def col (g : Fin 4) (f : Fin 2048) : Fin 8192 := ⟨f.val / 128 * 512 + g.val * 128 + f.val % 128, by omega⟩

theorem grp_apply (X : FVec Ideal S128x8192 .f32) (g : Fin 4) (r : Fin 128) (f : Fin 2048) : grp X g (ix2 r f) = X (ix2 r (col g f)) := by
  unfold grp
  refine (concatenate_ofFn_apply (t := S128x2048) (s₁ := S128x128) 1 (fun n : Fin 16 => extractStridedSlice S128x128 ![0, n.val * 512 + g.val * 128] X (cut g n)) _ rfl 128 rfl
    (ix2 r f) ⟨f.val / 128, by omega⟩ rfl (ix2 r ⟨f.val % 128, by omega⟩) rfl ?_).trans ?_
  · intro b hb
    match b with
    | ⟨0, _⟩ => rfl
    | ⟨1, _⟩ => exact absurd rfl hb
  · unfold extractStridedSlice col
    congr 1
    apply Shape.idx_ext₂
    · show 0 + r.val = r.val
      omega
    · rfl

/-- The four groups, one under the other. -/
def all (X : FVec Ideal S128x8192 .f32) : FVec Ideal S512x2048 .f32 :=
  concatenate S512x2048 0
    (List.ofFn fun n : Fin 4 => (⟨S128x2048, grp X n⟩ : (s : Shape) × (s.Idx → Ideal .f32)))
    concatenates_S128x2048_S128x2048_S128x2048_S128x2048_S512x2048_d0

theorem all_apply (X : FVec Ideal S128x8192 .f32) (r : Fin 512) (f : Fin 2048) :
    all X (ix2 r f) = X (ix2 ⟨r.val % 128, by omega⟩ (col ⟨r.val / 128, by omega⟩ f)) := by
  unfold all
  refine (concatenate_ofFn_apply (t := S512x2048) (s₁ := S128x2048) 0 (fun n : Fin 4 => grp X n) _ rfl 128 rfl
    (ix2 r f) ⟨r.val / 128, by omega⟩ rfl (ix2 ⟨r.val % 128, by omega⟩ f) rfl ?_).trans (grp_apply _ _ _ _)
  intro b hb
  match b with
  | ⟨0, _⟩ => exact absurd rfl hb
  | ⟨1, _⟩ => rfl

/-- The product of the stacked groups with both halves of the weights. -/
def mm (X : FVec Ideal S128x8192 .f32) (w : Vec Ideal S2048x256 .bf16) : FVec Ideal S512x256 .f32 :=
  matmul (φ₂ := .bf16) dot_S512x2048_S2048x256_S512x256_1_0_0_1_n_n none (truncf .bf16 (all X) bitsLt_bf16_f32)
    (shapeCast S2048x256 (w : FVec Ideal S2048x256 .bf16) shapeCasts_S2048x256_S2048x256)
    (constant S512x256 .f32 0x00000000#32)

theorem mm_apply (X : FVec Ideal S128x8192 .f32) (w : Vec Ideal S2048x256 .bf16) (r : Fin 512) (e : Fin 256) :
    mm X w (ix2 r e) = ∑ f : Fin 2048, (X (ix2 ⟨r.val % 128, by omega⟩ (col ⟨r.val / 128, by omega⟩ f)) : EReal) * w (ix2 f e) := by
  unfold mm
  have : ∀ f, all X (ix2 r f) = X (ix2 ⟨r.val % 128, by omega⟩ (col ⟨r.val / 128, by omega⟩ f)) := all_apply X r
  generalize all X = A at this
  simp only [← this]
  pointwise [dot_S512x2048_S2048x256_S512x256_1_0_0_1_n_n]

/-- What the body of the call computes before the gelu. -/
def pre (X : FVec Ideal S128x8192 .f32) (w : Vec Ideal S2048x256 .bf16) (b : Vec Ideal S1x128 .f32) : FVec Ideal S512x128 .f32 :=
  addf (addf (extractStridedSlice S512x128 ![0, 0] (mm X w) slices_S512x256_o0_0_S512x128)
    (dynamicRotate 0 511#32 none (extractStridedSlice S512x128 ![0, 128] (mm X w) slices_S512x256_o0_128_S512x128) rotates_S512x128_d0))
    (broadcastTo S512x128 (shapeCast S1x128 b shapeCasts_S1x128_S1x128) broadcasts_S1x128_S512x128)

theorem pre_apply (X : FVec Ideal S128x8192 .f32) (w : Vec Ideal S2048x256 .bf16) (b : Vec Ideal S1x128 .f32) (r : Fin 512) (e : Fin 128) :
    pre X w b (ix2 r e) = (mm X w (ix2 r ⟨e.val, by omega⟩) : EReal) + mm X w (ix2 ⟨(r.val + 1) % 512, by omega⟩ ⟨128 + e.val, by omega⟩)
      + b (ix2 0 e) := by
  unfold pre
  generalize mm X w = M
  have h1 : extractStridedSlice S512x128 ![0, 0] M slices_S512x256_o0_0_S512x128 (ix2 r e) = M (ix2 r ⟨e.val, by omega⟩) := by
    pointwise
  have h2 : dynamicRotate 0 511#32 none (extractStridedSlice S512x128 ![0, 128] M slices_S512x256_o0_128_S512x128) rotates_S512x128_d0 (ix2 r e)
      = M (ix2 ⟨(r.val + 1) % 512, by omega⟩ ⟨128 + e.val, by omega⟩) := by
    refine (dynamicRotate_apply 0 511#32 _ _ (ix2 r e) (ix2 ⟨(r.val + 1) % 512, by omega⟩ e) ?_).trans ?_
    · intro a
      match a with
      | ⟨0, _⟩ =>
        show (r.val + 1) % 512 = (r.val + 512 - 511 % 512) % 512
        omega
      | ⟨1, _⟩ => rfl
    · pointwise
  have h3 : broadcastTo S512x128 (shapeCast S1x128 b shapeCasts_S1x128_S1x128) broadcasts_S1x128_S512x128 (ix2 r e) = b (ix2 0 e) := by
    pointwise
  show ((_ : EReal) + _) + _ = _
  rw [h1, h2, h3]

/-- The gelu as the body spells it. -/
def gl (x : EReal) : EReal :=
  (Ideal.ofBits .f32 0x3F000000#32 * x)
    * (Ideal.ofBits .f32 0x3F800000#32 + Ideal.tanh (Ideal.ofBits .f32 0x3F4C422A#32 * (x + Ideal.ofBits .f32 0x3D372713#32 * (x * x * x))))

/-- What the body of the call computes: every row, before it is cut into groups. -/
def post (p : FVec Ideal S512x128 .f32) (w2 : Vec Ideal S128x128 .bf16) (b2 : Vec Ideal S1x128 .f32) : FVec Ideal S512x128 .f32 :=
  k0_pay1 (F := Ideal) (mulf (broadcast S512x128 (Scalar.ofBits .f32 0x3F000000#32)) p)
    (addf p (mulf (broadcast S512x128 (Scalar.ofBits .f32 0x3D372713#32)) (mulf (mulf p p) p))) k0_pay27 w2 b2

theorem post_apply (p : FVec Ideal S512x128 .f32) (w2 : Vec Ideal S128x128 .bf16) (b2 : Vec Ideal S1x128 .f32) (r : Fin 512) (e : Fin 128) :
    post p w2 b2 (ix2 r e) = (∑ k : Fin 128, gl (p (ix2 r k)) * w2 (ix2 k e)) + b2 (ix2 0 e) := by
  unfold post k0_pay1 k0_pay27 gl
  pointwise [dot_S512x128_S128x128_S512x128_1_0_0_1_n_n]
  try rfl

end Cert.Proof.CmpK
-- ==== Proof.CmpS.lean ====
/-
  The compression of one sequence's pages, as a function of the arrays: what both the call and its reference are shown to compute.
-/
module

public import proofs.«01_k».proof.Proof.CmpK

@[expose] public section

noncomputable section

namespace Cert.Proof.CmpS

open Idealize.ShloMosaic
open scoped BigOperators

variable (cache : (⟨4, ![2560, 128, 4, 128]⟩ : Shape).Idx → EReal) (pg : Fin 128 → Fin 16 → Nat)

/-- Entry `f` of chunk `c` (16 tokens) of sequence `b` and head `g`. -/
def chunk (b c : Fin 128) (g : Fin 4) (f : Fin 2048) : EReal :=
  cache (ix4 ⟨pg b ⟨c.val / 8, by omega⟩ % 2560, by omega⟩ ⟨c.val % 8 * 16 + f.val / 128, by omega⟩ g ⟨f.val % 128, by omega⟩)

/-- The chunk after `c`: past the last one comes the first chunk of the next head. -/
def nxt (b c : Fin 128) (g : Fin 4) (f : Fin 2048) : EReal :=
  if h : c.val < 127 then chunk cache pg b ⟨c.val + 1, by omega⟩ g f else chunk cache pg b 0 ⟨(g.val + 1) % 4, by omega⟩ f

variable (w1 : (⟨2, ![4096, 128]⟩ : Shape).Idx → EReal) (b1 : Fin 128 → EReal) (w2 : (⟨2, ![128, 128]⟩ : Shape).Idx → EReal) (b2 : Fin 128 → EReal)

/-- The hidden layer before its gelu. -/
def hid (b c : Fin 128) (g : Fin 4) (e : Fin 128) : EReal :=
  (∑ f : Fin 2048, chunk cache pg b c g f * w1 (ix2 ⟨f.val, by omega⟩ e)) + (∑ f : Fin 2048, nxt cache pg b c g f * w1 (ix2 ⟨2048 + f.val, by omega⟩ e)) + b1 e

/-- The compressed key. -/
def outv (b c : Fin 128) (g : Fin 4) (e : Fin 128) : EReal :=
  (∑ k : Fin 128, Cert.Proof.CmpK.gl (hid cache pg w1 b1 b c g k) * w2 (ix2 k e)) + b2 e

end Cert.Proof.CmpS
-- ==== Proof.CmpOk.lean ====
/-
  The page table of the compression call: its entries lie inside the pool, so every page window of the call lies inside the array of pages,
  and the window's block is the page that the table names.
-/
module

public import proofs.«01_k».proof.Defs
public import proofs.«01_k».proof.Proof.Gen.Cmp.Frame
public import proofs.«01_k».proof.Proof.Gen.CmpIdeal.Frame
public import proofs.«01_k».proof.Proof.Gen.Pre_pages_in_pool
public import Idealize.ShloMosaic.Lib.Tactic
public import Idealize.ShloMosaic.Lib.Pointwise.ShapeOpsCore

@[expose] public section

noncomputable section

namespace Cert.Proof.CmpOk

open Idealize.ShloMosaic Idealize.ShloMosaic.TcCoe

/-- The precondition, read at an entry of the table. -/
theorem word_in_pool {F : FTy → Type} [FloatOps F] {x0 : FVec F Cert.Pre_pages_in_pool.S2560x128x4x128 .f32} {x1 : IVec Cert.Pre_pages_in_pool.S128x16 32}
    {x2 : FVec F Cert.Pre_pages_in_pool.S1x128 .f32} {x3 : FVec F Cert.Pre_pages_in_pool.S4096x128 .f32} {x4 : FVec F Cert.Pre_pages_in_pool.S128 .f32}
    {x5 : FVec F Cert.Pre_pages_in_pool.S128x128 .f32} {x6 : FVec F Cert.Pre_pages_in_pool.S128 .f32}
    (h : Cert.Pre_pages_in_pool.fn (F := F) x0 x1 x2 x3 x4 x5 x6 = fun _ => 1#1) (w : Cert.Pre_pages_in_pool.S128x16.Idx) :
    0 ≤ (x1 w).toInt ∧ (x1 w).toNat < 2560 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have hw := congrFun h w
  simp only [Cert.Pre_pages_in_pool.fn, constantI, broadcastInDim, cmpi, andi, andi_one] at hw
  simp only [IntOp.cmpi, ofBool_eq_one, BitVec.sle, BitVec.slt, decide_eq_true_eq] at hw
  have e0 : (0#32 : BitVec 32).toInt = 0 := by decide
  have e1 : (2560#32 : BitVec 32).toInt = 2560 := by decide
  rw [e0, e1] at hw
  have := BitVec.toInt_eq_toNat_cond (x1 w)
  split_ifs at this <;> omega

section
open Cert.Cmp Cert.Cmp.Gen

/-- The table's entry for page `k` of batch row `b`. -/
def pageCmp (m : (ℓ : Loc nD τ sig) → Buf (Elt Bits) ℓ) (b : Fin 128) (k : Fin 16) : Nat :=
  ((m (((0 : Dev nD) : Thread nD τ).loc main_arg1) : IVec S128x16 32) (ix2 b k)).toNat

theorem page_ltCmp (m : (ℓ : Loc nD τ sig) → Buf (Elt Bits) ℓ) (h : Cert.Pre_Cmp m) (b : Fin 128) (k : Fin 16) : pageCmp m b k < 2560 :=
  (word_in_pool (h 0) (ix2 b k)).2

theorem word_nonnegCmp (m : (ℓ : Loc nD τ sig) → Buf (Elt Bits) ℓ) (h : Cert.Pre_Cmp m) (b : Fin 128) (k : Fin 16) :
    0 ≤ ((m (((0 : Dev nD) : Thread nD τ).loc main_arg1) : IVec S128x16 32) (ix2 b k)).toInt :=
  (word_in_pool (h 0) (ix2 b k)).1

theorem atCmp (m : (ℓ : Loc nD τ sig) → Buf (Elt Bits) ℓ) (i : grid0.Coords) (k : Nat) (hk : k < 16)
    (h : ∀ a, (![(BitVec.ofNat 32 (i 0).val).toNat, k] : Fin 2 → Nat) a + S1x1.size a ≤ S128x16.size a) :
    ((tbl m).at 0 (Rect.unit (s := S128x16) ![(BitVec.ofNat 32 (i 0).val).toNat, k] S1x1.size h) numel1_S1x1 : BitVec 32).toNat
      = pageCmp m ⟨(i 0).val, (i 0).isLt⟩ ⟨k, hk⟩ := by
  unfold pageCmp
  have h0 : (i 0).val < 128 := (i 0).isLt
  show ((V m 0 main_arg1 : IVec S128x16 32) _).toNat = _
  rw [V_main_arg1 m 0]
  congr 2
  funext a
  match a with
  | ⟨0, _⟩ =>
    apply Fin.ext
    show (BitVec.ofNat 32 (i 0).val).toNat + 1 * 0 = (i 0).val
    rw [BitVec.toNat_ofNat]
    omega
  | ⟨1, _⟩ =>
    apply Fin.ext
    show k + 1 * 0 = k
    omega

theorem mapCmp_0 (m : (ℓ : Loc nD τ sig) → Buf (Elt Bits) ℓ) (i : grid0.Coords) :
    cc0_transform_0 k0_off1_inb numel1_S1x1 (tbl m) i = ![pageCmp m ⟨(i 0).val, (i 0).isLt⟩ ⟨0, by decide⟩, 0, 0] := by
  unfold cc0_transform_0
  rw [← atCmp m i 0 (by decide) (k0_off1_inb i)]
  rfl
theorem mapCmp_1 (m : (ℓ : Loc nD τ sig) → Buf (Elt Bits) ℓ) (i : grid0.Coords) :
    cc0_transform_1 k0_off2_inb numel1_S1x1 (tbl m) i = ![pageCmp m ⟨(i 0).val, (i 0).isLt⟩ ⟨1, by decide⟩, 0, 0] := by
  unfold cc0_transform_1
  rw [← atCmp m i 1 (by decide) (k0_off2_inb i)]
  rfl
theorem mapCmp_2 (m : (ℓ : Loc nD τ sig) → Buf (Elt Bits) ℓ) (i : grid0.Coords) :
    cc0_transform_2 k0_off3_inb numel1_S1x1 (tbl m) i = ![pageCmp m ⟨(i 0).val, (i 0).isLt⟩ ⟨2, by decide⟩, 0, 0] := by
  unfold cc0_transform_2
  rw [← atCmp m i 2 (by decide) (k0_off3_inb i)]
  rfl
theorem mapCmp_3 (m : (ℓ : Loc nD τ sig) → Buf (Elt Bits) ℓ) (i : grid0.Coords) :
    cc0_transform_3 k0_off4_inb numel1_S1x1 (tbl m) i = ![pageCmp m ⟨(i 0).val, (i 0).isLt⟩ ⟨3, by decide⟩, 0, 0] := by
  unfold cc0_transform_3
  rw [← atCmp m i 3 (by decide) (k0_off4_inb i)]
  rfl
theorem mapCmp_4 (m : (ℓ : Loc nD τ sig) → Buf (Elt Bits) ℓ) (i : grid0.Coords) :
    cc0_transform_4 k0_off5_inb numel1_S1x1 (tbl m) i = ![pageCmp m ⟨(i 0).val, (i 0).isLt⟩ ⟨4, by decide⟩, 0, 0] := by
  unfold cc0_transform_4
  rw [← atCmp m i 4 (by decide) (k0_off5_inb i)]
  rfl
theorem mapCmp_5 (m : (ℓ : Loc nD τ sig) → Buf (Elt Bits) ℓ) (i : grid0.Coords) :
    cc0_transform_5 k0_off6_inb numel1_S1x1 (tbl m) i = ![pageCmp m ⟨(i 0).val, (i 0).isLt⟩ ⟨5, by decide⟩, 0, 0] := by
  unfold cc0_transform_5
  rw [← atCmp m i 5 (by decide) (k0_off6_inb i)]
  rfl
theorem mapCmp_6 (m : (ℓ : Loc nD τ sig) → Buf (Elt Bits) ℓ) (i : grid0.Coords) :
    cc0_transform_6 k0_off7_inb numel1_S1x1 (tbl m) i = ![pageCmp m ⟨(i 0).val, (i 0).isLt⟩ ⟨6, by decide⟩, 0, 0] := by
  unfold cc0_transform_6
  rw [← atCmp m i 6 (by decide) (k0_off7_inb i)]
  rfl
theorem mapCmp_7 (m : (ℓ : Loc nD τ sig) → Buf (Elt Bits) ℓ) (i : grid0.Coords) :
    cc0_transform_7 k0_off8_inb numel1_S1x1 (tbl m) i = ![pageCmp m ⟨(i 0).val, (i 0).isLt⟩ ⟨7, by decide⟩, 0, 0] := by
  unfold cc0_transform_7
  rw [← atCmp m i 7 (by decide) (k0_off8_inb i)]
  rfl
theorem mapCmp_8 (m : (ℓ : Loc nD τ sig) → Buf (Elt Bits) ℓ) (i : grid0.Coords) :
    cc0_transform_8 k0_off9_inb numel1_S1x1 (tbl m) i = ![pageCmp m ⟨(i 0).val, (i 0).isLt⟩ ⟨8, by decide⟩, 0, 0] := by
  unfold cc0_transform_8
  rw [← atCmp m i 8 (by decide) (k0_off9_inb i)]
  rfl
theorem mapCmp_9 (m : (ℓ : Loc nD τ sig) → Buf (Elt Bits) ℓ) (i : grid0.Coords) :
    cc0_transform_9 k0_off10_inb numel1_S1x1 (tbl m) i = ![pageCmp m ⟨(i 0).val, (i 0).isLt⟩ ⟨9, by decide⟩, 0, 0] := by
  unfold cc0_transform_9
  rw [← atCmp m i 9 (by decide) (k0_off10_inb i)]
  rfl
theorem mapCmp_10 (m : (ℓ : Loc nD τ sig) → Buf (Elt Bits) ℓ) (i : grid0.Coords) :
    cc0_transform_10 k0_off11_inb numel1_S1x1 (tbl m) i = ![pageCmp m ⟨(i 0).val, (i 0).isLt⟩ ⟨10, by decide⟩, 0, 0] := by
  unfold cc0_transform_10
  rw [← atCmp m i 10 (by decide) (k0_off11_inb i)]
  rfl
theorem mapCmp_11 (m : (ℓ : Loc nD τ sig) → Buf (Elt Bits) ℓ) (i : grid0.Coords) :
    cc0_transform_11 k0_off12_inb numel1_S1x1 (tbl m) i = ![pageCmp m ⟨(i 0).val, (i 0).isLt⟩ ⟨11, by decide⟩, 0, 0] := by
  unfold cc0_transform_11
  rw [← atCmp m i 11 (by decide) (k0_off12_inb i)]
  rfl
theorem mapCmp_12 (m : (ℓ : Loc nD τ sig) → Buf (Elt Bits) ℓ) (i : grid0.Coords) :
    cc0_transform_12 k0_off13_inb numel1_S1x1 (tbl m) i = ![pageCmp m ⟨(i 0).val, (i 0).isLt⟩ ⟨12, by decide⟩, 0, 0] := by
  unfold cc0_transform_12
  rw [← atCmp m i 12 (by decide) (k0_off13_inb i)]
  rfl
theorem mapCmp_13 (m : (ℓ : Loc nD τ sig) → Buf (Elt Bits) ℓ) (i : grid0.Coords) :
    cc0_transform_13 k0_off14_inb numel1_S1x1 (tbl m) i = ![pageCmp m ⟨(i 0).val, (i 0).isLt⟩ ⟨13, by decide⟩, 0, 0] := by
  unfold cc0_transform_13
  rw [← atCmp m i 13 (by decide) (k0_off14_inb i)]
  rfl
theorem mapCmp_14 (m : (ℓ : Loc nD τ sig) → Buf (Elt Bits) ℓ) (i : grid0.Coords) :
    cc0_transform_14 k0_off15_inb numel1_S1x1 (tbl m) i = ![pageCmp m ⟨(i 0).val, (i 0).isLt⟩ ⟨14, by decide⟩, 0, 0] := by
  unfold cc0_transform_14
  rw [← atCmp m i 14 (by decide) (k0_off15_inb i)]
  rfl
theorem mapCmp_15 (m : (ℓ : Loc nD τ sig) → Buf (Elt Bits) ℓ) (i : grid0.Coords) :
    cc0_transform_15 k0_off16_inb numel1_S1x1 (tbl m) i = ![pageCmp m ⟨(i 0).val, (i 0).isLt⟩ ⟨15, by decide⟩, 0, 0] := by
  unfold cc0_transform_15
  rw [← atCmp m i 15 (by decide) (k0_off16_inb i)]
  rfl

theorem inbCmp (p : Nat) (hp : p < 2560) (a : Fin 3) : ((![p, 0, 0] : Fin 3 → Nat) a + 1) * S1x8x8192.size a ≤ S2560x8x8192.size a := by
  match a with
  | ⟨0, _⟩ =>
    show (p + 1) * 1 ≤ 2560
    omega
  | ⟨1, _⟩ =>
    show (0 + 1) * 8 ≤ 8
    omega
  | ⟨2, _⟩ =>
    show (0 + 1) * 8192 ≤ 8192
    omega

/-- Every page that the table names lies inside the pool. -/
theorem okCmp (m : (ℓ : Loc nD τ sig) → Buf (Elt Bits) ℓ) (h : Cert.Pre_Cmp m) : Ok (F := Bits) m := by
  have hp := page_ltCmp m h
  unfold Ok ok0
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [mapCmp_0]; exact inbCmp _ (hp _ _)
  · rw [mapCmp_1]; exact inbCmp _ (hp _ _)
  · rw [mapCmp_2]; exact inbCmp _ (hp _ _)
  · rw [mapCmp_3]; exact inbCmp _ (hp _ _)
  · rw [mapCmp_4]; exact inbCmp _ (hp _ _)
  · rw [mapCmp_5]; exact inbCmp _ (hp _ _)
  · rw [mapCmp_6]; exact inbCmp _ (hp _ _)
  · rw [mapCmp_7]; exact inbCmp _ (hp _ _)
  · rw [mapCmp_8]; exact inbCmp _ (hp _ _)
  · rw [mapCmp_9]; exact inbCmp _ (hp _ _)
  · rw [mapCmp_10]; exact inbCmp _ (hp _ _)
  · rw [mapCmp_11]; exact inbCmp _ (hp _ _)
  · rw [mapCmp_12]; exact inbCmp _ (hp _ _)
  · rw [mapCmp_13]; exact inbCmp _ (hp _ _)
  · rw [mapCmp_14]; exact inbCmp _ (hp _ _)
  · rw [mapCmp_15]; exact inbCmp _ (hp _ _)

end

section
open Cert.CmpIdeal Cert.CmpIdeal.Gen

/-- The table's entry for page `k` of batch row `b`. -/
def pageCmpIdeal (m : (ℓ : Loc nD τ sig) → Buf (Elt Ideal) ℓ) (b : Fin 128) (k : Fin 16) : Nat :=
  ((m (((0 : Dev nD) : Thread nD τ).loc main_arg1) : IVec S128x16 32) (ix2 b k)).toNat

theorem page_ltCmpIdeal (m : (ℓ : Loc nD τ sig) → Buf (Elt Ideal) ℓ) (h : Cert.Pre_CmpIdeal m) (b : Fin 128) (k : Fin 16) : pageCmpIdeal m b k < 2560 :=
  (word_in_pool (h 0) (ix2 b k)).2

theorem word_nonnegCmpIdeal (m : (ℓ : Loc nD τ sig) → Buf (Elt Ideal) ℓ) (h : Cert.Pre_CmpIdeal m) (b : Fin 128) (k : Fin 16) :
    0 ≤ ((m (((0 : Dev nD) : Thread nD τ).loc main_arg1) : IVec S128x16 32) (ix2 b k)).toInt :=
  (word_in_pool (h 0) (ix2 b k)).1

theorem atCmpIdeal (m : (ℓ : Loc nD τ sig) → Buf (Elt Ideal) ℓ) (i : grid0.Coords) (k : Nat) (hk : k < 16)
    (h : ∀ a, (![(BitVec.ofNat 32 (i 0).val).toNat, k] : Fin 2 → Nat) a + S1x1.size a ≤ S128x16.size a) :
    ((tbl m).at 0 (Rect.unit (s := S128x16) ![(BitVec.ofNat 32 (i 0).val).toNat, k] S1x1.size h) numel1_S1x1 : BitVec 32).toNat
      = pageCmpIdeal m ⟨(i 0).val, (i 0).isLt⟩ ⟨k, hk⟩ := by
  unfold pageCmpIdeal
  have h0 : (i 0).val < 128 := (i 0).isLt
  show ((V m 0 main_arg1 : IVec S128x16 32) _).toNat = _
  rw [V_main_arg1 m 0]
  congr 2
  funext a
  match a with
  | ⟨0, _⟩ =>
    apply Fin.ext
    show (BitVec.ofNat 32 (i 0).val).toNat + 1 * 0 = (i 0).val
    rw [BitVec.toNat_ofNat]
    omega
  | ⟨1, _⟩ =>
    apply Fin.ext
    show k + 1 * 0 = k
    omega

theorem mapCmpIdeal_0 (m : (ℓ : Loc nD τ sig) → Buf (Elt Ideal) ℓ) (i : grid0.Coords) :
    cc0_transform_0 k0_off1_inb numel1_S1x1 (tbl m) i = ![pageCmpIdeal m ⟨(i 0).val, (i 0).isLt⟩ ⟨0, by decide⟩, 0, 0] := by
  unfold cc0_transform_0
  rw [← atCmpIdeal m i 0 (by decide) (k0_off1_inb i)]
  rfl
theorem mapCmpIdeal_1 (m : (ℓ : Loc nD τ sig) → Buf (Elt Ideal) ℓ) (i : grid0.Coords) :
    cc0_transform_1 k0_off2_inb numel1_S1x1 (tbl m) i = ![pageCmpIdeal m ⟨(i 0).val, (i 0).isLt⟩ ⟨1, by decide⟩, 0, 0] := by
  unfold cc0_transform_1
  rw [← atCmpIdeal m i 1 (by decide) (k0_off2_inb i)]
  rfl
theorem mapCmpIdeal_2 (m : (ℓ : Loc nD τ sig) → Buf (Elt Ideal) ℓ) (i : grid0.Coords) :
    cc0_transform_2 k0_off3_inb numel1_S1x1 (tbl m) i = ![pageCmpIdeal m ⟨(i 0).val, (i 0).isLt⟩ ⟨2, by decide⟩, 0, 0] := by
  unfold cc0_transform_2
  rw [← atCmpIdeal m i 2 (by decide) (k0_off3_inb i)]
  rfl
theorem mapCmpIdeal_3 (m : (ℓ : Loc nD τ sig) → Buf (Elt Ideal) ℓ) (i : grid0.Coords) :
    cc0_transform_3 k0_off4_inb numel1_S1x1 (tbl m) i = ![pageCmpIdeal m ⟨(i 0).val, (i 0).isLt⟩ ⟨3, by decide⟩, 0, 0] := by
  unfold cc0_transform_3
  rw [← atCmpIdeal m i 3 (by decide) (k0_off4_inb i)]
  rfl
theorem mapCmpIdeal_4 (m : (ℓ : Loc nD τ sig) → Buf (Elt Ideal) ℓ) (i : grid0.Coords) :
    cc0_transform_4 k0_off5_inb numel1_S1x1 (tbl m) i = ![pageCmpIdeal m ⟨(i 0).val, (i 0).isLt⟩ ⟨4, by decide⟩, 0, 0] := by
  unfold cc0_transform_4
  rw [← atCmpIdeal m i 4 (by decide) (k0_off5_inb i)]
  rfl
theorem mapCmpIdeal_5 (m : (ℓ : Loc nD τ sig) → Buf (Elt Ideal) ℓ) (i : grid0.Coords) :
    cc0_transform_5 k0_off6_inb numel1_S1x1 (tbl m) i = ![pageCmpIdeal m ⟨(i 0).val, (i 0).isLt⟩ ⟨5, by decide⟩, 0, 0] := by
  unfold cc0_transform_5
  rw [← atCmpIdeal m i 5 (by decide) (k0_off6_inb i)]
  rfl
theorem mapCmpIdeal_6 (m : (ℓ : Loc nD τ sig) → Buf (Elt Ideal) ℓ) (i : grid0.Coords) :
    cc0_transform_6 k0_off7_inb numel1_S1x1 (tbl m) i = ![pageCmpIdeal m ⟨(i 0).val, (i 0).isLt⟩ ⟨6, by decide⟩, 0, 0] := by
  unfold cc0_transform_6
  rw [← atCmpIdeal m i 6 (by decide) (k0_off7_inb i)]
  rfl
theorem mapCmpIdeal_7 (m : (ℓ : Loc nD τ sig) → Buf (Elt Ideal) ℓ) (i : grid0.Coords) :
    cc0_transform_7 k0_off8_inb numel1_S1x1 (tbl m) i = ![pageCmpIdeal m ⟨(i 0).val, (i 0).isLt⟩ ⟨7, by decide⟩, 0, 0] := by
  unfold cc0_transform_7
  rw [← atCmpIdeal m i 7 (by decide) (k0_off8_inb i)]
  rfl
theorem mapCmpIdeal_8 (m : (ℓ : Loc nD τ sig) → Buf (Elt Ideal) ℓ) (i : grid0.Coords) :
    cc0_transform_8 k0_off9_inb numel1_S1x1 (tbl m) i = ![pageCmpIdeal m ⟨(i 0).val, (i 0).isLt⟩ ⟨8, by decide⟩, 0, 0] := by
  unfold cc0_transform_8
  rw [← atCmpIdeal m i 8 (by decide) (k0_off9_inb i)]
  rfl
theorem mapCmpIdeal_9 (m : (ℓ : Loc nD τ sig) → Buf (Elt Ideal) ℓ) (i : grid0.Coords) :
    cc0_transform_9 k0_off10_inb numel1_S1x1 (tbl m) i = ![pageCmpIdeal m ⟨(i 0).val, (i 0).isLt⟩ ⟨9, by decide⟩, 0, 0] := by
  unfold cc0_transform_9
  rw [← atCmpIdeal m i 9 (by decide) (k0_off10_inb i)]
  rfl
theorem mapCmpIdeal_10 (m : (ℓ : Loc nD τ sig) → Buf (Elt Ideal) ℓ) (i : grid0.Coords) :
    cc0_transform_10 k0_off11_inb numel1_S1x1 (tbl m) i = ![pageCmpIdeal m ⟨(i 0).val, (i 0).isLt⟩ ⟨10, by decide⟩, 0, 0] := by
  unfold cc0_transform_10
  rw [← atCmpIdeal m i 10 (by decide) (k0_off11_inb i)]
  rfl
theorem mapCmpIdeal_11 (m : (ℓ : Loc nD τ sig) → Buf (Elt Ideal) ℓ) (i : grid0.Coords) :
    cc0_transform_11 k0_off12_inb numel1_S1x1 (tbl m) i = ![pageCmpIdeal m ⟨(i 0).val, (i 0).isLt⟩ ⟨11, by decide⟩, 0, 0] := by
  unfold cc0_transform_11
  rw [← atCmpIdeal m i 11 (by decide) (k0_off12_inb i)]
  rfl
theorem mapCmpIdeal_12 (m : (ℓ : Loc nD τ sig) → Buf (Elt Ideal) ℓ) (i : grid0.Coords) :
    cc0_transform_12 k0_off13_inb numel1_S1x1 (tbl m) i = ![pageCmpIdeal m ⟨(i 0).val, (i 0).isLt⟩ ⟨12, by decide⟩, 0, 0] := by
  unfold cc0_transform_12
  rw [← atCmpIdeal m i 12 (by decide) (k0_off13_inb i)]
  rfl
theorem mapCmpIdeal_13 (m : (ℓ : Loc nD τ sig) → Buf (Elt Ideal) ℓ) (i : grid0.Coords) :
    cc0_transform_13 k0_off14_inb numel1_S1x1 (tbl m) i = ![pageCmpIdeal m ⟨(i 0).val, (i 0).isLt⟩ ⟨13, by decide⟩, 0, 0] := by
  unfold cc0_transform_13
  rw [← atCmpIdeal m i 13 (by decide) (k0_off14_inb i)]
  rfl
theorem mapCmpIdeal_14 (m : (ℓ : Loc nD τ sig) → Buf (Elt Ideal) ℓ) (i : grid0.Coords) :
    cc0_transform_14 k0_off15_inb numel1_S1x1 (tbl m) i = ![pageCmpIdeal m ⟨(i 0).val, (i 0).isLt⟩ ⟨14, by decide⟩, 0, 0] := by
  unfold cc0_transform_14
  rw [← atCmpIdeal m i 14 (by decide) (k0_off15_inb i)]
  rfl
theorem mapCmpIdeal_15 (m : (ℓ : Loc nD τ sig) → Buf (Elt Ideal) ℓ) (i : grid0.Coords) :
    cc0_transform_15 k0_off16_inb numel1_S1x1 (tbl m) i = ![pageCmpIdeal m ⟨(i 0).val, (i 0).isLt⟩ ⟨15, by decide⟩, 0, 0] := by
  unfold cc0_transform_15
  rw [← atCmpIdeal m i 15 (by decide) (k0_off16_inb i)]
  rfl

theorem inbCmpIdeal (p : Nat) (hp : p < 2560) (a : Fin 3) : ((![p, 0, 0] : Fin 3 → Nat) a + 1) * S1x8x8192.size a ≤ S2560x8x8192.size a := by
  match a with
  | ⟨0, _⟩ =>
    show (p + 1) * 1 ≤ 2560
    omega
  | ⟨1, _⟩ =>
    show (0 + 1) * 8 ≤ 8
    omega
  | ⟨2, _⟩ =>
    show (0 + 1) * 8192 ≤ 8192
    omega

/-- Every page that the table names lies inside the pool. -/
theorem okCmpIdeal (m : (ℓ : Loc nD τ sig) → Buf (Elt Ideal) ℓ) (h : Cert.Pre_CmpIdeal m) : Ok (F := Ideal) m := by
  have hp := page_ltCmpIdeal m h
  unfold Ok ok0
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [mapCmpIdeal_0]; exact inbCmpIdeal _ (hp _ _)
  · rw [mapCmpIdeal_1]; exact inbCmpIdeal _ (hp _ _)
  · rw [mapCmpIdeal_2]; exact inbCmpIdeal _ (hp _ _)
  · rw [mapCmpIdeal_3]; exact inbCmpIdeal _ (hp _ _)
  · rw [mapCmpIdeal_4]; exact inbCmpIdeal _ (hp _ _)
  · rw [mapCmpIdeal_5]; exact inbCmpIdeal _ (hp _ _)
  · rw [mapCmpIdeal_6]; exact inbCmpIdeal _ (hp _ _)
  · rw [mapCmpIdeal_7]; exact inbCmpIdeal _ (hp _ _)
  · rw [mapCmpIdeal_8]; exact inbCmpIdeal _ (hp _ _)
  · rw [mapCmpIdeal_9]; exact inbCmpIdeal _ (hp _ _)
  · rw [mapCmpIdeal_10]; exact inbCmpIdeal _ (hp _ _)
  · rw [mapCmpIdeal_11]; exact inbCmpIdeal _ (hp _ _)
  · rw [mapCmpIdeal_12]; exact inbCmpIdeal _ (hp _ _)
  · rw [mapCmpIdeal_13]; exact inbCmpIdeal _ (hp _ _)
  · rw [mapCmpIdeal_14]; exact inbCmpIdeal _ (hp _ _)
  · rw [mapCmpIdeal_15]; exact inbCmpIdeal _ (hp _ _)

end

end Cert.Proof.CmpOk
-- ==== Proof.CmpV.lean ====
/-
  What each grid point of the compression call writes, as a function of the argument arrays.
-/
module

public import proofs.«01_k».proof.Proof.CmpS
public import proofs.«01_k».proof.Proof.CmpOk
public import proofs.«01_k».proof.Proof.Common
public import proofs.«01_k».proof.Proof.Gen.CmpIdeal.Frame
public import Idealize.ShloMosaic.Lib.Tactic
public import Idealize.ShloMosaic.Lib.Pipeline.Value
public import Idealize.ShloMosaic.Lib.Pipeline.ValueKit.Tiles

@[expose] public section

noncomputable section

namespace Cert.Proof.CmpV

open Idealize.ShloMosaic Idealize.ShloMosaic.TcCoe Idealize.SL.Sem
open Idealize.ShloMosaic.Pipeline (Dat)
open Cert.CmpIdeal Cert.CmpIdeal.Gen Cert.Proof.Common Cert.Proof.CmpK Cert.Proof.CmpS Cert.Proof.CmpOk
open scoped BigOperators

variable (m : (ℓ : Loc nD τ sig) → Buf (Elt Ideal) ℓ) (hO : Ok (F := Ideal) m)

/-- The offsets of a whole block of rank three. -/
theorem hz3 : (![0, 0, 0] : Fin 3 → Nat) = fun _ => 0 := funext fun a => by fin_cases a <;> rfl

/-- The arguments. -/
def a0 (c : Dev nD) : FVec Ideal S2560x128x4x128 .f32 := m ((c : Thread nD τ).loc main_arg0)
def a1 (c : Dev nD) : IVec S128x16 32 := m ((c : Thread nD τ).loc main_arg1)
def a2 (c : Dev nD) : FVec Ideal S1x128 .f32 := m ((c : Thread nD τ).loc main_arg2)
def a3 (c : Dev nD) : FVec Ideal S4096x128 .f32 := m ((c : Thread nD τ).loc main_arg3)
def a4 (c : Dev nD) : FVec Ideal S128 .f32 := m ((c : Thread nD τ).loc main_arg4)
def a5 (c : Dev nD) : FVec Ideal S128x128 .f32 := m ((c : Thread nD τ).loc main_arg5)
def a6 (c : Dev nD) : FVec Ideal S128 .f32 := m ((c : Thread nD τ).loc main_arg6)

/-! ### The arrays as the region finds them -/

theorem v5_apply (c : Dev nD) (p : Fin 2560) (r : Fin 8) (j : Fin 8192) :
    (V m c main_v5 : FVec Ideal S2560x8x8192 .f32) (ix3 p r j) = a0 m c (ix4 p ⟨(r.val * 8192 + j.val) / 512, by omega⟩ ⟨j.val / 128 % 4, by omega⟩ ⟨j.val % 128, by omega⟩) := by
  have e : (V m c main_v5 : FVec Ideal S2560x8x8192 .f32) = shapeCast S2560x8x8192 (a0 m c) shapeCasts_S2560x128x4x128_S2560x8x8192 := by
    unfold V a0
    after_results <;> rfl
  rw [e]
  refine shapeCast_apply _ _ _ _ ?_
  rw [Shape.rowMajor_val_four, Shape.rowMajor_val_three]
  show ((p.val * 128 + (r.val * 8192 + j.val) / 512) * 4 + j.val / 128 % 4) * 128 + j.val % 128 = (p.val * 8 + r.val) * 8192 + j.val
  omega

theorem v3_lo (c : Dev nD) (f : Fin 2048) (e : Fin 128) : (V m c main_v3 : FVec Ideal S2048x256 .bf16) (ix2 f ⟨e.val, by omega⟩) = a3 m c (ix2 ⟨f.val, by omega⟩ e) := by
  have h : (V m c main_v3 : FVec Ideal S2048x256 .bf16) = concatenate S2048x256 1
      [⟨S2048x128, extractStridedSlice S2048x128 ![0, 0] (truncf .bf16 (a3 m c) bitsLt_bf16_f32) slices_S4096x128_S2048x128_0_0⟩,
       ⟨S2048x128, extractStridedSlice S2048x128 ![2048, 0] (truncf .bf16 (a3 m c) bitsLt_bf16_f32) slices_S4096x128_S2048x128_2048_0⟩] concatenates_S2048x128_S2048x128_S2048x256_d1 := by
    unfold V a3
    after_results <;> rfl
  rw [h]
  pointwise

theorem v3_hi (c : Dev nD) (f : Fin 2048) (e : Fin 128) : (V m c main_v3 : FVec Ideal S2048x256 .bf16) (ix2 f ⟨128 + e.val, by omega⟩) = a3 m c (ix2 ⟨2048 + f.val, by omega⟩ e) := by
  have h : (V m c main_v3 : FVec Ideal S2048x256 .bf16) = concatenate S2048x256 1
      [⟨S2048x128, extractStridedSlice S2048x128 ![0, 0] (truncf .bf16 (a3 m c) bitsLt_bf16_f32) slices_S4096x128_S2048x128_0_0⟩,
       ⟨S2048x128, extractStridedSlice S2048x128 ![2048, 0] (truncf .bf16 (a3 m c) bitsLt_bf16_f32) slices_S4096x128_S2048x128_2048_0⟩] concatenates_S2048x128_S2048x128_S2048x256_d1 := by
    unfold V a3
    after_results <;> rfl
  rw [h]
  pointwise

theorem v4_apply (c : Dev nD) (k e : Fin 128) : (V m c main_v4 : FVec Ideal S128x128 .bf16) (ix2 k e) = a5 m c (ix2 k e) := by
  have h : (V m c main_v4 : FVec Ideal S128x128 .bf16) = truncf .bf16 (a5 m c) bitsLt_bf16_f32 := by
    unfold V a5
    after_results <;> rfl
  rw [h]
  rfl

theorem v7_apply (c : Dev nD) (e : Fin 128) : (V m c main_v7 : FVec Ideal S1x128 .f32) (ix2 0 e) = a2 m c (ix2 0 e) + a4 m c (ix1 e) := by
  have h : (V m c main_v7 : FVec Ideal S1x128 .f32) = addf (a2 m c) (shapeCast S1x128 (a4 m c) shapeCasts_S128_S1x128) := by
    unfold V a2 a4
    after_results <;> rfl
  rw [h]
  pointwise

theorem v8_apply (c : Dev nD) (e : Fin 128) : (V m c main_v8 : FVec Ideal S1x128 .f32) (ix2 0 e) = a6 m c (ix1 e) := by
  have h : (V m c main_v8 : FVec Ideal S1x128 .f32) = shapeCast S1x128 (a6 m c) shapeCasts_S128_S1x128 := by
    unfold V a6
    after_results <;> rfl
  rw [h]
  pointwise

/-! ### The blocks -/

/-- The batch row of a grid point. -/
def brow (t : Fin (cfgM m hO).N) : Fin 128 := ⟨t.val, t.isLt⟩

theorem coord (t : Fin (cfgM m hO).N) : (grid0.coords t 0).val = t.val :=
  (by decide +kernel : ∀ t : Fin grid0.N, (grid0.coords t 0).val = t.val) t

theorem blk_0 (c : Dev nD) (t : Fin (cfgM m hO).N) (r : Fin 8) (j : Fin 8192) (h : pageCmpIdeal m (brow m hO t) 0 < 2560) :
    (iblk m hO c 0 t : FVec Ideal S1x8x8192 .f32) (ix3 0 r j) = (V m c main_v5 : FVec Ideal S2560x8x8192 .f32) (ix3 ⟨pageCmpIdeal m (brow m hO t) 0, h⟩ r j) := by
  unfold iblk
  refine (View.read_apply _ _).trans ?_
  show (V m c main_v5 : FVec Ideal S2560x8x8192 .f32) _ = _
  congr 1
  have e := mapCmpIdeal_0 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_0 k0_off1_inb numel1_S1x1 (tbl m) (grid0.coords t)) 0 * 1 + 1 * 0 = _
    rw [e]
    show pageCmpIdeal m (brow m hO t) 0 * 1 + 1 * 0 = pageCmpIdeal m (brow m hO t) 0
    omega
  | ⟨1, _⟩ =>
    apply Fin.ext
    show 0 * 8 + 1 * r.val = r.val
    omega
  | ⟨2, _⟩ =>
    apply Fin.ext
    show 0 * 8192 + 1 * j.val = j.val
    omega

theorem blk_1 (c : Dev nD) (t : Fin (cfgM m hO).N) (r : Fin 8) (j : Fin 8192) (h : pageCmpIdeal m (brow m hO t) 1 < 2560) :
    (iblk m hO c 1 t : FVec Ideal S1x8x8192 .f32) (ix3 0 r j) = (V m c main_v5 : FVec Ideal S2560x8x8192 .f32) (ix3 ⟨pageCmpIdeal m (brow m hO t) 1, h⟩ r j) := by
  unfold iblk
  refine (View.read_apply _ _).trans ?_
  show (V m c main_v5 : FVec Ideal S2560x8x8192 .f32) _ = _
  congr 1
  have e := mapCmpIdeal_1 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_1 k0_off2_inb numel1_S1x1 (tbl m) (grid0.coords t)) 0 * 1 + 1 * 0 = _
    rw [e]
    show pageCmpIdeal m (brow m hO t) 1 * 1 + 1 * 0 = pageCmpIdeal m (brow m hO t) 1
    omega
  | ⟨1, _⟩ =>
    apply Fin.ext
    show 0 * 8 + 1 * r.val = r.val
    omega
  | ⟨2, _⟩ =>
    apply Fin.ext
    show 0 * 8192 + 1 * j.val = j.val
    omega

theorem blk_2 (c : Dev nD) (t : Fin (cfgM m hO).N) (r : Fin 8) (j : Fin 8192) (h : pageCmpIdeal m (brow m hO t) 2 < 2560) :
    (iblk m hO c 2 t : FVec Ideal S1x8x8192 .f32) (ix3 0 r j) = (V m c main_v5 : FVec Ideal S2560x8x8192 .f32) (ix3 ⟨pageCmpIdeal m (brow m hO t) 2, h⟩ r j) := by
  unfold iblk
  refine (View.read_apply _ _).trans ?_
  show (V m c main_v5 : FVec Ideal S2560x8x8192 .f32) _ = _
  congr 1
  have e := mapCmpIdeal_2 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_2 k0_off3_inb numel1_S1x1 (tbl m) (grid0.coords t)) 0 * 1 + 1 * 0 = _
    rw [e]
    show pageCmpIdeal m (brow m hO t) 2 * 1 + 1 * 0 = pageCmpIdeal m (brow m hO t) 2
    omega
  | ⟨1, _⟩ =>
    apply Fin.ext
    show 0 * 8 + 1 * r.val = r.val
    omega
  | ⟨2, _⟩ =>
    apply Fin.ext
    show 0 * 8192 + 1 * j.val = j.val
    omega

theorem blk_3 (c : Dev nD) (t : Fin (cfgM m hO).N) (r : Fin 8) (j : Fin 8192) (h : pageCmpIdeal m (brow m hO t) 3 < 2560) :
    (iblk m hO c 3 t : FVec Ideal S1x8x8192 .f32) (ix3 0 r j) = (V m c main_v5 : FVec Ideal S2560x8x8192 .f32) (ix3 ⟨pageCmpIdeal m (brow m hO t) 3, h⟩ r j) := by
  unfold iblk
  refine (View.read_apply _ _).trans ?_
  show (V m c main_v5 : FVec Ideal S2560x8x8192 .f32) _ = _
  congr 1
  have e := mapCmpIdeal_3 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_3 k0_off4_inb numel1_S1x1 (tbl m) (grid0.coords t)) 0 * 1 + 1 * 0 = _
    rw [e]
    show pageCmpIdeal m (brow m hO t) 3 * 1 + 1 * 0 = pageCmpIdeal m (brow m hO t) 3
    omega
  | ⟨1, _⟩ =>
    apply Fin.ext
    show 0 * 8 + 1 * r.val = r.val
    omega
  | ⟨2, _⟩ =>
    apply Fin.ext
    show 0 * 8192 + 1 * j.val = j.val
    omega

theorem blk_4 (c : Dev nD) (t : Fin (cfgM m hO).N) (r : Fin 8) (j : Fin 8192) (h : pageCmpIdeal m (brow m hO t) 4 < 2560) :
    (iblk m hO c 4 t : FVec Ideal S1x8x8192 .f32) (ix3 0 r j) = (V m c main_v5 : FVec Ideal S2560x8x8192 .f32) (ix3 ⟨pageCmpIdeal m (brow m hO t) 4, h⟩ r j) := by
  unfold iblk
  refine (View.read_apply _ _).trans ?_
  show (V m c main_v5 : FVec Ideal S2560x8x8192 .f32) _ = _
  congr 1
  have e := mapCmpIdeal_4 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_4 k0_off5_inb numel1_S1x1 (tbl m) (grid0.coords t)) 0 * 1 + 1 * 0 = _
    rw [e]
    show pageCmpIdeal m (brow m hO t) 4 * 1 + 1 * 0 = pageCmpIdeal m (brow m hO t) 4
    omega
  | ⟨1, _⟩ =>
    apply Fin.ext
    show 0 * 8 + 1 * r.val = r.val
    omega
  | ⟨2, _⟩ =>
    apply Fin.ext
    show 0 * 8192 + 1 * j.val = j.val
    omega

theorem blk_5 (c : Dev nD) (t : Fin (cfgM m hO).N) (r : Fin 8) (j : Fin 8192) (h : pageCmpIdeal m (brow m hO t) 5 < 2560) :
    (iblk m hO c 5 t : FVec Ideal S1x8x8192 .f32) (ix3 0 r j) = (V m c main_v5 : FVec Ideal S2560x8x8192 .f32) (ix3 ⟨pageCmpIdeal m (brow m hO t) 5, h⟩ r j) := by
  unfold iblk
  refine (View.read_apply _ _).trans ?_
  show (V m c main_v5 : FVec Ideal S2560x8x8192 .f32) _ = _
  congr 1
  have e := mapCmpIdeal_5 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_5 k0_off6_inb numel1_S1x1 (tbl m) (grid0.coords t)) 0 * 1 + 1 * 0 = _
    rw [e]
    show pageCmpIdeal m (brow m hO t) 5 * 1 + 1 * 0 = pageCmpIdeal m (brow m hO t) 5
    omega
  | ⟨1, _⟩ =>
    apply Fin.ext
    show 0 * 8 + 1 * r.val = r.val
    omega
  | ⟨2, _⟩ =>
    apply Fin.ext
    show 0 * 8192 + 1 * j.val = j.val
    omega

theorem blk_6 (c : Dev nD) (t : Fin (cfgM m hO).N) (r : Fin 8) (j : Fin 8192) (h : pageCmpIdeal m (brow m hO t) 6 < 2560) :
    (iblk m hO c 6 t : FVec Ideal S1x8x8192 .f32) (ix3 0 r j) = (V m c main_v5 : FVec Ideal S2560x8x8192 .f32) (ix3 ⟨pageCmpIdeal m (brow m hO t) 6, h⟩ r j) := by
  unfold iblk
  refine (View.read_apply _ _).trans ?_
  show (V m c main_v5 : FVec Ideal S2560x8x8192 .f32) _ = _
  congr 1
  have e := mapCmpIdeal_6 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_6 k0_off7_inb numel1_S1x1 (tbl m) (grid0.coords t)) 0 * 1 + 1 * 0 = _
    rw [e]
    show pageCmpIdeal m (brow m hO t) 6 * 1 + 1 * 0 = pageCmpIdeal m (brow m hO t) 6
    omega
  | ⟨1, _⟩ =>
    apply Fin.ext
    show 0 * 8 + 1 * r.val = r.val
    omega
  | ⟨2, _⟩ =>
    apply Fin.ext
    show 0 * 8192 + 1 * j.val = j.val
    omega

theorem blk_7 (c : Dev nD) (t : Fin (cfgM m hO).N) (r : Fin 8) (j : Fin 8192) (h : pageCmpIdeal m (brow m hO t) 7 < 2560) :
    (iblk m hO c 7 t : FVec Ideal S1x8x8192 .f32) (ix3 0 r j) = (V m c main_v5 : FVec Ideal S2560x8x8192 .f32) (ix3 ⟨pageCmpIdeal m (brow m hO t) 7, h⟩ r j) := by
  unfold iblk
  refine (View.read_apply _ _).trans ?_
  show (V m c main_v5 : FVec Ideal S2560x8x8192 .f32) _ = _
  congr 1
  have e := mapCmpIdeal_7 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_7 k0_off8_inb numel1_S1x1 (tbl m) (grid0.coords t)) 0 * 1 + 1 * 0 = _
    rw [e]
    show pageCmpIdeal m (brow m hO t) 7 * 1 + 1 * 0 = pageCmpIdeal m (brow m hO t) 7
    omega
  | ⟨1, _⟩ =>
    apply Fin.ext
    show 0 * 8 + 1 * r.val = r.val
    omega
  | ⟨2, _⟩ =>
    apply Fin.ext
    show 0 * 8192 + 1 * j.val = j.val
    omega

theorem blk_8 (c : Dev nD) (t : Fin (cfgM m hO).N) (r : Fin 8) (j : Fin 8192) (h : pageCmpIdeal m (brow m hO t) 8 < 2560) :
    (iblk m hO c 8 t : FVec Ideal S1x8x8192 .f32) (ix3 0 r j) = (V m c main_v5 : FVec Ideal S2560x8x8192 .f32) (ix3 ⟨pageCmpIdeal m (brow m hO t) 8, h⟩ r j) := by
  unfold iblk
  refine (View.read_apply _ _).trans ?_
  show (V m c main_v5 : FVec Ideal S2560x8x8192 .f32) _ = _
  congr 1
  have e := mapCmpIdeal_8 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_8 k0_off9_inb numel1_S1x1 (tbl m) (grid0.coords t)) 0 * 1 + 1 * 0 = _
    rw [e]
    show pageCmpIdeal m (brow m hO t) 8 * 1 + 1 * 0 = pageCmpIdeal m (brow m hO t) 8
    omega
  | ⟨1, _⟩ =>
    apply Fin.ext
    show 0 * 8 + 1 * r.val = r.val
    omega
  | ⟨2, _⟩ =>
    apply Fin.ext
    show 0 * 8192 + 1 * j.val = j.val
    omega

theorem blk_9 (c : Dev nD) (t : Fin (cfgM m hO).N) (r : Fin 8) (j : Fin 8192) (h : pageCmpIdeal m (brow m hO t) 9 < 2560) :
    (iblk m hO c 9 t : FVec Ideal S1x8x8192 .f32) (ix3 0 r j) = (V m c main_v5 : FVec Ideal S2560x8x8192 .f32) (ix3 ⟨pageCmpIdeal m (brow m hO t) 9, h⟩ r j) := by
  unfold iblk
  refine (View.read_apply _ _).trans ?_
  show (V m c main_v5 : FVec Ideal S2560x8x8192 .f32) _ = _
  congr 1
  have e := mapCmpIdeal_9 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_9 k0_off10_inb numel1_S1x1 (tbl m) (grid0.coords t)) 0 * 1 + 1 * 0 = _
    rw [e]
    show pageCmpIdeal m (brow m hO t) 9 * 1 + 1 * 0 = pageCmpIdeal m (brow m hO t) 9
    omega
  | ⟨1, _⟩ =>
    apply Fin.ext
    show 0 * 8 + 1 * r.val = r.val
    omega
  | ⟨2, _⟩ =>
    apply Fin.ext
    show 0 * 8192 + 1 * j.val = j.val
    omega

theorem blk_10 (c : Dev nD) (t : Fin (cfgM m hO).N) (r : Fin 8) (j : Fin 8192) (h : pageCmpIdeal m (brow m hO t) 10 < 2560) :
    (iblk m hO c 10 t : FVec Ideal S1x8x8192 .f32) (ix3 0 r j) = (V m c main_v5 : FVec Ideal S2560x8x8192 .f32) (ix3 ⟨pageCmpIdeal m (brow m hO t) 10, h⟩ r j) := by
  unfold iblk
  refine (View.read_apply _ _).trans ?_
  show (V m c main_v5 : FVec Ideal S2560x8x8192 .f32) _ = _
  congr 1
  have e := mapCmpIdeal_10 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_10 k0_off11_inb numel1_S1x1 (tbl m) (grid0.coords t)) 0 * 1 + 1 * 0 = _
    rw [e]
    show pageCmpIdeal m (brow m hO t) 10 * 1 + 1 * 0 = pageCmpIdeal m (brow m hO t) 10
    omega
  | ⟨1, _⟩ =>
    apply Fin.ext
    show 0 * 8 + 1 * r.val = r.val
    omega
  | ⟨2, _⟩ =>
    apply Fin.ext
    show 0 * 8192 + 1 * j.val = j.val
    omega

theorem blk_11 (c : Dev nD) (t : Fin (cfgM m hO).N) (r : Fin 8) (j : Fin 8192) (h : pageCmpIdeal m (brow m hO t) 11 < 2560) :
    (iblk m hO c 11 t : FVec Ideal S1x8x8192 .f32) (ix3 0 r j) = (V m c main_v5 : FVec Ideal S2560x8x8192 .f32) (ix3 ⟨pageCmpIdeal m (brow m hO t) 11, h⟩ r j) := by
  unfold iblk
  refine (View.read_apply _ _).trans ?_
  show (V m c main_v5 : FVec Ideal S2560x8x8192 .f32) _ = _
  congr 1
  have e := mapCmpIdeal_11 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_11 k0_off12_inb numel1_S1x1 (tbl m) (grid0.coords t)) 0 * 1 + 1 * 0 = _
    rw [e]
    show pageCmpIdeal m (brow m hO t) 11 * 1 + 1 * 0 = pageCmpIdeal m (brow m hO t) 11
    omega
  | ⟨1, _⟩ =>
    apply Fin.ext
    show 0 * 8 + 1 * r.val = r.val
    omega
  | ⟨2, _⟩ =>
    apply Fin.ext
    show 0 * 8192 + 1 * j.val = j.val
    omega

theorem blk_12 (c : Dev nD) (t : Fin (cfgM m hO).N) (r : Fin 8) (j : Fin 8192) (h : pageCmpIdeal m (brow m hO t) 12 < 2560) :
    (iblk m hO c 12 t : FVec Ideal S1x8x8192 .f32) (ix3 0 r j) = (V m c main_v5 : FVec Ideal S2560x8x8192 .f32) (ix3 ⟨pageCmpIdeal m (brow m hO t) 12, h⟩ r j) := by
  unfold iblk
  refine (View.read_apply _ _).trans ?_
  show (V m c main_v5 : FVec Ideal S2560x8x8192 .f32) _ = _
  congr 1
  have e := mapCmpIdeal_12 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_12 k0_off13_inb numel1_S1x1 (tbl m) (grid0.coords t)) 0 * 1 + 1 * 0 = _
    rw [e]
    show pageCmpIdeal m (brow m hO t) 12 * 1 + 1 * 0 = pageCmpIdeal m (brow m hO t) 12
    omega
  | ⟨1, _⟩ =>
    apply Fin.ext
    show 0 * 8 + 1 * r.val = r.val
    omega
  | ⟨2, _⟩ =>
    apply Fin.ext
    show 0 * 8192 + 1 * j.val = j.val
    omega

theorem blk_13 (c : Dev nD) (t : Fin (cfgM m hO).N) (r : Fin 8) (j : Fin 8192) (h : pageCmpIdeal m (brow m hO t) 13 < 2560) :
    (iblk m hO c 13 t : FVec Ideal S1x8x8192 .f32) (ix3 0 r j) = (V m c main_v5 : FVec Ideal S2560x8x8192 .f32) (ix3 ⟨pageCmpIdeal m (brow m hO t) 13, h⟩ r j) := by
  unfold iblk
  refine (View.read_apply _ _).trans ?_
  show (V m c main_v5 : FVec Ideal S2560x8x8192 .f32) _ = _
  congr 1
  have e := mapCmpIdeal_13 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_13 k0_off14_inb numel1_S1x1 (tbl m) (grid0.coords t)) 0 * 1 + 1 * 0 = _
    rw [e]
    show pageCmpIdeal m (brow m hO t) 13 * 1 + 1 * 0 = pageCmpIdeal m (brow m hO t) 13
    omega
  | ⟨1, _⟩ =>
    apply Fin.ext
    show 0 * 8 + 1 * r.val = r.val
    omega
  | ⟨2, _⟩ =>
    apply Fin.ext
    show 0 * 8192 + 1 * j.val = j.val
    omega

theorem blk_14 (c : Dev nD) (t : Fin (cfgM m hO).N) (r : Fin 8) (j : Fin 8192) (h : pageCmpIdeal m (brow m hO t) 14 < 2560) :
    (iblk m hO c 14 t : FVec Ideal S1x8x8192 .f32) (ix3 0 r j) = (V m c main_v5 : FVec Ideal S2560x8x8192 .f32) (ix3 ⟨pageCmpIdeal m (brow m hO t) 14, h⟩ r j) := by
  unfold iblk
  refine (View.read_apply _ _).trans ?_
  show (V m c main_v5 : FVec Ideal S2560x8x8192 .f32) _ = _
  congr 1
  have e := mapCmpIdeal_14 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_14 k0_off15_inb numel1_S1x1 (tbl m) (grid0.coords t)) 0 * 1 + 1 * 0 = _
    rw [e]
    show pageCmpIdeal m (brow m hO t) 14 * 1 + 1 * 0 = pageCmpIdeal m (brow m hO t) 14
    omega
  | ⟨1, _⟩ =>
    apply Fin.ext
    show 0 * 8 + 1 * r.val = r.val
    omega
  | ⟨2, _⟩ =>
    apply Fin.ext
    show 0 * 8192 + 1 * j.val = j.val
    omega

theorem blk_15 (c : Dev nD) (t : Fin (cfgM m hO).N) (r : Fin 8) (j : Fin 8192) (h : pageCmpIdeal m (brow m hO t) 15 < 2560) :
    (iblk m hO c 15 t : FVec Ideal S1x8x8192 .f32) (ix3 0 r j) = (V m c main_v5 : FVec Ideal S2560x8x8192 .f32) (ix3 ⟨pageCmpIdeal m (brow m hO t) 15, h⟩ r j) := by
  unfold iblk
  refine (View.read_apply _ _).trans ?_
  show (V m c main_v5 : FVec Ideal S2560x8x8192 .f32) _ = _
  congr 1
  have e := mapCmpIdeal_15 m (grid0.coords t)
  have eb : (⟨(grid0.coords t 0).val, (grid0.coords t 0).isLt⟩ : Fin 128) = brow m hO t := Fin.ext (coord m hO t)
  rw [eb] at e
  funext a
  match a with
  | ⟨0, _⟩ =>
    apply Fin.ext
    show (cc0_transform_15 k0_off16_inb numel1_S1x1 (tbl m) (grid0.coords t)) 0 * 1 + 1 * 0 = _
    rw [e]
    show pageCmpIdeal m (brow m hO t) 15 * 1 + 1 * 0 = pageCmpIdeal m (brow m hO t) 15
    omega
  | ⟨1, _⟩ =>
    apply Fin.ext
    show 0 * 8 + 1 * r.val = r.val
    omega
  | ⟨2, _⟩ =>
    apply Fin.ext
    show 0 * 8192 + 1 * j.val = j.val
    omega

theorem blk_16 (c : Dev nD) (t : Fin (cfgM m hO).N) (a : Fin 2048) (b : Fin 256) :
    (iblk m hO c 16 t : FVec Ideal S2048x256 .bf16) (ix2 a b) = (V m c main_v3 : FVec Ideal S2048x256 .bf16) (ix2 a b) := by
  unfold iblk
  refine (View.read_apply _ _).trans ?_
  show (V m c main_v3 : FVec Ideal S2048x256 .bf16) _ = _
  congr 1
  apply Shape.idx_ext₂
  · show 0 * 2048 + 1 * a.val = a.val
    omega
  · show 0 * 256 + 1 * b.val = b.val
    omega

theorem blk_17 (c : Dev nD) (t : Fin (cfgM m hO).N) (a : Fin 1) (b : Fin 128) :
    (iblk m hO c 17 t : FVec Ideal S1x128 .f32) (ix2 a b) = (V m c main_v7 : FVec Ideal S1x128 .f32) (ix2 a b) := by
  unfold iblk
  refine (View.read_apply _ _).trans ?_
  show (V m c main_v7 : FVec Ideal S1x128 .f32) _ = _
  congr 1
  apply Shape.idx_ext₂
  · show 0 * 1 + 1 * a.val = a.val
    omega
  · show 0 * 128 + 1 * b.val = b.val
    omega

theorem blk_18 (c : Dev nD) (t : Fin (cfgM m hO).N) (a : Fin 128) (b : Fin 128) :
    (iblk m hO c 18 t : FVec Ideal S128x128 .bf16) (ix2 a b) = (V m c main_v4 : FVec Ideal S128x128 .bf16) (ix2 a b) := by
  unfold iblk
  refine (View.read_apply _ _).trans ?_
  show (V m c main_v4 : FVec Ideal S128x128 .bf16) _ = _
  congr 1
  apply Shape.idx_ext₂
  · show 0 * 128 + 1 * a.val = a.val
    omega
  · show 0 * 128 + 1 * b.val = b.val
    omega

theorem blk_19 (c : Dev nD) (t : Fin (cfgM m hO).N) (a : Fin 1) (b : Fin 128) :
    (iblk m hO c 19 t : FVec Ideal S1x128 .f32) (ix2 a b) = (V m c main_v8 : FVec Ideal S1x128 .f32) (ix2 a b) := by
  unfold iblk
  refine (View.read_apply _ _).trans ?_
  show (V m c main_v8 : FVec Ideal S1x128 .f32) _ = _
  congr 1
  apply Shape.idx_ext₂
  · show 0 * 1 + 1 * a.val = a.val
    omega
  · show 0 * 128 + 1 * b.val = b.val
    omega

/-- The sixteen page blocks of a grid point. -/
def pgsB (c : Dev nD) (t : Fin (cfgM m hO).N) : Fin 16 → Vec Ideal S1x8x8192 .f32 :=
  ![iblk m hO c 0 t, iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t]

theorem pgsB_apply (hP : Cert.Pre_CmpIdeal m) (c : Dev nD) (t : Fin (cfgM m hO).N) (k : Fin 16) (r : Fin 8) (j : Fin 8192) :
    pgsB m hO c t k (ix3 0 r j) = (V m c main_v5 : FVec Ideal S2560x8x8192 .f32) (ix3 ⟨pageCmpIdeal m (brow m hO t) k, page_ltCmpIdeal m hP _ _⟩ r j) := by
  match k with
  | ⟨0, _⟩ => exact blk_0 m hO c t r j (page_ltCmpIdeal m hP _ _)
  | ⟨1, _⟩ => exact blk_1 m hO c t r j (page_ltCmpIdeal m hP _ _)
  | ⟨2, _⟩ => exact blk_2 m hO c t r j (page_ltCmpIdeal m hP _ _)
  | ⟨3, _⟩ => exact blk_3 m hO c t r j (page_ltCmpIdeal m hP _ _)
  | ⟨4, _⟩ => exact blk_4 m hO c t r j (page_ltCmpIdeal m hP _ _)
  | ⟨5, _⟩ => exact blk_5 m hO c t r j (page_ltCmpIdeal m hP _ _)
  | ⟨6, _⟩ => exact blk_6 m hO c t r j (page_ltCmpIdeal m hP _ _)
  | ⟨7, _⟩ => exact blk_7 m hO c t r j (page_ltCmpIdeal m hP _ _)
  | ⟨8, _⟩ => exact blk_8 m hO c t r j (page_ltCmpIdeal m hP _ _)
  | ⟨9, _⟩ => exact blk_9 m hO c t r j (page_ltCmpIdeal m hP _ _)
  | ⟨10, _⟩ => exact blk_10 m hO c t r j (page_ltCmpIdeal m hP _ _)
  | ⟨11, _⟩ => exact blk_11 m hO c t r j (page_ltCmpIdeal m hP _ _)
  | ⟨12, _⟩ => exact blk_12 m hO c t r j (page_ltCmpIdeal m hP _ _)
  | ⟨13, _⟩ => exact blk_13 m hO c t r j (page_ltCmpIdeal m hP _ _)
  | ⟨14, _⟩ => exact blk_14 m hO c t r j (page_ltCmpIdeal m hP _ _)
  | ⟨15, _⟩ => exact blk_15 m hO c t r j (page_ltCmpIdeal m hP _ _)
  | ⟨n + 16, h⟩ => exact absurd h (by omega)

/-! ### What a grid point writes -/

/-- The hidden rows and the compressed rows of a grid point, head group under head group. -/
def preB (c : Dev nD) (t : Fin (cfgM m hO).N) : FVec Ideal S512x128 .f32 := pre (rows (pgsB m hO c t)) (iblk m hO c 16 t) (iblk m hO c 17 t)
def postB (c : Dev nD) (t : Fin (cfgM m hO).N) : FVec Ideal S512x128 .f32 := post (preB m hO c t) (iblk m hO c 18 t) (iblk m hO c 19 t)

/-- The body's value before the gelu, as the printed payloads spell it. -/
theorem hidden_eq (xs : Fin 16 → Vec Ideal S1x8x8192 .f32) (w : Vec Ideal S2048x256 .bf16) (b : Vec Ideal S1x128 .f32) :
    k0_pay24 (F := Ideal) (k0_pay17 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay18 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay19 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay20 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay21 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay22 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay23 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) w b = pre (rows xs) w b := rfl

theorem value_eq (xs : Fin 16 → Vec Ideal S1x8x8192 .f32) (w : Vec Ideal S2048x256 .bf16) (b : Vec Ideal S1x128 .f32) (w2 : Vec Ideal S128x128 .bf16) (b2 : Vec Ideal S1x128 .f32) :
    k0_pay1 (F := Ideal) (k0_pay25 (k0_pay17 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay18 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay19 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay20 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay21 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay22 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay23 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) w b)
      (k0_pay26 (k0_pay17 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay18 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay19 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay20 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay21 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay22 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) (k0_pay23 (k0_pay6 (xs 0)) (k0_pay7 (xs 1)) (k0_pay8 (xs 2)) (k0_pay9 (xs 3)) (k0_pay10 (xs 4)) (k0_pay11 (xs 5)) (k0_pay12 (xs 6)) (k0_pay13 (xs 7)) (k0_pay14 (xs 8)) (k0_pay15 (xs 9)) (k0_pay16 (xs 10)) (xs 11) (xs 12) (xs 13) (xs 14) (xs 15)) w b) k0_pay27 w2 b2 = post (pre (rows xs) w b) w2 b2 := by
  unfold k0_pay25 k0_pay26 CmpK.post
  simp only [hidden_eq]

theorem cut_0 (v115 v120 v121 : FVec Ideal S512x128 .f32) (w2 : Vec Ideal S128x128 .bf16) (b2 : Vec Ideal S1x128 .f32) (a e : Fin 128) :
    k0_pay2 (F := Ideal) v115 v120 v121 w2 b2 (ix3 0 a e) = k0_pay1 v115 v120 v121 w2 b2 (ix2 ⟨0 + a.val, by omega⟩ e) := by
  unfold k0_pay2
  generalize k0_pay1 v115 v120 v121 w2 b2 = M
  pointwise

theorem cut_1 (v115 v120 v121 : FVec Ideal S512x128 .f32) (w2 : Vec Ideal S128x128 .bf16) (b2 : Vec Ideal S1x128 .f32) (a e : Fin 128) :
    k0_pay3 (F := Ideal) v115 v120 v121 w2 b2 (ix3 0 a e) = k0_pay1 v115 v120 v121 w2 b2 (ix2 ⟨128 + a.val, by omega⟩ e) := by
  unfold k0_pay3
  generalize k0_pay1 v115 v120 v121 w2 b2 = M
  pointwise

theorem cut_2 (v115 v120 v121 : FVec Ideal S512x128 .f32) (w2 : Vec Ideal S128x128 .bf16) (b2 : Vec Ideal S1x128 .f32) (a e : Fin 128) :
    k0_pay4 (F := Ideal) v115 v120 v121 w2 b2 (ix3 0 a e) = k0_pay1 v115 v120 v121 w2 b2 (ix2 ⟨256 + a.val, by omega⟩ e) := by
  unfold k0_pay4
  generalize k0_pay1 v115 v120 v121 w2 b2 = M
  pointwise

theorem cut_3 (v115 v120 v121 : FVec Ideal S512x128 .f32) (w2 : Vec Ideal S128x128 .bf16) (b2 : Vec Ideal S1x128 .f32) (a e : Fin 128) :
    k0_pay5 (F := Ideal) v115 v120 v121 w2 b2 (ix3 0 a e) = k0_pay1 v115 v120 v121 w2 b2 (ix2 ⟨384 + a.val, by omega⟩ e) := by
  unfold k0_pay5
  generalize k0_pay1 v115 v120 v121 w2 b2 = M
  pointwise

theorem out_apply (c : Dev nD) (i : grid0.Coords) (arg2 : Memref sig .tc .vmem S1x8x8192 .f32) (harg2 : arg2.IsWhole) (arg3 : Memref sig .tc .vmem S1x8x8192 .f32) (harg3 : arg3.IsWhole) (arg4 : Memref sig .tc .vmem S1x8x8192 .f32) (harg4 : arg4.IsWhole) (arg5 : Memref sig .tc .vmem S1x8x8192 .f32) (harg5 : arg5.IsWhole) (arg6 : Memref sig .tc .vmem S1x8x8192 .f32) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x8192 .f32) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S1x8x8192 .f32) (harg14 : arg14.IsWhole) (arg15 : Memref sig .tc .vmem S1x8x8192 .f32) (harg15 : arg15.IsWhole) (arg16 : Memref sig .tc .vmem S1x8x8192 .f32) (harg16 : arg16.IsWhole) (arg17 : Memref sig .tc .vmem S1x8x8192 .f32) (harg17 : arg17.IsWhole) (arg18 : Memref sig .tc .vmem S2048x256 .bf16) (harg18 : arg18.IsWhole) (arg19 : Memref sig .tc .vmem S1x128 .f32) (harg19 : arg19.IsWhole) (arg20 : Memref sig .tc .vmem S128x128 .bf16) (harg20 : arg20.IsWhole) (arg21 : Memref sig .tc .vmem S1x128 .f32) (harg21 : arg21.IsWhole) (arg22 : Memref sig .tc .vmem S1x128x512 .bf16) (harg22 : arg22.IsWhole)
    (xs : Fin 16 → Vec Ideal S1x8x8192 .f32) (x16 : Vec Ideal S2048x256 .bf16) (x17 : Vec Ideal S1x128 .f32) (x18 : Vec Ideal S128x128 .bf16) (x19 : Vec Ideal S1x128 .f32) (xt0 : TbBuf0 (F := Ideal) c tbM0_0)
    (a : Fin 128) (b : Fin 512) :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (xs 0) (xs 1) (xs 2) (xs 3) (xs 4) (xs 5) (xs 6) (xs 7) (xs 8) (xs 9) (xs 10) (xs 11) (xs 12) (xs 13) (xs 14) (xs 15) x16 x17 x18 x19 xt0 (ix3 0 a b)
      = post (pre (rows xs) x16 x17) x18 x19 (ix2 ⟨b.val / 128 * 128 + a.val, by omega⟩ ⟨b.val % 128, by omega⟩) := by
  unfold out0_A_20
  rw [View.read_writes_eq_canon _ _ _ (cover0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (xs 0) (xs 1) (xs 2) (xs 3) (xs 4) (xs 5) (xs 6) (xs 7) (xs 8) (xs 9) (xs 10) (xs 11) (xs 12) (xs 13) (xs 14) (xs 15) x16 x17 x18 x19 xt0)]
  refine View.canon_eq_of_allAt _ _ _ (cover0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (xs 0) (xs 1) (xs 2) (xs 3) (xs 4) (xs 5) (xs 6) (xs 7) (xs 8) (xs 9) (xs 10) (xs 11) (xs 12) (xs 13) (xs 14) (xs 15) x16 x17 x18 x19 xt0 _) ?_
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x8x8192) hz3,
    View.ld_unit_zero (S := S2048x256) hz, View.ld_unit_zero (S := S1x128) hz, View.ld_unit_zero (S := S128x128) hz]
  have key : ∀ (g : Nat) (f : (⟨3, ![1, 128, 128]⟩ : Shape).Idx → Ideal .bf16) (hg : g < 4)
      (_ : ∀ a e : Fin 128, f (ix3 0 a e) = post (pre (rows xs) x16 x17) x18 x19 (ix2 ⟨128 * g + a.val, by omega⟩ e)),
      View.TileAt (S := S1x128x512) (Val := Elt Ideal) (e := .bf16) (ix3 0 a b) ![0, 0, 128 * g] ![1, 128, 128] f
        (post (pre (rows xs) x16 x17) x18 x19 (ix2 ⟨b.val / 128 * 128 + a.val, by omega⟩ ⟨b.val % 128, by omega⟩)) := by
    intro g f hg hf i hi
    obtain ⟨u, p, q, rfl⟩ : ∃ (u : Fin 1) (p q : Fin 128), i = ix3 u p q := ⟨i 0, i 1, i 2, eq_ix3 i⟩
    have h1 : a.val = 0 + p.val := hi 1
    have h2 : b.val = 128 * g + q.val := hi 2
    obtain rfl : u = 0 := Subsingleton.elim _ _
    rw [hf]
    congr 1
    apply Shape.idx_ext₂
    · show 128 * g + p.val = b.val / 128 * 128 + a.val
      omega
    · show q.val = b.val % 128
      omega
  exact View.allAt_cons_unit _ _ _ _ _ (key 3 _ (by decide) fun a e => (cut_3 _ _ _ _ _ a e).trans (congrFun (value_eq xs x16 x17 x18 x19) _)) <|
    View.allAt_cons_unit _ _ _ _ _ (key 2 _ (by decide) fun a e => (cut_2 _ _ _ _ _ a e).trans (congrFun (value_eq xs x16 x17 x18 x19) _)) <|
    View.allAt_cons_unit _ _ _ _ _ (key 1 _ (by decide) fun a e => (cut_1 _ _ _ _ _ a e).trans (congrFun (value_eq xs x16 x17 x18 x19) _)) <|
    View.allAt_cons_unit _ _ _ _ _ (key 0 _ (by decide) fun a e => (cut_0 _ _ _ _ _ a e).trans (congrFun (value_eq xs x16 x17 x18 x19) _)) <| View.allAt_nil _ _

theorem outs_apply (c : Dev nD) (t : Fin (cfgM m hO).N) (a : Fin 128) (b : Fin 512) :
    (outsAt0 m hO c t : FVec Ideal S1x128x512 .bf16) (ix3 0 a b) = postB m hO c t (ix2 ⟨b.val / 128 * 128 + a.val, by omega⟩ ⟨b.val % 128, by omega⟩) := by
  unfold outsAt0 postB preB
  exact out_apply c (grid0.coords t) _ _ _ _ _ _ _ _ _ _ _ _ _ _ _ _ _ _ _ _ _ _ _ _ _ _ _ _ _ _ _ _ _ _ _ _ _ _ _ _ _ _ (pgsB m hO c t) (iblk m hO c 16 t) (iblk m hO c 17 t) (iblk m hO c 18 t) (iblk m hO c 19 t) (tbl m 0) a b

end Cert.Proof.CmpV
-- ==== Proof.CmpR.lean ====
/-
  The reference of the compression, read at an index.
-/
module

public import proofs.«01_k».proof.Proof.CmpS
public import proofs.«01_k».proof.Proof.Gen.CmpRefIdeal.Run
public import proofs.«01_k».proof.Proof.Gen.CmpRefIdeal.Read

@[expose] public section

noncomputable section

namespace Cert.Proof.CmpR

open Idealize.ShloMosaic Idealize.ShloMosaic.TcCoe Idealize.SL.Sem
open Cert.CmpRefIdeal Cert.CmpRefIdeal.Gen Cert.CmpRefIdeal.Read
open Cert.Proof.CmpS
open scoped BigOperators

variable (x0 : FVec Ideal S2560x128x4x128 .f32) (x1 : IVec S128x16 32)

/-- The gather takes page `idx[b, k, 0]`, read signed and clamped into the pool. -/
theorem gather_apply (idx : IVec S128x16x1 32) (b : Fin 128) (k : Fin 16) (t : Fin 128) (g : Fin 4) (d : Fin 128) :
    Host.gather gather_S2560x128x4x128_S128x16x1_S128x16x128x4x128_234_0_n_n_0_2_11284128 x0 idx (ix5 b k t g d)
      = x0 (ix4 ⟨min (idx (ix3 b k 0)).toInt.toNat 2559, by omega⟩ t g d) := by
  unfold Host.gather
  congr 1
  funext a
  refine Fin.ext ?_
  generalize hG : gather_S2560x128x4x128_S128x16x1_S128x16x128x4x128_234_0_n_n_0_2_11284128 = G
  show G.start (ix5 b k t g d) idx a + G.batchCoord (ix5 b k t g d) a + G.offCoord (ix5 b k t g d) a = _
  subst hG
  rw [GatherDims.batchCoord_eq_zero _ _ _ (fun h => by cases h)]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 4) ∈ gather_S2560x128x4x128_S128x16x1_S128x16x128x4x128_234_0_n_n_0_2_11284128.startIndexMap from List.mem_singleton.mpr rfl)]
    have hsi : gather_S2560x128x4x128_S128x16x1_S128x16x128x4x128_234_0_n_n_0_2_11284128.siIdx (ix5 b k t g d)
        ⟨List.idxOf (0 : Fin 4) gather_S2560x128x4x128_S128x16x1_S128x16x128x4x128_234_0_n_n_0_2_11284128.startIndexMap,
          List.idxOf_lt_length_iff.2 (List.mem_singleton.mpr rfl)⟩ = ix3 b k 0 := by
      funext e
      refine Fin.ext ?_
      match e with
      | ⟨0, _⟩ => rfl
      | ⟨1, _⟩ => rfl
      | ⟨2, _⟩ => rfl
    rw [hsi]
    rfl
  · unfold GatherDims.start
    rw [dif_neg (show ¬ ((1 : Fin 4) ∈ gather_S2560x128x4x128_S128x16x1_S128x16x128x4x128_234_0_n_n_0_2_11284128.startIndexMap) from fun h => absurd (List.mem_singleton.mp h) (by decide))]
    show 0 + 0 + t.val = t.val
    omega
  · unfold GatherDims.start
    rw [dif_neg (show ¬ ((2 : Fin 4) ∈ gather_S2560x128x4x128_S128x16x1_S128x16x128x4x128_234_0_n_n_0_2_11284128.startIndexMap) from fun h => absurd (List.mem_singleton.mp h) (by decide))]
    show 0 + 0 + g.val = g.val
    omega
  · unfold GatherDims.start
    rw [dif_neg (show ¬ ((3 : Fin 4) ∈ gather_S2560x128x4x128_S128x16x1_S128x16x128x4x128_234_0_n_n_0_2_11284128.startIndexMap) from fun h => absurd (List.mem_singleton.mp h) (by decide))]
    show 0 + 0 + d.val = d.val
    omega

/-- An entry of the table that names a page is the index as the gather takes it. -/
theorem idx_apply (b : Fin 128) (k : Fin 16) (h : 0 ≤ (x1 (ix2 b k)).toInt) : val_main_v5 (F := Ideal) x1 (ix3 b k 0) = x1 (ix2 b k) := by
  rw [val_main_v5_apply]
  have e : idx_main_v5 (ix3 b k 0) = ix2 b k := by
    funext a
    match a with
    | ⟨0, _⟩ => rfl
    | ⟨1, _⟩ => rfl
  rw [e, val_main_v4_apply, val_main_v1_apply, val_main_v0_apply, val_main_c_apply]
  have : IntOp.cmpi .slt (x1 (ix2 b k)) 0#32 = 0#1 := by
    have e0 : (0#32 : BitVec 32).toInt = 0 := by decide
    simp only [IntOp.cmpi, BitVec.slt, e0]
    rw [decide_eq_false (by omega)]
    rfl
  rw [this]
  rfl

variable (hp : ∀ b k, 0 ≤ (x1 (ix2 b k)).toInt ∧ (x1 (ix2 b k)).toNat < 2560)

include hp

theorem page_apply (b : Fin 128) (k : Fin 16) (t : Fin 128) (g : Fin 4) (d : Fin 128) :
    val_main_v6 (F := Ideal) x0 x1 (ix5 b k t g d) = x0 (ix4 ⟨(x1 (ix2 b k)).toNat % 2560, by omega⟩ t g d) := by
  unfold val_main_v6
  rw [gather_apply]
  simp only [idx_apply x1 b k (hp b k).1]
  congr 2
  have h := hp b k
  have := BitVec.toInt_eq_toNat_cond (x1 (ix2 b k))
  apply Fin.ext
  show min (x1 (ix2 b k)).toInt.toNat 2559 = (x1 (ix2 b k)).toNat % 2560
  split_ifs at this <;> omega

/-- The table's pages as numbers. -/
def pgs (x1 : IVec S128x16 32) (b : Fin 128) (k : Fin 16) : Nat := (x1 (ix2 b k)).toNat

theorem chunk_apply (b c : Fin 128) (g : Fin 4) (f : Fin 2048) : val_main_v10 (F := Ideal) x0 x1 (ix4 b c g f) = chunk x0 (pgs x1) b c g f := by
  have e10 : idx_main_v10 (ix4 b c g f) = ix5 b c g ⟨f.val / 128, by omega⟩ ⟨f.val % 128, by omega⟩ := by
    funext a
    apply Fin.ext
    match a with
    | ⟨0, _⟩ =>
      show (((b.val * 128 + c.val) * 4 + g.val) * 2048 + f.val) / 1048576 = b.val
      omega
    | ⟨1, _⟩ =>
      show (((b.val * 128 + c.val) * 4 + g.val) * 2048 + f.val) / 8192 % 128 = c.val
      omega
    | ⟨2, _⟩ =>
      show (((b.val * 128 + c.val) * 4 + g.val) * 2048 + f.val) / 2048 % 4 = g.val
      omega
    | ⟨3, _⟩ =>
      show (((b.val * 128 + c.val) * 4 + g.val) * 2048 + f.val) / 128 % 16 = f.val / 128
      omega
    | ⟨4, _⟩ =>
      show (((b.val * 128 + c.val) * 4 + g.val) * 2048 + f.val) % 128 = f.val % 128
      omega
  have e9 (p : Fin 16) (d : Fin 128) : idx_main_v9 (ix5 b c g p d) = ix5 b c p g d := by
    funext a
    apply Fin.ext
    match a with
    | ⟨0, _⟩ => rfl
    | ⟨1, _⟩ => rfl
    | ⟨2, _⟩ => rfl
    | ⟨3, _⟩ => rfl
    | ⟨4, _⟩ => rfl
  have e8 (p : Fin 16) (d : Fin 128) : idx_main_v8 (ix5 b c p g d) = ix4 b ⟨c.val * 16 + p.val, by omega⟩ g d := by
    funext a
    apply Fin.ext
    match a with
    | ⟨0, _⟩ =>
      show ((((b.val * 128 + c.val) * 16 + p.val) * 4 + g.val) * 128 + d.val) / 1048576 = b.val
      omega
    | ⟨1, _⟩ =>
      show ((((b.val * 128 + c.val) * 16 + p.val) * 4 + g.val) * 128 + d.val) / 512 % 2048 = c.val * 16 + p.val
      omega
    | ⟨2, _⟩ =>
      show ((((b.val * 128 + c.val) * 16 + p.val) * 4 + g.val) * 128 + d.val) / 128 % 4 = g.val
      omega
    | ⟨3, _⟩ =>
      show ((((b.val * 128 + c.val) * 16 + p.val) * 4 + g.val) * 128 + d.val) % 128 = d.val
      omega
  have e7 (u : Fin 2048) (d : Fin 128) : idx_main_v7 (ix4 b u g d) = ix5 b ⟨u.val / 128, by omega⟩ ⟨u.val % 128, by omega⟩ g d := by
    funext a
    apply Fin.ext
    match a with
    | ⟨0, _⟩ =>
      show (((b.val * 2048 + u.val) * 4 + g.val) * 128 + d.val) / 1048576 = b.val
      omega
    | ⟨1, _⟩ =>
      show (((b.val * 2048 + u.val) * 4 + g.val) * 128 + d.val) / 65536 % 16 = u.val / 128
      omega
    | ⟨2, _⟩ =>
      show (((b.val * 2048 + u.val) * 4 + g.val) * 128 + d.val) / 512 % 128 = u.val % 128
      omega
    | ⟨3, _⟩ =>
      show (((b.val * 2048 + u.val) * 4 + g.val) * 128 + d.val) / 128 % 4 = g.val
      omega
    | ⟨4, _⟩ =>
      show (((b.val * 2048 + u.val) * 4 + g.val) * 128 + d.val) % 128 = d.val
      omega
  rw [val_main_v10_apply, e10, val_main_v9_apply, e9, val_main_v8_apply, e8, val_main_v7_apply, e7, page_apply x0 x1 hp]
  unfold chunk pgs
  have h1 : (⟨(c.val * 16 + f.val / 128) / 128, by omega⟩ : Fin 16) = ⟨c.val / 8, by omega⟩ := Fin.ext (by show (c.val * 16 + f.val / 128) / 128 = c.val / 8; omega)
  have h2 : (⟨(c.val * 16 + f.val / 128) % 128, by omega⟩ : Fin 128) = ⟨c.val % 8 * 16 + f.val / 128, by omega⟩ :=
    Fin.ext (by show (c.val * 16 + f.val / 128) % 128 = c.val % 8 * 16 + f.val / 128; omega)
  simp only [h1, h2]

theorem nxt_apply (b c : Fin 128) (g : Fin 4) (f : Fin 2048) : val_main_v15 (F := Ideal) x0 x1 (ix4 b c g f) = nxt x0 (pgs x1) b c g f := by
  unfold nxt
  simp only [← chunk_apply x0 x1 hp]
  unfold val_main_v15 val_main_v14 val_main_call0_v0 val_main_call0_v1 val_main_v12 val_main_v13
  generalize val_main_v10 (F := Ideal) x0 x1 = X
  pointwise
  by_cases h : c.val < 127
  · rw [dif_pos h, dif_pos h]
    simp only [Nat.add_comm 1 c.val]
  · rw [dif_neg h, dif_neg h]
    have hc : (⟨c.val - 127, by omega⟩ : Fin 128) = 0 := Fin.ext (by show c.val - 127 = 0; omega)
    by_cases h3 : g.val < 3
    · rw [dif_pos h3]
      have hg : (⟨1 + g.val, by omega⟩ : Fin 4) = ⟨(g.val + 1) % 4, by omega⟩ := Fin.ext (by show 1 + g.val = (g.val + 1) % 4; omega)
      simp only [hc, hg]
    · rw [dif_neg h3]
      have hg : (⟨g.val - 3, by omega⟩ : Fin 4) = ⟨(g.val + 1) % 4, by omega⟩ := Fin.ext (by show g.val - 3 = (g.val + 1) % 4; omega)
      simp only [hc, hg]

variable (x2 : FVec Ideal S1x128 .f32) (x3 : FVec Ideal S4096x128 .f32) (x4 : FVec Ideal S128 .f32) (x5 : FVec Ideal S128x128 .f32) (x6 : FVec Ideal S128 .f32)

theorem hid_apply (b c : Fin 128) (g : Fin 4) (e : Fin 128) :
    val_main_v27 (F := Ideal) x0 x1 x2 x3 x4 (ix4 b c g e) = hid x0 (pgs x1) x3 (fun e => x2 (ix2 0 e) + x4 (ix1 e)) b c g e := by
  unfold hid
  have hX := chunk_apply x0 x1 hp
  have hY := nxt_apply x0 x1 hp
  simp only [← hX, ← hY]
  unfold val_main_v27 val_main_v26 val_main_v25 val_main_v24 val_main_v23 val_main_v22 val_main_v21 val_main_v20 val_main_v19 val_main_v18 val_main_v17 val_main_v16 val_main_v11
  generalize val_main_v10 (F := Ideal) x0 x1 = X
  generalize val_main_v15 (F := Ideal) x0 x1 = Y
  pointwise [dot_S128x128x4x2048_S2048x128_S128x128x4x128_3_0_012_1_n_n]

omit hp in
theorem gelu_apply (i : S128x128x4x128.Idx) :
    val_main_v40 (F := Ideal) x0 x1 x2 x3 x4 i = Cert.Proof.CmpK.gl (val_main_v27 (F := Ideal) x0 x1 x2 x3 x4 i) := by
  rw [val_main_v40_apply, val_main_v39_apply, val_main_v38_apply, val_main_cst_3_apply, val_main_v37_apply, val_main_v36_apply, val_main_cst_2_apply, val_main_v35_apply,
    val_main_v34_apply, val_main_v33_apply, val_main_cst_1_apply, val_main_v32_apply, val_main_v31_apply, val_main_v30_apply, val_main_cst_apply, val_main_v29_apply, val_main_v28_apply]
  generalize val_main_v27 (F := Ideal) x0 x1 x2 x3 x4 i = x
  unfold Cert.Proof.CmpK.gl
  show (x : EReal) * (Ideal.ofBits .f32 0x3F000000#32 * (Ideal.ofBits .f32 0x3F800000#32 + Ideal.tanh (Ideal.ofBits .f32 0x3F4C422A#32
    * (x + Ideal.ofBits .f32 0x3D372713#32 * (x * x * x))))) = _
  rw [← mul_assoc, mul_comm x]

theorem out_apply (b c : Fin 128) (j : Fin 512) :
    val_main_v46 (F := Ideal) x0 x1 x2 x3 x4 x5 x6 (ix3 b c j)
      = outv x0 (pgs x1) x3 (fun e => x2 (ix2 0 e) + x4 (ix1 e)) x5 (fun e => x6 (ix1 e)) b c ⟨j.val / 128, by omega⟩ ⟨j.val % 128, by omega⟩ := by
  unfold outv
  simp only [← hid_apply x0 x1 hp x2 x3 x4, ← gelu_apply x0 x1 x2 x3 x4]
  unfold val_main_v46 val_main_v45 val_main_v44 val_main_v43 val_main_v42 val_main_v41
  generalize val_main_v40 (F := Ideal) x0 x1 x2 x3 x4 = X
  pointwise [dot_S128x128x4x128_S128x128_S128x128x4x128_3_0_012_1_n_n]

end Cert.Proof.CmpR
-- ==== Proof.CmpF.lean ====
/-
  The compression call's array after the run: every block is the reference's, and the blocks cover the array.
-/
module

public import proofs.«01_k».proof.Proof.CmpV
public import proofs.«01_k».proof.Proof.CmpR

@[expose] public section

noncomputable section

namespace Cert.Proof.CmpF

open Idealize.ShloMosaic Idealize.ShloMosaic.TcCoe Idealize.SL.Sem
open Idealize.ShloMosaic.Pipeline (Dat)
open Cert.CmpIdeal Cert.CmpIdeal.Gen Cert.Proof.CmpK Cert.Proof.CmpS Cert.Proof.CmpOk Cert.Proof.CmpV
open Cert.Proof.CmpR (pgs)
open scoped BigOperators

variable (m : (ℓ : Loc nD τ sig) → Buf (Elt Ideal) ℓ) (hP : Cert.Pre_CmpIdeal m)

/-- The bias of the hidden layer. -/
abbrev bias (c : Dev nD) (e : Fin 128) : EReal := a2 m c (ix2 0 e) + a4 m c (ix1 e)
/-- The bias of the compressed key. -/
abbrev bias2 (c : Dev nD) (e : Fin 128) : EReal := a6 m c (ix1 e)
/-- The table's pages. -/
abbrev tab (c : Dev nD) : Fin 128 → Fin 16 → Nat := pgs (a1 m c)

/-- A row of the stacked chunks, in the cache. -/
theorem row_chunk (c : Dev nD) (t : Fin (cfgM m (okCmpIdeal m hP)).N) (r : Fin 128) (g : Fin 4) (f : Fin 2048) :
    rows (pgsB m (okCmpIdeal m hP) c t) (ix2 r (col g f)) = chunk (a0 m c) (tab m c) (brow m (okCmpIdeal m hP) t) r g f := by
  rw [rows_apply, pgsB_apply m _ hP, v5_apply]
  unfold chunk col
  obtain rfl : c = 0 := Subsingleton.elim _ _
  have hp := page_ltCmpIdeal m hP (brow m (okCmpIdeal m hP) t) ⟨r.val / 8, by omega⟩
  have e0 : (⟨pageCmpIdeal m (brow m (okCmpIdeal m hP) t) ⟨r.val / 8, by omega⟩, hp⟩ : Fin 2560)
      = ⟨tab m 0 (brow m (okCmpIdeal m hP) t) ⟨r.val / 8, by omega⟩ % 2560, by omega⟩ := Fin.ext (Nat.mod_eq_of_lt hp).symm
  rw [e0]
  congr 1
  funext a
  match a with
  | ⟨0, _⟩ => rfl
  | ⟨1, _⟩ =>
    apply Fin.ext
    show (r.val % 8 * 8192 + (f.val / 128 * 512 + g.val * 128 + f.val % 128)) / 512 = r.val % 8 * 16 + f.val / 128
    omega
  | ⟨2, _⟩ =>
    apply Fin.ext
    show (f.val / 128 * 512 + g.val * 128 + f.val % 128) / 128 % 4 = g.val
    omega
  | ⟨3, _⟩ =>
    apply Fin.ext
    show (f.val / 128 * 512 + g.val * 128 + f.val % 128) % 128 = f.val % 128
    omega

/-- The hidden layer, given the blocks of the weights and the bias. -/
theorem pre_gen (c : Dev nD) (t : Fin (cfgM m (okCmpIdeal m hP)).N) (w : Vec Ideal S2048x256 .bf16) (bb : Vec Ideal S1x128 .f32)
    (h1 : ∀ (f : Fin 2048) (e : Fin 128), w (ix2 f ⟨e.val, by omega⟩) = a3 m c (ix2 ⟨f.val, by omega⟩ e))
    (h2 : ∀ (f : Fin 2048) (e : Fin 128), w (ix2 f ⟨128 + e.val, by omega⟩) = a3 m c (ix2 ⟨2048 + f.val, by omega⟩ e))
    (hb : ∀ e : Fin 128, bb (ix2 0 e) = bias m c e) (r : Fin 128) (g : Fin 4) (k : Fin 128) :
    CmpK.pre (rows (pgsB m (okCmpIdeal m hP) c t)) w bb (ix2 ⟨g.val * 128 + r.val, by omega⟩ k)
      = hid (a0 m c) (tab m c) (a3 m c) (bias m c) (brow m (okCmpIdeal m hP) t) r g k := by
  unfold hid
  have e1 : (⟨(g.val * 128 + r.val) % 128, by omega⟩ : Fin 128) = r := Fin.ext (by show (g.val * 128 + r.val) % 128 = r.val; omega)
  have e2 : (⟨(g.val * 128 + r.val) / 128, by omega⟩ : Fin 4) = g := Fin.ext (by show (g.val * 128 + r.val) / 128 = g.val; omega)
  rw [pre_apply, mm_apply, mm_apply, hb]
  simp only [e1, e2, h1, h2, row_chunk m hP]
  congr 2
  refine Finset.sum_congr rfl fun f _ => ?_
  congr 1
  unfold nxt
  by_cases h : r.val < 127
  · rw [dif_pos h]
    congr 1
    · exact Fin.ext (by show (g.val * 128 + r.val + 1) % 512 % 128 = r.val + 1; omega)
    · exact Fin.ext (by show (g.val * 128 + r.val + 1) % 512 / 128 = g.val; omega)
  · rw [dif_neg h]
    congr 1
    · exact Fin.ext (by show (g.val * 128 + r.val + 1) % 512 % 128 = 0; omega)
    · exact Fin.ext (by show (g.val * 128 + r.val + 1) % 512 / 128 = (g.val + 1) % 4; omega)

theorem pre_val (c : Dev nD) (t : Fin (cfgM m (okCmpIdeal m hP)).N) (r : Fin 128) (g : Fin 4) (k : Fin 128) :
    preB m (okCmpIdeal m hP) c t (ix2 ⟨g.val * 128 + r.val, by omega⟩ k)
      = hid (a0 m c) (tab m c) (a3 m c) (bias m c) (brow m (okCmpIdeal m hP) t) r g k :=
  pre_gen m hP c t _ _ (fun f e => (blk_16 m _ c t _ _).trans (v3_lo m c f e)) (fun f e => (blk_16 m _ c t _ _).trans (v3_hi m c f e))
    (fun e => (blk_17 m _ c t _ _).trans (v7_apply m c e)) r g k

theorem post_gen (c : Dev nD) (t : Fin (cfgM m (okCmpIdeal m hP)).N) (w : Vec Ideal S128x128 .bf16) (bb : Vec Ideal S1x128 .f32)
    (h1 : ∀ k e : Fin 128, w (ix2 k e) = a5 m c (ix2 k e)) (hb : ∀ e : Fin 128, bb (ix2 0 e) = bias2 m c e) (r : Fin 128) (g : Fin 4) (e : Fin 128) :
    CmpK.post (preB m (okCmpIdeal m hP) c t) w bb (ix2 ⟨g.val * 128 + r.val, by omega⟩ e)
      = outv (a0 m c) (tab m c) (a3 m c) (bias m c) (a5 m c) (bias2 m c) (brow m (okCmpIdeal m hP) t) r g e := by
  unfold outv
  rw [post_apply, hb]
  simp only [pre_val m hP, h1]

theorem post_val (c : Dev nD) (t : Fin (cfgM m (okCmpIdeal m hP)).N) (r : Fin 128) (g : Fin 4) (e : Fin 128) :
    postB m (okCmpIdeal m hP) c t (ix2 ⟨g.val * 128 + r.val, by omega⟩ e)
      = outv (a0 m c) (tab m c) (a3 m c) (bias m c) (a5 m c) (bias2 m c) (brow m (okCmpIdeal m hP) t) r g e :=
  post_gen m hP c t _ _ (fun k e => (blk_18 m _ c t _ _).trans (v4_apply m c k e)) (fun e => (blk_19 m _ c t _ _).trans (v8_apply m c e)) r g e

/-- The reference's result on the arguments. -/
abbrev G (c : Dev nD) : FVec Ideal S128x128x512 .bf16 :=
  Cert.CmpRefIdeal.Read.val_main_v46 (F := Ideal) (a0 m c) (a1 m c) (a2 m c) (a3 m c) (a4 m c) (a5 m c) (a6 m c)

include hP in
theorem ok_words (c : Dev nD) (b : Fin 128) (k : Fin 16) : 0 ≤ (a1 m c (ix2 b k)).toInt ∧ (a1 m c (ix2 b k)).toNat < 2560 := by
  obtain rfl : c = 0 := Subsingleton.elim _ _
  exact word_in_pool (hP 0) (ix2 b k)

theorem flushed_eq (c : Dev nD) (t : Fin (cfgM m (okCmpIdeal m hP)).N) :
    (dats m (okCmpIdeal m hP) 0 c).flushed 20 t = (((cfgM m (okCmpIdeal m hP)).win 20).blk t).view.read (Elt Ideal) (G m c) := by
  have e1 : (dats m (okCmpIdeal m hP) 0 c).flushed 20 t
      = ((cfgM m (okCmpIdeal m hP)).win 20).cut (grid0.coords t) (outsAt0 m (okCmpIdeal m hP) c t) := by
    show ((cfgM m (okCmpIdeal m hP)).win 20).cut (grid0.coords t) ((dats m (okCmpIdeal m hP) 0 c).after 20 t) = _
    rw [after0_20]
  rw [e1]
  refine funext fun (j : S1x128x512.Idx) => ?_
  refine Eq.trans ?_ (View.read_apply _ _).symm
  obtain ⟨u, a, b, rfl⟩ : ∃ (u : Fin 1) (a : Fin 128) (b : Fin 512), j = ix3 u a b := ⟨j 0, j 1, j 2, eq_ix3 j⟩
  obtain rfl : u = 0 := Subsingleton.elim _ _
  have e : (((cfgM m (okCmpIdeal m hP)).win 20).blk t).view.emb (ix3 0 a b) = (ix3 (brow m (okCmpIdeal m hP) t) a b : S128x128x512.Idx) := by
    have h := coord m (okCmpIdeal m hP) t
    have ht : t.val < 128 := t.isLt
    funext x
    match x with
    | ⟨0, _⟩ =>
      apply Fin.ext
      show (BitVec.ofNat 32 (grid0.coords t 0).val).toNat * 1 + 1 * 0 = t.val
      rw [h, BitVec.toNat_ofNat]
      omega
    | ⟨1, _⟩ =>
      apply Fin.ext
      show 0 * 128 + 1 * a.val = a.val
      omega
    | ⟨2, _⟩ =>
      apply Fin.ext
      show 0 * 512 + 1 * b.val = b.val
      omega
  show (outsAt0 m (okCmpIdeal m hP) c t : FVec Ideal S1x128x512 .bf16) (ix3 0 a b) = G m c ((((cfgM m (okCmpIdeal m hP)).win 20).blk t).view.emb (ix3 0 a b))
  rw [e, outs_apply]
  refine (post_val m hP c t a ⟨b.val / 128, by omega⟩ ⟨b.val % 128, by omega⟩).trans ?_
  exact (Cert.Proof.CmpR.out_apply (a0 m c) (a1 m c) (ok_words m hP c) (a2 m c) (a3 m c) (a4 m c) (a5 m c) (a6 m c) (brow m (okCmpIdeal m hP) t) a b).symm

theorem cover (i : S128x128x512.Idx) : ∃ t : Fin (cfgM m (okCmpIdeal m hP)).N, ((cfgM m (okCmpIdeal m hP)).win 20).flush t = true
    ∧ i ∈ (((cfgM m (okCmpIdeal m hP)).win 20).blk t).view.set := by
  have h0 : (i 0 : Nat) < 128 := (i 0).isLt
  have h1 : (i 1 : Nat) < 128 := (i 1).isLt
  have h2 : (i 2 : Nat) < 512 := (i 2).isLt
  have hN : (i 0 : Nat) < (cfgM m (okCmpIdeal m hP)).N := h0
  refine ⟨⟨(i 0 : Nat), hN⟩, flush0_20 _ _, ?_⟩
  have h := coord m (okCmpIdeal m hP) ⟨(i 0 : Nat), hN⟩
  show i ∈ ((View.whole main_v9).slice (((cfgM m (okCmpIdeal m hP)).win 20).rect ⟨(i 0 : Nat), hN⟩)).set
  have hR : ∀ R : Rect main_v9.ty.shape, i ∈ R.set → i ∈ ((View.whole main_v9).slice R).set := fun R hi => by
    rw [View.set_slice_whole]
    exact hi
  refine hR _ (Rect.mem_set_unit.mpr ?_)
  intro a
  match a with
  | ⟨0, _⟩ =>
    show (BitVec.ofNat 32 (grid0.coords ⟨(i 0 : Nat), hN⟩ 0).val).toNat * 1 ≤ (i 0 : Nat)
      ∧ (i 0 : Nat) < (BitVec.ofNat 32 (grid0.coords ⟨(i 0 : Nat), hN⟩ 0).val).toNat * 1 + 1
    rw [h, BitVec.toNat_ofNat]
    show (i 0 : Nat) % 2 ^ 32 * 1 ≤ (i 0 : Nat) ∧ (i 0 : Nat) < (i 0 : Nat) % 2 ^ 32 * 1 + 1
    omega
  | ⟨1, _⟩ =>
    show 0 * 128 ≤ (i 1 : Nat) ∧ (i 1 : Nat) < 0 * 128 + 128
    omega
  | ⟨2, _⟩ =>
    show 0 * 512 ≤ (i 2 : Nat) ∧ (i 2 : Nat) < 0 * 512 + 512
    omega

theorem final (c : Dev nD) : (dats m (okCmpIdeal m hP) 0 c).arrAt 20 (cfgM m (okCmpIdeal m hP)).N = G m c :=
  (dats m (okCmpIdeal m hP) 0 c).arrAt_eq_of_cover 20 (G m c) (fun t _ => flushed_eq m hP c t) (cover m hP)

include hP in
/-- The run: the compressed keys are the reference's, the arguments are unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 20).trans (final m hP c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩)
    (run_main m ρ (okCmpIdeal m hP))

end Cert.Proof.CmpF
-- ==== Proof.CmpClaims.lean ====
/-
  The claims of the compression call: the reference runs and leaves its arguments alone, and the compressed keys are the reference's.
-/
module

public import proofs.«01_k».proof.Defs
public import proofs.«01_k».proof.Proof.CmpF
public import Idealize.ShloMosaic.Lib.Quiescent

@[expose] public section

noncomputable section

namespace Cert.Proof

open Idealize.ShloMosaic Idealize.ShloMosaic.TcCoe Idealize.SL.Sem

theorem frame_CmpRef (m : (ℓ : Loc Cert.CmpRefIdeal.nD Cert.CmpRefIdeal.τ Cert.CmpRefIdeal.sig) → Buf (Elt Ideal) ℓ) (ρ : Dev Cert.CmpRefIdeal.nD → PrngReg) :
    θ_run (Cert.CmpRefIdeal.defs (F := Ideal)) (onTc (τ := Cert.CmpRefIdeal.τ) (Cert.CmpRefIdeal.main (F := Ideal))) ⟨m, fun _ => 0, ρ⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0) :=
  (θ_run _ _ _).mono (fun r h => ⟨fun c => (h c).2, sem_eq_zero_of_no_sems (by decide) r.2⟩) (Cert.CmpRefIdeal.Value.run m ρ)

theorem algebraic_Cmp : Cert.algebraic_CmpIdeal_CmpRefIdeal (hCmpIdeal := Cert.CmpIdeal.Gen.facts) (hCmpRefIdeal := Cert.CmpRefIdeal.Gen.facts)
    (hPre_pages_in_pool := Cert.Pre_pages_in_pool.Gen.facts) := by
  intro m ρ m' ρ' hP hag
  refine ⟨fun c => CmpF.G m c, CmpF.run m hP ρ, (θ_run _ _ _).mono (fun _ h c => ?_) (Cert.CmpRefIdeal.Value.run (F := Ideal) m' ρ')⟩
  obtain ⟨a0, a1, a2, a3, a4, a5, a6⟩ := hag c
  refine ⟨((h c).1).trans ?_, (h c).2⟩
  refine (Cert.CmpRefIdeal.Read.val_main_v46_eq m' c).trans ?_
  rw [a0, a1, a2, a3, a4, a5, a6]
  rfl

end Cert.Proof
-- ==== Proof.Step.lean ====
/-
  Running a kernel body a few operations at a time. A body of many parts is walked with one resource `R`
  (everything the core holds) and, for each memref, one fact: `R` gives the memref out at contents of which
  something is known, and takes it back at contents of which something is known (`Acc`). `Tri R p Φ R'` says
  that `p`, begun with `R`, ends with `R'` and a value that meets `Φ`; nothing of the values that do not matter
  is written down, so what is proved of a part stays as short as the part.
-/
module

public import Idealize.ShloMosaic.Lib.Pipeline.FrameBody
public import Idealize.ShloMosaic.Lib.Pipeline.Kit
public import Idealize.ShloMosaic.Lib.MemrefSat
public import Idealize.ShloMosaic.Lib.Tactic

@[expose] public section

noncomputable section

namespace Cert.Step

open Idealize.ShloMosaic Idealize.ShloMosaic.TcCoe Idealize.ShloMosaic.Tactic
open Idealize.SL Idealize.SL.RA
open Idealize.SL.BI (sProp bigSep bigSep_univ_split bigSep_mono)
open scoped Idealize.SL.BI
open Idealize.SL.BI.BIBase Idealize.SL.BI.Laws Idealize.SL.ProofMode Idealize.SL.Sem

variable {nD : Nat} {τ : Topo} {sig : RefSig} {Val : EltTy → Type}
variable {Λ : Labels} {defs : Defs nD τ sig Val Λ} {𝒱 : Variants} {d : Dev nD}
variable {α β : Type}

local notation "𝕄" => MT nD τ sig Unit Val ℕ (UR sig nD τ) ℕ

/-- `p`, begun with `R`, runs to a value that meets `Φ` and leaves `R'`. -/
def Tri (defs : Defs nD τ sig Val Λ) (𝒱 : Variants) (d : Dev nD) (R : sProp 𝕄) (p : Prog (TpuEff nD τ sig Val Λ .tc) α)
    (Φ : α → Prop) (R' : sProp 𝕄) : Prop :=
  ∀ K : α → sProp 𝕄, (∀ v, Φ v → R' ⊢ K v) → R ⊢ wp frame (wpE defs 𝒱 (d.tc : Thread nD τ) none) Set.univ p K

/-- `R` hands out the memref `m` whole at contents that meet `Φ`, and is `R'` once `m` is back at contents that meet `Ψ`. -/
def Acc (d : Dev nD) (R : sProp 𝕄) {cs : CoreSpace} {s : Shape} {e : EltTy} (m : Memref sig .tc cs s e) (Φ : (s.Idx → Val e) → Prop)
    (R' : sProp 𝕄) (Ψ : (s.Idx → Val e) → Prop) : Prop :=
  R ⊢ iprop(ownsSat (d.tc : Thread nD τ) m fullShare Φ ∗ (ownsSat (d.tc : Thread nD τ) m fullShare Ψ -∗ R'))

theorem Tri.bind {R R' R'' : sProp 𝕄} {p : Prog (TpuEff nD τ sig Val Λ .tc) α} {k : α → Prog (TpuEff nD τ sig Val Λ .tc) β} {Φ : α → Prop} {Ψ : β → Prop}
    (hp : Tri defs 𝒱 d R p Φ R') (hk : ∀ v, Φ v → Tri defs 𝒱 d R' (k v) Ψ R'') : Tri defs 𝒱 d R (p >>= k) Ψ R'' := fun K hK => by
  rw [wp_bind]
  exact hp _ fun v hv => hk v hv K hK

theorem Tri.pure {R : sProp 𝕄} {a : α} {Φ : α → Prop} (h : Φ a) : Tri defs 𝒱 d R (pure a : Prog (TpuEff nD τ sig Val Λ .tc) α) Φ R := fun K hK => by
  rw [wp_pure]
  exact (hK a h).trans (Idealize.SL.BI.fupd_intro (PROP := sProp 𝕄))

/-- A load through `m`: the value is the rectangle's part of contents that meet `Φ`. -/
theorem Tri.load {R : sProp 𝕄} {cs : CoreSpace} {s : Shape} {e : EltTy} {m : Memref sig .tc cs s e} {r : Rect s} {hl : m.view.LoadsAt r.toLoadRect}
    {Φ : (s.Idx → Val e) → Prop} (h : Acc d R m Φ R Φ) :
    Tri defs 𝒱 d R (Prog.lift (.load m r.toLoadRect hl) : Prog (TpuEff nD τ sig Val Λ .tc) _) (fun v => ∃ X, Φ X ∧ v = View.ld X r) R := fun K hK => by
  refine h.trans ?_
  unfold ownsSat
  iintro ⟨⟨%f, %hf, H⟩, HR⟩
  iapply (wp_load (defs := defs) 𝒱 (d.tc : Thread nD τ) none Set.univ (m := m) (r := r.toLoadRect) (hl := hl) (k := Prog.ret)
    (S := m.view.set) (q := fullShare) (f := f) (m.view.setOn_subset_set _)) $$ [H]
  · iexact H
  iintro H
  iapply (show K (m.view.readAt Val r.toLoadRect f) ⊢ wp frame (wpE defs 𝒱 (d.tc : Thread nD τ) none) Set.univ (Prog.ret (m.view.readAt Val r.toLoadRect f)) K
    from (Idealize.SL.BI.fupd_intro (PROP := sProp 𝕄)))
  iapply (hK (m.view.readAt Val r.toLoadRect f) ⟨m.view.read Val f, hf, rfl⟩)
  iapply HR
  iexists f
  isplitr
  · ipureintro; exact hf
  · iexact H

/-- A store through `m`: contents that met `Φ` meet `Ψ` afterwards. -/
theorem Tri.store {R R' : sProp 𝕄} {cs : CoreSpace} {s : Shape} {e : EltTy} {m : Memref sig .tc cs s e} {r : Rect s} {w : r.shape.Idx → Val e}
    {hx : (m.access r).Stores Finset.univ} {hm : Finset.univ = Finset.univ ∨ ∀ a, r.stride a = 1}
    {Φ Ψ : (s.Idx → Val e) → Prop} (h : Acc d R m Φ R' Ψ)
    (hw : ∀ f, Φ (m.view.read Val f) → Ψ (m.view.read Val (m.view.writes Val f [⟨r, w⟩]))) :
    Tri defs 𝒱 d R (Prog.lift (.store m r w Finset.univ hx hm) : Prog (TpuEff nD τ sig Val Λ .tc) _) (fun _ => True) R' := fun K hK => by
  refine h.trans ?_
  unfold ownsSat
  iintro ⟨⟨%f, %hf, H⟩, HR⟩
  iapply (wp_store_writes₀ (defs := defs) 𝒱 (d.tc : Thread nD τ) none Set.univ (m := m) (r := r) (w := w) (hx := hx) (hm := hm) (k := Prog.ret)
    (S := m.view.set) (f := f) (View.set_slice_subset _ _)) $$ [H]
  · iexact H
  iintro H
  iapply (show K ⟨⟩ ⊢ wp frame (wpE defs 𝒱 (d.tc : Thread nD τ) none) Set.univ (Prog.ret ⟨⟩) K from (Idealize.SL.BI.fupd_intro (PROP := sProp 𝕄)))
  iapply (hK _ trivial)
  iapply HR
  iexists (m.view.writes Val f [⟨r, w⟩])
  isplitr
  · ipureintro; exact hw f hf
  · iexact H

/-- Contents that are `G` wherever `S` holds. -/
def Ag {s : Shape} {e : EltTy} (S : s.Idx → Prop) (G : s.Idx → Val e) (X : s.Idx → Val e) : Prop := ∀ y, S y → X y = G y

/-- A store of `G`'s values makes the contents `G` on the rectangle too. -/
theorem ag_store {cs : CoreSpace} {s : Shape} {e : EltTy} (m : Memref sig .tc cs s e) {r : Rect s} {w : r.shape.Idx → Val e} {S S' : s.Idx → Prop}
    {G : s.Idx → Val e} (hw : ∀ x, w x = G (r.emb x)) (hS : ∀ y, S' y → y ∈ r.set ∨ S y) (f : m.view.ty.Contents Val)
    (h : Ag S G (m.view.read Val f)) : Ag S' G (m.view.read Val (m.view.writes Val f [⟨r, w⟩])) := fun y hy => by
  by_cases hr : y ∈ r.set
  · obtain ⟨x, rfl⟩ := r.exists_idx_of_mem hr
    show m.view.read Val (m.view.writes Val f [⟨r, w⟩]) (r.emb x) = G (r.emb x)
    rw [View.read_writes_cons_emb]; exact hw x
  · rw [View.read_writes_cons_miss _ _ _ _ _ hr]
    exact h y ((hS y hy).resolve_left hr)

/-- A memref that a part of `R` gives, `R` gives. -/
theorem Acc.right {R R' : sProp 𝕄} {cs : CoreSpace} {s : Shape} {e : EltTy} {m : Memref sig .tc cs s e} {Φ Ψ : (s.Idx → Val e) → Prop} {G : sProp 𝕄}
    (h : Acc d R m Φ R' Ψ) : Acc d iprop(G ∗ R) m Φ iprop(G ∗ R') Ψ := by
  unfold Acc at h ⊢
  refine Entails.trans (sep_mono_right h) ?_
  iintro ⟨HG, HX, HW⟩
  isplitl [HX]; · iexact HX
  iintro HX
  isplitl [HG]; · iexact HG
  iapply HW; iexact HX

theorem Acc.left {R R' : sProp 𝕄} {cs : CoreSpace} {s : Shape} {e : EltTy} {m : Memref sig .tc cs s e} {Φ Ψ : (s.Idx → Val e) → Prop} {G : sProp 𝕄}
    (h : Acc d R m Φ R' Ψ) : Acc d iprop(R ∗ G) m Φ iprop(R' ∗ G) Ψ := by
  unfold Acc at h ⊢
  refine Entails.trans (sep_mono_left h) ?_
  iintro ⟨⟨HX, HW⟩, HG⟩
  isplitl [HX]; · iexact HX
  iintro HX
  isplitl [HW HX]
  · iapply HW; iexact HX
  iexact HG

/-- A memref held at some contents. -/
theorem Acc.any {cs : CoreSpace} {s : Shape} {e : EltTy} {m : Memref sig .tc cs s e} :
    Acc d (iprop(∃ X, owns (d.tc : Thread nD τ) m fullShare X) : sProp 𝕄) m (fun _ => True) (iprop(∃ X, owns (d.tc : Thread nD τ) m fullShare X)) (fun _ => True) := by
  unfold Acc
  refine (ownsSat_true (d.tc : Thread nD τ) m fullShare).2.trans ?_
  iintro H
  isplitl [H]; · iexact H
  iintro H
  iapply (ownsSat_true (d.tc : Thread nD τ) m fullShare).1
  iexact H

/-- One memref of a family held together; of the others the same is known before and after. -/
theorem Acc.pick {W : ℕ} {cs : Fin W → CoreSpace} {s : Fin W → Shape} {e : Fin W → EltTy} (m : (w : Fin W) → Memref sig .tc (cs w) (s w) (e w))
    (P P' : (w : Fin W) → ((s w).Idx → Val (e w)) → Prop) (w : Fin W) (h : ∀ v, v ≠ w → P' v = P v) :
    Acc d (bigSep Finset.univ fun w => (ownsSat (d.tc : Thread nD τ) (m w) fullShare (P w) : sProp 𝕄)) (m w) (P w)
      (bigSep Finset.univ fun v => ownsSat (d.tc : Thread nD τ) (m v) fullShare (P' v)) (P' w) := by
  unfold Acc
  rw [bigSep_univ_split w, bigSep_univ_split (Φ := fun v => ownsSat (d.tc : Thread nD τ) (m v) fullShare (P' v)) w]
  have hr : bigSep (Finset.univ.erase w) (fun v => (ownsSat (d.tc : Thread nD τ) (m v) fullShare (P v) : sProp 𝕄))
      ⊢ bigSep (Finset.univ.erase w) fun v => ownsSat (d.tc : Thread nD τ) (m v) fullShare (P' v) :=
    bigSep_mono fun v hv => by rw [h v (Finset.ne_of_mem_erase hv)]; exact Idealize.SL.BI.Entails.refl _
  refine Entails.trans (sep_mono_right hr) (sep_mono_right (wand_intro ?_))
  exact sep_comm.1

end Cert.Step

end
-- ==== Proof.WinSIdealTri.lean ====
/-
  The body of the sample attention call, walked part by part. What the pages, the new rows and the selections come to is left open; what is
  kept is the window's new contents: each output holds the old window moved up by the new rows' count, and the new rows after it.
-/
module

public import proofs.«01_k».proof.Proof.Step
public import proofs.«01_k».proof.Proof.Gen.WinSIdeal.Frame.Runs
public import Idealize.ShloMosaic.Lib.Pipeline.Value
public import Idealize.ShloMosaic.Lib.Pointwise.ShapeOpsCore

@[expose] public section

set_option maxRecDepth 16384

noncomputable section

namespace Cert.WinSIdeal.Win

open Idealize.ShloMosaic Idealize.ShloMosaic.TcCoe
open Idealize.SL Idealize.SL.RA
open Idealize.SL.BI (sProp)
open Cert.Step Cert.WinSIdeal Cert.WinSIdeal.Gen

variable {F : FTy → Type} [FloatOps F]

local notation "𝕄" => MT nD τ sig Unit (Elt F) ℕ (UR sig nD τ) ℕ

/-- A window's contents after the step: the old window `S` from row 8 on, then the eight new rows `N`. -/
def moved (S : S1x512x512.Idx → F .f32) (N : S1x8x512.Idx → F .f32) : S1x512x512.Idx → F .f32 := fun y =>
  if h : (y 1).val < 504 then S (ix3 ⟨(y 0).val, (y 0).isLt⟩ ⟨(y 1).val + 8, by show (y 1).val + 8 < 512; omega⟩ ⟨(y 2).val, (y 2).isLt⟩)
  else N (ix3 ⟨(y 0).val, (y 0).isLt⟩ ⟨(y 1).val - 504, by have := (y 1).isLt; change (y 1).val < 512 at this; show (y 1).val - 504 < 8; omega⟩ ⟨(y 2).val, (y 2).isLt⟩)

/-- What is known of an output after `n` of its two stores. -/
def part (n : ℕ) (y : S1x512x512.Idx) : Prop := match n with | 0 => False | 1 => (y 1).val < 504 | _ => True

/-- What `R` gives out at each stage: every memref of the body, the two windows' halves at what they came with, and the outputs at as much
    as has been stored. -/
structure Hands (d : Dev nD) (R : ℕ → ℕ → sProp 𝕄) (arg2 : Memref sig .tc .vmem S1x128x512 .f32) (arg3 : Memref sig .tc .vmem S1x128x512 .f32) (arg4 : Memref sig .tc .vmem S1x128x512 .f32) (arg5 : Memref sig .tc .vmem S1x128x512 .f32) (arg6 : Memref sig .tc .vmem S1x128x512 .f32) (arg7 : Memref sig .tc .vmem S1x128x512 .f32) (arg8 : Memref sig .tc .vmem S1x128x512 .f32) (arg9 : Memref sig .tc .vmem S1x128x512 .f32) (arg10 : Memref sig .tc .vmem S1x128x512 .f32) (arg11 : Memref sig .tc .vmem S1x128x512 .f32) (arg12 : Memref sig .tc .vmem S1x128x512 .f32) (arg13 : Memref sig .tc .vmem S1x128x512 .f32) (arg14 : Memref sig .tc .vmem S1x128x512 .f32) (arg15 : Memref sig .tc .vmem S1x128x512 .f32) (arg16 : Memref sig .tc .vmem S1x128x512 .f32) (arg17 : Memref sig .tc .vmem S1x128x512 .f32) (arg18 : Memref sig .tc .vmem S1x128x512 .f32) (arg19 : Memref sig .tc .vmem S1x128x512 .f32) (arg20 : Memref sig .tc .vmem S1x128x512 .f32) (arg21 : Memref sig .tc .vmem S1x128x512 .f32) (arg22 : Memref sig .tc .vmem S1x128x512 .f32) (arg23 : Memref sig .tc .vmem S1x128x512 .f32) (arg24 : Memref sig .tc .vmem S1x128x512 .f32) (arg25 : Memref sig .tc .vmem S1x128x512 .f32) (arg26 : Memref sig .tc .vmem S1x128x512 .f32) (arg27 : Memref sig .tc .vmem S1x128x512 .f32) (arg28 : Memref sig .tc .vmem S1x128x512 .f32) (arg29 : Memref sig .tc .vmem S1x128x512 .f32) (arg30 : Memref sig .tc .vmem S1x128x512 .f32) (arg31 : Memref sig .tc .vmem S1x128x512 .f32) (arg32 : Memref sig .tc .vmem S1x128x512 .f32) (arg33 : Memref sig .tc .vmem S1x128x512 .f32) (arg34 : Memref sig .tc .vmem S1x8x2048 .bf16) (arg35 : Memref sig .tc .vmem S1x128x3 .f32) (arg36 : Memref sig .tc .vmem S1x128x512 .bf16) (arg37 : Memref sig .tc .vmem S1x128x512 .bf16) (arg38 : Memref sig .tc .vmem S1x8x512 .f32) (arg39 : Memref sig .tc .vmem S1x8x512 .f32) (arg40 : Memref sig .tc .vmem S1x8x512 .f32) (arg41 : Memref sig .tc .vmem S1x8x512 .f32) (arg42 : Memref sig .tc .vmem S1x512x512 .f32) (arg43 : Memref sig .tc .vmem S1x512x512 .f32) (arg44 : Memref sig .tc .vmem S128x128 .f32) (arg45 : Memref sig .tc .vmem S128x2176 .f32) (arg46 : Memref sig .tc .vmem S128x640 .f32) (arg47 : Memref sig .tc .vmem S128x128 .bf16) (arg48 : Memref sig .tc .vmem S128x2176 .bf16) (arg49 : Memref sig .tc .vmem S1x8x2048 .bf16) (arg50 : Memref sig .tc .vmem S1x512x512 .f32) (arg51 : Memref sig .tc .vmem S1x512x512 .f32) (arg52 : Memref sig .tc .vmem S2176x512 .bf16) (arg53 : Memref sig .tc .vmem S2176x512 .bf16) (arg54 : Memref sig .tc .vmem S640x512 .bf16) (arg55 : Memref sig .tc .vmem S640x512 .bf16)
    (XKn XVn : S1x8x512.Idx → Elt F .f32) (XKs XVs : S1x512x512.Idx → Elt F .f32) : Prop where
  h2 : ∀ a b, Acc d (R a b) arg2 (fun _ => True) (R a b) (fun _ => True)
  h3 : ∀ a b, Acc d (R a b) arg3 (fun _ => True) (R a b) (fun _ => True)
  h4 : ∀ a b, Acc d (R a b) arg4 (fun _ => True) (R a b) (fun _ => True)
  h5 : ∀ a b, Acc d (R a b) arg5 (fun _ => True) (R a b) (fun _ => True)
  h6 : ∀ a b, Acc d (R a b) arg6 (fun _ => True) (R a b) (fun _ => True)
  h7 : ∀ a b, Acc d (R a b) arg7 (fun _ => True) (R a b) (fun _ => True)
  h8 : ∀ a b, Acc d (R a b) arg8 (fun _ => True) (R a b) (fun _ => True)
  h9 : ∀ a b, Acc d (R a b) arg9 (fun _ => True) (R a b) (fun _ => True)
  h10 : ∀ a b, Acc d (R a b) arg10 (fun _ => True) (R a b) (fun _ => True)
  h11 : ∀ a b, Acc d (R a b) arg11 (fun _ => True) (R a b) (fun _ => True)
  h12 : ∀ a b, Acc d (R a b) arg12 (fun _ => True) (R a b) (fun _ => True)
  h13 : ∀ a b, Acc d (R a b) arg13 (fun _ => True) (R a b) (fun _ => True)
  h14 : ∀ a b, Acc d (R a b) arg14 (fun _ => True) (R a b) (fun _ => True)
  h15 : ∀ a b, Acc d (R a b) arg15 (fun _ => True) (R a b) (fun _ => True)
  h16 : ∀ a b, Acc d (R a b) arg16 (fun _ => True) (R a b) (fun _ => True)
  h17 : ∀ a b, Acc d (R a b) arg17 (fun _ => True) (R a b) (fun _ => True)
  h18 : ∀ a b, Acc d (R a b) arg18 (fun _ => True) (R a b) (fun _ => True)
  h19 : ∀ a b, Acc d (R a b) arg19 (fun _ => True) (R a b) (fun _ => True)
  h20 : ∀ a b, Acc d (R a b) arg20 (fun _ => True) (R a b) (fun _ => True)
  h21 : ∀ a b, Acc d (R a b) arg21 (fun _ => True) (R a b) (fun _ => True)
  h22 : ∀ a b, Acc d (R a b) arg22 (fun _ => True) (R a b) (fun _ => True)
  h23 : ∀ a b, Acc d (R a b) arg23 (fun _ => True) (R a b) (fun _ => True)
  h24 : ∀ a b, Acc d (R a b) arg24 (fun _ => True) (R a b) (fun _ => True)
  h25 : ∀ a b, Acc d (R a b) arg25 (fun _ => True) (R a b) (fun _ => True)
  h26 : ∀ a b, Acc d (R a b) arg26 (fun _ => True) (R a b) (fun _ => True)
  h27 : ∀ a b, Acc d (R a b) arg27 (fun _ => True) (R a b) (fun _ => True)
  h28 : ∀ a b, Acc d (R a b) arg28 (fun _ => True) (R a b) (fun _ => True)
  h29 : ∀ a b, Acc d (R a b) arg29 (fun _ => True) (R a b) (fun _ => True)
  h30 : ∀ a b, Acc d (R a b) arg30 (fun _ => True) (R a b) (fun _ => True)
  h31 : ∀ a b, Acc d (R a b) arg31 (fun _ => True) (R a b) (fun _ => True)
  h32 : ∀ a b, Acc d (R a b) arg32 (fun _ => True) (R a b) (fun _ => True)
  h33 : ∀ a b, Acc d (R a b) arg33 (fun _ => True) (R a b) (fun _ => True)
  h34 : ∀ a b, Acc d (R a b) arg34 (fun _ => True) (R a b) (fun _ => True)
  h35 : ∀ a b, Acc d (R a b) arg35 (fun _ => True) (R a b) (fun _ => True)
  h36 : ∀ a b, Acc d (R a b) arg36 (fun _ => True) (R a b) (fun _ => True)
  h37 : ∀ a b, Acc d (R a b) arg37 (fun _ => True) (R a b) (fun _ => True)
  h38 : ∀ a b, Acc d (R a b) arg38 (fun _ => True) (R a b) (fun _ => True)
  h39 : ∀ a b, Acc d (R a b) arg39 (fun _ => True) (R a b) (fun _ => True)
  h40 : ∀ a b, Acc d (R a b) arg40 (· = XKn) (R a b) (· = XKn)
  h41 : ∀ a b, Acc d (R a b) arg41 (· = XVn) (R a b) (· = XVn)
  h42 : ∀ a b, Acc d (R a b) arg42 (· = XKs) (R a b) (· = XKs)
  h43 : ∀ a b, Acc d (R a b) arg43 (· = XVs) (R a b) (· = XVs)
  h44 : ∀ a b, Acc d (R a b) arg44 (fun _ => True) (R a b) (fun _ => True)
  h45 : ∀ a b, Acc d (R a b) arg45 (fun _ => True) (R a b) (fun _ => True)
  h46 : ∀ a b, Acc d (R a b) arg46 (fun _ => True) (R a b) (fun _ => True)
  h47 : ∀ a b, Acc d (R a b) arg47 (fun _ => True) (R a b) (fun _ => True)
  h48 : ∀ a b, Acc d (R a b) arg48 (fun _ => True) (R a b) (fun _ => True)
  h49 : ∀ a b, Acc d (R a b) arg49 (fun _ => True) (R a b) (fun _ => True)
  h50 : ∀ a a' b, Acc d (R a b) arg50 (Ag (part a) (moved XKs XKn)) (R a' b) (Ag (part a') (moved XKs XKn))
  h51 : ∀ a b b', Acc d (R a b) arg51 (Ag (part b) (moved XVs XVn)) (R a b') (Ag (part b') (moved XVs XVn))
  h52 : ∀ a b, Acc d (R a b) arg52 (fun _ => True) (R a b) (fun _ => True)
  h53 : ∀ a b, Acc d (R a b) arg53 (fun _ => True) (R a b) (fun _ => True)
  h54 : ∀ a b, Acc d (R a b) arg54 (fun _ => True) (R a b) (fun _ => True)
  h55 : ∀ a b, Acc d (R a b) arg55 (fun _ => True) (R a b) (fun _ => True)

section
variable {defs : Defs nD τ sig (Elt F) Λ₀} {𝒱 : Variants} {d : Dev nD}
variable {arg1 : Memref sig .tc .smem S128x16 .i32} {harg1 : arg1.IsWhole} {arg2 : Memref sig .tc .vmem S1x128x512 .f32} {harg2 : arg2.IsWhole} {arg3 : Memref sig .tc .vmem S1x128x512 .f32} {harg3 : arg3.IsWhole} {arg4 : Memref sig .tc .vmem S1x128x512 .f32} {harg4 : arg4.IsWhole} {arg5 : Memref sig .tc .vmem S1x128x512 .f32} {harg5 : arg5.IsWhole} {arg6 : Memref sig .tc .vmem S1x128x512 .f32} {harg6 : arg6.IsWhole} {arg7 : Memref sig .tc .vmem S1x128x512 .f32} {harg7 : arg7.IsWhole} {arg8 : Memref sig .tc .vmem S1x128x512 .f32} {harg8 : arg8.IsWhole} {arg9 : Memref sig .tc .vmem S1x128x512 .f32} {harg9 : arg9.IsWhole} {arg10 : Memref sig .tc .vmem S1x128x512 .f32} {harg10 : arg10.IsWhole} {arg11 : Memref sig .tc .vmem S1x128x512 .f32} {harg11 : arg11.IsWhole} {arg12 : Memref sig .tc .vmem S1x128x512 .f32} {harg12 : arg12.IsWhole} {arg13 : Memref sig .tc .vmem S1x128x512 .f32} {harg13 : arg13.IsWhole} {arg14 : Memref sig .tc .vmem S1x128x512 .f32} {harg14 : arg14.IsWhole} {arg15 : Memref sig .tc .vmem S1x128x512 .f32} {harg15 : arg15.IsWhole} {arg16 : Memref sig .tc .vmem S1x128x512 .f32} {harg16 : arg16.IsWhole} {arg17 : Memref sig .tc .vmem S1x128x512 .f32} {harg17 : arg17.IsWhole} {arg18 : Memref sig .tc .vmem S1x128x512 .f32} {harg18 : arg18.IsWhole} {arg19 : Memref sig .tc .vmem S1x128x512 .f32} {harg19 : arg19.IsWhole} {arg20 : Memref sig .tc .vmem S1x128x512 .f32} {harg20 : arg20.IsWhole} {arg21 : Memref sig .tc .vmem S1x128x512 .f32} {harg21 : arg21.IsWhole} {arg22 : Memref sig .tc .vmem S1x128x512 .f32} {harg22 : arg22.IsWhole} {arg23 : Memref sig .tc .vmem S1x128x512 .f32} {harg23 : arg23.IsWhole} {arg24 : Memref sig .tc .vmem S1x128x512 .f32} {harg24 : arg24.IsWhole} {arg25 : Memref sig .tc .vmem S1x128x512 .f32} {harg25 : arg25.IsWhole} {arg26 : Memref sig .tc .vmem S1x128x512 .f32} {harg26 : arg26.IsWhole} {arg27 : Memref sig .tc .vmem S1x128x512 .f32} {harg27 : arg27.IsWhole} {arg28 : Memref sig .tc .vmem S1x128x512 .f32} {harg28 : arg28.IsWhole} {arg29 : Memref sig .tc .vmem S1x128x512 .f32} {harg29 : arg29.IsWhole} {arg30 : Memref sig .tc .vmem S1x128x512 .f32} {harg30 : arg30.IsWhole} {arg31 : Memref sig .tc .vmem S1x128x512 .f32} {harg31 : arg31.IsWhole} {arg32 : Memref sig .tc .vmem S1x128x512 .f32} {harg32 : arg32.IsWhole} {arg33 : Memref sig .tc .vmem S1x128x512 .f32} {harg33 : arg33.IsWhole} {arg34 : Memref sig .tc .vmem S1x8x2048 .bf16} {harg34 : arg34.IsWhole} {arg35 : Memref sig .tc .vmem S1x128x3 .f32} {harg35 : arg35.IsWhole} {arg36 : Memref sig .tc .vmem S1x128x512 .bf16} {harg36 : arg36.IsWhole} {arg37 : Memref sig .tc .vmem S1x128x512 .bf16} {harg37 : arg37.IsWhole} {arg38 : Memref sig .tc .vmem S1x8x512 .f32} {harg38 : arg38.IsWhole} {arg39 : Memref sig .tc .vmem S1x8x512 .f32} {harg39 : arg39.IsWhole} {arg40 : Memref sig .tc .vmem S1x8x512 .f32} {harg40 : arg40.IsWhole} {arg41 : Memref sig .tc .vmem S1x8x512 .f32} {harg41 : arg41.IsWhole} {arg42 : Memref sig .tc .vmem S1x512x512 .f32} {harg42 : arg42.IsWhole} {arg43 : Memref sig .tc .vmem S1x512x512 .f32} {harg43 : arg43.IsWhole} {arg44 : Memref sig .tc .vmem S128x128 .f32} {harg44 : arg44.IsWhole} {arg45 : Memref sig .tc .vmem S128x2176 .f32} {harg45 : arg45.IsWhole} {arg46 : Memref sig .tc .vmem S128x640 .f32} {harg46 : arg46.IsWhole} {arg47 : Memref sig .tc .vmem S128x128 .bf16} {harg47 : arg47.IsWhole} {arg48 : Memref sig .tc .vmem S128x2176 .bf16} {harg48 : arg48.IsWhole} {arg49 : Memref sig .tc .vmem S1x8x2048 .bf16} {harg49 : arg49.IsWhole} {arg50 : Memref sig .tc .vmem S1x512x512 .f32} {harg50 : arg50.IsWhole} {arg51 : Memref sig .tc .vmem S1x512x512 .f32} {harg51 : arg51.IsWhole} {arg52 : Memref sig .tc .vmem S2176x512 .bf16} {harg52 : arg52.IsWhole} {arg53 : Memref sig .tc .vmem S2176x512 .bf16} {harg53 : arg53.IsWhole} {arg54 : Memref sig .tc .vmem S640x512 .bf16} {harg54 : arg54.IsWhole} {arg55 : Memref sig .tc .vmem S640x512 .bf16} {harg55 : arg55.IsWhole}
variable {XKn XVn : S1x8x512.Idx → Elt F .f32} {XKs XVs : S1x512x512.Idx → Elt F .f32}

/-- A whole window read is the window. -/
theorem ldS (X : S1x512x512.Idx → Elt F .f32) {h : ∀ a, (![0, 0, 0] : Fin 3 → Nat) a + S1x512x512.size a ≤ S1x512x512.size a} :
    View.ld X (Rect.unit (s := S1x512x512) ![0, 0, 0] S1x512x512.size h) = X := by
  funext x
  show X _ = X x
  congr 1
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem ldN (X : S1x8x512.Idx → Elt F .f32) {h : ∀ a, (![0, 0, 0] : Fin 3 → Nat) a + S1x8x512.size a ≤ S1x8x512.size a} :
    View.ld X (Rect.unit (s := S1x8x512) ![0, 0, 0] S1x8x512.size h) = X := by
  funext x
  show X _ = X x
  congr 1
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- The part of the old window that stays, as the body computes it. -/
theorem keep_val (X : S1x512x512.Idx → Elt F .f32) (x : S1x504x512.Idx) (k : S1x512x512.Idx) (h0 : (k 0).val = (x 0).val) (h1 : (k 1).val = (x 1).val + 8)
    (h2 : (k 2).val = (x 2).val) : k0_pay44 (F := F) (k0_pay36 X) x = X k := by
  have b0 : (x 0).val < 1 := (x 0).isLt
  have b1 : (x 1).val < 504 := (x 1).isLt
  have b2 : (x 2).val < 512 := (x 2).isLt
  unfold k0_pay44 k0_pay36
  refine (shapeCast_apply _ _ _ (ix2 (n0 := 504) (n1 := 512) ⟨(x 1).val, b1⟩ ⟨(x 2).val, b2⟩ : S504x512.Idx) ?_).trans ?_
  · rw [Shape.rowMajor_val_three, Shape.rowMajor_val_two]
    show (x 1).val * 512 + (x 2).val = ((x 0).val * 504 + (x 1).val) * 512 + (x 2).val
    omega
  refine (extractStridedSlice_apply _ _ _ _ (ix2 (n0 := 512) (n1 := 512) ⟨(x 1).val + 8, by omega⟩ ⟨(x 2).val, b2⟩ : S512x512.Idx) ?_).trans ?_
  · intro a
    match a with
    | ⟨0, _⟩ => show (x 1).val + 8 = 8 + (x 1).val; omega
    | ⟨1, _⟩ => show (x 2).val = 0 + (x 2).val; omega
  refine shapeCast_apply _ _ _ k ?_
  rw [Shape.rowMajor_val_three, Shape.rowMajor_val_two]
  show ((k 0).val * 512 + (k 1).val) * 512 + (k 2).val = ((x 1).val + 8) * 512 + (x 2).val
  omega

/-- The new rows, as the body computes them. -/
theorem new_val (X : S1x8x512.Idx → Elt F .f32) (x : S1x8x512.Idx) : k0_pay45 (F := F) (k0_pay38 X) x = X x := by
  have b0 : (x 0).val < 1 := (x 0).isLt
  have b1 : (x 1).val < 8 := (x 1).isLt
  have b2 : (x 2).val < 512 := (x 2).isLt
  unfold k0_pay45 k0_pay38
  refine (shapeCast_apply _ _ _ (ix2 (n0 := 8) (n1 := 512) ⟨(x 1).val, b1⟩ ⟨(x 2).val, b2⟩ : S8x512.Idx) ?_).trans (shapeCast_apply _ _ _ x ?_)
  · rw [Shape.rowMajor_val_three, Shape.rowMajor_val_two]
    show (x 1).val * 512 + (x 2).val = ((x 0).val * 8 + (x 1).val) * 512 + (x 2).val
    omega
  · rw [Shape.rowMajor_val_three, Shape.rowMajor_val_two]
    show ((x 0).val * 8 + (x 1).val) * 512 + (x 2).val = (x 1).val * 512 + (x 2).val
    omega

theorem moved_old {XS : S1x512x512.Idx → F .f32} {XN : S1x8x512.Idx → F .f32} (y k : S1x512x512.Idx) (h : (y 1).val < 504) (h0 : (k 0).val = (y 0).val)
    (h1 : (k 1).val = (y 1).val + 8) (h2 : (k 2).val = (y 2).val) : moved XS XN y = XS k := by
  unfold moved
  rw [dif_pos h]
  congr 1
  funext a
  apply Fin.ext
  match a with
  | ⟨0, _⟩ => exact h0.symm
  | ⟨1, _⟩ => exact h1.symm
  | ⟨2, _⟩ => exact h2.symm

theorem moved_new {XS : S1x512x512.Idx → F .f32} {XN : S1x8x512.Idx → F .f32} (y : S1x512x512.Idx) (k : S1x8x512.Idx) (h0 : (k 0).val = (y 0).val)
    (h1 : (y 1).val = (k 1).val + 504) (h2 : (k 2).val = (y 2).val) : moved XS XN y = XN k := by
  unfold moved
  rw [dif_neg (show ¬ (y 1).val < 504 by omega)]
  congr 1
  funext a
  apply Fin.ext
  match a with
  | ⟨0, _⟩ => exact h0.symm
  | ⟨1, _⟩ => show (y 1).val - 504 = (k 1).val; omega
  | ⟨2, _⟩ => exact h2.symm

theorem keep_moved {XS : S1x512x512.Idx → Elt F .f32} {XN : S1x8x512.Idx → Elt F .f32} (m : Memref sig .tc .vmem S1x512x512 .f32)
    {inb : ∀ a, (![0, 0, 0] : Fin 3 → Nat) a + S1x504x512.size a ≤ S1x512x512.size a} {w : S1x504x512.Idx → Elt F .f32}
    (hw : w = k0_pay44 (k0_pay36 XS)) (f : m.view.ty.Contents (Elt F)) :
    Ag (part 0) (moved XS XN) (m.view.read (Elt F) f) →
      Ag (part 1) (moved XS XN) (m.view.read (Elt F) (m.view.writes (Elt F) f [⟨Rect.unit (s := S1x512x512) ![0, 0, 0] S1x504x512.size inb, w⟩])) := by
  subst hw
  refine ag_store m (fun x => ?_) (fun y hy => Or.inl (Rect.mem_set_unit.mpr fun a => ?_)) f
  · have b1 : (x 1).val < 504 := (x 1).isLt
    have b0 : (x 0).val < 1 := (x 0).isLt
    have b2 : (x 2).val < 512 := (x 2).isLt
    refine (keep_val XS x (ix3 (n0 := 1) (n1 := 512) (n2 := 512) ⟨(x 0).val, b0⟩ ⟨(x 1).val + 8, by omega⟩ ⟨(x 2).val, b2⟩) rfl rfl rfl).trans
      (moved_old _ _ ?_ ?_ ?_ ?_).symm
    · show 0 + 1 * (x 1).val < 504; omega
    · show (x 0).val = 0 + 1 * (x 0).val; omega
    · show (x 1).val + 8 = 0 + 1 * (x 1).val + 8; omega
    · show (x 2).val = 0 + 1 * (x 2).val; omega
  · have b0 : (y 0).val < 1 := (y 0).isLt
    have b1 : (y 1).val < 504 := hy
    have b2 : (y 2).val < 512 := (y 2).isLt
    match a with
    | ⟨0, _⟩ => show 0 ≤ (y 0).val ∧ (y 0).val < 0 + 1; omega
    | ⟨1, _⟩ => show 0 ≤ (y 1).val ∧ (y 1).val < 0 + 504; omega
    | ⟨2, _⟩ => show 0 ≤ (y 2).val ∧ (y 2).val < 0 + 512; omega

theorem new_moved {XS : S1x512x512.Idx → Elt F .f32} {XN : S1x8x512.Idx → Elt F .f32} (m : Memref sig .tc .vmem S1x512x512 .f32)
    {inb : ∀ a, (![0, 504, 0] : Fin 3 → Nat) a + S1x8x512.size a ≤ S1x512x512.size a} {w : S1x8x512.Idx → Elt F .f32}
    (hw : w = k0_pay45 (k0_pay38 XN)) (f : m.view.ty.Contents (Elt F)) :
    Ag (part 1) (moved XS XN) (m.view.read (Elt F) f) →
      Ag (part 2) (moved XS XN) (m.view.read (Elt F) (m.view.writes (Elt F) f [⟨Rect.unit (s := S1x512x512) ![0, 504, 0] S1x8x512.size inb, w⟩])) := by
  subst hw
  refine ag_store m (fun x => ?_) (fun y hy => ?_) f
  · have b1 : (x 1).val < 8 := (x 1).isLt
    refine (new_val XN x).trans (moved_new _ x ?_ ?_ ?_).symm
    · show (x 0).val = 0 + 1 * (x 0).val; omega
    · show 504 + 1 * (x 1).val = (x 1).val + 504; omega
    · show (x 2).val = 0 + 1 * (x 2).val; omega
  · by_cases h : (y 1).val < 504
    · exact Or.inr h
    refine Or.inl (Rect.mem_set_unit.mpr fun a => ?_)
    have b0 : (y 0).val < 1 := (y 0).isLt
    have b1 : (y 1).val < 512 := (y 1).isLt
    have b2 : (y 2).val < 512 := (y 2).isLt
    match a with
    | ⟨0, _⟩ => show 0 ≤ (y 0).val ∧ (y 0).val < 0 + 1; omega
    | ⟨1, _⟩ => show 504 ≤ (y 1).val ∧ (y 1).val < 504 + 8; omega
    | ⟨2, _⟩ => show 0 ≤ (y 2).val ∧ (y 2).val < 0 + 512; omega

theorem part1_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords)  :
    Tri defs 𝒱 d (R 0 0) (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 ) (fun _ => True) (R 0 0) := by
  rw [k0_part1_eq_skeleton]
  unfold k0_part1_skel
  refine Tri.bind (Tri.load (H.h2 0 0)) fun v0 hv0 => ?_
  refine Tri.bind (Tri.load (H.h52 0 0)) fun v3 hv3 => ?_
  refine Tri.bind (Tri.store (H.h52 0 0) fun _ _ => trivial) fun _ _ => ?_
  refine Tri.bind (Tri.load (H.h18 0 0)) fun v6 hv6 => ?_
  refine Tri.bind (Tri.load (H.h53 0 0)) fun v9 hv9 => ?_
  refine Tri.bind (Tri.store (H.h53 0 0) fun _ _ => trivial) fun _ _ => ?_
  refine Tri.bind (Tri.load (H.h3 0 0)) fun v12 hv12 => ?_
  refine Tri.bind (Tri.load (H.h52 0 0)) fun v15 hv15 => ?_
  refine Tri.bind (Tri.store (H.h52 0 0) fun _ _ => trivial) fun _ _ => ?_
  refine Tri.bind (Tri.load (H.h19 0 0)) fun v18 hv18 => ?_
  refine Tri.bind (Tri.load (H.h53 0 0)) fun v21 hv21 => ?_
  refine Tri.bind (Tri.store (H.h53 0 0) fun _ _ => trivial) fun _ _ => ?_
  refine Tri.bind (Tri.load (H.h4 0 0)) fun v24 hv24 => ?_
  refine Tri.bind (Tri.load (H.h52 0 0)) fun v27 hv27 => ?_
  exact Tri.pure trivial

theorem part2_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v29 : FVec F S128x512 .bf16)  :
    Tri defs 𝒱 d (R 0 0) (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v29) (fun _ => True) (R 0 0) := by
  rw [k0_part2_eq_skeleton]
  unfold k0_part2_skel
  refine Tri.bind (Tri.store (H.h52 0 0) fun _ _ => trivial) fun _ _ => ?_
  refine Tri.bind (Tri.load (H.h20 0 0)) fun v30 hv30 => ?_
  refine Tri.bind (Tri.load (H.h53 0 0)) fun v33 hv33 => ?_
  refine Tri.bind (Tri.store (H.h53 0 0) fun _ _ => trivial) fun _ _ => ?_
  refine Tri.bind (Tri.load (H.h5 0 0)) fun v36 hv36 => ?_
  refine Tri.bind (Tri.load (H.h52 0 0)) fun v39 hv39 => ?_
  refine Tri.bind (Tri.store (H.h52 0 0) fun _ _ => trivial) fun _ _ => ?_
  refine Tri.bind (Tri.load (H.h21 0 0)) fun v42 hv42 => ?_
  refine Tri.bind (Tri.load (H.h53 0 0)) fun v45 hv45 => ?_
  refine Tri.bind (Tri.store (H.h53 0 0) fun _ _ => trivial) fun _ _ => ?_
  refine Tri.bind (Tri.load (H.h6 0 0)) fun v48 hv48 => ?_
  refine Tri.bind (Tri.load (H.h52 0 0)) fun v51 hv51 => ?_
  refine Tri.bind (Tri.store (H.h52 0 0) fun _ _ => trivial) fun _ _ => ?_
  refine Tri.bind (Tri.load (H.h22 0 0)) fun v54 hv54 => ?_
  refine Tri.bind (Tri.load (H.h53 0 0)) fun v57 hv57 => ?_
  exact Tri.pure trivial

theorem part3_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v59 : FVec F S128x512 .bf16)  :
    Tri defs 𝒱 d (R 0 0) (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v59) (fun _ => True) (R 0 0) := by
  rw [k0_part3_eq_skeleton]
  unfold k0_part3_skel
  refine Tri.bind (Tri.store (H.h53 0 0) fun _ _ => trivial) fun _ _ => ?_
  refine Tri.bind (Tri.load (H.h7 0 0)) fun v60 hv60 => ?_
  refine Tri.bind (Tri.load (H.h52 0 0)) fun v63 hv63 => ?_
  refine Tri.bind (Tri.store (H.h52 0 0) fun _ _ => trivial) fun _ _ => ?_
  refine Tri.bind (Tri.load (H.h23 0 0)) fun v66 hv66 => ?_
  refine Tri.bind (Tri.load (H.h53 0 0)) fun v69 hv69 => ?_
  refine Tri.bind (Tri.store (H.h53 0 0) fun _ _ => trivial) fun _ _ => ?_
  refine Tri.bind (Tri.load (H.h8 0 0)) fun v72 hv72 => ?_
  refine Tri.bind (Tri.load (H.h52 0 0)) fun v75 hv75 => ?_
  refine Tri.bind (Tri.store (H.h52 0 0) fun _ _ => trivial) fun _ _ => ?_
  refine Tri.bind (Tri.load (H.h24 0 0)) fun v78 hv78 => ?_
  refine Tri.bind (Tri.load (H.h53 0 0)) fun v81 hv81 => ?_
  refine Tri.bind (Tri.store (H.h53 0 0) fun _ _ => trivial) fun _ _ => ?_
  refine Tri.bind (Tri.load (H.h9 0 0)) fun v84 hv84 => ?_
  refine Tri.bind (Tri.load (H.h52 0 0)) fun v87 hv87 => ?_
  exact Tri.pure trivial

theorem part4_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v89 : FVec F S128x512 .bf16)  :
    Tri defs 𝒱 d (R 0 0) (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v89) (fun _ => True) (R 0 0) := by
  rw [k0_part4_eq_skeleton]
  unfold k0_part4_skel
  refine Tri.bind (Tri.store (H.h52 0 0) fun _ _ => trivial) fun _ _ => ?_
  refine Tri.bind (Tri.load (H.h25 0 0)) fun v90 hv90 => ?_
  refine Tri.bind (Tri.load (H.h53 0 0)) fun v93 hv93 => ?_
  refine Tri.bind (Tri.store (H.h53 0 0) fun _ _ => trivial) fun _ _ => ?_
  refine Tri.bind (Tri.load (H.h10 0 0)) fun v96 hv96 => ?_
  refine Tri.bind (Tri.load (H.h52 0 0)) fun v99 hv99 => ?_
  refine Tri.bind (Tri.store (H.h52 0 0) fun _ _ => trivial) fun _ _ => ?_
  refine Tri.bind (Tri.load (H.h26 0 0)) fun v102 hv102 => ?_
  refine Tri.bind (Tri.load (H.h53 0 0)) fun v105 hv105 => ?_
  refine Tri.bind (Tri.store (H.h53 0 0) fun _ _ => trivial) fun _ _ => ?_
  refine Tri.bind (Tri.load (H.h11 0 0)) fun v108 hv108 => ?_
  refine Tri.bind (Tri.load (H.h52 0 0)) fun v111 hv111 => ?_
  refine Tri.bind (Tri.store (H.h52 0 0) fun _ _ => trivial) fun _ _ => ?_
  refine Tri.bind (Tri.load (H.h27 0 0)) fun v114 hv114 => ?_
  refine Tri.bind (Tri.load (H.h53 0 0)) fun v117 hv117 => ?_
  exact Tri.pure trivial

theorem part5_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v119 : FVec F S128x512 .bf16)  :
    Tri defs 𝒱 d (R 0 0) (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v119) (fun _ => True) (R 0 0) := by
  rw [k0_part5_eq_skeleton]
  unfold k0_part5_skel
  refine Tri.bind (Tri.store (H.h53 0 0) fun _ _ => trivial) fun _ _ => ?_
  refine Tri.bind (Tri.load (H.h12 0 0)) fun v120 hv120 => ?_
  refine Tri.bind (Tri.load (H.h52 0 0)) fun v123 hv123 => ?_
  refine Tri.bind (Tri.store (H.h52 0 0) fun _ _ => trivial) fun _ _ => ?_
  refine Tri.bind (Tri.load (H.h28 0 0)) fun v126 hv126 => ?_
  refine Tri.bind (Tri.load (H.h53 0 0)) fun v129 hv129 => ?_
  refine Tri.bind (Tri.store (H.h53 0 0) fun _ _ => trivial) fun _ _ => ?_
  refine Tri.bind (Tri.load (H.h13 0 0)) fun v132 hv132 => ?_
  refine Tri.bind (Tri.load (H.h52 0 0)) fun v135 hv135 => ?_
  refine Tri.bind (Tri.store (H.h52 0 0) fun _ _ => trivial) fun _ _ => ?_
  refine Tri.bind (Tri.load (H.h29 0 0)) fun v138 hv138 => ?_
  refine Tri.bind (Tri.load (H.h53 0 0)) fun v141 hv141 => ?_
  refine Tri.bind (Tri.store (H.h53 0 0) fun _ _ => trivial) fun _ _ => ?_
  refine Tri.bind (Tri.load (H.h14 0 0)) fun v144 hv144 => ?_
  refine Tri.bind (Tri.load (H.h52 0 0)) fun v147 hv147 => ?_
  exact Tri.pure trivial

theorem part6_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v149 : FVec F S128x512 .bf16)  :
    Tri defs 𝒱 d (R 0 0) (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v149) (fun _ => True) (R 0 0) := by
  rw [k0_part6_eq_skeleton]
  unfold k0_part6_skel
  refine Tri.bind (Tri.store (H.h52 0 0) fun _ _ => trivial) fun _ _ => ?_
  refine Tri.bind (Tri.load (H.h30 0 0)) fun v150 hv150 => ?_
  refine Tri.bind (Tri.load (H.h53 0 0)) fun v153 hv153 => ?_
  refine Tri.bind (Tri.store (H.h53 0 0) fun _ _ => trivial) fun _ _ => ?_
  refine Tri.bind (Tri.load (H.h15 0 0)) fun v156 hv156 => ?_
  refine Tri.bind (Tri.load (H.h52 0 0)) fun v159 hv159 => ?_
  refine Tri.bind (Tri.store (H.h52 0 0) fun _ _ => trivial) fun _ _ => ?_
  refine Tri.bind (Tri.load (H.h31 0 0)) fun v162 hv162 => ?_
  refine Tri.bind (Tri.load (H.h53 0 0)) fun v165 hv165 => ?_
  refine Tri.bind (Tri.store (H.h53 0 0) fun _ _ => trivial) fun _ _ => ?_
  refine Tri.bind (Tri.load (H.h16 0 0)) fun v168 hv168 => ?_
  refine Tri.bind (Tri.load (H.h52 0 0)) fun v171 hv171 => ?_
  refine Tri.bind (Tri.store (H.h52 0 0) fun _ _ => trivial) fun _ _ => ?_
  refine Tri.bind (Tri.load (H.h32 0 0)) fun v174 hv174 => ?_
  refine Tri.bind (Tri.load (H.h53 0 0)) fun v177 hv177 => ?_
  exact Tri.pure trivial

theorem part7_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v179 : FVec F S128x512 .bf16)  :
    Tri defs 𝒱 d (R 0 0) (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v179) (fun v => v = k0_pay36 XKs) (R 0 0) := by
  rw [k0_part7_eq_skeleton]
  unfold k0_part7_skel
  refine Tri.bind (Tri.store (H.h53 0 0) fun _ _ => trivial) fun _ _ => ?_
  refine Tri.bind (Tri.load (H.h17 0 0)) fun v180 hv180 => ?_
  refine Tri.bind (Tri.load (H.h52 0 0)) fun v183 hv183 => ?_
  refine Tri.bind (Tri.store (H.h52 0 0) fun _ _ => trivial) fun _ _ => ?_
  refine Tri.bind (Tri.load (H.h33 0 0)) fun v186 hv186 => ?_
  refine Tri.bind (Tri.load (H.h53 0 0)) fun v189 hv189 => ?_
  refine Tri.bind (Tri.store (H.h53 0 0) fun _ _ => trivial) fun _ _ => ?_
  refine Tri.bind (Tri.load (H.h38 0 0)) fun v192 hv192 => ?_
  refine Tri.bind (Tri.load (H.h52 0 0)) fun v197 hv197 => ?_
  refine Tri.bind (Tri.store (H.h52 0 0) fun _ _ => trivial) fun _ _ => ?_
  refine Tri.bind (Tri.load (H.h39 0 0)) fun v200 hv200 => ?_
  refine Tri.bind (Tri.load (H.h53 0 0)) fun v205 hv205 => ?_
  refine Tri.bind (Tri.store (H.h53 0 0) fun _ _ => trivial) fun _ _ => ?_
  refine Tri.bind (Tri.load (H.h42 0 0)) fun v208 hv208 => ?_
  obtain ⟨_, rfl, rfl⟩ := hv208
  exact Tri.pure (congrArg k0_pay36 (ldS _))

theorem part8_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v209 : FVec F S512x512 .f32) (h209 : v209 = k0_pay36 XKs) :
    Tri defs 𝒱 d (R 0 0) (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v209) (fun v => v.1 = k0_pay37 XVs ∧ v.2.1 = k0_pay38 XKn ∧ v.2.2 = k0_pay39 XVn) (R 1 0) := by
  rw [k0_part8_eq_skeleton]
  unfold k0_part8_skel
  refine Tri.bind (Tri.load (H.h43 0 0)) fun v210 hv210 => ?_
  obtain ⟨_, rfl, rfl⟩ := hv210
  refine Tri.bind (Tri.load (H.h40 0 0)) fun v212 hv212 => ?_
  obtain ⟨_, rfl, rfl⟩ := hv212
  refine Tri.bind (Tri.load (H.h41 0 0)) fun v214 hv214 => ?_
  obtain ⟨_, rfl, rfl⟩ := hv214
  refine Tri.bind (Tri.load (H.h54 0 0)) fun v217 hv217 => ?_
  refine Tri.bind (Tri.store (H.h54 0 0) fun _ _ => trivial) fun _ _ => ?_
  refine Tri.bind (Tri.load (H.h55 0 0)) fun v221 hv221 => ?_
  refine Tri.bind (Tri.store (H.h55 0 0) fun _ _ => trivial) fun _ _ => ?_
  refine Tri.bind (Tri.load (H.h54 0 0)) fun v227 hv227 => ?_
  refine Tri.bind (Tri.store (H.h54 0 0) fun _ _ => trivial) fun _ _ => ?_
  refine Tri.bind (Tri.load (H.h55 0 0)) fun v233 hv233 => ?_
  refine Tri.bind (Tri.store (H.h55 0 0) fun _ _ => trivial) fun _ _ => ?_
  refine Tri.bind (Tri.load (H.h50 0 0 0)) fun v237 hv237 => ?_
  refine Tri.bind (Tri.store (H.h50 0 1 0) fun f hf => keep_moved arg50 (by rw [h209]) f hf) fun _ _ => ?_
  exact Tri.pure ⟨congrArg k0_pay37 (ldS _), congrArg k0_pay38 (ldN _), congrArg k0_pay39 (ldN _)⟩

theorem part9_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v211 : FVec F S512x512 .f32) (v213 : FVec F S8x512 .f32) (v215 : FVec F S8x512 .f32) (h211 : v211 = k0_pay37 XVs) (h213 : v213 = k0_pay38 XKn) (h215 : v215 = k0_pay39 XVn) :
    Tri defs 𝒱 d (R 1 0) (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v211 v213 v215) (fun _ => True) (R 2 2) := by
  rw [k0_part9_eq_skeleton]
  unfold k0_part9_skel
  refine Tri.bind (Tri.load (H.h50 1 1 0)) fun v240 hv240 => ?_
  refine Tri.bind (Tri.store (H.h50 1 2 0) fun f hf => new_moved arg50 (by rw [h213]) f hf) fun _ _ => ?_
  refine Tri.bind (Tri.load (H.h51 2 0 0)) fun v244 hv244 => ?_
  refine Tri.bind (Tri.store (H.h51 2 0 1) fun f hf => keep_moved arg51 (by rw [h211]; rfl) f hf) fun _ _ => ?_
  refine Tri.bind (Tri.load (H.h51 2 1 1)) fun v247 hv247 => ?_
  refine Tri.bind (Tri.store (H.h51 2 1 2) fun f hf => new_moved arg51 (by rw [h215]; rfl) f hf) fun _ _ => ?_
  refine Tri.bind (Tri.load (H.h34 2 2)) fun v250 hv250 => ?_
  exact Tri.pure trivial

theorem part10_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v286 : FVec F S128x512 .f32)  :
    Tri defs 𝒱 d (R 2 2) (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v286) (fun _ => True) (R 2 2) := by
  rw [k0_part10_eq_skeleton]
  unfold k0_part10_skel
  refine Tri.bind (Tri.load (H.h36 2 2)) fun v288 hv288 => ?_
  refine Tri.bind (Tri.load (H.h44 2 2)) fun v291 hv291 => ?_
  refine Tri.bind (Tri.load (H.h37 2 2)) fun v311 hv311 => ?_
  exact Tri.pure trivial

theorem part11_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v309 : FVec F S128x128 .f32) (v320 : FVec F S8x128 .f32) (v327 : FVec F S8x128 .f32) (v330 : FVec F S8x128 .f32)  :
    Tri defs 𝒱 d (R 2 2) (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v309 v320 v327 v330) (fun _ => True) (R 2 2) := by
  rw [k0_part11_eq_skeleton]
  unfold k0_part11_skel
  refine Tri.bind (Tri.load (H.h47 2 2)) fun v347 hv347 => ?_
  refine Tri.bind (Tri.load (H.h47 2 2)) fun v350 hv350 => ?_
  exact Tri.pure trivial

theorem part12_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v354 : FVec F S40x128 .f32) (v355 : IVec S40x128 32) (v374 : IVec S40x128 32) (c64_i32 : BitVec 32) (v376 : IVec S40x128 32)  :
    Tri defs 𝒱 d (R 2 2) (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v354 v355 v374 c64_i32 v376) (fun _ => True) (R 2 2) := by
  rw [k0_part12_eq_skeleton]
  unfold k0_part12_skel
  exact Tri.pure trivial

theorem part13_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v417 : FVec F S40x128 .f32) (v419 : FVec F S40x128 .f32) (v420 : FVec F S40x128 .f32) (v421 : FVec F S128 .f32)  :
    Tri defs 𝒱 d (R 2 2) (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v417 v419 v420 v421) (fun _ => True) (R 2 2) := by
  rw [k0_part13_eq_skeleton]
  unfold k0_part13_skel
  exact Tri.pure trivial

theorem part14_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v419 : FVec F S40x128 .f32) (v460 : FVec F S40x128 .f32) (v462 : FVec F S40x128 .f32) (v466 : IVec S40x128 1)  :
    Tri defs 𝒱 d (R 2 2) (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v419 v460 v462 v466) (fun _ => True) (R 2 2) := by
  rw [k0_part14_eq_skeleton]
  unfold k0_part14_skel
  exact Tri.pure trivial

theorem part15_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v419 : FVec F S40x128 .f32) (v502 : FVec F S40x128 .f32) (v504 : FVec F S40x128 .f32) (v510 : FVec F S40x128 .f32)  :
    Tri defs 𝒱 d (R 2 2) (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v419 v502 v504 v510) (fun _ => True) (R 2 2) := by
  rw [k0_part15_eq_skeleton]
  unfold k0_part15_skel
  exact Tri.pure trivial

theorem part16_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v419 : FVec F S40x128 .f32) (v544 : FVec F S40x128 .f32) (v546 : FVec F S40x128 .f32) (v554 : FVec F S1x128 .f32)  :
    Tri defs 𝒱 d (R 2 2) (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v419 v544 v546 v554) (fun _ => True) (R 2 2) := by
  rw [k0_part16_eq_skeleton]
  unfold k0_part16_skel
  exact Tri.pure trivial

theorem part17_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v419 : FVec F S40x128 .f32) (v586 : FVec F S40x128 .f32) (v588 : FVec F S40x128 .f32) (v598 : IVec S40x128 1) (cst_292 : F .f32)  :
    Tri defs 𝒱 d (R 2 2) (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v419 v586 v588 v598 cst_292) (fun _ => True) (R 2 2) := by
  rw [k0_part17_eq_skeleton]
  unfold k0_part17_skel
  exact Tri.pure trivial

theorem part18_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v287 : FVec F S128x512 .bf16) (v642 : FVec F S40x128 .f32) (cst_308 : F .f32)  :
    Tri defs 𝒱 d (R 2 2) (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v287 v642 cst_308) (fun _ => True) (R 2 2) := by
  rw [k0_part18_eq_skeleton]
  unfold k0_part18_skel
  refine Tri.bind (Tri.load (H.h48 2 2)) fun v647 hv647 => ?_
  refine Tri.bind (Tri.load (H.h52 2 2)) fun v650 hv650 => ?_
  refine Tri.bind (Tri.load (H.h45 2 2)) fun v652 hv652 => ?_
  refine Tri.bind (Tri.load (H.h53 2 2)) fun v678 hv678 => ?_
  refine Tri.bind (Tri.load (H.h54 2 2)) fun v680 hv680 => ?_
  exact Tri.pure trivial

theorem part19_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) (v287 : FVec F S128x512 .bf16) (v313 : FVec F S128x512 .f32) (v679 : FVec F S128x512 .f32) (v680 : Vec F S640x512 .bf16)  :
    Tri defs 𝒱 d (R 2 2) (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 v287 v313 v679 v680) (fun _ => True) (R 2 2) := by
  rw [k0_part19_eq_skeleton]
  unfold k0_part19_skel
  refine Tri.bind (Tri.load (H.h46 2 2)) fun v682 hv682 => ?_
  refine Tri.bind (Tri.load (H.h55 2 2)) fun v702 hv702 => ?_
  refine Tri.bind (Tri.load (H.h35 2 2)) fun v704 hv704 => ?_
  exact Tri.pure trivial

/-- The whole body. -/
theorem body_tri {R : ℕ → ℕ → sProp 𝕄} (H : Hands d R arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 XKn XVn XKs XVs) (i : grid0.Coords) :
    Tri defs 𝒱 d (R 0 0) (cc0_attn_sample (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55) (fun _ => True) (R 2 2) := by
  rw [cc0_attn_sample_eq_skeleton]
  unfold cc0_attn_sample_skel
  refine Tri.bind (part1_tri H i ) fun v29 hx => ?_
  refine Tri.bind (part2_tri H i v29) fun v59 hx => ?_
  refine Tri.bind (part3_tri H i v59) fun v89 hx => ?_
  refine Tri.bind (part4_tri H i v89) fun v119 hx => ?_
  refine Tri.bind (part5_tri H i v119) fun v149 hx => ?_
  refine Tri.bind (part6_tri H i v149) fun v179 hx => ?_
  refine Tri.bind (part7_tri H i v179) fun v209 h209 => ?_
  refine Tri.bind (part8_tri H i v209 h209) fun x hx => ?_
  obtain ⟨v211, v213, v215⟩ := x
  obtain ⟨h211, h213, h215⟩ := hx
  refine Tri.bind (part9_tri H i v211 v213 v215 h211 h213 h215) fun v286 hx => ?_
  refine Tri.bind (part10_tri H i v286) fun x hx => ?_
  obtain ⟨v287, v309, v313, v320, v327, v330⟩ := x
  refine Tri.bind (part11_tri H i v309 v320 v327 v330) fun x hx => ?_
  obtain ⟨v354, v355, v374, c64_i32, v376⟩ := x
  refine Tri.bind (part12_tri H i v354 v355 v374 c64_i32 v376) fun x hx => ?_
  obtain ⟨v417, v419, v420, v421⟩ := x
  refine Tri.bind (part13_tri H i v417 v419 v420 v421) fun x hx => ?_
  obtain ⟨v460, v462, v466⟩ := x
  refine Tri.bind (part14_tri H i v419 v460 v462 v466) fun x hx => ?_
  obtain ⟨v502, v504, v510⟩ := x
  refine Tri.bind (part15_tri H i v419 v502 v504 v510) fun x hx => ?_
  obtain ⟨v544, v546, v554⟩ := x
  refine Tri.bind (part16_tri H i v419 v544 v546 v554) fun x hx => ?_
  obtain ⟨v586, v588, v598, cst_292⟩ := x
  refine Tri.bind (part17_tri H i v419 v586 v588 v598 cst_292) fun x hx => ?_
  obtain ⟨v642, cst_308⟩ := x
  refine Tri.bind (part18_tri H i v287 v642 cst_308) fun x hx => ?_
  obtain ⟨v679, v680⟩ := x
  refine Tri.bind (part19_tri H i v287 v313 v679 v680) fun x hx => ?_
  obtain ⟨v717, v718, v719, v720, v721, v722, v723, v724, v725⟩ := x
  refine Tri.bind (Tri.load (H.h49 2 2)) fun _ _ => ?_
  refine Tri.bind (Tri.store (H.h49 2 2) fun _ _ => trivial) fun _ _ => ?_
  exact Tri.pure trivial

end

end Cert.WinSIdeal.Win

end
-- ==== Proof.WinSIdealRun.lean ====
/-
  The sample attention call's run: its body, at every grid point, leaves each window output at the point's new window, and everything it stages
  or holds besides at contents that no claim reads.
-/
module

public import proofs.«01_k».proof.Proof.WinSIdealTri
public import Idealize.ShloMosaic.Lib.Claim

@[expose] public section

set_option maxRecDepth 16384
set_option maxHeartbeats 4000000

noncomputable section

namespace Cert.WinSIdeal.Win

open Idealize.ShloMosaic Idealize.ShloMosaic.TcCoe
open Idealize.SL Idealize.SL.RA
open Idealize.SL.BI (sProp bigSep bigSep_mono)
open scoped Idealize.SL.BI
open Idealize.SL.BI.BIBase Idealize.SL.BI.Laws Idealize.SL.ProofMode Idealize.SL.Sem
open Idealize.ShloMosaic.Pipeline (Dat RDat Cfg Window BodyObligation BodyObligationLoose cellOf)
open Cert.Step Cert.WinSIdeal Cert.WinSIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The new window of a grid point: its keys, -/
def newK (hO : Ok m) (c : Dev nD) (t : Fin (cfgM m hO).N) : S1x512x512.Idx → F .f32 := moved (iblk m hO c 40 t) (iblk m hO c 38 t)
/-- and its values. -/
def newV (hO : Ok m) (c : Dev nD) (t : Fin (cfgM m hO).N) : S1x512x512.Idx → F .f32 := moved (iblk m hO c 41 t) (iblk m hO c 39 t)

/-- The windows whose contents no claim reads. -/
def fgt (w : Fin 50) : Bool := decide (w.val < 38 ∨ (42 ≤ w.val ∧ w.val < 48))

/-- The proof data: the two halves of the windows stay in place, the two outputs are the new windows. -/
def dats (hO : Ok m) (_ : Fin 1) (c : Dev nD) : Dat τ (Elt F) Unit ℕ (UR sig nD τ) ℕ (cfgM m hO) c where
  A w := V m c (Pipeline.arrRef spec0 w)
  after w t := match w with
    | ⟨38, _⟩ => iblk m hO c 38 t
    | ⟨39, _⟩ => iblk m hO c 39 t
    | ⟨40, _⟩ => iblk m hO c 40 t
    | ⟨41, _⟩ => iblk m hO c 41 t
    | ⟨48, _⟩ => newK m hO c t
    | ⟨49, _⟩ => newV m hO c t
    | w => Dat.unnamed w t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

/-- What is known of each staged window when `a` of the keys' two stores and `b` of the values' are done. -/
def know (hO : Ok m) (c : Dev nD) (t : Fin (cfgM m hO).N) (a b : ℕ) (w : Fin (cfgM m hO).W) :
    (((cfgM m hO).win w).block.Idx → Elt F ((cfgM m hO).win w).elt) → Prop := match w with
  | ⟨38, _⟩ => (· = iblk m hO c 38 t)
  | ⟨39, _⟩ => (· = iblk m hO c 39 t)
  | ⟨40, _⟩ => (· = iblk m hO c 40 t)
  | ⟨41, _⟩ => (· = iblk m hO c 41 t)
  | ⟨48, _⟩ => Ag (s := S1x512x512) (e := .f32) (part a) (newK m hO c t)
  | ⟨49, _⟩ => Ag (s := S1x512x512) (e := .f32) (part b) (newV m hO c t)
  | _ => fun _ => True

/-- The staged windows, held at what is known of them. -/
def held (hO : Ok m) (c : Dev nD) (t : Fin (cfgM m hO).N) (a b : ℕ) : sProp 𝕄 :=
  bigSep Finset.univ fun w : Fin (cfgM m hO).W =>
    ownsSat (c.tc : Thread nD τ) (((cfgM m hO).win w).stage ((cfgM m hO).slots t w)) fullShare (know m hO c t a b w)

/-- The four buffers the body fills and reads, at any contents. -/
def bufs (c : Dev nD) : sProp 𝕄 :=
  iprop((∃ d, owns (c.tc : Thread nD τ) scM0_0 fullShare d) ∗ (∃ d, owns (c.tc : Thread nD τ) scM0_1 fullShare d)
    ∗ (∃ d, owns (c.tc : Thread nD τ) scM0_2 fullShare d) ∗ (∃ d, owns (c.tc : Thread nD τ) scM0_3 fullShare d))

/-- Everything the body holds; `T` is what it never touches. -/
def res (hO : Ok m) (c : Dev nD) (t : Fin (cfgM m hO).N) (T : sProp 𝕄) (a b : ℕ) : sProp 𝕄 :=
  iprop(held m hO c t a b ∗ bufs c ∗ T)

theorem acc_win (hO : Ok m) (c : Dev nD) (t : Fin (cfgM m hO).N) (T : sProp 𝕄) (a b a' b' : ℕ) (w : Fin (cfgM m hO).W)
    (h : ∀ v, v ≠ w → know m hO c t a' b' v = know m hO c t a b v) :
    Acc c (res m hO c t T a b) (((cfgM m hO).win w).stage ((cfgM m hO).slots t w)) (know m hO c t a b w) (res m hO c t T a' b') (know m hO c t a' b' w) :=
  Acc.left (Acc.pick (fun w => ((cfgM m hO).win w).stage ((cfgM m hO).slots t w)) (know m hO c t a b) (know m hO c t a' b') w h)

theorem know_k (hO : Ok m) (c : Dev nD) (t : Fin (cfgM m hO).N) (a a' b : ℕ) (v : Fin (cfgM m hO).W) (h : v ≠ (48 : Fin 50)) :
    know m hO c t a' b v = know m hO c t a b v := by
  unfold know
  split <;> first | rfl | exact absurd rfl h

theorem know_v (hO : Ok m) (c : Dev nD) (t : Fin (cfgM m hO).N) (a b b' : ℕ) (v : Fin (cfgM m hO).W) (h : v ≠ (49 : Fin 50)) :
    know m hO c t a b' v = know m hO c t a b v := by
  unfold know
  split <;> first | rfl | exact absurd rfl h

theorem hands (hO : Ok m) (c : Dev nD) (t : Fin (cfgM m hO).N) (T : sProp 𝕄) :
    Hands c (res m hO c t T) (ms0_0 m hO t) (ms0_1 m hO t) (ms0_2 m hO t) (ms0_3 m hO t) (ms0_4 m hO t) (ms0_5 m hO t) (ms0_6 m hO t) (ms0_7 m hO t) (ms0_8 m hO t) (ms0_9 m hO t) (ms0_10 m hO t) (ms0_11 m hO t) (ms0_12 m hO t) (ms0_13 m hO t) (ms0_14 m hO t) (ms0_15 m hO t) (ms0_16 m hO t) (ms0_17 m hO t) (ms0_18 m hO t) (ms0_19 m hO t) (ms0_20 m hO t) (ms0_21 m hO t) (ms0_22 m hO t) (ms0_23 m hO t) (ms0_24 m hO t) (ms0_25 m hO t) (ms0_26 m hO t) (ms0_27 m hO t) (ms0_28 m hO t) (ms0_29 m hO t) (ms0_30 m hO t) (ms0_31 m hO t) (ms0_32 m hO t) (ms0_33 m hO t) (ms0_34 m hO t) (ms0_35 m hO t) (ms0_36 m hO t) (ms0_37 m hO t) (ms0_38 m hO t) (ms0_39 m hO t) (ms0_40 m hO t) (ms0_41 m hO t) (ms0_42 m hO t) (ms0_43 m hO t) (ms0_44 m hO t) (ms0_45 m hO t) (ms0_46 m hO t) (ms0_47 m hO t) (ms0_48 m hO t) (ms0_49 m hO t) scM0_0 scM0_1 scM0_2 scM0_3
      (iblk m hO c 38 t) (iblk m hO c 39 t) (iblk m hO c 40 t) (iblk m hO c 41 t) where
  h2 := fun a b => acc_win m hO c t T a b a b 0 fun _ _ => rfl
  h3 := fun a b => acc_win m hO c t T a b a b 1 fun _ _ => rfl
  h4 := fun a b => acc_win m hO c t T a b a b 2 fun _ _ => rfl
  h5 := fun a b => acc_win m hO c t T a b a b 3 fun _ _ => rfl
  h6 := fun a b => acc_win m hO c t T a b a b 4 fun _ _ => rfl
  h7 := fun a b => acc_win m hO c t T a b a b 5 fun _ _ => rfl
  h8 := fun a b => acc_win m hO c t T a b a b 6 fun _ _ => rfl
  h9 := fun a b => acc_win m hO c t T a b a b 7 fun _ _ => rfl
  h10 := fun a b => acc_win m hO c t T a b a b 8 fun _ _ => rfl
  h11 := fun a b => acc_win m hO c t T a b a b 9 fun _ _ => rfl
  h12 := fun a b => acc_win m hO c t T a b a b 10 fun _ _ => rfl
  h13 := fun a b => acc_win m hO c t T a b a b 11 fun _ _ => rfl
  h14 := fun a b => acc_win m hO c t T a b a b 12 fun _ _ => rfl
  h15 := fun a b => acc_win m hO c t T a b a b 13 fun _ _ => rfl
  h16 := fun a b => acc_win m hO c t T a b a b 14 fun _ _ => rfl
  h17 := fun a b => acc_win m hO c t T a b a b 15 fun _ _ => rfl
  h18 := fun a b => acc_win m hO c t T a b a b 16 fun _ _ => rfl
  h19 := fun a b => acc_win m hO c t T a b a b 17 fun _ _ => rfl
  h20 := fun a b => acc_win m hO c t T a b a b 18 fun _ _ => rfl
  h21 := fun a b => acc_win m hO c t T a b a b 19 fun _ _ => rfl
  h22 := fun a b => acc_win m hO c t T a b a b 20 fun _ _ => rfl
  h23 := fun a b => acc_win m hO c t T a b a b 21 fun _ _ => rfl
  h24 := fun a b => acc_win m hO c t T a b a b 22 fun _ _ => rfl
  h25 := fun a b => acc_win m hO c t T a b a b 23 fun _ _ => rfl
  h26 := fun a b => acc_win m hO c t T a b a b 24 fun _ _ => rfl
  h27 := fun a b => acc_win m hO c t T a b a b 25 fun _ _ => rfl
  h28 := fun a b => acc_win m hO c t T a b a b 26 fun _ _ => rfl
  h29 := fun a b => acc_win m hO c t T a b a b 27 fun _ _ => rfl
  h30 := fun a b => acc_win m hO c t T a b a b 28 fun _ _ => rfl
  h31 := fun a b => acc_win m hO c t T a b a b 29 fun _ _ => rfl
  h32 := fun a b => acc_win m hO c t T a b a b 30 fun _ _ => rfl
  h33 := fun a b => acc_win m hO c t T a b a b 31 fun _ _ => rfl
  h34 := fun a b => acc_win m hO c t T a b a b 32 fun _ _ => rfl
  h35 := fun a b => acc_win m hO c t T a b a b 33 fun _ _ => rfl
  h36 := fun a b => acc_win m hO c t T a b a b 34 fun _ _ => rfl
  h37 := fun a b => acc_win m hO c t T a b a b 35 fun _ _ => rfl
  h38 := fun a b => acc_win m hO c t T a b a b 36 fun _ _ => rfl
  h39 := fun a b => acc_win m hO c t T a b a b 37 fun _ _ => rfl
  h40 := fun a b => acc_win m hO c t T a b a b 38 fun _ _ => rfl
  h41 := fun a b => acc_win m hO c t T a b a b 39 fun _ _ => rfl
  h42 := fun a b => acc_win m hO c t T a b a b 40 fun _ _ => rfl
  h43 := fun a b => acc_win m hO c t T a b a b 41 fun _ _ => rfl
  h44 := fun a b => acc_win m hO c t T a b a b 42 fun _ _ => rfl
  h45 := fun a b => acc_win m hO c t T a b a b 43 fun _ _ => rfl
  h46 := fun a b => acc_win m hO c t T a b a b 44 fun _ _ => rfl
  h47 := fun a b => acc_win m hO c t T a b a b 45 fun _ _ => rfl
  h48 := fun a b => acc_win m hO c t T a b a b 46 fun _ _ => rfl
  h49 := fun a b => acc_win m hO c t T a b a b 47 fun _ _ => rfl
  h50 := fun a a' b => acc_win m hO c t T a b a' b 48 (know_k m hO c t a a' b)
  h51 := fun a b b' => acc_win m hO c t T a b a b' 49 (know_v m hO c t a b b')
  h52 := fun a b => Acc.right (Acc.left (Acc.left Acc.any))
  h53 := fun a b => Acc.right (Acc.left (Acc.right (Acc.left Acc.any)))
  h54 := fun a b => Acc.right (Acc.left (Acc.right (Acc.right (Acc.left Acc.any))))
  h55 := fun a b => Acc.right (Acc.left (Acc.right (Acc.right (Acc.right Acc.any))))

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What the windows hold before the body is known of them. -/
theorem before_know (hO : Ok m) (c : Dev nD) (t : Fin (cfgM m hO).N) (w : Fin 50) (d) :
    know m hO c t 0 0 w ((dats m hO 0 c).before w t d) := by
  unfold know
  split
  · exact before0_38_of m hO (dats m hO 0 c) (A_eq m hO c 38) (fun _ => rfl) t d
  · exact before0_39_of m hO (dats m hO 0 c) (A_eq m hO c 39) (fun _ => rfl) t d
  · exact before0_40_of m hO (dats m hO 0 c) (A_eq m hO c 40) (fun _ => rfl) t d
  · exact before0_41_of m hO (dats m hO 0 c) (A_eq m hO c 41) (fun _ => rfl) t d
  · exact fun y hy => hy.elim
  · exact fun y hy => hy.elim
  · trivial

/-- A window that is not forgotten is one of six. -/
theorem six (w : Fin 50) (hw : fgt w = false) : w = 38 ∨ w = 39 ∨ w = 40 ∨ w = 41 ∨ w = 48 ∨ w = 49 := by
  have h := of_decide_eq_false hw
  have hl := w.isLt
  simp only [Fin.ext_iff]
  show w.val = 38 ∨ w.val = 39 ∨ w.val = 40 ∨ w.val = 41 ∨ w.val = 48 ∨ w.val = 49
  omega

/-- Of a forgotten window nothing is known. -/
theorem know_forgotten (hO : Ok m) (c : Dev nD) (t : Fin (cfgM m hO).N) (a b : ℕ) (w : Fin 50) (hw : fgt w = true) :
    know m hO c t a b w = fun _ => True := by
  unfold know
  have h := of_decide_eq_true hw
  split <;> first | rfl | (exfalso; dsimp only at h; omega)

/-- What is known of the windows after the body is what the proof data say. -/
theorem know_after (hO : Ok m) (c : Dev nD) (t : Fin (cfgM m hO).N) (w : Fin 50) (hw : fgt w = false)
    (X : (((cfgM m hO).win w).block.Idx → Elt F ((cfgM m hO).win w).elt)) (hX : know m hO c t 2 2 w X) : X = (dats m hO 0 c).after w t := by
  obtain rfl | rfl | rfl | rfl | rfl | rfl := six w hw
  · exact hX
  · exact hX
  · exact hX
  · exact hX
  · exact funext fun y => hX y trivial
  · exact funext fun y => hX y trivial

theorem take (hO : Ok m) (c : Dev nD) (t : Fin (cfgM m hO).N) :
    (bigSep Finset.univ fun w : Fin (cfgM m hO).W =>
      match fgt w with
      | true => iprop(∃ X, owns (c.tc : Thread nD τ) (((cfgM m hO).win w).stage ((cfgM m hO).slots t w)) fullShare X)
      | false => iprop(∃ d, owns (c.tc : Thread nD τ) (((cfgM m hO).win w).stage ((cfgM m hO).slots t w)) fullShare ((dats m hO 0 c).before w t d)) : sProp 𝕄)
      ⊢ held m hO c t 0 0 := by
  refine bigSep_mono fun w _ => ?_
  cases hw : fgt w with
  | true =>
    rw [know_forgotten m hO c t 0 0 w hw]
    exact (ownsSat_true _ _ _).2
  | false =>
    refine Idealize.SL.BI.Laws.exists_elim (PROP := sProp 𝕄) fun d => ?_
    rw [owns_eq_ownsSat]
    exact ownsSat_mono _ _ _ fun X hX => by rw [hX]; exact before_know m hO c t w d

theorem give (hO : Ok m) (c : Dev nD) (t : Fin (cfgM m hO).N) :
    held m hO c t 2 2 ⊢ (bigSep Finset.univ fun w : Fin (cfgM m hO).W =>
      match fgt w with
      | true => iprop(∃ X, owns (c.tc : Thread nD τ) (((cfgM m hO).win w).stage ((cfgM m hO).slots t w)) fullShare X)
      | false => owns (c.tc : Thread nD τ) (((cfgM m hO).win w).stage ((cfgM m hO).slots t w)) fullShare ((dats m hO 0 c).after w t) : sProp 𝕄) := by
  refine bigSep_mono fun w _ => ?_
  cases hw : fgt w with
  | true =>
    rw [know_forgotten m hO c t 2 2 w hw]
    exact (ownsSat_true _ _ _).1
  | false =>
    rw [owns_eq_ownsSat]
    exact ownsSat_mono _ _ _ fun X hX => know_after m hO c t w hw X hX

theorem body_obligation (hO : Ok m) (c : Dev nD) : BodyObligation (dats (F := F) m hO 0 c) (defs₀ (F := F)) Variants.none () Set.univ fgt := by
  intro t
  rw [defs₀_row]
  have hb : Tri (defs₀ (F := F)) Variants.none c
      (res m hO c t iprop((∃ r, prngReg c r) ∗ Pipeline.ΦT pre0 (tbl m) c ∗ (dats m hO 0 c).owesAt () t.castSucc) 0 0)
      (bodyAt0 (adm m hO) t) (fun _ => True)
      (res m hO c t iprop((∃ r, prngReg c r) ∗ Pipeline.ΦT pre0 (tbl m) c ∗ (dats m hO 0 c).owesAt () t.castSucc) 2 2) := by
    unfold bodyAt0
    exact body_tri (hands m hO c t _) (grid0.coords t)
  refine Entails.trans ?_ (hb _ fun _ _ => ?_)
  · refine (sep_mono_right (sep_mono_right (take m hO c t))).trans ?_
    show iprop((Pipeline.ΦA spec0 c ∗ Pipeline.ΦT pre0 (tbl m) c) ∗ (dats m hO 0 c).owesAt () t.castSucc ∗ held m hO c t 0 0) ⊢ _
    rw [PhiA0_eq]
    unfold res bufs
    iintro ⟨⟨⟨HS, HG⟩, HT⟩, HO, HW⟩
    isplitl [HW]; · iexact HW
    isplitl [HS]; · iexact HS
    isplitl [HG]; · iexact HG
    isplitl [HT]; · iexact HT
    iexact HO
  · refine Entails.trans ?_ (sep_mono_right (sep_mono_right (give m hO c t)))
    show _ ⊢ iprop((Pipeline.ΦA spec0 c ∗ Pipeline.ΦT pre0 (tbl m) c) ∗ (dats m hO 0 c).owesAt () t.succ ∗ held m hO c t 2 2)
    rw [PhiA0_eq]
    unfold res bufs
    iintro ⟨HW, HS, HG, HT, HO⟩
    isplitl [HS HG HT]
    · isplitl [HS HG]
      · isplitl [HS]; · iexact HS
        iexact HG
      iexact HT
    isplitl [HO]; · iexact HO
    iexact HW

end Cert.WinSIdeal.Win

end
-- ==== Proof.WinSV.lean ====
/-
  The two windows that the sample attention call hands on: what each grid point leaves, as a function of the argument arrays.
-/
module

public import proofs.«01_k».proof.Proof.Common
public import proofs.«01_k».proof.Proof.WinSIdealRun
public import Idealize.ShloMosaic.Lib.Pipeline.Value
public import proofs.«01_k».proof.Proof.Gen.WinSRefIdeal.Run
public import proofs.«01_k».proof.Proof.Gen.WinSRefIdeal.Read
public import Idealize.ShloMosaic.Lib.Tactic

@[expose] public section

set_option maxHeartbeats 4000000

noncomputable section

namespace Cert.Proof.WinSV

open Idealize.ShloMosaic Idealize.ShloMosaic.TcCoe Idealize.SL.Sem
open Idealize.ShloMosaic.Pipeline (Dat)
open Cert.WinSIdeal Cert.WinSIdeal.Gen Cert.WinSIdeal.Win

variable (m : (ℓ : Loc nD τ sig) → Buf (Elt Ideal) ℓ) (hO : Ok m)

/-- The sequence of a grid point. -/
def brow (t : Fin (cfgM m hO).N) : Fin 128 := ⟨t.val, t.isLt⟩

theorem coord (t : Fin (cfgM m hO).N) : (grid0.coords t 0).val = t.val :=
  (by decide +kernel : ∀ t : Fin grid0.N, (grid0.coords t 0).val = t.val) t

theorem at_row (t : Fin (cfgM m hO).N) : (BitVec.ofNat 32 (grid0.coords t 0).val).toNat = t.val := by
  have ht : t.val < 128 := t.isLt
  rw [coord m hO t, BitVec.toNat_ofNat]
  omega

theorem kn_apply (c : Dev nD) (b : Fin 128) (r : Fin 8) (j : Fin 512) : (V m c main_v50 : FVec Ideal S128x8x512 .f32) (ix3 b r j)
    = (m ((c : Thread nD τ).loc main_arg9) : FVec Ideal S128x8x4x128 .f32) (ix4 b r ⟨j.val / 128, by omega⟩ ⟨j.val % 128, by omega⟩) := by
  have e : (V m c main_v50 : FVec Ideal S128x8x512 .f32)
      = shapeCast S128x8x512 (m ((c : Thread nD τ).loc main_arg9) : FVec Ideal S128x8x4x128 .f32) shapeCasts_S128x8x4x128_S128x8x512 := by
    unfold V
    simp only [hostOps0, hostOps0_1, hostOps0_2, hostOps0_3, hostOps0_4, hostOps0_5, hostOps0_6, List.flatten_cons, List.flatten_nil, List.append_nil,
      List.cons_append, List.nil_append]
    after_results <;> rfl
  rw [e]
  refine shapeCast_apply _ _ _ _ ?_
  show (S128x8x4x128.rowMajor (ix4 b r ⟨j.val / 128, by omega⟩ ⟨j.val % 128, by omega⟩)).val = (S128x8x512.rowMajor (ix3 b r j)).val
  rw [Shape.rowMajor_val_four, Shape.rowMajor_val_three]
  show ((b.val * 8 + r.val) * 4 + j.val / 128) * 128 + j.val % 128 = (b.val * 8 + r.val) * 512 + j.val
  omega

theorem vn_apply (c : Dev nD) (b : Fin 128) (r : Fin 8) (j : Fin 512) : (V m c main_v51 : FVec Ideal S128x8x512 .f32) (ix3 b r j)
    = (m ((c : Thread nD τ).loc main_arg10) : FVec Ideal S128x8x4x128 .f32) (ix4 b r ⟨j.val / 128, by omega⟩ ⟨j.val % 128, by omega⟩) := by
  have e : (V m c main_v51 : FVec Ideal S128x8x512 .f32)
      = shapeCast S128x8x512 (m ((c : Thread nD τ).loc main_arg10) : FVec Ideal S128x8x4x128 .f32) shapeCasts_S128x8x4x128_S128x8x512 := by
    unfold V
    simp only [hostOps0, hostOps0_1, hostOps0_2, hostOps0_3, hostOps0_4, hostOps0_5, hostOps0_6, List.flatten_cons, List.flatten_nil, List.append_nil,
      List.cons_append, List.nil_append]
    after_results <;> rfl
  rw [e]
  refine shapeCast_apply _ _ _ _ ?_
  show (S128x8x4x128.rowMajor (ix4 b r ⟨j.val / 128, by omega⟩ ⟨j.val % 128, by omega⟩)).val = (S128x8x512.rowMajor (ix3 b r j)).val
  rw [Shape.rowMajor_val_four, Shape.rowMajor_val_three]
  show ((b.val * 8 + r.val) * 4 + j.val / 128) * 128 + j.val % 128 = (b.val * 8 + r.val) * 512 + j.val
  omega

theorem ks_apply (c : Dev nD) (b : Fin 128) (r : Fin 512) (j : Fin 512) : (V m c main_v52 : FVec Ideal S128x512x512 .f32) (ix3 b r j)
    = (m ((c : Thread nD τ).loc main_arg11) : FVec Ideal S128x512x4x128 .f32) (ix4 b r ⟨j.val / 128, by omega⟩ ⟨j.val % 128, by omega⟩) := by
  have e : (V m c main_v52 : FVec Ideal S128x512x512 .f32)
      = shapeCast S128x512x512 (m ((c : Thread nD τ).loc main_arg11) : FVec Ideal S128x512x4x128 .f32) shapeCasts_S128x512x4x128_S128x512x512 := by
    unfold V
    simp only [hostOps0, hostOps0_1, hostOps0_2, hostOps0_3, hostOps0_4, hostOps0_5, hostOps0_6, List.flatten_cons, List.flatten_nil, List.append_nil,
      List.cons_append, List.nil_append]
    after_results <;> rfl
  rw [e]
  refine shapeCast_apply _ _ _ _ ?_
  show (S128x512x4x128.rowMajor (ix4 b r ⟨j.val / 128, by omega⟩ ⟨j.val % 128, by omega⟩)).val = (S128x512x512.rowMajor (ix3 b r j)).val
  rw [Shape.rowMajor_val_four, Shape.rowMajor_val_three]
  show ((b.val * 512 + r.val) * 4 + j.val / 128) * 128 + j.val % 128 = (b.val * 512 + r.val) * 512 + j.val
  omega

theorem vs_apply (c : Dev nD) (b : Fin 128) (r : Fin 512) (j : Fin 512) : (V m c main_v53 : FVec Ideal S128x512x512 .f32) (ix3 b r j)
    = (m ((c : Thread nD τ).loc main_arg12) : FVec Ideal S128x512x4x128 .f32) (ix4 b r ⟨j.val / 128, by omega⟩ ⟨j.val % 128, by omega⟩) := by
  have e : (V m c main_v53 : FVec Ideal S128x512x512 .f32)
      = shapeCast S128x512x512 (m ((c : Thread nD τ).loc main_arg12) : FVec Ideal S128x512x4x128 .f32) shapeCasts_S128x512x4x128_S128x512x512 := by
    unfold V
    simp only [hostOps0, hostOps0_1, hostOps0_2, hostOps0_3, hostOps0_4, hostOps0_5, hostOps0_6, List.flatten_cons, List.flatten_nil, List.append_nil,
      List.cons_append, List.nil_append]
    after_results <;> rfl
  rw [e]
  refine shapeCast_apply _ _ _ _ ?_
  show (S128x512x4x128.rowMajor (ix4 b r ⟨j.val / 128, by omega⟩ ⟨j.val % 128, by omega⟩)).val = (S128x512x512.rowMajor (ix3 b r j)).val
  rw [Shape.rowMajor_val_four, Shape.rowMajor_val_three]
  show ((b.val * 512 + r.val) * 4 + j.val / 128) * 128 + j.val % 128 = (b.val * 512 + r.val) * 512 + j.val
  omega

theorem blk_38 (c : Dev nD) (t : Fin (cfgM m hO).N) (r : Fin 8) (j : Fin 512) :
    (iblk m hO c 38 t : FVec Ideal S1x8x512 .f32) (ix3 0 r j) = (V m c main_v50 : FVec Ideal S128x8x512 .f32) (ix3 (brow m hO t) r j) := by
  unfold iblk
  refine (View.read_apply _ _).trans ?_
  show (V m c main_v50 : FVec Ideal S128x8x512 .f32) _ = _
  congr 1
  funext a
  match a with
  | ⟨0, _⟩ =>
    apply Fin.ext
    show (BitVec.ofNat 32 (grid0.coords t 0).val).toNat * 1 + 1 * 0 = t.val
    rw [at_row m hO t]
    omega
  | ⟨1, _⟩ =>
    apply Fin.ext
    show 0 * 8 + 1 * r.val = r.val
    omega
  | ⟨2, _⟩ =>
    apply Fin.ext
    show 0 * 512 + 1 * j.val = j.val
    omega

theorem blk_39 (c : Dev nD) (t : Fin (cfgM m hO).N) (r : Fin 8) (j : Fin 512) :
    (iblk m hO c 39 t : FVec Ideal S1x8x512 .f32) (ix3 0 r j) = (V m c main_v51 : FVec Ideal S128x8x512 .f32) (ix3 (brow m hO t) r j) := by
  unfold iblk
  refine (View.read_apply _ _).trans ?_
  show (V m c main_v51 : FVec Ideal S128x8x512 .f32) _ = _
  congr 1
  funext a
  match a with
  | ⟨0, _⟩ =>
    apply Fin.ext
    show (BitVec.ofNat 32 (grid0.coords t 0).val).toNat * 1 + 1 * 0 = t.val
    rw [at_row m hO t]
    omega
  | ⟨1, _⟩ =>
    apply Fin.ext
    show 0 * 8 + 1 * r.val = r.val
    omega
  | ⟨2, _⟩ =>
    apply Fin.ext
    show 0 * 512 + 1 * j.val = j.val
    omega

theorem blk_40 (c : Dev nD) (t : Fin (cfgM m hO).N) (r : Fin 512) (j : Fin 512) :
    (iblk m hO c 40 t : FVec Ideal S1x512x512 .f32) (ix3 0 r j) = (V m c main_v52 : FVec Ideal S128x512x512 .f32) (ix3 (brow m hO t) r j) := by
  unfold iblk
  refine (View.read_apply _ _).trans ?_
  show (V m c main_v52 : FVec Ideal S128x512x512 .f32) _ = _
  congr 1
  funext a
  match a with
  | ⟨0, _⟩ =>
    apply Fin.ext
    show (BitVec.ofNat 32 (grid0.coords t 0).val).toNat * 1 + 1 * 0 = t.val
    rw [at_row m hO t]
    omega
  | ⟨1, _⟩ =>
    apply Fin.ext
    show 0 * 512 + 1 * r.val = r.val
    omega
  | ⟨2, _⟩ =>
    apply Fin.ext
    show 0 * 512 + 1 * j.val = j.val
    omega

theorem blk_41 (c : Dev nD) (t : Fin (cfgM m hO).N) (r : Fin 512) (j : Fin 512) :
    (iblk m hO c 41 t : FVec Ideal S1x512x512 .f32) (ix3 0 r j) = (V m c main_v53 : FVec Ideal S128x512x512 .f32) (ix3 (brow m hO t) r j) := by
  unfold iblk
  refine (View.read_apply _ _).trans ?_
  show (V m c main_v53 : FVec Ideal S128x512x512 .f32) _ = _
  congr 1
  funext a
  match a with
  | ⟨0, _⟩ =>
    apply Fin.ext
    show (BitVec.ofNat 32 (grid0.coords t 0).val).toNat * 1 + 1 * 0 = t.val
    rw [at_row m hO t]
    omega
  | ⟨1, _⟩ =>
    apply Fin.ext
    show 0 * 512 + 1 * r.val = r.val
    omega
  | ⟨2, _⟩ =>
    apply Fin.ext
    show 0 * 512 + 1 * j.val = j.val
    omega

/-- The reference's rows that stay, -/
theorem refK_old (x : FVec Ideal S128x8x4x128 .f32) (s : FVec Ideal S128x512x4x128 .f32) (b : Fin 128) (r : Fin 512) (j : Fin 512) (h : r.val < 504) :
    Cert.WinSRefIdeal.Read.val_main_v4 (F := Ideal) x s (ix3 b r j) = s (ix4 b ⟨r.val + 8, by omega⟩ ⟨j.val / 128, by omega⟩ ⟨j.val % 128, by omega⟩) := by
  rw [Cert.WinSRefIdeal.Read.val_main_v4_apply, Cert.WinSRefIdeal.Read.val_main_v1_apply]
  unfold Cert.WinSRefIdeal.Read.val_main_v0
  refine concatenate_pair_apply_left (t := Cert.WinSRefIdeal.S128x520x4x128) (s₁ := Cert.WinSRefIdeal.S128x512x4x128) (s₂ := Cert.WinSRefIdeal.S128x8x4x128)
    1 s x _ _ rfl _ fun a => ?_
  match a with
  | ⟨0, _⟩ => show b.val = ((b.val * 512 + r.val) * 512 + j.val) / 262144; omega
  | ⟨1, _⟩ => show r.val + 8 = 8 + ((b.val * 512 + r.val) * 512 + j.val) / 512 % 512; omega
  | ⟨2, _⟩ => show j.val / 128 = ((b.val * 512 + r.val) * 512 + j.val) / 128 % 4; omega
  | ⟨3, _⟩ => show j.val % 128 = ((b.val * 512 + r.val) * 512 + j.val) % 128; omega

/-- and those that come in. -/
theorem refK_new (x : FVec Ideal S128x8x4x128 .f32) (s : FVec Ideal S128x512x4x128 .f32) (b : Fin 128) (r : Fin 512) (j : Fin 512) (h : ¬ r.val < 504) :
    Cert.WinSRefIdeal.Read.val_main_v4 (F := Ideal) x s (ix3 b r j) = x (ix4 b ⟨r.val - 504, by omega⟩ ⟨j.val / 128, by omega⟩ ⟨j.val % 128, by omega⟩) := by
  rw [Cert.WinSRefIdeal.Read.val_main_v4_apply, Cert.WinSRefIdeal.Read.val_main_v1_apply]
  unfold Cert.WinSRefIdeal.Read.val_main_v0
  refine concatenate_pair_apply_right (t := Cert.WinSRefIdeal.S128x520x4x128) (s₁ := Cert.WinSRefIdeal.S128x512x4x128)
    (s₂ := Cert.WinSRefIdeal.S128x8x4x128) 1 s x _ _ rfl rfl _ (fun a ha => ?_) ?_
  · match a with
    | ⟨0, _⟩ => show b.val = ((b.val * 512 + r.val) * 512 + j.val) / 262144; omega
    | ⟨1, _⟩ => exact absurd rfl ha
    | ⟨2, _⟩ => show j.val / 128 = ((b.val * 512 + r.val) * 512 + j.val) / 128 % 4; omega
    | ⟨3, _⟩ => show j.val % 128 = ((b.val * 512 + r.val) * 512 + j.val) % 128; omega
  · show r.val - 504 + 512 = 8 + ((b.val * 512 + r.val) * 512 + j.val) / 512 % 512
    omega

/-- The reference's rows that stay, -/
theorem refV_old (x : FVec Ideal S128x8x4x128 .f32) (s : FVec Ideal S128x512x4x128 .f32) (b : Fin 128) (r : Fin 512) (j : Fin 512) (h : r.val < 504) :
    Cert.WinSRefIdeal.Read.val_main_v5 (F := Ideal) x s (ix3 b r j) = s (ix4 b ⟨r.val + 8, by omega⟩ ⟨j.val / 128, by omega⟩ ⟨j.val % 128, by omega⟩) := by
  rw [Cert.WinSRefIdeal.Read.val_main_v5_apply, Cert.WinSRefIdeal.Read.val_main_v3_apply]
  unfold Cert.WinSRefIdeal.Read.val_main_v2
  refine concatenate_pair_apply_left (t := Cert.WinSRefIdeal.S128x520x4x128) (s₁ := Cert.WinSRefIdeal.S128x512x4x128) (s₂ := Cert.WinSRefIdeal.S128x8x4x128)
    1 s x _ _ rfl _ fun a => ?_
  match a with
  | ⟨0, _⟩ => show b.val = ((b.val * 512 + r.val) * 512 + j.val) / 262144; omega
  | ⟨1, _⟩ => show r.val + 8 = 8 + ((b.val * 512 + r.val) * 512 + j.val) / 512 % 512; omega
  | ⟨2, _⟩ => show j.val / 128 = ((b.val * 512 + r.val) * 512 + j.val) / 128 % 4; omega
  | ⟨3, _⟩ => show j.val % 128 = ((b.val * 512 + r.val) * 512 + j.val) % 128; omega

/-- and those that come in. -/
theorem refV_new (x : FVec Ideal S128x8x4x128 .f32) (s : FVec Ideal S128x512x4x128 .f32) (b : Fin 128) (r : Fin 512) (j : Fin 512) (h : ¬ r.val < 504) :
    Cert.WinSRefIdeal.Read.val_main_v5 (F := Ideal) x s (ix3 b r j) = x (ix4 b ⟨r.val - 504, by omega⟩ ⟨j.val / 128, by omega⟩ ⟨j.val % 128, by omega⟩) := by
  rw [Cert.WinSRefIdeal.Read.val_main_v5_apply, Cert.WinSRefIdeal.Read.val_main_v3_apply]
  unfold Cert.WinSRefIdeal.Read.val_main_v2
  refine concatenate_pair_apply_right (t := Cert.WinSRefIdeal.S128x520x4x128) (s₁ := Cert.WinSRefIdeal.S128x512x4x128)
    (s₂ := Cert.WinSRefIdeal.S128x8x4x128) 1 s x _ _ rfl rfl _ (fun a ha => ?_) ?_
  · match a with
    | ⟨0, _⟩ => show b.val = ((b.val * 512 + r.val) * 512 + j.val) / 262144; omega
    | ⟨1, _⟩ => exact absurd rfl ha
    | ⟨2, _⟩ => show j.val / 128 = ((b.val * 512 + r.val) * 512 + j.val) / 128 % 4; omega
    | ⟨3, _⟩ => show j.val % 128 = ((b.val * 512 + r.val) * 512 + j.val) % 128; omega
  · show r.val - 504 + 512 = 8 + ((b.val * 512 + r.val) * 512 + j.val) / 512 % 512
    omega

/-- The reference's window of keys. -/
abbrev GK (c : Dev nD) : FVec Ideal S128x512x512 .f32 :=
  Cert.WinSRefIdeal.Read.val_main_v4 (F := Ideal) (m ((c : Thread nD τ).loc main_arg9)) (m ((c : Thread nD τ).loc main_arg11))

/-- What a point leaves of the keys is the reference's. -/
theorem newK_apply (c : Dev nD) (t : Fin (cfgM m hO).N) (r j : Fin 512) :
    (newK m hO c t : FVec Ideal S1x512x512 .f32) (ix3 0 r j) = GK m c (ix3 (brow m hO t) r j) := by
  by_cases h : r.val < 504
  · refine Eq.trans ?_ (refK_old _ _ (brow m hO t) r j h).symm
    refine (moved_old (ix3 0 r j) (ix3 0 ⟨r.val + 8, by omega⟩ j) h rfl rfl rfl).trans ?_
    exact (blk_40 m hO c t _ j).trans (ks_apply m c _ _ j)
  · refine Eq.trans ?_ (refK_new _ _ (brow m hO t) r j h).symm
    refine (moved_new (ix3 0 r j) (ix3 0 ⟨r.val - 504, by omega⟩ j) rfl (by show r.val = r.val - 504 + 504; omega) rfl).trans ?_
    exact (blk_38 m hO c t _ j).trans (kn_apply m c _ _ j)

theorem flushed_48 (c : Dev nD) (t : Fin (cfgM m hO).N) :
    (dats m hO 0 c).flushed 48 t = (((cfgM m hO).win 48).blk t).view.read (Elt Ideal) (GK m c) := by
  have e1 : (dats m hO 0 c).flushed 48 t = ((cfgM m hO).win 48).cut (grid0.coords t) (newK m hO c t) := by
    show ((cfgM m hO).win 48).cut (grid0.coords t) ((dats m hO 0 c).after 48 t) = _
    rfl
  rw [e1]
  refine funext fun (j : S1x512x512.Idx) => ?_
  refine Eq.symm ((View.read_apply _ _).trans (Eq.symm ?_))
  obtain ⟨u, a, b, rfl⟩ : ∃ (u : Fin 1) (a b : Fin 512), j = ix3 u a b := ⟨j 0, j 1, j 2, eq_ix3 j⟩
  obtain rfl : u = 0 := Subsingleton.elim _ _
  have e : (((cfgM m hO).win 48).blk t).view.emb (ix3 0 a b) = (ix3 (brow m hO t) a b : S128x512x512.Idx) := by
    funext x
    match x with
    | ⟨0, _⟩ =>
      apply Fin.ext
      show (BitVec.ofNat 32 (grid0.coords t 0).val).toNat * 1 + 1 * 0 = t.val
      rw [at_row m hO t]
      omega
    | ⟨1, _⟩ =>
      apply Fin.ext
      show 0 * 512 + 1 * a.val = a.val
      omega
    | ⟨2, _⟩ =>
      apply Fin.ext
      show 0 * 512 + 1 * b.val = b.val
      omega
  show (newK m hO c t : FVec Ideal S1x512x512 .f32) (ix3 0 a b) = GK m c ((((cfgM m hO).win 48).blk t).view.emb (ix3 0 a b))
  rw [e]
  exact newK_apply m hO c t a b

theorem cover_48 (i : S128x512x512.Idx) : ∃ t : Fin (cfgM m hO).N, ((cfgM m hO).win 48).flush t = true
    ∧ i ∈ (((cfgM m hO).win 48).blk t).view.set := by
  have h0 : (i 0 : Nat) < 128 := (i 0).isLt
  have h1 : (i 1 : Nat) < 512 := (i 1).isLt
  have h2 : (i 2 : Nat) < 512 := (i 2).isLt
  have hN : (i 0 : Nat) < (cfgM m hO).N := h0
  refine ⟨⟨(i 0 : Nat), hN⟩, flush0_48 _ _, ?_⟩
  have h := at_row m hO ⟨(i 0 : Nat), hN⟩
  show i ∈ ((View.whole main_v54_1).slice (((cfgM m hO).win 48).rect ⟨(i 0 : Nat), hN⟩)).set
  have hR : ∀ R : Rect main_v54_1.ty.shape, i ∈ R.set → i ∈ ((View.whole main_v54_1).slice R).set := fun R hi => by
    rw [View.set_slice_whole]
    exact hi
  refine hR _ (Rect.mem_set_unit.mpr ?_)
  intro a
  match a with
  | ⟨0, _⟩ =>
    show (BitVec.ofNat 32 (grid0.coords ⟨(i 0 : Nat), hN⟩ 0).val).toNat * 1 ≤ (i 0 : Nat)
      ∧ (i 0 : Nat) < (BitVec.ofNat 32 (grid0.coords ⟨(i 0 : Nat), hN⟩ 0).val).toNat * 1 + 1
    rw [h]
    show (i 0 : Nat) * 1 ≤ (i 0 : Nat) ∧ (i 0 : Nat) < (i 0 : Nat) * 1 + 1
    omega
  | ⟨1, _⟩ =>
    show 0 * 512 ≤ (i 1 : Nat) ∧ (i 1 : Nat) < 0 * 512 + 512
    omega
  | ⟨2, _⟩ =>
    show 0 * 512 ≤ (i 2 : Nat) ∧ (i 2 : Nat) < 0 * 512 + 512
    omega

theorem final_48 (c : Dev nD) : (dats m hO 0 c).arrAt 48 (cfgM m hO).N = GK m c :=
  (dats m hO 0 c).arrAt_eq_of_cover 48 (GK m c) (fun t _ => flushed_48 m hO c t) (cover_48 m hO)

/-- The reference's window of values. -/
abbrev GV (c : Dev nD) : FVec Ideal S128x512x512 .f32 :=
  Cert.WinSRefIdeal.Read.val_main_v5 (F := Ideal) (m ((c : Thread nD τ).loc main_arg10)) (m ((c : Thread nD τ).loc main_arg12))

/-- What a point leaves of the values is the reference's. -/
theorem newV_apply (c : Dev nD) (t : Fin (cfgM m hO).N) (r j : Fin 512) :
    (newV m hO c t : FVec Ideal S1x512x512 .f32) (ix3 0 r j) = GV m c (ix3 (brow m hO t) r j) := by
  by_cases h : r.val < 504
  · refine Eq.trans ?_ (refV_old _ _ (brow m hO t) r j h).symm
    refine (moved_old (ix3 0 r j) (ix3 0 ⟨r.val + 8, by omega⟩ j) h rfl rfl rfl).trans ?_
    exact (blk_41 m hO c t _ j).trans (vs_apply m c _ _ j)
  · refine Eq.trans ?_ (refV_new _ _ (brow m hO t) r j h).symm
    refine (moved_new (ix3 0 r j) (ix3 0 ⟨r.val - 504, by omega⟩ j) rfl (by show r.val = r.val - 504 + 504; omega) rfl).trans ?_
    exact (blk_39 m hO c t _ j).trans (vn_apply m c _ _ j)

theorem flushed_49 (c : Dev nD) (t : Fin (cfgM m hO).N) :
    (dats m hO 0 c).flushed 49 t = (((cfgM m hO).win 49).blk t).view.read (Elt Ideal) (GV m c) := by
  have e1 : (dats m hO 0 c).flushed 49 t = ((cfgM m hO).win 49).cut (grid0.coords t) (newV m hO c t) := by
    show ((cfgM m hO).win 49).cut (grid0.coords t) ((dats m hO 0 c).after 49 t) = _
    rfl
  rw [e1]
  refine funext fun (j : S1x512x512.Idx) => ?_
  refine Eq.symm ((View.read_apply _ _).trans (Eq.symm ?_))
  obtain ⟨u, a, b, rfl⟩ : ∃ (u : Fin 1) (a b : Fin 512), j = ix3 u a b := ⟨j 0, j 1, j 2, eq_ix3 j⟩
  obtain rfl : u = 0 := Subsingleton.elim _ _
  have e : (((cfgM m hO).win 49).blk t).view.emb (ix3 0 a b) = (ix3 (brow m hO t) a b : S128x512x512.Idx) := by
    funext x
    match x with
    | ⟨0, _⟩ =>
      apply Fin.ext
      show (BitVec.ofNat 32 (grid0.coords t 0).val).toNat * 1 + 1 * 0 = t.val
      rw [at_row m hO t]
      omega
    | ⟨1, _⟩ =>
      apply Fin.ext
      show 0 * 512 + 1 * a.val = a.val
      omega
    | ⟨2, _⟩ =>
      apply Fin.ext
      show 0 * 512 + 1 * b.val = b.val
      omega
  show (newV m hO c t : FVec Ideal S1x512x512 .f32) (ix3 0 a b) = GV m c ((((cfgM m hO).win 49).blk t).view.emb (ix3 0 a b))
  rw [e]
  exact newV_apply m hO c t a b

theorem cover_49 (i : S128x512x512.Idx) : ∃ t : Fin (cfgM m hO).N, ((cfgM m hO).win 49).flush t = true
    ∧ i ∈ (((cfgM m hO).win 49).blk t).view.set := by
  have h0 : (i 0 : Nat) < 128 := (i 0).isLt
  have h1 : (i 1 : Nat) < 512 := (i 1).isLt
  have h2 : (i 2 : Nat) < 512 := (i 2).isLt
  have hN : (i 0 : Nat) < (cfgM m hO).N := h0
  refine ⟨⟨(i 0 : Nat), hN⟩, flush0_49 _ _, ?_⟩
  have h := at_row m hO ⟨(i 0 : Nat), hN⟩
  show i ∈ ((View.whole main_v54_2).slice (((cfgM m hO).win 49).rect ⟨(i 0 : Nat), hN⟩)).set
  have hR : ∀ R : Rect main_v54_2.ty.shape, i ∈ R.set → i ∈ ((View.whole main_v54_2).slice R).set := fun R hi => by
    rw [View.set_slice_whole]
    exact hi
  refine hR _ (Rect.mem_set_unit.mpr ?_)
  intro a
  match a with
  | ⟨0, _⟩ =>
    show (BitVec.ofNat 32 (grid0.coords ⟨(i 0 : Nat), hN⟩ 0).val).toNat * 1 ≤ (i 0 : Nat)
      ∧ (i 0 : Nat) < (BitVec.ofNat 32 (grid0.coords ⟨(i 0 : Nat), hN⟩ 0).val).toNat * 1 + 1
    rw [h]
    show (i 0 : Nat) * 1 ≤ (i 0 : Nat) ∧ (i 0 : Nat) < (i 0 : Nat) * 1 + 1
    omega
  | ⟨1, _⟩ =>
    show 0 * 512 ≤ (i 1 : Nat) ∧ (i 1 : Nat) < 0 * 512 + 512
    omega
  | ⟨2, _⟩ =>
    show 0 * 512 ≤ (i 2 : Nat) ∧ (i 2 : Nat) < 0 * 512 + 512
    omega

theorem final_49 (c : Dev nD) : (dats m hO 0 c).arrAt 49 (cfgM m hO).N = GV m c :=
  (dats m hO 0 c).arrAt_eq_of_cover 49 (GV m c) (fun t _ => flushed_49 m hO c t) (cover_49 m hO)

end Cert.Proof.WinSV
-- ==== Proof.WinSOk.lean ====
/-
  The page table of the sample attention call: its entries lie inside the pools, so every page window of the call lies inside its array.
-/
module

public import proofs.«01_k».proof.Defs
public import proofs.«01_k».proof.Proof.Gen.WinS.Frame.Runs
public import proofs.«01_k».proof.Proof.Gen.WinSIdeal.Frame.Runs
public import proofs.«01_k».proof.Proof.Gen.Pre_pages_named

@[expose] public section

noncomputable section

namespace Cert.Proof.WinSOk

open Idealize.ShloMosaic Idealize.ShloMosaic.TcCoe

/-- The precondition, read at an entry of the table. -/
theorem word_in_pools {F : FTy → Type} [FloatOps F] {x0 : IVec Cert.Pre_pages_named.S128x16 32}
    {x1 x2 : FVec F Cert.Pre_pages_named.S2560x128x4x128 .f32} {x3 : FVec F Cert.Pre_pages_named.S1024x2048 .bf16}
    {x4 : FVec F Cert.Pre_pages_named.S128x128x3 .f32} {x5 x6 : FVec F Cert.Pre_pages_named.S128x128x512 .bf16}
    {x7 x8 x9 x10 : FVec F Cert.Pre_pages_named.S128x8x4x128 .f32} {x11 x12 : FVec F Cert.Pre_pages_named.S128x512x4x128 .f32}
    {x13 : FVec F Cert.Pre_pages_named.S128x128 .f32} {x14 : FVec F Cert.Pre_pages_named.S128x2176 .f32} {x15 : FVec F Cert.Pre_pages_named.S128x640 .f32}
    (h : Cert.Pre_pages_named.fn (F := F) x0 x1 x2 x3 x4 x5 x6 x7 x8 x9 x10 x11 x12 x13 x14 x15 = fun _ => 1#1) (w : Cert.Pre_pages_named.S128x16.Idx) :
    (x0 w).toNat < 2560 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have hw := congrFun h w
  simp only [Cert.Pre_pages_named.fn, constantI, broadcastInDim, cmpi, andi, andi_one] at hw
  simp only [IntOp.cmpi, ofBool_eq_one, BitVec.sle, BitVec.slt, decide_eq_true_eq] at hw
  have e0 : (0#32 : BitVec 32).toInt = 0 := by decide
  have e1 : (2560#32 : BitVec 32).toInt = 2560 := by decide
  rw [e0, e1] at hw
  have := BitVec.toInt_eq_toNat_cond (x0 w)
  split_ifs at this <;> omega

section
open Cert.WinS Cert.WinS.Gen

/-- A word that a window's index map reads names a page of the pools. -/
theorem at_ltWinS (m : (ℓ : Loc nD τ sig) → Buf (Elt Bits) ℓ) (h : Cert.Pre_WinS m) (off : Fin 2 → Nat)
    (hi : ∀ a, off a + S1x1.size a ≤ S128x16.size a) :
    ((tbl m).at 0 (Rect.unit (s := S128x16) off S1x1.size hi) numel1_S1x1 : BitVec 32).toNat < 2560 := by
  show ((V m 0 main_arg0 : IVec S128x16 32) _).toNat < 2560
  rw [V_main_arg0 m 0]
  exact word_in_pools (h 0) _

theorem inbWinS (p : Nat) (hp : p < 2560) (a : Fin 3) : ((![p, 0, 0] : Fin 3 → Nat) a + 1) * S1x128x512.size a ≤ S2560x128x512.size a := by
  match a with
  | ⟨0, _⟩ =>
    show (p + 1) * 1 ≤ 2560
    omega
  | ⟨1, _⟩ =>
    show (0 + 1) * 128 ≤ 128
    omega
  | ⟨2, _⟩ =>
    show (0 + 1) * 512 ≤ 512
    omega

/-- Every page that the table names lies inside the pools. -/
theorem okWinS (m : (ℓ : Loc nD τ sig) → Buf (Elt Bits) ℓ) (h : Cert.Pre_WinS m) : Ok (F := Bits) m := by
  unfold Ok ok0
  refine ⟨fun i => ⟨inbWinS _ (at_ltWinS m h (k0_off1 i) (k0_off1_inb i)), .inl rfl⟩, fun i => ⟨inbWinS _ (at_ltWinS m h (k0_off2 i) (k0_off2_inb i)), .inl rfl⟩, fun i => ⟨inbWinS _ (at_ltWinS m h (k0_off3 i) (k0_off3_inb i)), .inl rfl⟩, fun i => ⟨inbWinS _ (at_ltWinS m h (k0_off4 i) (k0_off4_inb i)), .inl rfl⟩, fun i => ⟨inbWinS _ (at_ltWinS m h (k0_off5 i) (k0_off5_inb i)), .inl rfl⟩, fun i => ⟨inbWinS _ (at_ltWinS m h (k0_off6 i) (k0_off6_inb i)), .inl rfl⟩, fun i => ⟨inbWinS _ (at_ltWinS m h (k0_off7 i) (k0_off7_inb i)), .inl rfl⟩, fun i => ⟨inbWinS _ (at_ltWinS m h (k0_off8 i) (k0_off8_inb i)), .inl rfl⟩, fun i => ⟨inbWinS _ (at_ltWinS m h (k0_off9 i) (k0_off9_inb i)), .inl rfl⟩, fun i => ⟨inbWinS _ (at_ltWinS m h (k0_off10 i) (k0_off10_inb i)), .inl rfl⟩, fun i => ⟨inbWinS _ (at_ltWinS m h (k0_off11 i) (k0_off11_inb i)), .inl rfl⟩, fun i => ⟨inbWinS _ (at_ltWinS m h (k0_off12 i) (k0_off12_inb i)), .inl rfl⟩, fun i => ⟨inbWinS _ (at_ltWinS m h (k0_off13 i) (k0_off13_inb i)), .inl rfl⟩, fun i => ⟨inbWinS _ (at_ltWinS m h (k0_off14 i) (k0_off14_inb i)), .inl rfl⟩, fun i => ⟨inbWinS _ (at_ltWinS m h (k0_off15 i) (k0_off15_inb i)), .inl rfl⟩, fun i => ⟨inbWinS _ (at_ltWinS m h (k0_off16 i) (k0_off16_inb i)), .inl rfl⟩, fun i => ⟨inbWinS _ (at_ltWinS m h (k0_off1 i) (k0_off1_inb i)), .inl rfl⟩, fun i => ⟨inbWinS _ (at_ltWinS m h (k0_off2 i) (k0_off2_inb i)), .inl rfl⟩, fun i => ⟨inbWinS _ (at_ltWinS m h (k0_off3 i) (k0_off3_inb i)), .inl rfl⟩, fun i => ⟨inbWinS _ (at_ltWinS m h (k0_off4 i) (k0_off4_inb i)), .inl rfl⟩, fun i => ⟨inbWinS _ (at_ltWinS m h (k0_off5 i) (k0_off5_inb i)), .inl rfl⟩, fun i => ⟨inbWinS _ (at_ltWinS m h (k0_off6 i) (k0_off6_inb i)), .inl rfl⟩, fun i => ⟨inbWinS _ (at_ltWinS m h (k0_off7 i) (k0_off7_inb i)), .inl rfl⟩, fun i => ⟨inbWinS _ (at_ltWinS m h (k0_off8 i) (k0_off8_inb i)), .inl rfl⟩, fun i => ⟨inbWinS _ (at_ltWinS m h (k0_off9 i) (k0_off9_inb i)), .inl rfl⟩, fun i => ⟨inbWinS _ (at_ltWinS m h (k0_off10 i) (k0_off10_inb i)), .inl rfl⟩, fun i => ⟨inbWinS _ (at_ltWinS m h (k0_off11 i) (k0_off11_inb i)), .inl rfl⟩, fun i => ⟨inbWinS _ (at_ltWinS m h (k0_off12 i) (k0_off12_inb i)), .inl rfl⟩, fun i => ⟨inbWinS _ (at_ltWinS m h (k0_off13 i) (k0_off13_inb i)), .inl rfl⟩, fun i => ⟨inbWinS _ (at_ltWinS m h (k0_off14 i) (k0_off14_inb i)), .inl rfl⟩, fun i => ⟨inbWinS _ (at_ltWinS m h (k0_off15 i) (k0_off15_inb i)), .inl rfl⟩, fun i => ⟨inbWinS _ (at_ltWinS m h (k0_off16 i) (k0_off16_inb i)), .inl rfl⟩⟩

end

section
open Cert.WinSIdeal Cert.WinSIdeal.Gen

/-- A word that a window's index map reads names a page of the pools. -/
theorem at_ltWinSIdeal (m : (ℓ : Loc nD τ sig) → Buf (Elt Ideal) ℓ) (h : Cert.Pre_WinSIdeal m) (off : Fin 2 → Nat)
    (hi : ∀ a, off a + S1x1.size a ≤ S128x16.size a) :
    ((tbl m).at 0 (Rect.unit (s := S128x16) off S1x1.size hi) numel1_S1x1 : BitVec 32).toNat < 2560 := by
  show ((V m 0 main_arg0 : IVec S128x16 32) _).toNat < 2560
  rw [V_main_arg0 m 0]
  exact word_in_pools (h 0) _

theorem inbWinSIdeal (p : Nat) (hp : p < 2560) (a : Fin 3) : ((![p, 0, 0] : Fin 3 → Nat) a + 1) * S1x128x512.size a ≤ S2560x128x512.size a := by
  match a with
  | ⟨0, _⟩ =>
    show (p + 1) * 1 ≤ 2560
    omega
  | ⟨1, _⟩ =>
    show (0 + 1) * 128 ≤ 128
    omega
  | ⟨2, _⟩ =>
    show (0 + 1) * 512 ≤ 512
    omega

/-- Every page that the table names lies inside the pools. -/
theorem okWinSIdeal (m : (ℓ : Loc nD τ sig) → Buf (Elt Ideal) ℓ) (h : Cert.Pre_WinSIdeal m) : Ok (F := Ideal) m := by
  unfold Ok ok0
  refine ⟨fun i => ⟨inbWinSIdeal _ (at_ltWinSIdeal m h (k0_off1 i) (k0_off1_inb i)), .inl rfl⟩, fun i => ⟨inbWinSIdeal _ (at_ltWinSIdeal m h (k0_off2 i) (k0_off2_inb i)), .inl rfl⟩, fun i => ⟨inbWinSIdeal _ (at_ltWinSIdeal m h (k0_off3 i) (k0_off3_inb i)), .inl rfl⟩, fun i => ⟨inbWinSIdeal _ (at_ltWinSIdeal m h (k0_off4 i) (k0_off4_inb i)), .inl rfl⟩, fun i => ⟨inbWinSIdeal _ (at_ltWinSIdeal m h (k0_off5 i) (k0_off5_inb i)), .inl rfl⟩, fun i => ⟨inbWinSIdeal _ (at_ltWinSIdeal m h (k0_off6 i) (k0_off6_inb i)), .inl rfl⟩, fun i => ⟨inbWinSIdeal _ (at_ltWinSIdeal m h (k0_off7 i) (k0_off7_inb i)), .inl rfl⟩, fun i => ⟨inbWinSIdeal _ (at_ltWinSIdeal m h (k0_off8 i) (k0_off8_inb i)), .inl rfl⟩, fun i => ⟨inbWinSIdeal _ (at_ltWinSIdeal m h (k0_off9 i) (k0_off9_inb i)), .inl rfl⟩, fun i => ⟨inbWinSIdeal _ (at_ltWinSIdeal m h (k0_off10 i) (k0_off10_inb i)), .inl rfl⟩, fun i => ⟨inbWinSIdeal _ (at_ltWinSIdeal m h (k0_off11 i) (k0_off11_inb i)), .inl rfl⟩, fun i => ⟨inbWinSIdeal _ (at_ltWinSIdeal m h (k0_off12 i) (k0_off12_inb i)), .inl rfl⟩, fun i => ⟨inbWinSIdeal _ (at_ltWinSIdeal m h (k0_off13 i) (k0_off13_inb i)), .inl rfl⟩, fun i => ⟨inbWinSIdeal _ (at_ltWinSIdeal m h (k0_off14 i) (k0_off14_inb i)), .inl rfl⟩, fun i => ⟨inbWinSIdeal _ (at_ltWinSIdeal m h (k0_off15 i) (k0_off15_inb i)), .inl rfl⟩, fun i => ⟨inbWinSIdeal _ (at_ltWinSIdeal m h (k0_off16 i) (k0_off16_inb i)), .inl rfl⟩, fun i => ⟨inbWinSIdeal _ (at_ltWinSIdeal m h (k0_off1 i) (k0_off1_inb i)), .inl rfl⟩, fun i => ⟨inbWinSIdeal _ (at_ltWinSIdeal m h (k0_off2 i) (k0_off2_inb i)), .inl rfl⟩, fun i => ⟨inbWinSIdeal _ (at_ltWinSIdeal m h (k0_off3 i) (k0_off3_inb i)), .inl rfl⟩, fun i => ⟨inbWinSIdeal _ (at_ltWinSIdeal m h (k0_off4 i) (k0_off4_inb i)), .inl rfl⟩, fun i => ⟨inbWinSIdeal _ (at_ltWinSIdeal m h (k0_off5 i) (k0_off5_inb i)), .inl rfl⟩, fun i => ⟨inbWinSIdeal _ (at_ltWinSIdeal m h (k0_off6 i) (k0_off6_inb i)), .inl rfl⟩, fun i => ⟨inbWinSIdeal _ (at_ltWinSIdeal m h (k0_off7 i) (k0_off7_inb i)), .inl rfl⟩, fun i => ⟨inbWinSIdeal _ (at_ltWinSIdeal m h (k0_off8 i) (k0_off8_inb i)), .inl rfl⟩, fun i => ⟨inbWinSIdeal _ (at_ltWinSIdeal m h (k0_off9 i) (k0_off9_inb i)), .inl rfl⟩, fun i => ⟨inbWinSIdeal _ (at_ltWinSIdeal m h (k0_off10 i) (k0_off10_inb i)), .inl rfl⟩, fun i => ⟨inbWinSIdeal _ (at_ltWinSIdeal m h (k0_off11 i) (k0_off11_inb i)), .inl rfl⟩, fun i => ⟨inbWinSIdeal _ (at_ltWinSIdeal m h (k0_off12 i) (k0_off12_inb i)), .inl rfl⟩, fun i => ⟨inbWinSIdeal _ (at_ltWinSIdeal m h (k0_off13 i) (k0_off13_inb i)), .inl rfl⟩, fun i => ⟨inbWinSIdeal _ (at_ltWinSIdeal m h (k0_off14 i) (k0_off14_inb i)), .inl rfl⟩, fun i => ⟨inbWinSIdeal _ (at_ltWinSIdeal m h (k0_off15 i) (k0_off15_inb i)), .inl rfl⟩, fun i => ⟨inbWinSIdeal _ (at_ltWinSIdeal m h (k0_off16 i) (k0_off16_inb i)), .inl rfl⟩⟩

end

end Cert.Proof.WinSOk
-- ==== Proof.WinSIdealEnd.lean ====
/-
  The sample attention call's launch: the arguments end unchanged, the two windows hold what the grid's points leave.
-/
module

public import proofs.«01_k».proof.Proof.WinSIdealRun
public import Idealize.ShloMosaic.Lib.Claim

@[expose] public section

set_option maxRecDepth 16384
set_option maxHeartbeats 4000000

noncomputable section

namespace Cert.WinSIdeal.Win

open Idealize.ShloMosaic Idealize.ShloMosaic.TcCoe
open Idealize.SL Idealize.SL.RA
open Idealize.SL.BI (sProp bigSep bigSep_mono)
open scoped Idealize.SL.BI
open Idealize.SL.BI.BIBase Idealize.SL.BI.Laws Idealize.SL.ProofMode Idealize.SL.Sem
open Idealize.ShloMosaic.Pipeline (Dat RDat Cfg Window BodyObligation BodyObligationLoose cellOf)
open Cert.Step Cert.WinSIdeal Cert.WinSIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch: every staged array that is not forgotten ends at what the proof data say, and every counter at zero. -/
theorem run_main (hO : Ok m) : θ_run defs (onTc (τ := τ) (main (F := F))) (s₀ m ρ) (fun r =>
    RDat.FramePost ((Pipeline.pin pcfgs fun _ => adm m hO) 0) (fun c => (dats m hO 0 c).toRForget fgt) (V m) r ∧ r.2.sem = fun _ => 0) :=
  Pipeline.θ_run_frameP_forget_shared (Q' := _) pcfgs (fun _ => adm m hO) (dats m hO) (0 : Fin 1) launch₀0 defs₀ Variants.none fgt m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The run: the two windows are what the points leave, the arguments are unchanged. -/
theorem run (hO : Ok m) : θ_run defs (onTc (τ := τ) (main (F := F))) ⟨m, fun _ => 0, ρ⟩ (fun r => (∀ c : Dev nD,
      r.2.mem ((c.tc : Thread nD τ).loc (Pipeline.arrRef spec0 48)) = (dats m hO 0 c).arrAt 48 (cfgM m hO).N
      ∧ r.2.mem ((c.tc : Thread nD τ).loc (Pipeline.arrRef spec0 49)) = (dats m hO 0 c).arrAt 49 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨((dats m hO 0 c).toRForget_arrAt_iff (show fgt (48 : Fin 50) = false by decide) _ _).1 ((h.1 c).1 48), ((dats m hO 0 c).toRForget_arrAt_iff (show fgt (49 : Fin 50) = false by decide) _ _).1 ((h.1 c).1 49),
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      (RDat.FramePost.arr_in h.1 c 33 rfl).trans ((A_eq m hO c 33).trans (V_main_arg4 m c)),
      (RDat.FramePost.arr_in h.1 c 34 rfl).trans ((A_eq m hO c 34).trans (V_main_arg5 m c)),
      (RDat.FramePost.arr_in h.1 c 35 rfl).trans ((A_eq m hO c 35).trans (V_main_arg6 m c)),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c),
      ((h.1 c).2 main_arg9 (by decide : main_arg9 ∈ Pipeline.restRefs sig spec0)).trans (V_main_arg9 m c),
      ((h.1 c).2 main_arg10 (by decide : main_arg10 ∈ Pipeline.restRefs sig spec0)).trans (V_main_arg10 m c),
      ((h.1 c).2 main_arg11 (by decide : main_arg11 ∈ Pipeline.restRefs sig spec0)).trans (V_main_arg11 m c),
      ((h.1 c).2 main_arg12 (by decide : main_arg12 ∈ Pipeline.restRefs sig spec0)).trans (V_main_arg12 m c),
      (RDat.FramePost.arr_in h.1 c 42 rfl).trans ((A_eq m hO c 42).trans (V_main_arg13 m c)),
      (RDat.FramePost.arr_in h.1 c 43 rfl).trans ((A_eq m hO c 43).trans (V_main_arg14 m c)),
      (RDat.FramePost.arr_in h.1 c 44 rfl).trans ((A_eq m hO c 44).trans (V_main_arg15 m c))⟩, h.2⟩)
    (run_main m ρ hO)

end Cert.WinSIdeal.Win

end
-- ==== Proof.WinSClaims.lean ====
/-
  The claims of the sample attention call: it and the reference run and leave their arguments alone, and the two windows it hands on are the
  reference's. The page table has to name pages of the pools.
-/
module

public import proofs.«01_k».proof.Defs
public import proofs.«01_k».proof.Proof.WinSV
public import proofs.«01_k».proof.Proof.WinSOk
public import proofs.«01_k».proof.Proof.WinSEnd
public import proofs.«01_k».proof.Proof.WinSIdealEnd
public import Idealize.ShloMosaic.Lib.Quiescent

@[expose] public section

noncomputable section

namespace Cert.Proof

open Idealize.ShloMosaic Idealize.ShloMosaic.TcCoe Idealize.SL.Sem

theorem frame_WinS (m : (ℓ : Loc Cert.WinS.nD Cert.WinS.τ Cert.WinS.sig) → Buf (Elt Bits) ℓ) (ρ : Dev Cert.WinS.nD → PrngReg) (h : Cert.Pre_WinS m) :
    θ_run (Cert.WinS.defs (F := Bits)) (onTc (τ := Cert.WinS.τ) (Cert.WinS.main (F := Bits))) ⟨m, fun _ => 0, ρ⟩ (fun r => (∀ c : Dev Cert.WinS.nD,
      r.2.mem ((c.tc : Thread Cert.WinS.nD Cert.WinS.τ).loc Cert.WinS.main_arg0) = m ((c.tc : Thread Cert.WinS.nD Cert.WinS.τ).loc Cert.WinS.main_arg0)
      ∧ r.2.mem ((c.tc : Thread Cert.WinS.nD Cert.WinS.τ).loc Cert.WinS.main_arg1) = m ((c.tc : Thread Cert.WinS.nD Cert.WinS.τ).loc Cert.WinS.main_arg1)
      ∧ r.2.mem ((c.tc : Thread Cert.WinS.nD Cert.WinS.τ).loc Cert.WinS.main_arg2) = m ((c.tc : Thread Cert.WinS.nD Cert.WinS.τ).loc Cert.WinS.main_arg2)
      ∧ r.2.mem ((c.tc : Thread Cert.WinS.nD Cert.WinS.τ).loc Cert.WinS.main_arg3) = m ((c.tc : Thread Cert.WinS.nD Cert.WinS.τ).loc Cert.WinS.main_arg3)
      ∧ r.2.mem ((c.tc : Thread Cert.WinS.nD Cert.WinS.τ).loc Cert.WinS.main_arg4) = m ((c.tc : Thread Cert.WinS.nD Cert.WinS.τ).loc Cert.WinS.main_arg4)
      ∧ r.2.mem ((c.tc : Thread Cert.WinS.nD Cert.WinS.τ).loc Cert.WinS.main_arg5) = m ((c.tc : Thread Cert.WinS.nD Cert.WinS.τ).loc Cert.WinS.main_arg5)
      ∧ r.2.mem ((c.tc : Thread Cert.WinS.nD Cert.WinS.τ).loc Cert.WinS.main_arg6) = m ((c.tc : Thread Cert.WinS.nD Cert.WinS.τ).loc Cert.WinS.main_arg6)
      ∧ r.2.mem ((c.tc : Thread Cert.WinS.nD Cert.WinS.τ).loc Cert.WinS.main_arg7) = m ((c.tc : Thread Cert.WinS.nD Cert.WinS.τ).loc Cert.WinS.main_arg7)
      ∧ r.2.mem ((c.tc : Thread Cert.WinS.nD Cert.WinS.τ).loc Cert.WinS.main_arg8) = m ((c.tc : Thread Cert.WinS.nD Cert.WinS.τ).loc Cert.WinS.main_arg8)
      ∧ r.2.mem ((c.tc : Thread Cert.WinS.nD Cert.WinS.τ).loc Cert.WinS.main_arg9) = m ((c.tc : Thread Cert.WinS.nD Cert.WinS.τ).loc Cert.WinS.main_arg9)
      ∧ r.2.mem ((c.tc : Thread Cert.WinS.nD Cert.WinS.τ).loc Cert.WinS.main_arg10) = m ((c.tc : Thread Cert.WinS.nD Cert.WinS.τ).loc Cert.WinS.main_arg10)
      ∧ r.2.mem ((c.tc : Thread Cert.WinS.nD Cert.WinS.τ).loc Cert.WinS.main_arg11) = m ((c.tc : Thread Cert.WinS.nD Cert.WinS.τ).loc Cert.WinS.main_arg11)
      ∧ r.2.mem ((c.tc : Thread Cert.WinS.nD Cert.WinS.τ).loc Cert.WinS.main_arg12) = m ((c.tc : Thread Cert.WinS.nD Cert.WinS.τ).loc Cert.WinS.main_arg12)
      ∧ r.2.mem ((c.tc : Thread Cert.WinS.nD Cert.WinS.τ).loc Cert.WinS.main_arg13) = m ((c.tc : Thread Cert.WinS.nD Cert.WinS.τ).loc Cert.WinS.main_arg13)
      ∧ r.2.mem ((c.tc : Thread Cert.WinS.nD Cert.WinS.τ).loc Cert.WinS.main_arg14) = m ((c.tc : Thread Cert.WinS.nD Cert.WinS.τ).loc Cert.WinS.main_arg14)
      ∧ r.2.mem ((c.tc : Thread Cert.WinS.nD Cert.WinS.τ).loc Cert.WinS.main_arg15) = m ((c.tc : Thread Cert.WinS.nD Cert.WinS.τ).loc Cert.WinS.main_arg15))
      ∧ r.2.sem = fun _ => 0) :=
  (θ_run _ _ _).mono (fun _ h => ⟨fun c => (h.1 c).2.2, h.2⟩) (Cert.WinS.Win.run m ρ (WinSOk.okWinS m h))

theorem frame_WinSIdeal (m : (ℓ : Loc Cert.WinSIdeal.nD Cert.WinSIdeal.τ Cert.WinSIdeal.sig) → Buf (Elt Ideal) ℓ) (ρ : Dev Cert.WinSIdeal.nD → PrngReg) (h : Cert.Pre_WinSIdeal m) :
    θ_run (Cert.WinSIdeal.defs (F := Ideal)) (onTc (τ := Cert.WinSIdeal.τ) (Cert.WinSIdeal.main (F := Ideal))) ⟨m, fun _ => 0, ρ⟩ (fun r => (∀ c : Dev Cert.WinSIdeal.nD,
      r.2.mem ((c.tc : Thread Cert.WinSIdeal.nD Cert.WinSIdeal.τ).loc Cert.WinSIdeal.main_arg0) = m ((c.tc : Thread Cert.WinSIdeal.nD Cert.WinSIdeal.τ).loc Cert.WinSIdeal.main_arg0)
      ∧ r.2.mem ((c.tc : Thread Cert.WinSIdeal.nD Cert.WinSIdeal.τ).loc Cert.WinSIdeal.main_arg1) = m ((c.tc : Thread Cert.WinSIdeal.nD Cert.WinSIdeal.τ).loc Cert.WinSIdeal.main_arg1)
      ∧ r.2.mem ((c.tc : Thread Cert.WinSIdeal.nD Cert.WinSIdeal.τ).loc Cert.WinSIdeal.main_arg2) = m ((c.tc : Thread Cert.WinSIdeal.nD Cert.WinSIdeal.τ).loc Cert.WinSIdeal.main_arg2)
      ∧ r.2.mem ((c.tc : Thread Cert.WinSIdeal.nD Cert.WinSIdeal.τ).loc Cert.WinSIdeal.main_arg3) = m ((c.tc : Thread Cert.WinSIdeal.nD Cert.WinSIdeal.τ).loc Cert.WinSIdeal.main_arg3)
      ∧ r.2.mem ((c.tc : Thread Cert.WinSIdeal.nD Cert.WinSIdeal.τ).loc Cert.WinSIdeal.main_arg4) = m ((c.tc : Thread Cert.WinSIdeal.nD Cert.WinSIdeal.τ).loc Cert.WinSIdeal.main_arg4)
      ∧ r.2.mem ((c.tc : Thread Cert.WinSIdeal.nD Cert.WinSIdeal.τ).loc Cert.WinSIdeal.main_arg5) = m ((c.tc : Thread Cert.WinSIdeal.nD Cert.WinSIdeal.τ).loc Cert.WinSIdeal.main_arg5)
      ∧ r.2.mem ((c.tc : Thread Cert.WinSIdeal.nD Cert.WinSIdeal.τ).loc Cert.WinSIdeal.main_arg6) = m ((c.tc : Thread Cert.WinSIdeal.nD Cert.WinSIdeal.τ).loc Cert.WinSIdeal.main_arg6)
      ∧ r.2.mem ((c.tc : Thread Cert.WinSIdeal.nD Cert.WinSIdeal.τ).loc Cert.WinSIdeal.main_arg7) = m ((c.tc : Thread Cert.WinSIdeal.nD Cert.WinSIdeal.τ).loc Cert.WinSIdeal.main_arg7)
      ∧ r.2.mem ((c.tc : Thread Cert.WinSIdeal.nD Cert.WinSIdeal.τ).loc Cert.WinSIdeal.main_arg8) = m ((c.tc : Thread Cert.WinSIdeal.nD Cert.WinSIdeal.τ).loc Cert.WinSIdeal.main_arg8)
      ∧ r.2.mem ((c.tc : Thread Cert.WinSIdeal.nD Cert.WinSIdeal.τ).loc Cert.WinSIdeal.main_arg9) = m ((c.tc : Thread Cert.WinSIdeal.nD Cert.WinSIdeal.τ).loc Cert.WinSIdeal.main_arg9)
      ∧ r.2.mem ((c.tc : Thread Cert.WinSIdeal.nD Cert.WinSIdeal.τ).loc Cert.WinSIdeal.main_arg10) = m ((c.tc : Thread Cert.WinSIdeal.nD Cert.WinSIdeal.τ).loc Cert.WinSIdeal.main_arg10)
      ∧ r.2.mem ((c.tc : Thread Cert.WinSIdeal.nD Cert.WinSIdeal.τ).loc Cert.WinSIdeal.main_arg11) = m ((c.tc : Thread Cert.WinSIdeal.nD Cert.WinSIdeal.τ).loc Cert.WinSIdeal.main_arg11)
      ∧ r.2.mem ((c.tc : Thread Cert.WinSIdeal.nD Cert.WinSIdeal.τ).loc Cert.WinSIdeal.main_arg12) = m ((c.tc : Thread Cert.WinSIdeal.nD Cert.WinSIdeal.τ).loc Cert.WinSIdeal.main_arg12)
      ∧ r.2.mem ((c.tc : Thread Cert.WinSIdeal.nD Cert.WinSIdeal.τ).loc Cert.WinSIdeal.main_arg13) = m ((c.tc : Thread Cert.WinSIdeal.nD Cert.WinSIdeal.τ).loc Cert.WinSIdeal.main_arg13)
      ∧ r.2.mem ((c.tc : Thread Cert.WinSIdeal.nD Cert.WinSIdeal.τ).loc Cert.WinSIdeal.main_arg14) = m ((c.tc : Thread Cert.WinSIdeal.nD Cert.WinSIdeal.τ).loc Cert.WinSIdeal.main_arg14)
      ∧ r.2.mem ((c.tc : Thread Cert.WinSIdeal.nD Cert.WinSIdeal.τ).loc Cert.WinSIdeal.main_arg15) = m ((c.tc : Thread Cert.WinSIdeal.nD Cert.WinSIdeal.τ).loc Cert.WinSIdeal.main_arg15))
      ∧ r.2.sem = fun _ => 0) :=
  (θ_run _ _ _).mono (fun _ h => ⟨fun c => (h.1 c).2.2, h.2⟩) (Cert.WinSIdeal.Win.run m ρ (WinSOk.okWinSIdeal m h))

theorem frame_WinSRef (m : (ℓ : Loc Cert.WinSRefIdeal.nD Cert.WinSRefIdeal.τ Cert.WinSRefIdeal.sig) → Buf (Elt Ideal) ℓ) (ρ : Dev Cert.WinSRefIdeal.nD → PrngReg) :
    θ_run (Cert.WinSRefIdeal.defs (F := Ideal)) (onTc (τ := Cert.WinSRefIdeal.τ) (Cert.WinSRefIdeal.main (F := Ideal))) ⟨m, fun _ => 0, ρ⟩ (fun r => (∀ c : Dev Cert.WinSRefIdeal.nD,
      r.2.mem ((c.tc : Thread Cert.WinSRefIdeal.nD Cert.WinSRefIdeal.τ).loc Cert.WinSRefIdeal.main_arg0) = m ((c.tc : Thread Cert.WinSRefIdeal.nD Cert.WinSRefIdeal.τ).loc Cert.WinSRefIdeal.main_arg0)
      ∧ r.2.mem ((c.tc : Thread Cert.WinSRefIdeal.nD Cert.WinSRefIdeal.τ).loc Cert.WinSRefIdeal.main_arg1) = m ((c.tc : Thread Cert.WinSRefIdeal.nD Cert.WinSRefIdeal.τ).loc Cert.WinSRefIdeal.main_arg1)
      ∧ r.2.mem ((c.tc : Thread Cert.WinSRefIdeal.nD Cert.WinSRefIdeal.τ).loc Cert.WinSRefIdeal.main_arg2) = m ((c.tc : Thread Cert.WinSRefIdeal.nD Cert.WinSRefIdeal.τ).loc Cert.WinSRefIdeal.main_arg2)
      ∧ r.2.mem ((c.tc : Thread Cert.WinSRefIdeal.nD Cert.WinSRefIdeal.τ).loc Cert.WinSRefIdeal.main_arg3) = m ((c.tc : Thread Cert.WinSRefIdeal.nD Cert.WinSRefIdeal.τ).loc Cert.WinSRefIdeal.main_arg3)
      ∧ r.2.mem ((c.tc : Thread Cert.WinSRefIdeal.nD Cert.WinSRefIdeal.τ).loc Cert.WinSRefIdeal.main_arg4) = m ((c.tc : Thread Cert.WinSRefIdeal.nD Cert.WinSRefIdeal.τ).loc Cert.WinSRefIdeal.main_arg4)
      ∧ r.2.mem ((c.tc : Thread Cert.WinSRefIdeal.nD Cert.WinSRefIdeal.τ).loc Cert.WinSRefIdeal.main_arg5) = m ((c.tc : Thread Cert.WinSRefIdeal.nD Cert.WinSRefIdeal.τ).loc Cert.WinSRefIdeal.main_arg5)
      ∧ r.2.mem ((c.tc : Thread Cert.WinSRefIdeal.nD Cert.WinSRefIdeal.τ).loc Cert.WinSRefIdeal.main_arg6) = m ((c.tc : Thread Cert.WinSRefIdeal.nD Cert.WinSRefIdeal.τ).loc Cert.WinSRefIdeal.main_arg6)
      ∧ r.2.mem ((c.tc : Thread Cert.WinSRefIdeal.nD Cert.WinSRefIdeal.τ).loc Cert.WinSRefIdeal.main_arg7) = m ((c.tc : Thread Cert.WinSRefIdeal.nD Cert.WinSRefIdeal.τ).loc Cert.WinSRefIdeal.main_arg7)
      ∧ r.2.mem ((c.tc : Thread Cert.WinSRefIdeal.nD Cert.WinSRefIdeal.τ).loc Cert.WinSRefIdeal.main_arg8) = m ((c.tc : Thread Cert.WinSRefIdeal.nD Cert.WinSRefIdeal.τ).loc Cert.WinSRefIdeal.main_arg8)
      ∧ r.2.mem ((c.tc : Thread Cert.WinSRefIdeal.nD Cert.WinSRefIdeal.τ).loc Cert.WinSRefIdeal.main_arg9) = m ((c.tc : Thread Cert.WinSRefIdeal.nD Cert.WinSRefIdeal.τ).loc Cert.WinSRefIdeal.main_arg9)
      ∧ r.2.mem ((c.tc : Thread Cert.WinSRefIdeal.nD Cert.WinSRefIdeal.τ).loc Cert.WinSRefIdeal.main_arg10) = m ((c.tc : Thread Cert.WinSRefIdeal.nD Cert.WinSRefIdeal.τ).loc Cert.WinSRefIdeal.main_arg10)
      ∧ r.2.mem ((c.tc : Thread Cert.WinSRefIdeal.nD Cert.WinSRefIdeal.τ).loc Cert.WinSRefIdeal.main_arg11) = m ((c.tc : Thread Cert.WinSRefIdeal.nD Cert.WinSRefIdeal.τ).loc Cert.WinSRefIdeal.main_arg11)
      ∧ r.2.mem ((c.tc : Thread Cert.WinSRefIdeal.nD Cert.WinSRefIdeal.τ).loc Cert.WinSRefIdeal.main_arg12) = m ((c.tc : Thread Cert.WinSRefIdeal.nD Cert.WinSRefIdeal.τ).loc Cert.WinSRefIdeal.main_arg12)
      ∧ r.2.mem ((c.tc : Thread Cert.WinSRefIdeal.nD Cert.WinSRefIdeal.τ).loc Cert.WinSRefIdeal.main_arg13) = m ((c.tc : Thread Cert.WinSRefIdeal.nD Cert.WinSRefIdeal.τ).loc Cert.WinSRefIdeal.main_arg13)
      ∧ r.2.mem ((c.tc : Thread Cert.WinSRefIdeal.nD Cert.WinSRefIdeal.τ).loc Cert.WinSRefIdeal.main_arg14) = m ((c.tc : Thread Cert.WinSRefIdeal.nD Cert.WinSRefIdeal.τ).loc Cert.WinSRefIdeal.main_arg14)
      ∧ r.2.mem ((c.tc : Thread Cert.WinSRefIdeal.nD Cert.WinSRefIdeal.τ).loc Cert.WinSRefIdeal.main_arg15) = m ((c.tc : Thread Cert.WinSRefIdeal.nD Cert.WinSRefIdeal.τ).loc Cert.WinSRefIdeal.main_arg15))
      ∧ r.2.sem = fun _ => 0) :=
  (θ_run _ _ _).mono (fun r h => ⟨fun c => (h c).2.2, sem_eq_zero_of_no_sems (by decide) r.2⟩) (Cert.WinSRefIdeal.Value.run m ρ)

theorem algebraic_WinS : Cert.algebraic_WinSIdeal_WinSRefIdeal (hWinSIdeal := Cert.WinSIdeal.Gen.facts) (hWinSRefIdeal := Cert.WinSRefIdeal.Gen.facts)
    (hPre_pages_named := Cert.Pre_pages_named.Gen.facts) := by
  intro m ρ m' ρ' hP hag
  refine ⟨fun c => WinSV.GK m c, fun c => WinSV.GV m c,
    (θ_run _ _ _).mono (fun _ h c => ⟨(h.1 c).1.trans (WinSV.final_48 m _ c), (h.1 c).2.1.trans (WinSV.final_49 m _ c), (h.1 c).2.2⟩)
      (Cert.WinSIdeal.Win.run m ρ (WinSOk.okWinSIdeal m hP)),
    (θ_run _ _ _).mono (fun _ h c => ?_) (Cert.WinSRefIdeal.Value.run (F := Ideal) m' ρ')⟩
  obtain ⟨-, -, -, -, -, -, -, -, -, a9, a10, a11, a12, -⟩ := hag c
  refine ⟨(h c).1.trans ?_, (h c).2.1.trans ?_, (h c).2.2⟩
  · refine (Cert.WinSRefIdeal.Read.val_main_v4_eq _ _).trans ?_
    rw [a9, a11]
  · refine (Cert.WinSRefIdeal.Read.val_main_v5_eq _ _).trans ?_
    rw [a10, a12]

end Cert.Proof
-- ==== Proof.lean ====
module

public import proofs.«01_k».proof.Defs
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluS
public import proofs.«01_k».proof.Proof.Gen.GluS.Skeleton
public import proofs.«01_k».proof.Proof.Gen.GluS.Launch
public import proofs.«01_k».proof.Proof.Gen.GluS.Points
public import proofs.«01_k».proof.Proof.Gen.GluS.Frame
public import proofs.«01_k».proof.Proof.Gen.GluSIdeal
public import proofs.«01_k».proof.Proof.Gen.GluSIdeal.Skeleton
public import proofs.«01_k».proof.Proof.Gen.GluSIdeal.Launch
public import proofs.«01_k».proof.Proof.Gen.GluSIdeal.Points
public import proofs.«01_k».proof.Proof.Gen.GluSIdeal.Frame
public import proofs.«01_k».proof.Proof.Gen.GluSRefIdeal
public import proofs.«01_k».proof.Proof.Gen.Swi
public import proofs.«01_k».proof.Proof.Gen.Swi.Skeleton
public import proofs.«01_k».proof.Proof.Gen.Swi.Launch
public import proofs.«01_k».proof.Proof.Gen.Swi.Points
public import proofs.«01_k».proof.Proof.Gen.Swi.Frame
public import proofs.«01_k».proof.Proof.Gen.SwiIdeal
public import proofs.«01_k».proof.Proof.Gen.SwiIdeal.Skeleton
public import proofs.«01_k».proof.Proof.Gen.SwiIdeal.Launch
public import proofs.«01_k».proof.Proof.Gen.SwiIdeal.Points
public import proofs.«01_k».proof.Proof.Gen.SwiIdeal.Frame
public import proofs.«01_k».proof.Proof.Gen.SwiRefIdeal
public import proofs.«01_k».proof.Proof.Gen.SwiS
public import proofs.«01_k».proof.Proof.Gen.SwiS.Skeleton
public import proofs.«01_k».proof.Proof.Gen.SwiS.Launch
public import proofs.«01_k».proof.Proof.Gen.SwiS.Points
public import proofs.«01_k».proof.Proof.Gen.SwiS.Frame
public import proofs.«01_k».proof.Proof.Gen.SwiSIdeal
public import proofs.«01_k».proof.Proof.Gen.SwiSIdeal.Skeleton
public import proofs.«01_k».proof.Proof.Gen.SwiSIdeal.Launch
public import proofs.«01_k».proof.Proof.Gen.SwiSIdeal.Points
public import proofs.«01_k».proof.Proof.Gen.SwiSIdeal.Frame
public import proofs.«01_k».proof.Proof.Gen.SwiSRefIdeal
public import proofs.«01_k».proof.Proof.Gen.Fo
public import proofs.«01_k».proof.Proof.Gen.Fo.Skeleton
public import proofs.«01_k».proof.Proof.Gen.Fo.Launch
public import proofs.«01_k».proof.Proof.Gen.Fo.Points
public import proofs.«01_k».proof.Proof.Gen.Fo.Frame
public import proofs.«01_k».proof.Proof.Gen.FoIdeal
public import proofs.«01_k».proof.Proof.Gen.FoIdeal.Skeleton
public import proofs.«01_k».proof.Proof.Gen.FoIdeal.Launch
public import proofs.«01_k».proof.Proof.Gen.FoIdeal.Points
public import proofs.«01_k».proof.Proof.Gen.FoIdeal.Frame
public import proofs.«01_k».proof.Proof.Gen.FoRefIdeal
public import proofs.«01_k».proof.Proof.Gen.FoS
public import proofs.«01_k».proof.Proof.Gen.FoS.Skeleton
public import proofs.«01_k».proof.Proof.Gen.FoS.Launch
public import proofs.«01_k».proof.Proof.Gen.FoS.Points
public import proofs.«01_k».proof.Proof.Gen.FoS.Frame
public import proofs.«01_k».proof.Proof.Gen.FoSIdeal
public import proofs.«01_k».proof.Proof.Gen.FoSIdeal.Skeleton
public import proofs.«01_k».proof.Proof.Gen.FoSIdeal.Launch
public import proofs.«01_k».proof.Proof.Gen.FoSIdeal.Points
public import proofs.«01_k».proof.Proof.Gen.FoSIdeal.Frame
public import proofs.«01_k».proof.Proof.Gen.FoSRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvS
public import proofs.«01_k».proof.Proof.Gen.KvS.Skeleton
public import proofs.«01_k».proof.Proof.Gen.KvS.Launch
public import proofs.«01_k».proof.Proof.Gen.KvS.Points
public import proofs.«01_k».proof.Proof.Gen.KvS.Frame
public import proofs.«01_k».proof.Proof.Gen.KvSIdeal
public import proofs.«01_k».proof.Proof.Gen.KvSIdeal.Skeleton
public import proofs.«01_k».proof.Proof.Gen.KvSIdeal.Launch
public import proofs.«01_k».proof.Proof.Gen.KvSIdeal.Points
public import proofs.«01_k».proof.Proof.Gen.KvSIdeal.Frame
public import proofs.«01_k».proof.Proof.Gen.KvSRefIdeal
public import proofs.«01_k».proof.Proof.Gen.Qg
public import proofs.«01_k».proof.Proof.Gen.Qg.Skeleton
public import proofs.«01_k».proof.Proof.Gen.Qg.Launch
public import proofs.«01_k».proof.Proof.Gen.Qg.Points
public import proofs.«01_k».proof.Proof.Gen.Qg.Frame
public import proofs.«01_k».proof.Proof.Gen.QgIdeal
public import proofs.«01_k».proof.Proof.Gen.QgIdeal.Skeleton
public import proofs.«01_k».proof.Proof.Gen.QgIdeal.Launch
public import proofs.«01_k».proof.Proof.Gen.QgIdeal.Points
public import proofs.«01_k».proof.Proof.Gen.QgIdeal.Frame
public import proofs.«01_k».proof.Proof.Gen.QgRefIdeal
public import proofs.«01_k».proof.Proof.Gen.QgS
public import proofs.«01_k».proof.Proof.Gen.QgS.Skeleton
public import proofs.«01_k».proof.Proof.Gen.QgS.Launch
public import proofs.«01_k».proof.Proof.Gen.QgS.Points
public import proofs.«01_k».proof.Proof.Gen.QgS.Frame
public import proofs.«01_k».proof.Proof.Gen.QgSIdeal
public import proofs.«01_k».proof.Proof.Gen.QgSIdeal.Skeleton
public import proofs.«01_k».proof.Proof.Gen.QgSIdeal.Launch
public import proofs.«01_k».proof.Proof.Gen.QgSIdeal.Points
public import proofs.«01_k».proof.Proof.Gen.QgSIdeal.Frame
public import proofs.«01_k».proof.Proof.Gen.QgSRefIdeal
public import Idealize.ShloMosaic.Adequacy
public import Idealize.ShloMosaic.Init

public import proofs.«01_k».proof.Proof.Gen.GluIdeal.Value
public import proofs.«01_k».proof.Proof.Gen.GluRefIdeal.Run
public import proofs.«01_k».proof.Proof.Gen.GluRefIdeal.Read
public import proofs.«01_k».proof.Proof.Gen.GluSRefIdeal.Run
public import proofs.«01_k».proof.Proof.Gen.GluSRefIdeal.Read
public import proofs.«01_k».proof.Proof.Gen.SwiIdeal.Value
public import proofs.«01_k».proof.Proof.Gen.SwiRefIdeal.Run
public import proofs.«01_k».proof.Proof.Gen.SwiRefIdeal.Read
public import proofs.«01_k».proof.Proof.Gen.SwiSIdeal.Value
public import proofs.«01_k».proof.Proof.Gen.SwiSRefIdeal.Run
public import proofs.«01_k».proof.Proof.Gen.SwiSRefIdeal.Read
public import proofs.«01_k».proof.Proof.Gen.FoIdeal.Value
public import proofs.«01_k».proof.Proof.Gen.FoRefIdeal.Run
public import proofs.«01_k».proof.Proof.Gen.FoRefIdeal.Read
public import proofs.«01_k».proof.Proof.Gen.FoSIdeal.Value
public import proofs.«01_k».proof.Proof.Gen.FoSRefIdeal.Run
public import proofs.«01_k».proof.Proof.Gen.FoSRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.Gen.MixSIdeal.Value
public import proofs.«01_k».proof.Proof.Gen.MixSRefIdeal.Run
public import proofs.«01_k».proof.Proof.Gen.MixSRefIdeal.Read
public import proofs.«01_k».proof.Proof.Gen.KvIdeal.Value
public import proofs.«01_k».proof.Proof.Gen.KvRefIdeal.Run
public import proofs.«01_k».proof.Proof.Gen.KvRefIdeal.Read
public import proofs.«01_k».proof.Proof.Gen.KvSIdeal.Value
public import proofs.«01_k».proof.Proof.Gen.KvSRefIdeal.Run
public import proofs.«01_k».proof.Proof.Gen.KvSRefIdeal.Read
public import proofs.«01_k».proof.Proof.Gen.QgIdeal.Value
public import proofs.«01_k».proof.Proof.Gen.QgRefIdeal.Run
public import proofs.«01_k».proof.Proof.Gen.QgRefIdeal.Read
public import proofs.«01_k».proof.Proof.Gen.QgSIdeal.Value
public import proofs.«01_k».proof.Proof.Gen.QgSRefIdeal.Run
public import proofs.«01_k».proof.Proof.Gen.QgSRefIdeal.Read

public import proofs.«01_k».proof.Proof.Gen.Cmp.Frame
public import proofs.«01_k».proof.Proof.Gen.CmpIdeal.Frame
public import proofs.«01_k».proof.Proof.Gen.CmpRefIdeal.Run
public import proofs.«01_k».proof.Proof.Gen.CmpRefIdeal.Read
public import proofs.«01_k».proof.Proof.Gen.Pre_pages_in_pool
public import proofs.«01_k».proof.Proof.Gen.WinSRefIdeal.Run
public import proofs.«01_k».proof.Proof.Gen.WinSRefIdeal.Read
public import proofs.«01_k».proof.Proof.Gen.Pre_pages_named

public import proofs.«01_k».proof.Proof.Claims
public import proofs.«01_k».proof.Proof.CmpClaims
public import proofs.«01_k».proof.Proof.WinSClaims

@[expose] public section

noncomputable section

namespace Cert.Proof

open Idealize.ShloMosaic Idealize.SL.Sem Cert.Glu

theorem claim : Cert.Claim := ⟨Cert.Glu.Gen.facts, Cert.GluIdeal.Gen.facts, Cert.GluRefIdeal.Gen.facts, Cert.GluS.Gen.facts, Cert.GluSIdeal.Gen.facts, Cert.GluSRefIdeal.Gen.facts, Cert.Swi.Gen.facts, Cert.SwiIdeal.Gen.facts, Cert.SwiRefIdeal.Gen.facts, Cert.SwiS.Gen.facts, Cert.SwiSIdeal.Gen.facts, Cert.SwiSRefIdeal.Gen.facts, Cert.Fo.Gen.facts, Cert.FoIdeal.Gen.facts, Cert.FoRefIdeal.Gen.facts, Cert.FoS.Gen.facts, Cert.FoSIdeal.Gen.facts, Cert.FoSRefIdeal.Gen.facts, Cert.Mix.Gen.facts, Cert.MixIdeal.Gen.facts, Cert.MixRefIdeal.Gen.facts, Cert.MixS.Gen.facts, Cert.MixSIdeal.Gen.facts, Cert.MixSRefIdeal.Gen.facts, Cert.Kv.Gen.facts, Cert.KvIdeal.Gen.facts, Cert.KvRefIdeal.Gen.facts, Cert.KvS.Gen.facts, Cert.KvSIdeal.Gen.facts, Cert.KvSRefIdeal.Gen.facts, Cert.Qg.Gen.facts, Cert.QgIdeal.Gen.facts, Cert.QgRefIdeal.Gen.facts, Cert.QgS.Gen.facts, Cert.QgSIdeal.Gen.facts, Cert.QgSRefIdeal.Gen.facts, Cert.Cmp.Gen.facts, Cert.CmpIdeal.Gen.facts, Cert.CmpRefIdeal.Gen.facts, Cert.WinS.Gen.facts, Cert.WinSIdeal.Gen.facts, Cert.WinSRefIdeal.Gen.facts, Cert.Pre_pages_in_pool.Gen.facts, Cert.Pre_pages_named.Gen.facts,
  fun m ρ _ => Cert.Glu.Gen.frame m ρ, fun m ρ _ => Cert.GluIdeal.Gen.frame m ρ, fun m ρ _ => frame_GluRef m ρ,
  fun m ρ _ => Cert.GluS.Gen.frame m ρ, fun m ρ _ => Cert.GluSIdeal.Gen.frame m ρ, fun m ρ _ => frame_GluSRef m ρ,
  fun m ρ _ => Cert.Swi.Gen.frame m ρ, fun m ρ _ => Cert.SwiIdeal.Gen.frame m ρ, fun m ρ _ => frame_SwiRef m ρ,
  fun m ρ _ => Cert.SwiS.Gen.frame m ρ, fun m ρ _ => Cert.SwiSIdeal.Gen.frame m ρ, fun m ρ _ => frame_SwiSRef m ρ,
  fun m ρ _ => Cert.Fo.Gen.frame m ρ, fun m ρ _ => Cert.FoIdeal.Gen.frame m ρ, fun m ρ _ => frame_FoRef m ρ,
  fun m ρ _ => Cert.FoS.Gen.frame m ρ, fun m ρ _ => Cert.FoSIdeal.Gen.frame m ρ, fun m ρ _ => frame_FoSRef m ρ,
  fun m ρ _ => Cert.Mix.Gen.frame m ρ, fun m ρ _ => Cert.MixIdeal.Gen.frame m ρ, fun m ρ _ => frame_MixRef m ρ,
  fun m ρ _ => Cert.MixS.Gen.frame m ρ, fun m ρ _ => Cert.MixSIdeal.Gen.frame m ρ, fun m ρ _ => frame_MixSRef m ρ,
  fun m ρ _ => Cert.Kv.Gen.frame m ρ, fun m ρ _ => Cert.KvIdeal.Gen.frame m ρ, fun m ρ _ => frame_KvRef m ρ,
  fun m ρ _ => Cert.KvS.Gen.frame m ρ, fun m ρ _ => Cert.KvSIdeal.Gen.frame m ρ, fun m ρ _ => frame_KvSRef m ρ,
  fun m ρ _ => Cert.Qg.Gen.frame m ρ, fun m ρ _ => Cert.QgIdeal.Gen.frame m ρ, fun m ρ _ => frame_QgRef m ρ,
  fun m ρ _ => Cert.QgS.Gen.frame m ρ, fun m ρ _ => Cert.QgSIdeal.Gen.frame m ρ, fun m ρ _ => frame_QgSRef m ρ,
  fun m ρ h => Cert.Cmp.Gen.frame m ρ (CmpOk.okCmp m h), fun m ρ h => Cert.CmpIdeal.Gen.frame m ρ (CmpOk.okCmpIdeal m h), fun m ρ _ => frame_CmpRef m ρ,
  fun m ρ h => frame_WinS m ρ h, fun m ρ h => frame_WinSIdeal m ρ h, fun m ρ _ => frame_WinSRef m ρ,
  trivial, algebraic_Glu,
  trivial, algebraic_GluS,
  trivial, algebraic_Swi,
  trivial, algebraic_SwiS,
  trivial, algebraic_Fo,
  trivial, algebraic_FoS,
  trivial, algebraic_Mix,
  trivial, algebraic_MixS,
  trivial, algebraic_Kv,
  trivial, algebraic_KvS,
  trivial, algebraic_Qg,
  trivial, algebraic_QgS,
  trivial, algebraic_Cmp,
  trivial, algebraic_WinS⟩

end Cert.Proof

end
